-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwLruUp (m : (ℓ : Loc Cert.DwLruUp.nD Cert.DwLruUp.τ Cert.DwLruUp.sig) → Buf (Elt Bits) ℓ) : Prop :=
  True

def Pre_DwLruUpIdeal (m : (ℓ : Loc Cert.DwLruUpIdeal.nD Cert.DwLruUpIdeal.τ Cert.DwLruUpIdeal.sig) → Buf (Elt Ideal) ℓ) : Prop :=
  True

def Pre_DwLruUpReferenceIdeal (m : (ℓ : Loc Cert.DwLruUpReferenceIdeal.nD Cert.DwLruUpReferenceIdeal.τ Cert.DwLruUpReferenceIdeal.sig) → Buf (Elt Ideal) ℓ) : Prop :=
  True

def Pre_DwPoolUp (m : (ℓ : Loc Cert.DwPoolUp.nD Cert.DwPoolUp.τ Cert.DwPoolUp.sig) → Buf (Elt Bits) ℓ) : Prop :=
  True

def Pre_DwPoolUpIdeal (m : (ℓ : Loc Cert.DwPoolUpIdeal.nD Cert.DwPoolUpIdeal.τ Cert.DwPoolUpIdeal.sig) → Buf (Elt Ideal) ℓ) : Prop :=
  True

def Pre_DwPoolUpReferenceIdeal (m : (ℓ : Loc Cert.DwPoolUpReferenceIdeal.nD Cert.DwPoolUpReferenceIdeal.τ Cert.DwPoolUpReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_FfnDownBwd (m : (ℓ : Loc Cert.FfnDownBwd.nD Cert.FfnDownBwd.τ Cert.FfnDownBwd.sig) → Buf (Elt Bits) ℓ) : Prop :=
  True

def Pre_FfnDownBwdIdeal (m : (ℓ : Loc Cert.FfnDownBwdIdeal.nD Cert.FfnDownBwdIdeal.τ Cert.FfnDownBwdIdeal.sig) → Buf (Elt Ideal) ℓ) : Prop :=
  True

def Pre_FfnDownBwdIdeal_finite_down [hPre_finite_down : Cert.Pre_finite_down.Facts] (m : (ℓ : Loc Cert.FfnDownBwdIdeal.nD Cert.FfnDownBwdIdeal.τ Cert.FfnDownBwdIdeal.sig) → Buf (Elt Ideal) ℓ) : Prop :=
  ∀ c : Dev Cert.FfnDownBwdIdeal.nD,
    (Cert.Pre_finite_down.fn (F := Ideal) (m ((c.tc : Thread Cert.FfnDownBwdIdeal.nD Cert.FfnDownBwdIdeal.τ).loc Cert.FfnDownBwdIdeal.main_arg0)) (m ((c.tc : Thread Cert.FfnDownBwdIdeal.nD Cert.FfnDownBwdIdeal.τ).loc Cert.FfnDownBwdIdeal.main_arg1)) (m ((c.tc : Thread Cert.FfnDownBwdIdeal.nD Cert.FfnDownBwdIdeal.τ).loc Cert.FfnDownBwdIdeal.main_arg2))) = (fun _ => 1#1)

def Pre_FfnDownBwdReferenceIdeal (m : (ℓ : Loc Cert.FfnDownBwdReferenceIdeal.nD Cert.FfnDownBwdReferenceIdeal.τ Cert.FfnDownBwdReferenceIdeal.sig) → Buf (Elt Ideal) ℓ) : Prop :=
  True

def Pre_FfnDownBwdReferenceIdeal_finite_down [hPre_finite_down : Cert.Pre_finite_down.Facts] (m : (ℓ : Loc Cert.FfnDownBwdReferenceIdeal.nD Cert.FfnDownBwdReferenceIdeal.τ Cert.FfnDownBwdReferenceIdeal.sig) → Buf (Elt Ideal) ℓ) : Prop :=
  ∀ c : Dev Cert.FfnDownBwdReferenceIdeal.nD,
    (Cert.Pre_finite_down.fn (F := Ideal) (m ((c.tc : Thread Cert.FfnDownBwdReferenceIdeal.nD Cert.FfnDownBwdReferenceIdeal.τ).loc Cert.FfnDownBwdReferenceIdeal.main_arg0)) (m ((c.tc : Thread Cert.FfnDownBwdReferenceIdeal.nD Cert.FfnDownBwdReferenceIdeal.τ).loc Cert.FfnDownBwdReferenceIdeal.main_arg1)) (m ((c.tc : Thread Cert.FfnDownBwdReferenceIdeal.nD Cert.FfnDownBwdReferenceIdeal.τ).loc Cert.FfnDownBwdReferenceIdeal.main_arg2))) = (fun _ => 1#1)

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamPoolW (m : (ℓ : Loc Cert.AdamPoolW.nD Cert.AdamPoolW.τ Cert.AdamPoolW.sig) → Buf (Elt Bits) ℓ) : Prop :=
  True

def Pre_AdamPoolWIdeal (m : (ℓ : Loc Cert.AdamPoolWIdeal.nD Cert.AdamPoolWIdeal.τ Cert.AdamPoolWIdeal.sig) → Buf (Elt Ideal) ℓ) : Prop :=
  True

def Pre_AdamPoolWReferenceIdeal (m : (ℓ : Loc Cert.AdamPoolWReferenceIdeal.nD Cert.AdamPoolWReferenceIdeal.τ Cert.AdamPoolWReferenceIdeal.sig) → Buf (Elt Ideal) ℓ) : Prop :=
  True

def Pre_AdamPoolB (m : (ℓ : Loc Cert.AdamPoolB.nD Cert.AdamPoolB.τ Cert.AdamPoolB.sig) → Buf (Elt Bits) ℓ) : Prop :=
  True

def Pre_AdamPoolBIdeal (m : (ℓ : Loc Cert.AdamPoolBIdeal.nD Cert.AdamPoolBIdeal.τ Cert.AdamPoolBIdeal.sig) → Buf (Elt Ideal) ℓ) : Prop :=
  True

def Pre_AdamPoolBReferenceIdeal (m : (ℓ : Loc Cert.AdamPoolBReferenceIdeal.nD Cert.AdamPoolBReferenceIdeal.τ Cert.AdamPoolBReferenceIdeal.sig) → Buf (Elt Ideal) ℓ) : Prop :=
  True

def Pre_AdamPoolScale (m : (ℓ : Loc Cert.AdamPoolScale.nD Cert.AdamPoolScale.τ Cert.AdamPoolScale.sig) → Buf (Elt Bits) ℓ) : Prop :=
  True

def Pre_AdamPoolScaleIdeal (m : (ℓ : Loc Cert.AdamPoolScaleIdeal.nD Cert.AdamPoolScaleIdeal.τ Cert.AdamPoolScaleIdeal.sig) → Buf (Elt Ideal) ℓ) : Prop :=
  True

def Pre_AdamPoolScaleReferenceIdeal (m : (ℓ : Loc Cert.AdamPoolScaleReferenceIdeal.nD Cert.AdamPoolScaleReferenceIdeal.τ Cert.AdamPoolScaleReferenceIdeal.sig) → Buf (Elt Ideal) ℓ) : Prop :=
  True

def Pre_AdamConvW (m : (ℓ : Loc Cert.AdamConvW.nD Cert.AdamConvW.τ Cert.AdamConvW.sig) → Buf (Elt Bits) ℓ) : Prop :=
  True

def Pre_AdamConvWIdeal (m : (ℓ : Loc Cert.AdamConvWIdeal.nD Cert.AdamConvWIdeal.τ Cert.AdamConvWIdeal.sig) → Buf (Elt Ideal) ℓ) : Prop :=
  True

def Pre_AdamConvWReferenceIdeal (m : (ℓ : Loc Cert.AdamConvWReferenceIdeal.nD Cert.AdamConvWReferenceIdeal.τ Cert.AdamConvWReferenceIdeal.sig) → Buf (Elt Ideal) ℓ) : Prop :=
  True

def Pre_AdamLru (m : (ℓ : Loc Cert.AdamLru.nD Cert.AdamLru.τ Cert.AdamLru.sig) → Buf (Elt Bits) ℓ) : Prop :=
  True

def Pre_AdamLruIdeal (m : (ℓ : Loc Cert.AdamLruIdeal.nD Cert.AdamLruIdeal.τ Cert.AdamLruIdeal.sig) → Buf (Elt Ideal) ℓ) : Prop :=
  True

def Pre_AdamLruReferenceIdeal (m : (ℓ : Loc Cert.AdamLruReferenceIdeal.nD Cert.AdamLruReferenceIdeal.τ Cert.AdamLruReferenceIdeal.sig) → Buf (Elt Ideal) ℓ) : Prop :=
  True

def Pre_AdamHeadW (m : (ℓ : Loc Cert.AdamHeadW.nD Cert.AdamHeadW.τ Cert.AdamHeadW.sig) → Buf (Elt Bits) ℓ) : Prop :=
  True

def Pre_AdamHeadWIdeal (m : (ℓ : Loc Cert.AdamHeadWIdeal.nD Cert.AdamHeadWIdeal.τ Cert.AdamHeadWIdeal.sig) → Buf (Elt Ideal) ℓ) : Prop :=
  True

def Pre_AdamHeadWReferenceIdeal (m : (ℓ : Loc Cert.AdamHeadWReferenceIdeal.nD Cert.AdamHeadWReferenceIdeal.τ Cert.AdamHeadWReferenceIdeal.sig) → Buf (Elt Ideal) ℓ) : Prop :=
  True

def Pre_AdamHeadB (m : (ℓ : Loc Cert.AdamHeadB.nD Cert.AdamHeadB.τ Cert.AdamHeadB.sig) → Buf (Elt Bits) ℓ) : Prop :=
  True

def Pre_AdamHeadBIdeal (m : (ℓ : Loc Cert.AdamHeadBIdeal.nD Cert.AdamHeadBIdeal.τ Cert.AdamHeadBIdeal.sig) → Buf (Elt Ideal) ℓ) : Prop :=
  True

def Pre_AdamHeadBReferenceIdeal (m : (ℓ : Loc Cert.AdamHeadBReferenceIdeal.nD Cert.AdamHeadBReferenceIdeal.τ Cert.AdamHeadBReferenceIdeal.sig) → Buf (Elt Ideal) ℓ) : Prop :=
  True

def Pre_AdamFinal (m : (ℓ : Loc Cert.AdamFinal.nD Cert.AdamFinal.τ Cert.AdamFinal.sig) → Buf (Elt Bits) ℓ) : Prop :=
  True

def Pre_AdamFinalIdeal (m : (ℓ : Loc Cert.AdamFinalIdeal.nD Cert.AdamFinalIdeal.τ Cert.AdamFinalIdeal.sig) → Buf (Elt Ideal) ℓ) : Prop :=
  True

def Pre_AdamFinalReferenceIdeal (m : (ℓ : Loc Cert.AdamFinalReferenceIdeal.nD Cert.AdamFinalReferenceIdeal.τ Cert.AdamFinalReferenceIdeal.sig) → Buf (Elt Ideal) ℓ) : Prop :=
  True

def Pre_SumFfn [hPre_placed_ffn : Cert.Pre_placed_ffn.Facts] (m : (ℓ : Loc Cert.SumFfn.nD Cert.SumFfn.τ Cert.SumFfn.sig) → Buf (Elt Bits) ℓ) : Prop :=
  ∀ c : Dev Cert.SumFfn.nD,
    (Cert.Pre_placed_ffn.fn (F := Bits) (m ((c.tc : Thread Cert.SumFfn.nD Cert.SumFfn.τ).loc Cert.SumFfn.main_arg0)) (m ((c.tc : Thread Cert.SumFfn.nD Cert.SumFfn.τ).loc Cert.SumFfn.main_arg1)) (m ((c.tc : Thread Cert.SumFfn.nD Cert.SumFfn.τ).loc Cert.SumFfn.main_arg2)) (m ((c.tc : Thread Cert.SumFfn.nD Cert.SumFfn.τ).loc Cert.SumFfn.main_arg3)) (m ((c.tc : Thread Cert.SumFfn.nD Cert.SumFfn.τ).loc Cert.SumFfn.main_arg4)) (m ((c.tc : Thread Cert.SumFfn.nD Cert.SumFfn.τ).loc Cert.SumFfn.main_arg5)) (m ((c.tc : Thread Cert.SumFfn.nD Cert.SumFfn.τ).loc Cert.SumFfn.main_arg6)) (m ((c.tc : Thread Cert.SumFfn.nD Cert.SumFfn.τ).loc Cert.SumFfn.main_arg7)) (m ((c.tc : Thread Cert.SumFfn.nD Cert.SumFfn.τ).loc Cert.SumFfn.main_arg8)) (m ((c.tc : Thread Cert.SumFfn.nD Cert.SumFfn.τ).loc Cert.SumFfn.main_arg9)) (m ((c.tc : Thread Cert.SumFfn.nD Cert.SumFfn.τ).loc Cert.SumFfn.main_arg10)) (m ((c.tc : Thread Cert.SumFfn.nD Cert.SumFfn.τ).loc Cert.SumFfn.main_arg11)) (m ((c.tc : Thread Cert.SumFfn.nD Cert.SumFfn.τ).loc Cert.SumFfn.main_arg12)) (m ((c.tc : Thread Cert.SumFfn.nD Cert.SumFfn.τ).loc Cert.SumFfn.main_arg13)) (m ((c.tc : Thread Cert.SumFfn.nD Cert.SumFfn.τ).loc Cert.SumFfn.main_arg14)) (m ((c.tc : Thread Cert.SumFfn.nD Cert.SumFfn.τ).loc Cert.SumFfn.main_arg15)) (m ((c.tc : Thread Cert.SumFfn.nD Cert.SumFfn.τ).loc Cert.SumFfn.main_arg16)) (m ((c.tc : Thread Cert.SumFfn.nD Cert.SumFfn.τ).loc Cert.SumFfn.main_arg17)) (m ((c.tc : Thread Cert.SumFfn.nD Cert.SumFfn.τ).loc Cert.SumFfn.main_arg18)) (m ((c.tc : Thread Cert.SumFfn.nD Cert.SumFfn.τ).loc Cert.SumFfn.main_arg19)) (m ((c.tc : Thread Cert.SumFfn.nD Cert.SumFfn.τ).loc Cert.SumFfn.main_arg20))) = (fun _ => 1#1)

def Pre_SumFfnIdeal [hPre_placed_ffn : Cert.Pre_placed_ffn.Facts] (m : (ℓ : Loc Cert.SumFfnIdeal.nD Cert.SumFfnIdeal.τ Cert.SumFfnIdeal.sig) → Buf (Elt Ideal) ℓ) : Prop :=
  ∀ c : Dev Cert.SumFfnIdeal.nD,
    (Cert.Pre_placed_ffn.fn (F := Ideal) (m ((c.tc : Thread Cert.SumFfnIdeal.nD Cert.SumFfnIdeal.τ).loc Cert.SumFfnIdeal.main_arg0)) (m ((c.tc : Thread Cert.SumFfnIdeal.nD Cert.SumFfnIdeal.τ).loc Cert.SumFfnIdeal.main_arg1)) (m ((c.tc : Thread Cert.SumFfnIdeal.nD Cert.SumFfnIdeal.τ).loc Cert.SumFfnIdeal.main_arg2)) (m ((c.tc : Thread Cert.SumFfnIdeal.nD Cert.SumFfnIdeal.τ).loc Cert.SumFfnIdeal.main_arg3)) (m ((c.tc : Thread Cert.SumFfnIdeal.nD Cert.SumFfnIdeal.τ).loc Cert.SumFfnIdeal.main_arg4)) (m ((c.tc : Thread Cert.SumFfnIdeal.nD Cert.SumFfnIdeal.τ).loc Cert.SumFfnIdeal.main_arg5)) (m ((c.tc : Thread Cert.SumFfnIdeal.nD Cert.SumFfnIdeal.τ).loc Cert.SumFfnIdeal.main_arg6)) (m ((c.tc : Thread Cert.SumFfnIdeal.nD Cert.SumFfnIdeal.τ).loc Cert.SumFfnIdeal.main_arg7)) (m ((c.tc : Thread Cert.SumFfnIdeal.nD Cert.SumFfnIdeal.τ).loc Cert.SumFfnIdeal.main_arg8)) (m ((c.tc : Thread Cert.SumFfnIdeal.nD Cert.SumFfnIdeal.τ).loc Cert.SumFfnIdeal.main_arg9)) (m ((c.tc : Thread Cert.SumFfnIdeal.nD Cert.SumFfnIdeal.τ).loc Cert.SumFfnIdeal.main_arg10)) (m ((c.tc : Thread Cert.SumFfnIdeal.nD Cert.SumFfnIdeal.τ).loc Cert.SumFfnIdeal.main_arg11)) (m ((c.tc : Thread Cert.SumFfnIdeal.nD Cert.SumFfnIdeal.τ).loc Cert.SumFfnIdeal.main_arg12)) (m ((c.tc : Thread Cert.SumFfnIdeal.nD Cert.SumFfnIdeal.τ).loc Cert.SumFfnIdeal.main_arg13)) (m ((c.tc : Thread Cert.SumFfnIdeal.nD Cert.SumFfnIdeal.τ).loc Cert.SumFfnIdeal.main_arg14)) (m ((c.tc : Thread Cert.SumFfnIdeal.nD Cert.SumFfnIdeal.τ).loc Cert.SumFfnIdeal.main_arg15)) (m ((c.tc : Thread Cert.SumFfnIdeal.nD Cert.SumFfnIdeal.τ).loc Cert.SumFfnIdeal.main_arg16)) (m ((c.tc : Thread Cert.SumFfnIdeal.nD Cert.SumFfnIdeal.τ).loc Cert.SumFfnIdeal.main_arg17)) (m ((c.tc : Thread Cert.SumFfnIdeal.nD Cert.SumFfnIdeal.τ).loc Cert.SumFfnIdeal.main_arg18)) (m ((c.tc : Thread Cert.SumFfnIdeal.nD Cert.SumFfnIdeal.τ).loc Cert.SumFfnIdeal.main_arg19)) (m ((c.tc : Thread Cert.SumFfnIdeal.nD Cert.SumFfnIdeal.τ).loc Cert.SumFfnIdeal.main_arg20))) = (fun _ => 1#1)

def Pre_SumFfnReferenceIdeal (m : (ℓ : Loc Cert.SumFfnReferenceIdeal.nD Cert.SumFfnReferenceIdeal.τ Cert.SumFfnReferenceIdeal.sig) → Buf (Elt Ideal) ℓ) : Prop :=
  True

def Pre_SumFfnReferenceIdeal_placed_ffn [hPre_placed_ffn : Cert.Pre_placed_ffn.Facts] (m : (ℓ : Loc Cert.SumFfnReferenceIdeal.nD Cert.SumFfnReferenceIdeal.τ Cert.SumFfnReferenceIdeal.sig) → Buf (Elt Ideal) ℓ) : Prop :=
  ∀ c : Dev Cert.SumFfnReferenceIdeal.nD,
    (Cert.Pre_placed_ffn.fn (F := Ideal) (m ((c.tc : Thread Cert.SumFfnReferenceIdeal.nD Cert.SumFfnReferenceIdeal.τ).loc Cert.SumFfnReferenceIdeal.main_arg0)) (m ((c.tc : Thread Cert.SumFfnReferenceIdeal.nD Cert.SumFfnReferenceIdeal.τ).loc Cert.SumFfnReferenceIdeal.main_arg1)) (m ((c.tc : Thread Cert.SumFfnReferenceIdeal.nD Cert.SumFfnReferenceIdeal.τ).loc Cert.SumFfnReferenceIdeal.main_arg2)) (m ((c.tc : Thread Cert.SumFfnReferenceIdeal.nD Cert.SumFfnReferenceIdeal.τ).loc Cert.SumFfnReferenceIdeal.main_arg3)) (m ((c.tc : Thread Cert.SumFfnReferenceIdeal.nD Cert.SumFfnReferenceIdeal.τ).loc Cert.SumFfnReferenceIdeal.main_arg4)) (m ((c.tc : Thread Cert.SumFfnReferenceIdeal.nD Cert.SumFfnReferenceIdeal.τ).loc Cert.SumFfnReferenceIdeal.main_arg5)) (m ((c.tc : Thread Cert.SumFfnReferenceIdeal.nD Cert.SumFfnReferenceIdeal.τ).loc Cert.SumFfnReferenceIdeal.main_arg6)) (m ((c.tc : Thread Cert.SumFfnReferenceIdeal.nD Cert.SumFfnReferenceIdeal.τ).loc Cert.SumFfnReferenceIdeal.main_arg7)) (m ((c.tc : Thread Cert.SumFfnReferenceIdeal.nD Cert.SumFfnReferenceIdeal.τ).loc Cert.SumFfnReferenceIdeal.main_arg8)) (m ((c.tc : Thread Cert.SumFfnReferenceIdeal.nD Cert.SumFfnReferenceIdeal.τ).loc Cert.SumFfnReferenceIdeal.main_arg9)) (m ((c.tc : Thread Cert.SumFfnReferenceIdeal.nD Cert.SumFfnReferenceIdeal.τ).loc Cert.SumFfnReferenceIdeal.main_arg10)) (m ((c.tc : Thread Cert.SumFfnReferenceIdeal.nD Cert.SumFfnReferenceIdeal.τ).loc Cert.SumFfnReferenceIdeal.main_arg11)) (m ((c.tc : Thread Cert.SumFfnReferenceIdeal.nD Cert.SumFfnReferenceIdeal.τ).loc Cert.SumFfnReferenceIdeal.main_arg12)) (m ((c.tc : Thread Cert.SumFfnReferenceIdeal.nD Cert.SumFfnReferenceIdeal.τ).loc Cert.SumFfnReferenceIdeal.main_arg13)) (m ((c.tc : Thread Cert.SumFfnReferenceIdeal.nD Cert.SumFfnReferenceIdeal.τ).loc Cert.SumFfnReferenceIdeal.main_arg14)) (m ((c.tc : Thread Cert.SumFfnReferenceIdeal.nD Cert.SumFfnReferenceIdeal.τ).loc Cert.SumFfnReferenceIdeal.main_arg15)) (m ((c.tc : Thread Cert.SumFfnReferenceIdeal.nD Cert.SumFfnReferenceIdeal.τ).loc Cert.SumFfnReferenceIdeal.main_arg16)) (m ((c.tc : Thread Cert.SumFfnReferenceIdeal.nD Cert.SumFfnReferenceIdeal.τ).loc Cert.SumFfnReferenceIdeal.main_arg17)) (m ((c.tc : Thread Cert.SumFfnReferenceIdeal.nD Cert.SumFfnReferenceIdeal.τ).loc Cert.SumFfnReferenceIdeal.main_arg18)) (m ((c.tc : Thread Cert.SumFfnReferenceIdeal.nD Cert.SumFfnReferenceIdeal.τ).loc Cert.SumFfnReferenceIdeal.main_arg19)) (m ((c.tc : Thread Cert.SumFfnReferenceIdeal.nD Cert.SumFfnReferenceIdeal.τ).loc Cert.SumFfnReferenceIdeal.main_arg20))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxReferenceIdeal (m : (ℓ : Loc Cert.FfnDxReferenceIdeal.nD Cert.FfnDxReferenceIdeal.τ Cert.FfnDxReferenceIdeal.sig) → Buf (Elt Ideal) ℓ) : Prop :=
  True

def Pre_SumSmall [hPre_placed_small : Cert.Pre_placed_small.Facts] (m : (ℓ : Loc Cert.SumSmall.nD Cert.SumSmall.τ Cert.SumSmall.sig) → Buf (Elt Bits) ℓ) : Prop :=
  ∀ c : Dev Cert.SumSmall.nD,
    (Cert.Pre_placed_small.fn (F := Bits) (m ((c.tc : Thread Cert.SumSmall.nD Cert.SumSmall.τ).loc Cert.SumSmall.main_arg0)) (m ((c.tc : Thread Cert.SumSmall.nD Cert.SumSmall.τ).loc Cert.SumSmall.main_arg1)) (m ((c.tc : Thread Cert.SumSmall.nD Cert.SumSmall.τ).loc Cert.SumSmall.main_arg2)) (m ((c.tc : Thread Cert.SumSmall.nD Cert.SumSmall.τ).loc Cert.SumSmall.main_arg3))) = (fun _ => 1#1)

def Pre_SumSmallIdeal [hPre_placed_small : Cert.Pre_placed_small.Facts] (m : (ℓ : Loc Cert.SumSmallIdeal.nD Cert.SumSmallIdeal.τ Cert.SumSmallIdeal.sig) → Buf (Elt Ideal) ℓ) : Prop :=
  ∀ c : Dev Cert.SumSmallIdeal.nD,
    (Cert.Pre_placed_small.fn (F := Ideal) (m ((c.tc : Thread Cert.SumSmallIdeal.nD Cert.SumSmallIdeal.τ).loc Cert.SumSmallIdeal.main_arg0)) (m ((c.tc : Thread Cert.SumSmallIdeal.nD Cert.SumSmallIdeal.τ).loc Cert.SumSmallIdeal.main_arg1)) (m ((c.tc : Thread Cert.SumSmallIdeal.nD Cert.SumSmallIdeal.τ).loc Cert.SumSmallIdeal.main_arg2)) (m ((c.tc : Thread Cert.SumSmallIdeal.nD Cert.SumSmallIdeal.τ).loc Cert.SumSmallIdeal.main_arg3))) = (fun _ => 1#1)

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumSmallReferenceIdeal_placed_small [hPre_placed_small : Cert.Pre_placed_small.Facts] (m : (ℓ : Loc Cert.SumSmallReferenceIdeal.nD Cert.SumSmallReferenceIdeal.τ Cert.SumSmallReferenceIdeal.sig) → Buf (Elt Ideal) ℓ) : Prop :=
  ∀ c : Dev Cert.SumSmallReferenceIdeal.nD,
    (Cert.Pre_placed_small.fn (F := Ideal) (m ((c.tc : Thread Cert.SumSmallReferenceIdeal.nD Cert.SumSmallReferenceIdeal.τ).loc Cert.SumSmallReferenceIdeal.main_arg0)) (m ((c.tc : Thread Cert.SumSmallReferenceIdeal.nD Cert.SumSmallReferenceIdeal.τ).loc Cert.SumSmallReferenceIdeal.main_arg1)) (m ((c.tc : Thread Cert.SumSmallReferenceIdeal.nD Cert.SumSmallReferenceIdeal.τ).loc Cert.SumSmallReferenceIdeal.main_arg2)) (m ((c.tc : Thread Cert.SumSmallReferenceIdeal.nD Cert.SumSmallReferenceIdeal.τ).loc Cert.SumSmallReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1))
      ∧ r.2.sem = fun _ => 0)

def quiescent_DwLruUp [hDwLruUp : Cert.DwLruUp.Facts] : Prop :=
  ∀ (m : (ℓ : Loc Cert.DwLruUp.nD Cert.DwLruUp.τ Cert.DwLruUp.sig) → Buf (Elt Bits) ℓ) (g : Dev Cert.DwLruUp.nD → PrngReg), Pre_DwLruUp m →
    θ_run (Cert.DwLruUp.defs (F := Bits)) (onTc (τ := Cert.DwLruUp.τ) (Cert.DwLruUp.main (F := Bits))) ⟨m, fun _ => 0, g⟩ (fun r => (∀ c : Dev Cert.DwLruUp.nD,
      r.2.mem ((c.tc : Thread Cert.DwLruUp.nD Cert.DwLruUp.τ).loc Cert.DwLruUp.main_arg0) = m ((c.tc : Thread Cert.DwLruUp.nD Cert.DwLruUp.τ).loc Cert.DwLruUp.main_arg0)
      ∧ r.2.mem ((c.tc : Thread Cert.DwLruUp.nD Cert.DwLruUp.τ).loc Cert.DwLruUp.main_arg1) = m ((c.tc : Thread Cert.DwLruUp.nD Cert.DwLruUp.τ).loc Cert.DwLruUp.main_arg1))
      ∧ r.2.sem = fun _ => 0)

def quiescent_DwLruUpIdeal [hDwLruUpIdeal : Cert.DwLruUpIdeal.Facts] : Prop :=
  ∀ (m : (ℓ : Loc Cert.DwLruUpIdeal.nD Cert.DwLruUpIdeal.τ Cert.DwLruUpIdeal.sig) → Buf (Elt Ideal) ℓ) (g : Dev Cert.DwLruUpIdeal.nD → PrngReg), Pre_DwLruUpIdeal m →
    θ_run (Cert.DwLruUpIdeal.defs (F := Ideal)) (onTc (τ := Cert.DwLruUpIdeal.τ) (Cert.DwLruUpIdeal.main (F := Ideal))) ⟨m, fun _ => 0, g⟩ (fun r => (∀ c : Dev Cert.DwLruUpIdeal.nD,
      r.2.mem ((c.tc : Thread Cert.DwLruUpIdeal.nD Cert.DwLruUpIdeal.τ).loc Cert.DwLruUpIdeal.main_arg0) = m ((c.tc : Thread Cert.DwLruUpIdeal.nD Cert.DwLruUpIdeal.τ).loc Cert.DwLruUpIdeal.main_arg0)
      ∧ r.2.mem ((c.tc : Thread Cert.DwLruUpIdeal.nD Cert.DwLruUpIdeal.τ).loc Cert.DwLruUpIdeal.main_arg1) = m ((c.tc : Thread Cert.DwLruUpIdeal.nD Cert.DwLruUpIdeal.τ).loc Cert.DwLruUpIdeal.main_arg1))
      ∧ r.2.sem = fun _ => 0)

def quiescent_DwLruUpReferenceIdeal [hDwLruUpReferenceIdeal : Cert.DwLruUpReferenceIdeal.Facts] : Prop :=
  ∀ (m : (ℓ : Loc Cert.DwLruUpReferenceIdeal.nD Cert.DwLruUpReferenceIdeal.τ Cert.DwLruUpReferenceIdeal.sig) → Buf (Elt Ideal) ℓ) (g : Dev Cert.DwLruUpReferenceIdeal.nD → PrngReg), Pre_DwLruUpReferenceIdeal m →
    θ_run (Cert.DwLruUpReferenceIdeal.defs (F := Ideal)) (onTc (τ := Cert.DwLruUpReferenceIdeal.τ) (Cert.DwLruUpReferenceIdeal.main (F := Ideal))) ⟨m, fun _ => 0, g⟩ (fun r => (∀ c : Dev Cert.DwLruUpReferenceIdeal.nD,
      r.2.mem ((c.tc : Thread Cert.DwLruUpReferenceIdeal.nD Cert.DwLruUpReferenceIdeal.τ).loc Cert.DwLruUpReferenceIdeal.main_arg0) = m ((c.tc : Thread Cert.DwLruUpReferenceIdeal.nD Cert.DwLruUpReferenceIdeal.τ).loc Cert.DwLruUpReferenceIdeal.main_arg0)
      ∧ r.2.mem ((c.tc : Thread Cert.DwLruUpReferenceIdeal.nD Cert.DwLruUpReferenceIdeal.τ).loc Cert.DwLruUpReferenceIdeal.main_arg1) = m ((c.tc : Thread Cert.DwLruUpReferenceIdeal.nD Cert.DwLruUpReferenceIdeal.τ).loc Cert.DwLruUpReferenceIdeal.main_arg1))
      ∧ r.2.sem = fun _ => 0)

def quiescent_DwPoolUp [hDwPoolUp : Cert.DwPoolUp.Facts] : Prop :=
  ∀ (m : (ℓ : Loc Cert.DwPoolUp.nD Cert.DwPoolUp.τ Cert.DwPoolUp.sig) → Buf (Elt Bits) ℓ) (g : Dev Cert.DwPoolUp.nD → PrngReg), Pre_DwPoolUp m →
    θ_run (Cert.DwPoolUp.defs (F := Bits)) (onTc (τ := Cert.DwPoolUp.τ) (Cert.DwPoolUp.main (F := Bits))) ⟨m, fun _ => 0, g⟩ (fun r => (∀ c : Dev Cert.DwPoolUp.nD,
      r.2.mem ((c.tc : Thread Cert.DwPoolUp.nD Cert.DwPoolUp.τ).loc Cert.DwPoolUp.main_arg0) = m ((c.tc : Thread Cert.DwPoolUp.nD Cert.DwPoolUp.τ).loc Cert.DwPoolUp.main_arg0)
      ∧ r.2.mem ((c.tc : Thread Cert.DwPoolUp.nD Cert.DwPoolUp.τ).loc Cert.DwPoolUp.main_arg1) = m ((c.tc : Thread Cert.DwPoolUp.nD Cert.DwPoolUp.τ).loc Cert.DwPoolUp.main_arg1))
      ∧ r.2.sem = fun _ => 0)

def quiescent_DwPoolUpIdeal [hDwPoolUpIdeal : Cert.DwPoolUpIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg), Pre_DwPoolUpIdeal m →
    θ_run (Cert.DwPoolUpIdeal.defs (F := Ideal)) (onTc (τ := Cert.DwPoolUpIdeal.τ) (Cert.DwPoolUpIdeal.main (F := Ideal))) ⟨m, fun _ => 0, g⟩ (fun r => (∀ c : Dev Cert.DwPoolUpIdeal.nD,
      r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
      ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1))
      ∧ r.2.sem = fun _ => 0)

def quiescent_DwPoolUpReferenceIdeal [hDwPoolUpReferenceIdeal : Cert.DwPoolUpReferenceIdeal.Facts] : Prop :=
  ∀ (m : (ℓ : Loc Cert.DwPoolUpReferenceIdeal.nD Cert.DwPoolUpReferenceIdeal.τ Cert.DwPoolUpReferenceIdeal.sig) → Buf (Elt Ideal) ℓ) (g : Dev Cert.DwPoolUpReferenceIdeal.nD → PrngReg), Pre_DwPoolUpReferenceIdeal m →
    θ_run (Cert.DwPoolUpReferenceIdeal.defs (F := Ideal)) (onTc (τ := Cert.DwPoolUpReferenceIdeal.τ) (Cert.DwPoolUpReferenceIdeal.main (F := Ideal))) ⟨m, fun _ => 0, g⟩ (fun r => (∀ c : Dev Cert.DwPoolUpReferenceIdeal.nD,
      r.2.mem ((c.tc : Thread Cert.DwPoolUpReferenceIdeal.nD Cert.DwPoolUpReferenceIdeal.τ).loc Cert.DwPoolUpReferenceIdeal.main_arg0) = m ((c.tc : Thread Cert.DwPoolUpReferenceIdeal.nD Cert.DwPoolUpReferenceIdeal.τ).loc Cert.DwPoolUpReferenceIdeal.main_arg0)
      ∧ r.2.mem ((c.tc : Thread Cert.DwPoolUpReferenceIdeal.nD Cert.DwPoolUpReferenceIdeal.τ).loc Cert.DwPoolUpReferenceIdeal.main_arg1) = m ((c.tc : Thread Cert.DwPoolUpReferenceIdeal.nD Cert.DwPoolUpReferenceIdeal.τ).loc Cert.DwPoolUpReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6))
      ∧ r.2.sem = fun _ => 0)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1)
      ∧ r.2.mem ((c.tc : Thread Cert.FfnDownBwd.nD Cert.FfnDownBwd.τ).loc Cert.FfnDownBwd.main_arg2) = m ((c.tc : Thread Cert.FfnDownBwd.nD Cert.FfnDownBwd.τ).loc Cert.FfnDownBwd.main_arg2))
      ∧ r.2.sem = fun _ => 0)

def quiescent_FfnDownBwdIdeal [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ r.2.sem = fun _ => 0)

def quiescent_FfnDownBwdIdeal_pre_finite_down [hFfnDownBwdIdeal : Cert.FfnDownBwdIdeal.Facts] [hPre_finite_down : Cert.Pre_finite_down.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal_finite_down m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ r.2.sem = fun _ => 0)

def quiescent_FfnDownBwdReferenceIdeal [hFfnDownBwdReferenceIdeal : Cert.FfnDownBwdReferenceIdeal.Facts] : Prop :=
  ∀ (m : (ℓ : Loc Cert.FfnDownBwdReferenceIdeal.nD Cert.FfnDownBwdReferenceIdeal.τ Cert.FfnDownBwdReferenceIdeal.sig) → Buf (Elt Ideal) ℓ) (g : Dev Cert.FfnDownBwdReferenceIdeal.nD → PrngReg), Pre_FfnDownBwdReferenceIdeal m →
    θ_run (Cert.FfnDownBwdReferenceIdeal.defs (F := Ideal)) (onTc (τ := Cert.FfnDownBwdReferenceIdeal.τ) (Cert.FfnDownBwdReferenceIdeal.main (F := Ideal))) ⟨m, fun _ => 0, g⟩ (fun r => (∀ c : Dev Cert.FfnDownBwdReferenceIdeal.nD,
      r.2.mem ((c.tc : Thread Cert.FfnDownBwdReferenceIdeal.nD Cert.FfnDownBwdReferenceIdeal.τ).loc Cert.FfnDownBwdReferenceIdeal.main_arg0) = m ((c.tc : Thread Cert.FfnDownBwdReferenceIdeal.nD Cert.FfnDownBwdReferenceIdeal.τ).loc Cert.FfnDownBwdReferenceIdeal.main_arg0)
      ∧ r.2.mem ((c.tc : Thread Cert.FfnDownBwdReferenceIdeal.nD Cert.FfnDownBwdReferenceIdeal.τ).loc Cert.FfnDownBwdReferenceIdeal.main_arg1) = m ((c.tc : Thread Cert.FfnDownBwdReferenceIdeal.nD Cert.FfnDownBwdReferenceIdeal.τ).loc Cert.FfnDownBwdReferenceIdeal.main_arg1)
      ∧ r.2.mem ((c.tc : Thread Cert.FfnDownBwdReferenceIdeal.nD Cert.FfnDownBwdReferenceIdeal.τ).loc Cert.FfnDownBwdReferenceIdeal.main_arg2) = m ((c.tc : Thread Cert.FfnDownBwdReferenceIdeal.nD Cert.FfnDownBwdReferenceIdeal.τ).loc Cert.FfnDownBwdReferenceIdeal.main_arg2))
      ∧ r.2.sem = fun _ => 0)

def quiescent_FfnDownBwdReferenceIdeal_pre_finite_down [hFfnDownBwdReferenceIdeal : Cert.FfnDownBwdReferenceIdeal.Facts] [hPre_finite_down : Cert.Pre_finite_down.Facts] : Prop :=
  ∀ (m : (ℓ : Loc Cert.FfnDownBwdReferenceIdeal.nD Cert.FfnDownBwdReferenceIdeal.τ Cert.FfnDownBwdReferenceIdeal.sig) → Buf (Elt Ideal) ℓ) (g : Dev Cert.FfnDownBwdReferenceIdeal.nD → PrngReg), Pre_FfnDownBwdReferenceIdeal_finite_down m →
    θ_run (Cert.FfnDownBwdReferenceIdeal.defs (F := Ideal)) (onTc (τ := Cert.FfnDownBwdReferenceIdeal.τ) (Cert.FfnDownBwdReferenceIdeal.main (F := Ideal))) ⟨m, fun _ => 0, g⟩ (fun r => (∀ c : Dev Cert.FfnDownBwdReferenceIdeal.nD,
      r.2.mem ((c.tc : Thread Cert.FfnDownBwdReferenceIdeal.nD Cert.FfnDownBwdReferenceIdeal.τ).loc Cert.FfnDownBwdReferenceIdeal.main_arg0) = m ((c.tc : Thread Cert.FfnDownBwdReferenceIdeal.nD Cert.FfnDownBwdReferenceIdeal.τ).loc Cert.FfnDownBwdReferenceIdeal.main_arg0)
      ∧ r.2.mem ((c.tc : Thread Cert.FfnDownBwdReferenceIdeal.nD Cert.FfnDownBwdReferenceIdeal.τ).loc Cert.FfnDownBwdReferenceIdeal.main_arg1) = m ((c.tc : Thread Cert.FfnDownBwdReferenceIdeal.nD Cert.FfnDownBwdReferenceIdeal.τ).loc Cert.FfnDownBwdReferenceIdeal.main_arg1)
      ∧ r.2.mem ((c.tc : Thread Cert.FfnDownBwdReferenceIdeal.nD Cert.FfnDownBwdReferenceIdeal.τ).loc Cert.FfnDownBwdReferenceIdeal.main_arg2) = m ((c.tc : Thread Cert.FfnDownBwdReferenceIdeal.nD Cert.FfnDownBwdReferenceIdeal.τ).loc Cert.FfnDownBwdReferenceIdeal.main_arg2))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamPoolW [hAdamPoolW : Cert.AdamPoolW.Facts] : Prop :=
  ∀ (m : (ℓ : Loc Cert.AdamPoolW.nD Cert.AdamPoolW.τ Cert.AdamPoolW.sig) → Buf (Elt Bits) ℓ) (g : Dev Cert.AdamPoolW.nD → PrngReg), Pre_AdamPoolW m →
    θ_run (Cert.AdamPoolW.defs (F := Bits)) (onTc (τ := Cert.AdamPoolW.τ) (Cert.AdamPoolW.main (F := Bits))) ⟨m, fun _ => 0, g⟩ (fun r => (∀ c : Dev Cert.AdamPoolW.nD,
      r.2.mem ((c.tc : Thread Cert.AdamPoolW.nD Cert.AdamPoolW.τ).loc Cert.AdamPoolW.main_arg0) = m ((c.tc : Thread Cert.AdamPoolW.nD Cert.AdamPoolW.τ).loc Cert.AdamPoolW.main_arg0)
      ∧ r.2.mem ((c.tc : Thread Cert.AdamPoolW.nD Cert.AdamPoolW.τ).loc Cert.AdamPoolW.main_arg1) = m ((c.tc : Thread Cert.AdamPoolW.nD Cert.AdamPoolW.τ).loc Cert.AdamPoolW.main_arg1)
      ∧ r.2.mem ((c.tc : Thread Cert.AdamPoolW.nD Cert.AdamPoolW.τ).loc Cert.AdamPoolW.main_arg2) = m ((c.tc : Thread Cert.AdamPoolW.nD Cert.AdamPoolW.τ).loc Cert.AdamPoolW.main_arg2)
      ∧ r.2.mem ((c.tc : Thread Cert.AdamPoolW.nD Cert.AdamPoolW.τ).loc Cert.AdamPoolW.main_arg3) = m ((c.tc : Thread Cert.AdamPoolW.nD Cert.AdamPoolW.τ).loc Cert.AdamPoolW.main_arg3))
      ∧ r.2.sem = fun _ => 0)

def quiescent_AdamPoolWIdeal [hAdamPoolWIdeal : Cert.AdamPoolWIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg), Pre_AdamPoolWIdeal m →
    θ_run (Cert.AdamPoolWIdeal.defs (F := Ideal)) (onTc (τ := Cert.AdamPoolWIdeal.τ) (Cert.AdamPoolWIdeal.main (F := Ideal))) ⟨m, fun _ => 0, g⟩ (fun r => (∀ c : Dev Cert.AdamPoolWIdeal.nD,
      r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
      ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
      ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
      ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ r.2.sem = fun _ => 0)

def quiescent_AdamPoolWReferenceIdeal [hAdamPoolWReferenceIdeal : Cert.AdamPoolWReferenceIdeal.Facts] : Prop :=
  ∀ (m : (ℓ : Loc Cert.AdamPoolWReferenceIdeal.nD Cert.AdamPoolWReferenceIdeal.τ Cert.AdamPoolWReferenceIdeal.sig) → Buf (Elt Ideal) ℓ) (g : Dev Cert.AdamPoolWReferenceIdeal.nD → PrngReg), Pre_AdamPoolWReferenceIdeal m →
    θ_run (Cert.AdamPoolWReferenceIdeal.defs (F := Ideal)) (onTc (τ := Cert.AdamPoolWReferenceIdeal.τ) (Cert.AdamPoolWReferenceIdeal.main (F := Ideal))) ⟨m, fun _ => 0, g⟩ (fun r => (∀ c : Dev Cert.AdamPoolWReferenceIdeal.nD,
      r.2.mem ((c.tc : Thread Cert.AdamPoolWReferenceIdeal.nD Cert.AdamPoolWReferenceIdeal.τ).loc Cert.AdamPoolWReferenceIdeal.main_arg0) = m ((c.tc : Thread Cert.AdamPoolWReferenceIdeal.nD Cert.AdamPoolWReferenceIdeal.τ).loc Cert.AdamPoolWReferenceIdeal.main_arg0)
      ∧ r.2.mem ((c.tc : Thread Cert.AdamPoolWReferenceIdeal.nD Cert.AdamPoolWReferenceIdeal.τ).loc Cert.AdamPoolWReferenceIdeal.main_arg1) = m ((c.tc : Thread Cert.AdamPoolWReferenceIdeal.nD Cert.AdamPoolWReferenceIdeal.τ).loc Cert.AdamPoolWReferenceIdeal.main_arg1)
      ∧ r.2.mem ((c.tc : Thread Cert.AdamPoolWReferenceIdeal.nD Cert.AdamPoolWReferenceIdeal.τ).loc Cert.AdamPoolWReferenceIdeal.main_arg2) = m ((c.tc : Thread Cert.AdamPoolWReferenceIdeal.nD Cert.AdamPoolWReferenceIdeal.τ).loc Cert.AdamPoolWReferenceIdeal.main_arg2)
      ∧ r.2.mem ((c.tc : Thread Cert.AdamPoolWReferenceIdeal.nD Cert.AdamPoolWReferenceIdeal.τ).loc Cert.AdamPoolWReferenceIdeal.main_arg3) = m ((c.tc : Thread Cert.AdamPoolWReferenceIdeal.nD Cert.AdamPoolWReferenceIdeal.τ).loc Cert.AdamPoolWReferenceIdeal.main_arg3))
      ∧ r.2.sem = fun _ => 0)

def quiescent_AdamPoolB [hAdamPoolB : Cert.AdamPoolB.Facts] : Prop :=
  ∀ (m : (ℓ : Loc Cert.AdamPoolB.nD Cert.AdamPoolB.τ Cert.AdamPoolB.sig) → Buf (Elt Bits) ℓ) (g : Dev Cert.AdamPoolB.nD → PrngReg), Pre_AdamPoolB m →
    θ_run (Cert.AdamPoolB.defs (F := Bits)) (onTc (τ := Cert.AdamPoolB.τ) (Cert.AdamPoolB.main (F := Bits))) ⟨m, fun _ => 0, g⟩ (fun r => (∀ c : Dev Cert.AdamPoolB.nD,
      r.2.mem ((c.tc : Thread Cert.AdamPoolB.nD Cert.AdamPoolB.τ).loc Cert.AdamPoolB.main_arg0) = m ((c.tc : Thread Cert.AdamPoolB.nD Cert.AdamPoolB.τ).loc Cert.AdamPoolB.main_arg0)
      ∧ r.2.mem ((c.tc : Thread Cert.AdamPoolB.nD Cert.AdamPoolB.τ).loc Cert.AdamPoolB.main_arg1) = m ((c.tc : Thread Cert.AdamPoolB.nD Cert.AdamPoolB.τ).loc Cert.AdamPoolB.main_arg1)
      ∧ r.2.mem ((c.tc : Thread Cert.AdamPoolB.nD Cert.AdamPoolB.τ).loc Cert.AdamPoolB.main_arg2) = m ((c.tc : Thread Cert.AdamPoolB.nD Cert.AdamPoolB.τ).loc Cert.AdamPoolB.main_arg2)
      ∧ r.2.mem ((c.tc : Thread Cert.AdamPoolB.nD Cert.AdamPoolB.τ).loc Cert.AdamPoolB.main_arg3) = m ((c.tc : Thread Cert.AdamPoolB.nD Cert.AdamPoolB.τ).loc Cert.AdamPoolB.main_arg3))
      ∧ r.2.sem = fun _ => 0)

def quiescent_AdamPoolBIdeal [hAdamPoolBIdeal : Cert.AdamPoolBIdeal.Facts] : Prop :=
  ∀ (m : (ℓ : Loc Cert.AdamPoolBIdeal.nD Cert.AdamPoolBIdeal.τ Cert.AdamPoolBIdeal.sig) → Buf (Elt Ideal) ℓ) (g : Dev Cert.AdamPoolBIdeal.nD → PrngReg), Pre_AdamPoolBIdeal m →
    θ_run (Cert.AdamPoolBIdeal.defs (F := Ideal)) (onTc (τ := Cert.AdamPoolBIdeal.τ) (Cert.AdamPoolBIdeal.main (F := Ideal))) ⟨m, fun _ => 0, g⟩ (fun r => (∀ c : Dev Cert.AdamPoolBIdeal.nD,
      r.2.mem ((c.tc : Thread Cert.AdamPoolBIdeal.nD Cert.AdamPoolBIdeal.τ).loc Cert.AdamPoolBIdeal.main_arg0) = m ((c.tc : Thread Cert.AdamPoolBIdeal.nD Cert.AdamPoolBIdeal.τ).loc Cert.AdamPoolBIdeal.main_arg0)
      ∧ r.2.mem ((c.tc : Thread Cert.AdamPoolBIdeal.nD Cert.AdamPoolBIdeal.τ).loc Cert.AdamPoolBIdeal.main_arg1) = m ((c.tc : Thread Cert.AdamPoolBIdeal.nD Cert.AdamPoolBIdeal.τ).loc Cert.AdamPoolBIdeal.main_arg1)
      ∧ r.2.mem ((c.tc : Thread Cert.AdamPoolBIdeal.nD Cert.AdamPoolBIdeal.τ).loc Cert.AdamPoolBIdeal.main_arg2) = m ((c.tc : Thread Cert.AdamPoolBIdeal.nD Cert.AdamPoolBIdeal.τ).loc Cert.AdamPoolBIdeal.main_arg2)
      ∧ r.2.mem ((c.tc : Thread Cert.AdamPoolBIdeal.nD Cert.AdamPoolBIdeal.τ).loc Cert.AdamPoolBIdeal.main_arg3) = m ((c.tc : Thread Cert.AdamPoolBIdeal.nD Cert.AdamPoolBIdeal.τ).loc Cert.AdamPoolBIdeal.main_arg3))
      ∧ r.2.sem = fun _ => 0)

def quiescent_AdamPoolBReferenceIdeal [hAdamPoolBReferenceIdeal : Cert.AdamPoolBReferenceIdeal.Facts] : Prop :=
  ∀ (m : (ℓ : Loc Cert.AdamPoolBReferenceIdeal.nD Cert.AdamPoolBReferenceIdeal.τ Cert.AdamPoolBReferenceIdeal.sig) → Buf (Elt Ideal) ℓ) (g : Dev Cert.AdamPoolBReferenceIdeal.nD → PrngReg), Pre_AdamPoolBReferenceIdeal m →
    θ_run (Cert.AdamPoolBReferenceIdeal.defs (F := Ideal)) (onTc (τ := Cert.AdamPoolBReferenceIdeal.τ) (Cert.AdamPoolBReferenceIdeal.main (F := Ideal))) ⟨m, fun _ => 0, g⟩ (fun r => (∀ c : Dev Cert.AdamPoolBReferenceIdeal.nD,
      r.2.mem ((c.tc : Thread Cert.AdamPoolBReferenceIdeal.nD Cert.AdamPoolBReferenceIdeal.τ).loc Cert.AdamPoolBReferenceIdeal.main_arg0) = m ((c.tc : Thread Cert.AdamPoolBReferenceIdeal.nD Cert.AdamPoolBReferenceIdeal.τ).loc Cert.AdamPoolBReferenceIdeal.main_arg0)
      ∧ r.2.mem ((c.tc : Thread Cert.AdamPoolBReferenceIdeal.nD Cert.AdamPoolBReferenceIdeal.τ).loc Cert.AdamPoolBReferenceIdeal.main_arg1) = m ((c.tc : Thread Cert.AdamPoolBReferenceIdeal.nD Cert.AdamPoolBReferenceIdeal.τ).loc Cert.AdamPoolBReferenceIdeal.main_arg1)
      ∧ r.2.mem ((c.tc : Thread Cert.AdamPoolBReferenceIdeal.nD Cert.AdamPoolBReferenceIdeal.τ).loc Cert.AdamPoolBReferenceIdeal.main_arg2) = m ((c.tc : Thread Cert.AdamPoolBReferenceIdeal.nD Cert.AdamPoolBReferenceIdeal.τ).loc Cert.AdamPoolBReferenceIdeal.main_arg2)
      ∧ r.2.mem ((c.tc : Thread Cert.AdamPoolBReferenceIdeal.nD Cert.AdamPoolBReferenceIdeal.τ).loc Cert.AdamPoolBReferenceIdeal.main_arg3) = m ((c.tc : Thread Cert.AdamPoolBReferenceIdeal.nD Cert.AdamPoolBReferenceIdeal.τ).loc Cert.AdamPoolBReferenceIdeal.main_arg3))
      ∧ r.2.sem = fun _ => 0)

def quiescent_AdamPoolScale [hAdamPoolScale : Cert.AdamPoolScale.Facts] : Prop :=
  ∀ (m : (ℓ : Loc Cert.AdamPoolScale.nD Cert.AdamPoolScale.τ Cert.AdamPoolScale.sig) → Buf (Elt Bits) ℓ) (g : Dev Cert.AdamPoolScale.nD → PrngReg), Pre_AdamPoolScale m →
    θ_run (Cert.AdamPoolScale.defs (F := Bits)) (onTc (τ := Cert.AdamPoolScale.τ) (Cert.AdamPoolScale.main (F := Bits))) ⟨m, fun _ => 0, g⟩ (fun r => (∀ c : Dev Cert.AdamPoolScale.nD,
      r.2.mem ((c.tc : Thread Cert.AdamPoolScale.nD Cert.AdamPoolScale.τ).loc Cert.AdamPoolScale.main_arg0) = m ((c.tc : Thread Cert.AdamPoolScale.nD Cert.AdamPoolScale.τ).loc Cert.AdamPoolScale.main_arg0)
      ∧ r.2.mem ((c.tc : Thread Cert.AdamPoolScale.nD Cert.AdamPoolScale.τ).loc Cert.AdamPoolScale.main_arg1) = m ((c.tc : Thread Cert.AdamPoolScale.nD Cert.AdamPoolScale.τ).loc Cert.AdamPoolScale.main_arg1)
      ∧ r.2.mem ((c.tc : Thread Cert.AdamPoolScale.nD Cert.AdamPoolScale.τ).loc Cert.AdamPoolScale.main_arg2) = m ((c.tc : Thread Cert.AdamPoolScale.nD Cert.AdamPoolScale.τ).loc Cert.AdamPoolScale.main_arg2)
      ∧ r.2.mem ((c.tc : Thread Cert.AdamPoolScale.nD Cert.AdamPoolScale.τ).loc Cert.AdamPoolScale.main_arg3) = m ((c.tc : Thread Cert.AdamPoolScale.nD Cert.AdamPoolScale.τ).loc Cert.AdamPoolScale.main_arg3))
      ∧ r.2.sem = fun _ => 0)

def quiescent_AdamPoolScaleIdeal [hAdamPoolScaleIdeal : Cert.AdamPoolScaleIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg), Pre_AdamPoolScaleIdeal m →
    θ_run (Cert.AdamPoolScaleIdeal.defs (F := Ideal)) (onTc (τ := Cert.AdamPoolScaleIdeal.τ) (Cert.AdamPoolScaleIdeal.main (F := Ideal))) ⟨m, fun _ => 0, g⟩ (fun r => (∀ c : Dev Cert.AdamPoolScaleIdeal.nD,
      r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
      ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
      ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
      ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ r.2.sem = fun _ => 0)

def quiescent_AdamPoolScaleReferenceIdeal [hAdamPoolScaleReferenceIdeal : Cert.AdamPoolScaleReferenceIdeal.Facts] : Prop :=
  ∀ (m : (ℓ : Loc Cert.AdamPoolScaleReferenceIdeal.nD Cert.AdamPoolScaleReferenceIdeal.τ Cert.AdamPoolScaleReferenceIdeal.sig) → Buf (Elt Ideal) ℓ) (g : Dev Cert.AdamPoolScaleReferenceIdeal.nD → PrngReg), Pre_AdamPoolScaleReferenceIdeal m →
    θ_run (Cert.AdamPoolScaleReferenceIdeal.defs (F := Ideal)) (onTc (τ := Cert.AdamPoolScaleReferenceIdeal.τ) (Cert.AdamPoolScaleReferenceIdeal.main (F := Ideal))) ⟨m, fun _ => 0, g⟩ (fun r => (∀ c : Dev Cert.AdamPoolScaleReferenceIdeal.nD,
      r.2.mem ((c.tc : Thread Cert.AdamPoolScaleReferenceIdeal.nD Cert.AdamPoolScaleReferenceIdeal.τ).loc Cert.AdamPoolScaleReferenceIdeal.main_arg0) = m ((c.tc : Thread Cert.AdamPoolScaleReferenceIdeal.nD Cert.AdamPoolScaleReferenceIdeal.τ).loc Cert.AdamPoolScaleReferenceIdeal.main_arg0)
      ∧ r.2.mem ((c.tc : Thread Cert.AdamPoolScaleReferenceIdeal.nD Cert.AdamPoolScaleReferenceIdeal.τ).loc Cert.AdamPoolScaleReferenceIdeal.main_arg1) = m ((c.tc : Thread Cert.AdamPoolScaleReferenceIdeal.nD Cert.AdamPoolScaleReferenceIdeal.τ).loc Cert.AdamPoolScaleReferenceIdeal.main_arg1)
      ∧ r.2.mem ((c.tc : Thread Cert.AdamPoolScaleReferenceIdeal.nD Cert.AdamPoolScaleReferenceIdeal.τ).loc Cert.AdamPoolScaleReferenceIdeal.main_arg2) = m ((c.tc : Thread Cert.AdamPoolScaleReferenceIdeal.nD Cert.AdamPoolScaleReferenceIdeal.τ).loc Cert.AdamPoolScaleReferenceIdeal.main_arg2)
      ∧ r.2.mem ((c.tc : Thread Cert.AdamPoolScaleReferenceIdeal.nD Cert.AdamPoolScaleReferenceIdeal.τ).loc Cert.AdamPoolScaleReferenceIdeal.main_arg3) = m ((c.tc : Thread Cert.AdamPoolScaleReferenceIdeal.nD Cert.AdamPoolScaleReferenceIdeal.τ).loc Cert.AdamPoolScaleReferenceIdeal.main_arg3))
      ∧ r.2.sem = fun _ => 0)

def quiescent_AdamConvW [hAdamConvW : Cert.AdamConvW.Facts] : Prop :=
  ∀ (m : (ℓ : Loc Cert.AdamConvW.nD Cert.AdamConvW.τ Cert.AdamConvW.sig) → Buf (Elt Bits) ℓ) (g : Dev Cert.AdamConvW.nD → PrngReg), Pre_AdamConvW m →
    θ_run (Cert.AdamConvW.defs (F := Bits)) (onTc (τ := Cert.AdamConvW.τ) (Cert.AdamConvW.main (F := Bits))) ⟨m, fun _ => 0, g⟩ (fun r => (∀ c : Dev Cert.AdamConvW.nD,
      r.2.mem ((c.tc : Thread Cert.AdamConvW.nD Cert.AdamConvW.τ).loc Cert.AdamConvW.main_arg0) = m ((c.tc : Thread Cert.AdamConvW.nD Cert.AdamConvW.τ).loc Cert.AdamConvW.main_arg0)
      ∧ r.2.mem ((c.tc : Thread Cert.AdamConvW.nD Cert.AdamConvW.τ).loc Cert.AdamConvW.main_arg1) = m ((c.tc : Thread Cert.AdamConvW.nD Cert.AdamConvW.τ).loc Cert.AdamConvW.main_arg1)
      ∧ r.2.mem ((c.tc : Thread Cert.AdamConvW.nD Cert.AdamConvW.τ).loc Cert.AdamConvW.main_arg2) = m ((c.tc : Thread Cert.AdamConvW.nD Cert.AdamConvW.τ).loc Cert.AdamConvW.main_arg2)
      ∧ r.2.mem ((c.tc : Thread Cert.AdamConvW.nD Cert.AdamConvW.τ).loc Cert.AdamConvW.main_arg3) = m ((c.tc : Thread Cert.AdamConvW.nD Cert.AdamConvW.τ).loc Cert.AdamConvW.main_arg3))
      ∧ r.2.sem = fun _ => 0)

def quiescent_AdamConvWIdeal [hAdamConvWIdeal : Cert.AdamConvWIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg), Pre_AdamConvWIdeal m →
    θ_run (Cert.AdamConvWIdeal.defs (F := Ideal)) (onTc (τ := Cert.AdamConvWIdeal.τ) (Cert.AdamConvWIdeal.main (F := Ideal))) ⟨m, fun _ => 0, g⟩ (fun r => (∀ c : Dev Cert.AdamConvWIdeal.nD,
      r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
      ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
      ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
      ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ r.2.sem = fun _ => 0)

def quiescent_AdamConvWReferenceIdeal [hAdamConvWReferenceIdeal : Cert.AdamConvWReferenceIdeal.Facts] : Prop :=
  ∀ (m : (ℓ : Loc Cert.AdamConvWReferenceIdeal.nD Cert.AdamConvWReferenceIdeal.τ Cert.AdamConvWReferenceIdeal.sig) → Buf (Elt Ideal) ℓ) (g : Dev Cert.AdamConvWReferenceIdeal.nD → PrngReg), Pre_AdamConvWReferenceIdeal m →
    θ_run (Cert.AdamConvWReferenceIdeal.defs (F := Ideal)) (onTc (τ := Cert.AdamConvWReferenceIdeal.τ) (Cert.AdamConvWReferenceIdeal.main (F := Ideal))) ⟨m, fun _ => 0, g⟩ (fun r => (∀ c : Dev Cert.AdamConvWReferenceIdeal.nD,
      r.2.mem ((c.tc : Thread Cert.AdamConvWReferenceIdeal.nD Cert.AdamConvWReferenceIdeal.τ).loc Cert.AdamConvWReferenceIdeal.main_arg0) = m ((c.tc : Thread Cert.AdamConvWReferenceIdeal.nD Cert.AdamConvWReferenceIdeal.τ).loc Cert.AdamConvWReferenceIdeal.main_arg0)
      ∧ r.2.mem ((c.tc : Thread Cert.AdamConvWReferenceIdeal.nD Cert.AdamConvWReferenceIdeal.τ).loc Cert.AdamConvWReferenceIdeal.main_arg1) = m ((c.tc : Thread Cert.AdamConvWReferenceIdeal.nD Cert.AdamConvWReferenceIdeal.τ).loc Cert.AdamConvWReferenceIdeal.main_arg1)
      ∧ r.2.mem ((c.tc : Thread Cert.AdamConvWReferenceIdeal.nD Cert.AdamConvWReferenceIdeal.τ).loc Cert.AdamConvWReferenceIdeal.main_arg2) = m ((c.tc : Thread Cert.AdamConvWReferenceIdeal.nD Cert.AdamConvWReferenceIdeal.τ).loc Cert.AdamConvWReferenceIdeal.main_arg2)
      ∧ r.2.mem ((c.tc : Thread Cert.AdamConvWReferenceIdeal.nD Cert.AdamConvWReferenceIdeal.τ).loc Cert.AdamConvWReferenceIdeal.main_arg3) = m ((c.tc : Thread Cert.AdamConvWReferenceIdeal.nD Cert.AdamConvWReferenceIdeal.τ).loc Cert.AdamConvWReferenceIdeal.main_arg3))
      ∧ r.2.sem = fun _ => 0)

def quiescent_AdamLru [hAdamLru : Cert.AdamLru.Facts] : Prop :=
  ∀ (m : (ℓ : Loc Cert.AdamLru.nD Cert.AdamLru.τ Cert.AdamLru.sig) → Buf (Elt Bits) ℓ) (g : Dev Cert.AdamLru.nD → PrngReg), Pre_AdamLru m →
    θ_run (Cert.AdamLru.defs (F := Bits)) (onTc (τ := Cert.AdamLru.τ) (Cert.AdamLru.main (F := Bits))) ⟨m, fun _ => 0, g⟩ (fun r => (∀ c : Dev Cert.AdamLru.nD,
      r.2.mem ((c.tc : Thread Cert.AdamLru.nD Cert.AdamLru.τ).loc Cert.AdamLru.main_arg0) = m ((c.tc : Thread Cert.AdamLru.nD Cert.AdamLru.τ).loc Cert.AdamLru.main_arg0)
      ∧ r.2.mem ((c.tc : Thread Cert.AdamLru.nD Cert.AdamLru.τ).loc Cert.AdamLru.main_arg1) = m ((c.tc : Thread Cert.AdamLru.nD Cert.AdamLru.τ).loc Cert.AdamLru.main_arg1)
      ∧ r.2.mem ((c.tc : Thread Cert.AdamLru.nD Cert.AdamLru.τ).loc Cert.AdamLru.main_arg2) = m ((c.tc : Thread Cert.AdamLru.nD Cert.AdamLru.τ).loc Cert.AdamLru.main_arg2)
      ∧ r.2.mem ((c.tc : Thread Cert.AdamLru.nD Cert.AdamLru.τ).loc Cert.AdamLru.main_arg3) = m ((c.tc : Thread Cert.AdamLru.nD Cert.AdamLru.τ).loc Cert.AdamLru.main_arg3))
      ∧ r.2.sem = fun _ => 0)

def quiescent_AdamLruIdeal [hAdamLruIdeal : Cert.AdamLruIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg), Pre_AdamLruIdeal m →
    θ_run (Cert.AdamLruIdeal.defs (F := Ideal)) (onTc (τ := Cert.AdamLruIdeal.τ) (Cert.AdamLruIdeal.main (F := Ideal))) ⟨m, fun _ => 0, g⟩ (fun r => (∀ c : Dev Cert.AdamLruIdeal.nD,
      r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
      ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
      ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
      ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ r.2.sem = fun _ => 0)

def quiescent_AdamLruReferenceIdeal [hAdamLruReferenceIdeal : Cert.AdamLruReferenceIdeal.Facts] : Prop :=
  ∀ (m : (ℓ : Loc Cert.AdamLruReferenceIdeal.nD Cert.AdamLruReferenceIdeal.τ Cert.AdamLruReferenceIdeal.sig) → Buf (Elt Ideal) ℓ) (g : Dev Cert.AdamLruReferenceIdeal.nD → PrngReg), Pre_AdamLruReferenceIdeal m →
    θ_run (Cert.AdamLruReferenceIdeal.defs (F := Ideal)) (onTc (τ := Cert.AdamLruReferenceIdeal.τ) (Cert.AdamLruReferenceIdeal.main (F := Ideal))) ⟨m, fun _ => 0, g⟩ (fun r => (∀ c : Dev Cert.AdamLruReferenceIdeal.nD,
      r.2.mem ((c.tc : Thread Cert.AdamLruReferenceIdeal.nD Cert.AdamLruReferenceIdeal.τ).loc Cert.AdamLruReferenceIdeal.main_arg0) = m ((c.tc : Thread Cert.AdamLruReferenceIdeal.nD Cert.AdamLruReferenceIdeal.τ).loc Cert.AdamLruReferenceIdeal.main_arg0)
      ∧ r.2.mem ((c.tc : Thread Cert.AdamLruReferenceIdeal.nD Cert.AdamLruReferenceIdeal.τ).loc Cert.AdamLruReferenceIdeal.main_arg1) = m ((c.tc : Thread Cert.AdamLruReferenceIdeal.nD Cert.AdamLruReferenceIdeal.τ).loc Cert.AdamLruReferenceIdeal.main_arg1)
      ∧ r.2.mem ((c.tc : Thread Cert.AdamLruReferenceIdeal.nD Cert.AdamLruReferenceIdeal.τ).loc Cert.AdamLruReferenceIdeal.main_arg2) = m ((c.tc : Thread Cert.AdamLruReferenceIdeal.nD Cert.AdamLruReferenceIdeal.τ).loc Cert.AdamLruReferenceIdeal.main_arg2)
      ∧ r.2.mem ((c.tc : Thread Cert.AdamLruReferenceIdeal.nD Cert.AdamLruReferenceIdeal.τ).loc Cert.AdamLruReferenceIdeal.main_arg3) = m ((c.tc : Thread Cert.AdamLruReferenceIdeal.nD Cert.AdamLruReferenceIdeal.τ).loc Cert.AdamLruReferenceIdeal.main_arg3))
      ∧ r.2.sem = fun _ => 0)

def quiescent_AdamHeadW [hAdamHeadW : Cert.AdamHeadW.Facts] : Prop :=
  ∀ (m : (ℓ : Loc Cert.AdamHeadW.nD Cert.AdamHeadW.τ Cert.AdamHeadW.sig) → Buf (Elt Bits) ℓ) (g : Dev Cert.AdamHeadW.nD → PrngReg), Pre_AdamHeadW m →
    θ_run (Cert.AdamHeadW.defs (F := Bits)) (onTc (τ := Cert.AdamHeadW.τ) (Cert.AdamHeadW.main (F := Bits))) ⟨m, fun _ => 0, g⟩ (fun r => (∀ c : Dev Cert.AdamHeadW.nD,
      r.2.mem ((c.tc : Thread Cert.AdamHeadW.nD Cert.AdamHeadW.τ).loc Cert.AdamHeadW.main_arg0) = m ((c.tc : Thread Cert.AdamHeadW.nD Cert.AdamHeadW.τ).loc Cert.AdamHeadW.main_arg0)
      ∧ r.2.mem ((c.tc : Thread Cert.AdamHeadW.nD Cert.AdamHeadW.τ).loc Cert.AdamHeadW.main_arg1) = m ((c.tc : Thread Cert.AdamHeadW.nD Cert.AdamHeadW.τ).loc Cert.AdamHeadW.main_arg1)
      ∧ r.2.mem ((c.tc : Thread Cert.AdamHeadW.nD Cert.AdamHeadW.τ).loc Cert.AdamHeadW.main_arg2) = m ((c.tc : Thread Cert.AdamHeadW.nD Cert.AdamHeadW.τ).loc Cert.AdamHeadW.main_arg2)
      ∧ r.2.mem ((c.tc : Thread Cert.AdamHeadW.nD Cert.AdamHeadW.τ).loc Cert.AdamHeadW.main_arg3) = m ((c.tc : Thread Cert.AdamHeadW.nD Cert.AdamHeadW.τ).loc Cert.AdamHeadW.main_arg3))
      ∧ r.2.sem = fun _ => 0)

def quiescent_AdamHeadWIdeal [hAdamHeadWIdeal : Cert.AdamHeadWIdeal.Facts] : Prop :=
  ∀ (m : (ℓ : Loc Cert.AdamHeadWIdeal.nD Cert.AdamHeadWIdeal.τ Cert.AdamHeadWIdeal.sig) → Buf (Elt Ideal) ℓ) (g : Dev Cert.AdamHeadWIdeal.nD → PrngReg), Pre_AdamHeadWIdeal m →
    θ_run (Cert.AdamHeadWIdeal.defs (F := Ideal)) (onTc (τ := Cert.AdamHeadWIdeal.τ) (Cert.AdamHeadWIdeal.main (F := Ideal))) ⟨m, fun _ => 0, g⟩ (fun r => (∀ c : Dev Cert.AdamHeadWIdeal.nD,
      r.2.mem ((c.tc : Thread Cert.AdamHeadWIdeal.nD Cert.AdamHeadWIdeal.τ).loc Cert.AdamHeadWIdeal.main_arg0) = m ((c.tc : Thread Cert.AdamHeadWIdeal.nD Cert.AdamHeadWIdeal.τ).loc Cert.AdamHeadWIdeal.main_arg0)
      ∧ r.2.mem ((c.tc : Thread Cert.AdamHeadWIdeal.nD Cert.AdamHeadWIdeal.τ).loc Cert.AdamHeadWIdeal.main_arg1) = m ((c.tc : Thread Cert.AdamHeadWIdeal.nD Cert.AdamHeadWIdeal.τ).loc Cert.AdamHeadWIdeal.main_arg1)
      ∧ r.2.mem ((c.tc : Thread Cert.AdamHeadWIdeal.nD Cert.AdamHeadWIdeal.τ).loc Cert.AdamHeadWIdeal.main_arg2) = m ((c.tc : Thread Cert.AdamHeadWIdeal.nD Cert.AdamHeadWIdeal.τ).loc Cert.AdamHeadWIdeal.main_arg2)
      ∧ r.2.mem ((c.tc : Thread Cert.AdamHeadWIdeal.nD Cert.AdamHeadWIdeal.τ).loc Cert.AdamHeadWIdeal.main_arg3) = m ((c.tc : Thread Cert.AdamHeadWIdeal.nD Cert.AdamHeadWIdeal.τ).loc Cert.AdamHeadWIdeal.main_arg3))
      ∧ r.2.sem = fun _ => 0)

def quiescent_AdamHeadWReferenceIdeal [hAdamHeadWReferenceIdeal : Cert.AdamHeadWReferenceIdeal.Facts] : Prop :=
  ∀ (m : (ℓ : Loc Cert.AdamHeadWReferenceIdeal.nD Cert.AdamHeadWReferenceIdeal.τ Cert.AdamHeadWReferenceIdeal.sig) → Buf (Elt Ideal) ℓ) (g : Dev Cert.AdamHeadWReferenceIdeal.nD → PrngReg), Pre_AdamHeadWReferenceIdeal m →
    θ_run (Cert.AdamHeadWReferenceIdeal.defs (F := Ideal)) (onTc (τ := Cert.AdamHeadWReferenceIdeal.τ) (Cert.AdamHeadWReferenceIdeal.main (F := Ideal))) ⟨m, fun _ => 0, g⟩ (fun r => (∀ c : Dev Cert.AdamHeadWReferenceIdeal.nD,
      r.2.mem ((c.tc : Thread Cert.AdamHeadWReferenceIdeal.nD Cert.AdamHeadWReferenceIdeal.τ).loc Cert.AdamHeadWReferenceIdeal.main_arg0) = m ((c.tc : Thread Cert.AdamHeadWReferenceIdeal.nD Cert.AdamHeadWReferenceIdeal.τ).loc Cert.AdamHeadWReferenceIdeal.main_arg0)
      ∧ r.2.mem ((c.tc : Thread Cert.AdamHeadWReferenceIdeal.nD Cert.AdamHeadWReferenceIdeal.τ).loc Cert.AdamHeadWReferenceIdeal.main_arg1) = m ((c.tc : Thread Cert.AdamHeadWReferenceIdeal.nD Cert.AdamHeadWReferenceIdeal.τ).loc Cert.AdamHeadWReferenceIdeal.main_arg1)
      ∧ r.2.mem ((c.tc : Thread Cert.AdamHeadWReferenceIdeal.nD Cert.AdamHeadWReferenceIdeal.τ).loc Cert.AdamHeadWReferenceIdeal.main_arg2) = m ((c.tc : Thread Cert.AdamHeadWReferenceIdeal.nD Cert.AdamHeadWReferenceIdeal.τ).loc Cert.AdamHeadWReferenceIdeal.main_arg2)
      ∧ r.2.mem ((c.tc : Thread Cert.AdamHeadWReferenceIdeal.nD Cert.AdamHeadWReferenceIdeal.τ).loc Cert.AdamHeadWReferenceIdeal.main_arg3) = m ((c.tc : Thread Cert.AdamHeadWReferenceIdeal.nD Cert.AdamHeadWReferenceIdeal.τ).loc Cert.AdamHeadWReferenceIdeal.main_arg3))
      ∧ r.2.sem = fun _ => 0)

def quiescent_AdamHeadB [hAdamHeadB : Cert.AdamHeadB.Facts] : Prop :=
  ∀ (m : (ℓ : Loc Cert.AdamHeadB.nD Cert.AdamHeadB.τ Cert.AdamHeadB.sig) → Buf (Elt Bits) ℓ) (g : Dev Cert.AdamHeadB.nD → PrngReg), Pre_AdamHeadB m →
    θ_run (Cert.AdamHeadB.defs (F := Bits)) (onTc (τ := Cert.AdamHeadB.τ) (Cert.AdamHeadB.main (F := Bits))) ⟨m, fun _ => 0, g⟩ (fun r => (∀ c : Dev Cert.AdamHeadB.nD,
      r.2.mem ((c.tc : Thread Cert.AdamHeadB.nD Cert.AdamHeadB.τ).loc Cert.AdamHeadB.main_arg0) = m ((c.tc : Thread Cert.AdamHeadB.nD Cert.AdamHeadB.τ).loc Cert.AdamHeadB.main_arg0)
      ∧ r.2.mem ((c.tc : Thread Cert.AdamHeadB.nD Cert.AdamHeadB.τ).loc Cert.AdamHeadB.main_arg1) = m ((c.tc : Thread Cert.AdamHeadB.nD Cert.AdamHeadB.τ).loc Cert.AdamHeadB.main_arg1)
      ∧ r.2.mem ((c.tc : Thread Cert.AdamHeadB.nD Cert.AdamHeadB.τ).loc Cert.AdamHeadB.main_arg2) = m ((c.tc : Thread Cert.AdamHeadB.nD Cert.AdamHeadB.τ).loc Cert.AdamHeadB.main_arg2)
      ∧ r.2.mem ((c.tc : Thread Cert.AdamHeadB.nD Cert.AdamHeadB.τ).loc Cert.AdamHeadB.main_arg3) = m ((c.tc : Thread Cert.AdamHeadB.nD Cert.AdamHeadB.τ).loc Cert.AdamHeadB.main_arg3))
      ∧ r.2.sem = fun _ => 0)

def quiescent_AdamHeadBIdeal [hAdamHeadBIdeal : Cert.AdamHeadBIdeal.Facts] : Prop :=
  ∀ (m : (ℓ : Loc Cert.AdamHeadBIdeal.nD Cert.AdamHeadBIdeal.τ Cert.AdamHeadBIdeal.sig) → Buf (Elt Ideal) ℓ) (g : Dev Cert.AdamHeadBIdeal.nD → PrngReg), Pre_AdamHeadBIdeal m →
    θ_run (Cert.AdamHeadBIdeal.defs (F := Ideal)) (onTc (τ := Cert.AdamHeadBIdeal.τ) (Cert.AdamHeadBIdeal.main (F := Ideal))) ⟨m, fun _ => 0, g⟩ (fun r => (∀ c : Dev Cert.AdamHeadBIdeal.nD,
      r.2.mem ((c.tc : Thread Cert.AdamHeadBIdeal.nD Cert.AdamHeadBIdeal.τ).loc Cert.AdamHeadBIdeal.main_arg0) = m ((c.tc : Thread Cert.AdamHeadBIdeal.nD Cert.AdamHeadBIdeal.τ).loc Cert.AdamHeadBIdeal.main_arg0)
      ∧ r.2.mem ((c.tc : Thread Cert.AdamHeadBIdeal.nD Cert.AdamHeadBIdeal.τ).loc Cert.AdamHeadBIdeal.main_arg1) = m ((c.tc : Thread Cert.AdamHeadBIdeal.nD Cert.AdamHeadBIdeal.τ).loc Cert.AdamHeadBIdeal.main_arg1)
      ∧ r.2.mem ((c.tc : Thread Cert.AdamHeadBIdeal.nD Cert.AdamHeadBIdeal.τ).loc Cert.AdamHeadBIdeal.main_arg2) = m ((c.tc : Thread Cert.AdamHeadBIdeal.nD Cert.AdamHeadBIdeal.τ).loc Cert.AdamHeadBIdeal.main_arg2)
      ∧ r.2.mem ((c.tc : Thread Cert.AdamHeadBIdeal.nD Cert.AdamHeadBIdeal.τ).loc Cert.AdamHeadBIdeal.main_arg3) = m ((c.tc : Thread Cert.AdamHeadBIdeal.nD Cert.AdamHeadBIdeal.τ).loc Cert.AdamHeadBIdeal.main_arg3))
      ∧ r.2.sem = fun _ => 0)

def quiescent_AdamHeadBReferenceIdeal [hAdamHeadBReferenceIdeal : Cert.AdamHeadBReferenceIdeal.Facts] : Prop :=
  ∀ (m : (ℓ : Loc Cert.AdamHeadBReferenceIdeal.nD Cert.AdamHeadBReferenceIdeal.τ Cert.AdamHeadBReferenceIdeal.sig) → Buf (Elt Ideal) ℓ) (g : Dev Cert.AdamHeadBReferenceIdeal.nD → PrngReg), Pre_AdamHeadBReferenceIdeal m →
    θ_run (Cert.AdamHeadBReferenceIdeal.defs (F := Ideal)) (onTc (τ := Cert.AdamHeadBReferenceIdeal.τ) (Cert.AdamHeadBReferenceIdeal.main (F := Ideal))) ⟨m, fun _ => 0, g⟩ (fun r => (∀ c : Dev Cert.AdamHeadBReferenceIdeal.nD,
      r.2.mem ((c.tc : Thread Cert.AdamHeadBReferenceIdeal.nD Cert.AdamHeadBReferenceIdeal.τ).loc Cert.AdamHeadBReferenceIdeal.main_arg0) = m ((c.tc : Thread Cert.AdamHeadBReferenceIdeal.nD Cert.AdamHeadBReferenceIdeal.τ).loc Cert.AdamHeadBReferenceIdeal.main_arg0)
      ∧ r.2.mem ((c.tc : Thread Cert.AdamHeadBReferenceIdeal.nD Cert.AdamHeadBReferenceIdeal.τ).loc Cert.AdamHeadBReferenceIdeal.main_arg1) = m ((c.tc : Thread Cert.AdamHeadBReferenceIdeal.nD Cert.AdamHeadBReferenceIdeal.τ).loc Cert.AdamHeadBReferenceIdeal.main_arg1)
      ∧ r.2.mem ((c.tc : Thread Cert.AdamHeadBReferenceIdeal.nD Cert.AdamHeadBReferenceIdeal.τ).loc Cert.AdamHeadBReferenceIdeal.main_arg2) = m ((c.tc : Thread Cert.AdamHeadBReferenceIdeal.nD Cert.AdamHeadBReferenceIdeal.τ).loc Cert.AdamHeadBReferenceIdeal.main_arg2)
      ∧ r.2.mem ((c.tc : Thread Cert.AdamHeadBReferenceIdeal.nD Cert.AdamHeadBReferenceIdeal.τ).loc Cert.AdamHeadBReferenceIdeal.main_arg3) = m ((c.tc : Thread Cert.AdamHeadBReferenceIdeal.nD Cert.AdamHeadBReferenceIdeal.τ).loc Cert.AdamHeadBReferenceIdeal.main_arg3))
      ∧ r.2.sem = fun _ => 0)

def quiescent_AdamFinal [hAdamFinal : Cert.AdamFinal.Facts] : Prop :=
  ∀ (m : (ℓ : Loc Cert.AdamFinal.nD Cert.AdamFinal.τ Cert.AdamFinal.sig) → Buf (Elt Bits) ℓ) (g : Dev Cert.AdamFinal.nD → PrngReg), Pre_AdamFinal m →
    θ_run (Cert.AdamFinal.defs (F := Bits)) (onTc (τ := Cert.AdamFinal.τ) (Cert.AdamFinal.main (F := Bits))) ⟨m, fun _ => 0, g⟩ (fun r => (∀ c : Dev Cert.AdamFinal.nD,
      r.2.mem ((c.tc : Thread Cert.AdamFinal.nD Cert.AdamFinal.τ).loc Cert.AdamFinal.main_arg0) = m ((c.tc : Thread Cert.AdamFinal.nD Cert.AdamFinal.τ).loc Cert.AdamFinal.main_arg0)
      ∧ r.2.mem ((c.tc : Thread Cert.AdamFinal.nD Cert.AdamFinal.τ).loc Cert.AdamFinal.main_arg1) = m ((c.tc : Thread Cert.AdamFinal.nD Cert.AdamFinal.τ).loc Cert.AdamFinal.main_arg1)
      ∧ r.2.mem ((c.tc : Thread Cert.AdamFinal.nD Cert.AdamFinal.τ).loc Cert.AdamFinal.main_arg2) = m ((c.tc : Thread Cert.AdamFinal.nD Cert.AdamFinal.τ).loc Cert.AdamFinal.main_arg2)
      ∧ r.2.mem ((c.tc : Thread Cert.AdamFinal.nD Cert.AdamFinal.τ).loc Cert.AdamFinal.main_arg3) = m ((c.tc : Thread Cert.AdamFinal.nD Cert.AdamFinal.τ).loc Cert.AdamFinal.main_arg3))
      ∧ r.2.sem = fun _ => 0)

def quiescent_AdamFinalIdeal [hAdamFinalIdeal : Cert.AdamFinalIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg), Pre_AdamFinalIdeal m →
    θ_run (Cert.AdamFinalIdeal.defs (F := Ideal)) (onTc (τ := Cert.AdamFinalIdeal.τ) (Cert.AdamFinalIdeal.main (F := Ideal))) ⟨m, fun _ => 0, g⟩ (fun r => (∀ c : Dev Cert.AdamFinalIdeal.nD,
      r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
      ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
      ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
      ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ r.2.sem = fun _ => 0)

def quiescent_AdamFinalReferenceIdeal [hAdamFinalReferenceIdeal : Cert.AdamFinalReferenceIdeal.Facts] : Prop :=
  ∀ (m : (ℓ : Loc Cert.AdamFinalReferenceIdeal.nD Cert.AdamFinalReferenceIdeal.τ Cert.AdamFinalReferenceIdeal.sig) → Buf (Elt Ideal) ℓ) (g : Dev Cert.AdamFinalReferenceIdeal.nD → PrngReg), Pre_AdamFinalReferenceIdeal m →
    θ_run (Cert.AdamFinalReferenceIdeal.defs (F := Ideal)) (onTc (τ := Cert.AdamFinalReferenceIdeal.τ) (Cert.AdamFinalReferenceIdeal.main (F := Ideal))) ⟨m, fun _ => 0, g⟩ (fun r => (∀ c : Dev Cert.AdamFinalReferenceIdeal.nD,
      r.2.mem ((c.tc : Thread Cert.AdamFinalReferenceIdeal.nD Cert.AdamFinalReferenceIdeal.τ).loc Cert.AdamFinalReferenceIdeal.main_arg0) = m ((c.tc : Thread Cert.AdamFinalReferenceIdeal.nD Cert.AdamFinalReferenceIdeal.τ).loc Cert.AdamFinalReferenceIdeal.main_arg0)
      ∧ r.2.mem ((c.tc : Thread Cert.AdamFinalReferenceIdeal.nD Cert.AdamFinalReferenceIdeal.τ).loc Cert.AdamFinalReferenceIdeal.main_arg1) = m ((c.tc : Thread Cert.AdamFinalReferenceIdeal.nD Cert.AdamFinalReferenceIdeal.τ).loc Cert.AdamFinalReferenceIdeal.main_arg1)
      ∧ r.2.mem ((c.tc : Thread Cert.AdamFinalReferenceIdeal.nD Cert.AdamFinalReferenceIdeal.τ).loc Cert.AdamFinalReferenceIdeal.main_arg2) = m ((c.tc : Thread Cert.AdamFinalReferenceIdeal.nD Cert.AdamFinalReferenceIdeal.τ).loc Cert.AdamFinalReferenceIdeal.main_arg2)
      ∧ r.2.mem ((c.tc : Thread Cert.AdamFinalReferenceIdeal.nD Cert.AdamFinalReferenceIdeal.τ).loc Cert.AdamFinalReferenceIdeal.main_arg3) = m ((c.tc : Thread Cert.AdamFinalReferenceIdeal.nD Cert.AdamFinalReferenceIdeal.τ).loc Cert.AdamFinalReferenceIdeal.main_arg3))
      ∧ r.2.sem = fun _ => 0)

def quiescent_SumFfn [hSumFfn : Cert.SumFfn.Facts] [hPre_placed_ffn : Cert.Pre_placed_ffn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0)
      ∧ r.2.mem ((c.tc : Thread Cert.SumFfn.nD Cert.SumFfn.τ).loc Cert.SumFfn.main_arg1) = m ((c.tc : Thread Cert.SumFfn.nD Cert.SumFfn.τ).loc Cert.SumFfn.main_arg1)
      ∧ r.2.mem ((c.tc : Thread Cert.SumFfn.nD Cert.SumFfn.τ).loc Cert.SumFfn.main_arg2) = m ((c.tc : Thread Cert.SumFfn.nD Cert.SumFfn.τ).loc Cert.SumFfn.main_arg2)
      ∧ r.2.mem ((c.tc : Thread Cert.SumFfn.nD Cert.SumFfn.τ).loc Cert.SumFfn.main_arg3) = m ((c.tc : Thread Cert.SumFfn.nD Cert.SumFfn.τ).loc Cert.SumFfn.main_arg3)
      ∧ r.2.mem ((c.tc : Thread Cert.SumFfn.nD Cert.SumFfn.τ).loc Cert.SumFfn.main_arg4) = m ((c.tc : Thread Cert.SumFfn.nD Cert.SumFfn.τ).loc Cert.SumFfn.main_arg4)
      ∧ r.2.mem ((c.tc : Thread Cert.SumFfn.nD Cert.SumFfn.τ).loc Cert.SumFfn.main_arg5) = m ((c.tc : Thread Cert.SumFfn.nD Cert.SumFfn.τ).loc Cert.SumFfn.main_arg5)
      ∧ r.2.mem ((c.tc : Thread Cert.SumFfn.nD Cert.SumFfn.τ).loc Cert.SumFfn.main_arg6) = m ((c.tc : Thread Cert.SumFfn.nD Cert.SumFfn.τ).loc Cert.SumFfn.main_arg6)
      ∧ r.2.mem ((c.tc : Thread Cert.SumFfn.nD Cert.SumFfn.τ).loc Cert.SumFfn.main_arg7) = m ((c.tc : Thread Cert.SumFfn.nD Cert.SumFfn.τ).loc Cert.SumFfn.main_arg7)
      ∧ r.2.mem ((c.tc : Thread Cert.SumFfn.nD Cert.SumFfn.τ).loc Cert.SumFfn.main_arg8) = m ((c.tc : Thread Cert.SumFfn.nD Cert.SumFfn.τ).loc Cert.SumFfn.main_arg8)
      ∧ r.2.mem ((c.tc : Thread Cert.SumFfn.nD Cert.SumFfn.τ).loc Cert.SumFfn.main_arg9) = m ((c.tc : Thread Cert.SumFfn.nD Cert.SumFfn.τ).loc Cert.SumFfn.main_arg9)
      ∧ r.2.mem ((c.tc : Thread Cert.SumFfn.nD Cert.SumFfn.τ).loc Cert.SumFfn.main_arg10) = m ((c.tc : Thread Cert.SumFfn.nD Cert.SumFfn.τ).loc Cert.SumFfn.main_arg10)
      ∧ r.2.mem ((c.tc : Thread Cert.SumFfn.nD Cert.SumFfn.τ).loc Cert.SumFfn.main_arg11) = m ((c.tc : Thread Cert.SumFfn.nD Cert.SumFfn.τ).loc Cert.SumFfn.main_arg11)
      ∧ r.2.mem ((c.tc : Thread Cert.SumFfn.nD Cert.SumFfn.τ).loc Cert.SumFfn.main_arg12) = m ((c.tc : Thread Cert.SumFfn.nD Cert.SumFfn.τ).loc Cert.SumFfn.main_arg12)
      ∧ r.2.mem ((c.tc : Thread Cert.SumFfn.nD Cert.SumFfn.τ).loc Cert.SumFfn.main_arg13) = m ((c.tc : Thread Cert.SumFfn.nD Cert.SumFfn.τ).loc Cert.SumFfn.main_arg13)
      ∧ r.2.mem ((c.tc : Thread Cert.SumFfn.nD Cert.SumFfn.τ).loc Cert.SumFfn.main_arg14) = m ((c.tc : Thread Cert.SumFfn.nD Cert.SumFfn.τ).loc Cert.SumFfn.main_arg14)
      ∧ r.2.mem ((c.tc : Thread Cert.SumFfn.nD Cert.SumFfn.τ).loc Cert.SumFfn.main_arg15) = m ((c.tc : Thread Cert.SumFfn.nD Cert.SumFfn.τ).loc Cert.SumFfn.main_arg15)
      ∧ r.2.mem ((c.tc : Thread Cert.SumFfn.nD Cert.SumFfn.τ).loc Cert.SumFfn.main_arg16) = m ((c.tc : Thread Cert.SumFfn.nD Cert.SumFfn.τ).loc Cert.SumFfn.main_arg16)
      ∧ r.2.mem ((c.tc : Thread Cert.SumFfn.nD Cert.SumFfn.τ).loc Cert.SumFfn.main_arg17) = m ((c.tc : Thread Cert.SumFfn.nD Cert.SumFfn.τ).loc Cert.SumFfn.main_arg17)
      ∧ r.2.mem ((c.tc : Thread Cert.SumFfn.nD Cert.SumFfn.τ).loc Cert.SumFfn.main_arg18) = m ((c.tc : Thread Cert.SumFfn.nD Cert.SumFfn.τ).loc Cert.SumFfn.main_arg18)
      ∧ r.2.mem ((c.tc : Thread Cert.SumFfn.nD Cert.SumFfn.τ).loc Cert.SumFfn.main_arg19) = m ((c.tc : Thread Cert.SumFfn.nD Cert.SumFfn.τ).loc Cert.SumFfn.main_arg19)
      ∧ r.2.mem ((c.tc : Thread Cert.SumFfn.nD Cert.SumFfn.τ).loc Cert.SumFfn.main_arg20) = m ((c.tc : Thread Cert.SumFfn.nD Cert.SumFfn.τ).loc Cert.SumFfn.main_arg20))
      ∧ r.2.sem = fun _ => 0)

def quiescent_SumFfnIdeal [hSumFfnIdeal : Cert.SumFfnIdeal.Facts] [hPre_placed_ffn : Cert.Pre_placed_ffn.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
      ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1)
      ∧ r.2.mem ((c.tc : Thread Cert.SumFfnIdeal.nD Cert.SumFfnIdeal.τ).loc Cert.SumFfnIdeal.main_arg2) = m ((c.tc : Thread Cert.SumFfnIdeal.nD Cert.SumFfnIdeal.τ).loc Cert.SumFfnIdeal.main_arg2)
      ∧ r.2.mem ((c.tc : Thread Cert.SumFfnIdeal.nD Cert.SumFfnIdeal.τ).loc Cert.SumFfnIdeal.main_arg3) = m ((c.tc : Thread Cert.SumFfnIdeal.nD Cert.SumFfnIdeal.τ).loc Cert.SumFfnIdeal.main_arg3)
      ∧ r.2.mem ((c.tc : Thread Cert.SumFfnIdeal.nD Cert.SumFfnIdeal.τ).loc Cert.SumFfnIdeal.main_arg4) = m ((c.tc : Thread Cert.SumFfnIdeal.nD Cert.SumFfnIdeal.τ).loc Cert.SumFfnIdeal.main_arg4)
      ∧ r.2.mem ((c.tc : Thread Cert.SumFfnIdeal.nD Cert.SumFfnIdeal.τ).loc Cert.SumFfnIdeal.main_arg5) = m ((c.tc : Thread Cert.SumFfnIdeal.nD Cert.SumFfnIdeal.τ).loc Cert.SumFfnIdeal.main_arg5)
      ∧ r.2.mem ((c.tc : Thread Cert.SumFfnIdeal.nD Cert.SumFfnIdeal.τ).loc Cert.SumFfnIdeal.main_arg6) = m ((c.tc : Thread Cert.SumFfnIdeal.nD Cert.SumFfnIdeal.τ).loc Cert.SumFfnIdeal.main_arg6)
      ∧ r.2.mem ((c.tc : Thread Cert.SumFfnIdeal.nD Cert.SumFfnIdeal.τ).loc Cert.SumFfnIdeal.main_arg7) = m ((c.tc : Thread Cert.SumFfnIdeal.nD Cert.SumFfnIdeal.τ).loc Cert.SumFfnIdeal.main_arg7)
      ∧ r.2.mem ((c.tc : Thread Cert.SumFfnIdeal.nD Cert.SumFfnIdeal.τ).loc Cert.SumFfnIdeal.main_arg8) = m ((c.tc : Thread Cert.SumFfnIdeal.nD Cert.SumFfnIdeal.τ).loc Cert.SumFfnIdeal.main_arg8)
      ∧ r.2.mem ((c.tc : Thread Cert.SumFfnIdeal.nD Cert.SumFfnIdeal.τ).loc Cert.SumFfnIdeal.main_arg9) = m ((c.tc : Thread Cert.SumFfnIdeal.nD Cert.SumFfnIdeal.τ).loc Cert.SumFfnIdeal.main_arg9)
      ∧ r.2.mem ((c.tc : Thread Cert.SumFfnIdeal.nD Cert.SumFfnIdeal.τ).loc Cert.SumFfnIdeal.main_arg10) = m ((c.tc : Thread Cert.SumFfnIdeal.nD Cert.SumFfnIdeal.τ).loc Cert.SumFfnIdeal.main_arg10)
      ∧ r.2.mem ((c.tc : Thread Cert.SumFfnIdeal.nD Cert.SumFfnIdeal.τ).loc Cert.SumFfnIdeal.main_arg11) = m ((c.tc : Thread Cert.SumFfnIdeal.nD Cert.SumFfnIdeal.τ).loc Cert.SumFfnIdeal.main_arg11)
      ∧ r.2.mem ((c.tc : Thread Cert.SumFfnIdeal.nD Cert.SumFfnIdeal.τ).loc Cert.SumFfnIdeal.main_arg12) = m ((c.tc : Thread Cert.SumFfnIdeal.nD Cert.SumFfnIdeal.τ).loc Cert.SumFfnIdeal.main_arg12)
      ∧ r.2.mem ((c.tc : Thread Cert.SumFfnIdeal.nD Cert.SumFfnIdeal.τ).loc Cert.SumFfnIdeal.main_arg13) = m ((c.tc : Thread Cert.SumFfnIdeal.nD Cert.SumFfnIdeal.τ).loc Cert.SumFfnIdeal.main_arg13)
      ∧ r.2.mem ((c.tc : Thread Cert.SumFfnIdeal.nD Cert.SumFfnIdeal.τ).loc Cert.SumFfnIdeal.main_arg14) = m ((c.tc : Thread Cert.SumFfnIdeal.nD Cert.SumFfnIdeal.τ).loc Cert.SumFfnIdeal.main_arg14)
      ∧ r.2.mem ((c.tc : Thread Cert.SumFfnIdeal.nD Cert.SumFfnIdeal.τ).loc Cert.SumFfnIdeal.main_arg15) = m ((c.tc : Thread Cert.SumFfnIdeal.nD Cert.SumFfnIdeal.τ).loc Cert.SumFfnIdeal.main_arg15)
      ∧ r.2.mem ((c.tc : Thread Cert.SumFfnIdeal.nD Cert.SumFfnIdeal.τ).loc Cert.SumFfnIdeal.main_arg16) = m ((c.tc : Thread Cert.SumFfnIdeal.nD Cert.SumFfnIdeal.τ).loc Cert.SumFfnIdeal.main_arg16)
      ∧ r.2.mem ((c.tc : Thread Cert.SumFfnIdeal.nD Cert.SumFfnIdeal.τ).loc Cert.SumFfnIdeal.main_arg17) = m ((c.tc : Thread Cert.SumFfnIdeal.nD Cert.SumFfnIdeal.τ).loc Cert.SumFfnIdeal.main_arg17)
      ∧ r.2.mem ((c.tc : Thread Cert.SumFfnIdeal.nD Cert.SumFfnIdeal.τ).loc Cert.SumFfnIdeal.main_arg18) = m ((c.tc : Thread Cert.SumFfnIdeal.nD Cert.SumFfnIdeal.τ).loc Cert.SumFfnIdeal.main_arg18)
      ∧ r.2.mem ((c.tc : Thread Cert.SumFfnIdeal.nD Cert.SumFfnIdeal.τ).loc Cert.SumFfnIdeal.main_arg19) = m ((c.tc : Thread Cert.SumFfnIdeal.nD Cert.SumFfnIdeal.τ).loc Cert.SumFfnIdeal.main_arg19)
      ∧ r.2.mem ((c.tc : Thread Cert.SumFfnIdeal.nD Cert.SumFfnIdeal.τ).loc Cert.SumFfnIdeal.main_arg20) = m ((c.tc : Thread Cert.SumFfnIdeal.nD Cert.SumFfnIdeal.τ).loc Cert.SumFfnIdeal.main_arg20))
      ∧ r.2.sem = fun _ => 0)

def quiescent_SumFfnReferenceIdeal [hSumFfnReferenceIdeal : Cert.SumFfnReferenceIdeal.Facts] : Prop :=
  ∀ (m : (ℓ : Loc Cert.SumFfnReferenceIdeal.nD Cert.SumFfnReferenceIdeal.τ Cert.SumFfnReferenceIdeal.sig) → Buf (Elt Ideal) ℓ) (g : Dev Cert.SumFfnReferenceIdeal.nD → PrngReg), Pre_SumFfnReferenceIdeal m →
    θ_run (Cert.SumFfnReferenceIdeal.defs (F := Ideal)) (onTc (τ := Cert.SumFfnReferenceIdeal.τ) (Cert.SumFfnReferenceIdeal.main (F := Ideal))) ⟨m, fun _ => 0, g⟩ (fun r => (∀ c : Dev Cert.SumFfnReferenceIdeal.nD,
      r.2.mem ((c.tc : Thread Cert.SumFfnReferenceIdeal.nD Cert.SumFfnReferenceIdeal.τ).loc Cert.SumFfnReferenceIdeal.main_arg0) = m ((c.tc : Thread Cert.SumFfnReferenceIdeal.nD Cert.SumFfnReferenceIdeal.τ).loc Cert.SumFfnReferenceIdeal.main_arg0)
      ∧ r.2.mem ((c.tc : Thread Cert.SumFfnReferenceIdeal.nD Cert.SumFfnReferenceIdeal.τ).loc Cert.SumFfnReferenceIdeal.main_arg1) = m ((c.tc : Thread Cert.SumFfnReferenceIdeal.nD Cert.SumFfnReferenceIdeal.τ).loc Cert.SumFfnReferenceIdeal.main_arg1)
      ∧ r.2.mem ((c.tc : Thread Cert.SumFfnReferenceIdeal.nD Cert.SumFfnReferenceIdeal.τ).loc Cert.SumFfnReferenceIdeal.main_arg2) = m ((c.tc : Thread Cert.SumFfnReferenceIdeal.nD Cert.SumFfnReferenceIdeal.τ).loc Cert.SumFfnReferenceIdeal.main_arg2)
      ∧ r.2.mem ((c.tc : Thread Cert.SumFfnReferenceIdeal.nD Cert.SumFfnReferenceIdeal.τ).loc Cert.SumFfnReferenceIdeal.main_arg3) = m ((c.tc : Thread Cert.SumFfnReferenceIdeal.nD Cert.SumFfnReferenceIdeal.τ).loc Cert.SumFfnReferenceIdeal.main_arg3)
      ∧ r.2.mem ((c.tc : Thread Cert.SumFfnReferenceIdeal.nD Cert.SumFfnReferenceIdeal.τ).loc Cert.SumFfnReferenceIdeal.main_arg4) = m ((c.tc : Thread Cert.SumFfnReferenceIdeal.nD Cert.SumFfnReferenceIdeal.τ).loc Cert.SumFfnReferenceIdeal.main_arg4)
      ∧ r.2.mem ((c.tc : Thread Cert.SumFfnReferenceIdeal.nD Cert.SumFfnReferenceIdeal.τ).loc Cert.SumFfnReferenceIdeal.main_arg5) = m ((c.tc : Thread Cert.SumFfnReferenceIdeal.nD Cert.SumFfnReferenceIdeal.τ).loc Cert.SumFfnReferenceIdeal.main_arg5)
      ∧ r.2.mem ((c.tc : Thread Cert.SumFfnReferenceIdeal.nD Cert.SumFfnReferenceIdeal.τ).loc Cert.SumFfnReferenceIdeal.main_arg6) = m ((c.tc : Thread Cert.SumFfnReferenceIdeal.nD Cert.SumFfnReferenceIdeal.τ).loc Cert.SumFfnReferenceIdeal.main_arg6)
      ∧ r.2.mem ((c.tc : Thread Cert.SumFfnReferenceIdeal.nD Cert.SumFfnReferenceIdeal.τ).loc Cert.SumFfnReferenceIdeal.main_arg7) = m ((c.tc : Thread Cert.SumFfnReferenceIdeal.nD Cert.SumFfnReferenceIdeal.τ).loc Cert.SumFfnReferenceIdeal.main_arg7)
      ∧ r.2.mem ((c.tc : Thread Cert.SumFfnReferenceIdeal.nD Cert.SumFfnReferenceIdeal.τ).loc Cert.SumFfnReferenceIdeal.main_arg8) = m ((c.tc : Thread Cert.SumFfnReferenceIdeal.nD Cert.SumFfnReferenceIdeal.τ).loc Cert.SumFfnReferenceIdeal.main_arg8)
      ∧ r.2.mem ((c.tc : Thread Cert.SumFfnReferenceIdeal.nD Cert.SumFfnReferenceIdeal.τ).loc Cert.SumFfnReferenceIdeal.main_arg9) = m ((c.tc : Thread Cert.SumFfnReferenceIdeal.nD Cert.SumFfnReferenceIdeal.τ).loc Cert.SumFfnReferenceIdeal.main_arg9)
      ∧ r.2.mem ((c.tc : Thread Cert.SumFfnReferenceIdeal.nD Cert.SumFfnReferenceIdeal.τ).loc Cert.SumFfnReferenceIdeal.main_arg10) = m ((c.tc : Thread Cert.SumFfnReferenceIdeal.nD Cert.SumFfnReferenceIdeal.τ).loc Cert.SumFfnReferenceIdeal.main_arg10)
      ∧ r.2.mem ((c.tc : Thread Cert.SumFfnReferenceIdeal.nD Cert.SumFfnReferenceIdeal.τ).loc Cert.SumFfnReferenceIdeal.main_arg11) = m ((c.tc : Thread Cert.SumFfnReferenceIdeal.nD Cert.SumFfnReferenceIdeal.τ).loc Cert.SumFfnReferenceIdeal.main_arg11)
      ∧ r.2.mem ((c.tc : Thread Cert.SumFfnReferenceIdeal.nD Cert.SumFfnReferenceIdeal.τ).loc Cert.SumFfnReferenceIdeal.main_arg12) = m ((c.tc : Thread Cert.SumFfnReferenceIdeal.nD Cert.SumFfnReferenceIdeal.τ).loc Cert.SumFfnReferenceIdeal.main_arg12)
      ∧ r.2.mem ((c.tc : Thread Cert.SumFfnReferenceIdeal.nD Cert.SumFfnReferenceIdeal.τ).loc Cert.SumFfnReferenceIdeal.main_arg13) = m ((c.tc : Thread Cert.SumFfnReferenceIdeal.nD Cert.SumFfnReferenceIdeal.τ).loc Cert.SumFfnReferenceIdeal.main_arg13)
      ∧ r.2.mem ((c.tc : Thread Cert.SumFfnReferenceIdeal.nD Cert.SumFfnReferenceIdeal.τ).loc Cert.SumFfnReferenceIdeal.main_arg14) = m ((c.tc : Thread Cert.SumFfnReferenceIdeal.nD Cert.SumFfnReferenceIdeal.τ).loc Cert.SumFfnReferenceIdeal.main_arg14)
      ∧ r.2.mem ((c.tc : Thread Cert.SumFfnReferenceIdeal.nD Cert.SumFfnReferenceIdeal.τ).loc Cert.SumFfnReferenceIdeal.main_arg15) = m ((c.tc : Thread Cert.SumFfnReferenceIdeal.nD Cert.SumFfnReferenceIdeal.τ).loc Cert.SumFfnReferenceIdeal.main_arg15)
      ∧ r.2.mem ((c.tc : Thread Cert.SumFfnReferenceIdeal.nD Cert.SumFfnReferenceIdeal.τ).loc Cert.SumFfnReferenceIdeal.main_arg16) = m ((c.tc : Thread Cert.SumFfnReferenceIdeal.nD Cert.SumFfnReferenceIdeal.τ).loc Cert.SumFfnReferenceIdeal.main_arg16)
      ∧ r.2.mem ((c.tc : Thread Cert.SumFfnReferenceIdeal.nD Cert.SumFfnReferenceIdeal.τ).loc Cert.SumFfnReferenceIdeal.main_arg17) = m ((c.tc : Thread Cert.SumFfnReferenceIdeal.nD Cert.SumFfnReferenceIdeal.τ).loc Cert.SumFfnReferenceIdeal.main_arg17)
      ∧ r.2.mem ((c.tc : Thread Cert.SumFfnReferenceIdeal.nD Cert.SumFfnReferenceIdeal.τ).loc Cert.SumFfnReferenceIdeal.main_arg18) = m ((c.tc : Thread Cert.SumFfnReferenceIdeal.nD Cert.SumFfnReferenceIdeal.τ).loc Cert.SumFfnReferenceIdeal.main_arg18)
      ∧ r.2.mem ((c.tc : Thread Cert.SumFfnReferenceIdeal.nD Cert.SumFfnReferenceIdeal.τ).loc Cert.SumFfnReferenceIdeal.main_arg19) = m ((c.tc : Thread Cert.SumFfnReferenceIdeal.nD Cert.SumFfnReferenceIdeal.τ).loc Cert.SumFfnReferenceIdeal.main_arg19)
      ∧ r.2.mem ((c.tc : Thread Cert.SumFfnReferenceIdeal.nD Cert.SumFfnReferenceIdeal.τ).loc Cert.SumFfnReferenceIdeal.main_arg20) = m ((c.tc : Thread Cert.SumFfnReferenceIdeal.nD Cert.SumFfnReferenceIdeal.τ).loc Cert.SumFfnReferenceIdeal.main_arg20))
      ∧ r.2.sem = fun _ => 0)

def quiescent_SumFfnReferenceIdeal_pre_placed_ffn [hSumFfnReferenceIdeal : Cert.SumFfnReferenceIdeal.Facts] [hPre_placed_ffn : Cert.Pre_placed_ffn.Facts] : Prop :=
  ∀ (m : (ℓ : Loc Cert.SumFfnReferenceIdeal.nD Cert.SumFfnReferenceIdeal.τ Cert.SumFfnReferenceIdeal.sig) → Buf (Elt Ideal) ℓ) (g : Dev Cert.SumFfnReferenceIdeal.nD → PrngReg), Pre_SumFfnReferenceIdeal_placed_ffn m →
    θ_run (Cert.SumFfnReferenceIdeal.defs (F := Ideal)) (onTc (τ := Cert.SumFfnReferenceIdeal.τ) (Cert.SumFfnReferenceIdeal.main (F := Ideal))) ⟨m, fun _ => 0, g⟩ (fun r => (∀ c : Dev Cert.SumFfnReferenceIdeal.nD,
      r.2.mem ((c.tc : Thread Cert.SumFfnReferenceIdeal.nD Cert.SumFfnReferenceIdeal.τ).loc Cert.SumFfnReferenceIdeal.main_arg0) = m ((c.tc : Thread Cert.SumFfnReferenceIdeal.nD Cert.SumFfnReferenceIdeal.τ).loc Cert.SumFfnReferenceIdeal.main_arg0)
      ∧ r.2.mem ((c.tc : Thread Cert.SumFfnReferenceIdeal.nD Cert.SumFfnReferenceIdeal.τ).loc Cert.SumFfnReferenceIdeal.main_arg1) = m ((c.tc : Thread Cert.SumFfnReferenceIdeal.nD Cert.SumFfnReferenceIdeal.τ).loc Cert.SumFfnReferenceIdeal.main_arg1)
      ∧ r.2.mem ((c.tc : Thread Cert.SumFfnReferenceIdeal.nD Cert.SumFfnReferenceIdeal.τ).loc Cert.SumFfnReferenceIdeal.main_arg2) = m ((c.tc : Thread Cert.SumFfnReferenceIdeal.nD Cert.SumFfnReferenceIdeal.τ).loc Cert.SumFfnReferenceIdeal.main_arg2)
      ∧ r.2.mem ((c.tc : Thread Cert.SumFfnReferenceIdeal.nD Cert.SumFfnReferenceIdeal.τ).loc Cert.SumFfnReferenceIdeal.main_arg3) = m ((c.tc : Thread Cert.SumFfnReferenceIdeal.nD Cert.SumFfnReferenceIdeal.τ).loc Cert.SumFfnReferenceIdeal.main_arg3)
      ∧ r.2.mem ((c.tc : Thread Cert.SumFfnReferenceIdeal.nD Cert.SumFfnReferenceIdeal.τ).loc Cert.SumFfnReferenceIdeal.main_arg4) = m ((c.tc : Thread Cert.SumFfnReferenceIdeal.nD Cert.SumFfnReferenceIdeal.τ).loc Cert.SumFfnReferenceIdeal.main_arg4)
      ∧ r.2.mem ((c.tc : Thread Cert.SumFfnReferenceIdeal.nD Cert.SumFfnReferenceIdeal.τ).loc Cert.SumFfnReferenceIdeal.main_arg5) = m ((c.tc : Thread Cert.SumFfnReferenceIdeal.nD Cert.SumFfnReferenceIdeal.τ).loc Cert.SumFfnReferenceIdeal.main_arg5)
      ∧ r.2.mem ((c.tc : Thread Cert.SumFfnReferenceIdeal.nD Cert.SumFfnReferenceIdeal.τ).loc Cert.SumFfnReferenceIdeal.main_arg6) = m ((c.tc : Thread Cert.SumFfnReferenceIdeal.nD Cert.SumFfnReferenceIdeal.τ).loc Cert.SumFfnReferenceIdeal.main_arg6)
      ∧ r.2.mem ((c.tc : Thread Cert.SumFfnReferenceIdeal.nD Cert.SumFfnReferenceIdeal.τ).loc Cert.SumFfnReferenceIdeal.main_arg7) = m ((c.tc : Thread Cert.SumFfnReferenceIdeal.nD Cert.SumFfnReferenceIdeal.τ).loc Cert.SumFfnReferenceIdeal.main_arg7)
      ∧ r.2.mem ((c.tc : Thread Cert.SumFfnReferenceIdeal.nD Cert.SumFfnReferenceIdeal.τ).loc Cert.SumFfnReferenceIdeal.main_arg8) = m ((c.tc : Thread Cert.SumFfnReferenceIdeal.nD Cert.SumFfnReferenceIdeal.τ).loc Cert.SumFfnReferenceIdeal.main_arg8)
      ∧ r.2.mem ((c.tc : Thread Cert.SumFfnReferenceIdeal.nD Cert.SumFfnReferenceIdeal.τ).loc Cert.SumFfnReferenceIdeal.main_arg9) = m ((c.tc : Thread Cert.SumFfnReferenceIdeal.nD Cert.SumFfnReferenceIdeal.τ).loc Cert.SumFfnReferenceIdeal.main_arg9)
      ∧ r.2.mem ((c.tc : Thread Cert.SumFfnReferenceIdeal.nD Cert.SumFfnReferenceIdeal.τ).loc Cert.SumFfnReferenceIdeal.main_arg10) = m ((c.tc : Thread Cert.SumFfnReferenceIdeal.nD Cert.SumFfnReferenceIdeal.τ).loc Cert.SumFfnReferenceIdeal.main_arg10)
      ∧ r.2.mem ((c.tc : Thread Cert.SumFfnReferenceIdeal.nD Cert.SumFfnReferenceIdeal.τ).loc Cert.SumFfnReferenceIdeal.main_arg11) = m ((c.tc : Thread Cert.SumFfnReferenceIdeal.nD Cert.SumFfnReferenceIdeal.τ).loc Cert.SumFfnReferenceIdeal.main_arg11)
      ∧ r.2.mem ((c.tc : Thread Cert.SumFfnReferenceIdeal.nD Cert.SumFfnReferenceIdeal.τ).loc Cert.SumFfnReferenceIdeal.main_arg12) = m ((c.tc : Thread Cert.SumFfnReferenceIdeal.nD Cert.SumFfnReferenceIdeal.τ).loc Cert.SumFfnReferenceIdeal.main_arg12)
      ∧ r.2.mem ((c.tc : Thread Cert.SumFfnReferenceIdeal.nD Cert.SumFfnReferenceIdeal.τ).loc Cert.SumFfnReferenceIdeal.main_arg13) = m ((c.tc : Thread Cert.SumFfnReferenceIdeal.nD Cert.SumFfnReferenceIdeal.τ).loc Cert.SumFfnReferenceIdeal.main_arg13)
      ∧ r.2.mem ((c.tc : Thread Cert.SumFfnReferenceIdeal.nD Cert.SumFfnReferenceIdeal.τ).loc Cert.SumFfnReferenceIdeal.main_arg14) = m ((c.tc : Thread Cert.SumFfnReferenceIdeal.nD Cert.SumFfnReferenceIdeal.τ).loc Cert.SumFfnReferenceIdeal.main_arg14)
      ∧ r.2.mem ((c.tc : Thread Cert.SumFfnReferenceIdeal.nD Cert.SumFfnReferenceIdeal.τ).loc Cert.SumFfnReferenceIdeal.main_arg15) = m ((c.tc : Thread Cert.SumFfnReferenceIdeal.nD Cert.SumFfnReferenceIdeal.τ).loc Cert.SumFfnReferenceIdeal.main_arg15)
      ∧ r.2.mem ((c.tc : Thread Cert.SumFfnReferenceIdeal.nD Cert.SumFfnReferenceIdeal.τ).loc Cert.SumFfnReferenceIdeal.main_arg16) = m ((c.tc : Thread Cert.SumFfnReferenceIdeal.nD Cert.SumFfnReferenceIdeal.τ).loc Cert.SumFfnReferenceIdeal.main_arg16)
      ∧ r.2.mem ((c.tc : Thread Cert.SumFfnReferenceIdeal.nD Cert.SumFfnReferenceIdeal.τ).loc Cert.SumFfnReferenceIdeal.main_arg17) = m ((c.tc : Thread Cert.SumFfnReferenceIdeal.nD Cert.SumFfnReferenceIdeal.τ).loc Cert.SumFfnReferenceIdeal.main_arg17)
      ∧ r.2.mem ((c.tc : Thread Cert.SumFfnReferenceIdeal.nD Cert.SumFfnReferenceIdeal.τ).loc Cert.SumFfnReferenceIdeal.main_arg18) = m ((c.tc : Thread Cert.SumFfnReferenceIdeal.nD Cert.SumFfnReferenceIdeal.τ).loc Cert.SumFfnReferenceIdeal.main_arg18)
      ∧ r.2.mem ((c.tc : Thread Cert.SumFfnReferenceIdeal.nD Cert.SumFfnReferenceIdeal.τ).loc Cert.SumFfnReferenceIdeal.main_arg19) = m ((c.tc : Thread Cert.SumFfnReferenceIdeal.nD Cert.SumFfnReferenceIdeal.τ).loc Cert.SumFfnReferenceIdeal.main_arg19)
      ∧ r.2.mem ((c.tc : Thread Cert.SumFfnReferenceIdeal.nD Cert.SumFfnReferenceIdeal.τ).loc Cert.SumFfnReferenceIdeal.main_arg20) = m ((c.tc : Thread Cert.SumFfnReferenceIdeal.nD Cert.SumFfnReferenceIdeal.τ).loc Cert.SumFfnReferenceIdeal.main_arg20))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ r.2.sem = fun _ => 0)

def quiescent_FfnDxReferenceIdeal [hFfnDxReferenceIdeal : Cert.FfnDxReferenceIdeal.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2)
      ∧ r.2.mem ((c.tc : Thread Cert.FfnDxReferenceIdeal.nD Cert.FfnDxReferenceIdeal.τ).loc Cert.FfnDxReferenceIdeal.main_arg3) = m ((c.tc : Thread Cert.FfnDxReferenceIdeal.nD Cert.FfnDxReferenceIdeal.τ).loc Cert.FfnDxReferenceIdeal.main_arg3)
      ∧ r.2.mem ((c.tc : Thread Cert.FfnDxReferenceIdeal.nD Cert.FfnDxReferenceIdeal.τ).loc Cert.FfnDxReferenceIdeal.main_arg4) = m ((c.tc : Thread Cert.FfnDxReferenceIdeal.nD Cert.FfnDxReferenceIdeal.τ).loc Cert.FfnDxReferenceIdeal.main_arg4))
      ∧ r.2.sem = fun _ => 0)

def quiescent_SumSmall [hSumSmall : Cert.SumSmall.Facts] [hPre_placed_small : Cert.Pre_placed_small.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3))
      ∧ r.2.sem = fun _ => 0)

def quiescent_SumSmallIdeal [hSumSmallIdeal : Cert.SumSmallIdeal.Facts] [hPre_placed_small : Cert.Pre_placed_small.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1)
      ∧ r.2.mem ((c.tc : Thread Cert.SumSmallReferenceIdeal.nD Cert.SumSmallReferenceIdeal.τ).loc Cert.SumSmallReferenceIdeal.main_arg2) = m ((c.tc : Thread Cert.SumSmallReferenceIdeal.nD Cert.SumSmallReferenceIdeal.τ).loc Cert.SumSmallReferenceIdeal.main_arg2)
      ∧ r.2.mem ((c.tc : Thread Cert.SumSmallReferenceIdeal.nD Cert.SumSmallReferenceIdeal.τ).loc Cert.SumSmallReferenceIdeal.main_arg3) = m ((c.tc : Thread Cert.SumSmallReferenceIdeal.nD Cert.SumSmallReferenceIdeal.τ).loc Cert.SumSmallReferenceIdeal.main_arg3))
      ∧ r.2.sem = fun _ => 0)

def quiescent_SumSmallReferenceIdeal_pre_placed_small [hSumSmallReferenceIdeal : Cert.SumSmallReferenceIdeal.Facts] [hPre_placed_small : Cert.Pre_placed_small.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal_placed_small m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0)
      ∧ r.2.mem ((c.tc : Thread Cert.SumSmallReferenceIdeal.nD Cert.SumSmallReferenceIdeal.τ).loc Cert.SumSmallReferenceIdeal.main_arg1) = m ((c.tc : Thread Cert.SumSmallReferenceIdeal.nD Cert.SumSmallReferenceIdeal.τ).loc Cert.SumSmallReferenceIdeal.main_arg1)
      ∧ r.2.mem ((c.tc : Thread Cert.SumSmallReferenceIdeal.nD Cert.SumSmallReferenceIdeal.τ).loc Cert.SumSmallReferenceIdeal.main_arg2) = m ((c.tc : Thread Cert.SumSmallReferenceIdeal.nD Cert.SumSmallReferenceIdeal.τ).loc Cert.SumSmallReferenceIdeal.main_arg2)
      ∧ r.2.mem ((c.tc : Thread Cert.SumSmallReferenceIdeal.nD Cert.SumSmallReferenceIdeal.τ).loc Cert.SumSmallReferenceIdeal.main_arg3) = m ((c.tc : Thread Cert.SumSmallReferenceIdeal.nD Cert.SumSmallReferenceIdeal.τ).loc Cert.SumSmallReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_v41) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2_0)) (v1 : (c : Dev Cert.DwUpIdeal.nD) → Buf (Elt Ideal) ((c.tc : Thread Cert.DwUpIdeal.nD Cert.DwUpIdeal.τ).loc Cert.DwUpIdeal.main_v2_1)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2_0) = v0 c
          ∧ r.2.mem ((c.tc : Thread Cert.DwUpIdeal.nD Cert.DwUpIdeal.τ).loc Cert.DwUpIdeal.main_v2_1) = v1 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v5) = v0 c
          ∧ r.2.mem ((c.tc : Thread Cert.DwUpReferenceIdeal.nD Cert.DwUpReferenceIdeal.τ).loc Cert.DwUpReferenceIdeal.main_v6) = v1 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2_0)) (v1 : (c : Dev Cert.DwDownIdeal.nD) → Buf (Elt Ideal) ((c.tc : Thread Cert.DwDownIdeal.nD Cert.DwDownIdeal.τ).loc Cert.DwDownIdeal.main_v2_1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2_0) = v0 c
          ∧ r.2.mem ((c.tc : Thread Cert.DwDownIdeal.nD Cert.DwDownIdeal.τ).loc Cert.DwDownIdeal.main_v2_1) = v1 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v4) = v0 c
          ∧ r.2.mem ((c.tc : Thread Cert.DwDownReferenceIdeal.nD Cert.DwDownReferenceIdeal.τ).loc Cert.DwDownReferenceIdeal.main_v5) = v1 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0_0)) (v1 : (c : Dev Cert.DwInIdeal.nD) → Buf (Elt Ideal) ((c.tc : Thread Cert.DwInIdeal.nD Cert.DwInIdeal.τ).loc Cert.DwInIdeal.main_v0_1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0_0) = v0 c
          ∧ r.2.mem ((c.tc : Thread Cert.DwInIdeal.nD Cert.DwInIdeal.τ).loc Cert.DwInIdeal.main_v0_1) = v1 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v5) = v0 c
          ∧ r.2.mem ((c.tc : Thread Cert.DwInReferenceIdeal.nD Cert.DwInReferenceIdeal.τ).loc Cert.DwInReferenceIdeal.main_v6) = v1 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0_0)) (v1 : (c : Dev Cert.DwOutIdeal.nD) → Buf (Elt Ideal) ((c.tc : Thread Cert.DwOutIdeal.nD Cert.DwOutIdeal.τ).loc Cert.DwOutIdeal.main_v0_1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0_0) = v0 c
          ∧ r.2.mem ((c.tc : Thread Cert.DwOutIdeal.nD Cert.DwOutIdeal.τ).loc Cert.DwOutIdeal.main_v0_1) = v1 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v4) = v0 c
          ∧ r.2.mem ((c.tc : Thread Cert.DwOutReferenceIdeal.nD Cert.DwOutReferenceIdeal.τ).loc Cert.DwOutReferenceIdeal.main_v5) = v1 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1))

def preserves_DwLruUp_DwLruUpIdeal : Prop :=
  True

def algebraic_DwLruUpIdeal_DwLruUpReferenceIdeal [hDwLruUpIdeal : Cert.DwLruUpIdeal.Facts] [hDwLruUpReferenceIdeal : Cert.DwLruUpReferenceIdeal.Facts] : Prop :=
  ∀ (m : (ℓ : Loc Cert.DwLruUpIdeal.nD Cert.DwLruUpIdeal.τ Cert.DwLruUpIdeal.sig) → Buf (Elt Ideal) ℓ) (g : Dev Cert.DwLruUpIdeal.nD → PrngReg)
    (m' : (ℓ : Loc Cert.DwLruUpReferenceIdeal.nD Cert.DwLruUpReferenceIdeal.τ Cert.DwLruUpReferenceIdeal.sig) → Buf (Elt Ideal) ℓ) (g' : Dev Cert.DwLruUpReferenceIdeal.nD → PrngReg), Pre_DwLruUpIdeal m →
    (∀ c : Dev Cert.DwLruUpIdeal.nD,
      m' ((c.tc : Thread Cert.DwLruUpReferenceIdeal.nD Cert.DwLruUpReferenceIdeal.τ).loc Cert.DwLruUpReferenceIdeal.main_arg0) = m ((c.tc : Thread Cert.DwLruUpIdeal.nD Cert.DwLruUpIdeal.τ).loc Cert.DwLruUpIdeal.main_arg0)
      ∧ m' ((c.tc : Thread Cert.DwLruUpReferenceIdeal.nD Cert.DwLruUpReferenceIdeal.τ).loc Cert.DwLruUpReferenceIdeal.main_arg1) = m ((c.tc : Thread Cert.DwLruUpIdeal.nD Cert.DwLruUpIdeal.τ).loc Cert.DwLruUpIdeal.main_arg1)) →
    ∃ (v0 : (c : Dev Cert.DwLruUpIdeal.nD) → Buf (Elt Ideal) ((c.tc : Thread Cert.DwLruUpIdeal.nD Cert.DwLruUpIdeal.τ).loc Cert.DwLruUpIdeal.main_v0_0)) (v1 : (c : Dev Cert.DwLruUpIdeal.nD) → Buf (Elt Ideal) ((c.tc : Thread Cert.DwLruUpIdeal.nD Cert.DwLruUpIdeal.τ).loc Cert.DwLruUpIdeal.main_v0_1)),
      θ_run (Cert.DwLruUpIdeal.defs (F := Ideal)) (onTc (τ := Cert.DwLruUpIdeal.τ) (Cert.DwLruUpIdeal.main (F := Ideal))) ⟨m, fun _ => 0, g⟩ (fun r => ∀ c : Dev Cert.DwLruUpIdeal.nD,
          r.2.mem ((c.tc : Thread Cert.DwLruUpIdeal.nD Cert.DwLruUpIdeal.τ).loc Cert.DwLruUpIdeal.main_v0_0) = v0 c
          ∧ r.2.mem ((c.tc : Thread Cert.DwLruUpIdeal.nD Cert.DwLruUpIdeal.τ).loc Cert.DwLruUpIdeal.main_v0_1) = v1 c
          ∧ r.2.mem ((c.tc : Thread Cert.DwLruUpIdeal.nD Cert.DwLruUpIdeal.τ).loc Cert.DwLruUpIdeal.main_arg0) = m ((c.tc : Thread Cert.DwLruUpIdeal.nD Cert.DwLruUpIdeal.τ).loc Cert.DwLruUpIdeal.main_arg0)
          ∧ r.2.mem ((c.tc : Thread Cert.DwLruUpIdeal.nD Cert.DwLruUpIdeal.τ).loc Cert.DwLruUpIdeal.main_arg1) = m ((c.tc : Thread Cert.DwLruUpIdeal.nD Cert.DwLruUpIdeal.τ).loc Cert.DwLruUpIdeal.main_arg1))
      ∧ θ_run (Cert.DwLruUpReferenceIdeal.defs (F := Ideal)) (onTc (τ := Cert.DwLruUpReferenceIdeal.τ) (Cert.DwLruUpReferenceIdeal.main (F := Ideal))) ⟨m', fun _ => 0, g'⟩ (fun r => ∀ c : Dev Cert.DwLruUpReferenceIdeal.nD,
          r.2.mem ((c.tc : Thread Cert.DwLruUpReferenceIdeal.nD Cert.DwLruUpReferenceIdeal.τ).loc Cert.DwLruUpReferenceIdeal.main_v4) = v0 c
          ∧ r.2.mem ((c.tc : Thread Cert.DwLruUpReferenceIdeal.nD Cert.DwLruUpReferenceIdeal.τ).loc Cert.DwLruUpReferenceIdeal.main_v5) = v1 c
          ∧ r.2.mem ((c.tc : Thread Cert.DwLruUpReferenceIdeal.nD Cert.DwLruUpReferenceIdeal.τ).loc Cert.DwLruUpReferenceIdeal.main_arg0) = m' ((c.tc : Thread Cert.DwLruUpReferenceIdeal.nD Cert.DwLruUpReferenceIdeal.τ).loc Cert.DwLruUpReferenceIdeal.main_arg0)
          ∧ r.2.mem ((c.tc : Thread Cert.DwLruUpReferenceIdeal.nD Cert.DwLruUpReferenceIdeal.τ).loc Cert.DwLruUpReferenceIdeal.main_arg1) = m' ((c.tc : Thread Cert.DwLruUpReferenceIdeal.nD Cert.DwLruUpReferenceIdeal.τ).loc Cert.DwLruUpReferenceIdeal.main_arg1))

def preserves_DwPoolUp_DwPoolUpIdeal : Prop :=
  True

def algebraic_DwPoolUpIdeal_DwPoolUpReferenceIdeal [hDwPoolUpIdeal : Cert.DwPoolUpIdeal.Facts] [hDwPoolUpReferenceIdeal : Cert.DwPoolUpReferenceIdeal.Facts] : Prop :=
  ∀ (m : (ℓ : Loc Cert.DwPoolUpIdeal.nD Cert.DwPoolUpIdeal.τ Cert.DwPoolUpIdeal.sig) → Buf (Elt Ideal) ℓ) (g : Dev Cert.DwPoolUpIdeal.nD → PrngReg)
    (m' : (ℓ : Loc Cert.DwPoolUpReferenceIdeal.nD Cert.DwPoolUpReferenceIdeal.τ Cert.DwPoolUpReferenceIdeal.sig) → Buf (Elt Ideal) ℓ) (g' : Dev Cert.DwPoolUpReferenceIdeal.nD → PrngReg), Pre_DwPoolUpIdeal m →
    (∀ c : Dev Cert.DwPoolUpIdeal.nD,
      m' ((c.tc : Thread Cert.DwPoolUpReferenceIdeal.nD Cert.DwPoolUpReferenceIdeal.τ).loc Cert.DwPoolUpReferenceIdeal.main_arg0) = m ((c.tc : Thread Cert.DwPoolUpIdeal.nD Cert.DwPoolUpIdeal.τ).loc Cert.DwPoolUpIdeal.main_arg0)
      ∧ m' ((c.tc : Thread Cert.DwPoolUpReferenceIdeal.nD Cert.DwPoolUpReferenceIdeal.τ).loc Cert.DwPoolUpReferenceIdeal.main_arg1) = m ((c.tc : Thread Cert.DwPoolUpIdeal.nD Cert.DwPoolUpIdeal.τ).loc Cert.DwPoolUpIdeal.main_arg1)) →
    ∃ (v0 : (c : Dev Cert.DwPoolUpIdeal.nD) → Buf (Elt Ideal) ((c.tc : Thread Cert.DwPoolUpIdeal.nD Cert.DwPoolUpIdeal.τ).loc Cert.DwPoolUpIdeal.main_v0_0)) (v1 : (c : Dev Cert.DwPoolUpIdeal.nD) → Buf (Elt Ideal) ((c.tc : Thread Cert.DwPoolUpIdeal.nD Cert.DwPoolUpIdeal.τ).loc Cert.DwPoolUpIdeal.main_v0_1)),
      θ_run (Cert.DwPoolUpIdeal.defs (F := Ideal)) (onTc (τ := Cert.DwPoolUpIdeal.τ) (Cert.DwPoolUpIdeal.main (F := Ideal))) ⟨m, fun _ => 0, g⟩ (fun r => ∀ c : Dev Cert.DwPoolUpIdeal.nD,
          r.2.mem ((c.tc : Thread Cert.DwPoolUpIdeal.nD Cert.DwPoolUpIdeal.τ).loc Cert.DwPoolUpIdeal.main_v0_0) = v0 c
          ∧ r.2.mem ((c.tc : Thread Cert.DwPoolUpIdeal.nD Cert.DwPoolUpIdeal.τ).loc Cert.DwPoolUpIdeal.main_v0_1) = v1 c
          ∧ r.2.mem ((c.tc : Thread Cert.DwPoolUpIdeal.nD Cert.DwPoolUpIdeal.τ).loc Cert.DwPoolUpIdeal.main_arg0) = m ((c.tc : Thread Cert.DwPoolUpIdeal.nD Cert.DwPoolUpIdeal.τ).loc Cert.DwPoolUpIdeal.main_arg0)
          ∧ r.2.mem ((c.tc : Thread Cert.DwPoolUpIdeal.nD Cert.DwPoolUpIdeal.τ).loc Cert.DwPoolUpIdeal.main_arg1) = m ((c.tc : Thread Cert.DwPoolUpIdeal.nD Cert.DwPoolUpIdeal.τ).loc Cert.DwPoolUpIdeal.main_arg1))
      ∧ θ_run (Cert.DwPoolUpReferenceIdeal.defs (F := Ideal)) (onTc (τ := Cert.DwPoolUpReferenceIdeal.τ) (Cert.DwPoolUpReferenceIdeal.main (F := Ideal))) ⟨m', fun _ => 0, g'⟩ (fun r => ∀ c : Dev Cert.DwPoolUpReferenceIdeal.nD,
          r.2.mem ((c.tc : Thread Cert.DwPoolUpReferenceIdeal.nD Cert.DwPoolUpReferenceIdeal.τ).loc Cert.DwPoolUpReferenceIdeal.main_v4) = v0 c
          ∧ r.2.mem ((c.tc : Thread Cert.DwPoolUpReferenceIdeal.nD Cert.DwPoolUpReferenceIdeal.τ).loc Cert.DwPoolUpReferenceIdeal.main_v5) = v1 c
          ∧ r.2.mem ((c.tc : Thread Cert.DwPoolUpReferenceIdeal.nD Cert.DwPoolUpReferenceIdeal.τ).loc Cert.DwPoolUpReferenceIdeal.main_arg0) = m' ((c.tc : Thread Cert.DwPoolUpReferenceIdeal.nD Cert.DwPoolUpReferenceIdeal.τ).loc Cert.DwPoolUpReferenceIdeal.main_arg0)
          ∧ r.2.mem ((c.tc : Thread Cert.DwPoolUpReferenceIdeal.nD Cert.DwPoolUpReferenceIdeal.τ).loc Cert.DwPoolUpReferenceIdeal.main_arg1) = m' ((c.tc : Thread Cert.DwPoolUpReferenceIdeal.nD Cert.DwPoolUpReferenceIdeal.τ).loc Cert.DwPoolUpReferenceIdeal.main_arg1))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v3_0)) (v1 : (c : Dev Cert.FfnUpIdeal.nD) → Buf (Elt Ideal) ((c.tc : Thread Cert.FfnUpIdeal.nD Cert.FfnUpIdeal.τ).loc Cert.FfnUpIdeal.main_v3_1)) (v2 : (c : Dev Cert.FfnUpIdeal.nD) → Buf (Elt Ideal) ((c.tc : Thread Cert.FfnUpIdeal.nD Cert.FfnUpIdeal.τ).loc Cert.FfnUpIdeal.main_v3_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3_0) = v0 c
          ∧ r.2.mem ((c.tc : Thread Cert.FfnUpIdeal.nD Cert.FfnUpIdeal.τ).loc Cert.FfnUpIdeal.main_v3_1) = v1 c
          ∧ r.2.mem ((c.tc : Thread Cert.FfnUpIdeal.nD Cert.FfnUpIdeal.τ).loc Cert.FfnUpIdeal.main_v3_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v21) = v0 c
          ∧ r.2.mem ((c.tc : Thread Cert.FfnUpReferenceIdeal.nD Cert.FfnUpReferenceIdeal.τ).loc Cert.FfnUpReferenceIdeal.main_v24) = v1 c
          ∧ r.2.mem ((c.tc : Thread Cert.FfnUpReferenceIdeal.nD Cert.FfnUpReferenceIdeal.τ).loc Cert.FfnUpReferenceIdeal.main_v27) = v2 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v5) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v4_0)) (v1 : (c : Dev Cert.MixInIdeal.nD) → Buf (Elt Ideal) ((c.tc : Thread Cert.MixInIdeal.nD Cert.MixInIdeal.τ).loc Cert.MixInIdeal.main_v4_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4_0) = v0 c
          ∧ r.2.mem ((c.tc : Thread Cert.MixInIdeal.nD Cert.MixInIdeal.τ).loc Cert.MixInIdeal.main_v4_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v15) = v0 c
          ∧ r.2.mem ((c.tc : Thread Cert.MixInReferenceIdeal.nD Cert.MixInReferenceIdeal.τ).loc Cert.MixInReferenceIdeal.main_v18) = v1 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v3_2)) (v3 : (c : Dev Cert.MixOutIdeal.nD) → Buf (Elt Ideal) ((c.tc : Thread Cert.MixOutIdeal.nD Cert.MixOutIdeal.τ).loc Cert.MixOutIdeal.main_v3_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v3_2) = v2 c
          ∧ r.2.mem ((c.tc : Thread Cert.MixOutIdeal.nD Cert.MixOutIdeal.τ).loc Cert.MixOutIdeal.main_v3_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v21) = v0 c
          ∧ r.2.mem ((c.tc : Thread Cert.MixOutReferenceIdeal.nD Cert.MixOutReferenceIdeal.τ).loc Cert.MixOutReferenceIdeal.main_v22) = v1 c
          ∧ r.2.mem ((c.tc : Thread Cert.MixOutReferenceIdeal.nD Cert.MixOutReferenceIdeal.τ).loc Cert.MixOutReferenceIdeal.main_v23) = v2 c
          ∧ r.2.mem ((c.tc : Thread Cert.MixOutReferenceIdeal.nD Cert.MixOutReferenceIdeal.τ).loc Cert.MixOutReferenceIdeal.main_v24) = v3 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6))

def preserves_FfnDownBwd_FfnDownBwdIdeal : Prop :=
  True

def algebraic_FfnDownBwdIdeal_FfnDownBwdReferenceIdeal_pre_finite_down [hFfnDownBwdIdeal : Cert.FfnDownBwdIdeal.Facts] [hFfnDownBwdReferenceIdeal : Cert.FfnDownBwdReferenceIdeal.Facts] [hPre_finite_down : Cert.Pre_finite_down.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.FfnDownBwdReferenceIdeal.nD Cert.FfnDownBwdReferenceIdeal.τ Cert.FfnDownBwdReferenceIdeal.sig) → Buf (Elt Ideal) ℓ) (g' : Dev Cert.FfnDownBwdReferenceIdeal.nD → PrngReg), Pre_FfnDownBwdIdeal_finite_down m →
    (∀ c : Dev Cert.FfnDownBwdIdeal.nD,
      m' ((c.tc : Thread Cert.FfnDownBwdReferenceIdeal.nD Cert.FfnDownBwdReferenceIdeal.τ).loc Cert.FfnDownBwdReferenceIdeal.main_arg0) = m ((c.tc : Thread Cert.FfnDownBwdIdeal.nD Cert.FfnDownBwdIdeal.τ).loc Cert.FfnDownBwdIdeal.main_arg0)
      ∧ m' ((c.tc : Thread Cert.FfnDownBwdReferenceIdeal.nD Cert.FfnDownBwdReferenceIdeal.τ).loc Cert.FfnDownBwdReferenceIdeal.main_arg1) = m ((c.tc : Thread Cert.FfnDownBwdIdeal.nD Cert.FfnDownBwdIdeal.τ).loc Cert.FfnDownBwdIdeal.main_arg1)
      ∧ m' ((c.tc : Thread Cert.FfnDownBwdReferenceIdeal.nD Cert.FfnDownBwdReferenceIdeal.τ).loc Cert.FfnDownBwdReferenceIdeal.main_arg2) = m ((c.tc : Thread Cert.FfnDownBwdIdeal.nD Cert.FfnDownBwdIdeal.τ).loc Cert.FfnDownBwdIdeal.main_arg2)) →
    ∃ (v0 : (c : Dev Cert.FfnDownBwdIdeal.nD) → Buf (Elt Ideal) ((c.tc : Thread Cert.FfnDownBwdIdeal.nD Cert.FfnDownBwdIdeal.τ).loc Cert.FfnDownBwdIdeal.main_v3_0)) (v1 : (c : Dev Cert.FfnDownBwdIdeal.nD) → Buf (Elt Ideal) ((c.tc : Thread Cert.FfnDownBwdIdeal.nD Cert.FfnDownBwdIdeal.τ).loc Cert.FfnDownBwdIdeal.main_v3_1)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v3_0) = v0 c
          ∧ r.2.mem ((c.tc : Thread Cert.FfnDownBwdIdeal.nD Cert.FfnDownBwdIdeal.τ).loc Cert.FfnDownBwdIdeal.main_v3_1) = v1 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
          ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ θ_run (Cert.FfnDownBwdReferenceIdeal.defs (F := Ideal)) (onTc (τ := Cert.FfnDownBwdReferenceIdeal.τ) (Cert.FfnDownBwdReferenceIdeal.main (F := Ideal))) ⟨m', fun _ => 0, g'⟩ (fun r => ∀ c : Dev Cert.FfnDownBwdReferenceIdeal.nD,
          r.2.mem ((c.tc : Thread Cert.FfnDownBwdReferenceIdeal.nD Cert.FfnDownBwdReferenceIdeal.τ).loc Cert.FfnDownBwdReferenceIdeal.main_v14) = v0 c
          ∧ r.2.mem ((c.tc : Thread Cert.FfnDownBwdReferenceIdeal.nD Cert.FfnDownBwdReferenceIdeal.τ).loc Cert.FfnDownBwdReferenceIdeal.main_v17) = v1 c
          ∧ r.2.mem ((c.tc : Thread Cert.FfnDownBwdReferenceIdeal.nD Cert.FfnDownBwdReferenceIdeal.τ).loc Cert.FfnDownBwdReferenceIdeal.main_arg0) = m' ((c.tc : Thread Cert.FfnDownBwdReferenceIdeal.nD Cert.FfnDownBwdReferenceIdeal.τ).loc Cert.FfnDownBwdReferenceIdeal.main_arg0)
          ∧ r.2.mem ((c.tc : Thread Cert.FfnDownBwdReferenceIdeal.nD Cert.FfnDownBwdReferenceIdeal.τ).loc Cert.FfnDownBwdReferenceIdeal.main_arg1) = m' ((c.tc : Thread Cert.FfnDownBwdReferenceIdeal.nD Cert.FfnDownBwdReferenceIdeal.τ).loc Cert.FfnDownBwdReferenceIdeal.main_arg1)
          ∧ r.2.mem ((c.tc : Thread Cert.FfnDownBwdReferenceIdeal.nD Cert.FfnDownBwdReferenceIdeal.τ).loc Cert.FfnDownBwdReferenceIdeal.main_arg2) = m' ((c.tc : Thread Cert.FfnDownBwdReferenceIdeal.nD Cert.FfnDownBwdReferenceIdeal.τ).loc Cert.FfnDownBwdReferenceIdeal.main_arg2))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v4_0)) (v1 : (c : Dev Cert.AdamNormIdeal.nD) → Buf (Elt Ideal) ((c.tc : Thread Cert.AdamNormIdeal.nD Cert.AdamNormIdeal.τ).loc Cert.AdamNormIdeal.main_v4_1)) (v2 : (c : Dev Cert.AdamNormIdeal.nD) → Buf (Elt Ideal) ((c.tc : Thread Cert.AdamNormIdeal.nD Cert.AdamNormIdeal.τ).loc Cert.AdamNormIdeal.main_v4_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v4_0) = v0 c
          ∧ r.2.mem ((c.tc : Thread Cert.AdamNormIdeal.nD Cert.AdamNormIdeal.τ).loc Cert.AdamNormIdeal.main_v4_1) = v1 c
          ∧ r.2.mem ((c.tc : Thread Cert.AdamNormIdeal.nD Cert.AdamNormIdeal.τ).loc Cert.AdamNormIdeal.main_v4_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_v24) = v0 c
          ∧ r.2.mem ((c.tc : Thread Cert.AdamNormReferenceIdeal.nD Cert.AdamNormReferenceIdeal.τ).loc Cert.AdamNormReferenceIdeal.main_v25) = v1 c
          ∧ r.2.mem ((c.tc : Thread Cert.AdamNormReferenceIdeal.nD Cert.AdamNormReferenceIdeal.τ).loc Cert.AdamNormReferenceIdeal.main_v26) = v2 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamPoolW_AdamPoolWIdeal : Prop :=
  True

def algebraic_AdamPoolWIdeal_AdamPoolWReferenceIdeal [hAdamPoolWIdeal : Cert.AdamPoolWIdeal.Facts] [hAdamPoolWReferenceIdeal : Cert.AdamPoolWReferenceIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg)
    (m' : (ℓ : Loc Cert.AdamPoolWReferenceIdeal.nD Cert.AdamPoolWReferenceIdeal.τ Cert.AdamPoolWReferenceIdeal.sig) → Buf (Elt Ideal) ℓ) (g' : Dev Cert.AdamPoolWReferenceIdeal.nD → PrngReg), Pre_AdamPoolWIdeal m →
    (∀ c : Dev Cert.AdamPoolWIdeal.nD,
      m' ((c.tc : Thread Cert.AdamPoolWReferenceIdeal.nD Cert.AdamPoolWReferenceIdeal.τ).loc Cert.AdamPoolWReferenceIdeal.main_arg0) = m ((c.tc : Thread Cert.AdamPoolWIdeal.nD Cert.AdamPoolWIdeal.τ).loc Cert.AdamPoolWIdeal.main_arg0)
      ∧ m' ((c.tc : Thread Cert.AdamPoolWReferenceIdeal.nD Cert.AdamPoolWReferenceIdeal.τ).loc Cert.AdamPoolWReferenceIdeal.main_arg1) = m ((c.tc : Thread Cert.AdamPoolWIdeal.nD Cert.AdamPoolWIdeal.τ).loc Cert.AdamPoolWIdeal.main_arg1)
      ∧ m' ((c.tc : Thread Cert.AdamPoolWReferenceIdeal.nD Cert.AdamPoolWReferenceIdeal.τ).loc Cert.AdamPoolWReferenceIdeal.main_arg2) = m ((c.tc : Thread Cert.AdamPoolWIdeal.nD Cert.AdamPoolWIdeal.τ).loc Cert.AdamPoolWIdeal.main_arg2)
      ∧ m' ((c.tc : Thread Cert.AdamPoolWReferenceIdeal.nD Cert.AdamPoolWReferenceIdeal.τ).loc Cert.AdamPoolWReferenceIdeal.main_arg3) = m ((c.tc : Thread Cert.AdamPoolWIdeal.nD Cert.AdamPoolWIdeal.τ).loc Cert.AdamPoolWIdeal.main_arg3)) →
    ∃ (v0 : (c : Dev Cert.AdamPoolWIdeal.nD) → Buf (Elt Ideal) ((c.tc : Thread Cert.AdamPoolWIdeal.nD Cert.AdamPoolWIdeal.τ).loc Cert.AdamPoolWIdeal.main_v4_0)) (v1 : (c : Dev Cert.AdamPoolWIdeal.nD) → Buf (Elt Ideal) ((c.tc : Thread Cert.AdamPoolWIdeal.nD Cert.AdamPoolWIdeal.τ).loc Cert.AdamPoolWIdeal.main_v4_1)) (v2 : (c : Dev Cert.AdamPoolWIdeal.nD) → Buf (Elt Ideal) ((c.tc : Thread Cert.AdamPoolWIdeal.nD Cert.AdamPoolWIdeal.τ).loc Cert.AdamPoolWIdeal.main_v4_2)),
      θ_run (Cert.AdamPoolWIdeal.defs (F := Ideal)) (onTc (τ := Cert.AdamPoolWIdeal.τ) (Cert.AdamPoolWIdeal.main (F := Ideal))) ⟨m, fun _ => 0, g⟩ (fun r => ∀ c : Dev Cert.AdamPoolWIdeal.nD,
          r.2.mem ((c.tc : Thread Cert.AdamPoolWIdeal.nD Cert.AdamPoolWIdeal.τ).loc Cert.AdamPoolWIdeal.main_v4_0) = v0 c
          ∧ r.2.mem ((c.tc : Thread Cert.AdamPoolWIdeal.nD Cert.AdamPoolWIdeal.τ).loc Cert.AdamPoolWIdeal.main_v4_1) = v1 c
          ∧ r.2.mem ((c.tc : Thread Cert.AdamPoolWIdeal.nD Cert.AdamPoolWIdeal.τ).loc Cert.AdamPoolWIdeal.main_v4_2) = v2 c
          ∧ r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
          ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
          ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
          ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ θ_run (Cert.AdamPoolWReferenceIdeal.defs (F := Ideal)) (onTc (τ := Cert.AdamPoolWReferenceIdeal.τ) (Cert.AdamPoolWReferenceIdeal.main (F := Ideal))) ⟨m', fun _ => 0, g'⟩ (fun r => ∀ c : Dev Cert.AdamPoolWReferenceIdeal.nD,
          r.2.mem ((c.tc : Thread Cert.AdamPoolWReferenceIdeal.nD Cert.AdamPoolWReferenceIdeal.τ).loc Cert.AdamPoolWReferenceIdeal.main_v24) = v0 c
          ∧ r.2.mem ((c.tc : Thread Cert.AdamPoolWReferenceIdeal.nD Cert.AdamPoolWReferenceIdeal.τ).loc Cert.AdamPoolWReferenceIdeal.main_v25) = v1 c
          ∧ r.2.mem ((c.tc : Thread Cert.AdamPoolWReferenceIdeal.nD Cert.AdamPoolWReferenceIdeal.τ).loc Cert.AdamPoolWReferenceIdeal.main_v26) = v2 c
          ∧ r.2.mem ((c.tc : Thread Cert.AdamPoolWReferenceIdeal.nD Cert.AdamPoolWReferenceIdeal.τ).loc Cert.AdamPoolWReferenceIdeal.main_arg0) = m' ((c.tc : Thread Cert.AdamPoolWReferenceIdeal.nD Cert.AdamPoolWReferenceIdeal.τ).loc Cert.AdamPoolWReferenceIdeal.main_arg0)
          ∧ r.2.mem ((c.tc : Thread Cert.AdamPoolWReferenceIdeal.nD Cert.AdamPoolWReferenceIdeal.τ).loc Cert.AdamPoolWReferenceIdeal.main_arg1) = m' ((c.tc : Thread Cert.AdamPoolWReferenceIdeal.nD Cert.AdamPoolWReferenceIdeal.τ).loc Cert.AdamPoolWReferenceIdeal.main_arg1)
          ∧ r.2.mem ((c.tc : Thread Cert.AdamPoolWReferenceIdeal.nD Cert.AdamPoolWReferenceIdeal.τ).loc Cert.AdamPoolWReferenceIdeal.main_arg2) = m' ((c.tc : Thread Cert.AdamPoolWReferenceIdeal.nD Cert.AdamPoolWReferenceIdeal.τ).loc Cert.AdamPoolWReferenceIdeal.main_arg2)
          ∧ r.2.mem ((c.tc : Thread Cert.AdamPoolWReferenceIdeal.nD Cert.AdamPoolWReferenceIdeal.τ).loc Cert.AdamPoolWReferenceIdeal.main_arg3) = m' ((c.tc : Thread Cert.AdamPoolWReferenceIdeal.nD Cert.AdamPoolWReferenceIdeal.τ).loc Cert.AdamPoolWReferenceIdeal.main_arg3))

def preserves_AdamPoolB_AdamPoolBIdeal : Prop :=
  True

def algebraic_AdamPoolBIdeal_AdamPoolBReferenceIdeal [hAdamPoolBIdeal : Cert.AdamPoolBIdeal.Facts] [hAdamPoolBReferenceIdeal : Cert.AdamPoolBReferenceIdeal.Facts] : Prop :=
  ∀ (m : (ℓ : Loc Cert.AdamPoolBIdeal.nD Cert.AdamPoolBIdeal.τ Cert.AdamPoolBIdeal.sig) → Buf (Elt Ideal) ℓ) (g : Dev Cert.AdamPoolBIdeal.nD → PrngReg)
    (m' : (ℓ : Loc Cert.AdamPoolBReferenceIdeal.nD Cert.AdamPoolBReferenceIdeal.τ Cert.AdamPoolBReferenceIdeal.sig) → Buf (Elt Ideal) ℓ) (g' : Dev Cert.AdamPoolBReferenceIdeal.nD → PrngReg), Pre_AdamPoolBIdeal m →
    (∀ c : Dev Cert.AdamPoolBIdeal.nD,
      m' ((c.tc : Thread Cert.AdamPoolBReferenceIdeal.nD Cert.AdamPoolBReferenceIdeal.τ).loc Cert.AdamPoolBReferenceIdeal.main_arg0) = m ((c.tc : Thread Cert.AdamPoolBIdeal.nD Cert.AdamPoolBIdeal.τ).loc Cert.AdamPoolBIdeal.main_arg0)
      ∧ m' ((c.tc : Thread Cert.AdamPoolBReferenceIdeal.nD Cert.AdamPoolBReferenceIdeal.τ).loc Cert.AdamPoolBReferenceIdeal.main_arg1) = m ((c.tc : Thread Cert.AdamPoolBIdeal.nD Cert.AdamPoolBIdeal.τ).loc Cert.AdamPoolBIdeal.main_arg1)
      ∧ m' ((c.tc : Thread Cert.AdamPoolBReferenceIdeal.nD Cert.AdamPoolBReferenceIdeal.τ).loc Cert.AdamPoolBReferenceIdeal.main_arg2) = m ((c.tc : Thread Cert.AdamPoolBIdeal.nD Cert.AdamPoolBIdeal.τ).loc Cert.AdamPoolBIdeal.main_arg2)
      ∧ m' ((c.tc : Thread Cert.AdamPoolBReferenceIdeal.nD Cert.AdamPoolBReferenceIdeal.τ).loc Cert.AdamPoolBReferenceIdeal.main_arg3) = m ((c.tc : Thread Cert.AdamPoolBIdeal.nD Cert.AdamPoolBIdeal.τ).loc Cert.AdamPoolBIdeal.main_arg3)) →
    ∃ (v0 : (c : Dev Cert.AdamPoolBIdeal.nD) → Buf (Elt Ideal) ((c.tc : Thread Cert.AdamPoolBIdeal.nD Cert.AdamPoolBIdeal.τ).loc Cert.AdamPoolBIdeal.main_v4_0)) (v1 : (c : Dev Cert.AdamPoolBIdeal.nD) → Buf (Elt Ideal) ((c.tc : Thread Cert.AdamPoolBIdeal.nD Cert.AdamPoolBIdeal.τ).loc Cert.AdamPoolBIdeal.main_v4_1)) (v2 : (c : Dev Cert.AdamPoolBIdeal.nD) → Buf (Elt Ideal) ((c.tc : Thread Cert.AdamPoolBIdeal.nD Cert.AdamPoolBIdeal.τ).loc Cert.AdamPoolBIdeal.main_v4_2)),
      θ_run (Cert.AdamPoolBIdeal.defs (F := Ideal)) (onTc (τ := Cert.AdamPoolBIdeal.τ) (Cert.AdamPoolBIdeal.main (F := Ideal))) ⟨m, fun _ => 0, g⟩ (fun r => ∀ c : Dev Cert.AdamPoolBIdeal.nD,
          r.2.mem ((c.tc : Thread Cert.AdamPoolBIdeal.nD Cert.AdamPoolBIdeal.τ).loc Cert.AdamPoolBIdeal.main_v4_0) = v0 c
          ∧ r.2.mem ((c.tc : Thread Cert.AdamPoolBIdeal.nD Cert.AdamPoolBIdeal.τ).loc Cert.AdamPoolBIdeal.main_v4_1) = v1 c
          ∧ r.2.mem ((c.tc : Thread Cert.AdamPoolBIdeal.nD Cert.AdamPoolBIdeal.τ).loc Cert.AdamPoolBIdeal.main_v4_2) = v2 c
          ∧ r.2.mem ((c.tc : Thread Cert.AdamPoolBIdeal.nD Cert.AdamPoolBIdeal.τ).loc Cert.AdamPoolBIdeal.main_arg0) = m ((c.tc : Thread Cert.AdamPoolBIdeal.nD Cert.AdamPoolBIdeal.τ).loc Cert.AdamPoolBIdeal.main_arg0)
          ∧ r.2.mem ((c.tc : Thread Cert.AdamPoolBIdeal.nD Cert.AdamPoolBIdeal.τ).loc Cert.AdamPoolBIdeal.main_arg1) = m ((c.tc : Thread Cert.AdamPoolBIdeal.nD Cert.AdamPoolBIdeal.τ).loc Cert.AdamPoolBIdeal.main_arg1)
          ∧ r.2.mem ((c.tc : Thread Cert.AdamPoolBIdeal.nD Cert.AdamPoolBIdeal.τ).loc Cert.AdamPoolBIdeal.main_arg2) = m ((c.tc : Thread Cert.AdamPoolBIdeal.nD Cert.AdamPoolBIdeal.τ).loc Cert.AdamPoolBIdeal.main_arg2)
          ∧ r.2.mem ((c.tc : Thread Cert.AdamPoolBIdeal.nD Cert.AdamPoolBIdeal.τ).loc Cert.AdamPoolBIdeal.main_arg3) = m ((c.tc : Thread Cert.AdamPoolBIdeal.nD Cert.AdamPoolBIdeal.τ).loc Cert.AdamPoolBIdeal.main_arg3))
      ∧ θ_run (Cert.AdamPoolBReferenceIdeal.defs (F := Ideal)) (onTc (τ := Cert.AdamPoolBReferenceIdeal.τ) (Cert.AdamPoolBReferenceIdeal.main (F := Ideal))) ⟨m', fun _ => 0, g'⟩ (fun r => ∀ c : Dev Cert.AdamPoolBReferenceIdeal.nD,
          r.2.mem ((c.tc : Thread Cert.AdamPoolBReferenceIdeal.nD Cert.AdamPoolBReferenceIdeal.τ).loc Cert.AdamPoolBReferenceIdeal.main_v24) = v0 c
          ∧ r.2.mem ((c.tc : Thread Cert.AdamPoolBReferenceIdeal.nD Cert.AdamPoolBReferenceIdeal.τ).loc Cert.AdamPoolBReferenceIdeal.main_v25) = v1 c
          ∧ r.2.mem ((c.tc : Thread Cert.AdamPoolBReferenceIdeal.nD Cert.AdamPoolBReferenceIdeal.τ).loc Cert.AdamPoolBReferenceIdeal.main_v26) = v2 c
          ∧ r.2.mem ((c.tc : Thread Cert.AdamPoolBReferenceIdeal.nD Cert.AdamPoolBReferenceIdeal.τ).loc Cert.AdamPoolBReferenceIdeal.main_arg0) = m' ((c.tc : Thread Cert.AdamPoolBReferenceIdeal.nD Cert.AdamPoolBReferenceIdeal.τ).loc Cert.AdamPoolBReferenceIdeal.main_arg0)
          ∧ r.2.mem ((c.tc : Thread Cert.AdamPoolBReferenceIdeal.nD Cert.AdamPoolBReferenceIdeal.τ).loc Cert.AdamPoolBReferenceIdeal.main_arg1) = m' ((c.tc : Thread Cert.AdamPoolBReferenceIdeal.nD Cert.AdamPoolBReferenceIdeal.τ).loc Cert.AdamPoolBReferenceIdeal.main_arg1)
          ∧ r.2.mem ((c.tc : Thread Cert.AdamPoolBReferenceIdeal.nD Cert.AdamPoolBReferenceIdeal.τ).loc Cert.AdamPoolBReferenceIdeal.main_arg2) = m' ((c.tc : Thread Cert.AdamPoolBReferenceIdeal.nD Cert.AdamPoolBReferenceIdeal.τ).loc Cert.AdamPoolBReferenceIdeal.main_arg2)
          ∧ r.2.mem ((c.tc : Thread Cert.AdamPoolBReferenceIdeal.nD Cert.AdamPoolBReferenceIdeal.τ).loc Cert.AdamPoolBReferenceIdeal.main_arg3) = m' ((c.tc : Thread Cert.AdamPoolBReferenceIdeal.nD Cert.AdamPoolBReferenceIdeal.τ).loc Cert.AdamPoolBReferenceIdeal.main_arg3))

def preserves_AdamPoolScale_AdamPoolScaleIdeal : Prop :=
  True

def algebraic_AdamPoolScaleIdeal_AdamPoolScaleReferenceIdeal [hAdamPoolScaleIdeal : Cert.AdamPoolScaleIdeal.Facts] [hAdamPoolScaleReferenceIdeal : Cert.AdamPoolScaleReferenceIdeal.Facts] : Prop :=
  ∀ (m : (ℓ : Loc Cert.AdamPoolScaleIdeal.nD Cert.AdamPoolScaleIdeal.τ Cert.AdamPoolScaleIdeal.sig) → Buf (Elt Ideal) ℓ) (g : Dev Cert.AdamPoolScaleIdeal.nD → PrngReg)
    (m' : (ℓ : Loc Cert.AdamPoolScaleReferenceIdeal.nD Cert.AdamPoolScaleReferenceIdeal.τ Cert.AdamPoolScaleReferenceIdeal.sig) → Buf (Elt Ideal) ℓ) (g' : Dev Cert.AdamPoolScaleReferenceIdeal.nD → PrngReg), Pre_AdamPoolScaleIdeal m →
    (∀ c : Dev Cert.AdamPoolScaleIdeal.nD,
      m' ((c.tc : Thread Cert.AdamPoolScaleReferenceIdeal.nD Cert.AdamPoolScaleReferenceIdeal.τ).loc Cert.AdamPoolScaleReferenceIdeal.main_arg0) = m ((c.tc : Thread Cert.AdamPoolScaleIdeal.nD Cert.AdamPoolScaleIdeal.τ).loc Cert.AdamPoolScaleIdeal.main_arg0)
      ∧ m' ((c.tc : Thread Cert.AdamPoolScaleReferenceIdeal.nD Cert.AdamPoolScaleReferenceIdeal.τ).loc Cert.AdamPoolScaleReferenceIdeal.main_arg1) = m ((c.tc : Thread Cert.AdamPoolScaleIdeal.nD Cert.AdamPoolScaleIdeal.τ).loc Cert.AdamPoolScaleIdeal.main_arg1)
      ∧ m' ((c.tc : Thread Cert.AdamPoolScaleReferenceIdeal.nD Cert.AdamPoolScaleReferenceIdeal.τ).loc Cert.AdamPoolScaleReferenceIdeal.main_arg2) = m ((c.tc : Thread Cert.AdamPoolScaleIdeal.nD Cert.AdamPoolScaleIdeal.τ).loc Cert.AdamPoolScaleIdeal.main_arg2)
      ∧ m' ((c.tc : Thread Cert.AdamPoolScaleReferenceIdeal.nD Cert.AdamPoolScaleReferenceIdeal.τ).loc Cert.AdamPoolScaleReferenceIdeal.main_arg3) = m ((c.tc : Thread Cert.AdamPoolScaleIdeal.nD Cert.AdamPoolScaleIdeal.τ).loc Cert.AdamPoolScaleIdeal.main_arg3)) →
    ∃ (v0 : (c : Dev Cert.AdamPoolScaleIdeal.nD) → Buf (Elt Ideal) ((c.tc : Thread Cert.AdamPoolScaleIdeal.nD Cert.AdamPoolScaleIdeal.τ).loc Cert.AdamPoolScaleIdeal.main_v4_0)) (v1 : (c : Dev Cert.AdamPoolScaleIdeal.nD) → Buf (Elt Ideal) ((c.tc : Thread Cert.AdamPoolScaleIdeal.nD Cert.AdamPoolScaleIdeal.τ).loc Cert.AdamPoolScaleIdeal.main_v4_1)) (v2 : (c : Dev Cert.AdamPoolScaleIdeal.nD) → Buf (Elt Ideal) ((c.tc : Thread Cert.AdamPoolScaleIdeal.nD Cert.AdamPoolScaleIdeal.τ).loc Cert.AdamPoolScaleIdeal.main_v4_2)),
      θ_run (Cert.AdamPoolScaleIdeal.defs (F := Ideal)) (onTc (τ := Cert.AdamPoolScaleIdeal.τ) (Cert.AdamPoolScaleIdeal.main (F := Ideal))) ⟨m, fun _ => 0, g⟩ (fun r => ∀ c : Dev Cert.AdamPoolScaleIdeal.nD,
          r.2.mem ((c.tc : Thread Cert.AdamPoolScaleIdeal.nD Cert.AdamPoolScaleIdeal.τ).loc Cert.AdamPoolScaleIdeal.main_v4_0) = v0 c
          ∧ r.2.mem ((c.tc : Thread Cert.AdamPoolScaleIdeal.nD Cert.AdamPoolScaleIdeal.τ).loc Cert.AdamPoolScaleIdeal.main_v4_1) = v1 c
          ∧ r.2.mem ((c.tc : Thread Cert.AdamPoolScaleIdeal.nD Cert.AdamPoolScaleIdeal.τ).loc Cert.AdamPoolScaleIdeal.main_v4_2) = v2 c
          ∧ r.2.mem ((c.tc : Thread Cert.AdamPoolScaleIdeal.nD Cert.AdamPoolScaleIdeal.τ).loc Cert.AdamPoolScaleIdeal.main_arg0) = m ((c.tc : Thread Cert.AdamPoolScaleIdeal.nD Cert.AdamPoolScaleIdeal.τ).loc Cert.AdamPoolScaleIdeal.main_arg0)
          ∧ r.2.mem ((c.tc : Thread Cert.AdamPoolScaleIdeal.nD Cert.AdamPoolScaleIdeal.τ).loc Cert.AdamPoolScaleIdeal.main_arg1) = m ((c.tc : Thread Cert.AdamPoolScaleIdeal.nD Cert.AdamPoolScaleIdeal.τ).loc Cert.AdamPoolScaleIdeal.main_arg1)
          ∧ r.2.mem ((c.tc : Thread Cert.AdamPoolScaleIdeal.nD Cert.AdamPoolScaleIdeal.τ).loc Cert.AdamPoolScaleIdeal.main_arg2) = m ((c.tc : Thread Cert.AdamPoolScaleIdeal.nD Cert.AdamPoolScaleIdeal.τ).loc Cert.AdamPoolScaleIdeal.main_arg2)
          ∧ r.2.mem ((c.tc : Thread Cert.AdamPoolScaleIdeal.nD Cert.AdamPoolScaleIdeal.τ).loc Cert.AdamPoolScaleIdeal.main_arg3) = m ((c.tc : Thread Cert.AdamPoolScaleIdeal.nD Cert.AdamPoolScaleIdeal.τ).loc Cert.AdamPoolScaleIdeal.main_arg3))
      ∧ θ_run (Cert.AdamPoolScaleReferenceIdeal.defs (F := Ideal)) (onTc (τ := Cert.AdamPoolScaleReferenceIdeal.τ) (Cert.AdamPoolScaleReferenceIdeal.main (F := Ideal))) ⟨m', fun _ => 0, g'⟩ (fun r => ∀ c : Dev Cert.AdamPoolScaleReferenceIdeal.nD,
          r.2.mem ((c.tc : Thread Cert.AdamPoolScaleReferenceIdeal.nD Cert.AdamPoolScaleReferenceIdeal.τ).loc Cert.AdamPoolScaleReferenceIdeal.main_v24) = v0 c
          ∧ r.2.mem ((c.tc : Thread Cert.AdamPoolScaleReferenceIdeal.nD Cert.AdamPoolScaleReferenceIdeal.τ).loc Cert.AdamPoolScaleReferenceIdeal.main_v25) = v1 c
          ∧ r.2.mem ((c.tc : Thread Cert.AdamPoolScaleReferenceIdeal.nD Cert.AdamPoolScaleReferenceIdeal.τ).loc Cert.AdamPoolScaleReferenceIdeal.main_v26) = v2 c
          ∧ r.2.mem ((c.tc : Thread Cert.AdamPoolScaleReferenceIdeal.nD Cert.AdamPoolScaleReferenceIdeal.τ).loc Cert.AdamPoolScaleReferenceIdeal.main_arg0) = m' ((c.tc : Thread Cert.AdamPoolScaleReferenceIdeal.nD Cert.AdamPoolScaleReferenceIdeal.τ).loc Cert.AdamPoolScaleReferenceIdeal.main_arg0)
          ∧ r.2.mem ((c.tc : Thread Cert.AdamPoolScaleReferenceIdeal.nD Cert.AdamPoolScaleReferenceIdeal.τ).loc Cert.AdamPoolScaleReferenceIdeal.main_arg1) = m' ((c.tc : Thread Cert.AdamPoolScaleReferenceIdeal.nD Cert.AdamPoolScaleReferenceIdeal.τ).loc Cert.AdamPoolScaleReferenceIdeal.main_arg1)
          ∧ r.2.mem ((c.tc : Thread Cert.AdamPoolScaleReferenceIdeal.nD Cert.AdamPoolScaleReferenceIdeal.τ).loc Cert.AdamPoolScaleReferenceIdeal.main_arg2) = m' ((c.tc : Thread Cert.AdamPoolScaleReferenceIdeal.nD Cert.AdamPoolScaleReferenceIdeal.τ).loc Cert.AdamPoolScaleReferenceIdeal.main_arg2)
          ∧ r.2.mem ((c.tc : Thread Cert.AdamPoolScaleReferenceIdeal.nD Cert.AdamPoolScaleReferenceIdeal.τ).loc Cert.AdamPoolScaleReferenceIdeal.main_arg3) = m' ((c.tc : Thread Cert.AdamPoolScaleReferenceIdeal.nD Cert.AdamPoolScaleReferenceIdeal.τ).loc Cert.AdamPoolScaleReferenceIdeal.main_arg3))

def preserves_AdamConvW_AdamConvWIdeal : Prop :=
  True

def algebraic_AdamConvWIdeal_AdamConvWReferenceIdeal [hAdamConvWIdeal : Cert.AdamConvWIdeal.Facts] [hAdamConvWReferenceIdeal : Cert.AdamConvWReferenceIdeal.Facts] : Prop :=
  ∀ (m : (ℓ : Loc Cert.AdamConvWIdeal.nD Cert.AdamConvWIdeal.τ Cert.AdamConvWIdeal.sig) → Buf (Elt Ideal) ℓ) (g : Dev Cert.AdamConvWIdeal.nD → PrngReg)
    (m' : (ℓ : Loc Cert.AdamConvWReferenceIdeal.nD Cert.AdamConvWReferenceIdeal.τ Cert.AdamConvWReferenceIdeal.sig) → Buf (Elt Ideal) ℓ) (g' : Dev Cert.AdamConvWReferenceIdeal.nD → PrngReg), Pre_AdamConvWIdeal m →
    (∀ c : Dev Cert.AdamConvWIdeal.nD,
      m' ((c.tc : Thread Cert.AdamConvWReferenceIdeal.nD Cert.AdamConvWReferenceIdeal.τ).loc Cert.AdamConvWReferenceIdeal.main_arg0) = m ((c.tc : Thread Cert.AdamConvWIdeal.nD Cert.AdamConvWIdeal.τ).loc Cert.AdamConvWIdeal.main_arg0)
      ∧ m' ((c.tc : Thread Cert.AdamConvWReferenceIdeal.nD Cert.AdamConvWReferenceIdeal.τ).loc Cert.AdamConvWReferenceIdeal.main_arg1) = m ((c.tc : Thread Cert.AdamConvWIdeal.nD Cert.AdamConvWIdeal.τ).loc Cert.AdamConvWIdeal.main_arg1)
      ∧ m' ((c.tc : Thread Cert.AdamConvWReferenceIdeal.nD Cert.AdamConvWReferenceIdeal.τ).loc Cert.AdamConvWReferenceIdeal.main_arg2) = m ((c.tc : Thread Cert.AdamConvWIdeal.nD Cert.AdamConvWIdeal.τ).loc Cert.AdamConvWIdeal.main_arg2)
      ∧ m' ((c.tc : Thread Cert.AdamConvWReferenceIdeal.nD Cert.AdamConvWReferenceIdeal.τ).loc Cert.AdamConvWReferenceIdeal.main_arg3) = m ((c.tc : Thread Cert.AdamConvWIdeal.nD Cert.AdamConvWIdeal.τ).loc Cert.AdamConvWIdeal.main_arg3)) →
    ∃ (v0 : (c : Dev Cert.AdamConvWIdeal.nD) → Buf (Elt Ideal) ((c.tc : Thread Cert.AdamConvWIdeal.nD Cert.AdamConvWIdeal.τ).loc Cert.AdamConvWIdeal.main_v4_0)) (v1 : (c : Dev Cert.AdamConvWIdeal.nD) → Buf (Elt Ideal) ((c.tc : Thread Cert.AdamConvWIdeal.nD Cert.AdamConvWIdeal.τ).loc Cert.AdamConvWIdeal.main_v4_1)) (v2 : (c : Dev Cert.AdamConvWIdeal.nD) → Buf (Elt Ideal) ((c.tc : Thread Cert.AdamConvWIdeal.nD Cert.AdamConvWIdeal.τ).loc Cert.AdamConvWIdeal.main_v4_2)),
      θ_run (Cert.AdamConvWIdeal.defs (F := Ideal)) (onTc (τ := Cert.AdamConvWIdeal.τ) (Cert.AdamConvWIdeal.main (F := Ideal))) ⟨m, fun _ => 0, g⟩ (fun r => ∀ c : Dev Cert.AdamConvWIdeal.nD,
          r.2.mem ((c.tc : Thread Cert.AdamConvWIdeal.nD Cert.AdamConvWIdeal.τ).loc Cert.AdamConvWIdeal.main_v4_0) = v0 c
          ∧ r.2.mem ((c.tc : Thread Cert.AdamConvWIdeal.nD Cert.AdamConvWIdeal.τ).loc Cert.AdamConvWIdeal.main_v4_1) = v1 c
          ∧ r.2.mem ((c.tc : Thread Cert.AdamConvWIdeal.nD Cert.AdamConvWIdeal.τ).loc Cert.AdamConvWIdeal.main_v4_2) = v2 c
          ∧ r.2.mem ((c.tc : Thread Cert.AdamConvWIdeal.nD Cert.AdamConvWIdeal.τ).loc Cert.AdamConvWIdeal.main_arg0) = m ((c.tc : Thread Cert.AdamConvWIdeal.nD Cert.AdamConvWIdeal.τ).loc Cert.AdamConvWIdeal.main_arg0)
          ∧ r.2.mem ((c.tc : Thread Cert.AdamConvWIdeal.nD Cert.AdamConvWIdeal.τ).loc Cert.AdamConvWIdeal.main_arg1) = m ((c.tc : Thread Cert.AdamConvWIdeal.nD Cert.AdamConvWIdeal.τ).loc Cert.AdamConvWIdeal.main_arg1)
          ∧ r.2.mem ((c.tc : Thread Cert.AdamConvWIdeal.nD Cert.AdamConvWIdeal.τ).loc Cert.AdamConvWIdeal.main_arg2) = m ((c.tc : Thread Cert.AdamConvWIdeal.nD Cert.AdamConvWIdeal.τ).loc Cert.AdamConvWIdeal.main_arg2)
          ∧ r.2.mem ((c.tc : Thread Cert.AdamConvWIdeal.nD Cert.AdamConvWIdeal.τ).loc Cert.AdamConvWIdeal.main_arg3) = m ((c.tc : Thread Cert.AdamConvWIdeal.nD Cert.AdamConvWIdeal.τ).loc Cert.AdamConvWIdeal.main_arg3))
      ∧ θ_run (Cert.AdamConvWReferenceIdeal.defs (F := Ideal)) (onTc (τ := Cert.AdamConvWReferenceIdeal.τ) (Cert.AdamConvWReferenceIdeal.main (F := Ideal))) ⟨m', fun _ => 0, g'⟩ (fun r => ∀ c : Dev Cert.AdamConvWReferenceIdeal.nD,
          r.2.mem ((c.tc : Thread Cert.AdamConvWReferenceIdeal.nD Cert.AdamConvWReferenceIdeal.τ).loc Cert.AdamConvWReferenceIdeal.main_v24) = v0 c
          ∧ r.2.mem ((c.tc : Thread Cert.AdamConvWReferenceIdeal.nD Cert.AdamConvWReferenceIdeal.τ).loc Cert.AdamConvWReferenceIdeal.main_v25) = v1 c
          ∧ r.2.mem ((c.tc : Thread Cert.AdamConvWReferenceIdeal.nD Cert.AdamConvWReferenceIdeal.τ).loc Cert.AdamConvWReferenceIdeal.main_v26) = v2 c
          ∧ r.2.mem ((c.tc : Thread Cert.AdamConvWReferenceIdeal.nD Cert.AdamConvWReferenceIdeal.τ).loc Cert.AdamConvWReferenceIdeal.main_arg0) = m' ((c.tc : Thread Cert.AdamConvWReferenceIdeal.nD Cert.AdamConvWReferenceIdeal.τ).loc Cert.AdamConvWReferenceIdeal.main_arg0)
          ∧ r.2.mem ((c.tc : Thread Cert.AdamConvWReferenceIdeal.nD Cert.AdamConvWReferenceIdeal.τ).loc Cert.AdamConvWReferenceIdeal.main_arg1) = m' ((c.tc : Thread Cert.AdamConvWReferenceIdeal.nD Cert.AdamConvWReferenceIdeal.τ).loc Cert.AdamConvWReferenceIdeal.main_arg1)
          ∧ r.2.mem ((c.tc : Thread Cert.AdamConvWReferenceIdeal.nD Cert.AdamConvWReferenceIdeal.τ).loc Cert.AdamConvWReferenceIdeal.main_arg2) = m' ((c.tc : Thread Cert.AdamConvWReferenceIdeal.nD Cert.AdamConvWReferenceIdeal.τ).loc Cert.AdamConvWReferenceIdeal.main_arg2)
          ∧ r.2.mem ((c.tc : Thread Cert.AdamConvWReferenceIdeal.nD Cert.AdamConvWReferenceIdeal.τ).loc Cert.AdamConvWReferenceIdeal.main_arg3) = m' ((c.tc : Thread Cert.AdamConvWReferenceIdeal.nD Cert.AdamConvWReferenceIdeal.τ).loc Cert.AdamConvWReferenceIdeal.main_arg3))

def preserves_AdamLru_AdamLruIdeal : Prop :=
  True

def algebraic_AdamLruIdeal_AdamLruReferenceIdeal [hAdamLruIdeal : Cert.AdamLruIdeal.Facts] [hAdamLruReferenceIdeal : Cert.AdamLruReferenceIdeal.Facts] : Prop :=
  ∀ (m : (ℓ : Loc Cert.AdamLruIdeal.nD Cert.AdamLruIdeal.τ Cert.AdamLruIdeal.sig) → Buf (Elt Ideal) ℓ) (g : Dev Cert.AdamLruIdeal.nD → PrngReg)
    (m' : (ℓ : Loc Cert.AdamLruReferenceIdeal.nD Cert.AdamLruReferenceIdeal.τ Cert.AdamLruReferenceIdeal.sig) → Buf (Elt Ideal) ℓ) (g' : Dev Cert.AdamLruReferenceIdeal.nD → PrngReg), Pre_AdamLruIdeal m →
    (∀ c : Dev Cert.AdamLruIdeal.nD,
      m' ((c.tc : Thread Cert.AdamLruReferenceIdeal.nD Cert.AdamLruReferenceIdeal.τ).loc Cert.AdamLruReferenceIdeal.main_arg0) = m ((c.tc : Thread Cert.AdamLruIdeal.nD Cert.AdamLruIdeal.τ).loc Cert.AdamLruIdeal.main_arg0)
      ∧ m' ((c.tc : Thread Cert.AdamLruReferenceIdeal.nD Cert.AdamLruReferenceIdeal.τ).loc Cert.AdamLruReferenceIdeal.main_arg1) = m ((c.tc : Thread Cert.AdamLruIdeal.nD Cert.AdamLruIdeal.τ).loc Cert.AdamLruIdeal.main_arg1)
      ∧ m' ((c.tc : Thread Cert.AdamLruReferenceIdeal.nD Cert.AdamLruReferenceIdeal.τ).loc Cert.AdamLruReferenceIdeal.main_arg2) = m ((c.tc : Thread Cert.AdamLruIdeal.nD Cert.AdamLruIdeal.τ).loc Cert.AdamLruIdeal.main_arg2)
      ∧ m' ((c.tc : Thread Cert.AdamLruReferenceIdeal.nD Cert.AdamLruReferenceIdeal.τ).loc Cert.AdamLruReferenceIdeal.main_arg3) = m ((c.tc : Thread Cert.AdamLruIdeal.nD Cert.AdamLruIdeal.τ).loc Cert.AdamLruIdeal.main_arg3)) →
    ∃ (v0 : (c : Dev Cert.AdamLruIdeal.nD) → Buf (Elt Ideal) ((c.tc : Thread Cert.AdamLruIdeal.nD Cert.AdamLruIdeal.τ).loc Cert.AdamLruIdeal.main_v4_0)) (v1 : (c : Dev Cert.AdamLruIdeal.nD) → Buf (Elt Ideal) ((c.tc : Thread Cert.AdamLruIdeal.nD Cert.AdamLruIdeal.τ).loc Cert.AdamLruIdeal.main_v4_1)) (v2 : (c : Dev Cert.AdamLruIdeal.nD) → Buf (Elt Ideal) ((c.tc : Thread Cert.AdamLruIdeal.nD Cert.AdamLruIdeal.τ).loc Cert.AdamLruIdeal.main_v4_2)),
      θ_run (Cert.AdamLruIdeal.defs (F := Ideal)) (onTc (τ := Cert.AdamLruIdeal.τ) (Cert.AdamLruIdeal.main (F := Ideal))) ⟨m, fun _ => 0, g⟩ (fun r => ∀ c : Dev Cert.AdamLruIdeal.nD,
          r.2.mem ((c.tc : Thread Cert.AdamLruIdeal.nD Cert.AdamLruIdeal.τ).loc Cert.AdamLruIdeal.main_v4_0) = v0 c
          ∧ r.2.mem ((c.tc : Thread Cert.AdamLruIdeal.nD Cert.AdamLruIdeal.τ).loc Cert.AdamLruIdeal.main_v4_1) = v1 c
          ∧ r.2.mem ((c.tc : Thread Cert.AdamLruIdeal.nD Cert.AdamLruIdeal.τ).loc Cert.AdamLruIdeal.main_v4_2) = v2 c
          ∧ r.2.mem ((c.tc : Thread Cert.AdamLruIdeal.nD Cert.AdamLruIdeal.τ).loc Cert.AdamLruIdeal.main_arg0) = m ((c.tc : Thread Cert.AdamLruIdeal.nD Cert.AdamLruIdeal.τ).loc Cert.AdamLruIdeal.main_arg0)
          ∧ r.2.mem ((c.tc : Thread Cert.AdamLruIdeal.nD Cert.AdamLruIdeal.τ).loc Cert.AdamLruIdeal.main_arg1) = m ((c.tc : Thread Cert.AdamLruIdeal.nD Cert.AdamLruIdeal.τ).loc Cert.AdamLruIdeal.main_arg1)
          ∧ r.2.mem ((c.tc : Thread Cert.AdamLruIdeal.nD Cert.AdamLruIdeal.τ).loc Cert.AdamLruIdeal.main_arg2) = m ((c.tc : Thread Cert.AdamLruIdeal.nD Cert.AdamLruIdeal.τ).loc Cert.AdamLruIdeal.main_arg2)
          ∧ r.2.mem ((c.tc : Thread Cert.AdamLruIdeal.nD Cert.AdamLruIdeal.τ).loc Cert.AdamLruIdeal.main_arg3) = m ((c.tc : Thread Cert.AdamLruIdeal.nD Cert.AdamLruIdeal.τ).loc Cert.AdamLruIdeal.main_arg3))
      ∧ θ_run (Cert.AdamLruReferenceIdeal.defs (F := Ideal)) (onTc (τ := Cert.AdamLruReferenceIdeal.τ) (Cert.AdamLruReferenceIdeal.main (F := Ideal))) ⟨m', fun _ => 0, g'⟩ (fun r => ∀ c : Dev Cert.AdamLruReferenceIdeal.nD,
          r.2.mem ((c.tc : Thread Cert.AdamLruReferenceIdeal.nD Cert.AdamLruReferenceIdeal.τ).loc Cert.AdamLruReferenceIdeal.main_v24) = v0 c
          ∧ r.2.mem ((c.tc : Thread Cert.AdamLruReferenceIdeal.nD Cert.AdamLruReferenceIdeal.τ).loc Cert.AdamLruReferenceIdeal.main_v25) = v1 c
          ∧ r.2.mem ((c.tc : Thread Cert.AdamLruReferenceIdeal.nD Cert.AdamLruReferenceIdeal.τ).loc Cert.AdamLruReferenceIdeal.main_v26) = v2 c
          ∧ r.2.mem ((c.tc : Thread Cert.AdamLruReferenceIdeal.nD Cert.AdamLruReferenceIdeal.τ).loc Cert.AdamLruReferenceIdeal.main_arg0) = m' ((c.tc : Thread Cert.AdamLruReferenceIdeal.nD Cert.AdamLruReferenceIdeal.τ).loc Cert.AdamLruReferenceIdeal.main_arg0)
          ∧ r.2.mem ((c.tc : Thread Cert.AdamLruReferenceIdeal.nD Cert.AdamLruReferenceIdeal.τ).loc Cert.AdamLruReferenceIdeal.main_arg1) = m' ((c.tc : Thread Cert.AdamLruReferenceIdeal.nD Cert.AdamLruReferenceIdeal.τ).loc Cert.AdamLruReferenceIdeal.main_arg1)
          ∧ r.2.mem ((c.tc : Thread Cert.AdamLruReferenceIdeal.nD Cert.AdamLruReferenceIdeal.τ).loc Cert.AdamLruReferenceIdeal.main_arg2) = m' ((c.tc : Thread Cert.AdamLruReferenceIdeal.nD Cert.AdamLruReferenceIdeal.τ).loc Cert.AdamLruReferenceIdeal.main_arg2)
          ∧ r.2.mem ((c.tc : Thread Cert.AdamLruReferenceIdeal.nD Cert.AdamLruReferenceIdeal.τ).loc Cert.AdamLruReferenceIdeal.main_arg3) = m' ((c.tc : Thread Cert.AdamLruReferenceIdeal.nD Cert.AdamLruReferenceIdeal.τ).loc Cert.AdamLruReferenceIdeal.main_arg3))

def preserves_AdamHeadW_AdamHeadWIdeal : Prop :=
  True

def algebraic_AdamHeadWIdeal_AdamHeadWReferenceIdeal [hAdamHeadWIdeal : Cert.AdamHeadWIdeal.Facts] [hAdamHeadWReferenceIdeal : Cert.AdamHeadWReferenceIdeal.Facts] : Prop :=
  ∀ (m : (ℓ : Loc Cert.AdamHeadWIdeal.nD Cert.AdamHeadWIdeal.τ Cert.AdamHeadWIdeal.sig) → Buf (Elt Ideal) ℓ) (g : Dev Cert.AdamHeadWIdeal.nD → PrngReg)
    (m' : (ℓ : Loc Cert.AdamHeadWReferenceIdeal.nD Cert.AdamHeadWReferenceIdeal.τ Cert.AdamHeadWReferenceIdeal.sig) → Buf (Elt Ideal) ℓ) (g' : Dev Cert.AdamHeadWReferenceIdeal.nD → PrngReg), Pre_AdamHeadWIdeal m →
    (∀ c : Dev Cert.AdamHeadWIdeal.nD,
      m' ((c.tc : Thread Cert.AdamHeadWReferenceIdeal.nD Cert.AdamHeadWReferenceIdeal.τ).loc Cert.AdamHeadWReferenceIdeal.main_arg0) = m ((c.tc : Thread Cert.AdamHeadWIdeal.nD Cert.AdamHeadWIdeal.τ).loc Cert.AdamHeadWIdeal.main_arg0)
      ∧ m' ((c.tc : Thread Cert.AdamHeadWReferenceIdeal.nD Cert.AdamHeadWReferenceIdeal.τ).loc Cert.AdamHeadWReferenceIdeal.main_arg1) = m ((c.tc : Thread Cert.AdamHeadWIdeal.nD Cert.AdamHeadWIdeal.τ).loc Cert.AdamHeadWIdeal.main_arg1)
      ∧ m' ((c.tc : Thread Cert.AdamHeadWReferenceIdeal.nD Cert.AdamHeadWReferenceIdeal.τ).loc Cert.AdamHeadWReferenceIdeal.main_arg2) = m ((c.tc : Thread Cert.AdamHeadWIdeal.nD Cert.AdamHeadWIdeal.τ).loc Cert.AdamHeadWIdeal.main_arg2)
      ∧ m' ((c.tc : Thread Cert.AdamHeadWReferenceIdeal.nD Cert.AdamHeadWReferenceIdeal.τ).loc Cert.AdamHeadWReferenceIdeal.main_arg3) = m ((c.tc : Thread Cert.AdamHeadWIdeal.nD Cert.AdamHeadWIdeal.τ).loc Cert.AdamHeadWIdeal.main_arg3)) →
    ∃ (v0 : (c : Dev Cert.AdamHeadWIdeal.nD) → Buf (Elt Ideal) ((c.tc : Thread Cert.AdamHeadWIdeal.nD Cert.AdamHeadWIdeal.τ).loc Cert.AdamHeadWIdeal.main_v4_0)) (v1 : (c : Dev Cert.AdamHeadWIdeal.nD) → Buf (Elt Ideal) ((c.tc : Thread Cert.AdamHeadWIdeal.nD Cert.AdamHeadWIdeal.τ).loc Cert.AdamHeadWIdeal.main_v4_1)) (v2 : (c : Dev Cert.AdamHeadWIdeal.nD) → Buf (Elt Ideal) ((c.tc : Thread Cert.AdamHeadWIdeal.nD Cert.AdamHeadWIdeal.τ).loc Cert.AdamHeadWIdeal.main_v4_2)),
      θ_run (Cert.AdamHeadWIdeal.defs (F := Ideal)) (onTc (τ := Cert.AdamHeadWIdeal.τ) (Cert.AdamHeadWIdeal.main (F := Ideal))) ⟨m, fun _ => 0, g⟩ (fun r => ∀ c : Dev Cert.AdamHeadWIdeal.nD,
          r.2.mem ((c.tc : Thread Cert.AdamHeadWIdeal.nD Cert.AdamHeadWIdeal.τ).loc Cert.AdamHeadWIdeal.main_v4_0) = v0 c
          ∧ r.2.mem ((c.tc : Thread Cert.AdamHeadWIdeal.nD Cert.AdamHeadWIdeal.τ).loc Cert.AdamHeadWIdeal.main_v4_1) = v1 c
          ∧ r.2.mem ((c.tc : Thread Cert.AdamHeadWIdeal.nD Cert.AdamHeadWIdeal.τ).loc Cert.AdamHeadWIdeal.main_v4_2) = v2 c
          ∧ r.2.mem ((c.tc : Thread Cert.AdamHeadWIdeal.nD Cert.AdamHeadWIdeal.τ).loc Cert.AdamHeadWIdeal.main_arg0) = m ((c.tc : Thread Cert.AdamHeadWIdeal.nD Cert.AdamHeadWIdeal.τ).loc Cert.AdamHeadWIdeal.main_arg0)
          ∧ r.2.mem ((c.tc : Thread Cert.AdamHeadWIdeal.nD Cert.AdamHeadWIdeal.τ).loc Cert.AdamHeadWIdeal.main_arg1) = m ((c.tc : Thread Cert.AdamHeadWIdeal.nD Cert.AdamHeadWIdeal.τ).loc Cert.AdamHeadWIdeal.main_arg1)
          ∧ r.2.mem ((c.tc : Thread Cert.AdamHeadWIdeal.nD Cert.AdamHeadWIdeal.τ).loc Cert.AdamHeadWIdeal.main_arg2) = m ((c.tc : Thread Cert.AdamHeadWIdeal.nD Cert.AdamHeadWIdeal.τ).loc Cert.AdamHeadWIdeal.main_arg2)
          ∧ r.2.mem ((c.tc : Thread Cert.AdamHeadWIdeal.nD Cert.AdamHeadWIdeal.τ).loc Cert.AdamHeadWIdeal.main_arg3) = m ((c.tc : Thread Cert.AdamHeadWIdeal.nD Cert.AdamHeadWIdeal.τ).loc Cert.AdamHeadWIdeal.main_arg3))
      ∧ θ_run (Cert.AdamHeadWReferenceIdeal.defs (F := Ideal)) (onTc (τ := Cert.AdamHeadWReferenceIdeal.τ) (Cert.AdamHeadWReferenceIdeal.main (F := Ideal))) ⟨m', fun _ => 0, g'⟩ (fun r => ∀ c : Dev Cert.AdamHeadWReferenceIdeal.nD,
          r.2.mem ((c.tc : Thread Cert.AdamHeadWReferenceIdeal.nD Cert.AdamHeadWReferenceIdeal.τ).loc Cert.AdamHeadWReferenceIdeal.main_v24) = v0 c
          ∧ r.2.mem ((c.tc : Thread Cert.AdamHeadWReferenceIdeal.nD Cert.AdamHeadWReferenceIdeal.τ).loc Cert.AdamHeadWReferenceIdeal.main_v25) = v1 c
          ∧ r.2.mem ((c.tc : Thread Cert.AdamHeadWReferenceIdeal.nD Cert.AdamHeadWReferenceIdeal.τ).loc Cert.AdamHeadWReferenceIdeal.main_v26) = v2 c
          ∧ r.2.mem ((c.tc : Thread Cert.AdamHeadWReferenceIdeal.nD Cert.AdamHeadWReferenceIdeal.τ).loc Cert.AdamHeadWReferenceIdeal.main_arg0) = m' ((c.tc : Thread Cert.AdamHeadWReferenceIdeal.nD Cert.AdamHeadWReferenceIdeal.τ).loc Cert.AdamHeadWReferenceIdeal.main_arg0)
          ∧ r.2.mem ((c.tc : Thread Cert.AdamHeadWReferenceIdeal.nD Cert.AdamHeadWReferenceIdeal.τ).loc Cert.AdamHeadWReferenceIdeal.main_arg1) = m' ((c.tc : Thread Cert.AdamHeadWReferenceIdeal.nD Cert.AdamHeadWReferenceIdeal.τ).loc Cert.AdamHeadWReferenceIdeal.main_arg1)
          ∧ r.2.mem ((c.tc : Thread Cert.AdamHeadWReferenceIdeal.nD Cert.AdamHeadWReferenceIdeal.τ).loc Cert.AdamHeadWReferenceIdeal.main_arg2) = m' ((c.tc : Thread Cert.AdamHeadWReferenceIdeal.nD Cert.AdamHeadWReferenceIdeal.τ).loc Cert.AdamHeadWReferenceIdeal.main_arg2)
          ∧ r.2.mem ((c.tc : Thread Cert.AdamHeadWReferenceIdeal.nD Cert.AdamHeadWReferenceIdeal.τ).loc Cert.AdamHeadWReferenceIdeal.main_arg3) = m' ((c.tc : Thread Cert.AdamHeadWReferenceIdeal.nD Cert.AdamHeadWReferenceIdeal.τ).loc Cert.AdamHeadWReferenceIdeal.main_arg3))

def preserves_AdamHeadB_AdamHeadBIdeal : Prop :=
  True

def algebraic_AdamHeadBIdeal_AdamHeadBReferenceIdeal [hAdamHeadBIdeal : Cert.AdamHeadBIdeal.Facts] [hAdamHeadBReferenceIdeal : Cert.AdamHeadBReferenceIdeal.Facts] : Prop :=
  ∀ (m : (ℓ : Loc Cert.AdamHeadBIdeal.nD Cert.AdamHeadBIdeal.τ Cert.AdamHeadBIdeal.sig) → Buf (Elt Ideal) ℓ) (g : Dev Cert.AdamHeadBIdeal.nD → PrngReg)
    (m' : (ℓ : Loc Cert.AdamHeadBReferenceIdeal.nD Cert.AdamHeadBReferenceIdeal.τ Cert.AdamHeadBReferenceIdeal.sig) → Buf (Elt Ideal) ℓ) (g' : Dev Cert.AdamHeadBReferenceIdeal.nD → PrngReg), Pre_AdamHeadBIdeal m →
    (∀ c : Dev Cert.AdamHeadBIdeal.nD,
      m' ((c.tc : Thread Cert.AdamHeadBReferenceIdeal.nD Cert.AdamHeadBReferenceIdeal.τ).loc Cert.AdamHeadBReferenceIdeal.main_arg0) = m ((c.tc : Thread Cert.AdamHeadBIdeal.nD Cert.AdamHeadBIdeal.τ).loc Cert.AdamHeadBIdeal.main_arg0)
      ∧ m' ((c.tc : Thread Cert.AdamHeadBReferenceIdeal.nD Cert.AdamHeadBReferenceIdeal.τ).loc Cert.AdamHeadBReferenceIdeal.main_arg1) = m ((c.tc : Thread Cert.AdamHeadBIdeal.nD Cert.AdamHeadBIdeal.τ).loc Cert.AdamHeadBIdeal.main_arg1)
      ∧ m' ((c.tc : Thread Cert.AdamHeadBReferenceIdeal.nD Cert.AdamHeadBReferenceIdeal.τ).loc Cert.AdamHeadBReferenceIdeal.main_arg2) = m ((c.tc : Thread Cert.AdamHeadBIdeal.nD Cert.AdamHeadBIdeal.τ).loc Cert.AdamHeadBIdeal.main_arg2)
      ∧ m' ((c.tc : Thread Cert.AdamHeadBReferenceIdeal.nD Cert.AdamHeadBReferenceIdeal.τ).loc Cert.AdamHeadBReferenceIdeal.main_arg3) = m ((c.tc : Thread Cert.AdamHeadBIdeal.nD Cert.AdamHeadBIdeal.τ).loc Cert.AdamHeadBIdeal.main_arg3)) →
    ∃ (v0 : (c : Dev Cert.AdamHeadBIdeal.nD) → Buf (Elt Ideal) ((c.tc : Thread Cert.AdamHeadBIdeal.nD Cert.AdamHeadBIdeal.τ).loc Cert.AdamHeadBIdeal.main_v4_0)) (v1 : (c : Dev Cert.AdamHeadBIdeal.nD) → Buf (Elt Ideal) ((c.tc : Thread Cert.AdamHeadBIdeal.nD Cert.AdamHeadBIdeal.τ).loc Cert.AdamHeadBIdeal.main_v4_1)) (v2 : (c : Dev Cert.AdamHeadBIdeal.nD) → Buf (Elt Ideal) ((c.tc : Thread Cert.AdamHeadBIdeal.nD Cert.AdamHeadBIdeal.τ).loc Cert.AdamHeadBIdeal.main_v4_2)),
      θ_run (Cert.AdamHeadBIdeal.defs (F := Ideal)) (onTc (τ := Cert.AdamHeadBIdeal.τ) (Cert.AdamHeadBIdeal.main (F := Ideal))) ⟨m, fun _ => 0, g⟩ (fun r => ∀ c : Dev Cert.AdamHeadBIdeal.nD,
          r.2.mem ((c.tc : Thread Cert.AdamHeadBIdeal.nD Cert.AdamHeadBIdeal.τ).loc Cert.AdamHeadBIdeal.main_v4_0) = v0 c
          ∧ r.2.mem ((c.tc : Thread Cert.AdamHeadBIdeal.nD Cert.AdamHeadBIdeal.τ).loc Cert.AdamHeadBIdeal.main_v4_1) = v1 c
          ∧ r.2.mem ((c.tc : Thread Cert.AdamHeadBIdeal.nD Cert.AdamHeadBIdeal.τ).loc Cert.AdamHeadBIdeal.main_v4_2) = v2 c
          ∧ r.2.mem ((c.tc : Thread Cert.AdamHeadBIdeal.nD Cert.AdamHeadBIdeal.τ).loc Cert.AdamHeadBIdeal.main_arg0) = m ((c.tc : Thread Cert.AdamHeadBIdeal.nD Cert.AdamHeadBIdeal.τ).loc Cert.AdamHeadBIdeal.main_arg0)
          ∧ r.2.mem ((c.tc : Thread Cert.AdamHeadBIdeal.nD Cert.AdamHeadBIdeal.τ).loc Cert.AdamHeadBIdeal.main_arg1) = m ((c.tc : Thread Cert.AdamHeadBIdeal.nD Cert.AdamHeadBIdeal.τ).loc Cert.AdamHeadBIdeal.main_arg1)
          ∧ r.2.mem ((c.tc : Thread Cert.AdamHeadBIdeal.nD Cert.AdamHeadBIdeal.τ).loc Cert.AdamHeadBIdeal.main_arg2) = m ((c.tc : Thread Cert.AdamHeadBIdeal.nD Cert.AdamHeadBIdeal.τ).loc Cert.AdamHeadBIdeal.main_arg2)
          ∧ r.2.mem ((c.tc : Thread Cert.AdamHeadBIdeal.nD Cert.AdamHeadBIdeal.τ).loc Cert.AdamHeadBIdeal.main_arg3) = m ((c.tc : Thread Cert.AdamHeadBIdeal.nD Cert.AdamHeadBIdeal.τ).loc Cert.AdamHeadBIdeal.main_arg3))
      ∧ θ_run (Cert.AdamHeadBReferenceIdeal.defs (F := Ideal)) (onTc (τ := Cert.AdamHeadBReferenceIdeal.τ) (Cert.AdamHeadBReferenceIdeal.main (F := Ideal))) ⟨m', fun _ => 0, g'⟩ (fun r => ∀ c : Dev Cert.AdamHeadBReferenceIdeal.nD,
          r.2.mem ((c.tc : Thread Cert.AdamHeadBReferenceIdeal.nD Cert.AdamHeadBReferenceIdeal.τ).loc Cert.AdamHeadBReferenceIdeal.main_v24) = v0 c
          ∧ r.2.mem ((c.tc : Thread Cert.AdamHeadBReferenceIdeal.nD Cert.AdamHeadBReferenceIdeal.τ).loc Cert.AdamHeadBReferenceIdeal.main_v25) = v1 c
          ∧ r.2.mem ((c.tc : Thread Cert.AdamHeadBReferenceIdeal.nD Cert.AdamHeadBReferenceIdeal.τ).loc Cert.AdamHeadBReferenceIdeal.main_v26) = v2 c
          ∧ r.2.mem ((c.tc : Thread Cert.AdamHeadBReferenceIdeal.nD Cert.AdamHeadBReferenceIdeal.τ).loc Cert.AdamHeadBReferenceIdeal.main_arg0) = m' ((c.tc : Thread Cert.AdamHeadBReferenceIdeal.nD Cert.AdamHeadBReferenceIdeal.τ).loc Cert.AdamHeadBReferenceIdeal.main_arg0)
          ∧ r.2.mem ((c.tc : Thread Cert.AdamHeadBReferenceIdeal.nD Cert.AdamHeadBReferenceIdeal.τ).loc Cert.AdamHeadBReferenceIdeal.main_arg1) = m' ((c.tc : Thread Cert.AdamHeadBReferenceIdeal.nD Cert.AdamHeadBReferenceIdeal.τ).loc Cert.AdamHeadBReferenceIdeal.main_arg1)
          ∧ r.2.mem ((c.tc : Thread Cert.AdamHeadBReferenceIdeal.nD Cert.AdamHeadBReferenceIdeal.τ).loc Cert.AdamHeadBReferenceIdeal.main_arg2) = m' ((c.tc : Thread Cert.AdamHeadBReferenceIdeal.nD Cert.AdamHeadBReferenceIdeal.τ).loc Cert.AdamHeadBReferenceIdeal.main_arg2)
          ∧ r.2.mem ((c.tc : Thread Cert.AdamHeadBReferenceIdeal.nD Cert.AdamHeadBReferenceIdeal.τ).loc Cert.AdamHeadBReferenceIdeal.main_arg3) = m' ((c.tc : Thread Cert.AdamHeadBReferenceIdeal.nD Cert.AdamHeadBReferenceIdeal.τ).loc Cert.AdamHeadBReferenceIdeal.main_arg3))

def preserves_AdamFinal_AdamFinalIdeal : Prop :=
  True

def algebraic_AdamFinalIdeal_AdamFinalReferenceIdeal [hAdamFinalIdeal : Cert.AdamFinalIdeal.Facts] [hAdamFinalReferenceIdeal : Cert.AdamFinalReferenceIdeal.Facts] : Prop :=
  ∀ (m : (ℓ : Loc Cert.AdamFinalIdeal.nD Cert.AdamFinalIdeal.τ Cert.AdamFinalIdeal.sig) → Buf (Elt Ideal) ℓ) (g : Dev Cert.AdamFinalIdeal.nD → PrngReg)
    (m' : (ℓ : Loc Cert.AdamFinalReferenceIdeal.nD Cert.AdamFinalReferenceIdeal.τ Cert.AdamFinalReferenceIdeal.sig) → Buf (Elt Ideal) ℓ) (g' : Dev Cert.AdamFinalReferenceIdeal.nD → PrngReg), Pre_AdamFinalIdeal m →
    (∀ c : Dev Cert.AdamFinalIdeal.nD,
      m' ((c.tc : Thread Cert.AdamFinalReferenceIdeal.nD Cert.AdamFinalReferenceIdeal.τ).loc Cert.AdamFinalReferenceIdeal.main_arg0) = m ((c.tc : Thread Cert.AdamFinalIdeal.nD Cert.AdamFinalIdeal.τ).loc Cert.AdamFinalIdeal.main_arg0)
      ∧ m' ((c.tc : Thread Cert.AdamFinalReferenceIdeal.nD Cert.AdamFinalReferenceIdeal.τ).loc Cert.AdamFinalReferenceIdeal.main_arg1) = m ((c.tc : Thread Cert.AdamFinalIdeal.nD Cert.AdamFinalIdeal.τ).loc Cert.AdamFinalIdeal.main_arg1)
      ∧ m' ((c.tc : Thread Cert.AdamFinalReferenceIdeal.nD Cert.AdamFinalReferenceIdeal.τ).loc Cert.AdamFinalReferenceIdeal.main_arg2) = m ((c.tc : Thread Cert.AdamFinalIdeal.nD Cert.AdamFinalIdeal.τ).loc Cert.AdamFinalIdeal.main_arg2)
      ∧ m' ((c.tc : Thread Cert.AdamFinalReferenceIdeal.nD Cert.AdamFinalReferenceIdeal.τ).loc Cert.AdamFinalReferenceIdeal.main_arg3) = m ((c.tc : Thread Cert.AdamFinalIdeal.nD Cert.AdamFinalIdeal.τ).loc Cert.AdamFinalIdeal.main_arg3)) →
    ∃ (v0 : (c : Dev Cert.AdamFinalIdeal.nD) → Buf (Elt Ideal) ((c.tc : Thread Cert.AdamFinalIdeal.nD Cert.AdamFinalIdeal.τ).loc Cert.AdamFinalIdeal.main_v4_0)) (v1 : (c : Dev Cert.AdamFinalIdeal.nD) → Buf (Elt Ideal) ((c.tc : Thread Cert.AdamFinalIdeal.nD Cert.AdamFinalIdeal.τ).loc Cert.AdamFinalIdeal.main_v4_1)) (v2 : (c : Dev Cert.AdamFinalIdeal.nD) → Buf (Elt Ideal) ((c.tc : Thread Cert.AdamFinalIdeal.nD Cert.AdamFinalIdeal.τ).loc Cert.AdamFinalIdeal.main_v4_2)),
      θ_run (Cert.AdamFinalIdeal.defs (F := Ideal)) (onTc (τ := Cert.AdamFinalIdeal.τ) (Cert.AdamFinalIdeal.main (F := Ideal))) ⟨m, fun _ => 0, g⟩ (fun r => ∀ c : Dev Cert.AdamFinalIdeal.nD,
          r.2.mem ((c.tc : Thread Cert.AdamFinalIdeal.nD Cert.AdamFinalIdeal.τ).loc Cert.AdamFinalIdeal.main_v4_0) = v0 c
          ∧ r.2.mem ((c.tc : Thread Cert.AdamFinalIdeal.nD Cert.AdamFinalIdeal.τ).loc Cert.AdamFinalIdeal.main_v4_1) = v1 c
          ∧ r.2.mem ((c.tc : Thread Cert.AdamFinalIdeal.nD Cert.AdamFinalIdeal.τ).loc Cert.AdamFinalIdeal.main_v4_2) = v2 c
          ∧ r.2.mem ((c.tc : Thread Cert.AdamFinalIdeal.nD Cert.AdamFinalIdeal.τ).loc Cert.AdamFinalIdeal.main_arg0) = m ((c.tc : Thread Cert.AdamFinalIdeal.nD Cert.AdamFinalIdeal.τ).loc Cert.AdamFinalIdeal.main_arg0)
          ∧ r.2.mem ((c.tc : Thread Cert.AdamFinalIdeal.nD Cert.AdamFinalIdeal.τ).loc Cert.AdamFinalIdeal.main_arg1) = m ((c.tc : Thread Cert.AdamFinalIdeal.nD Cert.AdamFinalIdeal.τ).loc Cert.AdamFinalIdeal.main_arg1)
          ∧ r.2.mem ((c.tc : Thread Cert.AdamFinalIdeal.nD Cert.AdamFinalIdeal.τ).loc Cert.AdamFinalIdeal.main_arg2) = m ((c.tc : Thread Cert.AdamFinalIdeal.nD Cert.AdamFinalIdeal.τ).loc Cert.AdamFinalIdeal.main_arg2)
          ∧ r.2.mem ((c.tc : Thread Cert.AdamFinalIdeal.nD Cert.AdamFinalIdeal.τ).loc Cert.AdamFinalIdeal.main_arg3) = m ((c.tc : Thread Cert.AdamFinalIdeal.nD Cert.AdamFinalIdeal.τ).loc Cert.AdamFinalIdeal.main_arg3))
      ∧ θ_run (Cert.AdamFinalReferenceIdeal.defs (F := Ideal)) (onTc (τ := Cert.AdamFinalReferenceIdeal.τ) (Cert.AdamFinalReferenceIdeal.main (F := Ideal))) ⟨m', fun _ => 0, g'⟩ (fun r => ∀ c : Dev Cert.AdamFinalReferenceIdeal.nD,
          r.2.mem ((c.tc : Thread Cert.AdamFinalReferenceIdeal.nD Cert.AdamFinalReferenceIdeal.τ).loc Cert.AdamFinalReferenceIdeal.main_v24) = v0 c
          ∧ r.2.mem ((c.tc : Thread Cert.AdamFinalReferenceIdeal.nD Cert.AdamFinalReferenceIdeal.τ).loc Cert.AdamFinalReferenceIdeal.main_v25) = v1 c
          ∧ r.2.mem ((c.tc : Thread Cert.AdamFinalReferenceIdeal.nD Cert.AdamFinalReferenceIdeal.τ).loc Cert.AdamFinalReferenceIdeal.main_v26) = v2 c
          ∧ r.2.mem ((c.tc : Thread Cert.AdamFinalReferenceIdeal.nD Cert.AdamFinalReferenceIdeal.τ).loc Cert.AdamFinalReferenceIdeal.main_arg0) = m' ((c.tc : Thread Cert.AdamFinalReferenceIdeal.nD Cert.AdamFinalReferenceIdeal.τ).loc Cert.AdamFinalReferenceIdeal.main_arg0)
          ∧ r.2.mem ((c.tc : Thread Cert.AdamFinalReferenceIdeal.nD Cert.AdamFinalReferenceIdeal.τ).loc Cert.AdamFinalReferenceIdeal.main_arg1) = m' ((c.tc : Thread Cert.AdamFinalReferenceIdeal.nD Cert.AdamFinalReferenceIdeal.τ).loc Cert.AdamFinalReferenceIdeal.main_arg1)
          ∧ r.2.mem ((c.tc : Thread Cert.AdamFinalReferenceIdeal.nD Cert.AdamFinalReferenceIdeal.τ).loc Cert.AdamFinalReferenceIdeal.main_arg2) = m' ((c.tc : Thread Cert.AdamFinalReferenceIdeal.nD Cert.AdamFinalReferenceIdeal.τ).loc Cert.AdamFinalReferenceIdeal.main_arg2)
          ∧ r.2.mem ((c.tc : Thread Cert.AdamFinalReferenceIdeal.nD Cert.AdamFinalReferenceIdeal.τ).loc Cert.AdamFinalReferenceIdeal.main_arg3) = m' ((c.tc : Thread Cert.AdamFinalReferenceIdeal.nD Cert.AdamFinalReferenceIdeal.τ).loc Cert.AdamFinalReferenceIdeal.main_arg3))

def preserves_SumFfn_SumFfnIdeal : Prop :=
  True

def algebraic_SumFfnIdeal_SumFfnReferenceIdeal [hSumFfnIdeal : Cert.SumFfnIdeal.Facts] [hSumFfnReferenceIdeal : Cert.SumFfnReferenceIdeal.Facts] [hPre_placed_ffn : Cert.Pre_placed_ffn.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnReferenceIdeal.nD Cert.SumFfnReferenceIdeal.τ Cert.SumFfnReferenceIdeal.sig) → Buf (Elt Ideal) ℓ) (g' : Dev Cert.SumFfnReferenceIdeal.nD → PrngReg), Pre_SumFfnIdeal m →
    (∀ c : Dev Cert.SumFfnIdeal.nD,
      m' ((c.tc : Thread Cert.SumFfnReferenceIdeal.nD Cert.SumFfnReferenceIdeal.τ).loc Cert.SumFfnReferenceIdeal.main_arg0) = m ((c.tc : Thread Cert.SumFfnIdeal.nD Cert.SumFfnIdeal.τ).loc Cert.SumFfnIdeal.main_arg0)
      ∧ m' ((c.tc : Thread Cert.SumFfnReferenceIdeal.nD Cert.SumFfnReferenceIdeal.τ).loc Cert.SumFfnReferenceIdeal.main_arg1) = m ((c.tc : Thread Cert.SumFfnIdeal.nD Cert.SumFfnIdeal.τ).loc Cert.SumFfnIdeal.main_arg1)
      ∧ m' ((c.tc : Thread Cert.SumFfnReferenceIdeal.nD Cert.SumFfnReferenceIdeal.τ).loc Cert.SumFfnReferenceIdeal.main_arg2) = m ((c.tc : Thread Cert.SumFfnIdeal.nD Cert.SumFfnIdeal.τ).loc Cert.SumFfnIdeal.main_arg2)
      ∧ m' ((c.tc : Thread Cert.SumFfnReferenceIdeal.nD Cert.SumFfnReferenceIdeal.τ).loc Cert.SumFfnReferenceIdeal.main_arg3) = m ((c.tc : Thread Cert.SumFfnIdeal.nD Cert.SumFfnIdeal.τ).loc Cert.SumFfnIdeal.main_arg3)
      ∧ m' ((c.tc : Thread Cert.SumFfnReferenceIdeal.nD Cert.SumFfnReferenceIdeal.τ).loc Cert.SumFfnReferenceIdeal.main_arg4) = m ((c.tc : Thread Cert.SumFfnIdeal.nD Cert.SumFfnIdeal.τ).loc Cert.SumFfnIdeal.main_arg4)
      ∧ m' ((c.tc : Thread Cert.SumFfnReferenceIdeal.nD Cert.SumFfnReferenceIdeal.τ).loc Cert.SumFfnReferenceIdeal.main_arg5) = m ((c.tc : Thread Cert.SumFfnIdeal.nD Cert.SumFfnIdeal.τ).loc Cert.SumFfnIdeal.main_arg5)
      ∧ m' ((c.tc : Thread Cert.SumFfnReferenceIdeal.nD Cert.SumFfnReferenceIdeal.τ).loc Cert.SumFfnReferenceIdeal.main_arg6) = m ((c.tc : Thread Cert.SumFfnIdeal.nD Cert.SumFfnIdeal.τ).loc Cert.SumFfnIdeal.main_arg6)
      ∧ m' ((c.tc : Thread Cert.SumFfnReferenceIdeal.nD Cert.SumFfnReferenceIdeal.τ).loc Cert.SumFfnReferenceIdeal.main_arg7) = m ((c.tc : Thread Cert.SumFfnIdeal.nD Cert.SumFfnIdeal.τ).loc Cert.SumFfnIdeal.main_arg7)
      ∧ m' ((c.tc : Thread Cert.SumFfnReferenceIdeal.nD Cert.SumFfnReferenceIdeal.τ).loc Cert.SumFfnReferenceIdeal.main_arg8) = m ((c.tc : Thread Cert.SumFfnIdeal.nD Cert.SumFfnIdeal.τ).loc Cert.SumFfnIdeal.main_arg8)
      ∧ m' ((c.tc : Thread Cert.SumFfnReferenceIdeal.nD Cert.SumFfnReferenceIdeal.τ).loc Cert.SumFfnReferenceIdeal.main_arg9) = m ((c.tc : Thread Cert.SumFfnIdeal.nD Cert.SumFfnIdeal.τ).loc Cert.SumFfnIdeal.main_arg9)
      ∧ m' ((c.tc : Thread Cert.SumFfnReferenceIdeal.nD Cert.SumFfnReferenceIdeal.τ).loc Cert.SumFfnReferenceIdeal.main_arg10) = m ((c.tc : Thread Cert.SumFfnIdeal.nD Cert.SumFfnIdeal.τ).loc Cert.SumFfnIdeal.main_arg10)
      ∧ m' ((c.tc : Thread Cert.SumFfnReferenceIdeal.nD Cert.SumFfnReferenceIdeal.τ).loc Cert.SumFfnReferenceIdeal.main_arg11) = m ((c.tc : Thread Cert.SumFfnIdeal.nD Cert.SumFfnIdeal.τ).loc Cert.SumFfnIdeal.main_arg11)
      ∧ m' ((c.tc : Thread Cert.SumFfnReferenceIdeal.nD Cert.SumFfnReferenceIdeal.τ).loc Cert.SumFfnReferenceIdeal.main_arg12) = m ((c.tc : Thread Cert.SumFfnIdeal.nD Cert.SumFfnIdeal.τ).loc Cert.SumFfnIdeal.main_arg12)
      ∧ m' ((c.tc : Thread Cert.SumFfnReferenceIdeal.nD Cert.SumFfnReferenceIdeal.τ).loc Cert.SumFfnReferenceIdeal.main_arg13) = m ((c.tc : Thread Cert.SumFfnIdeal.nD Cert.SumFfnIdeal.τ).loc Cert.SumFfnIdeal.main_arg13)
      ∧ m' ((c.tc : Thread Cert.SumFfnReferenceIdeal.nD Cert.SumFfnReferenceIdeal.τ).loc Cert.SumFfnReferenceIdeal.main_arg14) = m ((c.tc : Thread Cert.SumFfnIdeal.nD Cert.SumFfnIdeal.τ).loc Cert.SumFfnIdeal.main_arg14)
      ∧ m' ((c.tc : Thread Cert.SumFfnReferenceIdeal.nD Cert.SumFfnReferenceIdeal.τ).loc Cert.SumFfnReferenceIdeal.main_arg15) = m ((c.tc : Thread Cert.SumFfnIdeal.nD Cert.SumFfnIdeal.τ).loc Cert.SumFfnIdeal.main_arg15)
      ∧ m' ((c.tc : Thread Cert.SumFfnReferenceIdeal.nD Cert.SumFfnReferenceIdeal.τ).loc Cert.SumFfnReferenceIdeal.main_arg16) = m ((c.tc : Thread Cert.SumFfnIdeal.nD Cert.SumFfnIdeal.τ).loc Cert.SumFfnIdeal.main_arg16)
      ∧ m' ((c.tc : Thread Cert.SumFfnReferenceIdeal.nD Cert.SumFfnReferenceIdeal.τ).loc Cert.SumFfnReferenceIdeal.main_arg17) = m ((c.tc : Thread Cert.SumFfnIdeal.nD Cert.SumFfnIdeal.τ).loc Cert.SumFfnIdeal.main_arg17)
      ∧ m' ((c.tc : Thread Cert.SumFfnReferenceIdeal.nD Cert.SumFfnReferenceIdeal.τ).loc Cert.SumFfnReferenceIdeal.main_arg18) = m ((c.tc : Thread Cert.SumFfnIdeal.nD Cert.SumFfnIdeal.τ).loc Cert.SumFfnIdeal.main_arg18)
      ∧ m' ((c.tc : Thread Cert.SumFfnReferenceIdeal.nD Cert.SumFfnReferenceIdeal.τ).loc Cert.SumFfnReferenceIdeal.main_arg19) = m ((c.tc : Thread Cert.SumFfnIdeal.nD Cert.SumFfnIdeal.τ).loc Cert.SumFfnIdeal.main_arg19)
      ∧ m' ((c.tc : Thread Cert.SumFfnReferenceIdeal.nD Cert.SumFfnReferenceIdeal.τ).loc Cert.SumFfnReferenceIdeal.main_arg20) = m ((c.tc : Thread Cert.SumFfnIdeal.nD Cert.SumFfnIdeal.τ).loc Cert.SumFfnIdeal.main_arg20)) →
    ∃ (v0 : (c : Dev Cert.SumFfnIdeal.nD) → Buf (Elt Ideal) ((c.tc : Thread Cert.SumFfnIdeal.nD Cert.SumFfnIdeal.τ).loc Cert.SumFfnIdeal.main_v0_0)) (v1 : (c : Dev Cert.SumFfnIdeal.nD) → Buf (Elt Ideal) ((c.tc : Thread Cert.SumFfnIdeal.nD Cert.SumFfnIdeal.τ).loc Cert.SumFfnIdeal.main_v0_1)) (v2 : (c : Dev Cert.SumFfnIdeal.nD) → Buf (Elt Ideal) ((c.tc : Thread Cert.SumFfnIdeal.nD Cert.SumFfnIdeal.τ).loc Cert.SumFfnIdeal.main_v0_2)) (v3 : (c : Dev Cert.SumFfnIdeal.nD) → Buf (Elt Ideal) ((c.tc : Thread Cert.SumFfnIdeal.nD Cert.SumFfnIdeal.τ).loc Cert.SumFfnIdeal.main_v0_3)) (v4 : (c : Dev Cert.SumFfnIdeal.nD) → Buf (Elt Ideal) ((c.tc : Thread Cert.SumFfnIdeal.nD Cert.SumFfnIdeal.τ).loc Cert.SumFfnIdeal.main_v0_4)) (v5 : (c : Dev Cert.SumFfnIdeal.nD) → Buf (Elt Ideal) ((c.tc : Thread Cert.SumFfnIdeal.nD Cert.SumFfnIdeal.τ).loc Cert.SumFfnIdeal.main_v0_5)) (v6 : (c : Dev Cert.SumFfnIdeal.nD) → Buf (Elt Ideal) ((c.tc : Thread Cert.SumFfnIdeal.nD Cert.SumFfnIdeal.τ).loc Cert.SumFfnIdeal.main_v0_6)) (v7 : (c : Dev Cert.SumFfnIdeal.nD) → Buf (Elt Ideal) ((c.tc : Thread Cert.SumFfnIdeal.nD Cert.SumFfnIdeal.τ).loc Cert.SumFfnIdeal.main_v0_7)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v0_0) = v0 c
          ∧ r.2.mem ((c.tc : Thread Cert.SumFfnIdeal.nD Cert.SumFfnIdeal.τ).loc Cert.SumFfnIdeal.main_v0_1) = v1 c
          ∧ r.2.mem ((c.tc : Thread Cert.SumFfnIdeal.nD Cert.SumFfnIdeal.τ).loc Cert.SumFfnIdeal.main_v0_2) = v2 c
          ∧ r.2.mem ((c.tc : Thread Cert.SumFfnIdeal.nD Cert.SumFfnIdeal.τ).loc Cert.SumFfnIdeal.main_v0_3) = v3 c
          ∧ r.2.mem ((c.tc : Thread Cert.SumFfnIdeal.nD Cert.SumFfnIdeal.τ).loc Cert.SumFfnIdeal.main_v0_4) = v4 c
          ∧ r.2.mem ((c.tc : Thread Cert.SumFfnIdeal.nD Cert.SumFfnIdeal.τ).loc Cert.SumFfnIdeal.main_v0_5) = v5 c
          ∧ r.2.mem ((c.tc : Thread Cert.SumFfnIdeal.nD Cert.SumFfnIdeal.τ).loc Cert.SumFfnIdeal.main_v0_6) = v6 c
          ∧ r.2.mem ((c.tc : Thread Cert.SumFfnIdeal.nD Cert.SumFfnIdeal.τ).loc Cert.SumFfnIdeal.main_v0_7) = v7 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
          ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1)
          ∧ r.2.mem ((c.tc : Thread Cert.SumFfnIdeal.nD Cert.SumFfnIdeal.τ).loc Cert.SumFfnIdeal.main_arg2) = m ((c.tc : Thread Cert.SumFfnIdeal.nD Cert.SumFfnIdeal.τ).loc Cert.SumFfnIdeal.main_arg2)
          ∧ r.2.mem ((c.tc : Thread Cert.SumFfnIdeal.nD Cert.SumFfnIdeal.τ).loc Cert.SumFfnIdeal.main_arg3) = m ((c.tc : Thread Cert.SumFfnIdeal.nD Cert.SumFfnIdeal.τ).loc Cert.SumFfnIdeal.main_arg3)
          ∧ r.2.mem ((c.tc : Thread Cert.SumFfnIdeal.nD Cert.SumFfnIdeal.τ).loc Cert.SumFfnIdeal.main_arg4) = m ((c.tc : Thread Cert.SumFfnIdeal.nD Cert.SumFfnIdeal.τ).loc Cert.SumFfnIdeal.main_arg4)
          ∧ r.2.mem ((c.tc : Thread Cert.SumFfnIdeal.nD Cert.SumFfnIdeal.τ).loc Cert.SumFfnIdeal.main_arg5) = m ((c.tc : Thread Cert.SumFfnIdeal.nD Cert.SumFfnIdeal.τ).loc Cert.SumFfnIdeal.main_arg5)
          ∧ r.2.mem ((c.tc : Thread Cert.SumFfnIdeal.nD Cert.SumFfnIdeal.τ).loc Cert.SumFfnIdeal.main_arg6) = m ((c.tc : Thread Cert.SumFfnIdeal.nD Cert.SumFfnIdeal.τ).loc Cert.SumFfnIdeal.main_arg6)
          ∧ r.2.mem ((c.tc : Thread Cert.SumFfnIdeal.nD Cert.SumFfnIdeal.τ).loc Cert.SumFfnIdeal.main_arg7) = m ((c.tc : Thread Cert.SumFfnIdeal.nD Cert.SumFfnIdeal.τ).loc Cert.SumFfnIdeal.main_arg7)
          ∧ r.2.mem ((c.tc : Thread Cert.SumFfnIdeal.nD Cert.SumFfnIdeal.τ).loc Cert.SumFfnIdeal.main_arg8) = m ((c.tc : Thread Cert.SumFfnIdeal.nD Cert.SumFfnIdeal.τ).loc Cert.SumFfnIdeal.main_arg8)
          ∧ r.2.mem ((c.tc : Thread Cert.SumFfnIdeal.nD Cert.SumFfnIdeal.τ).loc Cert.SumFfnIdeal.main_arg9) = m ((c.tc : Thread Cert.SumFfnIdeal.nD Cert.SumFfnIdeal.τ).loc Cert.SumFfnIdeal.main_arg9)
          ∧ r.2.mem ((c.tc : Thread Cert.SumFfnIdeal.nD Cert.SumFfnIdeal.τ).loc Cert.SumFfnIdeal.main_arg10) = m ((c.tc : Thread Cert.SumFfnIdeal.nD Cert.SumFfnIdeal.τ).loc Cert.SumFfnIdeal.main_arg10)
          ∧ r.2.mem ((c.tc : Thread Cert.SumFfnIdeal.nD Cert.SumFfnIdeal.τ).loc Cert.SumFfnIdeal.main_arg11) = m ((c.tc : Thread Cert.SumFfnIdeal.nD Cert.SumFfnIdeal.τ).loc Cert.SumFfnIdeal.main_arg11)
          ∧ r.2.mem ((c.tc : Thread Cert.SumFfnIdeal.nD Cert.SumFfnIdeal.τ).loc Cert.SumFfnIdeal.main_arg12) = m ((c.tc : Thread Cert.SumFfnIdeal.nD Cert.SumFfnIdeal.τ).loc Cert.SumFfnIdeal.main_arg12)
          ∧ r.2.mem ((c.tc : Thread Cert.SumFfnIdeal.nD Cert.SumFfnIdeal.τ).loc Cert.SumFfnIdeal.main_arg13) = m ((c.tc : Thread Cert.SumFfnIdeal.nD Cert.SumFfnIdeal.τ).loc Cert.SumFfnIdeal.main_arg13)
          ∧ r.2.mem ((c.tc : Thread Cert.SumFfnIdeal.nD Cert.SumFfnIdeal.τ).loc Cert.SumFfnIdeal.main_arg14) = m ((c.tc : Thread Cert.SumFfnIdeal.nD Cert.SumFfnIdeal.τ).loc Cert.SumFfnIdeal.main_arg14)
          ∧ r.2.mem ((c.tc : Thread Cert.SumFfnIdeal.nD Cert.SumFfnIdeal.τ).loc Cert.SumFfnIdeal.main_arg15) = m ((c.tc : Thread Cert.SumFfnIdeal.nD Cert.SumFfnIdeal.τ).loc Cert.SumFfnIdeal.main_arg15)
          ∧ r.2.mem ((c.tc : Thread Cert.SumFfnIdeal.nD Cert.SumFfnIdeal.τ).loc Cert.SumFfnIdeal.main_arg16) = m ((c.tc : Thread Cert.SumFfnIdeal.nD Cert.SumFfnIdeal.τ).loc Cert.SumFfnIdeal.main_arg16)
          ∧ r.2.mem ((c.tc : Thread Cert.SumFfnIdeal.nD Cert.SumFfnIdeal.τ).loc Cert.SumFfnIdeal.main_arg17) = m ((c.tc : Thread Cert.SumFfnIdeal.nD Cert.SumFfnIdeal.τ).loc Cert.SumFfnIdeal.main_arg17)
          ∧ r.2.mem ((c.tc : Thread Cert.SumFfnIdeal.nD Cert.SumFfnIdeal.τ).loc Cert.SumFfnIdeal.main_arg18) = m ((c.tc : Thread Cert.SumFfnIdeal.nD Cert.SumFfnIdeal.τ).loc Cert.SumFfnIdeal.main_arg18)
          ∧ r.2.mem ((c.tc : Thread Cert.SumFfnIdeal.nD Cert.SumFfnIdeal.τ).loc Cert.SumFfnIdeal.main_arg19) = m ((c.tc : Thread Cert.SumFfnIdeal.nD Cert.SumFfnIdeal.τ).loc Cert.SumFfnIdeal.main_arg19)
          ∧ r.2.mem ((c.tc : Thread Cert.SumFfnIdeal.nD Cert.SumFfnIdeal.τ).loc Cert.SumFfnIdeal.main_arg20) = m ((c.tc : Thread Cert.SumFfnIdeal.nD Cert.SumFfnIdeal.τ).loc Cert.SumFfnIdeal.main_arg20))
      ∧ θ_run (Cert.SumFfnReferenceIdeal.defs (F := Ideal)) (onTc (τ := Cert.SumFfnReferenceIdeal.τ) (Cert.SumFfnReferenceIdeal.main (F := Ideal))) ⟨m', fun _ => 0, g'⟩ (fun r => ∀ c : Dev Cert.SumFfnReferenceIdeal.nD,
          r.2.mem ((c.tc : Thread Cert.SumFfnReferenceIdeal.nD Cert.SumFfnReferenceIdeal.τ).loc Cert.SumFfnReferenceIdeal.main_v70) = v0 c
          ∧ r.2.mem ((c.tc : Thread Cert.SumFfnReferenceIdeal.nD Cert.SumFfnReferenceIdeal.τ).loc Cert.SumFfnReferenceIdeal.main_v73) = v1 c
          ∧ r.2.mem ((c.tc : Thread Cert.SumFfnReferenceIdeal.nD Cert.SumFfnReferenceIdeal.τ).loc Cert.SumFfnReferenceIdeal.main_v76) = v2 c
          ∧ r.2.mem ((c.tc : Thread Cert.SumFfnReferenceIdeal.nD Cert.SumFfnReferenceIdeal.τ).loc Cert.SumFfnReferenceIdeal.main_v79) = v3 c
          ∧ r.2.mem ((c.tc : Thread Cert.SumFfnReferenceIdeal.nD Cert.SumFfnReferenceIdeal.τ).loc Cert.SumFfnReferenceIdeal.main_v150) = v4 c
          ∧ r.2.mem ((c.tc : Thread Cert.SumFfnReferenceIdeal.nD Cert.SumFfnReferenceIdeal.τ).loc Cert.SumFfnReferenceIdeal.main_v153) = v5 c
          ∧ r.2.mem ((c.tc : Thread Cert.SumFfnReferenceIdeal.nD Cert.SumFfnReferenceIdeal.τ).loc Cert.SumFfnReferenceIdeal.main_v156) = v6 c
          ∧ r.2.mem ((c.tc : Thread Cert.SumFfnReferenceIdeal.nD Cert.SumFfnReferenceIdeal.τ).loc Cert.SumFfnReferenceIdeal.main_v159) = v7 c
          ∧ r.2.mem ((c.tc : Thread Cert.SumFfnReferenceIdeal.nD Cert.SumFfnReferenceIdeal.τ).loc Cert.SumFfnReferenceIdeal.main_arg0) = m' ((c.tc : Thread Cert.SumFfnReferenceIdeal.nD Cert.SumFfnReferenceIdeal.τ).loc Cert.SumFfnReferenceIdeal.main_arg0)
          ∧ r.2.mem ((c.tc : Thread Cert.SumFfnReferenceIdeal.nD Cert.SumFfnReferenceIdeal.τ).loc Cert.SumFfnReferenceIdeal.main_arg1) = m' ((c.tc : Thread Cert.SumFfnReferenceIdeal.nD Cert.SumFfnReferenceIdeal.τ).loc Cert.SumFfnReferenceIdeal.main_arg1)
          ∧ r.2.mem ((c.tc : Thread Cert.SumFfnReferenceIdeal.nD Cert.SumFfnReferenceIdeal.τ).loc Cert.SumFfnReferenceIdeal.main_arg2) = m' ((c.tc : Thread Cert.SumFfnReferenceIdeal.nD Cert.SumFfnReferenceIdeal.τ).loc Cert.SumFfnReferenceIdeal.main_arg2)
          ∧ r.2.mem ((c.tc : Thread Cert.SumFfnReferenceIdeal.nD Cert.SumFfnReferenceIdeal.τ).loc Cert.SumFfnReferenceIdeal.main_arg3) = m' ((c.tc : Thread Cert.SumFfnReferenceIdeal.nD Cert.SumFfnReferenceIdeal.τ).loc Cert.SumFfnReferenceIdeal.main_arg3)
          ∧ r.2.mem ((c.tc : Thread Cert.SumFfnReferenceIdeal.nD Cert.SumFfnReferenceIdeal.τ).loc Cert.SumFfnReferenceIdeal.main_arg4) = m' ((c.tc : Thread Cert.SumFfnReferenceIdeal.nD Cert.SumFfnReferenceIdeal.τ).loc Cert.SumFfnReferenceIdeal.main_arg4)
          ∧ r.2.mem ((c.tc : Thread Cert.SumFfnReferenceIdeal.nD Cert.SumFfnReferenceIdeal.τ).loc Cert.SumFfnReferenceIdeal.main_arg5) = m' ((c.tc : Thread Cert.SumFfnReferenceIdeal.nD Cert.SumFfnReferenceIdeal.τ).loc Cert.SumFfnReferenceIdeal.main_arg5)
          ∧ r.2.mem ((c.tc : Thread Cert.SumFfnReferenceIdeal.nD Cert.SumFfnReferenceIdeal.τ).loc Cert.SumFfnReferenceIdeal.main_arg6) = m' ((c.tc : Thread Cert.SumFfnReferenceIdeal.nD Cert.SumFfnReferenceIdeal.τ).loc Cert.SumFfnReferenceIdeal.main_arg6)
          ∧ r.2.mem ((c.tc : Thread Cert.SumFfnReferenceIdeal.nD Cert.SumFfnReferenceIdeal.τ).loc Cert.SumFfnReferenceIdeal.main_arg7) = m' ((c.tc : Thread Cert.SumFfnReferenceIdeal.nD Cert.SumFfnReferenceIdeal.τ).loc Cert.SumFfnReferenceIdeal.main_arg7)
          ∧ r.2.mem ((c.tc : Thread Cert.SumFfnReferenceIdeal.nD Cert.SumFfnReferenceIdeal.τ).loc Cert.SumFfnReferenceIdeal.main_arg8) = m' ((c.tc : Thread Cert.SumFfnReferenceIdeal.nD Cert.SumFfnReferenceIdeal.τ).loc Cert.SumFfnReferenceIdeal.main_arg8)
          ∧ r.2.mem ((c.tc : Thread Cert.SumFfnReferenceIdeal.nD Cert.SumFfnReferenceIdeal.τ).loc Cert.SumFfnReferenceIdeal.main_arg9) = m' ((c.tc : Thread Cert.SumFfnReferenceIdeal.nD Cert.SumFfnReferenceIdeal.τ).loc Cert.SumFfnReferenceIdeal.main_arg9)
          ∧ r.2.mem ((c.tc : Thread Cert.SumFfnReferenceIdeal.nD Cert.SumFfnReferenceIdeal.τ).loc Cert.SumFfnReferenceIdeal.main_arg10) = m' ((c.tc : Thread Cert.SumFfnReferenceIdeal.nD Cert.SumFfnReferenceIdeal.τ).loc Cert.SumFfnReferenceIdeal.main_arg10)
          ∧ r.2.mem ((c.tc : Thread Cert.SumFfnReferenceIdeal.nD Cert.SumFfnReferenceIdeal.τ).loc Cert.SumFfnReferenceIdeal.main_arg11) = m' ((c.tc : Thread Cert.SumFfnReferenceIdeal.nD Cert.SumFfnReferenceIdeal.τ).loc Cert.SumFfnReferenceIdeal.main_arg11)
          ∧ r.2.mem ((c.tc : Thread Cert.SumFfnReferenceIdeal.nD Cert.SumFfnReferenceIdeal.τ).loc Cert.SumFfnReferenceIdeal.main_arg12) = m' ((c.tc : Thread Cert.SumFfnReferenceIdeal.nD Cert.SumFfnReferenceIdeal.τ).loc Cert.SumFfnReferenceIdeal.main_arg12)
          ∧ r.2.mem ((c.tc : Thread Cert.SumFfnReferenceIdeal.nD Cert.SumFfnReferenceIdeal.τ).loc Cert.SumFfnReferenceIdeal.main_arg13) = m' ((c.tc : Thread Cert.SumFfnReferenceIdeal.nD Cert.SumFfnReferenceIdeal.τ).loc Cert.SumFfnReferenceIdeal.main_arg13)
          ∧ r.2.mem ((c.tc : Thread Cert.SumFfnReferenceIdeal.nD Cert.SumFfnReferenceIdeal.τ).loc Cert.SumFfnReferenceIdeal.main_arg14) = m' ((c.tc : Thread Cert.SumFfnReferenceIdeal.nD Cert.SumFfnReferenceIdeal.τ).loc Cert.SumFfnReferenceIdeal.main_arg14)
          ∧ r.2.mem ((c.tc : Thread Cert.SumFfnReferenceIdeal.nD Cert.SumFfnReferenceIdeal.τ).loc Cert.SumFfnReferenceIdeal.main_arg15) = m' ((c.tc : Thread Cert.SumFfnReferenceIdeal.nD Cert.SumFfnReferenceIdeal.τ).loc Cert.SumFfnReferenceIdeal.main_arg15)
          ∧ r.2.mem ((c.tc : Thread Cert.SumFfnReferenceIdeal.nD Cert.SumFfnReferenceIdeal.τ).loc Cert.SumFfnReferenceIdeal.main_arg16) = m' ((c.tc : Thread Cert.SumFfnReferenceIdeal.nD Cert.SumFfnReferenceIdeal.τ).loc Cert.SumFfnReferenceIdeal.main_arg16)
          ∧ r.2.mem ((c.tc : Thread Cert.SumFfnReferenceIdeal.nD Cert.SumFfnReferenceIdeal.τ).loc Cert.SumFfnReferenceIdeal.main_arg17) = m' ((c.tc : Thread Cert.SumFfnReferenceIdeal.nD Cert.SumFfnReferenceIdeal.τ).loc Cert.SumFfnReferenceIdeal.main_arg17)
          ∧ r.2.mem ((c.tc : Thread Cert.SumFfnReferenceIdeal.nD Cert.SumFfnReferenceIdeal.τ).loc Cert.SumFfnReferenceIdeal.main_arg18) = m' ((c.tc : Thread Cert.SumFfnReferenceIdeal.nD Cert.SumFfnReferenceIdeal.τ).loc Cert.SumFfnReferenceIdeal.main_arg18)
          ∧ r.2.mem ((c.tc : Thread Cert.SumFfnReferenceIdeal.nD Cert.SumFfnReferenceIdeal.τ).loc Cert.SumFfnReferenceIdeal.main_arg19) = m' ((c.tc : Thread Cert.SumFfnReferenceIdeal.nD Cert.SumFfnReferenceIdeal.τ).loc Cert.SumFfnReferenceIdeal.main_arg19)
          ∧ r.2.mem ((c.tc : Thread Cert.SumFfnReferenceIdeal.nD Cert.SumFfnReferenceIdeal.τ).loc Cert.SumFfnReferenceIdeal.main_arg20) = m' ((c.tc : Thread Cert.SumFfnReferenceIdeal.nD Cert.SumFfnReferenceIdeal.τ).loc Cert.SumFfnReferenceIdeal.main_arg20))

def preserves_FfnDx_FfnDxIdeal : Prop :=
  True

def algebraic_FfnDxIdeal_FfnDxReferenceIdeal [hFfnDxIdeal : Cert.FfnDxIdeal.Facts] [hFfnDxReferenceIdeal : Cert.FfnDxReferenceIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxReferenceIdeal.nD Cert.FfnDxReferenceIdeal.τ Cert.FfnDxReferenceIdeal.sig) → Buf (Elt Ideal) ℓ) (g' : Dev Cert.FfnDxReferenceIdeal.nD → PrngReg), Pre_FfnDxIdeal m →
    (∀ c : Dev Cert.FfnDxIdeal.nD,
      m' ((c.tc : Thread Cert.FfnDxReferenceIdeal.nD Cert.FfnDxReferenceIdeal.τ).loc Cert.FfnDxReferenceIdeal.main_arg0) = m ((c.tc : Thread Cert.FfnDxIdeal.nD Cert.FfnDxIdeal.τ).loc Cert.FfnDxIdeal.main_arg0)
      ∧ m' ((c.tc : Thread Cert.FfnDxReferenceIdeal.nD Cert.FfnDxReferenceIdeal.τ).loc Cert.FfnDxReferenceIdeal.main_arg1) = m ((c.tc : Thread Cert.FfnDxIdeal.nD Cert.FfnDxIdeal.τ).loc Cert.FfnDxIdeal.main_arg1)
      ∧ m' ((c.tc : Thread Cert.FfnDxReferenceIdeal.nD Cert.FfnDxReferenceIdeal.τ).loc Cert.FfnDxReferenceIdeal.main_arg2) = m ((c.tc : Thread Cert.FfnDxIdeal.nD Cert.FfnDxIdeal.τ).loc Cert.FfnDxIdeal.main_arg2)
      ∧ m' ((c.tc : Thread Cert.FfnDxReferenceIdeal.nD Cert.FfnDxReferenceIdeal.τ).loc Cert.FfnDxReferenceIdeal.main_arg3) = m ((c.tc : Thread Cert.FfnDxIdeal.nD Cert.FfnDxIdeal.τ).loc Cert.FfnDxIdeal.main_arg3)
      ∧ m' ((c.tc : Thread Cert.FfnDxReferenceIdeal.nD Cert.FfnDxReferenceIdeal.τ).loc Cert.FfnDxReferenceIdeal.main_arg4) = m ((c.tc : Thread Cert.FfnDxIdeal.nD Cert.FfnDxIdeal.τ).loc Cert.FfnDxIdeal.main_arg4)) →
    ∃ (v0 : (c : Dev Cert.FfnDxIdeal.nD) → Buf (Elt Ideal) ((c.tc : Thread Cert.FfnDxIdeal.nD Cert.FfnDxIdeal.τ).loc Cert.FfnDxIdeal.main_v5_0)) (v1 : (c : Dev Cert.FfnDxIdeal.nD) → Buf (Elt Ideal) ((c.tc : Thread Cert.FfnDxIdeal.nD Cert.FfnDxIdeal.τ).loc Cert.FfnDxIdeal.main_v5_1)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v5_0) = v0 c
          ∧ r.2.mem ((c.tc : Thread Cert.FfnDxIdeal.nD Cert.FfnDxIdeal.τ).loc Cert.FfnDxIdeal.main_v5_1) = v1 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4))
      ∧ θ_run (Cert.FfnDxReferenceIdeal.defs (F := Ideal)) (onTc (τ := Cert.FfnDxReferenceIdeal.τ) (Cert.FfnDxReferenceIdeal.main (F := Ideal))) ⟨m', fun _ => 0, g'⟩ (fun r => ∀ c : Dev Cert.FfnDxReferenceIdeal.nD,
          r.2.mem ((c.tc : Thread Cert.FfnDxReferenceIdeal.nD Cert.FfnDxReferenceIdeal.τ).loc Cert.FfnDxReferenceIdeal.main_v42) = v0 c
          ∧ r.2.mem ((c.tc : Thread Cert.FfnDxReferenceIdeal.nD Cert.FfnDxReferenceIdeal.τ).loc Cert.FfnDxReferenceIdeal.main_v43) = v1 c
          ∧ r.2.mem ((c.tc : Thread Cert.FfnDxReferenceIdeal.nD Cert.FfnDxReferenceIdeal.τ).loc Cert.FfnDxReferenceIdeal.main_arg0) = m' ((c.tc : Thread Cert.FfnDxReferenceIdeal.nD Cert.FfnDxReferenceIdeal.τ).loc Cert.FfnDxReferenceIdeal.main_arg0)
          ∧ r.2.mem ((c.tc : Thread Cert.FfnDxReferenceIdeal.nD Cert.FfnDxReferenceIdeal.τ).loc Cert.FfnDxReferenceIdeal.main_arg1) = m' ((c.tc : Thread Cert.FfnDxReferenceIdeal.nD Cert.FfnDxReferenceIdeal.τ).loc Cert.FfnDxReferenceIdeal.main_arg1)
          ∧ r.2.mem ((c.tc : Thread Cert.FfnDxReferenceIdeal.nD Cert.FfnDxReferenceIdeal.τ).loc Cert.FfnDxReferenceIdeal.main_arg2) = m' ((c.tc : Thread Cert.FfnDxReferenceIdeal.nD Cert.FfnDxReferenceIdeal.τ).loc Cert.FfnDxReferenceIdeal.main_arg2)
          ∧ r.2.mem ((c.tc : Thread Cert.FfnDxReferenceIdeal.nD Cert.FfnDxReferenceIdeal.τ).loc Cert.FfnDxReferenceIdeal.main_arg3) = m' ((c.tc : Thread Cert.FfnDxReferenceIdeal.nD Cert.FfnDxReferenceIdeal.τ).loc Cert.FfnDxReferenceIdeal.main_arg3)
          ∧ r.2.mem ((c.tc : Thread Cert.FfnDxReferenceIdeal.nD Cert.FfnDxReferenceIdeal.τ).loc Cert.FfnDxReferenceIdeal.main_arg4) = m' ((c.tc : Thread Cert.FfnDxReferenceIdeal.nD Cert.FfnDxReferenceIdeal.τ).loc Cert.FfnDxReferenceIdeal.main_arg4))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] [hPre_placed_small : Cert.Pre_placed_small.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m' ((c.tc : Thread Cert.SumSmallReferenceIdeal.nD Cert.SumSmallReferenceIdeal.τ).loc Cert.SumSmallReferenceIdeal.main_arg0) = m ((c.tc : Thread Cert.SumSmallIdeal.nD Cert.SumSmallIdeal.τ).loc Cert.SumSmallIdeal.main_arg0)
      ∧ m' ((c.tc : Thread Cert.SumSmallReferenceIdeal.nD Cert.SumSmallReferenceIdeal.τ).loc Cert.SumSmallReferenceIdeal.main_arg1) = m ((c.tc : Thread Cert.SumSmallIdeal.nD Cert.SumSmallIdeal.τ).loc Cert.SumSmallIdeal.main_arg1)
      ∧ m' ((c.tc : Thread Cert.SumSmallReferenceIdeal.nD Cert.SumSmallReferenceIdeal.τ).loc Cert.SumSmallReferenceIdeal.main_arg2) = m ((c.tc : Thread Cert.SumSmallIdeal.nD Cert.SumSmallIdeal.τ).loc Cert.SumSmallIdeal.main_arg2)
      ∧ m' ((c.tc : Thread Cert.SumSmallReferenceIdeal.nD Cert.SumSmallReferenceIdeal.τ).loc Cert.SumSmallReferenceIdeal.main_arg3) = m ((c.tc : Thread Cert.SumSmallIdeal.nD Cert.SumSmallIdeal.τ).loc Cert.SumSmallIdeal.main_arg3)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3))
      ∧ θ_run (Cert.SumSmallReferenceIdeal.defs (F := Ideal)) (onTc (τ := Cert.SumSmallReferenceIdeal.τ) (Cert.SumSmallReferenceIdeal.main (F := Ideal))) ⟨m', fun _ => 0, g'⟩ (fun r => ∀ c : Dev Cert.SumSmallReferenceIdeal.nD,
          r.2.mem ((c.tc : Thread Cert.SumSmallReferenceIdeal.nD Cert.SumSmallReferenceIdeal.τ).loc Cert.SumSmallReferenceIdeal.main_v21) = v0 c
          ∧ r.2.mem ((c.tc : Thread Cert.SumSmallReferenceIdeal.nD Cert.SumSmallReferenceIdeal.τ).loc Cert.SumSmallReferenceIdeal.main_arg0) = m' ((c.tc : Thread Cert.SumSmallReferenceIdeal.nD Cert.SumSmallReferenceIdeal.τ).loc Cert.SumSmallReferenceIdeal.main_arg0)
          ∧ r.2.mem ((c.tc : Thread Cert.SumSmallReferenceIdeal.nD Cert.SumSmallReferenceIdeal.τ).loc Cert.SumSmallReferenceIdeal.main_arg1) = m' ((c.tc : Thread Cert.SumSmallReferenceIdeal.nD Cert.SumSmallReferenceIdeal.τ).loc Cert.SumSmallReferenceIdeal.main_arg1)
          ∧ r.2.mem ((c.tc : Thread Cert.SumSmallReferenceIdeal.nD Cert.SumSmallReferenceIdeal.τ).loc Cert.SumSmallReferenceIdeal.main_arg2) = m' ((c.tc : Thread Cert.SumSmallReferenceIdeal.nD Cert.SumSmallReferenceIdeal.τ).loc Cert.SumSmallReferenceIdeal.main_arg2)
          ∧ r.2.mem ((c.tc : Thread Cert.SumSmallReferenceIdeal.nD Cert.SumSmallReferenceIdeal.τ).loc Cert.SumSmallReferenceIdeal.main_arg3) = m' ((c.tc : Thread Cert.SumSmallReferenceIdeal.nD Cert.SumSmallReferenceIdeal.τ).loc Cert.SumSmallReferenceIdeal.main_arg3))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hDwIn : Cert.DwIn.Facts) (hDwInIdeal : Cert.DwInIdeal.Facts) (hDwInReferenceIdeal : Cert.DwInReferenceIdeal.Facts) (hDwOut : Cert.DwOut.Facts) (hDwOutIdeal : Cert.DwOutIdeal.Facts) (hDwOutReferenceIdeal : Cert.DwOutReferenceIdeal.Facts) (hDwLruUp : Cert.DwLruUp.Facts) (hDwLruUpIdeal : Cert.DwLruUpIdeal.Facts) (hDwLruUpReferenceIdeal : Cert.DwLruUpReferenceIdeal.Facts) (hDwPoolUp : Cert.DwPoolUp.Facts) (hDwPoolUpIdeal : Cert.DwPoolUpIdeal.Facts) (hDwPoolUpReferenceIdeal : Cert.DwPoolUpReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hMixIn : Cert.MixIn.Facts) (hMixInIdeal : Cert.MixInIdeal.Facts) (hMixInReferenceIdeal : Cert.MixInReferenceIdeal.Facts) (hMixOut : Cert.MixOut.Facts) (hMixOutIdeal : Cert.MixOutIdeal.Facts) (hMixOutReferenceIdeal : Cert.MixOutReferenceIdeal.Facts) (hFfnDownBwd : Cert.FfnDownBwd.Facts) (hFfnDownBwdIdeal : Cert.FfnDownBwdIdeal.Facts) (hFfnDownBwdReferenceIdeal : Cert.FfnDownBwdReferenceIdeal.Facts) (hAdamNorm : Cert.AdamNorm.Facts) (hAdamNormIdeal : Cert.AdamNormIdeal.Facts) (hAdamNormReferenceIdeal : Cert.AdamNormReferenceIdeal.Facts) (hAdamPoolW : Cert.AdamPoolW.Facts) (hAdamPoolWIdeal : Cert.AdamPoolWIdeal.Facts) (hAdamPoolWReferenceIdeal : Cert.AdamPoolWReferenceIdeal.Facts) (hAdamPoolB : Cert.AdamPoolB.Facts) (hAdamPoolBIdeal : Cert.AdamPoolBIdeal.Facts) (hAdamPoolBReferenceIdeal : Cert.AdamPoolBReferenceIdeal.Facts) (hAdamPoolScale : Cert.AdamPoolScale.Facts) (hAdamPoolScaleIdeal : Cert.AdamPoolScaleIdeal.Facts) (hAdamPoolScaleReferenceIdeal : Cert.AdamPoolScaleReferenceIdeal.Facts) (hAdamConvW : Cert.AdamConvW.Facts) (hAdamConvWIdeal : Cert.AdamConvWIdeal.Facts) (hAdamConvWReferenceIdeal : Cert.AdamConvWReferenceIdeal.Facts) (hAdamLru : Cert.AdamLru.Facts) (hAdamLruIdeal : Cert.AdamLruIdeal.Facts) (hAdamLruReferenceIdeal : Cert.AdamLruReferenceIdeal.Facts) (hAdamHeadW : Cert.AdamHeadW.Facts) (hAdamHeadWIdeal : Cert.AdamHeadWIdeal.Facts) (hAdamHeadWReferenceIdeal : Cert.AdamHeadWReferenceIdeal.Facts) (hAdamHeadB : Cert.AdamHeadB.Facts) (hAdamHeadBIdeal : Cert.AdamHeadBIdeal.Facts) (hAdamHeadBReferenceIdeal : Cert.AdamHeadBReferenceIdeal.Facts) (hAdamFinal : Cert.AdamFinal.Facts) (hAdamFinalIdeal : Cert.AdamFinalIdeal.Facts) (hAdamFinalReferenceIdeal : Cert.AdamFinalReferenceIdeal.Facts) (hSumFfn : Cert.SumFfn.Facts) (hSumFfnIdeal : Cert.SumFfnIdeal.Facts) (hSumFfnReferenceIdeal : Cert.SumFfnReferenceIdeal.Facts) (hFfnDx : Cert.FfnDx.Facts) (hFfnDxIdeal : Cert.FfnDxIdeal.Facts) (hFfnDxReferenceIdeal : Cert.FfnDxReferenceIdeal.Facts) (hSumSmall : Cert.SumSmall.Facts) (hSumSmallIdeal : Cert.SumSmallIdeal.Facts) (hSumSmallReferenceIdeal : Cert.SumSmallReferenceIdeal.Facts) (hPre_finite_down : Cert.Pre_finite_down.Facts) (hPre_placed_ffn : Cert.Pre_placed_ffn.Facts) (hPre_placed_small : Cert.Pre_placed_small.Facts),
    quiescent_Kernel (hKernel := hKernel)
    ∧ quiescent_KernelIdeal (hKernelIdeal := hKernelIdeal)
    ∧ quiescent_ReferenceIdeal (hReferenceIdeal := hReferenceIdeal)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwLruUp (hDwLruUp := hDwLruUp)
    ∧ quiescent_DwLruUpIdeal (hDwLruUpIdeal := hDwLruUpIdeal)
    ∧ quiescent_DwLruUpReferenceIdeal (hDwLruUpReferenceIdeal := hDwLruUpReferenceIdeal)
    ∧ quiescent_DwPoolUp (hDwPoolUp := hDwPoolUp)
    ∧ quiescent_DwPoolUpIdeal (hDwPoolUpIdeal := hDwPoolUpIdeal)
    ∧ quiescent_DwPoolUpReferenceIdeal (hDwPoolUpReferenceIdeal := hDwPoolUpReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_FfnDownBwd (hFfnDownBwd := hFfnDownBwd)
    ∧ quiescent_FfnDownBwdIdeal (hFfnDownBwdIdeal := hFfnDownBwdIdeal)
    ∧ quiescent_FfnDownBwdIdeal_pre_finite_down (hFfnDownBwdIdeal := hFfnDownBwdIdeal) (hPre_finite_down := hPre_finite_down)
    ∧ quiescent_FfnDownBwdReferenceIdeal (hFfnDownBwdReferenceIdeal := hFfnDownBwdReferenceIdeal)
    ∧ quiescent_FfnDownBwdReferenceIdeal_pre_finite_down (hFfnDownBwdReferenceIdeal := hFfnDownBwdReferenceIdeal) (hPre_finite_down := hPre_finite_down)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamPoolW (hAdamPoolW := hAdamPoolW)
    ∧ quiescent_AdamPoolWIdeal (hAdamPoolWIdeal := hAdamPoolWIdeal)
    ∧ quiescent_AdamPoolWReferenceIdeal (hAdamPoolWReferenceIdeal := hAdamPoolWReferenceIdeal)
    ∧ quiescent_AdamPoolB (hAdamPoolB := hAdamPoolB)
    ∧ quiescent_AdamPoolBIdeal (hAdamPoolBIdeal := hAdamPoolBIdeal)
    ∧ quiescent_AdamPoolBReferenceIdeal (hAdamPoolBReferenceIdeal := hAdamPoolBReferenceIdeal)
    ∧ quiescent_AdamPoolScale (hAdamPoolScale := hAdamPoolScale)
    ∧ quiescent_AdamPoolScaleIdeal (hAdamPoolScaleIdeal := hAdamPoolScaleIdeal)
    ∧ quiescent_AdamPoolScaleReferenceIdeal (hAdamPoolScaleReferenceIdeal := hAdamPoolScaleReferenceIdeal)
    ∧ quiescent_AdamConvW (hAdamConvW := hAdamConvW)
    ∧ quiescent_AdamConvWIdeal (hAdamConvWIdeal := hAdamConvWIdeal)
    ∧ quiescent_AdamConvWReferenceIdeal (hAdamConvWReferenceIdeal := hAdamConvWReferenceIdeal)
    ∧ quiescent_AdamLru (hAdamLru := hAdamLru)
    ∧ quiescent_AdamLruIdeal (hAdamLruIdeal := hAdamLruIdeal)
    ∧ quiescent_AdamLruReferenceIdeal (hAdamLruReferenceIdeal := hAdamLruReferenceIdeal)
    ∧ quiescent_AdamHeadW (hAdamHeadW := hAdamHeadW)
    ∧ quiescent_AdamHeadWIdeal (hAdamHeadWIdeal := hAdamHeadWIdeal)
    ∧ quiescent_AdamHeadWReferenceIdeal (hAdamHeadWReferenceIdeal := hAdamHeadWReferenceIdeal)
    ∧ quiescent_AdamHeadB (hAdamHeadB := hAdamHeadB)
    ∧ quiescent_AdamHeadBIdeal (hAdamHeadBIdeal := hAdamHeadBIdeal)
    ∧ quiescent_AdamHeadBReferenceIdeal (hAdamHeadBReferenceIdeal := hAdamHeadBReferenceIdeal)
    ∧ quiescent_AdamFinal (hAdamFinal := hAdamFinal)
    ∧ quiescent_AdamFinalIdeal (hAdamFinalIdeal := hAdamFinalIdeal)
    ∧ quiescent_AdamFinalReferenceIdeal (hAdamFinalReferenceIdeal := hAdamFinalReferenceIdeal)
    ∧ quiescent_SumFfn (hSumFfn := hSumFfn) (hPre_placed_ffn := hPre_placed_ffn)
    ∧ quiescent_SumFfnIdeal (hSumFfnIdeal := hSumFfnIdeal) (hPre_placed_ffn := hPre_placed_ffn)
    ∧ quiescent_SumFfnReferenceIdeal (hSumFfnReferenceIdeal := hSumFfnReferenceIdeal)
    ∧ quiescent_SumFfnReferenceIdeal_pre_placed_ffn (hSumFfnReferenceIdeal := hSumFfnReferenceIdeal) (hPre_placed_ffn := hPre_placed_ffn)
    ∧ quiescent_FfnDx (hFfnDx := hFfnDx)
    ∧ quiescent_FfnDxIdeal (hFfnDxIdeal := hFfnDxIdeal)
    ∧ quiescent_FfnDxReferenceIdeal (hFfnDxReferenceIdeal := hFfnDxReferenceIdeal)
    ∧ quiescent_SumSmall (hSumSmall := hSumSmall) (hPre_placed_small := hPre_placed_small)
    ∧ quiescent_SumSmallIdeal (hSumSmallIdeal := hSumSmallIdeal) (hPre_placed_small := hPre_placed_small)
    ∧ quiescent_SumSmallReferenceIdeal (hSumSmallReferenceIdeal := hSumSmallReferenceIdeal)
    ∧ quiescent_SumSmallReferenceIdeal_pre_placed_small (hSumSmallReferenceIdeal := hSumSmallReferenceIdeal) (hPre_placed_small := hPre_placed_small)
    ∧ preserves_Kernel_KernelIdeal
    ∧ algebraic_KernelIdeal_ReferenceIdeal (hKernelIdeal := hKernelIdeal) (hReferenceIdeal := hReferenceIdeal)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwIn_DwInIdeal
    ∧ algebraic_DwInIdeal_DwInReferenceIdeal (hDwInIdeal := hDwInIdeal) (hDwInReferenceIdeal := hDwInReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwLruUp_DwLruUpIdeal
    ∧ algebraic_DwLruUpIdeal_DwLruUpReferenceIdeal (hDwLruUpIdeal := hDwLruUpIdeal) (hDwLruUpReferenceIdeal := hDwLruUpReferenceIdeal)
    ∧ preserves_DwPoolUp_DwPoolUpIdeal
    ∧ algebraic_DwPoolUpIdeal_DwPoolUpReferenceIdeal (hDwPoolUpIdeal := hDwPoolUpIdeal) (hDwPoolUpReferenceIdeal := hDwPoolUpReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_MixIn_MixInIdeal
    ∧ algebraic_MixInIdeal_MixInReferenceIdeal (hMixInIdeal := hMixInIdeal) (hMixInReferenceIdeal := hMixInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_FfnDownBwd_FfnDownBwdIdeal
    ∧ algebraic_FfnDownBwdIdeal_FfnDownBwdReferenceIdeal_pre_finite_down (hFfnDownBwdIdeal := hFfnDownBwdIdeal) (hFfnDownBwdReferenceIdeal := hFfnDownBwdReferenceIdeal) (hPre_finite_down := hPre_finite_down)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamPoolW_AdamPoolWIdeal
    ∧ algebraic_AdamPoolWIdeal_AdamPoolWReferenceIdeal (hAdamPoolWIdeal := hAdamPoolWIdeal) (hAdamPoolWReferenceIdeal := hAdamPoolWReferenceIdeal)
    ∧ preserves_AdamPoolB_AdamPoolBIdeal
    ∧ algebraic_AdamPoolBIdeal_AdamPoolBReferenceIdeal (hAdamPoolBIdeal := hAdamPoolBIdeal) (hAdamPoolBReferenceIdeal := hAdamPoolBReferenceIdeal)
    ∧ preserves_AdamPoolScale_AdamPoolScaleIdeal
    ∧ algebraic_AdamPoolScaleIdeal_AdamPoolScaleReferenceIdeal (hAdamPoolScaleIdeal := hAdamPoolScaleIdeal) (hAdamPoolScaleReferenceIdeal := hAdamPoolScaleReferenceIdeal)
    ∧ preserves_AdamConvW_AdamConvWIdeal
    ∧ algebraic_AdamConvWIdeal_AdamConvWReferenceIdeal (hAdamConvWIdeal := hAdamConvWIdeal) (hAdamConvWReferenceIdeal := hAdamConvWReferenceIdeal)
    ∧ preserves_AdamLru_AdamLruIdeal
    ∧ algebraic_AdamLruIdeal_AdamLruReferenceIdeal (hAdamLruIdeal := hAdamLruIdeal) (hAdamLruReferenceIdeal := hAdamLruReferenceIdeal)
    ∧ preserves_AdamHeadW_AdamHeadWIdeal
    ∧ algebraic_AdamHeadWIdeal_AdamHeadWReferenceIdeal (hAdamHeadWIdeal := hAdamHeadWIdeal) (hAdamHeadWReferenceIdeal := hAdamHeadWReferenceIdeal)
    ∧ preserves_AdamHeadB_AdamHeadBIdeal
    ∧ algebraic_AdamHeadBIdeal_AdamHeadBReferenceIdeal (hAdamHeadBIdeal := hAdamHeadBIdeal) (hAdamHeadBReferenceIdeal := hAdamHeadBReferenceIdeal)
    ∧ preserves_AdamFinal_AdamFinalIdeal
    ∧ algebraic_AdamFinalIdeal_AdamFinalReferenceIdeal (hAdamFinalIdeal := hAdamFinalIdeal) (hAdamFinalReferenceIdeal := hAdamFinalReferenceIdeal)
    ∧ preserves_SumFfn_SumFfnIdeal
    ∧ algebraic_SumFfnIdeal_SumFfnReferenceIdeal (hSumFfnIdeal := hSumFfnIdeal) (hSumFfnReferenceIdeal := hSumFfnReferenceIdeal) (hPre_placed_ffn := hPre_placed_ffn)
    ∧ preserves_FfnDx_FfnDxIdeal
    ∧ algebraic_FfnDxIdeal_FfnDxReferenceIdeal (hFfnDxIdeal := hFfnDxIdeal) (hFfnDxReferenceIdeal := hFfnDxReferenceIdeal)
    ∧ preserves_SumSmall_SumSmallIdeal
    ∧ algebraic_SumSmallIdeal_SumSmallReferenceIdeal (hSumSmallIdeal := hSumSmallIdeal) (hSumSmallReferenceIdeal := hSumSmallReferenceIdeal) (hPre_placed_small := hPre_placed_small)
-- ==== Pre_finite_down.lean ====
abbrev S2048x1024 : Shape := ⟨2, ![2048, 1024]⟩
abbrev S2816x1024 : Shape := ⟨2, ![2816, 1024]⟩
abbrev S2048x5632 : Shape := ⟨2, ![2048, 5632]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v14 : FVec F S2048x5632 .f32) (main_v16 : IVec S2048x5632 1) : IVec S_ 1 :=
  let main_cst_5 : FVec F S_ .f32 := constant S_ .f32 0x7F800000#32
  let main_v17 : FVec F S2048x5632 .f32 := broadcastInDim S2048x5632 ![] bcast_S_S2048x5632 main_cst_5
  let main_v18 : IVec S2048x5632 1 := cmpf .olt main_v14 main_v17
  let main_v19 : IVec S2048x5632 1 := andi main_v16 main_v18
  let main_c_6 : IVec S_ 1 := constantI S_ 1 1#1
  let main_v20 : IVec S_ 1 := (fun x v => Host.reduce IntOp.andi x v reducesTo_S2048x5632_S_d0_1 h_S_) main_v19 main_c_6
  let main_v21 : IVec S_ 1 := andi main_v13 main_v20
  main_v21

def fn {F : FTy → Type} [FloatOps F] (main_arg0 : FVec F S2048x1024 .f32) (main_arg1 : FVec F S2816x1024 .bf16) (main_arg2 : FVec F S2048x5632 .bf16) : IVec S_ 1 :=
  let main_cst : FVec F S_ .f32 := constant S_ .f32 0xFF800000#32
  let main_v0 : FVec F S2048x1024 .f32 := broadcastInDim S2048x1024 ![] bcast_S_S2048x1024 main_cst
  let main_v1 : IVec S2048x1024 1 := cmpf .ogt main_arg0 main_v0
  let main_cst_0 : FVec F S_ .f32 := constant S_ .f32 0x7F800000#32
  let main_v2 : FVec F S2048x1024 .f32 := broadcastInDim S2048x1024 ![] bcast_S_S2048x1024 main_cst_0
  let main_v3 : IVec S2048x1024 1 := cmpf .olt main_arg0 main_v2
  let main_v4 : IVec S2048x1024 1 := andi main_v1 main_v3
  let main_c : IVec S_ 1 := constantI S_ 1 1#1
  let main_v5 : IVec S_ 1 := (fun x v => Host.reduce IntOp.andi x v reducesTo_S2048x1024_S_d0_1 h_S_) main_v4 main_c
  let main_v6 : FVec F S2816x1024 .f32 := (extf .f32 · bitsLt_bf16_f32) main_arg1
  let main_cst_1 : FVec F S_ .f32 := constant S_ .f32 0xFF800000#32
  let main_v7 : FVec F S2816x1024 .f32 := broadcastInDim S2816x1024 ![] bcast_S_S2816x1024 main_cst_1
  let main_v8 : IVec S2816x1024 1 := cmpf .ogt main_v6 main_v7
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v6 main_v9
  let main_v11 : IVec S2816x1024 1 := andi main_v8 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v5 main_v12
  let main_v14 : FVec F S2048x5632 .f32 := (extf .f32 · bitsLt_bf16_f32) main_arg2
  let main_cst_4 : FVec F S_ .f32 := constant S_ .f32 0xFF800000#32
  let main_v15 : FVec F S2048x5632 .f32 := broadcastInDim S2048x5632 ![] bcast_S_S2048x5632 main_cst_4
  let main_v16 : IVec S2048x5632 1 := cmpf .ogt main_v14 main_v15
  fn_part1 (F := F) main_v13 main_v14 main_v16
-- ==== Pre_placed_ffn.lean ====
abbrev S1x8x704x1024 : Shape := ⟨4, ![1, 8, 704, 1024]⟩
abbrev S1x8x352x1024 : Shape := ⟨4, ![1, 8, 352, 1024]⟩
abbrev S1x4x704x1024 : Shape := ⟨4, ![1, 4, 704, 1024]⟩
abbrev S1x4x352x1024 : Shape := ⟨4, ![1, 4, 352, 1024]⟩
abbrev S1x3x704x1024 : Shape := ⟨4, ![1, 3, 704, 1024]⟩
abbrev S1x3x352x1024 : Shape := ⟨4, ![1, 3, 352, 1024]⟩
abbrev S4x704x1024 : Shape := ⟨3, ![4, 704, 1024]⟩
abbrev S4x352x1024 : Shape := ⟨3, ![4, 352, 1024]⟩
abbrev S3 : Shape := ⟨1, ![3]⟩
abbrev S1 : Shape := ⟨1, ![1]⟩
abbrev S_ : Shape := ⟨0, ![]⟩

class Facts : Prop where
  slices_S3_S1_1 : S3.Slices ![1] S1
  shapeCasts_S1_S_ : S1.ShapeCasts S_
  slices_S3_S1_2 : S3.Slices ![2] S1

variable [Facts]

def fn {F : FTy → Type} [FloatOps F] (main_arg0 : FVec F S1x8x704x1024 .f32) (main_arg1 : FVec F S1x8x352x1024 .f32) (main_arg2 : FVec F S1x4x704x1024 .bf16) (main_arg3 : FVec F S1x4x352x1024 .bf16) (main_arg4 : FVec F S1x3x704x1024 .bf16) (main_arg5 : FVec F S1x3x352x1024 .bf16) (main_arg6 : FVec F S4x704x1024 .f32) (main_arg7 : FVec F S4x352x1024 .f32) (main_arg8 : FVec F S4x704x1024 .f32) (main_arg9 : FVec F S4x352x1024 .f32) (main_arg10 : FVec F S4x704x1024 .f32) (main_arg11 : FVec F S4x352x1024 .f32) (main_arg12 : FVec F S4x704x1024 .f32) (main_arg13 : FVec F S4x704x1024 .f32) (main_arg14 : FVec F S4x704x1024 .f32) (main_arg15 : FVec F S4x704x1024 .f32) (main_arg16 : FVec F S4x352x1024 .f32) (main_arg17 : FVec F S4x352x1024 .f32) (main_arg18 : FVec F S4x352x1024 .f32) (main_arg19 : FVec F S4x352x1024 .f32) (main_arg20 : IVec S3 32) : IVec S_ 1 :=
  let main_v0 : IVec S1 32 := (extractStridedSlice S1 ![1] · slices_S3_S1_1) main_arg20
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S3_S1_1) main_arg20
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![2] · slices_S3_S1_2) main_arg20
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![2] · slices_S3_S1_2) main_arg20
  let main_v12 : IVec S_ 32 := shapeCast S_ main_v11 shapeCasts_S1_S_
  let main_c_2 : IVec S_ 32 := constantI S_ 32 8#32
  let main_v13 : IVec S_ 1 := cmpi .slt main_v12 main_c_2
  let main_v14 : IVec S_ 1 := andi main_v10 main_v13
  main_v14
-- ==== Pre_placed_small.lean ====
abbrev S1x8x1600x128 : Shape := ⟨4, ![1, 8, 1600, 128]⟩
abbrev S1x4x1600x128 : Shape := ⟨4, ![1, 4, 1600, 128]⟩
abbrev S1x3x1600x128 : Shape := ⟨4, ![1, 3, 1600, 128]⟩
abbrev S3 : Shape := ⟨1, ![3]⟩
abbrev S1 : Shape := ⟨1, ![1]⟩
abbrev S_ : Shape := ⟨0, ![]⟩

class Facts : Prop where
  slices_S3_S1_1 : S3.Slices ![1] S1
  shapeCasts_S1_S_ : S1.ShapeCasts S_
  slices_S3_S1_2 : S3.Slices ![2] S1

variable [Facts]

def fn {F : FTy → Type} [FloatOps F] (main_arg0 : FVec F S1x8x1600x128 .f32) (main_arg1 : FVec F S1x4x1600x128 .f32) (main_arg2 : FVec F S1x3x1600x128 .f32) (main_arg3 : IVec S3 32) : IVec S_ 1 :=
  let main_v0 : IVec S1 32 := (extractStridedSlice S1 ![1] · slices_S3_S1_1) main_arg3
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S3_S1_1) main_arg3
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![2] · slices_S3_S1_2) main_arg3
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![2] · slices_S3_S1_2) main_arg3
  let main_v12 : IVec S_ 32 := shapeCast S_ main_v11 shapeCasts_S1_S_
  let main_c_2 : IVec S_ 32 := constantI S_ 32 8#32
  let main_v13 : IVec S_ 1 := cmpi .slt main_v12 main_c_2
  let main_v14 : IVec S_ 1 := andi main_v10 main_v13
  main_v14
-- ==== Kernel.lean ====
abbrev S2048x1024 : Shape := ⟨2, ![2048, 1024]⟩
abbrev S2048x5120 : Shape := ⟨2, ![2048, 5120]⟩
abbrev S512x1024 : Shape := ⟨2, ![512, 1024]⟩
abbrev S1280x1024 : Shape := ⟨2, ![1280, 1024]⟩
abbrev S1024x1024 : Shape := ⟨2, ![1024, 1024]⟩
abbrev S1x512x1024 : Shape := ⟨3, ![1, 512, 1024]⟩
abbrev S1x1280x1024 : Shape := ⟨3, ![1, 1280, 1024]⟩
abbrev S1x1024x1024 : Shape := ⟨3, ![1, 1024, 1024]⟩
abbrev S2048x512 : Shape := ⟨2, ![2048, 512]⟩
abbrev S2048x1280 : Shape := ⟨2, ![2048, 1280]⟩
abbrev S512x512 : Shape := ⟨2, ![512, 512]⟩
abbrev S512x1280 : Shape := ⟨2, ![512, 1280]⟩

abbrev nBuf : Space → Nat
  | .hbm => 17
  | .vmem => 27
  | .smem => 0
  | _ => 0

abbrev bufTy : (tb : Table) → Fin (tcTables nBuf tb) → BufTy
  | .hbm, ⟨0, _⟩ => ⟨S2048x1024, .f32⟩
  | .hbm, ⟨1, _⟩ => ⟨S2048x5120, .bf16⟩
  | .hbm, ⟨2, _⟩ => ⟨S2048x1024, .bf16⟩
  | .hbm, ⟨3, _⟩ => ⟨S2048x1024, .bf16⟩
  | .hbm, ⟨4, _⟩ => ⟨S512x1024, .bf16⟩
  | .hbm, ⟨5, _⟩ => ⟨S1280x1024, .bf16⟩
  | .hbm, ⟨6, _⟩ => ⟨S1024x1024, .bf16⟩
  | .hbm, ⟨7, _⟩ => ⟨S1x512x1024, .bf16⟩
  | .hbm, ⟨8, _⟩ => ⟨S1x1280x1024, .bf16⟩
  | .hbm, ⟨9, _⟩ => ⟨S1x1024x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S2048x1024, .bf16⟩
  | .hbm, ⟨15, _⟩ => ⟨S2048x512, .bf16⟩
  | .hbm, ⟨16, _⟩ => ⟨S2048x1280, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x1280x1024, .bf16⟩
  | .local _ .vmem, ⟨12, _⟩ => ⟨S1x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | .local _ .vmem, ⟨25, _⟩ => ⟨S512x1280, .bf16⟩
  | .local _ .vmem, ⟨26, _⟩ => ⟨S512x1280, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1280 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2048x1024 : Shape := ⟨2, ![2048, 1024]⟩
abbrev S2048x5120 : Shape := ⟨2, ![2048, 5120]⟩
abbrev S512x1024 : Shape := ⟨2, ![512, 1024]⟩
abbrev S1280x1024 : Shape := ⟨2, ![1280, 1024]⟩
abbrev S1024x1024 : Shape := ⟨2, ![1024, 1024]⟩
abbrev S2048x2048 : Shape := ⟨2, ![2048, 2048]⟩
abbrev S_ : Shape := ⟨0, ![]⟩
abbrev S2048x512 : Shape := ⟨2, ![2048, 512]⟩
abbrev S2048x1280 : Shape := ⟨2, ![2048, 1280]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x5120, .bf16⟩
  | .hbm, ⟨2, _⟩ => ⟨S2048x1024, .bf16⟩
  | .hbm, ⟨3, _⟩ => ⟨S2048x1024, .bf16⟩
  | .hbm, ⟨4, _⟩ => ⟨S512x1024, .bf16⟩
  | .hbm, ⟨5, _⟩ => ⟨S1280x1024, .bf16⟩
  | .hbm, ⟨6, _⟩ => ⟨S1024x1024, .bf16⟩
  | .hbm, ⟨7, _⟩ => ⟨S2048x2048, .bf16⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S512x1024, .f32⟩
  | .hbm, ⟨42, _⟩ => ⟨S2048x512, .f32⟩
  | .hbm, ⟨43, _⟩ => ⟨S1280x1024, .f32⟩
  | .hbm, ⟨44, _⟩ => ⟨S2048x1280, .f32⟩
  | .hbm, ⟨45, _⟩ => ⟨S2048x1024, .f32⟩
  | .hbm, ⟨46, _⟩ => ⟨S2048x1024, .f32⟩
  | .hbm, ⟨47, _⟩ => ⟨S2048x1024, .bf16⟩
  | .hbm, ⟨48, _⟩ => ⟨S2048x1024, .bf16⟩
  | .hbm, ⟨49, _⟩ => ⟨S2048x1024, .bf16⟩
  | .hbm, ⟨50, _⟩ => ⟨S2048x1024, .bf16⟩
  | .hbm, ⟨51, _⟩ => ⟨S2048x1024, .bf16⟩
  | .hbm, ⟨52, _⟩ => ⟨S2048x512, .bf16⟩
  | .hbm, ⟨53, _⟩ => ⟨S2048x1280, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== DwUp.lean ====
abbrev S2048x1024 : Shape := ⟨2, ![2048, 1024]⟩
abbrev S2048x5632 : Shape := ⟨2, ![2048, 5632]⟩
abbrev S2048x8x704 : Shape := ⟨3, ![2048, 8, 704]⟩
abbrev S8x2048x704 : Shape := ⟨3, ![8, 2048, 704]⟩
abbrev S1x8x704x1024 : Shape := ⟨4, ![1, 8, 704, 1024]⟩
abbrev S1x2048x704 : Shape := ⟨3, ![1, 2048, 704]⟩
abbrev S1x1x704x1024 : Shape := ⟨4, ![1, 1, 704, 1024]⟩
abbrev S704x1024 : Shape := ⟨2, ![704, 1024]⟩
abbrev S2048x704 : Shape := ⟨2, ![2048, 704]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x8x704, .bf16⟩
  | .hbm, ⟨3, _⟩ => ⟨S8x2048x704, .bf16⟩
  | .hbm, ⟨4, _⟩ => ⟨S1x8x704x1024, .f32⟩
  | .hbm, ⟨5, _⟩ => ⟨S1x8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x1x704x1024, .f32⟩
  | .local _ .vmem, ⟨4, _⟩ => ⟨S1x1x704x1024, .f32⟩
  | .local _ .vmem, ⟨5, _⟩ => ⟨S1x1x704x1024, .bf16⟩
  | .local _ .vmem, ⟨6, _⟩ => ⟨S1x1x704x1024, .bf16⟩
  | .local _ .vmem, ⟨7, _⟩ => ⟨S704x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwUpReferenceIdeal.lean ====
abbrev S2048x1024 : Shape := ⟨2, ![2048, 1024]⟩
abbrev S2048x5632 : Shape := ⟨2, ![2048, 5632]⟩
abbrev S5632x1024 : Shape := ⟨2, ![5632, 1024]⟩
abbrev S1024x5632 : Shape := ⟨2, ![1024, 5632]⟩
abbrev S1x8x704x1024 : Shape := ⟨4, ![1, 8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S1x8x704x1024, .f32⟩
  | .hbm, ⟨8, _⟩ => ⟨S1x8x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DwDown.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S1x4x704x1024 : Shape := ⟨4, ![1, 4, 704, 1024]⟩
abbrev S1x2048x704 : Shape := ⟨3, ![1, 2048, 704]⟩
abbrev S1x1x704x1024 : Shape := ⟨4, ![1, 1, 704, 1024]⟩
abbrev S704x1024 : Shape := ⟨2, ![704, 1024]⟩
abbrev S2048x704 : Shape := ⟨2, ![2048, 704]⟩

abbrev nBuf : Space → Nat
  | .hbm => 6
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x4x704, .bf16⟩
  | .hbm, ⟨3, _⟩ => ⟨S4x2048x704, .bf16⟩
  | .hbm, ⟨4, _⟩ => ⟨S1x4x704x1024, .f32⟩
  | .hbm, ⟨5, _⟩ => ⟨S1x4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x1x704x1024, .f32⟩
  | .local _ .vmem, ⟨4, _⟩ => ⟨S1x1x704x1024, .f32⟩
  | .local _ .vmem, ⟨5, _⟩ => ⟨S1x1x704x1024, .bf16⟩
  | .local _ .vmem, ⟨6, _⟩ => ⟨S1x1x704x1024, .bf16⟩
  | .local _ .vmem, ⟨7, _⟩ => ⟨S704x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwDownReferenceIdeal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩
abbrev S1x4x704x1024 : Shape := ⟨4, ![1, 4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S1x4x704x1024, .f32⟩
  | .hbm, ⟨7, _⟩ => ⟨S1x4x704x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwIn.lean ====
abbrev S2048x1024 : Shape := ⟨2, ![2048, 1024]⟩
abbrev S2048x5120 : Shape := ⟨2, ![2048, 5120]⟩
abbrev S1x8x1024x640 : Shape := ⟨4, ![1, 8, 1024, 640]⟩
abbrev S2048x640 : Shape := ⟨2, ![2048, 640]⟩
abbrev S1x1x1024x640 : Shape := ⟨4, ![1, 1, 1024, 640]⟩
abbrev S1024x640 : Shape := ⟨2, ![1024, 640]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S1x8x1024x640, .f32⟩
  | .hbm, ⟨3, _⟩ => ⟨S1x8x1024x640, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1x1x1024x640, .f32⟩
  | .local _ .vmem, ⟨4, _⟩ => ⟨S1x1x1024x640, .f32⟩
  | .local _ .vmem, ⟨5, _⟩ => ⟨S1x1x1024x640, .bf16⟩
  | .local _ .vmem, ⟨6, _⟩ => ⟨S1x1x1024x640, .bf16⟩
  | .local _ .vmem, ⟨7, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DwInReferenceIdeal.lean ====
abbrev S2048x1024 : Shape := ⟨2, ![2048, 1024]⟩
abbrev S2048x5120 : Shape := ⟨2, ![2048, 5120]⟩
abbrev S5120x1024 : Shape := ⟨2, ![5120, 1024]⟩
abbrev S1024x5120 : Shape := ⟨2, ![1024, 5120]⟩
abbrev S1x1024x8x640 : Shape := ⟨4, ![1, 1024, 8, 640]⟩
abbrev S1x8x1024x640 : Shape := ⟨4, ![1, 8, 1024, 640]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5120, .bf16⟩
  | .hbm, ⟨2, _⟩ => ⟨S2048x1024, .f32⟩
  | .hbm, ⟨3, _⟩ => ⟨S2048x5120, .f32⟩
  | .hbm, ⟨4, _⟩ => ⟨S5120x1024, .f32⟩
  | .hbm, ⟨5, _⟩ => ⟨S1024x5120, .f32⟩
  | .hbm, ⟨6, _⟩ => ⟨S1x1024x8x640, .f32⟩
  | .hbm, ⟨7, _⟩ => ⟨S1x8x1024x640, .f32⟩
  | .hbm, ⟨8, _⟩ => ⟨S1x8x1024x640, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== DwOut.lean ====
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1x1024x1024, .f32⟩
  | .hbm, ⟨3, _⟩ => ⟨S1x1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x1024, .f32⟩
  | .local _ .vmem, ⟨3, _⟩ => ⟨S1x1x1024x1024, .bf16⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DwOutReferenceIdeal.lean ====
abbrev S2048x1024 : Shape := ⟨2, ![2048, 1024]⟩
abbrev S1024x1024 : Shape := ⟨2, ![1024, 1024]⟩
abbrev S1x1x1024x1024 : Shape := ⟨4, ![1, 1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1x1x1024x1024, .f32⟩
  | .hbm, ⟨7, _⟩ => ⟨S1x1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwLruUp.lean ====
abbrev S2048x1280 : Shape := ⟨2, ![2048, 1280]⟩
abbrev S2048x1024 : Shape := ⟨2, ![2048, 1024]⟩
abbrev S1x1x1280x1024 : Shape := ⟨4, ![1, 1, 1280, 1024]⟩
abbrev S1280x1024 : Shape := ⟨2, ![1280, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S1x1x1280x1024, .f32⟩
  | .hbm, ⟨3, _⟩ => ⟨S1x1x1280x1024, .bf16⟩
  | .local _ .vmem, ⟨0, _⟩ => ⟨S2048x1280, .bf16⟩
  | .local _ .vmem, ⟨1, _⟩ => ⟨S2048x1024, .bf16⟩
  | .local _ .vmem, ⟨2, _⟩ => ⟨S1x1x1280x1024, .f32⟩
  | .local _ .vmem, ⟨3, _⟩ => ⟨S1x1x1280x1024, .bf16⟩
  | .local _ .vmem, ⟨4, _⟩ => ⟨S1280x1024, .f32⟩
  | _, _ => ⟨S2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x1280x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DwLruUpReferenceIdeal.lean ====
abbrev S2048x1280 : Shape := ⟨2, ![2048, 1280]⟩
abbrev S2048x1024 : Shape := ⟨2, ![2048, 1024]⟩
abbrev S1024x1280 : Shape := ⟨2, ![1024, 1280]⟩
abbrev S1280x1024 : Shape := ⟨2, ![1280, 1024]⟩
abbrev S1x1x1280x1024 : Shape := ⟨4, ![1, 1, 1280, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1280, .bf16⟩
  | .hbm, ⟨1, _⟩ => ⟨S2048x1024, .bf16⟩
  | .hbm, ⟨2, _⟩ => ⟨S2048x1280, .f32⟩
  | .hbm, ⟨3, _⟩ => ⟨S2048x1024, .f32⟩
  | .hbm, ⟨4, _⟩ => ⟨S1024x1280, .f32⟩
  | .hbm, ⟨5, _⟩ => ⟨S1280x1024, .f32⟩
  | .hbm, ⟨6, _⟩ => ⟨S1x1x1280x1024, .f32⟩
  | .hbm, ⟨7, _⟩ => ⟨S1x1x1280x1024, .bf16⟩
  | _, _ => ⟨S2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DwPoolUp.lean ====
abbrev S2048x512 : Shape := ⟨2, ![2048, 512]⟩
abbrev S2048x1024 : Shape := ⟨2, ![2048, 1024]⟩
abbrev S1x1x512x1024 : Shape := ⟨4, ![1, 1, 512, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S1x1x512x1024, .f32⟩
  | .hbm, ⟨3, _⟩ => ⟨S1x1x512x1024, .bf16⟩
  | .local _ .vmem, ⟨0, _⟩ => ⟨S2048x512, .bf16⟩
  | .local _ .vmem, ⟨1, _⟩ => ⟨S2048x1024, .bf16⟩
  | .local _ .vmem, ⟨2, _⟩ => ⟨S1x1x512x1024, .f32⟩
  | .local _ .vmem, ⟨3, _⟩ => ⟨S1x1x512x1024, .bf16⟩
  | .local _ .vmem, ⟨4, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== DwPoolUpReferenceIdeal.lean ====
abbrev S2048x512 : Shape := ⟨2, ![2048, 512]⟩
abbrev S2048x1024 : Shape := ⟨2, ![2048, 1024]⟩
abbrev S1024x512 : Shape := ⟨2, ![1024, 512]⟩
abbrev S512x1024 : Shape := ⟨2, ![512, 1024]⟩
abbrev S1x1x512x1024 : Shape := ⟨4, ![1, 1, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S2048x512, .f32⟩
  | .hbm, ⟨3, _⟩ => ⟨S2048x1024, .f32⟩
  | .hbm, ⟨4, _⟩ => ⟨S1024x512, .f32⟩
  | .hbm, ⟨5, _⟩ => ⟨S512x1024, .f32⟩
  | .hbm, ⟨6, _⟩ => ⟨S1x1x512x1024, .f32⟩
  | .hbm, ⟨7, _⟩ => ⟨S1x1x512x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUp.lean ====
abbrev S2048x1024 : Shape := ⟨2, ![2048, 1024]⟩
abbrev S4x1024 : Shape := ⟨2, ![4, 1024]⟩
abbrev S1024x5632 : Shape := ⟨2, ![1024, 5632]⟩
abbrev S4x1x1024 : Shape := ⟨3, ![4, 1, 1024]⟩
abbrev S5632x1024 : Shape := ⟨2, ![5632, 1024]⟩
abbrev S1x8x704x1024 : Shape := ⟨4, ![1, 8, 704, 1024]⟩
abbrev S2x4x2048x704 : Shape := ⟨4, ![2, 4, 2048, 704]⟩
abbrev S4x2048x704 : Shape := ⟨3, ![4, 2048, 704]⟩
abbrev S1024x1024 : Shape := ⟨2, ![1024, 1024]⟩
abbrev S1x1x1024 : Shape := ⟨3, ![1, 1, 1024]⟩
abbrev S1x1x704x1024 : Shape := ⟨4, ![1, 1, 704, 1024]⟩
abbrev S2x1x1024x704 : Shape := ⟨4, ![2, 1, 1024, 704]⟩
abbrev S1x1024x704 : Shape := ⟨3, ![1, 1024, 704]⟩
abbrev S1024 : Shape := ⟨1, ![1024]⟩
abbrev S1024x1 : Shape := ⟨2, ![1024, 1]⟩
abbrev S1x1024 : Shape := ⟨2, ![1, 1024]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x5632, .bf16⟩
  | .hbm, ⟨3, _⟩ => ⟨S4x1x1024, .f32⟩
  | .hbm, ⟨4, _⟩ => ⟨S5632x1024, .bf16⟩
  | .hbm, ⟨5, _⟩ => ⟨S1x8x704x1024, .bf16⟩
  | .hbm, ⟨6, _⟩ => ⟨S2048x1024, .bf16⟩
  | .hbm, ⟨7, _⟩ => ⟨S2x4x2048x704, .bf16⟩
  | .hbm, ⟨8, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1x704x1024, .bf16⟩
  | .local _ .vmem, ⟨7, _⟩ => ⟨S1024x1024, .bf16⟩
  | .local _ .vmem, ⟨8, _⟩ => ⟨S1024x1024, .bf16⟩
  | .local _ .vmem, ⟨9, _⟩ => ⟨S2x1x1024x704, .bf16⟩
  | .local _ .vmem, ⟨10, _⟩ => ⟨S2x1x1024x704, .bf16⟩
  | .local _ .vmem, ⟨11, _⟩ => ⟨S1x1024x704, .bf16⟩
  | .local _ .vmem, ⟨12, _⟩ => ⟨S1x1024x704, .bf16⟩
  | .local _ .vmem, ⟨13, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v50 : Index := Scalar.indexCast v1
  let c0_31 : Index := 0#32
  ![v50.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnUpReferenceIdeal.lean ====
abbrev S2048x1024 : Shape := ⟨2, ![2048, 1024]⟩
abbrev S4x1024 : Shape := ⟨2, ![4, 1024]⟩
abbrev S1024x5632 : Shape := ⟨2, ![1024, 5632]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S2048x2x4x704 : Shape := ⟨4, ![2048, 2, 4, 704]⟩
abbrev S2x4x2048x704 : Shape := ⟨4, ![2, 4, 2048, 704]⟩
abbrev S2048x4x704 : Shape := ⟨3, ![2048, 4, 704]⟩
abbrev S4x2048x704 : Shape := ⟨3, ![4, 2048, 704]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x5632, .bf16⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S1024x5632, .f32⟩
  | .hbm, ⟨22, _⟩ => ⟨S2048x5632, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x1024, .bf16⟩
  | .hbm, ⟨36, _⟩ => ⟨S2048x2x4x704, .f32⟩
  | .hbm, ⟨37, _⟩ => ⟨S2x4x2048x704, .f32⟩
  | .hbm, ⟨38, _⟩ => ⟨S2x4x2048x704, .bf16⟩
  | .hbm, ⟨39, _⟩ => ⟨S2048x4x704, .f32⟩
  | .hbm, ⟨40, _⟩ => ⟨S4x2048x704, .f32⟩
  | .hbm, ⟨41, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== FfnDown.lean ====
abbrev S2048x2816 : Shape := ⟨2, ![2048, 2816]⟩
abbrev S2816x1024 : Shape := ⟨2, ![2816, 1024]⟩
abbrev S2048x1024 : Shape := ⟨2, ![2048, 1024]⟩
abbrev S2048x4x704 : Shape := ⟨3, ![2048, 4, 704]⟩
abbrev S4x2048x704 : Shape := ⟨3, ![4, 2048, 704]⟩
abbrev S1x2816x1024 : Shape := ⟨3, ![1, 2816, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x4x704, .bf16⟩
  | .hbm, ⟨4, _⟩ => ⟨S4x2048x704, .bf16⟩
  | .hbm, ⟨5, _⟩ => ⟨S1x2816x1024, .bf16⟩
  | .hbm, ⟨6, _⟩ => ⟨S2048x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDownReferenceIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MixIn.lean ====
abbrev S2048x1024 : Shape := ⟨2, ![2048, 1024]⟩
abbrev S4x1024 : Shape := ⟨2, ![4, 1024]⟩
abbrev S1024x5120 : Shape := ⟨2, ![1024, 5120]⟩
abbrev S4x1x1024 : Shape := ⟨3, ![4, 1, 1024]⟩
abbrev S1024x8x640 : Shape := ⟨3, ![1024, 8, 640]⟩
abbrev S8x1024x640 : Shape := ⟨3, ![8, 1024, 640]⟩
abbrev S1x8x1024x640 : Shape := ⟨4, ![1, 8, 1024, 640]⟩
abbrev S2048x5120 : Shape := ⟨2, ![2048, 5120]⟩
abbrev S1x1x1024 : Shape := ⟨3, ![1, 1, 1024]⟩
abbrev S1x1x1024x640 : Shape := ⟨4, ![1, 1, 1024, 640]⟩
abbrev S2048x640 : Shape := ⟨2, ![2048, 640]⟩
abbrev S2048 : Shape := ⟨1, ![2048]⟩
abbrev S2048x1 : Shape := ⟨2, ![2048, 1]⟩
abbrev S1x1024 : Shape := ⟨2, ![1, 1024]⟩
abbrev S1024x640 : Shape := ⟨2, ![1024, 640]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x5120, .bf16⟩
  | .hbm, ⟨3, _⟩ => ⟨S4x1x1024, .f32⟩
  | .hbm, ⟨4, _⟩ => ⟨S1024x8x640, .bf16⟩
  | .hbm, ⟨5, _⟩ => ⟨S8x1024x640, .bf16⟩
  | .hbm, ⟨6, _⟩ => ⟨S1x8x1024x640, .bf16⟩
  | .hbm, ⟨7, _⟩ => ⟨S2048x1024, .bf16⟩
  | .hbm, ⟨8, _⟩ => ⟨S2048x5120, .bf16⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1x1024x640, .bf16⟩
  | .local _ .vmem, ⟨4, _⟩ => ⟨S1x1x1024x640, .bf16⟩
  | .local _ .vmem, ⟨5, _⟩ => ⟨S2048x1024, .bf16⟩
  | .local _ .vmem, ⟨6, _⟩ => ⟨S2048x1024, .bf16⟩
  | .local _ .vmem, ⟨7, _⟩ => ⟨S2048x640, .bf16⟩
  | .local _ .vmem, ⟨8, _⟩ => ⟨S2048x640, .bf16⟩
  | .local _ .vmem, ⟨9, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v28 : Index := Scalar.indexCast v1
  let c0_15 : Index := 0#32
  ![v28.toNat, 0]
def k0_off2 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixInReferenceIdeal.lean ====
abbrev S2048x1024 : Shape := ⟨2, ![2048, 1024]⟩
abbrev S4x1024 : Shape := ⟨2, ![4, 1024]⟩
abbrev S1024x5120 : Shape := ⟨2, ![1024, 5120]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x5120 : Shape := ⟨2, ![2048, 5120]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024, .f32⟩
  | .hbm, ⟨2, _⟩ => ⟨S1024x5120, .bf16⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S1024x5120, .f32⟩
  | .hbm, ⟨23, _⟩ => ⟨S2048x5120, .f32⟩
  | .hbm, ⟨24, _⟩ => ⟨S2048x5120, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MixOut.lean ====
abbrev S2048x512 : Shape := ⟨2, ![2048, 512]⟩
abbrev S2048x1280 : Shape := ⟨2, ![2048, 1280]⟩
abbrev S2048x5120 : Shape := ⟨2, ![2048, 5120]⟩
abbrev S2048x1024 : Shape := ⟨2, ![2048, 1024]⟩
abbrev S512x1024 : Shape := ⟨2, ![512, 1024]⟩
abbrev S1280x1024 : Shape := ⟨2, ![1280, 1024]⟩
abbrev S1024x1024 : Shape := ⟨2, ![1024, 1024]⟩
abbrev S1x512x1024 : Shape := ⟨3, ![1, 512, 1024]⟩
abbrev S1x1280x1024 : Shape := ⟨3, ![1, 1280, 1024]⟩
abbrev S1x1024x1024 : Shape := ⟨3, ![1, 1024, 1024]⟩
abbrev S512x512 : Shape := ⟨2, ![512, 512]⟩
abbrev S512x1280 : Shape := ⟨2, ![512, 1280]⟩

abbrev nBuf : Space → Nat
  | .hbm => 14
  | .vmem => 21
  | .smem => 0
  | _ => 0

abbrev bufTy : (tb : Table) → Fin (tcTables nBuf tb) → BufTy
  | .hbm, ⟨0, _⟩ => ⟨S2048x512, .bf16⟩
  | .hbm, ⟨1, _⟩ => ⟨S2048x1280, .bf16⟩
  | .hbm, ⟨2, _⟩ => ⟨S2048x5120, .bf16⟩
  | .hbm, ⟨3, _⟩ => ⟨S2048x1024, .f32⟩
  | .hbm, ⟨4, _⟩ => ⟨S512x1024, .bf16⟩
  | .hbm, ⟨5, _⟩ => ⟨S1280x1024, .bf16⟩
  | .hbm, ⟨6, _⟩ => ⟨S1024x1024, .bf16⟩
  | .hbm, ⟨7, _⟩ => ⟨S1x512x1024, .bf16⟩
  | .hbm, ⟨8, _⟩ => ⟨S1x1280x1024, .bf16⟩
  | .hbm, ⟨9, _⟩ => ⟨S1x1024x1024, .bf16⟩
  | .hbm, ⟨10, _⟩ => ⟨S2048x1024, .f32⟩
  | .hbm, ⟨11, _⟩ => ⟨S2048x1024, .bf16⟩
  | .hbm, ⟨12, _⟩ => ⟨S2048x1024, .bf16⟩
  | .hbm, ⟨13, _⟩ => ⟨S2048x1024, .bf16⟩
  | .local _ .vmem, ⟨0, _⟩ => ⟨S512x512, .bf16⟩
  | .local _ .vmem, ⟨1, _⟩ => ⟨S512x512, .bf16⟩
  | .local _ .vmem, ⟨2, _⟩ => ⟨S512x1280, .bf16⟩
  | .local _ .vmem, ⟨3, _⟩ => ⟨S512x1280, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x512x1024, .bf16⟩
  | .local _ .vmem, ⟨11, _⟩ => ⟨S1x1280x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixOutReferenceIdeal.lean ====
abbrev S2048x512 : Shape := ⟨2, ![2048, 512]⟩
abbrev S2048x1280 : Shape := ⟨2, ![2048, 1280]⟩
abbrev S2048x5120 : Shape := ⟨2, ![2048, 5120]⟩
abbrev S2048x1024 : Shape := ⟨2, ![2048, 1024]⟩
abbrev S512x1024 : Shape := ⟨2, ![512, 1024]⟩
abbrev S1280x1024 : Shape := ⟨2, ![1280, 1024]⟩
abbrev S1024x1024 : Shape := ⟨2, ![1024, 1024]⟩
abbrev S2048x2048 : Shape := ⟨2, ![2048, 2048]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1280, .bf16⟩
  | .hbm, ⟨2, _⟩ => ⟨S2048x5120, .bf16⟩
  | .hbm, ⟨3, _⟩ => ⟨S2048x1024, .f32⟩
  | .hbm, ⟨4, _⟩ => ⟨S512x1024, .bf16⟩
  | .hbm, ⟨5, _⟩ => ⟨S1280x1024, .bf16⟩
  | .hbm, ⟨6, _⟩ => ⟨S1024x1024, .bf16⟩
  | .hbm, ⟨7, _⟩ => ⟨S2048x512, .f32⟩
  | .hbm, ⟨8, _⟩ => ⟨S512x1024, .f32⟩
  | .hbm, ⟨9, _⟩ => ⟨S2048x1024, .f32⟩
  | .hbm, ⟨10, _⟩ => ⟨S2048x1280, .f32⟩
  | .hbm, ⟨11, _⟩ => ⟨S1280x1024, .f32⟩
  | .hbm, ⟨12, _⟩ => ⟨S2048x1024, .f32⟩
  | .hbm, ⟨13, _⟩ => ⟨S2048x2048, .bf16⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024x1024, .f32⟩
  | .hbm, ⟨29, _⟩ => ⟨S2048x1024, .f32⟩
  | .hbm, ⟨30, _⟩ => ⟨S2048x1024, .f32⟩
  | .hbm, ⟨31, _⟩ => ⟨S2048x1024, .bf16⟩
  | .hbm, ⟨32, _⟩ => ⟨S2048x1024, .bf16⟩
  | .hbm, ⟨33, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== FfnDownBwd.lean ====
abbrev S2048x1024 : Shape := ⟨2, ![2048, 1024]⟩
abbrev S2816x1024 : Shape := ⟨2, ![2816, 1024]⟩
abbrev S2048x5632 : Shape := ⟨2, ![2048, 5632]⟩
abbrev S1x2816x1024 : Shape := ⟨3, ![1, 2816, 1024]⟩
abbrev S2048x2x4x704 : Shape := ⟨4, ![2048, 2, 4, 704]⟩
abbrev S2x4x2048x704 : Shape := ⟨4, ![2, 4, 2048, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 8
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x5632, .bf16⟩
  | .hbm, ⟨3, _⟩ => ⟨S1x2816x1024, .bf16⟩
  | .hbm, ⟨4, _⟩ => ⟨S2048x2x4x704, .bf16⟩
  | .hbm, ⟨5, _⟩ => ⟨S2x4x2048x704, .bf16⟩
  | .hbm, ⟨6, _⟩ => ⟨S2048x1024, .bf16⟩
  | .hbm, ⟨7, _⟩ => ⟨S2x4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S1024x1024, .bf16⟩
  | .local _ .vmem, ⟨7, _⟩ => ⟨S1024x1024, .bf16⟩
  | .local _ .vmem, ⟨8, _⟩ => ⟨S2x1x1024x704, .bf16⟩
  | .local _ .vmem, ⟨9, _⟩ => ⟨S2x1x1024x704, .bf16⟩
  | .local _ .vmem, ⟨10, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v45 : Index := Scalar.indexCast v1
  let c0_27 : Index := 0#32
  ![v45.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v5 : Index := Scalar.indexCast v1
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownBwdReferenceIdeal.lean ====
abbrev S2048x1024 : Shape := ⟨2, ![2048, 1024]⟩
abbrev S2816x1024 : Shape := ⟨2, ![2816, 1024]⟩
abbrev S2048x5632 : Shape := ⟨2, ![2048, 5632]⟩
abbrev S_ : Shape := ⟨0, ![]⟩
abbrev S2048x2816 : Shape := ⟨2, ![2048, 2816]⟩
abbrev S2048x2x4x704 : Shape := ⟨4, ![2048, 2, 4, 704]⟩
abbrev S2x4x2048x704 : Shape := ⟨4, ![2, 4, 2048, 704]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .bf16⟩
  | .hbm, ⟨2, _⟩ => ⟨S2048x5632, .bf16⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2816x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x5632, .f32⟩
  | .hbm, ⟨33, _⟩ => ⟨S2048x1024, .bf16⟩
  | .hbm, ⟨34, _⟩ => ⟨S2048x2x4x704, .f32⟩
  | .hbm, ⟨35, _⟩ => ⟨S2x4x2048x704, .f32⟩
  | .hbm, ⟨36, _⟩ => ⟨S2x4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== AdamNorm.lean ====
abbrev S4x1024 : Shape := ⟨2, ![4, 1024]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormReferenceIdeal.lean ====
abbrev S4x1024 : Shape := ⟨2, ![4, 1024]⟩
abbrev S_ : Shape := ⟨0, ![]⟩
abbrev S32x128 : Shape := ⟨2, ![32, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S32x128, .f32⟩
  | .hbm, ⟨38, _⟩ => ⟨S32x128, .f32⟩
  | .hbm, ⟨39, _⟩ => ⟨S32x128, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolW.lean ====
abbrev S4x4x128x128 : Shape := ⟨4, ![4, 4, 128, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWIdeal.lean ====
abbrev S4x4x128x128 : Shape := ⟨4, ![4, 4, 128, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolWReferenceIdeal.lean ====
abbrev S4x4x128x128 : Shape := ⟨4, ![4, 4, 128, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128x128, .f32⟩
  | .hbm, ⟨1, _⟩ => ⟨S4x4x128x128, .f32⟩
  | .hbm, ⟨2, _⟩ => ⟨S4x4x128x128, .f32⟩
  | .hbm, ⟨3, _⟩ => ⟨S4x4x128x128, .f32⟩
  | .hbm, ⟨4, _⟩ => ⟨S_, .f32⟩
  | .hbm, ⟨5, _⟩ => ⟨S4x4x128x128, .f32⟩
  | .hbm, ⟨6, _⟩ => ⟨S4x4x128x128, .f32⟩
  | .hbm, ⟨7, _⟩ => ⟨S_, .f32⟩
  | .hbm, ⟨8, _⟩ => ⟨S4x4x128x128, .f32⟩
  | .hbm, ⟨9, _⟩ => ⟨S4x4x128x128, .f32⟩
  | .hbm, ⟨10, _⟩ => ⟨S4x4x128x128, .f32⟩
  | .hbm, ⟨11, _⟩ => ⟨S_, .f32⟩
  | .hbm, ⟨12, _⟩ => ⟨S4x4x128x128, .f32⟩
  | .hbm, ⟨13, _⟩ => ⟨S4x4x128x128, .f32⟩
  | .hbm, ⟨14, _⟩ => ⟨S4x4x128x128, .f32⟩
  | .hbm, ⟨15, _⟩ => ⟨S_, .f32⟩
  | .hbm, ⟨16, _⟩ => ⟨S4x4x128x128, .f32⟩
  | .hbm, ⟨17, _⟩ => ⟨S4x4x128x128, .f32⟩
  | .hbm, ⟨18, _⟩ => ⟨S4x4x128x128, .f32⟩
  | .hbm, ⟨19, _⟩ => ⟨S_, .f32⟩
  | .hbm, ⟨20, _⟩ => ⟨S4x4x128x128, .f32⟩
  | .hbm, ⟨21, _⟩ => ⟨S4x4x128x128, .f32⟩
  | .hbm, ⟨22, _⟩ => ⟨S_, .f32⟩
  | .hbm, ⟨23, _⟩ => ⟨S4x4x128x128, .f32⟩
  | .hbm, ⟨24, _⟩ => ⟨S4x4x128x128, .f32⟩
  | .hbm, ⟨25, _⟩ => ⟨S4x4x128x128, .f32⟩
  | .hbm, ⟨26, _⟩ => ⟨S_, .f32⟩
  | .hbm, ⟨27, _⟩ => ⟨S4x4x128x128, .f32⟩
  | .hbm, ⟨28, _⟩ => ⟨S4x4x128x128, .f32⟩
  | .hbm, ⟨29, _⟩ => ⟨S4x4x128x128, .f32⟩
  | .hbm, ⟨30, _⟩ => ⟨S_, .f32⟩
  | .hbm, ⟨31, _⟩ => ⟨S4x4x128x128, .f32⟩
  | .hbm, ⟨32, _⟩ => ⟨S4x4x128x128, .f32⟩
  | .hbm, ⟨33, _⟩ => ⟨S4x4x128x128, .f32⟩
  | .hbm, ⟨34, _⟩ => ⟨S_, .f32⟩
  | .hbm, ⟨35, _⟩ => ⟨S4x4x128x128, .f32⟩
  | .hbm, ⟨36, _⟩ => ⟨S4x4x128x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolB.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolBIdeal.lean ====
abbrev S4x4x128 : Shape := ⟨3, ![4, 4, 128]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolBReferenceIdeal.lean ====
abbrev S4x4x128 : Shape := ⟨3, ![4, 4, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4x128, .f32⟩
  | .hbm, ⟨1, _⟩ => ⟨S4x4x128, .f32⟩
  | .hbm, ⟨2, _⟩ => ⟨S4x4x128, .f32⟩
  | .hbm, ⟨3, _⟩ => ⟨S4x4x128, .f32⟩
  | .hbm, ⟨4, _⟩ => ⟨S_, .f32⟩
  | .hbm, ⟨5, _⟩ => ⟨S4x4x128, .f32⟩
  | .hbm, ⟨6, _⟩ => ⟨S4x4x128, .f32⟩
  | .hbm, ⟨7, _⟩ => ⟨S_, .f32⟩
  | .hbm, ⟨8, _⟩ => ⟨S4x4x128, .f32⟩
  | .hbm, ⟨9, _⟩ => ⟨S4x4x128, .f32⟩
  | .hbm, ⟨10, _⟩ => ⟨S4x4x128, .f32⟩
  | .hbm, ⟨11, _⟩ => ⟨S_, .f32⟩
  | .hbm, ⟨12, _⟩ => ⟨S4x4x128, .f32⟩
  | .hbm, ⟨13, _⟩ => ⟨S4x4x128, .f32⟩
  | .hbm, ⟨14, _⟩ => ⟨S4x4x128, .f32⟩
  | .hbm, ⟨15, _⟩ => ⟨S_, .f32⟩
  | .hbm, ⟨16, _⟩ => ⟨S4x4x128, .f32⟩
  | .hbm, ⟨17, _⟩ => ⟨S4x4x128, .f32⟩
  | .hbm, ⟨18, _⟩ => ⟨S4x4x128, .f32⟩
  | .hbm, ⟨19, _⟩ => ⟨S_, .f32⟩
  | .hbm, ⟨20, _⟩ => ⟨S4x4x128, .f32⟩
  | .hbm, ⟨21, _⟩ => ⟨S4x4x128, .f32⟩
  | .hbm, ⟨22, _⟩ => ⟨S_, .f32⟩
  | .hbm, ⟨23, _⟩ => ⟨S4x4x128, .f32⟩
  | .hbm, ⟨24, _⟩ => ⟨S4x4x128, .f32⟩
  | .hbm, ⟨25, _⟩ => ⟨S4x4x128, .f32⟩
  | .hbm, ⟨26, _⟩ => ⟨S_, .f32⟩
  | .hbm, ⟨27, _⟩ => ⟨S4x4x128, .f32⟩
  | .hbm, ⟨28, _⟩ => ⟨S4x4x128, .f32⟩
  | .hbm, ⟨29, _⟩ => ⟨S4x4x128, .f32⟩
  | .hbm, ⟨30, _⟩ => ⟨S_, .f32⟩
  | .hbm, ⟨31, _⟩ => ⟨S4x4x128, .f32⟩
  | .hbm, ⟨32, _⟩ => ⟨S4x4x128, .f32⟩
  | .hbm, ⟨33, _⟩ => ⟨S4x4x128, .f32⟩
  | .hbm, ⟨34, _⟩ => ⟨S_, .f32⟩
  | .hbm, ⟨35, _⟩ => ⟨S4x4x128, .f32⟩
  | .hbm, ⟨36, _⟩ => ⟨S4x4x128, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolScale.lean ====
abbrev S4x512 : Shape := ⟨2, ![4, 512]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleIdeal.lean ====
abbrev S4x512 : Shape := ⟨2, ![4, 512]⟩
abbrev S16x128 : Shape := ⟨2, ![16, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S16x128, .f32⟩
  | .hbm, ⟨10, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolScaleReferenceIdeal.lean ====
abbrev S4x512 : Shape := ⟨2, ![4, 512]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | .hbm, ⟨37, _⟩ => ⟨S16x128, .f32⟩
  | .hbm, ⟨38, _⟩ => ⟨S16x128, .f32⟩
  | .hbm, ⟨39, _⟩ => ⟨S16x128, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamConvW.lean ====
abbrev S4x4x160 : Shape := ⟨3, ![4, 4, 160]⟩
abbrev S16x160 : Shape := ⟨2, ![16, 160]⟩

abbrev nBuf : Space → Nat
  | .hbm => 11
  | .vmem => 7
  | .smem => 0
  | _ => 0

abbrev bufTy : (tb : Table) → Fin (tcTables nBuf tb) → BufTy
  | .hbm, ⟨0, _⟩ => ⟨S4x4x160, .f32⟩
  | .hbm, ⟨1, _⟩ => ⟨S4x4x160, .f32⟩
  | .hbm, ⟨2, _⟩ => ⟨S4x4x160, .f32⟩
  | .hbm, ⟨3, _⟩ => ⟨S4x4x160, .f32⟩
  | .hbm, ⟨4, _⟩ => ⟨S16x160, .f32⟩
  | .hbm, ⟨5, _⟩ => ⟨S16x160, .f32⟩
  | .hbm, ⟨6, _⟩ => ⟨S16x160, .f32⟩
  | .hbm, ⟨7, _⟩ => ⟨S16x160, .f32⟩
  | .hbm, ⟨8, _⟩ => ⟨S16x160, .f32⟩
  | .hbm, ⟨9, _⟩ => ⟨S16x160, .f32⟩
  | .hbm, ⟨10, _⟩ => ⟨S16x160, .f32⟩
  | .local _ .vmem, ⟨0, _⟩ => ⟨S16x160, .f32⟩
  | .local _ .vmem, ⟨1, _⟩ => ⟨S16x160, .f32⟩
  | .local _ .vmem, ⟨2, _⟩ => ⟨S16x160, .f32⟩
  | .local _ .vmem, ⟨3, _⟩ => ⟨S16x160, .f32⟩
  | .local _ .vmem, ⟨4, _⟩ => ⟨S16x160, .f32⟩
  | .local _ .vmem, ⟨5, _⟩ => ⟨S16x160, .f32⟩
  | .local _ .vmem, ⟨6, _⟩ => ⟨S16x160, .f32⟩
  | _, _ => ⟨S4x4x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x160 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvWReferenceIdeal.lean ====
abbrev S4x4x160 : Shape := ⟨3, ![4, 4, 160]⟩
abbrev S_ : Shape := ⟨0, ![]⟩
abbrev S16x160 : Shape := ⟨2, ![16, 160]⟩

abbrev nBuf : Space → Nat
  | .hbm => 40
  | .vmem => 0
  | .smem => 0
  | _ => 0

abbrev bufTy : (tb : Table) → Fin (tcTables nBuf tb) → BufTy
  | .hbm, ⟨0, _⟩ => ⟨S4x4x160, .f32⟩
  | .hbm, ⟨1, _⟩ => ⟨S4x4x160, .f32⟩
  | .hbm, ⟨2, _⟩ => ⟨S4x4x160, .f32⟩
  | .hbm, ⟨3, _⟩ => ⟨S4x4x160, .f32⟩
  | .hbm, ⟨4, _⟩ => ⟨S_, .f32⟩
  | .hbm, ⟨5, _⟩ => ⟨S4x4x160, .f32⟩
  | .hbm, ⟨6, _⟩ => ⟨S4x4x160, .f32⟩
  | .hbm, ⟨7, _⟩ => ⟨S_, .f32⟩
  | .hbm, ⟨8, _⟩ => ⟨S4x4x160, .f32⟩
  | .hbm, ⟨9, _⟩ => ⟨S4x4x160, .f32⟩
  | .hbm, ⟨10, _⟩ => ⟨S4x4x160, .f32⟩
  | .hbm, ⟨11, _⟩ => ⟨S_, .f32⟩
  | .hbm, ⟨12, _⟩ => ⟨S4x4x160, .f32⟩
  | .hbm, ⟨13, _⟩ => ⟨S4x4x160, .f32⟩
  | .hbm, ⟨14, _⟩ => ⟨S4x4x160, .f32⟩
  | .hbm, ⟨15, _⟩ => ⟨S_, .f32⟩
  | .hbm, ⟨16, _⟩ => ⟨S4x4x160, .f32⟩
  | .hbm, ⟨17, _⟩ => ⟨S4x4x160, .f32⟩
  | .hbm, ⟨18, _⟩ => ⟨S4x4x160, .f32⟩
  | .hbm, ⟨19, _⟩ => ⟨S_, .f32⟩
  | .hbm, ⟨20, _⟩ => ⟨S4x4x160, .f32⟩
  | .hbm, ⟨21, _⟩ => ⟨S4x4x160, .f32⟩
  | .hbm, ⟨22, _⟩ => ⟨S_, .f32⟩
  | .hbm, ⟨23, _⟩ => ⟨S4x4x160, .f32⟩
  | .hbm, ⟨24, _⟩ => ⟨S4x4x160, .f32⟩
  | .hbm, ⟨25, _⟩ => ⟨S4x4x160, .f32⟩
  | .hbm, ⟨26, _⟩ => ⟨S_, .f32⟩
  | .hbm, ⟨27, _⟩ => ⟨S4x4x160, .f32⟩
  | .hbm, ⟨28, _⟩ => ⟨S4x4x160, .f32⟩
  | .hbm, ⟨29, _⟩ => ⟨S4x4x160, .f32⟩
  | .hbm, ⟨30, _⟩ => ⟨S_, .f32⟩
  | .hbm, ⟨31, _⟩ => ⟨S4x4x160, .f32⟩
  | .hbm, ⟨32, _⟩ => ⟨S4x4x160, .f32⟩
  | .hbm, ⟨33, _⟩ => ⟨S4x4x160, .f32⟩
  | .hbm, ⟨34, _⟩ => ⟨S_, .f32⟩
  | .hbm, ⟨35, _⟩ => ⟨S4x4x160, .f32⟩
  | .hbm, ⟨36, _⟩ => ⟨S4x4x160, .f32⟩
  | .hbm, ⟨37, _⟩ => ⟨S16x160, .f32⟩
  | .hbm, ⟨38, _⟩ => ⟨S16x160, .f32⟩
  | .hbm, ⟨39, _⟩ => ⟨S16x160, .f32⟩
  | _, _ => ⟨S4x4x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLru.lean ====
abbrev S4x1280 : Shape := ⟨2, ![4, 1280]⟩
abbrev S40x128 : Shape := ⟨2, ![40, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x1280, .f32⟩
  | .hbm, ⟨1, _⟩ => ⟨S4x1280, .f32⟩
  | .hbm, ⟨2, _⟩ => ⟨S4x1280, .f32⟩
  | .hbm, ⟨3, _⟩ => ⟨S4x1280, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .hbm, ⟨8, _⟩ => ⟨S40x128, .f32⟩
  | .hbm, ⟨9, _⟩ => ⟨S40x128, .f32⟩
  | .hbm, ⟨10, _⟩ => ⟨S40x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | _, _ => ⟨S4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruIdeal.lean ====
abbrev S4x1280 : Shape := ⟨2, ![4, 1280]⟩
abbrev S40x128 : Shape := ⟨2, ![40, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x1280, .f32⟩
  | .hbm, ⟨1, _⟩ => ⟨S4x1280, .f32⟩
  | .hbm, ⟨2, _⟩ => ⟨S4x1280, .f32⟩
  | .hbm, ⟨3, _⟩ => ⟨S4x1280, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .hbm, ⟨8, _⟩ => ⟨S40x128, .f32⟩
  | .hbm, ⟨9, _⟩ => ⟨S40x128, .f32⟩
  | .hbm, ⟨10, _⟩ => ⟨S40x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | _, _ => ⟨S4x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLruReferenceIdeal.lean ====
abbrev S4x1280 : Shape := ⟨2, ![4, 1280]⟩
abbrev S_ : Shape := ⟨0, ![]⟩
abbrev S40x128 : Shape := ⟨2, ![40, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x1280, .f32⟩
  | .hbm, ⟨1, _⟩ => ⟨S4x1280, .f32⟩
  | .hbm, ⟨2, _⟩ => ⟨S4x1280, .f32⟩
  | .hbm, ⟨3, _⟩ => ⟨S4x1280, .f32⟩
  | .hbm, ⟨4, _⟩ => ⟨S_, .f32⟩
  | .hbm, ⟨5, _⟩ => ⟨S4x1280, .f32⟩
  | .hbm, ⟨6, _⟩ => ⟨S4x1280, .f32⟩
  | .hbm, ⟨7, _⟩ => ⟨S_, .f32⟩
  | .hbm, ⟨8, _⟩ => ⟨S4x1280, .f32⟩
  | .hbm, ⟨9, _⟩ => ⟨S4x1280, .f32⟩
  | .hbm, ⟨10, _⟩ => ⟨S4x1280, .f32⟩
  | .hbm, ⟨11, _⟩ => ⟨S_, .f32⟩
  | .hbm, ⟨12, _⟩ => ⟨S4x1280, .f32⟩
  | .hbm, ⟨13, _⟩ => ⟨S4x1280, .f32⟩
  | .hbm, ⟨14, _⟩ => ⟨S4x1280, .f32⟩
  | .hbm, ⟨15, _⟩ => ⟨S_, .f32⟩
  | .hbm, ⟨16, _⟩ => ⟨S4x1280, .f32⟩
  | .hbm, ⟨17, _⟩ => ⟨S4x1280, .f32⟩
  | .hbm, ⟨18, _⟩ => ⟨S4x1280, .f32⟩
  | .hbm, ⟨19, _⟩ => ⟨S_, .f32⟩
  | .hbm, ⟨20, _⟩ => ⟨S4x1280, .f32⟩
  | .hbm, ⟨21, _⟩ => ⟨S4x1280, .f32⟩
  | .hbm, ⟨22, _⟩ => ⟨S_, .f32⟩
  | .hbm, ⟨23, _⟩ => ⟨S4x1280, .f32⟩
  | .hbm, ⟨24, _⟩ => ⟨S4x1280, .f32⟩
  | .hbm, ⟨25, _⟩ => ⟨S4x1280, .f32⟩
  | .hbm, ⟨26, _⟩ => ⟨S_, .f32⟩
  | .hbm, ⟨27, _⟩ => ⟨S4x1280, .f32⟩
  | .hbm, ⟨28, _⟩ => ⟨S4x1280, .f32⟩
  | .hbm, ⟨29, _⟩ => ⟨S4x1280, .f32⟩
  | .hbm, ⟨30, _⟩ => ⟨S_, .f32⟩
  | .hbm, ⟨31, _⟩ => ⟨S4x1280, .f32⟩
  | .hbm, ⟨32, _⟩ => ⟨S4x1280, .f32⟩
  | .hbm, ⟨33, _⟩ => ⟨S4x1280, .f32⟩
  | .hbm, ⟨34, _⟩ => ⟨S_, .f32⟩
  | .hbm, ⟨35, _⟩ => ⟨S4x1280, .f32⟩
  | .hbm, ⟨36, _⟩ => ⟨S4x1280, .f32⟩
  | .hbm, ⟨37, _⟩ => ⟨S40x128, .f32⟩
  | .hbm, ⟨38, _⟩ => ⟨S40x128, .f32⟩
  | .hbm, ⟨39, _⟩ => ⟨S40x128, .f32⟩
  | _, _ => ⟨S4x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamHeadW.lean ====
abbrev S4x10x128x128 : Shape := ⟨4, ![4, 10, 128, 128]⟩
abbrev S5120x128 : Shape := ⟨2, ![5120, 128]⟩
abbrev S1280x128 : Shape := ⟨2, ![1280, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x10x128x128, .f32⟩
  | .hbm, ⟨1, _⟩ => ⟨S4x10x128x128, .f32⟩
  | .hbm, ⟨2, _⟩ => ⟨S4x10x128x128, .f32⟩
  | .hbm, ⟨3, _⟩ => ⟨S4x10x128x128, .f32⟩
  | .hbm, ⟨4, _⟩ => ⟨S5120x128, .f32⟩
  | .hbm, ⟨5, _⟩ => ⟨S5120x128, .f32⟩
  | .hbm, ⟨6, _⟩ => ⟨S5120x128, .f32⟩
  | .hbm, ⟨7, _⟩ => ⟨S5120x128, .f32⟩
  | .hbm, ⟨8, _⟩ => ⟨S5120x128, .f32⟩
  | .hbm, ⟨9, _⟩ => ⟨S5120x128, .f32⟩
  | .hbm, ⟨10, _⟩ => ⟨S5120x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S1280x128, .f32⟩
  | _, _ => ⟨S4x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHeadWIdeal.lean ====
abbrev S4x10x128x128 : Shape := ⟨4, ![4, 10, 128, 128]⟩
abbrev S5120x128 : Shape := ⟨2, ![5120, 128]⟩
abbrev S1280x128 : Shape := ⟨2, ![1280, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x10x128x128, .f32⟩
  | .hbm, ⟨1, _⟩ => ⟨S4x10x128x128, .f32⟩
  | .hbm, ⟨2, _⟩ => ⟨S4x10x128x128, .f32⟩
  | .hbm, ⟨3, _⟩ => ⟨S4x10x128x128, .f32⟩
  | .hbm, ⟨4, _⟩ => ⟨S5120x128, .f32⟩
  | .hbm, ⟨5, _⟩ => ⟨S5120x128, .f32⟩
  | .hbm, ⟨6, _⟩ => ⟨S5120x128, .f32⟩
  | .hbm, ⟨7, _⟩ => ⟨S5120x128, .f32⟩
  | .hbm, ⟨8, _⟩ => ⟨S5120x128, .f32⟩
  | .hbm, ⟨9, _⟩ => ⟨S5120x128, .f32⟩
  | .hbm, ⟨10, _⟩ => ⟨S5120x128, .f32⟩
  | .local _ .vmem, ⟨0, _⟩ => ⟨S1280x128, .f32⟩
  | .local _ .vmem, ⟨1, _⟩ => ⟨S1280x128, .f32⟩
  | .local _ .vmem, ⟨2, _⟩ => ⟨S1280x128, .f32⟩
  | .local _ .vmem, ⟨3, _⟩ => ⟨S1280x128, .f32⟩
  | .local _ .vmem, ⟨4, _⟩ => ⟨S1280x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x128, .f32⟩
  | .local _ .vmem, ⟨9, _⟩ => ⟨S1280x128, .f32⟩
  | .local _ .vmem, ⟨10, _⟩ => ⟨S1280x128, .f32⟩
  | .local _ .vmem, ⟨11, _⟩ => ⟨S1280x128, .f32⟩
  | .local _ .vmem, ⟨12, _⟩ => ⟨S1280x128, .f32⟩
  | .local _ .vmem, ⟨13, _⟩ => ⟨S1280x128, .f32⟩
  | _, _ => ⟨S4x10x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1280x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHeadWReferenceIdeal.lean ====
abbrev S4x10x128x128 : Shape := ⟨4, ![4, 10, 128, 128]⟩
abbrev S_ : Shape := ⟨0, ![]⟩
abbrev S5120x128 : Shape := ⟨2, ![5120, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x10x128x128, .f32⟩
  | .hbm, ⟨1, _⟩ => ⟨S4x10x128x128, .f32⟩
  | .hbm, ⟨2, _⟩ => ⟨S4x10x128x128, .f32⟩
  | .hbm, ⟨3, _⟩ => ⟨S4x10x128x128, .f32⟩
  | .hbm, ⟨4, _⟩ => ⟨S_, .f32⟩
  | .hbm, ⟨5, _⟩ => ⟨S4x10x128x128, .f32⟩
  | .hbm, ⟨6, _⟩ => ⟨S4x10x128x128, .f32⟩
  | .hbm, ⟨7, _⟩ => ⟨S_, .f32⟩
  | .hbm, ⟨8, _⟩ => ⟨S4x10x128x128, .f32⟩
  | .hbm, ⟨9, _⟩ => ⟨S4x10x128x128, .f32⟩
  | .hbm, ⟨10, _⟩ => ⟨S4x10x128x128, .f32⟩
  | .hbm, ⟨11, _⟩ => ⟨S_, .f32⟩
  | .hbm, ⟨12, _⟩ => ⟨S4x10x128x128, .f32⟩
  | .hbm, ⟨13, _⟩ => ⟨S4x10x128x128, .f32⟩
  | .hbm, ⟨14, _⟩ => ⟨S4x10x128x128, .f32⟩
  | .hbm, ⟨15, _⟩ => ⟨S_, .f32⟩
  | .hbm, ⟨16, _⟩ => ⟨S4x10x128x128, .f32⟩
  | .hbm, ⟨17, _⟩ => ⟨S4x10x128x128, .f32⟩
  | .hbm, ⟨18, _⟩ => ⟨S4x10x128x128, .f32⟩
  | .hbm, ⟨19, _⟩ => ⟨S_, .f32⟩
  | .hbm, ⟨20, _⟩ => ⟨S4x10x128x128, .f32⟩
  | .hbm, ⟨21, _⟩ => ⟨S4x10x128x128, .f32⟩
  | .hbm, ⟨22, _⟩ => ⟨S_, .f32⟩
  | .hbm, ⟨23, _⟩ => ⟨S4x10x128x128, .f32⟩
  | .hbm, ⟨24, _⟩ => ⟨S4x10x128x128, .f32⟩
  | .hbm, ⟨25, _⟩ => ⟨S4x10x128x128, .f32⟩
  | .hbm, ⟨26, _⟩ => ⟨S_, .f32⟩
  | .hbm, ⟨27, _⟩ => ⟨S4x10x128x128, .f32⟩
  | .hbm, ⟨28, _⟩ => ⟨S4x10x128x128, .f32⟩
  | .hbm, ⟨29, _⟩ => ⟨S4x10x128x128, .f32⟩
  | .hbm, ⟨30, _⟩ => ⟨S_, .f32⟩
  | .hbm, ⟨31, _⟩ => ⟨S4x10x128x128, .f32⟩
  | .hbm, ⟨32, _⟩ => ⟨S4x10x128x128, .f32⟩
  | .hbm, ⟨33, _⟩ => ⟨S4x10x128x128, .f32⟩
  | .hbm, ⟨34, _⟩ => ⟨S_, .f32⟩
  | .hbm, ⟨35, _⟩ => ⟨S4x10x128x128, .f32⟩
  | .hbm, ⟨36, _⟩ => ⟨S4x10x128x128, .f32⟩
  | .hbm, ⟨37, _⟩ => ⟨S5120x128, .f32⟩
  | .hbm, ⟨38, _⟩ => ⟨S5120x128, .f32⟩
  | .hbm, ⟨39, _⟩ => ⟨S5120x128, .f32⟩
  | _, _ => ⟨S4x10x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamHeadB.lean ====
abbrev S4x10x128 : Shape := ⟨3, ![4, 10, 128]⟩
abbrev S40x128 : Shape := ⟨2, ![40, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x10x128, .f32⟩
  | .hbm, ⟨1, _⟩ => ⟨S4x10x128, .f32⟩
  | .hbm, ⟨2, _⟩ => ⟨S4x10x128, .f32⟩
  | .hbm, ⟨3, _⟩ => ⟨S4x10x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .hbm, ⟨8, _⟩ => ⟨S40x128, .f32⟩
  | .hbm, ⟨9, _⟩ => ⟨S40x128, .f32⟩
  | .hbm, ⟨10, _⟩ => ⟨S40x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | _, _ => ⟨S4x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadBIdeal.lean ====
abbrev S4x10x128 : Shape := ⟨3, ![4, 10, 128]⟩
abbrev S40x128 : Shape := ⟨2, ![40, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x10x128, .f32⟩
  | .hbm, ⟨1, _⟩ => ⟨S4x10x128, .f32⟩
  | .hbm, ⟨2, _⟩ => ⟨S4x10x128, .f32⟩
  | .hbm, ⟨3, _⟩ => ⟨S4x10x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .hbm, ⟨8, _⟩ => ⟨S40x128, .f32⟩
  | .hbm, ⟨9, _⟩ => ⟨S40x128, .f32⟩
  | .hbm, ⟨10, _⟩ => ⟨S40x128, .f32⟩
  | .local _ .vmem, ⟨0, _⟩ => ⟨S40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | _, _ => ⟨S4x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadBReferenceIdeal.lean ====
abbrev S4x10x128 : Shape := ⟨3, ![4, 10, 128]⟩
abbrev S_ : Shape := ⟨0, ![]⟩
abbrev S40x128 : Shape := ⟨2, ![40, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x10x128, .f32⟩
  | .hbm, ⟨1, _⟩ => ⟨S4x10x128, .f32⟩
  | .hbm, ⟨2, _⟩ => ⟨S4x10x128, .f32⟩
  | .hbm, ⟨3, _⟩ => ⟨S4x10x128, .f32⟩
  | .hbm, ⟨4, _⟩ => ⟨S_, .f32⟩
  | .hbm, ⟨5, _⟩ => ⟨S4x10x128, .f32⟩
  | .hbm, ⟨6, _⟩ => ⟨S4x10x128, .f32⟩
  | .hbm, ⟨7, _⟩ => ⟨S_, .f32⟩
  | .hbm, ⟨8, _⟩ => ⟨S4x10x128, .f32⟩
  | .hbm, ⟨9, _⟩ => ⟨S4x10x128, .f32⟩
  | .hbm, ⟨10, _⟩ => ⟨S4x10x128, .f32⟩
  | .hbm, ⟨11, _⟩ => ⟨S_, .f32⟩
  | .hbm, ⟨12, _⟩ => ⟨S4x10x128, .f32⟩
  | .hbm, ⟨13, _⟩ => ⟨S4x10x128, .f32⟩
  | .hbm, ⟨14, _⟩ => ⟨S4x10x128, .f32⟩
  | .hbm, ⟨15, _⟩ => ⟨S_, .f32⟩
  | .hbm, ⟨16, _⟩ => ⟨S4x10x128, .f32⟩
  | .hbm, ⟨17, _⟩ => ⟨S4x10x128, .f32⟩
  | .hbm, ⟨18, _⟩ => ⟨S4x10x128, .f32⟩
  | .hbm, ⟨19, _⟩ => ⟨S_, .f32⟩
  | .hbm, ⟨20, _⟩ => ⟨S4x10x128, .f32⟩
  | .hbm, ⟨21, _⟩ => ⟨S4x10x128, .f32⟩
  | .hbm, ⟨22, _⟩ => ⟨S_, .f32⟩
  | .hbm, ⟨23, _⟩ => ⟨S4x10x128, .f32⟩
  | .hbm, ⟨24, _⟩ => ⟨S4x10x128, .f32⟩
  | .hbm, ⟨25, _⟩ => ⟨S4x10x128, .f32⟩
  | .hbm, ⟨26, _⟩ => ⟨S_, .f32⟩
  | .hbm, ⟨27, _⟩ => ⟨S4x10x128, .f32⟩
  | .hbm, ⟨28, _⟩ => ⟨S4x10x128, .f32⟩
  | .hbm, ⟨29, _⟩ => ⟨S4x10x128, .f32⟩
  | .hbm, ⟨30, _⟩ => ⟨S_, .f32⟩
  | .hbm, ⟨31, _⟩ => ⟨S4x10x128, .f32⟩
  | .hbm, ⟨32, _⟩ => ⟨S4x10x128, .f32⟩
  | .hbm, ⟨33, _⟩ => ⟨S4x10x128, .f32⟩
  | .hbm, ⟨34, _⟩ => ⟨S_, .f32⟩
  | .hbm, ⟨35, _⟩ => ⟨S4x10x128, .f32⟩
  | .hbm, ⟨36, _⟩ => ⟨S4x10x128, .f32⟩
  | .hbm, ⟨37, _⟩ => ⟨S40x128, .f32⟩
  | .hbm, ⟨38, _⟩ => ⟨S40x128, .f32⟩
  | .hbm, ⟨39, _⟩ => ⟨S40x128, .f32⟩
  | _, _ => ⟨S4x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFinal.lean ====
abbrev S1024 : Shape := ⟨1, ![1024]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamFinalReferenceIdeal.lean ====
abbrev S1024 : Shape := ⟨1, ![1024]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumFfn.lean ====
abbrev S1x8x704x1024 : Shape := ⟨4, ![1, 8, 704, 1024]⟩
abbrev S1x8x352x1024 : Shape := ⟨4, ![1, 8, 352, 1024]⟩
abbrev S1x4x704x1024 : Shape := ⟨4, ![1, 4, 704, 1024]⟩
abbrev S1x4x352x1024 : Shape := ⟨4, ![1, 4, 352, 1024]⟩
abbrev S1x3x704x1024 : Shape := ⟨4, ![1, 3, 704, 1024]⟩
abbrev S1x3x352x1024 : Shape := ⟨4, ![1, 3, 352, 1024]⟩
abbrev S4x704x1024 : Shape := ⟨3, ![4, 704, 1024]⟩
abbrev S4x352x1024 : Shape := ⟨3, ![4, 352, 1024]⟩
abbrev S3 : Shape := ⟨1, ![3]⟩
abbrev S1x1x64x1024 : Shape := ⟨4, ![1, 1, 64, 1024]⟩
abbrev S1 : Shape := ⟨1, ![1]⟩
abbrev S1x64x1024 : Shape := ⟨3, ![1, 64, 1024]⟩
abbrev S1x1x32x1024 : Shape := ⟨4, ![1, 1, 32, 1024]⟩
abbrev S1x32x1024 : Shape := ⟨3, ![1, 32, 1024]⟩
abbrev S64x1024 : Shape := ⟨2, ![64, 1024]⟩
abbrev S32x1024 : Shape := ⟨2, ![32, 1024]⟩

abbrev nBuf : Space → Nat
  | .hbm => 28
  | .vmem => 48
  | .smem => 1
  | _ => 0

abbrev bufTy : (tb : Table) → Fin (tcTables nBuf tb) → BufTy
  | .hbm, ⟨0, _⟩ => ⟨S1x8x704x1024, .f32⟩
  | .hbm, ⟨1, _⟩ => ⟨S1x8x352x1024, .f32⟩
  | .hbm, ⟨2, _⟩ => ⟨S1x4x704x1024, .bf16⟩
  | .hbm, ⟨3, _⟩ => ⟨S1x4x352x1024, .bf16⟩
  | .hbm, ⟨4, _⟩ => ⟨S1x3x704x1024, .bf16⟩
  | .hbm, ⟨5, _⟩ => ⟨S1x3x352x1024, .bf16⟩
  | .hbm, ⟨6, _⟩ => ⟨S4x704x1024, .f32⟩
  | .hbm, ⟨7, _⟩ => ⟨S4x352x1024, .f32⟩
  | .hbm, ⟨8, _⟩ => ⟨S4x704x1024, .f32⟩
  | .hbm, ⟨9, _⟩ => ⟨S4x352x1024, .f32⟩
  | .hbm, ⟨10, _⟩ => ⟨S4x704x1024, .f32⟩
  | .hbm, ⟨11, _⟩ => ⟨S4x352x1024, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S4x704x1024, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S4x352x1024, .f32⟩
  | .hbm, ⟨20, _⟩ => ⟨S4x704x1024, .f32⟩
  | .hbm, ⟨21, _⟩ => ⟨S4x704x1024, .f32⟩
  | .hbm, ⟨22, _⟩ => ⟨S4x704x1024, .f32⟩
  | .hbm, ⟨23, _⟩ => ⟨S4x704x1024, .f32⟩
  | .hbm, ⟨24, _⟩ => ⟨S4x352x1024, .f32⟩
  | .hbm, ⟨25, _⟩ => ⟨S4x352x1024, .f32⟩
  | .hbm, ⟨26, _⟩ => ⟨S4x352x1024, .f32⟩
  | .hbm, ⟨27, _⟩ => ⟨S4x352x1024, .f32⟩
  | .local _ .vmem, ⟨0, _⟩ => ⟨S1x1x64x1024, .f32⟩
  | .local _ .vmem, ⟨1, _⟩ => ⟨S1x1x64x1024, .f32⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x64x1024, .bf16⟩
  | .local _ .vmem, ⟨5, _⟩ => ⟨S1x1x64x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x1x32x1024, .f32⟩
  | .local _ .vmem, ⟨17, _⟩ => ⟨S1x1x32x1024, .f32⟩
  | .local _ .vmem, ⟨18, _⟩ => ⟨S1x1x32x1024, .bf16⟩
  | .local _ .vmem, ⟨19, _⟩ => ⟨S1x1x32x1024, .bf16⟩
  | .local _ .vmem, ⟨20, _⟩ => ⟨S1x1x32x1024, .bf16⟩
  | .local _ .vmem, ⟨21, _⟩ => ⟨S1x1x32x1024, .bf16⟩
  | .local _ .vmem, ⟨22, _⟩ => ⟨S1x1x32x1024, .bf16⟩
  | .local _ .vmem, ⟨23, _⟩ => ⟨S1x1x32x1024, .bf16⟩
  | .local _ .vmem, ⟨24, _⟩ => ⟨S1x1x32x1024, .bf16⟩
  | .local _ .vmem, ⟨25, _⟩ => ⟨S1x1x32x1024, .bf16⟩
  | .local _ .vmem, ⟨26, _⟩ => ⟨S1x32x1024, .f32⟩
  | .local _ .vmem, ⟨27, _⟩ => ⟨S1x32x1024, .f32⟩
  | .local _ .vmem, ⟨28, _⟩ => ⟨S1x32x1024, .f32⟩
  | .local _ .vmem, ⟨29, _⟩ => ⟨S1x32x1024, .f32⟩
  | .local _ .vmem, ⟨30, _⟩ => ⟨S1x32x1024, .f32⟩
  | .local _ .vmem, ⟨31, _⟩ => ⟨S1x32x1024, .f32⟩
  | .local _ .vmem, ⟨32, _⟩ => ⟨S1x64x1024, .f32⟩
  | .local _ .vmem, ⟨33, _⟩ => ⟨S1x64x1024, .f32⟩
  | .local _ .vmem, ⟨34, _⟩ => ⟨S1x64x1024, .f32⟩
  | .local _ .vmem, ⟨35, _⟩ => ⟨S1x64x1024, .f32⟩
  | .local _ .vmem, ⟨36, _⟩ => ⟨S1x64x1024, .f32⟩
  | .local _ .vmem, ⟨37, _⟩ => ⟨S1x64x1024, .f32⟩
  | .local _ .vmem, ⟨38, _⟩ => ⟨S1x64x1024, .f32⟩
  | .local _ .vmem, ⟨39, _⟩ => ⟨S1x64x1024, .f32⟩
  | .local _ .vmem, ⟨40, _⟩ => ⟨S1x32x1024, .f32⟩
  | .local _ .vmem, ⟨41, _⟩ => ⟨S1x32x1024, .f32⟩
  | .local _ .vmem, ⟨42, _⟩ => ⟨S1x32x1024, .f32⟩
  | .local _ .vmem, ⟨43, _⟩ => ⟨S1x32x1024, .f32⟩
  | .local _ .vmem, ⟨44, _⟩ => ⟨S1x32x1024, .f32⟩
  | .local _ .vmem, ⟨45, _⟩ => ⟨S1x32x1024, .f32⟩
  | .local _ .vmem, ⟨46, _⟩ => ⟨S1x32x1024, .f32⟩
  | .local _ .vmem, ⟨47, _⟩ => ⟨S1x32x1024, .f32⟩
  | .local _ .smem, ⟨0, _⟩ => ⟨S3, .i32⟩
  | _, _ => ⟨S1x8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev main_v0_2 : Ref sig .tc := ⟨.hbm, 22, rfl⟩
abbrev main_v0_3 : Ref sig .tc := ⟨.hbm, 23, rfl⟩
abbrev main_v0_4 : Ref sig .tc := ⟨.hbm, 24, rfl⟩
abbrev main_v0_5 : Ref sig .tc := ⟨.hbm, 25, rfl⟩
abbrev main_v0_6 : Ref sig .tc := ⟨.hbm, 26, rfl⟩
abbrev main_v0_7 : Ref sig .tc := ⟨.hbm, 27, rfl⟩
abbrev main_arg20 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_arg20.idx], fun | 0 => main_arg20.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c11_i32 : BitVec 32 := 11#32
  let v0 : BitVec 1 := Scalar.cmpi .slt arg0 c11_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c11_i32_0 : BitVec 32 := 11#32
  let v3 : BitVec 1 := Scalar.cmpi .slt arg0 c11_i32_0
  let v4 : BitVec 32 := Scalar.extui v3
  let c0_i32_1 : BitVec 32 := 0#32
  let v5 : BitVec 1 := Scalar.cmpi .ne v4 c0_i32_1
  v5

def cc0_transform_0 (inb_S3_S1_2 : ∀ a, (![2] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c2 : Index := 2#32
  let v0 : BitVec 32 := pf.at 0 (Rect.unit (s := S3) ![2] S1.size inb_S3_S1_2) numel1_S1
  let c10_i32 : BitVec 32 := 10#32
  let v1 : BitVec 32 := Scalar.minsi arg0 c10_i32
  let c0_i32 : BitVec 32 := 0#32
  let c0_i32_0 : BitVec 32 := 0#32
  let c0_i32_1 : BitVec 32 := 0#32
  ![c0_i32.toNat, v0.toNat, v1.toNat, c0_i32_0.toNat]

def cc0_transform_1 (inb_S3_S1_1 : ∀ a, (![1] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c10_i32 : BitVec 32 := 10#32
  let v1 : BitVec 32 := Scalar.minsi arg0 c10_i32
  let c0_i32 : BitVec 32 := 0#32
  let c0_i32_0 : BitVec 32 := 0#32
  let c0_i32_1 : BitVec 32 := 0#32
  ![c0_i32.toNat, v0.toNat, v1.toNat, c0_i32_0.toNat]

def cc0_transform_2 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_3 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_4 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c2_i32 : BitVec 32 := 2#32
  let c0_i32_0 : BitVec 32 := 0#32
  let c0_i32_1 : BitVec 32 := 0#32
  ![c0_i32.toNat, c2_i32.toNat, v0.toNat, c0_i32_0.toNat]

def cc0_transform_5 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_8 (inb_S3_S1_2 : ∀ a, (![2] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c2 : Index := 2#32
  let v0 : BitVec 32 := pf.at 0 (Rect.unit (s := S3) ![2] S1.size inb_S3_S1_2) numel1_S1
  let c10_i32 : BitVec 32 := 10#32
  let v1 : BitVec 32 := Scalar.minsi arg0 c10_i32
  let c0_i32 : BitVec 32 := 0#32
  let c0_i32_0 : BitVec 32 := 0#32
  let c0_i32_1 : BitVec 32 := 0#32
  ![c0_i32.toNat, v0.toNat, v1.toNat, c0_i32_0.toNat]

def cc0_transform_9 (inb_S3_S1_1 : ∀ a, (![1] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c10_i32 : BitVec 32 := 10#32
  let v1 : BitVec 32 := Scalar.minsi arg0 c10_i32
  let c0_i32 : BitVec 32 := 0#32
  let c0_i32_0 : BitVec 32 := 0#32
  let c0_i32_1 : BitVec 32 := 0#32
  ![c0_i32.toNat, v0.toNat, v1.toNat, c0_i32_0.toNat]

def cc0_transform_10 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_11 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_12 (i : grid0.Coords) : Fin 4 → Nat :=
  let arg0 : BitVec 32 := BitVec.ofNat 32 (i 0).val
  let c10_i32 : BitVec 32 := 10#32
  let v0 : BitVec 32 := Scalar.minsi arg0 c10_i32
  let c0_i32 : BitVec 32 := 0#32
  let c2_i32 : BitVec 32 := 2#32
  let c0_i32_0 : BitVec 32 := 0#32
  let c0_i32_1 : BitVec 32 := 0#32
  ![c0_i32.toNat, c2_i32.toNat, v0.toNat, c0_i32_0.toNat]

def cc0_transform_13 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_24 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_25 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_26 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_27 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_28 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_29 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_30 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

def cc0_transform_31 (i : grid0.Coords) : Fin 3 → Nat :=
  let arg0 : BitVec 32 := BitVec.ofNat 32 (i 0).val
  let c10_i32 : BitVec 32 := 10#32
  let v0 : BitVec 32 := Scalar.minsi arg0 c10_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S1x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x32x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== SumFfnReferenceIdeal.lean ====
abbrev S1x8x704x1024 : Shape := ⟨4, ![1, 8, 704, 1024]⟩
abbrev S1x8x352x1024 : Shape := ⟨4, ![1, 8, 352, 1024]⟩
abbrev S1x4x704x1024 : Shape := ⟨4, ![1, 4, 704, 1024]⟩
abbrev S1x4x352x1024 : Shape := ⟨4, ![1, 4, 352, 1024]⟩
abbrev S1x3x704x1024 : Shape := ⟨4, ![1, 3, 704, 1024]⟩
abbrev S1x3x352x1024 : Shape := ⟨4, ![1, 3, 352, 1024]⟩
abbrev S4x704x1024 : Shape := ⟨3, ![4, 704, 1024]⟩
abbrev S4x352x1024 : Shape := ⟨3, ![4, 352, 1024]⟩
abbrev S3 : Shape := ⟨1, ![3]⟩
abbrev S1 : Shape := ⟨1, ![1]⟩
abbrev S_ : Shape := ⟨0, ![]⟩
abbrev S1x1x704x1024 : Shape := ⟨4, ![1, 1, 704, 1024]⟩
abbrev S704x1024 : Shape := ⟨2, ![704, 1024]⟩
abbrev S3x704x1024 : Shape := ⟨3, ![3, 704, 1024]⟩
abbrev S1x704x1024 : Shape := ⟨3, ![1, 704, 1024]⟩
abbrev S1x1x352x1024 : Shape := ⟨4, ![1, 1, 352, 1024]⟩
abbrev S352x1024 : Shape := ⟨2, ![352, 1024]⟩
abbrev S3x352x1024 : Shape := ⟨3, ![3, 352, 1024]⟩
abbrev S1x352x1024 : Shape := ⟨3, ![1, 352, 1024]⟩

abbrev nBuf : Space → Nat
  | .hbm => 269
  | .vmem => 0
  | .smem => 0
  | _ => 0

abbrev hbmTy0_0 (i : Nat) : BufTy := match i % 128 with
  | 0 => ⟨S1x8x704x1024, .f32⟩
  | 1 => ⟨S1x8x352x1024, .f32⟩
  | 2 => ⟨S1x4x704x1024, .bf16⟩
  | 3 => ⟨S1x4x352x1024, .bf16⟩
  | 4 => ⟨S1x3x704x1024, .bf16⟩
  | 5 => ⟨S1x3x352x1024, .bf16⟩
  | 6 => ⟨S4x704x1024, .f32⟩
  | 7 => ⟨S4x352x1024, .f32⟩
  | 8 => ⟨S4x704x1024, .f32⟩
  | 9 => ⟨S4x352x1024, .f32⟩
  | 10 => ⟨S4x704x1024, .f32⟩
  | 11 => ⟨S4x352x1024, .f32⟩
  | 12 => ⟨S4x704x1024, .f32⟩
  | 13 => ⟨S4x704x1024, .f32⟩
  | 14 => ⟨S4x704x1024, .f32⟩
  | 15 => ⟨S4x704x1024, .f32⟩
  | 16 => ⟨S4x352x1024, .f32⟩
  | 17 => ⟨S4x352x1024, .f32⟩
  | 18 => ⟨S4x352x1024, .f32⟩
  | 19 => ⟨S4x352x1024, .f32⟩
  | 20 => ⟨S3, .i32⟩
  | 21 => ⟨S1, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x1x704x1024, .f32⟩
  | 53 => ⟨S704x1024, .f32⟩
  | 54 => ⟨S1, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x1x704x1024, .bf16⟩
  | 86 => ⟨S704x1024, .bf16⟩
  | 87 => ⟨S704x1024, .f32⟩
  | 88 => ⟨S704x1024, .f32⟩
  | 89 => ⟨S3x704x1024, .bf16⟩
  | 90 => ⟨S3x704x1024, .f32⟩
  | 91 => ⟨S_, .f32⟩
  | 92 => ⟨S704x1024, .f32⟩
  | 93 => ⟨S704x1024, .f32⟩
  | 94 => ⟨S1x704x1024, .f32⟩
  | 95 => ⟨S704x1024, .f32⟩
  | 96 => ⟨S1x704x1024, .f32⟩
  | 97 => ⟨S704x1024, .f32⟩
  | 98 => ⟨S1x704x1024, .f32⟩
  | 99 => ⟨S704x1024, .f32⟩
  | 100 => ⟨S_, .f32⟩
  | 101 => ⟨S704x1024, .f32⟩
  | 102 => ⟨S704x1024, .f32⟩
  | 103 => ⟨S_, .f32⟩
  | 104 => ⟨S704x1024, .f32⟩
  | 105 => ⟨S704x1024, .f32⟩
  | 106 => ⟨S704x1024, .f32⟩
  | 107 => ⟨S_, .f32⟩
  | 108 => ⟨S704x1024, .f32⟩
  | 109 => ⟨S704x1024, .f32⟩
  | 110 => ⟨S704x1024, .f32⟩
  | 111 => ⟨S_, .f32⟩
  | 112 => ⟨S704x1024, .f32⟩
  | 113 => ⟨S704x1024, .f32⟩
  | 114 => ⟨S704x1024, .f32⟩
  | 115 => ⟨S_, .f32⟩
  | 116 => ⟨S704x1024, .f32⟩
  | 117 => ⟨S704x1024, .f32⟩
  | 118 => ⟨S_, .f32⟩
  | 119 => ⟨S704x1024, .f32⟩
  | 120 => ⟨S704x1024, .f32⟩
  | 121 => ⟨S704x1024, .f32⟩
  | 122 => ⟨S_, .f32⟩
  | 123 => ⟨S704x1024, .f32⟩
  | 124 => ⟨S704x1024, .f32⟩
  | 125 => ⟨S704x1024, .f32⟩
  | 126 => ⟨S_, .f32⟩
  | 127 => ⟨S704x1024, .f32⟩
  | _ => ⟨S1x8x704x1024, .f32⟩

abbrev hbmTy0_1 (i : Nat) : BufTy := match i % 128 with
  | 0 => ⟨S704x1024, .f32⟩
  | 1 => ⟨S704x1024, .f32⟩
  | 2 => ⟨S_, .f32⟩
  | 3 => ⟨S704x1024, .f32⟩
  | 4 => ⟨S704x1024, .f32⟩
  | 5 => ⟨S1x704x1024, .f32⟩
  | 6 => ⟨S3x704x1024, .f32⟩
  | 7 => ⟨S4x704x1024, .f32⟩
  | 8 => ⟨S1x704x1024, .f32⟩
  | 9 => ⟨S3x704x1024, .f32⟩
  | 10 => ⟨S4x704x1024, .f32⟩
  | 11 => ⟨S1x704x1024, .f32⟩
  | 12 => ⟨S3x704x1024, .f32⟩
  | 13 => ⟨S4x704x1024, .f32⟩
  | 14 => ⟨S1x704x1024, .f32⟩
  | 15 => ⟨S3x704x1024, .f32⟩
  | 16 => ⟨S4x704x1024, .f32⟩
  | 17 => ⟨S1, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S1x1x352x1024, .f32⟩
  | 49 => ⟨S352x1024, .f32⟩
  | 50 => ⟨S1, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S1x1x352x1024, .bf16⟩
  | 82 => ⟨S352x1024, .bf16⟩
  | 83 => ⟨S352x1024, .f32⟩
  | 84 => ⟨S352x1024, .f32⟩
  | 85 => ⟨S3x352x1024, .bf16⟩
  | 86 => ⟨S3x352x1024, .f32⟩
  | 87 => ⟨S_, .f32⟩
  | 88 => ⟨S352x1024, .f32⟩
  | 89 => ⟨S352x1024, .f32⟩
  | 90 => ⟨S1x352x1024, .f32⟩
  | 91 => ⟨S352x1024, .f32⟩
  | 92 => ⟨S1x352x1024, .f32⟩
  | 93 => ⟨S352x1024, .f32⟩
  | 94 => ⟨S1x352x1024, .f32⟩
  | 95 => ⟨S352x1024, .f32⟩
  | 96 => ⟨S_, .f32⟩
  | 97 => ⟨S352x1024, .f32⟩
  | 98 => ⟨S352x1024, .f32⟩
  | 99 => ⟨S_, .f32⟩
  | 100 => ⟨S352x1024, .f32⟩
  | 101 => ⟨S352x1024, .f32⟩
  | 102 => ⟨S352x1024, .f32⟩
  | 103 => ⟨S_, .f32⟩
  | 104 => ⟨S352x1024, .f32⟩
  | 105 => ⟨S352x1024, .f32⟩
  | 106 => ⟨S352x1024, .f32⟩
  | 107 => ⟨S_, .f32⟩
  | 108 => ⟨S352x1024, .f32⟩
  | 109 => ⟨S352x1024, .f32⟩
  | 110 => ⟨S352x1024, .f32⟩
  | 111 => ⟨S_, .f32⟩
  | 112 => ⟨S352x1024, .f32⟩
  | 113 => ⟨S352x1024, .f32⟩
  | 114 => ⟨S_, .f32⟩
  | 115 => ⟨S352x1024, .f32⟩
  | 116 => ⟨S352x1024, .f32⟩
  | 117 => ⟨S352x1024, .f32⟩
  | 118 => ⟨S_, .f32⟩
  | 119 => ⟨S352x1024, .f32⟩
  | 120 => ⟨S352x1024, .f32⟩
  | 121 => ⟨S352x1024, .f32⟩
  | 122 => ⟨S_, .f32⟩
  | 123 => ⟨S352x1024, .f32⟩
  | 124 => ⟨S352x1024, .f32⟩
  | 125 => ⟨S352x1024, .f32⟩
  | 126 => ⟨S_, .f32⟩
  | 127 => ⟨S352x1024, .f32⟩
  | _ => ⟨S1x8x704x1024, .f32⟩

abbrev hbmTy0_2 (i : Nat) : BufTy := match i % 128 with
  | 0 => ⟨S352x1024, .f32⟩
  | 1 => ⟨S1x352x1024, .f32⟩
  | 2 => ⟨S3x352x1024, .f32⟩
  | 3 => ⟨S4x352x1024, .f32⟩
  | 4 => ⟨S1x352x1024, .f32⟩
  | 5 => ⟨S3x352x1024, .f32⟩
  | 6 => ⟨S4x352x1024, .f32⟩
  | 7 => ⟨S1x352x1024, .f32⟩
  | 8 => ⟨S3x352x1024, .f32⟩
  | 9 => ⟨S4x352x1024, .f32⟩
  | 10 => ⟨S1x352x1024, .f32⟩
  | 11 => ⟨S3x352x1024, .f32⟩
  | 12 => ⟨S4x352x1024, .f32⟩
  | _ => ⟨S1x8x704x1024, .f32⟩

abbrev hbmTy (i : Nat) : BufTy := match i / 128 with
  | 0 => hbmTy0_0 i
  | 1 => hbmTy0_1 i
  | 2 => hbmTy0_2 i
  | _ => ⟨S1x8x704x1024, .f32⟩

abbrev bufTy : (tb : Table) → Fin (tcTables nBuf tb) → BufTy
  | .hbm, ⟨i, _⟩ => hbmTy i
  | _, _ => ⟨S1x8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_c_0 : Ref sig .tc := ⟨.hbm, 24, rfl⟩
abbrev main_v2 : Ref sig .tc := ⟨.hbm, 25, rfl⟩
abbrev main_c_1 : Ref sig .tc := ⟨.hbm, 26, rfl⟩
abbrev main_c_2 : Ref sig .tc := ⟨.hbm, 27, rfl⟩
abbrev main_v3 : Ref sig .tc := ⟨.hbm, 28, rfl⟩
abbrev main_c_3 : Ref sig .tc := ⟨.hbm, 29, rfl⟩
abbrev main_v4 : Ref sig .tc := ⟨.hbm, 30, rfl⟩
abbrev main_c_4 : Ref sig .tc := ⟨.hbm, 31, rfl⟩
abbrev main_v5 : Ref sig .tc := ⟨.hbm, 32, rfl⟩
abbrev main_c_5 : Ref sig .tc := ⟨.hbm, 33, rfl⟩
abbrev main_v6 : Ref sig .tc := ⟨.hbm, 34, rfl⟩
abbrev main_v7 : Ref sig .tc := ⟨.hbm, 35, rfl⟩
abbrev main_c_6 : Ref sig .tc := ⟨.hbm, 36, rfl⟩
abbrev main_c_7 : Ref sig .tc := ⟨.hbm, 37, rfl⟩
abbrev main_v8 : Ref sig .tc := ⟨.hbm, 38, rfl⟩
abbrev main_c_8 : Ref sig .tc := ⟨.hbm, 39, rfl⟩
abbrev main_c_9 : Ref sig .tc := ⟨.hbm, 40, rfl⟩
abbrev main_v9 : Ref sig .tc := ⟨.hbm, 41, rfl⟩
abbrev main_c_10 : Ref sig .tc := ⟨.hbm, 42, rfl⟩
abbrev main_v10 : Ref sig .tc := ⟨.hbm, 43, rfl⟩
abbrev main_c_11 : Ref sig .tc := ⟨.hbm, 44, rfl⟩
abbrev main_c_12 : Ref sig .tc := ⟨.hbm, 45, rfl⟩
abbrev main_v11 : Ref sig .tc := ⟨.hbm, 46, rfl⟩
abbrev main_c_13 : Ref sig .tc := ⟨.hbm, 47, rfl⟩
abbrev main_c_14 : Ref sig .tc := ⟨.hbm, 48, rfl⟩
abbrev main_v12 : Ref sig .tc := ⟨.hbm, 49, rfl⟩
abbrev main_c_15 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_16 : Ref sig .tc := ⟨.hbm, 56, rfl⟩
abbrev main_c_17 : Ref sig .tc := ⟨.hbm, 57, rfl⟩
abbrev main_v18 : Ref sig .tc := ⟨.hbm, 58, rfl⟩
abbrev main_c_18 : Ref sig .tc := ⟨.hbm, 59, rfl⟩
abbrev main_c_19 : Ref sig .tc := ⟨.hbm, 60, rfl⟩
abbrev main_v19 : Ref sig .tc := ⟨.hbm, 61, rfl⟩
abbrev main_c_20 : Ref sig .tc := ⟨.hbm, 62, rfl⟩
abbrev main_v20 : Ref sig .tc := ⟨.hbm, 63, rfl⟩
abbrev main_c_21 : Ref sig .tc := ⟨.hbm, 64, rfl⟩
abbrev main_v21 : Ref sig .tc := ⟨.hbm, 65, rfl⟩
abbrev main_c_22 : Ref sig .tc := ⟨.hbm, 66, rfl⟩
abbrev main_v22 : Ref sig .tc := ⟨.hbm, 67, rfl⟩
abbrev main_v23 : Ref sig .tc := ⟨.hbm, 68, rfl⟩
abbrev main_c_23 : Ref sig .tc := ⟨.hbm, 69, rfl⟩
abbrev main_c_24 : Ref sig .tc := ⟨.hbm, 70, rfl⟩
abbrev main_v24 : Ref sig .tc := ⟨.hbm, 71, rfl⟩
abbrev main_c_25 : Ref sig .tc := ⟨.hbm, 72, rfl⟩
abbrev main_c_26 : Ref sig .tc := ⟨.hbm, 73, rfl⟩
abbrev main_v25 : Ref sig .tc := ⟨.hbm, 74, rfl⟩
abbrev main_c_27 : Ref sig .tc := ⟨.hbm, 75, rfl⟩
abbrev main_v26 : Ref sig .tc := ⟨.hbm, 76, rfl⟩
abbrev main_c_28 : Ref sig .tc := ⟨.hbm, 77, rfl⟩
abbrev main_c_29 : Ref sig .tc := ⟨.hbm, 78, rfl⟩
abbrev main_v27 : Ref sig .tc := ⟨.hbm, 79, rfl⟩
abbrev main_c_30 : Ref sig .tc := ⟨.hbm, 80, rfl⟩
abbrev main_c_31 : Ref sig .tc := ⟨.hbm, 81, rfl⟩
abbrev main_v28 : Ref sig .tc := ⟨.hbm, 82, rfl⟩
abbrev main_c_32 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_cst_33 : Ref sig .tc := ⟨.hbm, 100, rfl⟩
abbrev main_v44 : Ref sig .tc := ⟨.hbm, 101, rfl⟩
abbrev main_v45 : Ref sig .tc := ⟨.hbm, 102, rfl⟩
abbrev main_cst_34 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_cst_35 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_36 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_cst_37 : Ref sig .tc := ⟨.hbm, 115, rfl⟩
abbrev main_v55 : Ref sig .tc := ⟨.hbm, 116, rfl⟩
abbrev main_v56 : Ref sig .tc := ⟨.hbm, 117, rfl⟩
abbrev main_cst_38 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_cst_39 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_40 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_cst_41 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_42 : Ref sig .tc := ⟨.hbm, 147, rfl⟩
abbrev main_c_43 : Ref sig .tc := ⟨.hbm, 148, rfl⟩
abbrev main_v82 : Ref sig .tc := ⟨.hbm, 149, rfl⟩
abbrev main_c_44 : Ref sig .tc := ⟨.hbm, 150, rfl⟩
abbrev main_c_45 : Ref sig .tc := ⟨.hbm, 151, rfl⟩
abbrev main_v83 : Ref sig .tc := ⟨.hbm, 152, rfl⟩
abbrev main_c_46 : Ref sig .tc := ⟨.hbm, 153, rfl⟩
abbrev main_v84 : Ref sig .tc := ⟨.hbm, 154, rfl⟩
abbrev main_c_47 : Ref sig .tc := ⟨.hbm, 155, rfl⟩
abbrev main_v85 : Ref sig .tc := ⟨.hbm, 156, rfl⟩
abbrev main_c_48 : Ref sig .tc := ⟨.hbm, 157, rfl⟩
abbrev main_v86 : Ref sig .tc := ⟨.hbm, 158, rfl⟩
abbrev main_v87 : Ref sig .tc := ⟨.hbm, 159, rfl⟩
abbrev main_c_49 : Ref sig .tc := ⟨.hbm, 160, rfl⟩
abbrev main_c_50 : Ref sig .tc := ⟨.hbm, 161, rfl⟩
abbrev main_v88 : Ref sig .tc := ⟨.hbm, 162, rfl⟩
abbrev main_c_51 : Ref sig .tc := ⟨.hbm, 163, rfl⟩
abbrev main_c_52 : Ref sig .tc := ⟨.hbm, 164, rfl⟩
abbrev main_v89 : Ref sig .tc := ⟨.hbm, 165, rfl⟩
abbrev main_c_53 : Ref sig .tc := ⟨.hbm, 166, rfl⟩
abbrev main_v90 : Ref sig .tc := ⟨.hbm, 167, rfl⟩
abbrev main_c_54 : Ref sig .tc := ⟨.hbm, 168, rfl⟩
abbrev main_c_55 : Ref sig .tc := ⟨.hbm, 169, rfl⟩
abbrev main_v91 : Ref sig .tc := ⟨.hbm, 170, rfl⟩
abbrev main_c_56 : Ref sig .tc := ⟨.hbm, 171, rfl⟩
abbrev main_c_57 : Ref sig .tc := ⟨.hbm, 172, rfl⟩
abbrev main_v92 : Ref sig .tc := ⟨.hbm, 173, rfl⟩
abbrev main_c_58 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_c_59 : Ref sig .tc := ⟨.hbm, 180, rfl⟩
abbrev main_c_60 : Ref sig .tc := ⟨.hbm, 181, rfl⟩
abbrev main_v98 : Ref sig .tc := ⟨.hbm, 182, rfl⟩
abbrev main_c_61 : Ref sig .tc := ⟨.hbm, 183, rfl⟩
abbrev main_c_62 : Ref sig .tc := ⟨.hbm, 184, rfl⟩
abbrev main_v99 : Ref sig .tc := ⟨.hbm, 185, rfl⟩
abbrev main_c_63 : Ref sig .tc := ⟨.hbm, 186, rfl⟩
abbrev main_v100 : Ref sig .tc := ⟨.hbm, 187, rfl⟩
abbrev main_c_64 : Ref sig .tc := ⟨.hbm, 188, rfl⟩
abbrev main_v101 : Ref sig .tc := ⟨.hbm, 189, rfl⟩
abbrev main_c_65 : Ref sig .tc := ⟨.hbm, 190, rfl⟩
abbrev main_v102 : Ref sig .tc := ⟨.hbm, 191, rfl⟩
abbrev main_v103 : Ref sig .tc := ⟨.hbm, 192, rfl⟩
abbrev main_c_66 : Ref sig .tc := ⟨.hbm, 193, rfl⟩
abbrev main_c_67 : Ref sig .tc := ⟨.hbm, 194, rfl⟩
abbrev main_v104 : Ref sig .tc := ⟨.hbm, 195, rfl⟩
abbrev main_c_68 : Ref sig .tc := ⟨.hbm, 196, rfl⟩
abbrev main_c_69 : Ref sig .tc := ⟨.hbm, 197, rfl⟩
abbrev main_v105 : Ref sig .tc := ⟨.hbm, 198, rfl⟩
abbrev main_c_70 : Ref sig .tc := ⟨.hbm, 199, rfl⟩
abbrev main_v106 : Ref sig .tc := ⟨.hbm, 200, rfl⟩
abbrev main_c_71 : Ref sig .tc := ⟨.hbm, 201, rfl⟩
abbrev main_c_72 : Ref sig .tc := ⟨.hbm, 202, rfl⟩
abbrev main_v107 : Ref sig .tc := ⟨.hbm, 203, rfl⟩
abbrev main_c_73 : Ref sig .tc := ⟨.hbm, 204, rfl⟩
abbrev main_c_74 : Ref sig .tc := ⟨.hbm, 205, rfl⟩
abbrev main_v108 : Ref sig .tc := ⟨.hbm, 206, rfl⟩
abbrev main_c_75 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_cst_76 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_cst_77 : Ref sig .tc := ⟨.hbm, 224, rfl⟩
abbrev main_v124 : Ref sig .tc := ⟨.hbm, 225, rfl⟩
abbrev main_v125 : Ref sig .tc := ⟨.hbm, 226, rfl⟩
abbrev main_cst_78 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_cst_79 : Ref sig .tc := ⟨.hbm, 231, rfl⟩
abbrev main_v129 : Ref sig .tc := ⟨.hbm, 232, rfl⟩
abbrev main_v130 : Ref sig .tc := ⟨.hbm, 233, rfl⟩
abbrev main_v131 : Ref sig .tc := ⟨.hbm, 234, rfl⟩
abbrev main_cst_80 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_cst_81 : Ref sig .tc := ⟨.hbm, 239, rfl⟩
abbrev main_v135 : Ref sig .tc := ⟨.hbm, 240, rfl⟩
abbrev main_v136 : Ref sig .tc := ⟨.hbm, 241, rfl⟩
abbrev main_cst_82 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_cst_83 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_cst_84 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_cst_85 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩

abbrev nD : Nat := 1
abbrev τ : Topo := Topo.v7x

variable {F : FTy → Type} [FloatOps F]
-- ==== FfnDx.lean ====
abbrev S2048x5632 : Shape := ⟨2, ![2048, 5632]⟩
abbrev S1024x5632 : Shape := ⟨2, ![1024, 5632]⟩
abbrev S2048x1024 : Shape := ⟨2, ![2048, 1024]⟩
abbrev S4x1024 : Shape := ⟨2, ![4, 1024]⟩
abbrev S2048x8x704 : Shape := ⟨3, ![2048, 8, 704]⟩
abbrev S8x2048x704 : Shape := ⟨3, ![8, 2048, 704]⟩
abbrev S5632x1024 : Shape := ⟨2, ![5632, 1024]⟩
abbrev S1x8x704x1024 : Shape := ⟨4, ![1, 8, 704, 1024]⟩
abbrev S4x1x1024 : Shape := ⟨3, ![4, 1, 1024]⟩
abbrev S1x1024 : Shape := ⟨2, ![1, 1024]⟩
abbrev S1x1024x704 : Shape := ⟨3, ![1, 1024, 704]⟩
abbrev S1x1x704x1024 : Shape := ⟨4, ![1, 1, 704, 1024]⟩
abbrev S1024x1024 : Shape := ⟨2, ![1024, 1024]⟩
abbrev S1x1x1024 : Shape := ⟨3, ![1, 1, 1024]⟩
abbrev S1024x704 : Shape := ⟨2, ![1024, 704]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S4x1024, .f32⟩
  | .hbm, ⟨4, _⟩ => ⟨S2048x1024, .f32⟩
  | .hbm, ⟨5, _⟩ => ⟨S2048x8x704, .bf16⟩
  | .hbm, ⟨6, _⟩ => ⟨S8x2048x704, .bf16⟩
  | .hbm, ⟨7, _⟩ => ⟨S5632x1024, .bf16⟩
  | .hbm, ⟨8, _⟩ => ⟨S1x8x704x1024, .bf16⟩
  | .hbm, ⟨9, _⟩ => ⟨S4x1x1024, .f32⟩
  | .hbm, ⟨10, _⟩ => ⟨S2048x1024, .f32⟩
  | .hbm, ⟨11, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S2048x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v26 : Index := Scalar.indexCast v1
  let c0_14 : Index := 0#32
  ![v26.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v12 : Index := Scalar.indexCast v1
  let c0_6 : Index := 0#32
  ![v12.toNat, 0]
def k0_cond3 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_12 : BitVec 32 := 0#32
  let v24 : BitVec 1 := Scalar.cmpi .ne v23 c0_i32_12
  v24

def k0_mult2 (i : grid0.Coords) : BitVec 32 :=
  let arg1 : BitVec 32 := BitVec.ofNat 32 (i 1).val
  let c1024_i32_14 : BitVec 32 := 1024#32
  let v26 : BitVec 32 := Scalar.muli arg1 c1024_i32_14
  let c0_i32_15 : BitVec 32 := 0#32
  let v27 : BitVec 32 := Scalar.addi v26 c0_i32_15
  v27
def k0_off3 (i : grid0.Coords) (c0_i32_15 : BitVec 32) : Fin 2 → Nat :=
  let arg1 : BitVec 32 := BitVec.ofNat 32 (i 1).val
  let c1024_i32_14 : BitVec 32 := 1024#32
  let v26 : BitVec 32 := Scalar.muli arg1 c1024_i32_14
  let v27 : BitVec 32 := Scalar.addi v26 c0_i32_15
  let v28 : BitVec 32 := v27
  let v29 : Index := Scalar.indexCast v28
  let c0_16 : Index := 0#32
  ![v29.toNat, 0]
def k0_mult3 (i : grid0.Coords) : BitVec 32 :=
  let arg1 : BitVec 32 := BitVec.ofNat 32 (i 1).val
  let c1024_i32_32 : BitVec 32 := 1024#32
  let v63 : BitVec 32 := Scalar.muli arg1 c1024_i32_32
  let c256_i32 : BitVec 32 := 256#32
  let v64 : BitVec 32 := Scalar.addi v63 c256_i32
  v64
def k0_mult4 (i : grid0.Coords) : BitVec 32 :=
  let arg1 : BitVec 32 := BitVec.ofNat 32 (i 1).val
  let c1024_i32_48 : BitVec 32 := 1024#32
  let v100 : BitVec 32 := Scalar.muli arg1 c1024_i32_48
  let c512_i32 : BitVec 32 := 512#32
  let v101 : BitVec 32 := Scalar.addi v100 c512_i32
  v101
def k0_mult5 (i : grid0.Coords) : BitVec 32 :=
  let arg1 : BitVec 32 := BitVec.ofNat 32 (i 1).val
  let c1024_i32_64 : BitVec 32 := 1024#32
  let v137 : BitVec 32 := Scalar.muli arg1 c1024_i32_64
  let c768_i32 : BitVec 32 := 768#32
  let v138 : BitVec 32 := Scalar.addi v137 c768_i32
  v138
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let arg0 : BitVec 32 := BitVec.ofNat 32 (i 0).val
  let c0_i32_0 : BitVec 32 := 0#32
  let v3 : BitVec 1 := Scalar.cmpi .eq arg0 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 1 := Scalar.cmpi .eq arg0 c7_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FfnDxReferenceIdeal.lean ====
abbrev S2048x5632 : Shape := ⟨2, ![2048, 5632]⟩
abbrev S1024x5632 : Shape := ⟨2, ![1024, 5632]⟩
abbrev S2048x1024 : Shape := ⟨2, ![2048, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 58
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .hbm, ⟨3, _⟩ => ⟨S4x1024, .f32⟩
  | .hbm, ⟨4, _⟩ => ⟨S2048x1024, .f32⟩
  | .hbm, ⟨5, _⟩ => ⟨S1x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S1024x5632, .f32⟩
  | .hbm, ⟨28, _⟩ => ⟨S2048x5632, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S1x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== SumSmall.lean ====
abbrev S1x8x1600x128 : Shape := ⟨4, ![1, 8, 1600, 128]⟩
abbrev S1x4x1600x128 : Shape := ⟨4, ![1, 4, 1600, 128]⟩
abbrev S1x3x1600x128 : Shape := ⟨4, ![1, 3, 1600, 128]⟩
abbrev S3 : Shape := ⟨1, ![3]⟩
abbrev S1600x128 : Shape := ⟨2, ![1600, 128]⟩
abbrev S1x1x1600x128 : Shape := ⟨4, ![1, 1, 1600, 128]⟩
abbrev S1 : Shape := ⟨1, ![1]⟩

abbrev nBuf : Space → Nat
  | .hbm => 4
  | .vmem => 6
  | .smem => 1
  | _ => 0

abbrev bufTy : (tb : Table) → Fin (tcTables nBuf tb) → BufTy
  | .hbm, ⟨0, _⟩ => ⟨S1x8x1600x128, .f32⟩
  | .hbm, ⟨1, _⟩ => ⟨S1x4x1600x128, .f32⟩
  | .hbm, ⟨2, _⟩ => ⟨S1x3x1600x128, .f32⟩
  | .hbm, ⟨3, _⟩ => ⟨S1600x128, .f32⟩
  | .local _ .vmem, ⟨0, _⟩ => ⟨S1x1x1600x128, .f32⟩
  | .local _ .vmem, ⟨1, _⟩ => ⟨S1x1x1600x128, .f32⟩
  | .local _ .vmem, ⟨2, _⟩ => ⟨S1x1x1600x128, .f32⟩
  | .local _ .vmem, ⟨3, _⟩ => ⟨S1x1x1600x128, .f32⟩
  | .local _ .vmem, ⟨4, _⟩ => ⟨S1x1x1600x128, .f32⟩
  | .local _ .vmem, ⟨5, _⟩ => ⟨S1600x128, .f32⟩
  | .local _ .smem, ⟨0, _⟩ => ⟨S3, .i32⟩
  | _, _ => ⟨S1x8x1600x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S3_S1_2 : ∀ a, (![2] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c2 : Index := 2#32
  let v0 : BitVec 32 := pf.at 0 (Rect.unit (s := S3) ![2] S1.size inb_S3_S1_2) numel1_S1
  let c0_i32 : BitVec 32 := 0#32
  let c0_i32_0 : BitVec 32 := 0#32
  let c0_i32_1 : BitVec 32 := 0#32
  ![c0_i32.toNat, v0.toNat, arg0.toNat, c0_i32_0.toNat]

def cc0_transform_1 (inb_S3_S1_1 : ∀ a, (![1] : Fin 1 → Nat) a + S1.size a ≤ S3.size a) (numel1_S1 : S1.numel = 1) (pf : pre0.Contents (Elt F)) (i : grid0.Coords) : Fin 4 → Nat :=
  let arg0 : BitVec 32 := BitVec.ofNat 32 (i 0).val
  let c1 : Index := 1#32
  let v0 : BitVec 32 := pf.at 0 (Rect.unit (s := S3) ![1] S1.size inb_S3_S1_1) numel1_S1
  let c0_i32 : BitVec 32 := 0#32
  let c0_i32_0 : BitVec 32 := 0#32
  let c0_i32_1 : BitVec 32 := 0#32
  ![c0_i32.toNat, v0.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_4 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x1600x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1600x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x1600x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x1600x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x1600x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1600x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SumSmallReferenceIdeal.lean ====
abbrev S1x8x1600x128 : Shape := ⟨4, ![1, 8, 1600, 128]⟩
abbrev S1x4x1600x128 : Shape := ⟨4, ![1, 4, 1600, 128]⟩
abbrev S1x3x1600x128 : Shape := ⟨4, ![1, 3, 1600, 128]⟩
abbrev S3 : Shape := ⟨1, ![3]⟩
abbrev S8x1600x128 : Shape := ⟨3, ![8, 1600, 128]⟩
abbrev S1 : Shape := ⟨1, ![1]⟩
abbrev S_ : Shape := ⟨0, ![]⟩
abbrev S8 : Shape := ⟨1, ![8]⟩
abbrev S8x1x1 : Shape := ⟨3, ![8, 1, 1]⟩
abbrev S1600x128 : Shape := ⟨2, ![1600, 128]⟩
abbrev S4x1600x128 : Shape := ⟨3, ![4, 1600, 128]⟩
abbrev S4 : Shape := ⟨1, ![4]⟩
abbrev S4x1x1 : Shape := ⟨3, ![4, 1, 1]⟩
abbrev S3x1600x128 : Shape := ⟨3, ![3, 1600, 128]⟩

abbrev nBuf : Space → Nat
  | .hbm => 37
  | .vmem => 0
  | .smem => 0
  | _ => 0

abbrev bufTy : (tb : Table) → Fin (tcTables nBuf tb) → BufTy
  | .hbm, ⟨0, _⟩ => ⟨S1x8x1600x128, .f32⟩
  | .hbm, ⟨1, _⟩ => ⟨S1x4x1600x128, .f32⟩
  | .hbm, ⟨2, _⟩ => ⟨S1x3x1600x128, .f32⟩
  | .hbm, ⟨3, _⟩ => ⟨S3, .i32⟩
  | .hbm, ⟨4, _⟩ => ⟨S8x1600x128, .f32⟩
  | .hbm, ⟨5, _⟩ => ⟨S1, .i32⟩
  | .hbm, ⟨6, _⟩ => ⟨S_, .i32⟩
  | .hbm, ⟨7, _⟩ => ⟨S8, .i32⟩
  | .hbm, ⟨8, _⟩ => ⟨S8x1x1, .i32⟩
  | .hbm, ⟨9, _⟩ => ⟨S8x1x1, .i32⟩
  | .hbm, ⟨10, _⟩ => ⟨S8x1x1, .i1⟩
  | .hbm, ⟨11, _⟩ => ⟨S_, .f32⟩
  | .hbm, ⟨12, _⟩ => ⟨S_, .f32⟩
  | .hbm, ⟨13, _⟩ => ⟨S8x1600x128, .i1⟩
  | .hbm, ⟨14, _⟩ => ⟨S8x1600x128, .f32⟩
  | .hbm, ⟨15, _⟩ => ⟨S8x1600x128, .f32⟩
  | .hbm, ⟨16, _⟩ => ⟨S_, .f32⟩
  | .hbm, ⟨17, _⟩ => ⟨S1600x128, .f32⟩
  | .hbm, ⟨18, _⟩ => ⟨S4x1600x128, .f32⟩
  | .hbm, ⟨19, _⟩ => ⟨S1, .i32⟩
  | .hbm, ⟨20, _⟩ => ⟨S_, .i32⟩
  | .hbm, ⟨21, _⟩ => ⟨S4, .i32⟩
  | .hbm, ⟨22, _⟩ => ⟨S4x1x1, .i32⟩
  | .hbm, ⟨23, _⟩ => ⟨S4x1x1, .i32⟩
  | .hbm, ⟨24, _⟩ => ⟨S4x1x1, .i1⟩
  | .hbm, ⟨25, _⟩ => ⟨S_, .f32⟩
  | .hbm, ⟨26, _⟩ => ⟨S_, .f32⟩
  | .hbm, ⟨27, _⟩ => ⟨S4x1600x128, .i1⟩
  | .hbm, ⟨28, _⟩ => ⟨S4x1600x128, .f32⟩
  | .hbm, ⟨29, _⟩ => ⟨S4x1600x128, .f32⟩
  | .hbm, ⟨30, _⟩ => ⟨S_, .f32⟩
  | .hbm, ⟨31, _⟩ => ⟨S1600x128, .f32⟩
  | .hbm, ⟨32, _⟩ => ⟨S1600x128, .f32⟩
  | .hbm, ⟨33, _⟩ => ⟨S3x1600x128, .f32⟩
  | .hbm, ⟨34, _⟩ => ⟨S_, .f32⟩
  | .hbm, ⟨35, _⟩ => ⟨S1600x128, .f32⟩
  | .hbm, ⟨36, _⟩ => ⟨S1600x128, .f32⟩
  | _, _ => ⟨S1x8x1600x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Proof.Common.lean ====
/- Facts about exact real arithmetic that every part of this directory uses: the three ways two matrices are multiplied,
   read at one entry, and the logistic function written with a hyperbolic tangent. -/
module

public import Idealize.ShloMosaic.PureOps.Ideal.Laws
public import Idealize.ShloMosaic.Lib.ValueIdx
public import Idealize.ShloMosaic.Lib.MatmulPlain
public import Idealize.ShloMosaic.Lib.Pipeline.Value
public import Idealize.ShloMosaic.Lib.KernelVsHost
public import Idealize.ShloMosaic.Lib.WholeRead

@[expose] public section

noncomputable section

namespace Cert.Common

open Idealize.ShloMosaic Idealize.ShloMosaic.ValueIdx
open scoped BigOperators

/-! ## Arrays of extended reals -/

/-- A matrix of `M` rows and `N` columns. -/
abbrev Mat (M N : ℕ) := (⟨2, ![M, N]⟩ : Shape).Idx → EReal

/-- A stack of `G` matrices of `M` rows and `N` columns. -/
abbrev Stk (G M N : ℕ) := (⟨3, ![G, M, N]⟩ : Shape).Idx → EReal

/-- Two memories hold the same in an array of a device. -/
abbrev same {nD : ℕ} {τ : Topo} {sig : RefSig} {Val : EltTy → Type} (m' m : (ℓ : Loc nD τ sig) → Buf Val ℓ) (c : Dev nD) (b : Ref sig .tc) : Prop :=
  m' (c.tc.loc b) = m (c.tc.loc b)

/-- The two zero offsets of a load or store of a whole matrix. -/
theorem zz : (![0, 0] : Fin 2 → Nat) = fun _ => 0 := funext fun a => by fin_cases a <;> rfl

/-- The three zero offsets of a load or store of a whole stack of matrices. -/
theorem zzz : (![0, 0, 0] : Fin 3 → Nat) = fun _ => 0 := funext fun a => by fin_cases a <;> rfl

/-- A load of the whole of a matrix's block. -/
theorem ld2 {Val : EltTy → Type} {η : EltTy} {M N : ℕ} (x : (⟨2, ![M, N]⟩ : Shape).Idx → Val η)
    (h : ∀ a, (![0, 0] : Fin 2 → Nat) a + (⟨2, ![M, N]⟩ : Shape).size a ≤ (⟨2, ![M, N]⟩ : Shape).size a) :
    View.ld x (Rect.unit (s := ⟨2, ![M, N]⟩) ![0, 0] (⟨2, ![M, N]⟩ : Shape).size h) = x :=
  View.ld_unit_zero zz h x

/-- A load of the whole of a stack's block. -/
theorem ld3 {Val : EltTy → Type} {η : EltTy} {G M N : ℕ} (x : (⟨3, ![G, M, N]⟩ : Shape).Idx → Val η)
    (h : ∀ a, (![0, 0, 0] : Fin 3 → Nat) a + (⟨3, ![G, M, N]⟩ : Shape).size a ≤ (⟨3, ![G, M, N]⟩ : Shape).size a) :
    View.ld x (Rect.unit (s := ⟨3, ![G, M, N]⟩) ![0, 0, 0] (⟨3, ![G, M, N]⟩ : Shape).size h) = x :=
  View.ld_unit_zero zzz h x

/-- Two functions on a matrix's indices agree when they agree at every row and column. -/
theorem ext2 {α : Type} {M N : ℕ} {f g : (⟨2, ![M, N]⟩ : Shape).Idx → α} (h : ∀ (a : Fin M) (b : Fin N), f (ix2 a b) = g (ix2 a b)) :
    f = g := funext fun i => by rw [eq_ix2 i]; exact h (i 0) (i 1)

/-- Two functions on a stack's indices agree when they agree at every place. -/
theorem ext3 {α : Type} {G M N : ℕ} {f g : (⟨3, ![G, M, N]⟩ : Shape).Idx → α}
    (h : ∀ (e : Fin G) (a : Fin M) (b : Fin N), f (ix3 e a b) = g (ix3 e a b)) : f = g :=
  funext fun i => by rw [eq_ix3 i]; exact h (i 0) (i 1) (i 2)

/-- A one-matrix stack recast as its matrix. -/
theorem cast_drop {α : Type} {M N : ℕ} (v : (⟨3, ![1, M, N]⟩ : Shape).Idx → α)
    (h : (⟨3, ![1, M, N]⟩ : Shape).ShapeCasts ⟨2, ![M, N]⟩) (a : Fin M) (b : Fin N) :
    shapeCast ⟨2, ![M, N]⟩ v h (ix2 a b) = v (ix3 0 a b) := by
  refine (shapeCast_dropUnit_apply (n := 2) ![M, N] v h (ix2 a b)).trans (congrArg v (funext fun e => ?_))
  match e with
  | ⟨0, _⟩ => rfl
  | ⟨1, _⟩ => rfl
  | ⟨2, _⟩ => rfl

/-- A matrix recast as a one-matrix stack. -/
theorem cast_add {α : Type} {M N : ℕ} (v : (⟨2, ![M, N]⟩ : Shape).Idx → α)
    (h : (⟨2, ![M, N]⟩ : Shape).ShapeCasts ⟨3, ![1, M, N]⟩) (e : Fin 1) (a : Fin M) (b : Fin N) :
    shapeCast ⟨3, ![1, M, N]⟩ v h (ix3 e a b) = v (ix2 a b) := by
  refine (shapeCast_addUnit_apply (n := 2) ![M, N] v h (ix3 e a b)).trans (congrArg v (funext fun e => ?_))
  match e with
  | ⟨0, _⟩ => rfl
  | ⟨1, _⟩ => rfl

/-- A matrix broadcast to a one-matrix stack. -/
theorem bcast_add {α : Type} {M N : ℕ} (hM : M ≠ 1) (hN : N ≠ 1)
    (h : (⟨2, ![M, N]⟩ : Shape).BroadcastsInDim ⟨3, ![1, M, N]⟩ ![1, 2]) (v : (⟨2, ![M, N]⟩ : Shape).Idx → α)
    (e : Fin 1) (a : Fin M) (b : Fin N) : broadcastInDim ⟨3, ![1, M, N]⟩ ![1, 2] h v (ix3 e a b) = v (ix2 a b) :=
  broadcastInDim_apply _ h v _ (ix2 a b) fun x => by
    match x with
    | ⟨0, _⟩ => exact (if_neg hM).symm
    | ⟨1, _⟩ => exact (if_neg hN).symm

/-! ## Products read at an entry -/

/-- `l rᵀ` in the kernel, from a zero accumulator: entry (r, c) is the sum over the shared last axis. -/
theorem matmul_nt {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (i : Fin M) (j : Fin N) :
    matmul d prec l r (constant ⟨2, ![M, N]⟩ .f32 0x00000000#32) (ix2 i j) = ∑ k : Fin K, l (ix2 i k) * r (ix2 j k) := by
  subst hd
  refine (Ideal.matmul_transposedRhs_apply prec l r _ i j).trans ?_
  rw [constant_apply, Ideal.ofBits_zero_f32, zero_add]

/-- `l r` in the kernel, from a zero accumulator. -/
theorem matmul_nn {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ k : Fin K, l (ix2 i k) * r (ix2 k j) := by
  subst hd
  refine (Ideal.matmul_plain_apply prec l r _ i j).trans ?_
  rw [constant_apply, Ideal.ofBits_zero_f32, zero_add]

/-- `l rᵀ` on the host. -/
theorem dot_nt {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (i : Fin M) (j : Fin N) :
    Host.dotGeneral d prec l r (ix2 i j) = ∑ k : Fin K, l (ix2 i k) * r (ix2 j k) := by
  rw [← matmul_nt d hd prec l r i j]
  refine Eq.trans ?_ (Ideal.matmul_constant_zero_apply d prec l r (ix2 i j)).symm
  exact Ideal.dotGeneral_apply d prec _ l r (ix2 i j)

/-- `l r` on the host. -/
theorem dot_nn {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) (i : Fin M) (j : Fin N) :
    Host.dotGeneral d prec l r (ix2 i j) = ∑ k : Fin K, l (ix2 i k) * r (ix2 k j) := by
  rw [← matmul_nn d hd prec l r i j]
  refine Eq.trans ?_ (Ideal.matmul_constant_zero_apply d prec l r (ix2 i j)).symm
  exact Ideal.dotGeneral_apply d prec _ l r (ix2 i j)

/-- A stack of stacks of matrices. -/
abbrev Stk4 (L G M N : ℕ) := (⟨4, ![L, G, M, N]⟩ : Shape).Idx → EReal

/-- The four zero offsets of a load or store of a whole stack of stacks. -/
theorem zzzz : (![0, 0, 0, 0] : Fin 4 → Nat) = fun _ => 0 := funext fun a => by fin_cases a <;> rfl

/-- Two functions on the indices of a stack of stacks agree when they agree at every place. -/
theorem ext4 {α : Type} {L G M N : ℕ} {f g : (⟨4, ![L, G, M, N]⟩ : Shape).Idx → α}
    (h : ∀ (l : Fin L) (e : Fin G) (a : Fin M) (b : Fin N), f (ix4 l e a b) = g (ix4 l e a b)) : f = g :=
  funext fun i => by rw [eq_ix4 i]; exact h (i 0) (i 1) (i 2) (i 3)

/-- A load of the whole of a buffer whose last store was of the whole of it reads what that store wrote. -/
theorem readCov_last {Val : EltTy → Type} {e : EltTy} {S : Shape} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A load of the whole of a buffer that holds `X` reads `X`. -/
theorem readAt_whole {Val : EltTy → Type} {e : EltTy} {S : Shape} {sig : RefSig} {κ : Kind} {sp : Space} {m : Memref sig κ sp S e}
    (hm : m.IsWhole) (X : S.Idx → Val e) {off : Fin S.rank → Nat} (h : off = fun _ => 0) (inb : ∀ a, off a + S.size a ≤ S.size a) :
    View.readAt Val m.view (Rect.unit off S.size inb).toLoadRect (hm.unread X) = X := by
  rw [View.readAt_eq_ld, hm.read_unread, View.ld_unit_zero h]

/-- A matrix recast as a stack of one stack of one matrix. -/
theorem cast_add2 {α : Type} {M N : ℕ} (v : (⟨2, ![M, N]⟩ : Shape).Idx → α)
    (h : (⟨2, ![M, N]⟩ : Shape).ShapeCasts ⟨4, ![1, 1, M, N]⟩) (l e : Fin 1) (a : Fin M) (b : Fin N) :
    shapeCast ⟨4, ![1, 1, M, N]⟩ v h (ix4 l e a b) = v (ix2 a b) := by
  refine shapeCast_apply v h (ix4 l e a b) (ix2 a b) ?_
  rw [Shape.rowMajor_val_two, Shape.rowMajor_val_four]
  have hl := l.isLt
  have he := e.isLt
  show a.val * N + b.val = ((l.val * 1 + e.val) * M + a.val) * N + b.val
  have e1 : l.val = 0 := by omega
  have e2 : e.val = 0 := by omega
  simp only [e1, e2, Nat.zero_mul, Nat.zero_add]

/-- The product of a transposed matrix with a matrix: both operands run down their rows. -/
def tn (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)),
    (by decide : ([1, 0] : List (Fin 2)).Perm (List.finRange 2)), rfl, Nat.two_pos,
    fun b => by fin_cases b <;> rfl⟩

/-- `lᵀ r` in the kernel, from a zero accumulator. -/
theorem matmul_tn {M K N : ℕ} {φ₁ φ₂ : FTy} (d : DotDims ⟨2, ![K, M]⟩ ⟨2, ![K, N]⟩ ⟨2, ![M, N]⟩)
    (hd : d = tn M K N) (prec : Option ContractPrecision)
    (l : FVec Ideal ⟨2, ![K, M]⟩ φ₁) (r : FVec Ideal ⟨2, ![K, N]⟩ φ₂) (i : Fin M) (j : Fin N) :
    matmul d prec l r (constant ⟨2, ![M, N]⟩ .f32 0x00000000#32) (ix2 i j) = ∑ k : Fin K, l (ix2 k i) * r (ix2 k j) := by
  subst hd
  refine (Ideal.matmul_constant_zero_apply (tn M K N) prec l r (ix2 i j)).trans ?_
  rw [← Equiv.sum_comp (contrEquiv1 (tn M K N) K rfl rfl).symm]
  refine Finset.sum_congr rfl fun k _ => ?_
  have hk := contrEquiv1_symm_val (tn M K N) K rfl rfl k
  have el : (tn M K N).lhsIdx (ix2 i j) ((contrEquiv1 (tn M K N) K rfl rfl).symm k) = ix2 k i := by
    funext a; apply Fin.ext
    match a with
    | ⟨0, _⟩ => exact hk
    | ⟨1, _⟩ => rfl
  have er : (tn M K N).rhsIdx (ix2 i j) ((contrEquiv1 (tn M K N) K rfl rfl).symm k) = ix2 k j := by
    funext a; apply Fin.ext
    match a with
    | ⟨0, _⟩ => exact hk
    | ⟨1, _⟩ => rfl
  rw [el, er]

/-- `lᵀ r` on the host. -/
theorem dot_tn {M K N : ℕ} {φ₁ φ₂ : FTy} (d : DotDims ⟨2, ![K, M]⟩ ⟨2, ![K, N]⟩ ⟨2, ![M, N]⟩)
    (hd : d = tn M K N) (prec : Option ContractPrecision)
    (l : FVec Ideal ⟨2, ![K, M]⟩ φ₁) (r : FVec Ideal ⟨2, ![K, N]⟩ φ₂) (i : Fin M) (j : Fin N) :
    Host.dotGeneral d prec l r (ix2 i j) = ∑ k : Fin K, l (ix2 k i) * r (ix2 k j) := by
  rw [← matmul_tn d hd prec l r i j]
  refine Eq.trans ?_ (Ideal.matmul_constant_zero_apply d prec l r (ix2 i j)).symm
  exact Ideal.dotGeneral_apply d prec _ l r (ix2 i j)

/-! ## The logistic function -/

/-- The word of one half. -/
theorem half_word : Ideal.ofBits .f32 0x3F000000#32 = ((1 / 2 : ℝ) : EReal) := by
  simp [Ideal.ofBits, Ideal.ieee, -EReal.coe_mul]
  norm_num

/-- The word of one. -/
theorem one_word : Ideal.ofBits .f32 0x3F800000#32 = 1 := by
  simp [Ideal.ofBits, Ideal.ieee, -EReal.coe_mul]
  norm_num

/-- The logistic function, one over one plus the exponential of the opposite. -/
def sg (x : EReal) : EReal := Ideal.div 1 (1 + Ideal.exp (-x))

/-- Half a hyperbolic tangent of half the argument, plus a half, is the logistic function, at the infinities too. -/
theorem sg_eq_tanh (x : EReal) :
    Ideal.ofBits .f32 0x3F000000#32 * Ideal.tanh (Ideal.ofBits .f32 0x3F000000#32 * x) + Ideal.ofBits .f32 0x3F000000#32 = sg x := by
  rw [half_word]
  unfold sg Ideal.div
  induction x using EReal.rec with
  | bot =>
    rw [EReal.coe_mul_bot_of_pos (by norm_num), Ideal.tanh_bot, EReal.neg_bot]
    have h : (1 : EReal) + Ideal.exp ⊤ = ⊤ := EReal.add_top_of_ne_bot (by decide)
    rw [h, if_neg (by decide), EReal.inv_top, mul_zero, mul_neg, mul_one, ← EReal.coe_neg, ← EReal.coe_add]
    norm_num
  | top =>
    rw [EReal.coe_mul_top_of_pos (by norm_num), Ideal.tanh_top, EReal.neg_top]
    have h : (1 : EReal) + Ideal.exp ⊥ = 1 := add_zero 1
    rw [h, if_neg one_ne_zero, mul_one, one_mul, ← EReal.coe_one, ← EReal.coe_inv, ← EReal.coe_add]
    exact congrArg Real.toEReal (by norm_num)
  | coe r =>
    rw [← EReal.coe_mul, Ideal.tanh_coe, ← EReal.coe_mul, ← EReal.coe_add, ← EReal.coe_neg]
    have h : (1 : EReal) + Ideal.exp ((-r : ℝ) : EReal) = ((1 + Real.exp (-r) : ℝ) : EReal) := rfl
    have hp : 0 < 1 + Real.exp (-r) := by positivity
    rw [h, if_neg (by exact_mod_cast hp.ne'), one_mul, ← EReal.coe_inv]
    refine congrArg Real.toEReal ?_
    have e : Real.exp (-r) = Real.exp (-(1 / 2 * r)) * Real.exp (-(1 / 2 * r)) := by
      rw [← Real.exp_add]; congr 1; ring
    have p1 := Real.exp_pos (1 / 2 * r)
    have p2 := Real.exp_pos (-(1 / 2 * r))
    have q : Real.exp (1 / 2 * r) * Real.exp (-(1 / 2 * r)) = 1 := by rw [← Real.exp_add]; simp
    rw [Real.tanh_eq_sinh_div_cosh, Real.sinh_eq, Real.cosh_eq, e]
    generalize Real.exp (1 / 2 * r) = a at *
    generalize Real.exp (-(1 / 2 * r)) = b at *
    have hs : a + b ≠ 0 := by positivity
    have hb : 1 + b * b ≠ 0 := by positivity
    field_simp
    linear_combination (2 * b) * q

end Cert.Common

end
-- ==== Proof.MergeSpec.lean ====
/- The gradients of the gated merge of the two branches, as sums and products of extended reals. With `z` the gradient of
   the merged rows (the incoming gradient times the transposed output projection) and `s` a gate (the logistic function of
   its column block of the projection), the branch outputs have gradients `z s`, the gates' logits `z y s (1 - s)`, and the
   branches' inner states the branch gradients times the transposed projections. -/
module

public import proofs.«01_k».proof.Proof.Common

@[expose] public section

noncomputable section

namespace Cert.Merge

open Cert.Common Idealize.ShloMosaic Idealize.ShloMosaic.ValueIdx
open scoped BigOperators

/-- Column `b` of the pooling gate's block of the projection. -/
abbrev pc (b : Fin 1024) : Fin 5120 := ⟨3072 + b.val, by omega⟩

/-- Column `b` of the recurrence gate's block of the projection. -/
abbrev lc (b : Fin 1024) : Fin 5120 := ⟨4096 + b.val, by omega⟩

/-- The gradient of the merged rows. -/
def dz (dy : Mat 2048 1024) (wo : Mat 1024 1024) (i : Fin 2048) (j : Fin 1024) : EReal := ∑ k : Fin 1024, dy (ix2 i k) * wo (ix2 j k)

/-- The pooling branch's gradient. -/
def dyp (dy : Mat 2048 1024) (proj : Mat 2048 5120) (wo : Mat 1024 1024) : Mat 2048 1024 := fun i =>
  dz dy wo (i 0) (i 1) * sg (proj (ix2 (i 0) (pc (i 1))))

/-- The recurrence branch's gradient. -/
def dyl (dy : Mat 2048 1024) (proj : Mat 2048 5120) (wo : Mat 1024 1024) : Mat 2048 1024 := fun i =>
  dz dy wo (i 0) (i 1) * sg (proj (ix2 (i 0) (lc (i 1))))

/-- The gradient of the pooling gate's logits. -/
def dgp (dy : Mat 2048 1024) (proj : Mat 2048 5120) (yp : Mat 2048 1024) (wo : Mat 1024 1024) : Mat 2048 1024 := fun i =>
  dz dy wo (i 0) (i 1) * yp i * sg (proj (ix2 (i 0) (pc (i 1)))) * (1 - sg (proj (ix2 (i 0) (pc (i 1)))))

/-- The gradient of the recurrence gate's logits. -/
def dgl (dy : Mat 2048 1024) (proj : Mat 2048 5120) (yl : Mat 2048 1024) (wo : Mat 1024 1024) : Mat 2048 1024 := fun i =>
  dz dy wo (i 0) (i 1) * yl i * sg (proj (ix2 (i 0) (lc (i 1)))) * (1 - sg (proj (ix2 (i 0) (lc (i 1)))))

/-- The pooled rows' gradient. -/
def dpm (dy : Mat 2048 1024) (proj : Mat 2048 5120) (wp : Mat 512 1024) (wo : Mat 1024 1024) : Mat 2048 512 := fun i =>
  ∑ k : Fin 1024, dyp dy proj wo (ix2 (i 0) k) * wp (ix2 (i 1) k)

/-- The recurrence's output's gradient. -/
def dhl (dy : Mat 2048 1024) (proj : Mat 2048 5120) (wl : Mat 1280 1024) (wo : Mat 1024 1024) : Mat 2048 1280 := fun i =>
  ∑ k : Fin 1024, dyl dy proj wo (ix2 (i 0) k) * wl (ix2 (i 1) k)

end Cert.Merge

end
-- ==== Proof.MergeKernel.lean ====
/- The gate's backward call: what its run leaves in each of its seven result arrays, as a function of the argument arrays. -/
module

public import proofs.«01_k».proof.Proof.Gen.KernelIdeal.Value
public import proofs.«01_k».proof.Proof.MergeSpec

@[expose] public section

noncomputable section

namespace Cert.Merge

open Cert.KernelIdeal Cert.KernelIdeal.Gen Cert.Common Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The grid has four points. -/
theorem lt_N (t : Fin cfg0.N) : t.val < 4 := t.isLt.trans_le (by decide)

/-- Row `a` of the block of grid point `t`, as a row of the whole array. -/
abbrev row (t : Fin cfg0.N) (a : Fin 512) : Fin 2048 := ⟨t.val * 512 + a.val, by have := lt_N t; omega⟩

/-! ## The stored values at an entry of a block -/

/-- The product of the incoming gradient with the transposed output projection. -/
theorem pay7 (x0 : Vec Ideal S512x1024 .f32) (x7 : Vec Ideal S1x1024x1024 .bf16) (a : Fin 512) (b : Fin 1024) :
    k0_pay7 x0 x7 (ix2 a b) = ∑ k : Fin 1024, x0 (ix2 a k) * x7 (ix3 0 b k) := by
  unfold k0_pay7
  refine (matmul_nt _ rfl none _ _ a b).trans (Finset.sum_congr rfl fun k _ => congrArg (x0 (ix2 a k) * ·) ?_)
  exact cast_drop x7 _ b k

/-- The pooling gate. -/
theorem pay8 (x : Vec Ideal S512x1024 .bf16) (a : Fin 512) (b : Fin 1024) : k0_pay8 x (ix2 a b) = sg (x (ix2 a b)) :=
  sg_eq_tanh (x (ix2 a b))

/-- The recurrence gate. -/
theorem pay9 (x : Vec Ideal S512x1024 .bf16) (a : Fin 512) (b : Fin 1024) : k0_pay9 x (ix2 a b) = sg (x (ix2 a b)) :=
  sg_eq_tanh (x (ix2 a b))

/-- A gate's gradient through its logistic function. -/
theorem pay1 (z s : FVec Ideal S512x1024 .f32) (y : Vec Ideal S512x1024 .bf16) (a : Fin 512) (b : Fin 1024) :
    k0_pay1 z s y (ix2 a b) = z (ix2 a b) * y (ix2 a b) * s (ix2 a b) * (1 - s (ix2 a b)) := by
  show z (ix2 a b) * y (ix2 a b) * s (ix2 a b) * (Ideal.ofBits .f32 0x3F800000#32 - s (ix2 a b)) = _
  rw [one_word]

theorem pay10 (x0 : Vec Ideal S512x1024 .f32) (x7 : Vec Ideal S1x1024x1024 .bf16) (x1 y : Vec Ideal S512x1024 .bf16) (a : Fin 512) (b : Fin 1024) :
    k0_pay10 x0 x7 x1 y (ix2 a b)
      = k0_pay7 x0 x7 (ix2 a b) * y (ix2 a b) * k0_pay8 x1 (ix2 a b) * (1 - k0_pay8 x1 (ix2 a b)) := by
  show k0_pay7 x0 x7 (ix2 a b) * y (ix2 a b) * k0_pay8 x1 (ix2 a b) * (Ideal.ofBits .f32 0x3F800000#32 - k0_pay8 x1 (ix2 a b)) = _
  rw [one_word]

/-- The pooling branch's gradient back through its projection. -/
theorem pay4 (z s : FVec Ideal S512x1024 .f32) (w : Vec Ideal S1x512x1024 .bf16) (a : Fin 512) (b : Fin 512) :
    k0_pay4 z s w (ix2 a b) = ∑ k : Fin 1024, z (ix2 a k) * s (ix2 a k) * w (ix3 0 b k) := by
  unfold k0_pay4
  refine (matmul_nt _ rfl none _ _ a b).trans (Finset.sum_congr rfl fun k _ => congrArg (z (ix2 a k) * s (ix2 a k) * ·) ?_)
  exact cast_drop w _ b k

/-- The recurrence branch's gradient back through its projection. -/
theorem pay5 (z s : FVec Ideal S512x1024 .f32) (w : Vec Ideal S1x1280x1024 .bf16) (a : Fin 512) (b : Fin 1280) :
    k0_pay5 z s w (ix2 a b) = ∑ k : Fin 1024, z (ix2 a k) * s (ix2 a k) * w (ix3 0 b k) := by
  unfold k0_pay5
  refine (matmul_nt _ rfl none _ _ a b).trans (Finset.sum_congr rfl fun k _ => congrArg (z (ix2 a k) * s (ix2 a k) * ·) ?_)
  exact cast_drop w _ b k

/-! ## The weights as the region finds them -/

theorem V_main_v0 (c : Dev nD) (e : Fin 1) (a : Fin 512) (b : Fin 1024) :
    V m c main_v0 (ix3 e a b) = m (c.tc.loc main_arg4) (ix2 a b) := by
  have h : V m c main_v0 = broadcastInDim S1x512x1024 ![1, 2] bcast_S512x1024_S1x512x1024_1_2 (m (c.tc.loc main_arg4)) := by
    show StableHlo.after hostOps0 _ (Proc.devRef .tc main_v0) = _
    after_results
  rw [h]; exact bcast_add (by decide) (by decide) _ _ e a b

theorem V_main_v1 (c : Dev nD) (e : Fin 1) (a : Fin 1280) (b : Fin 1024) :
    V m c main_v1 (ix3 e a b) = m (c.tc.loc main_arg5) (ix2 a b) := by
  have h : V m c main_v1 = broadcastInDim S1x1280x1024 ![1, 2] bcast_S1280x1024_S1x1280x1024_1_2 (m (c.tc.loc main_arg5)) := by
    show StableHlo.after hostOps0 _ (Proc.devRef .tc main_v1) = _
    after_results
  rw [h]; exact bcast_add (by decide) (by decide) _ _ e a b

theorem V_main_v2 (c : Dev nD) (e : Fin 1) (a : Fin 1024) (b : Fin 1024) :
    V m c main_v2 (ix3 e a b) = m (c.tc.loc main_arg6) (ix2 a b) := by
  have h : V m c main_v2 = broadcastInDim S1x1024x1024 ![1, 2] bcast_S1024x1024_S1x1024x1024_1_2 (m (c.tc.loc main_arg6)) := by
    show StableHlo.after hostOps0 _ (Proc.devRef .tc main_v2) = _
    after_results
  rw [h]; exact bcast_add (by decide) (by decide) _ _ e a b

/-! ## Where each block lies -/

/-- Where each window's block lies at grid point `t`. -/
theorem idx : ∀ t : Fin cfg0.N, (win0_0.index t 0 = t.val ∧ win0_0.index t 1 = 0)
    ∧ (win0_1.index t 0 = t.val ∧ win0_1.index t 1 = 3)
    ∧ (win0_2.index t 0 = t.val ∧ win0_2.index t 1 = 4)
    ∧ (win0_3.index t 0 = t.val ∧ win0_3.index t 1 = 0)
    ∧ (win0_4.index t 0 = t.val ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0)
    ∧ (win0_13.index t 0 = t.val ∧ win0_13.index t 1 = 0)
    ∧ (win0_14.index t 0 = t.val ∧ win0_14.index t 1 = 0) :=
  (by decide +kernel : ∀ t : Fin grid0.N, _)

/-- An index of window 0's block as an index of its array. -/
theorem emb0 (t : Fin cfg0.N) (a : Fin 512) (b : Fin 1024) :
    ((cfg0.win 0).blk t).view.emb (ix2 a b) = ix2 (row t a) b := by
  obtain ⟨h0, h1⟩ := (idx t).1
  funext x; apply Fin.ext
  match x with
  | ⟨0, _⟩ => show win0_0.index t 0 * 512 + 1 * a.val = t.val * 512 + a.val; omega
  | ⟨1, _⟩ => show win0_0.index t 1 * 1024 + 1 * b.val = b.val; omega

/-- An index of window 1's block as an index of its array. -/
theorem emb1 (t : Fin cfg0.N) (a : Fin 512) (b : Fin 1024) :
    ((cfg0.win 1).blk t).view.emb (ix2 a b) = ix2 (row t a) (pc b) := by
  obtain ⟨h0, h1⟩ := (idx t).2.1
  funext x; apply Fin.ext
  match x with
  | ⟨0, _⟩ => show win0_1.index t 0 * 512 + 1 * a.val = t.val * 512 + a.val; omega
  | ⟨1, _⟩ => show win0_1.index t 1 * 1024 + 1 * b.val = 3072 + b.val; omega

/-- An index of window 2's block as an index of its array. -/
theorem emb2 (t : Fin cfg0.N) (a : Fin 512) (b : Fin 1024) :
    ((cfg0.win 2).blk t).view.emb (ix2 a b) = ix2 (row t a) (lc b) := by
  obtain ⟨h0, h1⟩ := (idx t).2.2.1
  funext x; apply Fin.ext
  match x with
  | ⟨0, _⟩ => show win0_2.index t 0 * 512 + 1 * a.val = t.val * 512 + a.val; omega
  | ⟨1, _⟩ => show win0_2.index t 1 * 1024 + 1 * b.val = 4096 + b.val; omega

/-- An index of window 3's block as an index of its array. -/
theorem emb3 (t : Fin cfg0.N) (a : Fin 512) (b : Fin 1024) :
    ((cfg0.win 3).blk t).view.emb (ix2 a b) = ix2 (row t a) b := by
  obtain ⟨h0, h1⟩ := (idx t).2.2.2.1
  funext x; apply Fin.ext
  match x with
  | ⟨0, _⟩ => show win0_3.index t 0 * 512 + 1 * a.val = t.val * 512 + a.val; omega
  | ⟨1, _⟩ => show win0_3.index t 1 * 1024 + 1 * b.val = b.val; omega

/-- An index of window 4's block as an index of its array. -/
theorem emb4 (t : Fin cfg0.N) (a : Fin 512) (b : Fin 1024) :
    ((cfg0.win 4).blk t).view.emb (ix2 a b) = ix2 (row t a) b := by
  obtain ⟨h0, h1⟩ := (idx t).2.2.2.2.1
  funext x; apply Fin.ext
  match x with
  | ⟨0, _⟩ => show win0_4.index t 0 * 512 + 1 * a.val = t.val * 512 + a.val; omega
  | ⟨1, _⟩ => show win0_4.index t 1 * 1024 + 1 * b.val = b.val; omega

/-- An index of window 5's block as an index of its array. -/
theorem emb5 (t : Fin cfg0.N) (e : Fin 1) (a : Fin 512) (b : Fin 1024) :
    ((cfg0.win 5).blk t).view.emb (ix3 e a b) = ix3 e a b := by
  obtain ⟨h0, h1, h2⟩ := (idx t).2.2.2.2.2.1
  funext x; apply Fin.ext
  match x with
  | ⟨0, _⟩ => show win0_5.index t 0 * 1 + 1 * e.val = e.val; omega
  | ⟨1, _⟩ => show win0_5.index t 1 * 512 + 1 * a.val = a.val; omega
  | ⟨2, _⟩ => show win0_5.index t 2 * 1024 + 1 * b.val = b.val; omega

/-- An index of window 6's block as an index of its array. -/
theorem emb6 (t : Fin cfg0.N) (e : Fin 1) (a : Fin 1280) (b : Fin 1024) :
    ((cfg0.win 6).blk t).view.emb (ix3 e a b) = ix3 e a b := by
  obtain ⟨h0, h1, h2⟩ := (idx t).2.2.2.2.2.2.1
  funext x; apply Fin.ext
  match x with
  | ⟨0, _⟩ => show win0_6.index t 0 * 1 + 1 * e.val = e.val; omega
  | ⟨1, _⟩ => show win0_6.index t 1 * 1280 + 1 * a.val = a.val; omega
  | ⟨2, _⟩ => show win0_6.index t 2 * 1024 + 1 * b.val = b.val; omega

/-- An index of window 7's block as an index of its array. -/
theorem emb7 (t : Fin cfg0.N) (e : Fin 1) (a : Fin 1024) (b : Fin 1024) :
    ((cfg0.win 7).blk t).view.emb (ix3 e a b) = ix3 e a b := by
  obtain ⟨h0, h1, h2⟩ := (idx t).2.2.2.2.2.2.2.1
  funext x; apply Fin.ext
  match x with
  | ⟨0, _⟩ => show win0_7.index t 0 * 1 + 1 * e.val = e.val; omega
  | ⟨1, _⟩ => show win0_7.index t 1 * 1024 + 1 * a.val = a.val; omega
  | ⟨2, _⟩ => show win0_7.index t 2 * 1024 + 1 * b.val = b.val; omega

/-- An index of window 8's block as an index of its array. -/
theorem emb8 (t : Fin cfg0.N) (a : Fin 512) (b : Fin 1024) :
    ((cfg0.win 8).blk t).view.emb (ix2 a b) = ix2 (row t a) b := by
  obtain ⟨h0, h1⟩ := (idx t).2.2.2.2.2.2.2.2.1
  funext x; apply Fin.ext
  match x with
  | ⟨0, _⟩ => show win0_8.index t 0 * 512 + 1 * a.val = t.val * 512 + a.val; omega
  | ⟨1, _⟩ => show win0_8.index t 1 * 1024 + 1 * b.val = b.val; omega

/-- An index of window 9's block as an index of its array. -/
theorem emb9 (t : Fin cfg0.N) (a : Fin 512) (b : Fin 1024) :
    ((cfg0.win 9).blk t).view.emb (ix2 a b) = ix2 (row t a) b := by
  obtain ⟨h0, h1⟩ := (idx t).2.2.2.2.2.2.2.2.2.1
  funext x; apply Fin.ext
  match x with
  | ⟨0, _⟩ => show win0_9.index t 0 * 512 + 1 * a.val = t.val * 512 + a.val; omega
  | ⟨1, _⟩ => show win0_9.index t 1 * 1024 + 1 * b.val = b.val; omega

/-- An index of window 10's block as an index of its array. -/
theorem emb10 (t : Fin cfg0.N) (a : Fin 512) (b : Fin 1024) :
    ((cfg0.win 10).blk t).view.emb (ix2 a b) = ix2 (row t a) b := by
  obtain ⟨h0, h1⟩ := (idx t).2.2.2.2.2.2.2.2.2.2.1
  funext x; apply Fin.ext
  match x with
  | ⟨0, _⟩ => show win0_10.index t 0 * 512 + 1 * a.val = t.val * 512 + a.val; omega
  | ⟨1, _⟩ => show win0_10.index t 1 * 1024 + 1 * b.val = b.val; omega

/-- An index of window 11's block as an index of its array. -/
theorem emb11 (t : Fin cfg0.N) (a : Fin 512) (b : Fin 1024) :
    ((cfg0.win 11).blk t).view.emb (ix2 a b) = ix2 (row t a) b := by
  obtain ⟨h0, h1⟩ := (idx t).2.2.2.2.2.2.2.2.2.2.2.1
  funext x; apply Fin.ext
  match x with
  | ⟨0, _⟩ => show win0_11.index t 0 * 512 + 1 * a.val = t.val * 512 + a.val; omega
  | ⟨1, _⟩ => show win0_11.index t 1 * 1024 + 1 * b.val = b.val; omega

/-- An index of window 12's block as an index of its array. -/
theorem emb12 (t : Fin cfg0.N) (a : Fin 512) (b : Fin 1024) :
    ((cfg0.win 12).blk t).view.emb (ix2 a b) = ix2 (row t a) b := by
  obtain ⟨h0, h1⟩ := (idx t).2.2.2.2.2.2.2.2.2.2.2.2.1
  funext x; apply Fin.ext
  match x with
  | ⟨0, _⟩ => show win0_12.index t 0 * 512 + 1 * a.val = t.val * 512 + a.val; omega
  | ⟨1, _⟩ => show win0_12.index t 1 * 1024 + 1 * b.val = b.val; omega

/-- An index of window 13's block as an index of its array. -/
theorem emb13 (t : Fin cfg0.N) (a : Fin 512) (b : Fin 512) :
    ((cfg0.win 13).blk t).view.emb (ix2 a b) = ix2 (row t a) b := by
  obtain ⟨h0, h1⟩ := (idx t).2.2.2.2.2.2.2.2.2.2.2.2.2.1
  funext x; apply Fin.ext
  match x with
  | ⟨0, _⟩ => show win0_13.index t 0 * 512 + 1 * a.val = t.val * 512 + a.val; omega
  | ⟨1, _⟩ => show win0_13.index t 1 * 512 + 1 * b.val = b.val; omega

/-- An index of window 14's block as an index of its array. -/
theorem emb14 (t : Fin cfg0.N) (a : Fin 512) (b : Fin 1280) :
    ((cfg0.win 14).blk t).view.emb (ix2 a b) = ix2 (row t a) b := by
  obtain ⟨h0, h1⟩ := (idx t).2.2.2.2.2.2.2.2.2.2.2.2.2.2
  funext x; apply Fin.ext
  match x with
  | ⟨0, _⟩ => show win0_14.index t 0 * 512 + 1 * a.val = t.val * 512 + a.val; omega
  | ⟨1, _⟩ => show win0_14.index t 1 * 1280 + 1 * b.val = b.val; omega

/-! ## The input blocks -/

/-- Window 0's block at grid point `t`, read off the array it is cut from. -/
theorem iblk0 (c : Dev nD) (t : Fin cfg0.N) (a : Fin 512) (b : Fin 1024) :
    iblk m c 0 t (ix2 a b) = m (c.tc.loc main_arg0) (ix2 (row t a) b) := by
  show V m c main_arg0 (((cfg0.win 0).blk t).view.emb (ix2 a b)) = _
  rw [emb0, V_main_arg0]

/-- Window 1's block at grid point `t`, read off the array it is cut from. -/
theorem iblk1 (c : Dev nD) (t : Fin cfg0.N) (a : Fin 512) (b : Fin 1024) :
    iblk m c 1 t (ix2 a b) = m (c.tc.loc main_arg1) (ix2 (row t a) (pc b)) := by
  show V m c main_arg1 (((cfg0.win 1).blk t).view.emb (ix2 a b)) = _
  rw [emb1, V_main_arg1]

/-- Window 2's block at grid point `t`, read off the array it is cut from. -/
theorem iblk2 (c : Dev nD) (t : Fin cfg0.N) (a : Fin 512) (b : Fin 1024) :
    iblk m c 2 t (ix2 a b) = m (c.tc.loc main_arg1) (ix2 (row t a) (lc b)) := by
  show V m c main_arg1 (((cfg0.win 2).blk t).view.emb (ix2 a b)) = _
  rw [emb2, V_main_arg1]

/-- Window 3's block at grid point `t`, read off the array it is cut from. -/
theorem iblk3 (c : Dev nD) (t : Fin cfg0.N) (a : Fin 512) (b : Fin 1024) :
    iblk m c 3 t (ix2 a b) = m (c.tc.loc main_arg2) (ix2 (row t a) b) := by
  show V m c main_arg2 (((cfg0.win 3).blk t).view.emb (ix2 a b)) = _
  rw [emb3, V_main_arg2]

/-- Window 4's block at grid point `t`, read off the array it is cut from. -/
theorem iblk4 (c : Dev nD) (t : Fin cfg0.N) (a : Fin 512) (b : Fin 1024) :
    iblk m c 4 t (ix2 a b) = m (c.tc.loc main_arg3) (ix2 (row t a) b) := by
  show V m c main_arg3 (((cfg0.win 4).blk t).view.emb (ix2 a b)) = _
  rw [emb4, V_main_arg3]

/-- Window 5's block at grid point `t`, read off the array it is cut from. -/
theorem iblk5 (c : Dev nD) (t : Fin cfg0.N) (e : Fin 1) (a : Fin 512) (b : Fin 1024) :
    iblk m c 5 t (ix3 e a b) = m (c.tc.loc main_arg4) (ix2 a b) := by
  show V m c main_v0 (((cfg0.win 5).blk t).view.emb (ix3 e a b)) = _
  rw [emb5, V_main_v0]

/-- Window 6's block at grid point `t`, read off the array it is cut from. -/
theorem iblk6 (c : Dev nD) (t : Fin cfg0.N) (e : Fin 1) (a : Fin 1280) (b : Fin 1024) :
    iblk m c 6 t (ix3 e a b) = m (c.tc.loc main_arg5) (ix2 a b) := by
  show V m c main_v1 (((cfg0.win 6).blk t).view.emb (ix3 e a b)) = _
  rw [emb6, V_main_v1]

/-- Window 7's block at grid point `t`, read off the array it is cut from. -/
theorem iblk7 (c : Dev nD) (t : Fin cfg0.N) (e : Fin 1) (a : Fin 1024) (b : Fin 1024) :
    iblk m c 7 t (ix3 e a b) = m (c.tc.loc main_arg6) (ix2 a b) := by
  show V m c main_v2 (((cfg0.win 7).blk t).view.emb (ix3 e a b)) = _
  rw [emb7, V_main_v2]

/-! ## What each grid point writes back, and the whole arrays -/

section
variable (c : Dev nD)

/-- The arguments, by name. -/
abbrev dy : Mat 2048 1024 := m (c.tc.loc main_arg0)
abbrev proj : Mat 2048 5120 := m (c.tc.loc main_arg1)
abbrev yp : Mat 2048 1024 := m (c.tc.loc main_arg2)
abbrev yl : Mat 2048 1024 := m (c.tc.loc main_arg3)
abbrev wp : Mat 512 1024 := m (c.tc.loc main_arg4)
abbrev wl : Mat 1280 1024 := m (c.tc.loc main_arg5)
abbrev wo : Mat 1024 1024 := m (c.tc.loc main_arg6)

/-- The gradient of the merged branches, at a block's entry. -/
theorem z_blk (t : Fin cfg0.N) (a : Fin 512) (b : Fin 1024) :
    k0_pay7 (iblk m c 0 t) (iblk m c 7 t) (ix2 a b) = dz (dy m c) (wo m c) (row t a) b := by
  rw [pay7]
  exact Finset.sum_congr rfl fun k _ => by rw [iblk0, iblk7]

theorem sp_blk (t : Fin cfg0.N) (a : Fin 512) (b : Fin 1024) :
    k0_pay8 (iblk m c 1 t) (ix2 a b) = sg (proj m c (ix2 (row t a) (pc b))) := by rw [pay8, iblk1]

theorem sl_blk (t : Fin cfg0.N) (a : Fin 512) (b : Fin 1024) :
    k0_pay9 (iblk m c 2 t) (ix2 a b) = sg (proj m c (ix2 (row t a) (lc b))) := by rw [pay9, iblk2]

/-- What grid point `t` writes back to window 8 is its block of the array stated. -/
theorem wrote8 (t : Fin cfg0.N) :
    (dats m 0 c).flushed 8 t = ((cfg0.win 8).blk t).view.read (Elt Ideal) (dy m c : Mat 2048 1024) := by
  rw [Value.flushed8]
  refine ext2 fun a b => ?_
  show out0_8 (iblk m c 0 t) (iblk m c 1 t) (iblk m c 2 t) (iblk m c 3 t) (iblk m c 4 t) (iblk m c 5 t) (iblk m c 6 t) (iblk m c 7 t) (ix2 a b)
    = (dy m c : Mat 2048 1024) (((cfg0.win 8).blk t).view.emb (ix2 a b))
  have h : out0_8 (iblk m c 0 t) (iblk m c 1 t) (iblk m c 2 t) (iblk m c 3 t) (iblk m c 4 t) (iblk m c 5 t) (iblk m c 6 t) (iblk m c 7 t)
      = k0_pay6 (iblk m c 0 t) := by
    unfold_out out0_8
    rw [View.canon_unit_zero zz]
    simp only [ld2, ld3]
  rw [h, emb8]
  exact iblk0 m c t a b

/-- Every entry of window 8's array is in some grid point's block. -/
theorem covered8 (i : S2048x1024.Idx) : ∃ t : Fin cfg0.N, (cfg0.win 8).flush t = true ∧ i ∈ ((cfg0.win 8).blk t).view.set := by
  have h0 : (i 0).val < 2048 := (i 0).isLt
  let t : Fin cfg0.N := ⟨(i 0).val / 512, (show (i 0).val / 512 < 4 by omega).trans_le (by decide)⟩
  refine ⟨t, flush0_8 t, ?_⟩
  have h := ((cfg0.win 8).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 8).blk t).view.set) ((emb8 t _ _).trans e)) h

theorem final8 : (dats m 0 c).arrAt 8 cfg0.N = (dy m c : Mat 2048 1024) :=
  (dats m 0 c).arrAt_eq_of_cover 8 (dy m c) (fun t _ => wrote8 m c t) covered8

/-- What grid point `t` writes back to window 9 is its block of the array stated. -/
theorem wrote9 (t : Fin cfg0.N) :
    (dats m 0 c).flushed 9 t = ((cfg0.win 9).blk t).view.read (Elt Ideal) (dyp (dy m c) (proj m c) (wo m c) : Mat 2048 1024) := by
  rw [Value.flushed9]
  refine ext2 fun a b => ?_
  show out0_9 (iblk m c 0 t) (iblk m c 1 t) (iblk m c 2 t) (iblk m c 3 t) (iblk m c 4 t) (iblk m c 5 t) (iblk m c 6 t) (iblk m c 7 t) (ix2 a b)
    = (dyp (dy m c) (proj m c) (wo m c) : Mat 2048 1024) (((cfg0.win 9).blk t).view.emb (ix2 a b))
  have h : out0_9 (iblk m c 0 t) (iblk m c 1 t) (iblk m c 2 t) (iblk m c 3 t) (iblk m c 4 t) (iblk m c 5 t) (iblk m c 6 t) (iblk m c 7 t)
      = k0_pay2 (k0_pay7 (iblk m c 0 t) (iblk m c 7 t)) (k0_pay8 (iblk m c 1 t)) := by
    unfold_out out0_9
    rw [View.canon_unit_zero zz]
    simp only [ld2, ld3]
  rw [h, emb9]
  exact congrArg₂ (· * ·) (z_blk m c t a b) (sp_blk m c t a b)

/-- Every entry of window 9's array is in some grid point's block. -/
theorem covered9 (i : S2048x1024.Idx) : ∃ t : Fin cfg0.N, (cfg0.win 9).flush t = true ∧ i ∈ ((cfg0.win 9).blk t).view.set := by
  have h0 : (i 0).val < 2048 := (i 0).isLt
  let t : Fin cfg0.N := ⟨(i 0).val / 512, (show (i 0).val / 512 < 4 by omega).trans_le (by decide)⟩
  refine ⟨t, flush0_9 t, ?_⟩
  have h := ((cfg0.win 9).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 9).blk t).view.set) ((emb9 t _ _).trans e)) h

theorem final9 : (dats m 0 c).arrAt 9 cfg0.N = (dyp (dy m c) (proj m c) (wo m c) : Mat 2048 1024) :=
  (dats m 0 c).arrAt_eq_of_cover 9 (dyp (dy m c) (proj m c) (wo m c)) (fun t _ => wrote9 m c t) covered9

/-- What grid point `t` writes back to window 10 is its block of the array stated. -/
theorem wrote10 (t : Fin cfg0.N) :
    (dats m 0 c).flushed 10 t = ((cfg0.win 10).blk t).view.read (Elt Ideal) (dyl (dy m c) (proj m c) (wo m c) : Mat 2048 1024) := by
  rw [Value.flushed10]
  refine ext2 fun a b => ?_
  show out0_10 (iblk m c 0 t) (iblk m c 1 t) (iblk m c 2 t) (iblk m c 3 t) (iblk m c 4 t) (iblk m c 5 t) (iblk m c 6 t) (iblk m c 7 t) (ix2 a b)
    = (dyl (dy m c) (proj m c) (wo m c) : Mat 2048 1024) (((cfg0.win 10).blk t).view.emb (ix2 a b))
  have h : out0_10 (iblk m c 0 t) (iblk m c 1 t) (iblk m c 2 t) (iblk m c 3 t) (iblk m c 4 t) (iblk m c 5 t) (iblk m c 6 t) (iblk m c 7 t)
      = k0_pay3 (k0_pay7 (iblk m c 0 t) (iblk m c 7 t)) (k0_pay9 (iblk m c 2 t)) := by
    unfold_out out0_10
    rw [View.canon_unit_zero zz]
    simp only [ld2, ld3]
  rw [h, emb10]
  exact congrArg₂ (· * ·) (z_blk m c t a b) (sl_blk m c t a b)

/-- Every entry of window 10's array is in some grid point's block. -/
theorem covered10 (i : S2048x1024.Idx) : ∃ t : Fin cfg0.N, (cfg0.win 10).flush t = true ∧ i ∈ ((cfg0.win 10).blk t).view.set := by
  have h0 : (i 0).val < 2048 := (i 0).isLt
  let t : Fin cfg0.N := ⟨(i 0).val / 512, (show (i 0).val / 512 < 4 by omega).trans_le (by decide)⟩
  refine ⟨t, flush0_10 t, ?_⟩
  have h := ((cfg0.win 10).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 10).blk t).view.set) ((emb10 t _ _).trans e)) h

theorem final10 : (dats m 0 c).arrAt 10 cfg0.N = (dyl (dy m c) (proj m c) (wo m c) : Mat 2048 1024) :=
  (dats m 0 c).arrAt_eq_of_cover 10 (dyl (dy m c) (proj m c) (wo m c)) (fun t _ => wrote10 m c t) covered10

/-- What grid point `t` writes back to window 11 is its block of the array stated. -/
theorem wrote11 (t : Fin cfg0.N) :
    (dats m 0 c).flushed 11 t = ((cfg0.win 11).blk t).view.read (Elt Ideal) (dgp (dy m c) (proj m c) (yp m c) (wo m c) : Mat 2048 1024) := by
  rw [Value.flushed11]
  refine ext2 fun a b => ?_
  show out0_11 (iblk m c 0 t) (iblk m c 1 t) (iblk m c 2 t) (iblk m c 3 t) (iblk m c 4 t) (iblk m c 5 t) (iblk m c 6 t) (iblk m c 7 t) (ix2 a b)
    = (dgp (dy m c) (proj m c) (yp m c) (wo m c) : Mat 2048 1024) (((cfg0.win 11).blk t).view.emb (ix2 a b))
  have h : out0_11 (iblk m c 0 t) (iblk m c 1 t) (iblk m c 2 t) (iblk m c 3 t) (iblk m c 4 t) (iblk m c 5 t) (iblk m c 6 t) (iblk m c 7 t)
      = k0_pay10 (iblk m c 0 t) (iblk m c 7 t) (iblk m c 1 t) (iblk m c 3 t) := by
    unfold_out out0_11
    rw [View.canon_unit_zero zz]
    simp only [ld2, ld3]
  rw [h, emb11]
  rw [pay10, z_blk, sp_blk, iblk3]; rfl

/-- Every entry of window 11's array is in some grid point's block. -/
theorem covered11 (i : S2048x1024.Idx) : ∃ t : Fin cfg0.N, (cfg0.win 11).flush t = true ∧ i ∈ ((cfg0.win 11).blk t).view.set := by
  have h0 : (i 0).val < 2048 := (i 0).isLt
  let t : Fin cfg0.N := ⟨(i 0).val / 512, (show (i 0).val / 512 < 4 by omega).trans_le (by decide)⟩
  refine ⟨t, flush0_11 t, ?_⟩
  have h := ((cfg0.win 11).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 11).blk t).view.set) ((emb11 t _ _).trans e)) h

theorem final11 : (dats m 0 c).arrAt 11 cfg0.N = (dgp (dy m c) (proj m c) (yp m c) (wo m c) : Mat 2048 1024) :=
  (dats m 0 c).arrAt_eq_of_cover 11 (dgp (dy m c) (proj m c) (yp m c) (wo m c)) (fun t _ => wrote11 m c t) covered11

/-- What grid point `t` writes back to window 12 is its block of the array stated. -/
theorem wrote12 (t : Fin cfg0.N) :
    (dats m 0 c).flushed 12 t = ((cfg0.win 12).blk t).view.read (Elt Ideal) (dgl (dy m c) (proj m c) (yl m c) (wo m c) : Mat 2048 1024) := by
  rw [Value.flushed12]
  refine ext2 fun a b => ?_
  show out0_12 (iblk m c 0 t) (iblk m c 1 t) (iblk m c 2 t) (iblk m c 3 t) (iblk m c 4 t) (iblk m c 5 t) (iblk m c 6 t) (iblk m c 7 t) (ix2 a b)
    = (dgl (dy m c) (proj m c) (yl m c) (wo m c) : Mat 2048 1024) (((cfg0.win 12).blk t).view.emb (ix2 a b))
  have h : out0_12 (iblk m c 0 t) (iblk m c 1 t) (iblk m c 2 t) (iblk m c 3 t) (iblk m c 4 t) (iblk m c 5 t) (iblk m c 6 t) (iblk m c 7 t)
      = k0_pay1 (k0_pay7 (iblk m c 0 t) (iblk m c 7 t)) (k0_pay9 (iblk m c 2 t)) (iblk m c 4 t) := by
    unfold_out out0_12
    rw [View.canon_unit_zero zz]
    simp only [ld2, ld3]
  rw [h, emb12]
  rw [pay1, z_blk, sl_blk, iblk4]; rfl

/-- Every entry of window 12's array is in some grid point's block. -/
theorem covered12 (i : S2048x1024.Idx) : ∃ t : Fin cfg0.N, (cfg0.win 12).flush t = true ∧ i ∈ ((cfg0.win 12).blk t).view.set := by
  have h0 : (i 0).val < 2048 := (i 0).isLt
  let t : Fin cfg0.N := ⟨(i 0).val / 512, (show (i 0).val / 512 < 4 by omega).trans_le (by decide)⟩
  refine ⟨t, flush0_12 t, ?_⟩
  have h := ((cfg0.win 12).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 12).blk t).view.set) ((emb12 t _ _).trans e)) h

theorem final12 : (dats m 0 c).arrAt 12 cfg0.N = (dgl (dy m c) (proj m c) (yl m c) (wo m c) : Mat 2048 1024) :=
  (dats m 0 c).arrAt_eq_of_cover 12 (dgl (dy m c) (proj m c) (yl m c) (wo m c)) (fun t _ => wrote12 m c t) covered12

/-- What grid point `t` writes back to window 13 is its block of the array stated. -/
theorem wrote13 (t : Fin cfg0.N) :
    (dats m 0 c).flushed 13 t = ((cfg0.win 13).blk t).view.read (Elt Ideal) (dpm (dy m c) (proj m c) (wp m c) (wo m c) : Mat 2048 512) := by
  rw [Value.flushed13]
  refine ext2 fun a b => ?_
  show out0_13 (iblk m c 0 t) (iblk m c 1 t) (iblk m c 2 t) (iblk m c 3 t) (iblk m c 4 t) (iblk m c 5 t) (iblk m c 6 t) (iblk m c 7 t) (ix2 a b)
    = (dpm (dy m c) (proj m c) (wp m c) (wo m c) : Mat 2048 512) (((cfg0.win 13).blk t).view.emb (ix2 a b))
  have h : out0_13 (iblk m c 0 t) (iblk m c 1 t) (iblk m c 2 t) (iblk m c 3 t) (iblk m c 4 t) (iblk m c 5 t) (iblk m c 6 t) (iblk m c 7 t)
      = k0_pay4 (k0_pay7 (iblk m c 0 t) (iblk m c 7 t)) (k0_pay8 (iblk m c 1 t)) (iblk m c 5 t) := by
    unfold_out out0_13
    rw [View.canon_unit_zero zz]
    simp only [ld2, ld3]
  rw [h, emb13]
  rw [pay4]
  exact Finset.sum_congr rfl fun k _ => by rw [z_blk, sp_blk, iblk5]; rfl

/-- Every entry of window 13's array is in some grid point's block. -/
theorem covered13 (i : S2048x512.Idx) : ∃ t : Fin cfg0.N, (cfg0.win 13).flush t = true ∧ i ∈ ((cfg0.win 13).blk t).view.set := by
  have h0 : (i 0).val < 2048 := (i 0).isLt
  let t : Fin cfg0.N := ⟨(i 0).val / 512, (show (i 0).val / 512 < 4 by omega).trans_le (by decide)⟩
  refine ⟨t, flush0_13 t, ?_⟩
  have h := ((cfg0.win 13).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 13).blk t).view.set) ((emb13 t _ _).trans e)) h

theorem final13 : (dats m 0 c).arrAt 13 cfg0.N = (dpm (dy m c) (proj m c) (wp m c) (wo m c) : Mat 2048 512) :=
  (dats m 0 c).arrAt_eq_of_cover 13 (dpm (dy m c) (proj m c) (wp m c) (wo m c)) (fun t _ => wrote13 m c t) covered13

/-- What grid point `t` writes back to window 14 is its block of the array stated. -/
theorem wrote14 (t : Fin cfg0.N) :
    (dats m 0 c).flushed 14 t = ((cfg0.win 14).blk t).view.read (Elt Ideal) (dhl (dy m c) (proj m c) (wl m c) (wo m c) : Mat 2048 1280) := by
  rw [Value.flushed14]
  refine ext2 fun a b => ?_
  show out0_14 (iblk m c 0 t) (iblk m c 1 t) (iblk m c 2 t) (iblk m c 3 t) (iblk m c 4 t) (iblk m c 5 t) (iblk m c 6 t) (iblk m c 7 t) (ix2 a b)
    = (dhl (dy m c) (proj m c) (wl m c) (wo m c) : Mat 2048 1280) (((cfg0.win 14).blk t).view.emb (ix2 a b))
  have h : out0_14 (iblk m c 0 t) (iblk m c 1 t) (iblk m c 2 t) (iblk m c 3 t) (iblk m c 4 t) (iblk m c 5 t) (iblk m c 6 t) (iblk m c 7 t)
      = k0_pay5 (k0_pay7 (iblk m c 0 t) (iblk m c 7 t)) (k0_pay9 (iblk m c 2 t)) (iblk m c 6 t) := by
    unfold_out out0_14
    rw [View.canon_unit_zero zz]
    simp only [ld2, ld3]
  rw [h, emb14]
  rw [pay5]
  exact Finset.sum_congr rfl fun k _ => by rw [z_blk, sl_blk, iblk6]; rfl

/-- Every entry of window 14's array is in some grid point's block. -/
theorem covered14 (i : S2048x1280.Idx) : ∃ t : Fin cfg0.N, (cfg0.win 14).flush t = true ∧ i ∈ ((cfg0.win 14).blk t).view.set := by
  have h0 : (i 0).val < 2048 := (i 0).isLt
  let t : Fin cfg0.N := ⟨(i 0).val / 512, (show (i 0).val / 512 < 4 by omega).trans_le (by decide)⟩
  refine ⟨t, flush0_14 t, ?_⟩
  have h := ((cfg0.win 14).blk t).view.emb_mem_set (ix2 (⟨(i 0).val % 512, by omega⟩ : Fin 512) (i 1))
  have e : ix2 (row t ⟨(i 0).val % 512, by omega⟩) (i 1) = i :=
    (congrArg (fun q => ix2 q (i 1)) (Fin.ext (by show (i 0).val / 512 * 512 + (i 0).val % 512 = (i 0).val; omega))).trans (eq_ix2 i).symm
  exact Eq.mp (congrArg (fun q => q ∈ ((cfg0.win 14).blk t).view.set) ((emb14 t _ _).trans e)) h

theorem final14 : (dats m 0 c).arrAt 14 cfg0.N = (dhl (dy m c) (proj m c) (wl m c) (wo m c) : Mat 2048 1280) :=
  (dats m 0 c).arrAt_eq_of_cover 14 (dhl (dy m c) (proj m c) (wl m c) (wo m c)) (fun t _ => wrote14 m c t) covered14

end

/-- The gate's backward call leaves the stated arrays in its seven results and its arguments unchanged. -/
theorem run : θ_run defs (onTc (τ := τ) (main (F := Ideal))) ⟨m, fun _ => 0, ρ⟩ fun r => ∀ c : Dev nD,
      r.2.mem (c.tc.loc main_v3_0) = (dy m c : Mat 2048 1024)
      ∧ r.2.mem (c.tc.loc main_v3_1) = (dyp (dy m c) (proj m c) (wo m c) : Mat 2048 1024)
      ∧ r.2.mem (c.tc.loc main_v3_2) = (dyl (dy m c) (proj m c) (wo m c) : Mat 2048 1024)
      ∧ r.2.mem (c.tc.loc main_v3_3) = (dgp (dy m c) (proj m c) (yp m c) (wo m c) : Mat 2048 1024)
      ∧ r.2.mem (c.tc.loc main_v3_4) = (dgl (dy m c) (proj m c) (yl m c) (wo m c) : Mat 2048 1024)
      ∧ r.2.mem (c.tc.loc main_v3_5) = (dpm (dy m c) (proj m c) (wp m c) (wo m c) : Mat 2048 512)
      ∧ r.2.mem (c.tc.loc main_v3_6) = (dhl (dy m c) (proj m c) (wl m c) (wo m c) : Mat 2048 1280)
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6 :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2.1.trans (final14 m c), (h c).2.2.2.2.2.2.2⟩) (Value.run_blocks m ρ)

end Cert.Merge

end
-- ==== Proof.MergeReference.lean ====
/- The reference of the gate's backward call computes the arrays stated in `MergeSpec`. -/
module

public import proofs.«01_k».proof.Proof.Gen.ReferenceIdeal.Run
public import proofs.«01_k».proof.Proof.Gen.ReferenceIdeal.Read
public import proofs.«01_k».proof.Proof.MergeSpec

@[expose] public section

noncomputable section

namespace Cert.Merge.Ref

open Cert.ReferenceIdeal Cert.ReferenceIdeal.Gen Cert.ReferenceIdeal.Read Cert.Common Idealize.ShloMosaic Idealize.ShloMosaic.TcCoe
open Idealize.ShloMosaic.ValueIdx Idealize.SL.Sem
open scoped BigOperators

/-- Column `b` of the left half of a matrix of 2048 columns. -/
abbrev lo (b : Fin 1024) : Fin 2048 := ⟨b.val, by omega⟩

/-- Column `b` of its right half. -/
abbrev hi (b : Fin 1024) : Fin 2048 := ⟨1024 + b.val, by omega⟩

variable (x0 : Mat 2048 1024) (x1 : Mat 2048 5120) (x2 x3 : Mat 2048 1024) (x4 : Mat 512 1024) (x5 : Mat 1280 1024) (x6 : Mat 1024 1024)

/-- Both gates, side by side. -/
theorem gate (a : Fin 2048) (b : Fin 2048) :
    val_main_v9 (F := Ideal) x1 (ix2 a b) = sg (x1 (ix2 a ⟨3072 + b.val, by omega⟩)) := by
  have e : idx_main_v0 (ix2 a b) = ix2 a ⟨3072 + b.val, by omega⟩ := by
    funext x; match x with
    | ⟨0, _⟩ => rfl
    | ⟨1, _⟩ => rfl
  rw [val_main_v9_apply, val_main_v8_apply, val_main_v7_apply, val_main_v6_apply, val_main_v5_apply, val_main_v4_apply,
    val_main_v1_apply, val_main_v0_apply, e]
  show Ideal.div (Ideal.ofBits .f32 0x3F800000#32) (Ideal.ofBits .f32 0x3F800000#32 + Ideal.exp (-(x1 _))) = _
  rw [one_word]; rfl

theorem gate_lo (a : Fin 2048) (b : Fin 1024) : val_main_v13 (F := Ideal) x1 (ix2 a b) = sg (x1 (ix2 a (pc b))) := by
  rw [val_main_v13_apply]
  have e : idx_main_v13 (ix2 a b) = ix2 a (lo b) := by
    funext x; match x with
    | ⟨0, _⟩ => rfl
    | ⟨1, _⟩ => rfl
  rw [e, gate]

theorem gate_hi (a : Fin 2048) (b : Fin 1024) : val_main_v14 (F := Ideal) x1 (ix2 a b) = sg (x1 (ix2 a (lc b))) := by
  rw [val_main_v14_apply]
  have e : idx_main_v14 (ix2 a b) = ix2 a (hi b) := by
    funext x; match x with
    | ⟨0, _⟩ => rfl
    | ⟨1, _⟩ => rfl
  rw [e, gate]
  exact congrArg (fun q => sg (x1 (ix2 a q))) (Fin.ext (by show 3072 + (1024 + b.val) = 4096 + b.val; omega))

/-- The merged rows' gradient. -/
theorem dz_eq (a : Fin 2048) (b : Fin 1024) : val_main_v20 (F := Ideal) x0 x6 (ix2 a b) = dz x0 x6 a b :=
  dot_nt (φ₁ := .f32) (φ₂ := .f32) _ rfl none x0 (val_main_v18 (F := Ideal) x6) a b

theorem dyp_eq : val_main_v36 (F := Ideal) x0 x1 x6 = dyp x0 x1 x6 := ext2 fun a b => by
  rw [val_main_v36_apply, val_main_v23_apply, gate_lo, dz_eq]
  exact mul_comm _ _

theorem dyl_eq : val_main_v37 (F := Ideal) x0 x1 x6 = dyl x0 x1 x6 := ext2 fun a b => by
  rw [val_main_v37_apply, val_main_v21_apply, gate_hi, dz_eq]
  exact mul_comm _ _

theorem dpm_eq : val_main_v40 (F := Ideal) x0 x1 x4 x6 = dpm x0 x1 x4 x6 := ext2 fun a b => by
  rw [val_main_v40_apply]
  refine (dot_nt (φ₁ := .f32) (φ₂ := .f32) _ rfl none (val_main_v23 (F := Ideal) x0 x1 x6) (val_main_v29 (F := Ideal) x4) a b).trans
    (Finset.sum_congr rfl fun k _ => congrArg (· * x4 (ix2 b k)) ?_)
  exact congrFun (dyp_eq x0 x1 x6) (ix2 a k)

theorem dhl_eq : val_main_v41 (F := Ideal) x0 x1 x5 x6 = dhl x0 x1 x5 x6 := ext2 fun a b => by
  rw [val_main_v41_apply]
  refine (dot_nt (φ₁ := .f32) (φ₂ := .f32) _ rfl none (val_main_v21 (F := Ideal) x0 x1 x6) (val_main_v31 (F := Ideal) x5) a b).trans
    (Finset.sum_congr rfl fun k _ => congrArg (· * x5 (ix2 b k)) ?_)
  exact congrFun (dyl_eq x0 x1 x6) (ix2 a k)

/-- The right half of the logits' gradients before the gates' derivative, padded with zeros on its left. -/
theorem pad_hi (a : Fin 2048) (b : Fin 1024) :
    val_main_v25 (F := Ideal) x0 x3 x6 (ix2 a (hi b)) = dz x0 x6 a b * x3 (ix2 a b) := by
  unfold val_main_v25
  refine (pad_apply_of_inside _ _ _ _ _ _ _ _ (ix2 a b) fun x => ?_).trans ?_
  · match x with
    | ⟨0, _⟩ => show a.val = 0 + a.val * (0 + 1); omega
    | ⟨1, _⟩ => show 1024 + b.val = 1024 + b.val * (0 + 1); omega
  · rw [val_main_v22_apply, dz_eq]; rfl

theorem pad_hi_zero (a : Fin 2048) (b : Fin 1024) : val_main_v25 (F := Ideal) x0 x3 x6 (ix2 a (lo b)) = 0 := by
  unfold val_main_v25
  refine (pad_apply_of_not_inside _ _ _ _ _ _ _ _ (1 : Fin 2) ?_).trans Ideal.ofBits_zero_f32
  rintro ⟨h, -⟩
  have h' : 1024 ≤ b.val := h
  omega

theorem pad_lo (a : Fin 2048) (b : Fin 1024) :
    val_main_v26 (F := Ideal) x0 x2 x6 (ix2 a (lo b)) = dz x0 x6 a b * x2 (ix2 a b) := by
  unfold val_main_v26
  refine (pad_apply_of_inside _ _ _ _ _ _ _ _ (ix2 a b) fun x => ?_).trans ?_
  · match x with
    | ⟨0, _⟩ => show a.val = 0 + a.val * (0 + 1); omega
    | ⟨1, _⟩ => show b.val = 0 + b.val * (0 + 1); omega
  · rw [val_main_v24_apply, dz_eq]; rfl

theorem pad_lo_zero (a : Fin 2048) (b : Fin 1024) : val_main_v26 (F := Ideal) x0 x2 x6 (ix2 a (hi b)) = 0 := by
  unfold val_main_v26
  refine (pad_apply_of_not_inside _ _ _ _ _ _ _ _ (1 : Fin 2) ?_).trans Ideal.ofBits_zero_f32
  rintro ⟨-, -, h⟩
  have h' : (1024 + b.val - 0) / (0 + 1) < 1024 := h
  omega

/-- A gate times one minus it. -/
theorem slope (a : Fin 2048) (b : Fin 2048) : val_main_v12 (F := Ideal) x1 (ix2 a b)
    = sg (x1 (ix2 a ⟨3072 + b.val, by omega⟩)) * (1 - sg (x1 (ix2 a ⟨3072 + b.val, by omega⟩))) := by
  rw [val_main_v12_apply, val_main_v11_apply, val_main_v10_apply, gate]
  show sg _ * (Ideal.ofBits .f32 0x3F800000#32 - sg _) = _
  rw [one_word]

theorem dgp_eq : val_main_v38 (F := Ideal) x0 x1 x2 x3 x6 = dgp x0 x1 x2 x6 := ext2 fun a b => by
  rw [val_main_v38_apply, val_main_v33_apply]
  have e : idx_main_v33 (ix2 a b) = ix2 a (lo b) := by
    funext x; match x with
    | ⟨0, _⟩ => rfl
    | ⟨1, _⟩ => rfl
  rw [e, val_main_v28_apply, val_main_v27_apply, slope, pad_hi_zero, pad_lo]
  show (0 + dz x0 x6 a b * x2 (ix2 a b)) * (sg (x1 (ix2 a (pc b))) * (1 - sg (x1 (ix2 a (pc b))))) = _
  rw [zero_add, ← mul_assoc]
  rfl

theorem dgl_eq : val_main_v39 (F := Ideal) x0 x1 x2 x3 x6 = dgl x0 x1 x3 x6 := ext2 fun a b => by
  rw [val_main_v39_apply, val_main_v34_apply]
  have e : idx_main_v34 (ix2 a b) = ix2 a (hi b) := by
    funext x; match x with
    | ⟨0, _⟩ => rfl
    | ⟨1, _⟩ => rfl
  rw [e, val_main_v28_apply, val_main_v27_apply, slope, pad_hi, pad_lo_zero]
  have h : (⟨3072 + (hi b).val, by omega⟩ : Fin 5120) = lc b := Fin.ext (by show 3072 + (1024 + b.val) = 4096 + b.val; omega)
  rw [h]
  show (dz x0 x6 a b * x3 (ix2 a b) + 0) * (sg (x1 (ix2 a (lc b))) * (1 - sg (x1 (ix2 a (lc b))))) = _
  rw [add_zero, ← mul_assoc]
  rfl

variable (m : (ℓ : Loc nD τ sig) → Buf (Elt Ideal) ℓ) (ρ : Dev nD → PrngReg)

/-- The reference leaves the stated arrays in its seven results and its arguments unchanged. -/
theorem run : θ_run defs (onTc (τ := τ) (main (F := Ideal))) ⟨m, fun _ => 0, ρ⟩ fun r => ∀ c : Dev nD,
      r.2.mem (c.tc.loc main_v35) = (m (c.tc.loc main_arg0) : Mat 2048 1024)
      ∧ r.2.mem (c.tc.loc main_v36) = dyp (m (c.tc.loc main_arg0)) (m (c.tc.loc main_arg1)) (m (c.tc.loc main_arg6))
      ∧ r.2.mem (c.tc.loc main_v37) = dyl (m (c.tc.loc main_arg0)) (m (c.tc.loc main_arg1)) (m (c.tc.loc main_arg6))
      ∧ r.2.mem (c.tc.loc main_v38) = dgp (m (c.tc.loc main_arg0)) (m (c.tc.loc main_arg1)) (m (c.tc.loc main_arg2)) (m (c.tc.loc main_arg6))
      ∧ r.2.mem (c.tc.loc main_v39) = dgl (m (c.tc.loc main_arg0)) (m (c.tc.loc main_arg1)) (m (c.tc.loc main_arg3)) (m (c.tc.loc main_arg6))
      ∧ r.2.mem (c.tc.loc main_v40) = dpm (m (c.tc.loc main_arg0)) (m (c.tc.loc main_arg1)) (m (c.tc.loc main_arg4)) (m (c.tc.loc main_arg6))
      ∧ r.2.mem (c.tc.loc main_v41) = dhl (m (c.tc.loc main_arg0)) (m (c.tc.loc main_arg1)) (m (c.tc.loc main_arg5)) (m (c.tc.loc main_arg6))
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6 :=
  (θ_run defs _ _).mono (fun _ h c => ⟨(h c).1.trans ((val_main_v35_eq _).trans rfl),
    (h c).2.1.trans ((val_main_v36_eq _ _ _).trans (dyp_eq _ _ _)),
    (h c).2.2.1.trans ((val_main_v37_eq _ _ _).trans (dyl_eq _ _ _)),
    (h c).2.2.2.1.trans ((val_main_v38_eq _ _ _ _ _).trans (dgp_eq _ _ _ _ _)),
    (h c).2.2.2.2.1.trans ((val_main_v39_eq _ _ _ _ _).trans (dgl_eq _ _ _ _ _)),
    (h c).2.2.2.2.2.1.trans ((val_main_v40_eq _ _ _ _).trans (dpm_eq _ _ _ _)),
    (h c).2.2.2.2.2.2.1.trans ((val_main_v41_eq _ _ _ _).trans (dhl_eq _ _ _ _)), (h c).2.2.2.2.2.2.2⟩) (Value.run m ρ)

end Cert.Merge.Ref

end
-- ==== Proof.DwUpClaim.lean ====
/- The gradient of the feed-forward up-projection: what the call's run leaves in its two result arrays, as a function of the
   argument arrays, and the same two arrays from the reference. -/
module

public import proofs.«01_k».proof.Proof.Gen.DwUpIdeal.Value
public import proofs.«01_k».proof.Proof.Gen.DwUpReferenceIdeal.Run
public import proofs.«01_k».proof.Proof.Gen.DwUpReferenceIdeal.Read
public import proofs.«01_k».proof.Proof.Common

@[expose] public section

set_option maxRecDepth 16384

noncomputable section

namespace Cert.DwUp

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 5632) (B : Mat 2048 1024) : Stk4 1 8 704 1024 := fun i =>
  ∑ k : Fin 2048, A (ix2 k ⟨(i 1).val * 704 + (i 2).val, by have h1 : (i 1).val < 8 := (i 1).isLt; have h2 : (i 2).val < 704 := (i 2).isLt; omega⟩) * B (ix2 k (i 3))

section
open Cert.DwUpIdeal Cert.DwUpIdeal.Gen

variable (m : (ℓ : Loc nD τ sig) → Buf (Elt Ideal) ℓ) (ρ : Dev nD → PrngReg)

/-- The gradient, of the arguments. -/
abbrev G (c : Dev nD) : Stk4 1 8 704 1024 := grad (m (c.tc.loc main_arg1)) (m (c.tc.loc main_arg0))

/-- The number of grid points. -/
theorem lt_N (t : Fin cfg0.N) : t.val < 8 := t.isLt.trans_le (by decide)

/-- The first operand as the region finds it: the columns cut into 8 matrices of 704. -/
theorem V_main_v1 (c : Dev nD) (e : Fin 8) (a : Fin 2048) (b : Fin 704) :
    V m c main_v1 (ix3 e a b) = m (c.tc.loc main_arg1) (ix2 a ⟨e.val * 704 + b.val, by omega⟩) := by
  have h : V m c main_v1 = transpose S8x2048x704 [1, 0, 2]
      (shapeCast S2048x8x704 (m (c.tc.loc main_arg1)) shapeCasts_S2048x5632_S2048x8x704) transposes_S2048x8x704_S8x2048x704_1_0_2 := by
    show StableHlo.after hostOps0 _ (Proc.devRef .tc main_v1) = _
    after_results
    rfl
  rw [h]
  refine (transpose_apply [1, 0, 2] _ transposes_S2048x8x704_S8x2048x704_1_0_2 (ix3 e a b) (ix3 a e b) (fun x => ?_)).trans ?_
  · match x with
    | ⟨0, _⟩ => rfl
    | ⟨1, _⟩ => rfl
    | ⟨2, _⟩ => rfl
  · refine shapeCast_apply _ shapeCasts_S2048x5632_S2048x8x704 (ix3 a e b) (ix2 a ⟨e.val * 704 + b.val, by omega⟩) ?_
    rw [Shape.rowMajor_val_two, Shape.rowMajor_val_three]
    show a.val * 5632 + (e.val * 704 + b.val) = (a.val * 8 + e.val) * 704 + b.val
    omega

/-- Where each window's block lies at grid point `t`. -/
theorem idx : ∀ t : Fin cfg0.N, (win0_0.index t 0 = t.val ∧ win0_0.index t 1 = 0 ∧ win0_0.index t 2 = 0)
    ∧ (win0_1.index t 0 = 0 ∧ win0_1.index t 1 = 0)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (e : Fin 1) (a : Fin 2048) (b : Fin 704) :
    ((cfg0.win 0).blk t).view.emb (ix3 e a b) = ix3 ⟨t.val, lt_N t⟩ a b := by
  obtain ⟨h0, h1, h2⟩ := (idx t).1
  funext x; apply Fin.ext
  match x with
  | ⟨0, _⟩ => show win0_0.index t 0 * 1 + 1 * e.val = t.val; omega
  | ⟨1, _⟩ => show win0_0.index t 1 * 2048 + 1 * a.val = a.val; omega
  | ⟨2, _⟩ => show win0_0.index t 2 * 704 + 1 * b.val = b.val; omega

/-- An index of window 1's block as an index of its array. -/
theorem emb1 (t : Fin cfg0.N) (a : Fin 2048) (b : Fin 1024) :
    ((cfg0.win 1).blk t).view.emb (ix2 a b) = ix2 a b := by
  obtain ⟨h0, h1⟩ := (idx t).2.1
  funext x; apply Fin.ext
  match x with
  | ⟨0, _⟩ => show win0_1.index t 0 * 2048 + 1 * a.val = a.val; omega
  | ⟨1, _⟩ => show win0_1.index t 1 * 1024 + 1 * b.val = b.val; omega

/-- An index of window 2's block as an index of its array. -/
theorem emb2 (t : Fin cfg0.N) (l : Fin 1) (e : Fin 1) (a : Fin 704) (b : Fin 1024) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 704 + 1 * a.val = a.val; omega
  | ⟨3, _⟩ => show win0_2.index t 3 * 1024 + 1 * b.val = b.val; omega

/-- The first operand's block at an entry. -/
theorem iblk0 (c : Dev nD) (t : Fin cfg0.N) (k : Fin 2048) (a : Fin 704) :
    iblk m c 0 t (ix3 0 k a) = (m (c.tc.loc main_arg1)) (ix2 k ⟨t.val * 704 + a.val, by have := lt_N t; omega⟩) := by
  show V m c main_v1 (((cfg0.win 0).blk t).view.emb (ix3 0 k a)) = _
  rw [emb0, V_main_v1]

/-- The second operand's block at an entry. -/
theorem iblk1 (c : Dev nD) (t : Fin cfg0.N) (k : Fin 2048) (b : Fin 1024) :
    iblk m c 1 t (ix2 k b) = (m (c.tc.loc main_arg0)) (ix2 k b) := by
  show V m c main_arg0 (((cfg0.win 1).blk t).view.emb (ix2 k b)) = _
  rw [emb1, V_main_arg0]

/-- One block's product, added to a zero accumulator. -/
theorem pay2 (x0 : Vec Ideal S1x2048x704 .bf16) (x1 : Vec Ideal S2048x1024 .bf16) (a : Fin 704) (b : Fin 1024) :
    k0_pay2 (F := Ideal) x0 x1 (k0_pay1 (F := Ideal)) (ix2 a b) = ∑ k : Fin 2048, x0 (ix3 0 k a) * x1 (ix2 k b) := by
  unfold k0_pay2 k0_pay1
  simp only [shapeCast_self]
  refine (congrArg₂ (· + ·) Ideal.ofBits_zero_f32 rfl).trans ((zero_add _).trans ?_)
  have h : ∑ k : Fin 2048, x0 (ix3 0 k a) * x1 (ix2 k b)
      = ∑ k : Fin 2048, shapeCast S2048x704 x0 shapeCasts_S1x2048x704_S2048x704 (ix2 k a) * x1 (ix2 k b) :=
    Finset.sum_congr rfl fun k _ => congrArg (fun z : EReal => z * x1 (ix2 k b)) (cast_drop x0 _ k a).symm
  rw [h]
  exact matmul_tn _ rfl none _ _ a b

/-- The block's product as an entry of the gradient. -/
theorem blk (c : Dev nD) (t : Fin cfg0.N) (l : Fin 1) (a : Fin 704) (b : Fin 1024) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S704x1024) _ zz, View.readCov_unit_zero (S := S704x1024) _ zz,
      readAt_whole (S := S1x2048x704) _ _ zzz, readAt_whole (S := S2048x1024) _ _ zz]
  rw [h, emb2, ← blk m c t l a b]
  unfold k0_pay3
  exact cast_add2 _ _ l e a b

/-- Every entry of window 2's array is in some grid point's block. -/
theorem covered2 (i : S1x8x704x1024.Idx) : ∃ t : Fin cfg0.N, (cfg0.win 2).flush t = true ∧ i ∈ ((cfg0.win 2).blk t).view.set := by
  let t : Fin cfg0.N := ⟨(i 1).val, (show (i 1).val < 8 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 8) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S704x1024) _ zz, View.readCov_unit_zero (S := S704x1024) _ zz,
      readAt_whole (S := S1x2048x704) _ _ zzz, readAt_whole (S := S2048x1024) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v2_0) = (grad (m (c.tc.loc main_arg1)) (m (c.tc.loc main_arg0)) : Stk4 1 8 704 1024)
      ∧ r.2.mem (c.tc.loc main_v2_1) = (grad (m (c.tc.loc main_arg1)) (m (c.tc.loc main_arg0)) : Stk4 1 8 704 1024)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwUpReferenceIdeal Cert.DwUpReferenceIdeal.Gen Cert.DwUpReferenceIdeal.Read

/-- The reference's gradient at an entry. -/
theorem grad_eq (x0 : Mat 2048 1024) (x1 : Mat 2048 5632) : val_main_v5 (F := Ideal) x0 x1 = grad x1 x0 := ext4 fun l e a b => by
  rw [val_main_v5_apply]
  have h : idx_main_v5 (ix4 l e a b) = ix2 (⟨e.val * 704 + a.val, by omega⟩ : Fin 5632) b := by
    funext x; apply Fin.ext
    match x with
    | ⟨0, _⟩ => show (((l.val * 8 + e.val) * 704 + a.val) * 1024 + b.val) / 1024 = e.val * 704 + a.val; omega
    | ⟨1, _⟩ => show (((l.val * 8 + e.val) * 704 + a.val) * 1024 + b.val) % 1024 = b.val; omega
  rw [h, val_main_v4_apply, val_main_v3_apply]
  have h' : idx_main_v3 (idx_main_v4 (ix2 (⟨e.val * 704 + a.val, by omega⟩ : Fin 5632) b)) = ix2 (⟨e.val * 704 + a.val, by omega⟩ : Fin 5632) b := by
    funext x; match x with
    | ⟨0, _⟩ => rfl
    | ⟨1, _⟩ => rfl
  rw [h']
  unfold val_main_v2
  exact dot_tn (φ₁ := .f32) (φ₂ := .f32) _ rfl none (val_main_v1 (F := Ideal) x1) (val_main_v0 (F := Ideal) x0) _ b

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v5) = (grad (m (c.tc.loc main_arg1)) (m (c.tc.loc main_arg0)) : Stk4 1 8 704 1024)
      ∧ r.2.mem (c.tc.loc main_v6) = (grad (m (c.tc.loc main_arg1)) (m (c.tc.loc main_arg0)) : Stk4 1 8 704 1024)
      ∧ same r.2.mem m c main_arg0
      ∧ same r.2.mem m c main_arg1 :=
  (θ_run defs _ _).mono (fun _ h c => ⟨(h c).1.trans ((val_main_v5_eq _ _).trans (grad_eq _ _)),
    (h c).2.1.trans ((val_main_v6_eq _ _).trans (grad_eq _ _)), (h c).2.2⟩) (Value.run m ρ)

end Ref

end Cert.DwUp

end
-- ==== Proof.DwDownClaim.lean ====
/- The gradient of the feed-forward down-projection: what the call's run leaves in its two result arrays, as a function of the
   argument arrays, and the same two arrays from the reference. -/
module

public import proofs.«01_k».proof.Proof.Gen.DwDownIdeal.Value
public import proofs.«01_k».proof.Proof.Gen.DwDownReferenceIdeal.Run
public import proofs.«01_k».proof.Proof.Gen.DwDownReferenceIdeal.Read
public import proofs.«01_k».proof.Proof.Common

@[expose] public section

set_option maxRecDepth 16384

noncomputable section

namespace Cert.DwDown

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 2816) (B : Mat 2048 1024) : Stk4 1 4 704 1024 := fun i =>
  ∑ k : Fin 2048, A (ix2 k ⟨(i 1).val * 704 + (i 2).val, by have h1 : (i 1).val < 4 := (i 1).isLt; have h2 : (i 2).val < 704 := (i 2).isLt; omega⟩) * B (ix2 k (i 3))

section
open Cert.DwDownIdeal Cert.DwDownIdeal.Gen

variable (m : (ℓ : Loc nD τ sig) → Buf (Elt Ideal) ℓ) (ρ : Dev nD → PrngReg)

/-- The gradient, of the arguments. -/
abbrev G (c : Dev nD) : Stk4 1 4 704 1024 := grad (m (c.tc.loc main_arg0)) (m (c.tc.loc main_arg1))

/-- The number of grid points. -/
theorem lt_N (t : Fin cfg0.N) : t.val < 4 := t.isLt.trans_le (by decide)

/-- The first operand as the region finds it: the columns cut into 4 matrices of 704. -/
theorem V_main_v1 (c : Dev nD) (e : Fin 4) (a : Fin 2048) (b : Fin 704) :
    V m c main_v1 (ix3 e a b) = m (c.tc.loc main_arg0) (ix2 a ⟨e.val * 704 + b.val, by omega⟩) := by
  have h : V m c main_v1 = transpose S4x2048x704 [1, 0, 2]
      (shapeCast S2048x4x704 (m (c.tc.loc main_arg0)) shapeCasts_S2048x2816_S2048x4x704) transposes_S2048x4x704_S4x2048x704_1_0_2 := by
    show StableHlo.after hostOps0 _ (Proc.devRef .tc main_v1) = _
    after_results
    rfl
  rw [h]
  refine (transpose_apply [1, 0, 2] _ transposes_S2048x4x704_S4x2048x704_1_0_2 (ix3 e a b) (ix3 a e b) (fun x => ?_)).trans ?_
  · match x with
    | ⟨0, _⟩ => rfl
    | ⟨1, _⟩ => rfl
    | ⟨2, _⟩ => rfl
  · refine shapeCast_apply _ shapeCasts_S2048x2816_S2048x4x704 (ix3 a e b) (ix2 a ⟨e.val * 704 + b.val, by omega⟩) ?_
    rw [Shape.rowMajor_val_two, Shape.rowMajor_val_three]
    show a.val * 2816 + (e.val * 704 + b.val) = (a.val * 4 + e.val) * 704 + b.val
    omega

/-- Where each window's block lies at grid point `t`. -/
theorem idx : ∀ t : Fin cfg0.N, (win0_0.index t 0 = t.val ∧ win0_0.index t 1 = 0 ∧ win0_0.index t 2 = 0)
    ∧ (win0_1.index t 0 = 0 ∧ win0_1.index t 1 = 0)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (e : Fin 1) (a : Fin 2048) (b : Fin 704) :
    ((cfg0.win 0).blk t).view.emb (ix3 e a b) = ix3 ⟨t.val, lt_N t⟩ a b := by
  obtain ⟨h0, h1, h2⟩ := (idx t).1
  funext x; apply Fin.ext
  match x with
  | ⟨0, _⟩ => show win0_0.index t 0 * 1 + 1 * e.val = t.val; omega
  | ⟨1, _⟩ => show win0_0.index t 1 * 2048 + 1 * a.val = a.val; omega
  | ⟨2, _⟩ => show win0_0.index t 2 * 704 + 1 * b.val = b.val; omega

/-- An index of window 1's block as an index of its array. -/
theorem emb1 (t : Fin cfg0.N) (a : Fin 2048) (b : Fin 1024) :
    ((cfg0.win 1).blk t).view.emb (ix2 a b) = ix2 a b := by
  obtain ⟨h0, h1⟩ := (idx t).2.1
  funext x; apply Fin.ext
  match x with
  | ⟨0, _⟩ => show win0_1.index t 0 * 2048 + 1 * a.val = a.val; omega
  | ⟨1, _⟩ => show win0_1.index t 1 * 1024 + 1 * b.val = b.val; omega

/-- An index of window 2's block as an index of its array. -/
theorem emb2 (t : Fin cfg0.N) (l : Fin 1) (e : Fin 1) (a : Fin 704) (b : Fin 1024) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 704 + 1 * a.val = a.val; omega
  | ⟨3, _⟩ => show win0_2.index t 3 * 1024 + 1 * b.val = b.val; omega

/-- The first operand's block at an entry. -/
theorem iblk0 (c : Dev nD) (t : Fin cfg0.N) (k : Fin 2048) (a : Fin 704) :
    iblk m c 0 t (ix3 0 k a) = (m (c.tc.loc main_arg0)) (ix2 k ⟨t.val * 704 + a.val, by have := lt_N t; omega⟩) := by
  show V m c main_v1 (((cfg0.win 0).blk t).view.emb (ix3 0 k a)) = _
  rw [emb0, V_main_v1]

/-- The second operand's block at an entry. -/
theorem iblk1 (c : Dev nD) (t : Fin cfg0.N) (k : Fin 2048) (b : Fin 1024) :
    iblk m c 1 t (ix2 k b) = (m (c.tc.loc main_arg1)) (ix2 k b) := by
  show V m c main_arg1 (((cfg0.win 1).blk t).view.emb (ix2 k b)) = _
  rw [emb1, V_main_arg1]

/-- One block's product, added to a zero accumulator. -/
theorem pay2 (x0 : Vec Ideal S1x2048x704 .bf16) (x1 : Vec Ideal S2048x1024 .bf16) (a : Fin 704) (b : Fin 1024) :
    k0_pay2 (F := Ideal) x0 x1 (k0_pay1 (F := Ideal)) (ix2 a b) = ∑ k : Fin 2048, x0 (ix3 0 k a) * x1 (ix2 k b) := by
  unfold k0_pay2 k0_pay1
  simp only [shapeCast_self]
  refine (congrArg₂ (· + ·) Ideal.ofBits_zero_f32 rfl).trans ((zero_add _).trans ?_)
  have h : ∑ k : Fin 2048, x0 (ix3 0 k a) * x1 (ix2 k b)
      = ∑ k : Fin 2048, shapeCast S2048x704 x0 shapeCasts_S1x2048x704_S2048x704 (ix2 k a) * x1 (ix2 k b) :=
    Finset.sum_congr rfl fun k _ => congrArg (fun z : EReal => z * x1 (ix2 k b)) (cast_drop x0 _ k a).symm
  rw [h]
  exact matmul_tn _ rfl none _ _ a b

/-- The block's product as an entry of the gradient. -/
theorem blk (c : Dev nD) (t : Fin cfg0.N) (l : Fin 1) (a : Fin 704) (b : Fin 1024) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S704x1024) _ zz, View.readCov_unit_zero (S := S704x1024) _ zz,
      readAt_whole (S := S1x2048x704) _ _ zzz, readAt_whole (S := S2048x1024) _ _ zz]
  rw [h, emb2, ← blk m c t l a b]
  unfold k0_pay3
  exact cast_add2 _ _ l e a b

/-- Every entry of window 2's array is in some grid point's block. -/
theorem covered2 (i : S1x4x704x1024.Idx) : ∃ t : Fin cfg0.N, (cfg0.win 2).flush t = true ∧ i ∈ ((cfg0.win 2).blk t).view.set := by
  let t : Fin cfg0.N := ⟨(i 1).val, (show (i 1).val < 4 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 4) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S704x1024) _ zz, View.readCov_unit_zero (S := S704x1024) _ zz,
      readAt_whole (S := S1x2048x704) _ _ zzz, readAt_whole (S := S2048x1024) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v2_0) = (grad (m (c.tc.loc main_arg0)) (m (c.tc.loc main_arg1)) : Stk4 1 4 704 1024)
      ∧ r.2.mem (c.tc.loc main_v2_1) = (grad (m (c.tc.loc main_arg0)) (m (c.tc.loc main_arg1)) : Stk4 1 4 704 1024)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwDownReferenceIdeal Cert.DwDownReferenceIdeal.Gen Cert.DwDownReferenceIdeal.Read

/-- The reference's gradient at an entry. -/
theorem grad_eq (x0 : Mat 2048 2816) (x1 : Mat 2048 1024) : val_main_v4 (F := Ideal) x0 x1 = grad x0 x1 := ext4 fun l e a b => by
  rw [val_main_v4_apply]
  have h : idx_main_v4 (ix4 l e a b) = ix2 (⟨e.val * 704 + a.val, by omega⟩ : Fin 2816) b := by
    funext x; apply Fin.ext
    match x with
    | ⟨0, _⟩ => show (((l.val * 4 + e.val) * 704 + a.val) * 1024 + b.val) / 1024 = e.val * 704 + a.val; omega
    | ⟨1, _⟩ => show (((l.val * 4 + e.val) * 704 + a.val) * 1024 + b.val) % 1024 = b.val; omega
  rw [h, val_main_v3_apply]
  have h' : idx_main_v3 (ix2 (⟨e.val * 704 + a.val, by omega⟩ : Fin 2816) b) = ix2 b (⟨e.val * 704 + a.val, by omega⟩ : Fin 2816) := by
    funext x; match x with
    | ⟨0, _⟩ => rfl
    | ⟨1, _⟩ => rfl
  rw [h']
  unfold val_main_v2
  refine (dot_tn (φ₁ := .f32) (φ₂ := .f32) _ rfl none (val_main_v1 (F := Ideal) x1) (val_main_v0 (F := Ideal) x0) b _).trans ?_
  exact Finset.sum_congr rfl fun k _ => mul_comm _ _

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v4) = (grad (m (c.tc.loc main_arg0)) (m (c.tc.loc main_arg1)) : Stk4 1 4 704 1024)
      ∧ r.2.mem (c.tc.loc main_v5) = (grad (m (c.tc.loc main_arg0)) (m (c.tc.loc main_arg1)) : Stk4 1 4 704 1024)
      ∧ same r.2.mem m c main_arg0
      ∧ same r.2.mem m c main_arg1 :=
  (θ_run defs _ _).mono (fun _ h c => ⟨(h c).1.trans ((val_main_v4_eq _ _).trans (grad_eq _ _)),
    (h c).2.1.trans ((val_main_v5_eq _ _).trans (grad_eq _ _)), (h c).2.2⟩) (Value.run m ρ)

end Ref

end Cert.DwDown

end
-- ==== Proof.DwInClaim.lean ====
/- The gradient of the input projection: what the call's run leaves in its two result arrays, as a function of the
   argument arrays, and the same two arrays from the reference. -/
module

public import proofs.«01_k».proof.Proof.Gen.DwInIdeal.Value
public import proofs.«01_k».proof.Proof.Gen.DwInReferenceIdeal.Run
public import proofs.«01_k».proof.Proof.Gen.DwInReferenceIdeal.Read
public import proofs.«01_k».proof.Proof.Common

@[expose] public section

set_option maxRecDepth 16384

noncomputable section

namespace Cert.DwIn

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 1024) (B : Mat 2048 5120) : Stk4 1 8 1024 640 := fun i =>
  ∑ k : Fin 2048, A (ix2 k (i 2)) * B (ix2 k ⟨(i 1).val * 640 + (i 3).val, by have h1 : (i 1).val < 8 := (i 1).isLt; have h3 : (i 3).val < 640 := (i 3).isLt; omega⟩)

section
open Cert.DwInIdeal Cert.DwInIdeal.Gen

variable (m : (ℓ : Loc nD τ sig) → Buf (Elt Ideal) ℓ) (ρ : Dev nD → PrngReg)

/-- The gradient, of the arguments. -/
abbrev G (c : Dev nD) : Stk4 1 8 1024 640 := grad (m (c.tc.loc main_arg0)) (m (c.tc.loc main_arg1))

/-- The number of grid points. -/
theorem lt_N (t : Fin cfg0.N) : t.val < 8 := t.isLt.trans_le (by decide)

/-- Where each window's block lies at grid point `t`. -/
theorem idx : ∀ t : Fin cfg0.N, (win0_0.index t 0 = 0 ∧ win0_0.index t 1 = 0)
    ∧ (win0_1.index t 0 = 0 ∧ win0_1.index t 1 = t.val)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (a : Fin 2048) (b : Fin 1024) :
    ((cfg0.win 0).blk t).view.emb (ix2 a b) = ix2 a b := by
  obtain ⟨h0, h1⟩ := (idx t).1
  funext x; apply Fin.ext
  match x with
  | ⟨0, _⟩ => show win0_0.index t 0 * 2048 + 1 * a.val = a.val; omega
  | ⟨1, _⟩ => show win0_0.index t 1 * 1024 + 1 * b.val = b.val; omega

/-- An index of window 1's block as an index of its array. -/
theorem emb1 (t : Fin cfg0.N) (a : Fin 2048) (b : Fin 640) :
    ((cfg0.win 1).blk t).view.emb (ix2 a b) = ix2 a ⟨t.val * 640 + b.val, by have := lt_N t; omega⟩ := by
  obtain ⟨h0, h1⟩ := (idx t).2.1
  funext x; apply Fin.ext
  match x with
  | ⟨0, _⟩ => show win0_1.index t 0 * 2048 + 1 * a.val = a.val; omega
  | ⟨1, _⟩ => show win0_1.index t 1 * 640 + 1 * b.val = t.val * 640 + b.val; omega

/-- An index of window 2's block as an index of its array. -/
theorem emb2 (t : Fin cfg0.N) (l : Fin 1) (e : Fin 1) (a : Fin 1024) (b : Fin 640) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 1024 + 1 * a.val = a.val; omega
  | ⟨3, _⟩ => show win0_2.index t 3 * 640 + 1 * b.val = b.val; omega

/-- The first operand's block at an entry. -/
theorem iblk0 (c : Dev nD) (t : Fin cfg0.N) (k : Fin 2048) (a : Fin 1024) :
    iblk m c 0 t (ix2 k a) = (m (c.tc.loc main_arg0)) (ix2 k a) := by
  show V m c main_arg0 (((cfg0.win 0).blk t).view.emb (ix2 k a)) = _
  rw [emb0]

/-- The second operand's block at an entry. -/
theorem iblk1 (c : Dev nD) (t : Fin cfg0.N) (k : Fin 2048) (b : Fin 640) :
    iblk m c 1 t (ix2 k b) = (m (c.tc.loc main_arg1)) (ix2 k ⟨t.val * 640 + b.val, by have := lt_N t; omega⟩) := by
  show V m c main_arg1 (((cfg0.win 1).blk t).view.emb (ix2 k b)) = _
  rw [emb1]

/-- One block's product, added to a zero accumulator. -/
theorem pay2 (x0 : Vec Ideal S2048x1024 .bf16) (x1 : Vec Ideal S2048x640 .bf16) (a : Fin 1024) (b : Fin 640) :
    k0_pay2 (F := Ideal) x0 x1 (k0_pay1 (F := Ideal)) (ix2 a b) = ∑ k : Fin 2048, x0 (ix2 k a) * x1 (ix2 k b) := by
  unfold k0_pay2 k0_pay1
  simp only [shapeCast_self]
  refine (congrArg₂ (· + ·) Ideal.ofBits_zero_f32 rfl).trans ((zero_add _).trans ?_)
  exact matmul_tn _ rfl none _ _ a b

/-- The block's product as an entry of the gradient. -/
theorem blk (c : Dev nD) (t : Fin cfg0.N) (l : Fin 1) (a : Fin 1024) (b : Fin 640) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S1024x640) _ zz, View.readCov_unit_zero (S := S1024x640) _ zz,
      readAt_whole (S := S2048x1024) _ _ zz, readAt_whole (S := S2048x640) _ _ zz]
  rw [h, emb2, ← blk m c t l a b]
  unfold k0_pay3
  exact cast_add2 _ _ l e a b

/-- Every entry of window 2's array is in some grid point's block. -/
theorem covered2 (i : S1x8x1024x640.Idx) : ∃ t : Fin cfg0.N, (cfg0.win 2).flush t = true ∧ i ∈ ((cfg0.win 2).blk t).view.set := by
  let t : Fin cfg0.N := ⟨(i 1).val, (show (i 1).val < 8 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 8) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S1024x640) _ zz, View.readCov_unit_zero (S := S1024x640) _ zz,
      readAt_whole (S := S2048x1024) _ _ zz, readAt_whole (S := S2048x640) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v0_0) = (grad (m (c.tc.loc main_arg0)) (m (c.tc.loc main_arg1)) : Stk4 1 8 1024 640)
      ∧ r.2.mem (c.tc.loc main_v0_1) = (grad (m (c.tc.loc main_arg0)) (m (c.tc.loc main_arg1)) : Stk4 1 8 1024 640)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwInReferenceIdeal Cert.DwInReferenceIdeal.Gen Cert.DwInReferenceIdeal.Read

/-- The reference's gradient at an entry. -/
theorem grad_eq (x0 : Mat 2048 1024) (x1 : Mat 2048 5120) : val_main_v5 (F := Ideal) x0 x1 = grad x0 x1 := ext4 fun l e a b => by
  rw [val_main_v5_apply]
  have h0 : idx_main_v5 (ix4 l e a b) = ix4 l a e b := by
    funext x; match x with
    | ⟨0, _⟩ => rfl
    | ⟨1, _⟩ => rfl
    | ⟨2, _⟩ => rfl
    | ⟨3, _⟩ => rfl
  rw [h0, val_main_v4_apply]
  have h : idx_main_v4 (ix4 l a e b) = ix2 a (⟨e.val * 640 + b.val, by omega⟩ : Fin 5120) := by
    funext x; apply Fin.ext
    match x with
    | ⟨0, _⟩ => show (((l.val * 1024 + a.val) * 8 + e.val) * 640 + b.val) / 5120 = a.val; omega
    | ⟨1, _⟩ => show (((l.val * 1024 + a.val) * 8 + e.val) * 640 + b.val) % 5120 = e.val * 640 + b.val; omega
  rw [h, val_main_v3_apply]
  have h' : idx_main_v3 (ix2 a (⟨e.val * 640 + b.val, by omega⟩ : Fin 5120)) = ix2 (⟨e.val * 640 + b.val, by omega⟩ : Fin 5120) a := by
    funext x; match x with
    | ⟨0, _⟩ => rfl
    | ⟨1, _⟩ => rfl
  rw [h']
  unfold val_main_v2
  refine (dot_tn (φ₁ := .f32) (φ₂ := .f32) _ rfl none (val_main_v1 (F := Ideal) x1) (val_main_v0 (F := Ideal) x0) _ a).trans ?_
  exact Finset.sum_congr rfl fun k _ => mul_comm _ _

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v5) = (grad (m (c.tc.loc main_arg0)) (m (c.tc.loc main_arg1)) : Stk4 1 8 1024 640)
      ∧ r.2.mem (c.tc.loc main_v6) = (grad (m (c.tc.loc main_arg0)) (m (c.tc.loc main_arg1)) : Stk4 1 8 1024 640)
      ∧ same r.2.mem m c main_arg0
      ∧ same r.2.mem m c main_arg1 :=
  (θ_run defs _ _).mono (fun _ h c => ⟨(h c).1.trans ((val_main_v5_eq _ _).trans (grad_eq _ _)),
    (h c).2.1.trans ((val_main_v6_eq _ _).trans (grad_eq _ _)), (h c).2.2⟩) (Value.run m ρ)

end Ref

end Cert.DwIn

end
-- ==== Proof.DwOutClaim.lean ====
/- The gradient of the output projection: what the call's run leaves in its two result arrays, as a function of the
   argument arrays, and the same two arrays from the reference. -/
module

public import proofs.«01_k».proof.Proof.Gen.DwOutIdeal.Value
public import proofs.«01_k».proof.Proof.Gen.DwOutReferenceIdeal.Run
public import proofs.«01_k».proof.Proof.Gen.DwOutReferenceIdeal.Read
public import proofs.«01_k».proof.Proof.Common

@[expose] public section

set_option maxRecDepth 16384

noncomputable section

namespace Cert.DwOut

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 1024) (B : Mat 2048 1024) : Stk4 1 1 1024 1024 := fun i =>
  ∑ k : Fin 2048, A (ix2 k (i 2)) * B (ix2 k (i 3))

section
open Cert.DwOutIdeal Cert.DwOutIdeal.Gen

variable (m : (ℓ : Loc nD τ sig) → Buf (Elt Ideal) ℓ) (ρ : Dev nD → PrngReg)

/-- The gradient, of the arguments. -/
abbrev G (c : Dev nD) : Stk4 1 1 1024 1024 := grad (m (c.tc.loc main_arg0)) (m (c.tc.loc main_arg1))

/-- The number of grid points. -/
theorem lt_N (t : Fin cfg0.N) : t.val < 1 := t.isLt.trans_le (by decide)

/-- Where each window's block lies at grid point `t`. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (a : Fin 2048) (b : Fin 1024) :
    ((cfg0.win 0).blk t).view.emb (ix2 a b) = ix2 a b := by
  obtain ⟨h0, h1⟩ := (idx t).1
  funext x; apply Fin.ext
  match x with
  | ⟨0, _⟩ => show win0_0.index t 0 * 2048 + 1 * a.val = a.val; omega
  | ⟨1, _⟩ => show win0_0.index t 1 * 1024 + 1 * b.val = b.val; omega

/-- An index of window 1's block as an index of its array. -/
theorem emb1 (t : Fin cfg0.N) (a : Fin 2048) (b : Fin 1024) :
    ((cfg0.win 1).blk t).view.emb (ix2 a b) = ix2 a b := by
  obtain ⟨h0, h1⟩ := (idx t).2.1
  funext x; apply Fin.ext
  match x with
  | ⟨0, _⟩ => show win0_1.index t 0 * 2048 + 1 * a.val = a.val; omega
  | ⟨1, _⟩ => show win0_1.index t 1 * 1024 + 1 * b.val = b.val; omega

/-- An index of window 2's block as an index of its array. -/
theorem emb2 (t : Fin cfg0.N) (l : Fin 1) (e : Fin 1) (a : Fin 1024) (b : Fin 1024) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 1024 + 1 * a.val = a.val; omega
  | ⟨3, _⟩ => show win0_2.index t 3 * 1024 + 1 * b.val = b.val; omega

/-- The first operand's block at an entry. -/
theorem iblk0 (c : Dev nD) (t : Fin cfg0.N) (k : Fin 2048) (a : Fin 1024) :
    iblk m c 0 t (ix2 k a) = (m (c.tc.loc main_arg0)) (ix2 k a) := by
  show V m c main_arg0 (((cfg0.win 0).blk t).view.emb (ix2 k a)) = _
  rw [emb0]

/-- The second operand's block at an entry. -/
theorem iblk1 (c : Dev nD) (t : Fin cfg0.N) (k : Fin 2048) (b : Fin 1024) :
    iblk m c 1 t (ix2 k b) = (m (c.tc.loc main_arg1)) (ix2 k b) := by
  show V m c main_arg1 (((cfg0.win 1).blk t).view.emb (ix2 k b)) = _
  rw [emb1]

/-- One block's product, added to a zero accumulator. -/
theorem pay2 (x0 : Vec Ideal S2048x1024 .bf16) (x1 : Vec Ideal S2048x1024 .bf16) (a : Fin 1024) (b : Fin 1024) :
    k0_pay2 (F := Ideal) x0 x1 (k0_pay1 (F := Ideal)) (ix2 a b) = ∑ k : Fin 2048, x0 (ix2 k a) * x1 (ix2 k b) := by
  unfold k0_pay2 k0_pay1
  simp only [shapeCast_self]
  refine (congrArg₂ (· + ·) Ideal.ofBits_zero_f32 rfl).trans ((zero_add _).trans ?_)
  exact matmul_tn _ rfl none _ _ a b

/-- The block's product as an entry of the gradient. -/
theorem blk (c : Dev nD) (t : Fin cfg0.N) (l : Fin 1) (a : Fin 1024) (b : Fin 1024) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S1024x1024) _ zz, View.readCov_unit_zero (S := S1024x1024) _ zz,
      readAt_whole (S := S2048x1024) _ _ zz, readAt_whole (S := S2048x1024) _ _ zz]
  rw [h, emb2, ← blk m c t l a b]
  unfold k0_pay3
  exact cast_add2 _ _ l e a b

/-- Every entry of window 2's array is in some grid point's block. -/
theorem covered2 (i : S1x1x1024x1024.Idx) : ∃ t : Fin cfg0.N, (cfg0.win 2).flush t = true ∧ i ∈ ((cfg0.win 2).blk t).view.set := by
  let t : Fin cfg0.N := ⟨(i 1).val, (show (i 1).val < 1 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 1) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S1024x1024) _ zz, View.readCov_unit_zero (S := S1024x1024) _ zz,
      readAt_whole (S := S2048x1024) _ _ zz, readAt_whole (S := S2048x1024) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v0_0) = (grad (m (c.tc.loc main_arg0)) (m (c.tc.loc main_arg1)) : Stk4 1 1 1024 1024)
      ∧ r.2.mem (c.tc.loc main_v0_1) = (grad (m (c.tc.loc main_arg0)) (m (c.tc.loc main_arg1)) : Stk4 1 1 1024 1024)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwOutReferenceIdeal Cert.DwOutReferenceIdeal.Gen Cert.DwOutReferenceIdeal.Read

/-- The reference's gradient at an entry. -/
theorem grad_eq (x0 : Mat 2048 1024) (x1 : Mat 2048 1024) : val_main_v4 (F := Ideal) x0 x1 = grad x0 x1 := ext4 fun l e a b => by
  rw [val_main_v4_apply]
  have h : idx_main_v4 (ix4 l e a b) = ix2 a b := by
    funext x; apply Fin.ext
    match x with
    | ⟨0, _⟩ => show (((l.val * 1 + e.val) * 1024 + a.val) * 1024 + b.val) / 1024 = a.val; omega
    | ⟨1, _⟩ => show (((l.val * 1 + e.val) * 1024 + a.val) * 1024 + b.val) % 1024 = b.val; omega
  rw [h, val_main_v3_apply]
  have h' : idx_main_v3 (ix2 a b) = ix2 b a := by
    funext x; match x with
    | ⟨0, _⟩ => rfl
    | ⟨1, _⟩ => rfl
  rw [h']
  unfold val_main_v2
  refine (dot_tn (φ₁ := .f32) (φ₂ := .f32) _ rfl none (val_main_v1 (F := Ideal) x1) (val_main_v0 (F := Ideal) x0) b _).trans ?_
  exact Finset.sum_congr rfl fun k _ => mul_comm _ _

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v4) = (grad (m (c.tc.loc main_arg0)) (m (c.tc.loc main_arg1)) : Stk4 1 1 1024 1024)
      ∧ r.2.mem (c.tc.loc main_v5) = (grad (m (c.tc.loc main_arg0)) (m (c.tc.loc main_arg1)) : Stk4 1 1 1024 1024)
      ∧ same r.2.mem m c main_arg0
      ∧ same r.2.mem m c main_arg1 :=
  (θ_run defs _ _).mono (fun _ h c => ⟨(h c).1.trans ((val_main_v4_eq _ _).trans (grad_eq _ _)),
    (h c).2.1.trans ((val_main_v5_eq _ _).trans (grad_eq _ _)), (h c).2.2⟩) (Value.run m ρ)

end Ref

end Cert.DwOut

end
-- ==== Proof.DwLruUpClaim.lean ====
/- The gradient of the recurrence branch's projection: what the call's run leaves in its two result arrays, as a function of the
   argument arrays, and the same two arrays from the reference. -/
module

public import proofs.«01_k».proof.Proof.Gen.DwLruUpIdeal.Value
public import proofs.«01_k».proof.Proof.Gen.DwLruUpReferenceIdeal.Run
public import proofs.«01_k».proof.Proof.Gen.DwLruUpReferenceIdeal.Read
public import proofs.«01_k».proof.Proof.Common

@[expose] public section

set_option maxRecDepth 16384

noncomputable section

namespace Cert.DwLruUp

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 1280) (B : Mat 2048 1024) : Stk4 1 1 1280 1024 := fun i =>
  ∑ k : Fin 2048, A (ix2 k (i 2)) * B (ix2 k (i 3))

section
open Cert.DwLruUpIdeal Cert.DwLruUpIdeal.Gen

variable (m : (ℓ : Loc nD τ sig) → Buf (Elt Ideal) ℓ) (ρ : Dev nD → PrngReg)

/-- The gradient, of the arguments. -/
abbrev G (c : Dev nD) : Stk4 1 1 1280 1024 := grad (m (c.tc.loc main_arg0)) (m (c.tc.loc main_arg1))

/-- The number of grid points. -/
theorem lt_N (t : Fin cfg0.N) : t.val < 1 := t.isLt.trans_le (by decide)

/-- Where each window's block lies at grid point `t`. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (a : Fin 2048) (b : Fin 1280) :
    ((cfg0.win 0).blk t).view.emb (ix2 a b) = ix2 a b := by
  obtain ⟨h0, h1⟩ := (idx t).1
  funext x; apply Fin.ext
  match x with
  | ⟨0, _⟩ => show win0_0.index t 0 * 2048 + 1 * a.val = a.val; omega
  | ⟨1, _⟩ => show win0_0.index t 1 * 1280 + 1 * b.val = b.val; omega

/-- An index of window 1's block as an index of its array. -/
theorem emb1 (t : Fin cfg0.N) (a : Fin 2048) (b : Fin 1024) :
    ((cfg0.win 1).blk t).view.emb (ix2 a b) = ix2 a b := by
  obtain ⟨h0, h1⟩ := (idx t).2.1
  funext x; apply Fin.ext
  match x with
  | ⟨0, _⟩ => show win0_1.index t 0 * 2048 + 1 * a.val = a.val; omega
  | ⟨1, _⟩ => show win0_1.index t 1 * 1024 + 1 * b.val = b.val; omega

/-- An index of window 2's block as an index of its array. -/
theorem emb2 (t : Fin cfg0.N) (l : Fin 1) (e : Fin 1) (a : Fin 1280) (b : Fin 1024) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 1280 + 1 * a.val = a.val; omega
  | ⟨3, _⟩ => show win0_2.index t 3 * 1024 + 1 * b.val = b.val; omega

/-- The first operand's block at an entry. -/
theorem iblk0 (c : Dev nD) (t : Fin cfg0.N) (k : Fin 2048) (a : Fin 1280) :
    iblk m c 0 t (ix2 k a) = (m (c.tc.loc main_arg0)) (ix2 k a) := by
  show V m c main_arg0 (((cfg0.win 0).blk t).view.emb (ix2 k a)) = _
  rw [emb0]

/-- The second operand's block at an entry. -/
theorem iblk1 (c : Dev nD) (t : Fin cfg0.N) (k : Fin 2048) (b : Fin 1024) :
    iblk m c 1 t (ix2 k b) = (m (c.tc.loc main_arg1)) (ix2 k b) := by
  show V m c main_arg1 (((cfg0.win 1).blk t).view.emb (ix2 k b)) = _
  rw [emb1]

/-- One block's product, added to a zero accumulator. -/
theorem pay2 (x0 : Vec Ideal S2048x1280 .bf16) (x1 : Vec Ideal S2048x1024 .bf16) (a : Fin 1280) (b : Fin 1024) :
    k0_pay2 (F := Ideal) x0 x1 (k0_pay1 (F := Ideal)) (ix2 a b) = ∑ k : Fin 2048, x0 (ix2 k a) * x1 (ix2 k b) := by
  unfold k0_pay2 k0_pay1
  simp only [shapeCast_self]
  refine (congrArg₂ (· + ·) Ideal.ofBits_zero_f32 rfl).trans ((zero_add _).trans ?_)
  exact matmul_tn _ rfl none _ _ a b

/-- The block's product as an entry of the gradient. -/
theorem blk (c : Dev nD) (t : Fin cfg0.N) (l : Fin 1) (a : Fin 1280) (b : Fin 1024) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S1280x1024) _ zz, View.readCov_unit_zero (S := S1280x1024) _ zz,
      readAt_whole (S := S2048x1280) _ _ zz, readAt_whole (S := S2048x1024) _ _ zz]
  rw [h, emb2, ← blk m c t l a b]
  unfold k0_pay3
  exact cast_add2 _ _ l e a b

/-- Every entry of window 2's array is in some grid point's block. -/
theorem covered2 (i : S1x1x1280x1024.Idx) : ∃ t : Fin cfg0.N, (cfg0.win 2).flush t = true ∧ i ∈ ((cfg0.win 2).blk t).view.set := by
  let t : Fin cfg0.N := ⟨(i 1).val, (show (i 1).val < 1 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 1) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S1280x1024) _ zz, View.readCov_unit_zero (S := S1280x1024) _ zz,
      readAt_whole (S := S2048x1280) _ _ zz, readAt_whole (S := S2048x1024) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v0_0) = (grad (m (c.tc.loc main_arg0)) (m (c.tc.loc main_arg1)) : Stk4 1 1 1280 1024)
      ∧ r.2.mem (c.tc.loc main_v0_1) = (grad (m (c.tc.loc main_arg0)) (m (c.tc.loc main_arg1)) : Stk4 1 1 1280 1024)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwLruUpReferenceIdeal Cert.DwLruUpReferenceIdeal.Gen Cert.DwLruUpReferenceIdeal.Read

/-- The reference's gradient at an entry. -/
theorem grad_eq (x0 : Mat 2048 1280) (x1 : Mat 2048 1024) : val_main_v4 (F := Ideal) x0 x1 = grad x0 x1 := ext4 fun l e a b => by
  rw [val_main_v4_apply]
  have h : idx_main_v4 (ix4 l e a b) = ix2 a b := by
    funext x; apply Fin.ext
    match x with
    | ⟨0, _⟩ => show (((l.val * 1 + e.val) * 1280 + a.val) * 1024 + b.val) / 1024 = a.val; omega
    | ⟨1, _⟩ => show (((l.val * 1 + e.val) * 1280 + a.val) * 1024 + b.val) % 1024 = b.val; omega
  rw [h, val_main_v3_apply]
  have h' : idx_main_v3 (ix2 a b) = ix2 b a := by
    funext x; match x with
    | ⟨0, _⟩ => rfl
    | ⟨1, _⟩ => rfl
  rw [h']
  unfold val_main_v2
  refine (dot_tn (φ₁ := .f32) (φ₂ := .f32) _ rfl none (val_main_v1 (F := Ideal) x1) (val_main_v0 (F := Ideal) x0) b _).trans ?_
  exact Finset.sum_congr rfl fun k _ => mul_comm _ _

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v4) = (grad (m (c.tc.loc main_arg0)) (m (c.tc.loc main_arg1)) : Stk4 1 1 1280 1024)
      ∧ r.2.mem (c.tc.loc main_v5) = (grad (m (c.tc.loc main_arg0)) (m (c.tc.loc main_arg1)) : Stk4 1 1 1280 1024)
      ∧ same r.2.mem m c main_arg0
      ∧ same r.2.mem m c main_arg1 :=
  (θ_run defs _ _).mono (fun _ h c => ⟨(h c).1.trans ((val_main_v4_eq _ _).trans (grad_eq _ _)),
    (h c).2.1.trans ((val_main_v5_eq _ _).trans (grad_eq _ _)), (h c).2.2⟩) (Value.run m ρ)

end Ref

end Cert.DwLruUp

end
-- ==== Proof.DwPoolUpClaim.lean ====
/- The gradient of the pooling branch's projection: what the call's run leaves in its two result arrays, as a function of the
   argument arrays, and the same two arrays from the reference. -/
module

public import proofs.«01_k».proof.Proof.Gen.DwPoolUpIdeal.Value
public import proofs.«01_k».proof.Proof.Gen.DwPoolUpReferenceIdeal.Run
public import proofs.«01_k».proof.Proof.Gen.DwPoolUpReferenceIdeal.Read
public import proofs.«01_k».proof.Proof.Common

@[expose] public section

set_option maxRecDepth 16384

noncomputable section

namespace Cert.DwPoolUp

open Cert.Common Idealize.ShloMosaic Idealize.ShloMosaic.TcCoe Idealize.ShloMosaic.ValueIdx
open Idealize.SL.Sem
open scoped BigOperators

/-- The gradient: at each place, the sum over the 2048 rows of the product of the layer's input and its incoming gradient. -/
def grad (A : Mat 2048 512) (B : Mat 2048 1024) : Stk4 1 1 512 1024 := fun i =>
  ∑ k : Fin 2048, A (ix2 k (i 2)) * B (ix2 k (i 3))

section
open Cert.DwPoolUpIdeal Cert.DwPoolUpIdeal.Gen

variable (m : (ℓ : Loc nD τ sig) → Buf (Elt Ideal) ℓ) (ρ : Dev nD → PrngReg)

/-- The gradient, of the arguments. -/
abbrev G (c : Dev nD) : Stk4 1 1 512 1024 := grad (m (c.tc.loc main_arg0)) (m (c.tc.loc main_arg1))

/-- The number of grid points. -/
theorem lt_N (t : Fin cfg0.N) : t.val < 1 := t.isLt.trans_le (by decide)

/-- Where each window's block lies at grid point `t`. -/
theorem idx : ∀ t : Fin cfg0.N, (win0_0.index t 0 = 0 ∧ win0_0.index t 1 = 0)
    ∧ (win0_1.index t 0 = 0 ∧ win0_1.index t 1 = 0)
    ∧ (win0_2.index t 0 = 0 ∧ win0_2.index t 1 = t.val ∧ win0_2.index t 2 = 0 ∧ win0_2.index t 3 = 0) :=
  (by decide +kernel : ∀ t : Fin grid0.N, _)

/-- An index of window 0's block as an index of its array. -/
theorem emb0 (t : Fin cfg0.N) (a : Fin 2048) (b : Fin 512) :
    ((cfg0.win 0).blk t).view.emb (ix2 a b) = ix2 a b := by
  obtain ⟨h0, h1⟩ := (idx t).1
  funext x; apply Fin.ext
  match x with
  | ⟨0, _⟩ => show win0_0.index t 0 * 2048 + 1 * a.val = a.val; omega
  | ⟨1, _⟩ => show win0_0.index t 1 * 512 + 1 * b.val = b.val; omega

/-- An index of window 1's block as an index of its array. -/
theorem emb1 (t : Fin cfg0.N) (a : Fin 2048) (b : Fin 1024) :
    ((cfg0.win 1).blk t).view.emb (ix2 a b) = ix2 a b := by
  obtain ⟨h0, h1⟩ := (idx t).2.1
  funext x; apply Fin.ext
  match x with
  | ⟨0, _⟩ => show win0_1.index t 0 * 2048 + 1 * a.val = a.val; omega
  | ⟨1, _⟩ => show win0_1.index t 1 * 1024 + 1 * b.val = b.val; omega

/-- An index of window 2's block as an index of its array. -/
theorem emb2 (t : Fin cfg0.N) (l : Fin 1) (e : Fin 1) (a : Fin 512) (b : Fin 1024) :
    ((cfg0.win 2).blk t).view.emb (ix4 l e a b) = ix4 l ⟨t.val, lt_N t⟩ a b := by
  obtain ⟨h0, h1, h2, h3⟩ := (idx t).2.2
  funext x; apply Fin.ext
  match x with
  | ⟨0, _⟩ => show win0_2.index t 0 * 1 + 1 * l.val = l.val; omega
  | ⟨1, _⟩ => show win0_2.index t 1 * 1 + 1 * e.val = t.val; omega
  | ⟨2, _⟩ => show win0_2.index t 2 * 512 + 1 * a.val = a.val; omega
  | ⟨3, _⟩ => show win0_2.index t 3 * 1024 + 1 * b.val = b.val; omega

/-- The first operand's block at an entry. -/
theorem iblk0 (c : Dev nD) (t : Fin cfg0.N) (k : Fin 2048) (a : Fin 512) :
    iblk m c 0 t (ix2 k a) = (m (c.tc.loc main_arg0)) (ix2 k a) := by
  show V m c main_arg0 (((cfg0.win 0).blk t).view.emb (ix2 k a)) = _
  rw [emb0]

/-- The second operand's block at an entry. -/
theorem iblk1 (c : Dev nD) (t : Fin cfg0.N) (k : Fin 2048) (b : Fin 1024) :
    iblk m c 1 t (ix2 k b) = (m (c.tc.loc main_arg1)) (ix2 k b) := by
  show V m c main_arg1 (((cfg0.win 1).blk t).view.emb (ix2 k b)) = _
  rw [emb1]

/-- One block's product, added to a zero accumulator. -/
theorem pay2 (x0 : Vec Ideal S2048x512 .bf16) (x1 : Vec Ideal S2048x1024 .bf16) (a : Fin 512) (b : Fin 1024) :
    k0_pay2 (F := Ideal) x0 x1 (k0_pay1 (F := Ideal)) (ix2 a b) = ∑ k : Fin 2048, x0 (ix2 k a) * x1 (ix2 k b) := by
  unfold k0_pay2 k0_pay1
  simp only [shapeCast_self]
  refine (congrArg₂ (· + ·) Ideal.ofBits_zero_f32 rfl).trans ((zero_add _).trans ?_)
  exact matmul_tn _ rfl none _ _ a b

/-- The block's product as an entry of the gradient. -/
theorem blk (c : Dev nD) (t : Fin cfg0.N) (l : Fin 1) (a : Fin 512) (b : Fin 1024) :
    k0_pay2 (F := Ideal) (iblk m c 0 t) (iblk m c 1 t) (k0_pay1 (F := Ideal)) (ix2 a b)
      = G m c (ix4 l ⟨t.val, lt_N t⟩ a b) := by
  rw [pay2]
  exact Finset.sum_congr rfl fun k _ => by rw [iblk0, iblk1]

/-- What grid point `t` writes back to window 2 is its block of the gradient. -/
theorem wrote2 (c : Dev nD) (t : Fin cfg0.N) :
    (dats m 0 c).flushed 2 t = ((cfg0.win 2).blk t).view.read (Elt Ideal) (G m c) := by
  rw [Value.flushed2_A]
  refine ext4 fun l e a b => ?_
  show out0_A_2 c (grid0.coords t) _ _ _ _ _ _ _ _ _ _ _ _ (iblk m c 0 t) (iblk m c 1 t) (ix4 l e a b)
    = G m c (((cfg0.win 2).blk t).view.emb (ix4 l e a b))
  have h : out0_A_2 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay3 (F := Ideal) (k0_pay2 (F := Ideal) (iblk m c 0 t) (iblk m c 1 t) (k0_pay1 (F := Ideal))) := by
    unfold out0_A_2 kernelRun0_A
    dsimp only
    rw [View.read_writes_junk_eq_canon, View.canon_unit_zero zzzz]
    sl_unfold_words
    rw [readCov_last (S := S512x1024) _ zz, View.readCov_unit_zero (S := S512x1024) _ zz,
      readAt_whole (S := S2048x512) _ _ zz, readAt_whole (S := S2048x1024) _ _ zz]
  rw [h, emb2, ← blk m c t l a b]
  unfold k0_pay3
  exact cast_add2 _ _ l e a b

/-- Every entry of window 2's array is in some grid point's block. -/
theorem covered2 (i : S1x1x512x1024.Idx) : ∃ t : Fin cfg0.N, (cfg0.win 2).flush t = true ∧ i ∈ ((cfg0.win 2).blk t).view.set := by
  let t : Fin cfg0.N := ⟨(i 1).val, (show (i 1).val < 1 from (i 1).isLt).trans_le (by decide)⟩
  refine ⟨t, flush0_2 t, ?_⟩
  have h := ((cfg0.win 2).blk t).view.emb_mem_set (ix4 (i 0) (0 : Fin 1) (i 2) (i 3))
  have e : ix4 (i 0) (⟨t.val, lt_N t⟩ : Fin 1) (i 2) (i 3) = i := (eq_ix4 i).symm
  exact Eq.mp (congrArg (fun q => q ∈ ((cfg0.win 2).blk t).view.set) ((emb2 t _ _ _ _).trans e)) h

theorem final2 (c : Dev nD) : (dats m 0 c).arrAt 2 cfg0.N = G m c :=
  (dats m 0 c).arrAt_eq_of_cover 2 (G m c) (fun t _ => wrote2 m c t) covered2

/-- What grid point `t` writes back to window 3 is its block of the gradient. -/
theorem wrote3 (c : Dev nD) (t : Fin cfg0.N) :
    (dats m 0 c).flushed 3 t = ((cfg0.win 3).blk t).view.read (Elt Ideal) (G m c) := by
  rw [Value.flushed3_A]
  refine ext4 fun l e a b => ?_
  show out0_A_3 c (grid0.coords t) _ _ _ _ _ _ _ _ _ _ _ _ (iblk m c 0 t) (iblk m c 1 t) (ix4 l e a b)
    = G m c (((cfg0.win 2).blk t).view.emb (ix4 l e a b))
  have h : out0_A_3 c (grid0.coords t) (ms0_0 t) (hs0_0 t) (ms0_1 t) (hs0_1 t) (ms0_2 t) (hs0_2 t) (ms0_3 t) (hs0_3 t) scM0_0
      (Memref.isWhole_whole _) (hcond0_0 t) (hcond0_1 t) (iblk m c 0 t) (iblk m c 1 t)
      = k0_pay4 (F := Ideal) (k0_pay2 (F := Ideal) (iblk m c 0 t) (iblk m c 1 t) (k0_pay1 (F := Ideal))) := by
    unfold out0_A_3 kernelRun0_A
    dsimp only
    rw [View.read_writes_junk_eq_canon, View.canon_unit_zero zzzz]
    sl_unfold_words
    rw [readCov_last (S := S512x1024) _ zz, View.readCov_unit_zero (S := S512x1024) _ zz,
      readAt_whole (S := S2048x512) _ _ zz, readAt_whole (S := S2048x1024) _ _ zz]
  rw [h, emb2, ← blk m c t l a b]
  unfold k0_pay4
  exact cast_add2 _ _ l e a b

theorem final3 (c : Dev nD) : (dats m 0 c).arrAt 3 cfg0.N = G m c :=
  (dats m 0 c).arrAt_eq_of_cover 3 (G m c) (fun t _ => wrote3 m c t) covered2

/-- The call leaves the gradient in both results (exactly, the roundings of the second being no operation here) and its
    arguments unchanged. -/
theorem run : θ_run defs (onTc (τ := τ) (main (F := Ideal))) ⟨m, fun _ => 0, ρ⟩ fun r => ∀ c : Dev nD,
      r.2.mem (c.tc.loc main_v0_0) = (grad (m (c.tc.loc main_arg0)) (m (c.tc.loc main_arg1)) : Stk4 1 1 512 1024)
      ∧ r.2.mem (c.tc.loc main_v0_1) = (grad (m (c.tc.loc main_arg0)) (m (c.tc.loc main_arg1)) : Stk4 1 1 512 1024)
      ∧ same r.2.mem m c main_arg0
      ∧ same r.2.mem m c main_arg1 :=
  (θ_run defs _ _).mono (fun r h c => ⟨(h c).1.trans (final2 m c), (h c).2.1.trans (final3 m c), (h c).2.2⟩) (Value.run_blocks m ρ)

end

namespace Ref

open Cert.DwPoolUpReferenceIdeal Cert.DwPoolUpReferenceIdeal.Gen Cert.DwPoolUpReferenceIdeal.Read

/-- The reference's gradient at an entry. -/
theorem grad_eq (x0 : Mat 2048 512) (x1 : Mat 2048 1024) : val_main_v4 (F := Ideal) x0 x1 = grad x0 x1 := ext4 fun l e a b => by
  rw [val_main_v4_apply]
  have h : idx_main_v4 (ix4 l e a b) = ix2 a b := by
    funext x; apply Fin.ext
    match x with
    | ⟨0, _⟩ => show (((l.val * 1 + e.val) * 512 + a.val) * 1024 + b.val) / 1024 = a.val; omega
    | ⟨1, _⟩ => show (((l.val * 1 + e.val) * 512 + a.val) * 1024 + b.val) % 1024 = b.val; omega
  rw [h, val_main_v3_apply]
  have h' : idx_main_v3 (ix2 a b) = ix2 b a := by
    funext x; match x with
    | ⟨0, _⟩ => rfl
    | ⟨1, _⟩ => rfl
  rw [h']
  unfold val_main_v2
  refine (dot_tn (φ₁ := .f32) (φ₂ := .f32) _ rfl none (val_main_v1 (F := Ideal) x1) (val_main_v0 (F := Ideal) x0) b _).trans ?_
  exact Finset.sum_congr rfl fun k _ => mul_comm _ _

variable (m : (ℓ : Loc nD τ sig) → Buf (Elt Ideal) ℓ) (ρ : Dev nD → PrngReg)

/-- The reference leaves the gradient in both results and its arguments unchanged. -/
theorem run : θ_run defs (onTc (τ := τ) (main (F := Ideal))) ⟨m, fun _ => 0, ρ⟩ fun r => ∀ c : Dev nD,
      r.2.mem (c.tc.loc main_v4) = (grad (m (c.tc.loc main_arg0)) (m (c.tc.loc main_arg1)) : Stk4 1 1 512 1024)
      ∧ r.2.mem (c.tc.loc main_v5) = (grad (m (c.tc.loc main_arg0)) (m (c.tc.loc main_arg1)) : Stk4 1 1 512 1024)
      ∧ same r.2.mem m c main_arg0
      ∧ same r.2.mem m c main_arg1 :=
  (θ_run defs _ _).mono (fun _ h c => ⟨(h c).1.trans ((val_main_v4_eq _ _).trans (grad_eq _ _)),
    (h c).2.1.trans ((val_main_v5_eq _ _).trans (grad_eq _ _)), (h c).2.2⟩) (Value.run m ρ)

end Ref

end Cert.DwPoolUp

end
-- ==== Proof.Rows.lean ====
/- A block of rows stored into a buffer whose other rows stay: what the buffer holds, and what a load of the same or of
   other rows reads. -/
module

public import proofs.«01_k».proof.Proof.Common

@[expose] public section

noncomputable section

namespace Cert.Common

open Idealize.ShloMosaic

/-- `X'` is `X` with the places of the rectangle `r` at `p`. -/
def Stored {α : Type} {S : Shape} (X' X : S.Idx → α) (r : Rect S) (p : r.shape.Idx → α) : Prop :=
  (∀ j, X' (r.emb j) = p j) ∧ ∀ y, y ∉ r.set → X' y = X y

/-- One write leaves the buffer so. -/
theorem stored_read {Val : EltTy → Type} {e : EltTy} {S : Shape} {sig : RefSig} {κ : Kind} {sp : Space}
    (v : View sig κ sp S e) (f : v.ty.Contents Val) (r : Rect S) (p : r.shape.Idx → Val e) :
    Stored (v.read Val (v.writes Val f [⟨r, p⟩])) (v.read Val f) r p :=
  ⟨fun j => View.read_writes_cons_emb v f r p [] j, fun y hy => View.read_writes_cons_miss v f ⟨r, p⟩ [] y hy⟩

/-- One write of the whole leaves what it wrote. -/
theorem read_store {Val : EltTy → Type} {e : EltTy} {S : Shape} [∀ e, Nonempty (Val e)] {sig : RefSig} {κ : Kind} {sp : Space}
    (v : View sig κ sp S e) (f : v.ty.Contents Val) {o : Fin S.rank → ℕ} (ho : o = fun _ => 0) (inb : ∀ a, o a + S.size a ≤ S.size a) (w : S.Idx → Val e) :
    v.read Val (v.writes Val f [⟨Rect.unit o S.size inb, w⟩]) = w := by
  rw [View.read_writes_eq_canon _ _ _ (fun y => ⟨_, List.mem_singleton_self _, View.mem_set_unit_zero ho inb y⟩), View.canon_unit_zero ho]

/-- A load of the rectangle just written. -/
theorem readCov_same {Val : EltTy → Type} {e : EltTy} {S : Shape} [∀ e, Nonempty (Val e)] {sig : RefSig} {κ : Kind} {sp : Space}
    (v : View sig κ sp S e) (r : Rect S) (p : r.shape.Idx → Val e) (L : List (View.Piece Val S e)) :
    v.readCov ((⟨r, p⟩ : View.Piece Val S e) :: L) r.toLoadRect = p := by
  rw [View.readCov_eq_canon']
  exact funext fun j => View.canon_cons_emb r p L j

/-- The same, the two rectangles' starts equal. -/
theorem readCov_rows {Val : EltTy → Type} {e : EltTy} {S : Shape} [∀ e, Nonempty (Val e)] {sig : RefSig} {κ : Kind} {sp : Space}
    (v : View sig κ sp S e) {o o' : Fin S.rank → ℕ} (h : o = o') (sz : Fin S.rank → ℕ) (inb : ∀ a, o a + sz a ≤ S.size a) (inb' : ∀ a, o' a + sz a ≤ S.size a)
    (p : (Rect.unit o sz inb).shape.Idx → Val e) (L : List (View.Piece Val S e)) :
    v.readCov ((⟨Rect.unit o sz inb, p⟩ : View.Piece Val S e) :: L) (Rect.unit o' sz inb').toLoadRect = p := by
  subst h
  exact readCov_same v _ p L

/-- A load of the whole of the rectangle just written. -/
theorem Stored.ld {Val : EltTy → Type} {e : EltTy} {S : Shape} {X' X : S.Idx → Val e} {r : Rect S} {p : r.shape.Idx → Val e} (h : Stored X' X r p) :
    View.ld X' r = p := funext fun j => h.1 j

/-- A load of a rectangle that shares no place with the one written. -/
theorem Stored.ld_other {Val : EltTy → Type} {e : EltTy} {S : Shape} {X' X : S.Idx → Val e} {r : Rect S} {p : r.shape.Idx → Val e} (h : Stored X' X r p)
    (r' : Rect S) (hd : ∀ j, r'.emb j ∉ r.set) : View.ld X' r' = View.ld X r' := funext fun j => h.2 _ (hd j)

/-- Two blocks of rows at starts that a whole block separates share no place. -/
theorem rows_apart {M N m n : ℕ} (o o' : Fin 2 → ℕ) (inb : ∀ a, o a + (⟨2, ![m, n]⟩ : Shape).size a ≤ (⟨2, ![M, N]⟩ : Shape).size a)
    (inb' : ∀ a, o' a + (⟨2, ![m, n]⟩ : Shape).size a ≤ (⟨2, ![M, N]⟩ : Shape).size a) (h : o' 0 + m ≤ o 0 ∨ o 0 + m ≤ o' 0)
    (j : (Rect.unit (s := ⟨2, ![M, N]⟩) o' (⟨2, ![m, n]⟩ : Shape).size inb').shape.Idx) :
    (Rect.unit (s := ⟨2, ![M, N]⟩) o' (⟨2, ![m, n]⟩ : Shape).size inb').emb j ∉ (Rect.unit (s := ⟨2, ![M, N]⟩) o (⟨2, ![m, n]⟩ : Shape).size inb).set := by
  refine Rect.not_mem_set_of_axis _ _ (0 : Fin 2) (o 0) m rfl rfl rfl ?_
  have hj : (j (0 : Fin 2)).val < m := (j 0).isLt
  have e : ((Rect.unit (s := ⟨2, ![M, N]⟩) o' (⟨2, ![m, n]⟩ : Shape).size inb').emb j (0 : Fin 2)).val = o' 0 + 1 * (j (0 : Fin 2)).val := rfl
  rw [e]
  omega

end Cert.Common

end
-- ==== Proof.FfnUpRun.lean ====
/- One step of the up-projection's kernel, on any buffers: the step that first normalises its rows and stores them, and
   the step that finds them stored. -/
module

public import proofs.«01_k».proof.Proof.Rows
public import proofs.«01_k».proof.Proof.Gen.FfnUpIdeal.Skeleton
public import proofs.«01_k».proof.Proof.Gen.FfnUpIdeal.Frame

@[expose] public section

set_option maxRecDepth 16384

noncomputable section

namespace Cert.FfnUp.Frame

open Cert.Common
open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two stores that fill a block of two layers. -/
abbrev two (a b : Vec F S1x1x1024x704 .bf16) : List (View.Piece (Elt F) S2x1x1024x704 .bf16) :=
  [⟨Rect.unit ![1, 0, 0, 0] S1x1x1024x704.size inb_S2x1x1024x704_S1x1x1024x704_1_0_0_0, b⟩,
    ⟨Rect.unit ![0, 0, 0, 0] S1x1x1024x704.size inb_S2x1x1024x704_S1x1x1024x704_0_0_0_0, a⟩]

/-- Two matrices as the two layers of a block. -/
def layers (a b : Vec F S1x1x1024x704 .bf16) : Vec F S2x1x1024x704 .bf16 := View.canon (two a b)

/-- Writing both layers leaves them, whatever the block held. -/
theorem read_layers (v : View sig .tc .vmem S2x1x1024x704 .bf16) (f : v.ty.Contents (Elt F)) (a b : Vec F S1x1x1024x704 .bf16) :
    v.read (Elt F) (v.writes (Elt F) f (two a b)) = layers a b :=
  View.read_writes_eq_canon v f (two a b) fun y => View.cover_of_tiledL (two a b) S1x1x1024x704.size (by sl_kernel_rfl) y

/-- The rows of the scratch that a step works on. -/
abbrev rws (i : grid0.Coords) : Rect S2048x1024 := Rect.unit (s := S2048x1024) (k0_off2 i) S1024x1024.size (k0_off2_inb i)

variable (c : Dev nD) (i : grid0.Coords) (arg2 : Memref sig .tc .vmem S1024x1024 .f32) (harg2 : arg2.IsWhole) (arg3 : Memref sig .tc .vmem S1x1x1024 .f32) (harg3 : arg3.IsWhole) (arg4 : Memref sig .tc .vmem S1x1x704x1024 .bf16) (harg4 : arg4.IsWhole) (arg5 : Memref sig .tc .vmem S1x1x704x1024 .bf16) (harg5 : arg5.IsWhole)
    (arg6 : Memref sig .tc .vmem S1024x1024 .bf16) (harg6 : arg6.IsWhole) (arg7 : Memref sig .tc .vmem S2x1x1024x704 .bf16) (harg7 : arg7.IsWhole) (arg8 : Memref sig .tc .vmem S1x1024x704 .bf16) (harg8 : arg8.IsWhole) (arg9 : Memref sig .tc .vmem S2048x1024 .bf16) (harg9 : arg9.IsWhole)

set_option maxHeartbeats 1000000 in
/-- A step that normalises its rows: it stores them in the scratch and in the first result, and multiplies them. -/
theorem runA (hc : k0_cond1 i = 1#1) (x0 : Vec F S1024x1024 .f32) (x1 : Vec F S1x1x1024 .f32) (x2 x3 : Vec F S1x1x704x1024 .bf16) (X : Vec F S2048x1024 .bf16) (E : Set ℕ) (K : PUnit → sProp 𝕄) :
    iprop(owns c.tc arg2 fullShare x0 ∗ owns c.tc arg3 fullShare x1 ∗ owns c.tc arg4 fullShare x2 ∗ owns c.tc arg5 fullShare x3
        ∗ (∃ d, owns c.tc arg6 fullShare d) ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3
        ∗ owns c.tc arg6 fullShare (k0_pay2 x0 x1) ∗ owns c.tc arg7 fullShare (layers (k0_pay6 (k0_pay3 x0 x1) x2) (k0_pay7 (k0_pay3 x0 x1) x3))
        ∗ owns c.tc arg8 fullShare (k0_pay1 (k0_pay8 (k0_pay3 x0 x1) x2 x3)) ∗ (∃ X', ⌜Stored X' X (rws i) (k0_pay3 x0 x1)⌝ ∗ owns c.tc arg9 fullShare X')) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg9.eq_unread hf7
  sl_exec (disch := first | sl_exact hc)
  sl_step
  iapply Hk
  isplitl [H0]; · iexists _; iframe H0 %hf0
  isplitl [H1]; · iexists _; iframe H1 %hf1
  isplitl [H2]; · iexists _; iframe H2 %hf2
  isplitl [H3]; · iexists _; iframe H3 %hf3
  unfold runA.sl.v6 runA.sl.H7_1
  have hv : ∀ p : Vec F S1024x1024 .bf16, arg9.view.readCov [(⟨Rect.unit (s := S2048x1024) (k0_off1 i) S1024x1024.size (k0_off1_inb i hc), p⟩ : View.Piece (Elt F) S2048x1024 .bf16)] (rws i).toLoadRect = p :=
    fun p => readCov_rows arg9.view (rfl : k0_off1 i = k0_off2 i) _ _ _ p []
  simp only [hv, readAt_whole harg2 _ zz, readAt_whole harg3 _ zzz, readAt_whole harg4 _ zzzz, readAt_whole harg5 _ zzzz]
  isplitl [H4]; · iexists _; iframe H4; ipureintro; exact read_store _ _ zz _ _
  isplitl [H5]; · iexists _; iframe H5; ipureintro; exact read_layers _ _ _ _
  isplitl [H6]; · iexists _; iframe H6; ipureintro; exact read_store _ _ zzz _ _
  iexists _; isplitr
  swap
  · iexists _; isplitr; swap; · iexact H7
    ipureintro; rfl
  ipureintro
  have h := stored_read (Val := Elt F) arg9.view (harg9.unread X) (rws i) (k0_pay3 x0 x1)
  rw [hf7] at h
  exact h

set_option maxHeartbeats 1000000 in
/-- A step that finds its rows normalised, `h`, in the scratch: it multiplies them and leaves the first result's buffer. -/
theorem runB (hc : ¬ k0_cond1 i = 1#1) (x0 : Vec F S1024x1024 .f32) (x1 : Vec F S1x1x1024 .f32) (x2 x3 : Vec F S1x1x704x1024 .bf16) (y : Vec F S1024x1024 .bf16) (X : Vec F S2048x1024 .bf16) (h : Vec F S1024x1024 .bf16)
    (hX : View.ld X (rws i) = h) (E : Set ℕ) (K : PUnit → sProp 𝕄) :
    iprop(owns c.tc arg2 fullShare x0 ∗ owns c.tc arg3 fullShare x1 ∗ owns c.tc arg4 fullShare x2 ∗ owns c.tc arg5 fullShare x3
        ∗ owns c.tc arg6 fullShare y ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3
        ∗ owns c.tc arg6 fullShare y ∗ owns c.tc arg7 fullShare (layers (k0_pay6 h x2) (k0_pay7 h x3))
        ∗ owns c.tc arg8 fullShare (k0_pay1 (k0_pay8 h x2 x3)) ∗ owns c.tc arg9 fullShare X) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  obtain rfl := harg2.eq_unread hf0; obtain rfl := harg3.eq_unread hf1; obtain rfl := harg4.eq_unread hf2
  obtain rfl := harg5.eq_unread hf3; obtain rfl := harg9.eq_unread hf7
  sl_exec (disch := first | sl_exact hc)
  sl_step
  iapply Hk
  have hh : View.readAt (Elt F) arg9.view (rws i).toLoadRect (harg9.unread X) = h := by
    rw [View.readAt_eq_ld, hf7, hX]
  isplitl [H0]; · iexists _; iframe H0 %hf0
  isplitl [H1]; · iexists _; iframe H1 %hf1
  isplitl [H2]; · iexists _; iframe H2 %hf2
  isplitl [H3]; · iexists _; iframe H3 %hf3
  rw [hh]
  simp only [readAt_whole harg2 _ zz, readAt_whole harg3 _ zzz, readAt_whole harg4 _ zzzz, readAt_whole harg5 _ zzzz]
  isplitl [H4]; · iexists _; iframe H4 %hf4
  isplitl [H5]; · iexists _; iframe H5; ipureintro; exact read_layers _ _ _ _
  isplitl [H6]; · iexists _; iframe H6; ipureintro; exact read_store _ _ zzz _ _
  iexists _; isplitr; swap; · iexact H7
  ipureintro; exact hf7

end Cert.FfnUp.Frame

end
-- ==== Proof.FfnUpFrame.lean ====
/- The up-projection's kernel run on its grid: four column blocks, two row blocks. The first column block's steps normalise
   the rows and keep them in the scratch, which the later steps find as they were left. -/
module

public import proofs.«01_k».proof.Proof.FfnUpRun

@[expose] public section

set_option maxRecDepth 16384

noncomputable section

namespace Cert.FfnUp.Frame

open Cert.Common
open Cert.FfnUpIdeal Cert.FfnUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 8 := Nat.lt_of_lt_of_eq t.isLt N_0

/-- The first step on the rows of step `t`. -/
def fst (t : Fin cfg0.N) : Fin cfg0.N := ⟨t.val % 2, lt_of_le_of_lt (Nat.mod_le _ _) t.isLt⟩

/-- The last step up to `t` that normalises rows. -/
def cap (t : Fin cfg0.N) : Fin cfg0.N := ⟨min t.val 1, lt_of_le_of_lt (min_le_left _ _) t.isLt⟩

/-- The normalised rows of step `t`. -/
def hb (c : Dev nD) (t : Fin cfg0.N) : Vec F S1024x1024 .bf16 := k0_pay3 (iblk m c 0 (fst t)) (iblk m c 1 (fst t))

/-- After `k` steps the scratch holds the rows normalised so far. -/
def Filled (c : Dev nD) (k : ℕ) (X : Vec F S2048x1024 .bf16) : Prop :=
  ∀ s : Fin cfg0.N, s.val < 2 → s.val < k → View.ld X (rws (grid0.coords s)) = hb m c s

/-- The scratch. -/
abbrev scr : Memref sig .tc .vmem S2048x1024 .bf16 := Memref.whole cc0_scratch0

/-- What holds between the steps. -/
def Inv (c : Dev nD) (k : ℕ) : sProp 𝕄 :=
  iprop((∃ X, ⌜Filled m c k X⌝ ∗ owns c.tc scr fullShare X) ∗ (∃ r, prngReg c r))

/-- What the run starts from and ends with: the scratch at some contents. -/
theorem scoped_eq (c : Dev nD) :
    (Pipeline.ΦA spec0 c : sProp 𝕄) = iprop(iprop((∃ d, owns c.tc scr fullShare d)) ∗ (∃ r, prngReg c r)) := by
  unfold Pipeline.ΦA; rw [scopedRest0_eq]; simp only [scr, owns_whole]; try rfl

/-- The arrays as the region finds them, and what each buffer holds after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (iblk m c 0 (cap t)) (iblk m c 1 (cap t))
    | ⟨5, _⟩ => layers (k0_pay6 (hb m c t) (iblk m c 2 t)) (k0_pay7 (hb m c t) (iblk m c 3 t))
    | ⟨6, _⟩ => k0_pay1 (k0_pay8 (hb m c t) (iblk m c 2 t) (iblk m c 3 t))
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (iblk m c 0 (cap t)) (iblk m c 1 (cap t)) := by dsimp only [dats]
theorem after0_5 (c : Dev nD) (t : Fin cfg0.N) : (dats m 0 c).after 5 t = layers (k0_pay6 (hb m c t) (iblk m c 2 t)) (k0_pay7 (hb m c t) (iblk m c 3 t)) := by dsimp only [dats]
theorem after0_6 (c : Dev nD) (t : Fin cfg0.N) : (dats m 0 c).after 6 t = k0_pay1 (k0_pay8 (hb m c t) (iblk m c 2 t) (iblk m c 3 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The first two steps normalise rows, the others do not. -/
theorem cond_iff : ∀ t : Fin cfg0.N, k0_cond1 (grid0.coords t) = 1#1 ↔ t.val < 2 :=
  (by decide +kernel : ∀ t : Fin grid0.N, _)

/-- The rows of a step start at its row block. -/
theorem start : ∀ t : Fin cfg0.N, k0_off2 (grid0.coords t) 0 = 1024 * (t.val % 2) :=
  (by decide +kernel : ∀ t : Fin grid0.N, _)

theorem rws_fst : ∀ t : Fin cfg0.N, k0_off2 (grid0.coords t) = k0_off2 (grid0.coords (fst t)) :=
  (by decide +kernel : ∀ t : Fin grid0.N, _)

theorem idle_live : ∀ t : Fin cfg0.N, t.val < 2 → cfg0.idle 4 (grid0.coords t) = false :=
  (by decide +kernel : ∀ t : Fin grid0.N, _)
theorem idle_idle : ∀ t : Fin cfg0.N, ¬ t.val < 2 → cfg0.idle 4 (grid0.coords t) = true :=
  (by decide +kernel : ∀ t : Fin grid0.N, _)
theorem flush4 : ∀ t : Fin cfg0.N, (cfg0.win 4).flush t = true ↔ t.val = 0 ∨ t.val = 7 :=
  (by decide +kernel : ∀ t : Fin grid0.N, _)
theorem live5 : ∀ t : Fin cfg0.N, cfg0.idle 5 (grid0.coords t) = false := fun _ => rfl
theorem live6 : ∀ t : Fin cfg0.N, cfg0.idle 6 (grid0.coords t) = false := fun _ => rfl

/-- A step that normalises rows adds its own to the scratch. -/
theorem filled_step (c : Dev nD) (t : Fin cfg0.N) (ht : t.val < 2) (X X' : Vec F S2048x1024 .bf16) (h : Filled m c t.val X)
    (hs : Stored X' X (rws (grid0.coords t)) (hb m c t)) : Filled m c (t.val + 1) X' := by
  intro s h2 hk
  rcases Nat.lt_or_eq_of_le (Nat.le_of_lt_succ hk) with hlt | heq
  · rw [← h s h2 hlt]
    refine hs.ld_other (rws (grid0.coords s)) fun j => ?_
    refine rows_apart (M := 2048) (N := 1024) (m := 1024) (n := 1024) _ _ (k0_off2_inb (grid0.coords t)) (k0_off2_inb (grid0.coords s)) ?_ j
    rw [start, start]; omega
  · obtain rfl : s = t := Fin.ext heq
    exact hs.ld

/-- A step after them keeps the scratch. -/
theorem filled_keep (c : Dev nD) (t : Fin cfg0.N) (ht : ¬ t.val < 2) (X : Vec F S2048x1024 .bf16) (h : Filled m c t.val X) : Filled m c (t.val + 1) X :=
  fun s h2 _ => h s h2 (by omega)

/-- and finds its rows there. -/
theorem filled_ld (c : Dev nD) (t : Fin cfg0.N) (ht : ¬ t.val < 2) (X : Vec F S2048x1024 .bf16) (h : Filled m c t.val X) :
    View.ld X (rws (grid0.coords t)) = hb m c t := by
  have hf : (fst t).val = t.val % 2 := rfl
  have e := h (fst t) (by omega) (by omega)
  have e' : hb m c (fst t) = hb m c t := by
    unfold hb; rw [show fst (fst t) = fst t from Fin.ext (Nat.mod_mod _ _)]
  rw [← e', ← e]
  have hr : ∀ (o o' : Fin 2 → ℕ) (p : ∀ a, o a + S1024x1024.size a ≤ S2048x1024.size a) (p' : ∀ a, o' a + S1024x1024.size a ≤ S2048x1024.size a), o = o' →
      View.ld X (Rect.unit (s := S2048x1024) o S1024x1024.size p) = View.ld X (Rect.unit (s := S2048x1024) o' S1024x1024.size p') := by
    intro o o' p p' ho; subst ho; rfl
  exact hr _ _ _ _ (rws_fst t)

/-- The first result's buffer at a step that leaves it: the last normalised rows. -/
theorem before4 (c : Dev nD) : ∀ (k : ℕ) (t : Fin cfg0.N), t.val = k + 2 → ∀ d, (dats m 0 c).before 4 t d = (dats m 0 c).after 4 t := by
  have haft : ∀ t t' : Fin cfg0.N, 1 ≤ t.val → 1 ≤ t'.val → (dats m 0 c).after 4 t = (dats m 0 c).after 4 t' := fun t t' h h' => by
    rw [after0_4, after0_4, show cap t = cap t' from Fin.ext (by show min _ _ = min _ _; omega)]
  intro k
  induction k with
  | zero =>
    intro t ht d
    have h8 := lt_N t
    rw [Dat.before_of_pos _ 4 t (by omega) rfl, if_neg (by rw [flush4]; show ¬ (t.val - 1 = 0 ∨ t.val - 1 = 7); omega)]
    unfold Dat.left
    rw [idle_live _ (show t.val - 1 < 2 by omega)]
    exact haft ⟨t.val - 1, _⟩ t (show 1 ≤ t.val - 1 by omega) (by omega)
  | succ k ih =>
    intro t ht d
    have h8 := lt_N t
    rw [Dat.before_of_pos _ 4 t (by omega) rfl, if_neg (by rw [flush4]; show ¬ (t.val - 1 = 0 ∨ t.val - 1 = 7); omega)]
    unfold Dat.left
    rw [idle_idle _ (show ¬ t.val - 1 < 2 by omega)]
    exact (ih ⟨t.val - 1, _⟩ (show t.val - 1 = k + 2 by omega) d).trans (haft ⟨t.val - 1, _⟩ t (show 1 ≤ t.val - 1 by omega) (by omega))

/-- What that buffer holds after such a step. -/
theorem leaves4 (c : Dev nD) (t : Fin cfg0.N) (ht : ¬ t.val < 2) (d) :
    owns c.tc (win0_4.stage (cfg0.slots t 4)) fullShare ((dats m 0 c).before 4 t d) ⊢ ((dats m 0 c).leavesExact 4 t : sProp 𝕄) := by
  by_cases hf : (cfg0.win 4).flush t = true
  · unfold Dat.leavesExact
    rw [idle_idle t ht, hf, before4 m c (t.val - 2) t (by omega) d]
  · rw [Dat.leavesExact_idle _ 4 t (idle_idle t ht) (by simpa using hf)]
    iintro H; iexists d; iexact H

/-- What the body is called with, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns c.tc (win0_0.stage (cfg0.slots t 0)) fullShare ((dats m 0 c).after 0 t) from rfl, after0_0]
  rw [show (dats m 0 c).leavesExact 1 t = owns c.tc (win0_1.stage (cfg0.slots t 1)) fullShare ((dats m 0 c).after 1 t) from rfl, after0_1]
  rw [show (dats m 0 c).leavesExact 2 t = owns c.tc (win0_2.stage (cfg0.slots t 2)) fullShare ((dats m 0 c).after 2 t) from rfl, after0_2]
  rw [show (dats m 0 c).leavesExact 3 t = owns c.tc (win0_3.stage (cfg0.slots t 3)) fullShare ((dats m 0 c).after 3 t) from rfl, after0_3]
  rw [show (dats m 0 c).leavesExact 5 t = owns c.tc (win0_5.stage (cfg0.slots t 5)) fullShare ((dats m 0 c).after 5 t) from rfl, after0_5]
  rw [show (dats m 0 c).leavesExact 6 t = owns c.tc (win0_6.stage (cfg0.slots t 6)) fullShare ((dats m 0 c).after 6 t) from rfl, after0_6]
  unfold Inv
  by_cases ht : t.val < 2
  · rw [show (dats m 0 c).leavesExact 4 t = owns c.tc (win0_4.stage (cfg0.slots t 4)) fullShare ((dats m 0 c).after 4 t) from by
      unfold Dat.leavesExact; rw [idle_live t ht], after0_4,
      show cap t = t from Fin.ext (by show min _ _ = _; omega)]
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ (Memref.isWhole_whole _) ((cond_iff t).2 ht) (iblk m c 0 t) (iblk m c 1 t) (iblk m c 2 t) (iblk m c 3 t) X Set.univ _)
    iframe H0 H1 H2 H3
    isplitl [H4]; · iexists _; iexact H4
    isplitl [H5]; · iexists _; iexact H5
    isplitl [H6]; · iexists _; iexact H6
    isplitl [HS]; · iexact HS
    have hh : k0_pay3 (iblk m c 0 t) (iblk m c 1 t) = hb m c t := by
      unfold hb; rw [show fst t = t from Fin.ext (Nat.mod_eq_of_lt ht)]
    rw [hh]
    iintro ⟨H0, H1, H2, H3, H4, H5, H6, ⟨%X', %hX', HS⟩⟩
    isplitl [HS Hg]
    · isplitl [HS]
      · iexists X'; isplitr; swap; · iexact HS
        ipureintro; exact filled_step m c t ht X X' hX hX'
      iexact Hg
    iframe Ho H0 H1 H2 H3 H4 H5
    iexact H6
  · iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ (Memref.isWhole_whole _) (fun h => ht ((cond_iff t).1 h)) (iblk m c 0 t) (iblk m c 1 t) (iblk m c 2 t) (iblk m c 3 t) _ X (hb m c t) (filled_ld m c t ht X hX) Set.univ _)
    iframe H0 H1 H2 H3 H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists X; isplitr; swap; · iexact HS
        ipureintro; exact filled_keep m c t ht X hX
      iexact Hg
    iframe Ho H0 H1 H2 H3
    isplitl [H4]; · iapply (leaves4 m c t ht d4); iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

/-- The body meets what the pipeline asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem start_inv (c : Dev nD) : (Pipeline.ΦA spec0 c : sProp 𝕄) ⊢ (dats m 0 c).Φ 0 := by
  rw [scoped_eq, show (dats m 0 c).Φ 0 = Inv m c 0 from rfl]
  unfold Inv
  iintro ⟨⟨%d, H⟩, Hg⟩
  isplitl [H]
  · iexists d; isplitr; swap; · iexact H
    ipureintro; exact fun s _ h => absurd h (Nat.not_lt_zero _)
  iexact Hg

theorem end_inv (c : Dev nD) : (dats m 0 c).Φ (Fin.last cfg0.N) ⊢ (Pipeline.ΦA spec0 c : sProp 𝕄) := by
  rw [scoped_eq, show (dats m 0 c).Φ (Fin.last cfg0.N) = Inv m c cfg0.N from rfl]
  unfold Inv
  iintro ⟨⟨%X, -, H⟩, Hg⟩
  isplitl [H]
  · iexists X; iexact H
  iexact Hg

set_option backward.isDefEq.respectTransparency.types false in
/-- Every run ends with every array at what its buffers were written back as, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := start_inv m) (hout := end_inv m)

theorem run_main : θ_run defs (onTc (τ := τ) (main (F := F))) (s₀ m ρ) (Pipeline.FramePost cfgs (dats m) 0 (V m)) :=
  (θ_run defs _ _).mono (fun _ h => h.1) (run_main_quiescent m ρ)

end Cert.FfnUp.Frame

end
-- ==== Proof.Norm.lean ====
/- The normalisation of the rows of a matrix: each row times the reciprocal square root of its mean square (plus a small
   constant), times a weight for each column. Its value at one entry, as a kernel's operations write it. -/
module

public import proofs.«01_k».proof.Proof.Common

@[expose] public section

noncomputable section

namespace Cert.Common

open Idealize.ShloMosaic Idealize.ShloMosaic.ValueIdx
open scoped BigOperators

/-- The reciprocal square root of row `a`'s mean square plus the small constant. -/
def rinv {M : ℕ} (x : Mat M 1024) (a : Fin M) : EReal :=
  Ideal.rsqrt (Ideal.div (∑ k : Fin 1024, x (ix2 a k) * x (ix2 a k)) (Ideal.ofBits .f32 0x44800000#32) + Ideal.ofBits .f32 0x358637BD#32)

/-- The normalised matrix at an entry, its columns weighted by row `l` of `g`. -/
def nrm {M L : ℕ} (x : Mat M 1024) (g : Mat L 1024) (l : Fin L) (a : Fin M) (b : Fin 1024) : EReal :=
  x (ix2 a b) * rinv x a * g (ix2 l b)

/-- The sum of a row. -/
theorem row_sum {M N : ℕ} (v : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (a : Fin M) :
    multiReduction .add [1] ⟨1, ![M]⟩ v 0x00000000#32 h hφ hacc (ix1 a) = ∑ k : Fin N, v (ix2 a k) := by
  refine (Ideal.multiReduction_add_single (a := (1 : Fin 2)) v _ h hφ hacc (ix1 a)).trans ?_
  refine Finset.sum_congr rfl fun k _ => congrArg v (funext fun e => Fin.ext ?_)
  match e with
  | ⟨0, _⟩ => rfl
  | ⟨1, _⟩ => rfl

/-- The sum of a column. -/
theorem col_sum {M N : ℕ} (v : FVec Ideal ⟨2, ![M, N]⟩ .f32) (h : (⟨2, ![M, N]⟩ : Shape).Reduces [0] ⟨1, ![N]⟩)
    (hφ : FKind.Formats .f32) (hacc : (0x00000000#32 : BitVec 32) = FKind.add.neutral .f32 hφ) (b : Fin N) :
    multiReduction .add [0] ⟨1, ![N]⟩ v 0x00000000#32 h hφ hacc (ix1 b) = ∑ k : Fin M, v (ix2 k b) := by
  have e1 := Ideal.multiReduction_add_single v 0x00000000#32 h hφ hacc (ix1 b)
  refine e1.trans ?_
  refine Finset.sum_congr rfl fun k _ => congrArg v (funext fun e => Fin.ext ?_)
  match e with
  | ⟨0, _⟩ => rfl
  | ⟨1, _⟩ => rfl

/-- A column recast from a list. -/
theorem cast_col {α : Type} {M : ℕ} (v : (⟨1, ![M]⟩ : Shape).Idx → α) (h : (⟨1, ![M]⟩ : Shape).ShapeCasts ⟨2, ![M, 1]⟩) (a : Fin M) (b : Fin 1) :
    shapeCast ⟨2, ![M, 1]⟩ v h (ix2 a b) = v (ix1 a) := by
  refine shapeCast_apply v h (ix2 a b) (ix1 a) ?_
  rw [Shape.rowMajor_val_one, Shape.rowMajor_val_two]
  have hb := b.isLt
  show a.val = a.val * 1 + b.val
  omega

/-- A row recast from a list. -/
theorem cast_row {α : Type} {N : ℕ} (v : (⟨1, ![N]⟩ : Shape).Idx → α) (h : (⟨1, ![N]⟩ : Shape).ShapeCasts ⟨2, ![1, N]⟩) (a : Fin 1) (b : Fin N) :
    shapeCast ⟨2, ![1, N]⟩ v h (ix2 a b) = v (ix1 b) := by
  refine shapeCast_apply v h (ix2 a b) (ix1 b) ?_
  rw [Shape.rowMajor_val_one, Shape.rowMajor_val_two]
  have ha : a.val = 0 := by omega
  show b.val = a.val * N + b.val
  rw [ha]; omega

/-- A column repeated along the rows. -/
theorem spread_col {α : Type} {M N : ℕ} (hM : M ≠ 1) (v : (⟨2, ![M, 1]⟩ : Shape).Idx → α) (h : (⟨2, ![M, 1]⟩ : Shape).Broadcasts ⟨2, ![M, N]⟩)
    (a : Fin M) (b : Fin N) : broadcastTo ⟨2, ![M, N]⟩ v h (ix2 a b) = v (ix2 a 0) := by
  refine broadcastTo_apply v h (ix2 a b) (ix2 a 0) fun x => ?_
  match x with
  | ⟨0, _⟩ => exact (if_neg hM).symm
  | ⟨1, _⟩ => exact (if_pos rfl).symm

/-- A row repeated along the columns. -/
theorem spread_row {α : Type} {M N : ℕ} (hN : N ≠ 1) (v : (⟨2, ![1, N]⟩ : Shape).Idx → α) (h : (⟨2, ![1, N]⟩ : Shape).Broadcasts ⟨2, ![M, N]⟩)
    (a : Fin M) (b : Fin N) : broadcastTo ⟨2, ![M, N]⟩ v h (ix2 a b) = v (ix2 0 b) := by
  refine broadcastTo_apply v h (ix2 a b) (ix2 0 b) fun x => ?_
  match x with
  | ⟨0, _⟩ => exact (if_pos rfl).symm
  | ⟨1, _⟩ => exact (if_neg hN).symm

/-- A stack of one stack of one matrix recast as its matrix. -/
theorem cast_drop2 {α : Type} {M N : ℕ} (v : (⟨4, ![1, 1, M, N]⟩ : Shape).Idx → α)
    (h : (⟨4, ![1, 1, M, N]⟩ : Shape).ShapeCasts ⟨2, ![M, N]⟩) (a : Fin M) (b : Fin N) :
    shapeCast ⟨2, ![M, N]⟩ v h (ix2 a b) = v (ix4 0 0 a b) := by
  refine shapeCast_apply v h (ix2 a b) (ix4 0 0 a b) ?_
  rw [Shape.rowMajor_val_two, Shape.rowMajor_val_four]
  show ((0 * 1 + 0) * M + a.val) * N + b.val = a.val * N + b.val
  simp only [Nat.zero_mul, Nat.zero_add]

/-- The reciprocal square root as a kernel's operations write it. -/
theorem kernel_rinv {M : ℕ} (x : FVec Ideal ⟨2, ![M, 1024]⟩ .f32) (h : (⟨2, ![M, 1024]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (a : Fin M) (b : Fin 1) :
    rsqrt (addf (divf (shapeCast ⟨2, ![M, 1]⟩ (multiReduction .add [1] ⟨1, ![M]⟩ (mulf x x) 0x00000000#32 h hφ hacc) hc)
        (broadcast ⟨2, ![M, 1]⟩ (Scalar.ofBits (F := Ideal) .f32 0x44800000#32)))
      (broadcast ⟨2, ![M, 1]⟩ (Scalar.ofBits (F := Ideal) .f32 0x358637BD#32))) (ix2 a b) = rinv x a := by
  show Ideal.rsqrt (Ideal.div (shapeCast ⟨2, ![M, 1]⟩ _ hc (ix2 a b)) (Ideal.ofBits .f32 0x44800000#32) + Ideal.ofBits .f32 0x358637BD#32) = _
  rw [cast_col, row_sum]
  rfl

/-- The normalised matrix as a kernel's operations write it. -/
theorem kernel_nrm {M : ℕ} (hM : M ≠ 1) (x : FVec Ideal ⟨2, ![M, 1024]⟩ .f32) (g : FVec Ideal ⟨3, ![1, 1, 1024]⟩ .f32)
    (h : (⟨2, ![M, 1024]⟩ : Shape).Reduces [1] ⟨1, ![M]⟩)
    (hφ : FKind.Formats .f32) (hacc : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, 1024]⟩)
    (hg : (⟨3, ![1, 1, 1024]⟩ : Shape).ShapeCasts ⟨2, ![1, 1024]⟩) (hb' : (⟨2, ![1, 1024]⟩ : Shape).Broadcasts ⟨2, ![M, 1024]⟩)
    (a : Fin M) (b : Fin 1024) :
    mulf (mulf x (broadcastTo ⟨2, ![M, 1024]⟩ (rsqrt (addf (divf (shapeCast ⟨2, ![M, 1]⟩ (multiReduction .add [1] ⟨1, ![M]⟩ (mulf x x) 0x00000000#32 h hφ hacc) hc)
        (broadcast ⟨2, ![M, 1]⟩ (Scalar.ofBits (F := Ideal) .f32 0x44800000#32)))
      (broadcast ⟨2, ![M, 1]⟩ (Scalar.ofBits (F := Ideal) .f32 0x358637BD#32)))) hb))
      (broadcastTo ⟨2, ![M, 1024]⟩ (shapeCast ⟨2, ![1, 1024]⟩ g hg) hb') (ix2 a b)
      = x (ix2 a b) * rinv x a * g (ix3 0 0 b) := by
  refine congrArg₂ (· * ·) (congrArg₂ (· * ·) rfl ?_) ?_
  · rw [spread_col hM]; exact kernel_rinv x h hφ hacc hc a 0
  · rw [spread_row (by decide)]; exact cast_drop g hg 0 b

end Cert.Common

end
-- ==== Proof.FfnUpClaim.lean ====
/- The feed-forward up-projection: rows normalised, multiplied by the two halves of a weight matrix, and gated. What the
   call's run leaves in its three result arrays, as functions of the argument arrays, and the same from the reference. -/
module

public import proofs.«01_k».proof.Proof.FfnUpFrame
public import proofs.«01_k».proof.Proof.Norm
public import proofs.«01_k».proof.Proof.Gen.FfnUpReferenceIdeal.Run
public import proofs.«01_k».proof.Proof.Gen.FfnUpReferenceIdeal.Read

@[expose] public section

set_option maxRecDepth 16384

noncomputable section

namespace Cert.FfnUp

open Cert.Common Idealize.ShloMosaic Idealize.ShloMosaic.TcCoe Idealize.ShloMosaic.ValueIdx
open Idealize.SL.Sem
open scoped BigOperators

/-- The up-projection at row `a` and column `j` of its 5632: the normalised row times the weights' column. -/
def up (x : Mat 2048 1024) (g : Mat 4 1024) (w : Mat 1024 5632) (a : Fin 2048) (j : Fin 5632) : EReal :=
  ∑ k : Fin 1024, nrm x g 0 a k * w (ix2 k j)

/-- The gated value at row `a` and column `j` of its 2816: the first half's entry times its logistic function times the second half's entry. -/
def gated (x : Mat 2048 1024) (g : Mat 4 1024) (w : Mat 1024 5632) (a : Fin 2048) (j : Fin 2816) : EReal :=
  up x g w a ⟨j.val, by omega⟩ * sg (up x g w a ⟨j.val, by omega⟩) * up x g w a ⟨2816 + j.val, by omega⟩

/-- The first result: the normalised rows. -/
def res0 (x : Mat 2048 1024) (g : Mat 4 1024) : Mat 2048 1024 := fun i => nrm x g 0 (i 0) (i 1)

/-- The second result: the two halves of the up-projection, each cut into four column blocks. -/
def res1 (x : Mat 2048 1024) (g : Mat 4 1024) (w : Mat 1024 5632) : Stk4 2 4 2048 704 := fun i =>
  up x g w (i 2) ⟨((i 0).val * 4 + (i 1).val) * 704 + (i 3).val, by
    have h0 : (i 0).val < 2 := (i 0).isLt
    have h1 : (i 1).val < 4 := (i 1).isLt
    have h3 : (i 3).val < 704 := (i 3).isLt
    omega⟩

/-- The third result: the gated values, cut into four column blocks. -/
def res2 (x : Mat 2048 1024) (g : Mat 4 1024) (w : Mat 1024 5632) : Stk 4 2048 704 := fun i =>
  gated x g w (i 1) ⟨(i 0).val * 704 + (i 2).val, by
    have h0 : (i 0).val < 4 := (i 0).isLt
    have h2 : (i 2).val < 704 := (i 2).isLt
    omega⟩

section
open Cert.FfnUpIdeal Cert.FfnUpIdeal.Gen Cert.FfnUp.Frame

variable (m : (ℓ : Loc nD τ sig) → Buf (Elt Ideal) ℓ) (ρ : Dev nD → PrngReg)

/-- The column weights as the region finds them. -/
theorem V_main_v0 (c : Dev nD) (l : Fin 4) (e : Fin 1) (b : Fin 1024) :
    V m c main_v0 (ix3 l e b) = m (c.tc.loc main_arg1) (ix2 l b) := by
  have h : V m c main_v0 = shapeCast S4x1x1024 (m (c.tc.loc main_arg1)) shapeCasts_S4x1024_S4x1x1024 := by
    show StableHlo.after hostOps0 _ (Proc.devRef .tc main_v0) = _
    after_results
    rfl
  rw [h]
  refine shapeCast_apply _ shapeCasts_S4x1024_S4x1x1024 (ix3 l e b) (ix2 l b) ?_
  rw [Shape.rowMajor_val_two, Shape.rowMajor_val_three]
  show l.val * 1024 + b.val = (l.val * 1 + e.val) * 1024 + b.val
  omega

/-- The weights as the region finds them: transposed and cut into 8 matrices of 704 rows. -/
theorem V_main_v2 (c : Dev nD) (l : Fin 1) (e : Fin 8) (a : Fin 704) (b : Fin 1024) :
    V m c main_v2 (ix4 l e a b) = m (c.tc.loc main_arg2) (ix2 b ⟨e.val * 704 + a.val, by omega⟩) := by
  have h : V m c main_v2 = shapeCast S1x8x704x1024 (transpose S5632x1024 [1, 0]
      (m (c.tc.loc main_arg2)) transposes_S1024x5632_S5632x1024_1_0) shapeCasts_S5632x1024_S1x8x704x1024 := by
    show StableHlo.after hostOps0 _ (Proc.devRef .tc main_v2) = _
    after_results
    rfl
  rw [h]
  refine (shapeCast_apply _ shapeCasts_S5632x1024_S1x8x704x1024 (ix4 l e a b) (ix2 (⟨e.val * 704 + a.val, by omega⟩ : Fin 5632) b) ?_).trans ?_
  · rw [Shape.rowMajor_val_two, Shape.rowMajor_val_four]
    show (e.val * 704 + a.val) * 1024 + b.val = ((l.val * 8 + e.val) * 704 + a.val) * 1024 + b.val
    omega
  · refine transpose_apply [1, 0] _ transposes_S1024x5632_S5632x1024_1_0 _ (ix2 b ⟨e.val * 704 + a.val, by omega⟩) (fun x => ?_)
    match x with
    | ⟨0, _⟩ => rfl
    | ⟨1, _⟩ => rfl

/-- Where each window's block lies at grid point `t`. -/
theorem idx : ∀ t : Fin cfg0.N, (win0_0.index t 0 = min t.val 1 ∧ win0_0.index t 1 = 0)
    ∧ (win0_1.index t 0 = 0 ∧ win0_1.index t 1 = 0 ∧ win0_1.index t 2 = 0)
    ∧ (win0_2.index t 0 = 0 ∧ win0_2.index t 1 = t.val / 2 ∧ win0_2.index t 2 = 0 ∧ win0_2.index t 3 = 0)
    ∧ (win0_3.index t 0 = 0 ∧ win0_3.index t 1 = t.val / 2 + 4 ∧ win0_3.index t 2 = 0 ∧ win0_3.index t 3 = 0)
    ∧ (win0_4.index t 0 = min t.val 1 ∧ win0_4.index t 1 = 0)
    ∧ (win0_5.index t 0 = 0 ∧ win0_5.index t 1 = t.val / 2 ∧ win0_5.index t 2 = t.val % 2 ∧ win0_5.index t 3 = 0)
    ∧ (win0_6.index t 0 = t.val / 2 ∧ win0_6.index t 1 = t.val % 2 ∧ win0_6.index t 2 = 0) :=
  (by decide +kernel : ∀ t : Fin grid0.N, _)

/-- An index of window 0's block as an index of its array. -/
theorem emb0 (t : Fin cfg0.N) (a : Fin 1024) (b : Fin 1024) :
    ((cfg0.win 0).blk t).view.emb (ix2 a b) = ix2 ⟨(min t.val 1) * 1024 + a.val, by have := lt_N t; omega⟩ b := by
  obtain ⟨h0, h1⟩ := (idx t).1
  funext x; apply Fin.ext
  match x with
  | ⟨0, _⟩ => show win0_0.index t 0 * 1024 + 1 * a.val = (min t.val 1) * 1024 + a.val; omega
  | ⟨1, _⟩ => show win0_0.index t 1 * 1024 + 1 * b.val = b.val; omega

/-- An index of window 1's block as an index of its array. -/
theorem emb1 (t : Fin cfg0.N) (e : Fin 1) (a : Fin 1) (b : Fin 1024) :
    ((cfg0.win 1).blk t).view.emb (ix3 e a b) = ix3 ⟨e.val, by omega⟩ a b := by
  obtain ⟨h0, h1, h2⟩ := (idx t).2.1
  funext x; apply Fin.ext
  match x with
  | ⟨0, _⟩ => show win0_1.index t 0 * 1 + 1 * e.val = e.val; omega
  | ⟨1, _⟩ => show win0_1.index t 1 * 1 + 1 * a.val = a.val; omega
  | ⟨2, _⟩ => show win0_1.index t 2 * 1024 + 1 * b.val = b.val; omega

/-- An index of window 2's block as an index of its array. -/
theorem emb2 (t : Fin cfg0.N) (l : Fin 1) (e : Fin 1) (a : Fin 704) (b : Fin 1024) :
    ((cfg0.win 2).blk t).view.emb (ix4 l e a b) = ix4 l ⟨t.val / 2 + e.val, by have := lt_N t; omega⟩ a b := by
  obtain ⟨h0, h1, h2, h3⟩ := (idx t).2.2.1
  funext x; apply Fin.ext
  match x with
  | ⟨0, _⟩ => show win0_2.index t 0 * 1 + 1 * l.val = l.val; omega
  | ⟨1, _⟩ => show win0_2.index t 1 * 1 + 1 * e.val = t.val / 2 + e.val; omega
  | ⟨2, _⟩ => show win0_2.index t 2 * 704 + 1 * a.val = a.val; omega
  | ⟨3, _⟩ => show win0_2.index t 3 * 1024 + 1 * b.val = b.val; omega

/-- An index of window 3's block as an index of its array. -/
theorem emb3 (t : Fin cfg0.N) (l : Fin 1) (e : Fin 1) (a : Fin 704) (b : Fin 1024) :
    ((cfg0.win 3).blk t).view.emb (ix4 l e a b) = ix4 l ⟨t.val / 2 + 4 + e.val, by have := lt_N t; omega⟩ a b := by
  obtain ⟨h0, h1, h2, h3⟩ := (idx t).2.2.2.1
  funext x; apply Fin.ext
  match x with
  | ⟨0, _⟩ => show win0_3.index t 0 * 1 + 1 * l.val = l.val; omega
  | ⟨1, _⟩ => show win0_3.index t 1 * 1 + 1 * e.val = t.val / 2 + 4 + e.val; omega
  | ⟨2, _⟩ => show win0_3.index t 2 * 704 + 1 * a.val = a.val; omega
  | ⟨3, _⟩ => show win0_3.index t 3 * 1024 + 1 * b.val = b.val; omega

/-- An index of window 4's block as an index of its array. -/
theorem emb4 (t : Fin cfg0.N) (a : Fin 1024) (b : Fin 1024) :
    ((cfg0.win 4).blk t).view.emb (ix2 a b) = ix2 ⟨(min t.val 1) * 1024 + a.val, by have := lt_N t; omega⟩ b := by
  obtain ⟨h0, h1⟩ := (idx t).2.2.2.2.1
  funext x; apply Fin.ext
  match x with
  | ⟨0, _⟩ => show win0_4.index t 0 * 1024 + 1 * a.val = (min t.val 1) * 1024 + a.val; omega
  | ⟨1, _⟩ => show win0_4.index t 1 * 1024 + 1 * b.val = b.val; omega

/-- An index of window 5's block as an index of its array. -/
theorem emb5 (t : Fin cfg0.N) (l : Fin 2) (e : Fin 1) (a : Fin 1024) (b : Fin 704) :
    ((cfg0.win 5).blk t).view.emb (ix4 l e a b) = ix4 l ⟨t.val / 2 + e.val, by have := lt_N t; omega⟩ ⟨(t.val % 2) * 1024 + a.val, by have := lt_N t; omega⟩ b := by
  obtain ⟨h0, h1, h2, h3⟩ := (idx t).2.2.2.2.2.1
  funext x; apply Fin.ext
  match x with
  | ⟨0, _⟩ => show win0_5.index t 0 * 2 + 1 * l.val = l.val; omega
  | ⟨1, _⟩ => show win0_5.index t 1 * 1 + 1 * e.val = t.val / 2 + e.val; omega
  | ⟨2, _⟩ => show win0_5.index t 2 * 1024 + 1 * a.val = (t.val % 2) * 1024 + a.val; omega
  | ⟨3, _⟩ => show win0_5.index t 3 * 704 + 1 * b.val = b.val; omega

/-- An index of window 6's block as an index of its array. -/
theorem emb6 (t : Fin cfg0.N) (e : Fin 1) (a : Fin 1024) (b : Fin 704) :
    ((cfg0.win 6).blk t).view.emb (ix3 e a b) = ix3 ⟨t.val / 2 + e.val, by have := lt_N t; omega⟩ ⟨(t.val % 2) * 1024 + a.val, by have := lt_N t; omega⟩ b := by
  obtain ⟨h0, h1, h2⟩ := (idx t).2.2.2.2.2.2
  funext x; apply Fin.ext
  match x with
  | ⟨0, _⟩ => show win0_6.index t 0 * 1 + 1 * e.val = t.val / 2 + e.val; omega
  | ⟨1, _⟩ => show win0_6.index t 1 * 1024 + 1 * a.val = (t.val % 2) * 1024 + a.val; omega
  | ⟨2, _⟩ => show win0_6.index t 2 * 704 + 1 * b.val = b.val; omega

/-- The rows' block at an entry. -/
theorem iblk0 (c : Dev nD) (t : Fin cfg0.N) (a : Fin 1024) (b : Fin 1024) :
    iblk m c 0 t (ix2 a b) = (m (c.tc.loc main_arg0)) (ix2 ⟨(min t.val 1) * 1024 + a.val, by have := lt_N t; omega⟩ b) := by
  show V m c main_arg0 (((cfg0.win 0).blk t).view.emb (ix2 a b)) = _
  rw [emb0, V_main_arg0]

/-- The column weights' block at an entry. -/
theorem iblk1 (c : Dev nD) (t : Fin cfg0.N) (b : Fin 1024) :
    iblk m c 1 t (ix3 0 0 b) = (m (c.tc.loc main_arg1)) (ix2 0 b) := by
  show V m c main_v0 (((cfg0.win 1).blk t).view.emb (ix3 0 0 b)) = _
  rw [emb1, V_main_v0]
  rfl

/-- The first half's weights' block at an entry. -/
theorem iblk2 (c : Dev nD) (t : Fin cfg0.N) (a : Fin 704) (b : Fin 1024) :
    iblk m c 2 t (ix4 0 0 a b) = (m (c.tc.loc main_arg2)) (ix2 b ⟨t.val / 2 * 704 + a.val, by have := lt_N t; omega⟩) := by
  show V m c main_v2 (((cfg0.win 2).blk t).view.emb (ix4 0 0 a b)) = _
  rw [emb2, V_main_v2]
  rfl

/-- The second half's weights' block at an entry. -/
theorem iblk3 (c : Dev nD) (t : Fin cfg0.N) (a : Fin 704) (b : Fin 1024) :
    iblk m c 3 t (ix4 0 0 a b) = (m (c.tc.loc main_arg2)) (ix2 b ⟨(t.val / 2 + 4) * 704 + a.val, by have := lt_N t; omega⟩) := by
  show V m c main_v2 (((cfg0.win 3).blk t).view.emb (ix4 0 0 a b)) = _
  rw [emb3, V_main_v2]
  rfl

/-- A block's normalised rows. -/
theorem pay2 (c : Dev nD) (t : Fin cfg0.N) (a : Fin 1024) (b : Fin 1024) :
    k0_pay2 (F := Ideal) (iblk m c 0 t) (iblk m c 1 t) (ix2 a b)
      = nrm (m (c.tc.loc main_arg0)) (m (c.tc.loc main_arg1)) 0 ⟨(min t.val 1) * 1024 + a.val, by have := lt_N t; omega⟩ b := by
  unfold k0_pay2
  refine (kernel_nrm (by decide) (iblk m c 0 t) (iblk m c 1 t) _ _ _ _ _ _ _ a b).trans ?_
  have h : rinv (iblk m c 0 t) a = rinv (m (c.tc.loc main_arg0)) ⟨(min t.val 1) * 1024 + a.val, by have := lt_N t; omega⟩ := by
    unfold rinv
    simp only [iblk0]
  rw [h, iblk0, iblk1]
  rfl

/-- The normalised rows a step multiplies. -/
theorem hb_eq (c : Dev nD) (t : Fin cfg0.N) (a : Fin 1024) (b : Fin 1024) :
    hb m c t (ix2 a b) = nrm (m (c.tc.loc main_arg0)) (m (c.tc.loc main_arg1)) 0 ⟨t.val % 2 * 1024 + a.val, by omega⟩ b := by
  unfold hb k0_pay3
  rw [shapeCast_self, pay2]
  have h : min (fst t).val 1 = t.val % 2 := by
    show min (t.val % 2) 1 = t.val % 2
    omega
  congr 2
  rw [h]

/-- One block's product with the first half's weights. -/
theorem pay4 (c : Dev nD) (t : Fin cfg0.N) (a : Fin 1024) (b : Fin 704) :
    k0_pay4 (F := Ideal) (hb m c t) (iblk m c 2 t) (ix2 a b)
      = up (m (c.tc.loc main_arg0)) (m (c.tc.loc main_arg1)) (m (c.tc.loc main_arg2)) ⟨t.val % 2 * 1024 + a.val, by omega⟩ ⟨t.val / 2 * 704 + b.val, by have := lt_N t; omega⟩ := by
  unfold k0_pay4
  refine (matmul_nt _ rfl none _ _ a b).trans (Finset.sum_congr rfl fun k _ => ?_)
  rw [hb_eq]
  refine congrArg _ ((cast_drop2 _ _ b k).trans (iblk2 m c t b k))

/-- One block's product with the second half's weights. -/
theorem pay5 (c : Dev nD) (t : Fin cfg0.N) (a : Fin 1024) (b : Fin 704) :
    k0_pay5 (F := Ideal) (hb m c t) (iblk m c 3 t) (ix2 a b)
      = up (m (c.tc.loc main_arg0)) (m (c.tc.loc main_arg1)) (m (c.tc.loc main_arg2)) ⟨t.val % 2 * 1024 + a.val, by omega⟩ ⟨(t.val / 2 + 4) * 704 + b.val, by have := lt_N t; omega⟩ := by
  unfold k0_pay5
  refine (matmul_nt _ rfl none _ _ a b).trans (Finset.sum_congr rfl fun k _ => ?_)
  rw [hb_eq]
  refine congrArg _ ((cast_drop2 _ _ b k).trans (iblk3 m c t b k))

/-- The gated product of a block. -/
theorem pay8 (c : Dev nD) (t : Fin cfg0.N) (a : Fin 1024) (b : Fin 704) :
    k0_pay8 (F := Ideal) (hb m c t) (iblk m c 2 t) (iblk m c 3 t) (ix2 a b)
      = gated (m (c.tc.loc main_arg0)) (m (c.tc.loc main_arg1)) (m (c.tc.loc main_arg2)) ⟨t.val % 2 * 1024 + a.val, by omega⟩ ⟨t.val / 2 * 704 + b.val, by have := lt_N t; omega⟩ := by
  unfold k0_pay8
  have h : ∀ p q : FVec Ideal S1024x704 .f32, mulf (mulf p (addf (mulf (broadcast S1024x704 (Scalar.ofBits (F := Ideal) .f32 0x3F000000#32))
      (tanh (mulf (broadcast S1024x704 (Scalar.ofBits (F := Ideal) .f32 0x3F000000#32)) p)))
      (broadcast S1024x704 (Scalar.ofBits (F := Ideal) .f32 0x3F000000#32)))) q (ix2 a b) = p (ix2 a b) * sg (p (ix2 a b)) * q (ix2 a b) := fun p q => by
    rw [← sg_eq_tanh]
    rfl
  refine (h _ _).trans ?_
  rw [pay4, pay5]
  have e : (⟨(t.val / 2 + 4) * 704 + b.val, by have := lt_N t; omega⟩ : Fin 5632) = ⟨2816 + (t.val / 2 * 704 + b.val), by have := lt_N t; omega⟩ := by
    apply Fin.ext
    show (t.val / 2 + 4) * 704 + b.val = 2816 + (t.val / 2 * 704 + b.val)
    omega
  rw [e]
  rfl

/-- The first layer of a block of two. -/
theorem layers_fst (p q : Vec Ideal S1x1x1024x704 .bf16) (a : Fin 1024) (b : Fin 704) : layers p q (ix4 0 0 a b) = p (ix4 0 0 a b) := by
  unfold layers
  refine (View.canon_cons_of_not_mem _ _ (Rect.not_mem_set_of_axis _ _ (0 : Fin 4) 1 1 rfl rfl rfl (Or.inl Nat.zero_lt_one))).trans ?_
  have e : (Rect.unit (s := S2x1x1024x704) ![0, 0, 0, 0] S1x1x1024x704.size inb_S2x1x1024x704_S1x1x1024x704_0_0_0_0).emb (ix4 0 0 a b) = ix4 0 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  have h := View.canon_cons_emb (Val := Elt Ideal) (Rect.unit (s := S2x1x1024x704) ![0, 0, 0, 0] S1x1x1024x704.size inb_S2x1x1024x704_S1x1x1024x704_0_0_0_0) p [] (ix4 0 0 a b)
  exact Eq.trans (congrArg _ e.symm) h

/-- The second layer of a block of two. -/
theorem layers_snd (p q : Vec Ideal S1x1x1024x704 .bf16) (a : Fin 1024) (b : Fin 704) : layers p q (ix4 1 0 a b) = q (ix4 0 0 a b) := by
  unfold layers
  have e : (Rect.unit (s := S2x1x1024x704) ![1, 0, 0, 0] S1x1x1024x704.size inb_S2x1x1024x704_S1x1x1024x704_1_0_0_0).emb (ix4 0 0 a b) = ix4 1 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  have h := View.canon_cons_emb (Val := Elt Ideal) (Rect.unit (s := S2x1x1024x704) ![1, 0, 0, 0] S1x1x1024x704.size inb_S2x1x1024x704_S1x1x1024x704_1_0_0_0) q
    [⟨Rect.unit ![0, 0, 0, 0] S1x1x1024x704.size inb_S2x1x1024x704_S1x1x1024x704_0_0_0_0, p⟩] (ix4 0 0 a b)
  exact Eq.trans (congrArg _ e.symm) h

/-- What a step writes back to the first result is its block of the normalised rows. -/
theorem wrote4 (c : Dev nD) (t : Fin cfg0.N) :
    (dats m 0 c).flushed 4 t = ((cfg0.win 4).blk t).view.read (Elt Ideal) (res0 (m (c.tc.loc main_arg0)) (m (c.tc.loc main_arg1))) := by
  refine Eq.trans (b := (cfg0.win 4).cut (grid0.coords t) (k0_pay2 (F := Ideal) (iblk m c 0 (cap t)) (iblk m c 1 (cap t)))) ?_ ?_
  · show (cfg0.win 4).cut (grid0.coords t) ((dats m 0 c).after 4 t) = _
    rw [after0_4]
  refine ext2 fun a b => ?_
  show k0_pay2 (F := Ideal) (iblk m c 0 (cap t)) (iblk m c 1 (cap t)) (ix2 a b) = (res0 (m (c.tc.loc main_arg0)) (m (c.tc.loc main_arg1))) (((cfg0.win 4).blk t).view.emb (ix2 a b))
  rw [emb4, pay2]
  unfold res0
  have h : min (cap t).val 1 = min t.val 1 := by
    show min (min t.val 1) 1 = min t.val 1
    omega
  show nrm _ _ 0 _ b = nrm _ _ 0 _ b
  congr 2
  rw [h]

/-- Every entry of the first result is in some step's block. -/
theorem covered4 (i : S2048x1024.Idx) : ∃ t : Fin cfg0.N, (cfg0.win 4).flush t = true ∧ i ∈ ((cfg0.win 4).blk t).view.set := by
  have hi : (i 0).val < 2048 := (i 0).isLt
  by_cases hr : (i 0).val < 1024
  · let t : Fin cfg0.N := ⟨0, by decide⟩
    refine ⟨t, (flush4 t).2 (Or.inl rfl), ?_⟩
    have h := ((cfg0.win 4).blk t).view.emb_mem_set (ix2 (⟨(i 0).val, hr⟩ : Fin 1024) (i 1))
    refine Eq.mp (congrArg (fun q => q ∈ ((cfg0.win 4).blk t).view.set) ((emb4 t _ _).trans ?_)) h
    funext x; apply Fin.ext
    match x with
    | ⟨0, _⟩ => show (min 0 1) * 1024 + (i 0).val = (i 0).val; omega
    | ⟨1, _⟩ => rfl
  · let t : Fin cfg0.N := ⟨7, by decide⟩
    refine ⟨t, (flush4 t).2 (Or.inr rfl), ?_⟩
    have h := ((cfg0.win 4).blk t).view.emb_mem_set (ix2 (⟨(i 0).val - 1024, by omega⟩ : Fin 1024) (i 1))
    refine Eq.mp (congrArg (fun q => q ∈ ((cfg0.win 4).blk t).view.set) ((emb4 t _ _).trans ?_)) h
    funext x; apply Fin.ext
    match x with
    | ⟨0, _⟩ => show (min 7 1) * 1024 + ((i 0).val - 1024) = (i 0).val; omega
    | ⟨1, _⟩ => rfl

theorem final4 (c : Dev nD) : (dats m 0 c).arrAt 4 cfg0.N = (res0 (m (c.tc.loc main_arg0)) (m (c.tc.loc main_arg1))) :=
  (dats m 0 c).arrAt_eq_of_cover 4 (res0 (m (c.tc.loc main_arg0)) (m (c.tc.loc main_arg1))) (fun t _ => wrote4 m c t) covered4

/-- What a step writes back to the second result is its block of the two halves. -/
theorem wrote5 (c : Dev nD) (t : Fin cfg0.N) :
    (dats m 0 c).flushed 5 t = ((cfg0.win 5).blk t).view.read (Elt Ideal) (res1 (m (c.tc.loc main_arg0)) (m (c.tc.loc main_arg1)) (m (c.tc.loc main_arg2))) := by
  refine Eq.trans (b := (cfg0.win 5).cut (grid0.coords t) (layers (k0_pay6 (F := Ideal) (hb m c t) (iblk m c 2 t)) (k0_pay7 (F := Ideal) (hb m c t) (iblk m c 3 t)))) ?_ ?_
  · show (cfg0.win 5).cut (grid0.coords t) ((dats m 0 c).after 5 t) = _
    rw [after0_5]
  have key : ∀ Y : Vec Ideal S2x1x1024x704 .bf16, (∀ (l : Fin 2) (e : Fin 1) (a : Fin 1024) (b : Fin 704),
      Y (ix4 l e a b) = (res1 (m (c.tc.loc main_arg0)) (m (c.tc.loc main_arg1)) (m (c.tc.loc main_arg2))) (((cfg0.win 5).blk t).view.emb (ix4 l e a b))) →
      (cfg0.win 5).cut (grid0.coords t) Y = ((cfg0.win 5).blk t).view.read (Elt Ideal) (res1 (m (c.tc.loc main_arg0)) (m (c.tc.loc main_arg1)) (m (c.tc.loc main_arg2))) := fun Y h =>
    ext4 fun l e a b => h l e a b
  refine key _ fun l e a b => ?_
  rw [emb5]
  obtain rfl : e = 0 := Subsingleton.elim _ _
  have hN := lt_N t
  obtain rfl | rfl : l = 0 ∨ l = 1 := by omega
  · refine (layers_fst _ _ a b).trans ?_
    unfold k0_pay6
    refine (cast_add2 _ _ 0 0 a b).trans ((pay4 m c t a b).trans ?_)
    unfold res1
    refine congrArg₂ _ (Fin.ext ?_) (Fin.ext ?_)
    · rfl
    · show t.val / 2 * 704 + b.val = (0 * 4 + (t.val / 2 + 0)) * 704 + b.val
      omega
  · refine (layers_snd _ _ a b).trans ?_
    unfold k0_pay7
    refine (cast_add2 _ _ 0 0 a b).trans ((pay5 m c t a b).trans ?_)
    unfold res1
    refine congrArg₂ _ (Fin.ext ?_) (Fin.ext ?_)
    · rfl
    · show (t.val / 2 + 4) * 704 + b.val = (1 * 4 + (t.val / 2 + 0)) * 704 + b.val
      omega

/-- Every step writes the second and third results back. -/
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

/-- Every entry of the second result is in some step's block. -/
theorem covered5 (i : S2x4x2048x704.Idx) : ∃ t : Fin cfg0.N, (cfg0.win 5).flush t = true ∧ i ∈ ((cfg0.win 5).blk t).view.set := by
  have h1 : (i 1).val < 4 := (i 1).isLt
  have h2 : (i 2).val < 2048 := (i 2).isLt
  let t : Fin cfg0.N := ⟨(i 1).val * 2 + (i 2).val / 1024, (show (i 1).val * 2 + (i 2).val / 1024 < 8 by omega).trans_le (by decide)⟩
  refine ⟨t, flush5 t, ?_⟩
  have h := ((cfg0.win 5).blk t).view.emb_mem_set (ix4 (i 0) (0 : Fin 1) (⟨(i 2).val % 1024, by omega⟩ : Fin 1024) (i 3))
  refine Eq.mp (congrArg (fun q => q ∈ ((cfg0.win 5).blk t).view.set) ((emb5 t _ _ _ _).trans ?_)) h
  funext x; apply Fin.ext
  match x with
  | ⟨0, _⟩ => rfl
  | ⟨1, _⟩ => show ((i 1).val * 2 + (i 2).val / 1024) / 2 + 0 = (i 1).val; omega
  | ⟨2, _⟩ => show ((i 1).val * 2 + (i 2).val / 1024) % 2 * 1024 + (i 2).val % 1024 = (i 2).val; omega
  | ⟨3, _⟩ => rfl

theorem final5 (c : Dev nD) : (dats m 0 c).arrAt 5 cfg0.N = (res1 (m (c.tc.loc main_arg0)) (m (c.tc.loc main_arg1)) (m (c.tc.loc main_arg2))) :=
  (dats m 0 c).arrAt_eq_of_cover 5 (res1 (m (c.tc.loc main_arg0)) (m (c.tc.loc main_arg1)) (m (c.tc.loc main_arg2))) (fun t _ => wrote5 m c t) covered5

/-- What a step writes back to the third result is its block of the gated values. -/
theorem wrote6 (c : Dev nD) (t : Fin cfg0.N) :
    (dats m 0 c).flushed 6 t = ((cfg0.win 6).blk t).view.read (Elt Ideal) (res2 (m (c.tc.loc main_arg0)) (m (c.tc.loc main_arg1)) (m (c.tc.loc main_arg2))) := by
  refine Eq.trans (b := (cfg0.win 6).cut (grid0.coords t) (k0_pay1 (F := Ideal) (k0_pay8 (F := Ideal) (hb m c t) (iblk m c 2 t) (iblk m c 3 t)))) ?_ ?_
  · show (cfg0.win 6).cut (grid0.coords t) ((dats m 0 c).after 6 t) = _
    rw [after0_6]
  refine ext3 fun e a b => ?_
  show k0_pay1 (F := Ideal) (k0_pay8 (F := Ideal) (hb m c t) (iblk m c 2 t) (iblk m c 3 t)) (ix3 e a b)
    = (res2 (m (c.tc.loc main_arg0)) (m (c.tc.loc main_arg1)) (m (c.tc.loc main_arg2))) (((cfg0.win 6).blk t).view.emb (ix3 e a b))
  rw [emb6]
  have he : e.val = 0 := by omega
  unfold k0_pay1
  refine (cast_add _ _ e a b).trans ((pay8 m c t a b).trans ?_)
  unfold res2
  refine congrArg₂ _ (Fin.ext ?_) (Fin.ext ?_)
  · rfl
  · show t.val / 2 * 704 + b.val = (t.val / 2 + e.val) * 704 + b.val
    omega

/-- Every entry of the third result is in some step's block. -/
theorem covered6 (i : S4x2048x704.Idx) : ∃ t : Fin cfg0.N, (cfg0.win 6).flush t = true ∧ i ∈ ((cfg0.win 6).blk t).view.set := by
  have h1 : (i 0).val < 4 := (i 0).isLt
  have h2 : (i 1).val < 2048 := (i 1).isLt
  let t : Fin cfg0.N := ⟨(i 0).val * 2 + (i 1).val / 1024, (show (i 0).val * 2 + (i 1).val / 1024 < 8 by omega).trans_le (by decide)⟩
  refine ⟨t, flush6 t, ?_⟩
  have h := ((cfg0.win 6).blk t).view.emb_mem_set (ix3 (0 : Fin 1) (⟨(i 1).val % 1024, by omega⟩ : Fin 1024) (i 2))
  refine Eq.mp (congrArg (fun q => q ∈ ((cfg0.win 6).blk t).view.set) ((emb6 t _ _ _).trans ?_)) h
  funext x; apply Fin.ext
  match x with
  | ⟨0, _⟩ => show ((i 0).val * 2 + (i 1).val / 1024) / 2 + 0 = (i 0).val; omega
  | ⟨1, _⟩ => show ((i 0).val * 2 + (i 1).val / 1024) % 2 * 1024 + (i 1).val % 1024 = (i 1).val; omega
  | ⟨2, _⟩ => rfl

theorem final6 (c : Dev nD) : (dats m 0 c).arrAt 6 cfg0.N = (res2 (m (c.tc.loc main_arg0)) (m (c.tc.loc main_arg1)) (m (c.tc.loc main_arg2))) :=
  (dats m 0 c).arrAt_eq_of_cover 6 (res2 (m (c.tc.loc main_arg0)) (m (c.tc.loc main_arg1)) (m (c.tc.loc main_arg2))) (fun t _ => wrote6 m c t) covered6

/-- The call leaves the normalised rows, the two halves of the up-projection and the gated values in its results, exactly
    (the roundings being no operations here), and its arguments unchanged. -/
theorem run : θ_run defs (onTc (τ := τ) (main (F := Ideal))) ⟨m, fun _ => 0, ρ⟩ fun r => ∀ c : Dev nD,
      r.2.mem (c.tc.loc main_v3_0) = (res0 (m (c.tc.loc main_arg0)) (m (c.tc.loc main_arg1)))
      ∧ r.2.mem (c.tc.loc main_v3_1) = (res1 (m (c.tc.loc main_arg0)) (m (c.tc.loc main_arg1)) (m (c.tc.loc main_arg2)))
      ∧ r.2.mem (c.tc.loc main_v3_2) = (res2 (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun r h c => ⟨((h c).1 4).trans (final4 m c), ((h c).1 5).trans (final5 m c), ((h c).1 6).trans (final6 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end

namespace Ref

open Cert.FfnUpReferenceIdeal Cert.FfnUpReferenceIdeal.Gen Cert.FfnUpReferenceIdeal.Read

/-- The reference's normalised rows at an entry. -/
theorem nrm_eq (x0 : Mat 2048 1024) (x1 : Mat 4 1024) (a : Fin 2048) (b : Fin 1024) : val_main_v14 (F := Ideal) x0 x1 (ix2 a b) = nrm x0 x1 0 a b := by
  rw [val_main_v14_apply, val_main_v11_apply, val_main_v10_apply, val_main_v9_apply, val_main_v8_apply, val_main_v6_apply, val_main_v4_apply,
    val_main_v3_apply, val_main_v5_apply, val_main_v7_apply, val_main_v13_apply, val_main_v12_apply, val_main_v1_apply, val_main_v0_apply]
  refine congrArg₂ (· * ·) (congrArg₂ (· * ·) rfl ?_) (congrArg x1 ?_)
  · refine congrArg Ideal.rsqrt (congrArg₂ (· + ·) (congrArg₂ Ideal.div ?_ rfl) rfl)
    refine (congrArg₂ (· + ·) Ideal.ofBits_zero_f32 rfl).trans ((zero_add _).trans (Finset.sum_congr rfl fun k _ => ?_))
    have e : idx_main_v3 (idx_main_v4 (idx_main_v10 (ix2 a b))) k = ix2 a k := by
      funext x
      match x with
      | ⟨0, _⟩ => rfl
      | ⟨1, _⟩ => rfl
    rw [e]
    rfl
  · funext x; apply Fin.ext
    match x with
    | ⟨0, _⟩ => rfl
    | ⟨1, _⟩ => show b.val % 1024 = b.val; omega

/-- The reference's up-projection at an entry. -/
theorem up_eq (x0 : Mat 2048 1024) (x1 : Mat 4 1024) (x2 : Mat 1024 5632) (a : Fin 2048) (j : Fin 5632) :
    val_main_v16 (F := Ideal) x0 x1 x2 (ix2 a j) = up x0 x1 x2 a j := by
  unfold val_main_v16
  refine (dot_nn (φ₁ := .f32) (φ₂ := .f32) _ rfl none (val_main_v14 (F := Ideal) x0 x1) (val_main_v15 (F := Ideal) x2) a j).trans ?_
  exact Finset.sum_congr rfl fun k _ => congrArg₂ (· * ·) (nrm_eq x0 x1 a k) rfl

/-- The reference's gated values at an entry. -/
theorem gated_eq (x0 : Mat 2048 1024) (x1 : Mat 4 1024) (x2 : Mat 1024 5632) (a : Fin 2048) (j : Fin 2816) :
    val_main_v20 (F := Ideal) x0 x1 x2 (ix2 a j) = gated x0 x1 x2 a j := by
  have h17 : val_main_v17 (F := Ideal) x0 x1 x2 (ix2 a j) = up x0 x1 x2 a ⟨j.val, by omega⟩ := by
    rw [val_main_v17_apply]
    refine Eq.trans (congrArg _ ?_) (up_eq x0 x1 x2 a ⟨j.val, by omega⟩)
    funext x; apply Fin.ext
    match x with
    | ⟨0, _⟩ => rfl
    | ⟨1, _⟩ => rfl
  have h18 : val_main_v18 (F := Ideal) x0 x1 x2 (ix2 a j) = up x0 x1 x2 a ⟨2816 + j.val, by omega⟩ := by
    rw [val_main_v18_apply]
    refine Eq.trans (congrArg _ ?_) (up_eq x0 x1 x2 a ⟨2816 + j.val, by omega⟩)
    funext x; apply Fin.ext
    match x with
    | ⟨0, _⟩ => rfl
    | ⟨1, _⟩ => rfl
  rw [val_main_v20_apply, val_main_v19_apply, val_main_call0_v5_apply, val_main_call0_v4_apply, val_main_call0_v3_apply, val_main_call0_v2_apply,
    val_main_call0_v1_apply, val_main_call0_v0_apply, val_main_call0_cst_apply, val_main_call0_cst_0_apply, h17, h18]
  refine congrArg₂ (· * ·) (congrArg₂ (· * ·) rfl ?_) rfl
  show Ideal.div (Ideal.ofBits .f32 0x3F800000#32) (Ideal.ofBits .f32 0x3F800000#32 + Ideal.exp (-_)) = _
  rw [one_word]
  rfl

/-- The reference's three results. -/
theorem res0_eq (x0 : Mat 2048 1024) (x1 : Mat 4 1024) : val_main_v21 (F := Ideal) x0 x1 = res0 x0 x1 := ext2 fun a b => nrm_eq x0 x1 a b

theorem res1_eq (x0 : Mat 2048 1024) (x1 : Mat 4 1024) (x2 : Mat 1024 5632) : val_main_v24 (F := Ideal) x0 x1 x2 = res1 x0 x1 x2 := ext4 fun l e a b => by
  rw [val_main_v24_apply]
  show val_main_v23 (F := Ideal) x0 x1 x2 (ix4 l e a b) = _
  rw [val_main_v23_apply, val_main_v22_apply]
  refine Eq.trans (congrArg _ ?_) (up_eq x0 x1 x2 a ⟨(l.val * 4 + e.val) * 704 + b.val, by omega⟩)
  funext x; apply Fin.ext
  match x with
  | ⟨0, _⟩ => show (((a.val * 2 + l.val) * 4 + e.val) * 704 + b.val) / 5632 = a.val; omega
  | ⟨1, _⟩ => show (((a.val * 2 + l.val) * 4 + e.val) * 704 + b.val) % 5632 = (l.val * 4 + e.val) * 704 + b.val; omega

theorem res2_eq (x0 : Mat 2048 1024) (x1 : Mat 4 1024) (x2 : Mat 1024 5632) : val_main_v27 (F := Ideal) x0 x1 x2 = res2 x0 x1 x2 := ext3 fun e a b => by
  rw [val_main_v27_apply]
  show val_main_v26 (F := Ideal) x0 x1 x2 (ix3 e a b) = _
  rw [val_main_v26_apply, val_main_v25_apply]
  refine Eq.trans (congrArg _ ?_) (gated_eq x0 x1 x2 a ⟨e.val * 704 + b.val, by omega⟩)
  funext x; apply Fin.ext
  match x with
  | ⟨0, _⟩ => show ((a.val * 4 + e.val) * 704 + b.val) / 2816 = a.val; omega
  | ⟨1, _⟩ => show ((a.val * 4 + e.val) * 704 + b.val) % 2816 = e.val * 704 + b.val; omega

variable (m : (ℓ : Loc nD τ sig) → Buf (Elt Ideal) ℓ) (ρ : Dev nD → PrngReg)

/-- The reference leaves the same three arrays and its arguments unchanged. -/
theorem run : θ_run defs (onTc (τ := τ) (main (F := Ideal))) ⟨m, fun _ => 0, ρ⟩ fun r => ∀ c : Dev nD,
      r.2.mem (c.tc.loc main_v21) = (res0 (m (c.tc.loc main_arg0)) (m (c.tc.loc main_arg1)))
      ∧ r.2.mem (c.tc.loc main_v24) = (res1 (m (c.tc.loc main_arg0)) (m (c.tc.loc main_arg1)) (m (c.tc.loc main_arg2)))
      ∧ r.2.mem (c.tc.loc main_v27) = (res2 (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun _ h c => ⟨(h c).1.trans ((val_main_v21_eq _ _).trans (res0_eq _ _)),
    (h c).2.1.trans ((val_main_v24_eq _ _ _).trans (res1_eq _ _ _)),
    (h c).2.2.1.trans ((val_main_v27_eq _ _ _).trans (res2_eq _ _ _)), (h c).2.2.2⟩) (Value.run m ρ)

end Ref

end Cert.FfnUp

end
-- ==== Proof.FfnDownClaim.lean ====
/- The feed-forward down-projection, added at half weight to the layer's input: what the call's run leaves in its result array,
   as a function of the argument arrays, and the same array from the reference. -/
module

public import proofs.«01_k».proof.Proof.Common
public import proofs.«01_k».proof.Proof.Gen.FfnDownIdeal.Value
public import proofs.«01_k».proof.Proof.Gen.FfnDownReferenceIdeal.Run
public import proofs.«01_k».proof.Proof.Gen.FfnDownReferenceIdeal.Read

@[expose] public section

set_option maxRecDepth 16384

noncomputable section

namespace Cert.FfnDown

open Cert.Common Idealize.ShloMosaic Idealize.ShloMosaic.TcCoe Idealize.ShloMosaic.ValueIdx
open Idealize.SL.Sem
open scoped BigOperators

/-- The result: the input plus half the product of the gated values with the weights. -/
def down (s : Mat 2048 2816) (w : Mat 2816 1024) (x : Mat 2048 1024) : Mat 2048 1024 := fun i =>
  x i + Ideal.ofBits .f32 0x3F000000#32 * ∑ k : Fin 2816, s (ix2 (i 0) k) * w (ix2 k (i 1))

/-- One term of a product's entry. -/
def term (s : Mat 2048 2816) (w : Mat 2816 1024) (a : Fin 2048) (b : Fin 1024) (k : Fin 2816) : EReal := s (ix2 a k) * w (ix2 k b)

/-- A sum of 2816 terms in four parts. -/
theorem sum_four (f : Fin 2816 → EReal) :
    ∑ k : Fin 2816, f k = (∑ k : Fin 704, f ⟨k.val, by omega⟩) + (∑ k : Fin 704, f ⟨704 + k.val, by omega⟩)
      + (∑ k : Fin 704, f ⟨1408 + k.val, by omega⟩) + (∑ k : Fin 704, f ⟨2112 + k.val, by omega⟩) := by
  refine (Fin.sum_univ_add (a := 2112) (b := 704) f).trans (congrArg (· + _) ?_)
  refine (Fin.sum_univ_add (a := 1408) (b := 704) _).trans (congrArg (· + _) ?_)
  exact Fin.sum_univ_add (a := 704) (b := 704) _

section
open Cert.FfnDownIdeal Cert.FfnDownIdeal.Gen

variable (m : (ℓ : Loc nD τ sig) → Buf (Elt Ideal) ℓ) (ρ : Dev nD → PrngReg)

/-- The number of grid points. -/
theorem lt_N (t : Fin cfg0.N) : t.val < 2 := t.isLt.trans_le (by decide)

/-- The gated values as the region finds them: the columns cut into 4 matrices of 704. -/
theorem V_main_v1 (c : Dev nD) (e : Fin 4) (a : Fin 2048) (b : Fin 704) :
    V m c main_v1 (ix3 e a b) = m (c.tc.loc main_arg0) (ix2 a ⟨e.val * 704 + b.val, by omega⟩) := by
  have h : V m c main_v1 = transpose S4x2048x704 [1, 0, 2]
      (shapeCast S2048x4x704 (m (c.tc.loc main_arg0)) shapeCasts_S2048x2816_S2048x4x704) transposes_S2048x4x704_S4x2048x704_1_0_2 := by
    show StableHlo.after hostOps0 _ (Proc.devRef .tc main_v1) = _
    after_results
    rfl
  rw [h]
  refine (transpose_apply [1, 0, 2] _ transposes_S2048x4x704_S4x2048x704_1_0_2 (ix3 e a b) (ix3 a e b) (fun x => ?_)).trans ?_
  · match x with
    | ⟨0, _⟩ => rfl
    | ⟨1, _⟩ => rfl
    | ⟨2, _⟩ => rfl
  · refine shapeCast_apply _ shapeCasts_S2048x2816_S2048x4x704 (ix3 a e b) (ix2 a ⟨e.val * 704 + b.val, by omega⟩) ?_
    rw [Shape.rowMajor_val_two, Shape.rowMajor_val_three]
    show a.val * 2816 + (e.val * 704 + b.val) = (a.val * 4 + e.val) * 704 + b.val
    omega

theorem V_main_v2 (c : Dev nD) (e : Fin 1) (a : Fin 2816) (b : Fin 1024) :
    V m c main_v2 (ix3 e a b) = m (c.tc.loc main_arg1) (ix2 a b) := by
  have h : V m c main_v2 = broadcastInDim S1x2816x1024 ![1, 2] bcast_S2816x1024_S1x2816x1024_1_2 (m (c.tc.loc main_arg1)) := by
    show StableHlo.after hostOps0 _ (Proc.devRef .tc main_v2) = _
    after_results
  rw [h]; exact bcast_add (by decide) (by decide) _ _ e a b

/-- Where each window's block lies at grid point `t`. -/
theorem idx : ∀ t : Fin cfg0.N, (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0)
    ∧ (win0_3.index t 0 = t.val ∧ win0_3.index t 1 = 0) :=
  (by decide +kernel : ∀ t : Fin grid0.N, _)

/-- An index of window 0's block as an index of its array. -/
theorem emb0 (t : Fin cfg0.N) (e : Fin 4) (a : Fin 1024) (b : Fin 704) :
    ((cfg0.win 0).blk t).view.emb (ix3 e a b) = ix3 e ⟨t.val * 1024 + a.val, by have := lt_N t; omega⟩ b := by
  obtain ⟨h0, h1, h2⟩ := (idx t).1
  funext x; apply Fin.ext
  match x with
  | ⟨0, _⟩ => show win0_0.index t 0 * 4 + 1 * e.val = e.val; omega
  | ⟨1, _⟩ => show win0_0.index t 1 * 1024 + 1 * a.val = t.val * 1024 + a.val; omega
  | ⟨2, _⟩ => show win0_0.index t 2 * 704 + 1 * b.val = b.val; omega

/-- An index of window 1's block as an index of its array. -/
theorem emb1 (t : Fin cfg0.N) (e : Fin 1) (a : Fin 2816) (b : Fin 1024) :
    ((cfg0.win 1).blk t).view.emb (ix3 e a b) = ix3 e a b := by
  obtain ⟨h0, h1, h2⟩ := (idx t).2.1
  funext x; apply Fin.ext
  match x with
  | ⟨0, _⟩ => show win0_1.index t 0 * 1 + 1 * e.val = e.val; omega
  | ⟨1, _⟩ => show win0_1.index t 1 * 2816 + 1 * a.val = a.val; omega
  | ⟨2, _⟩ => show win0_1.index t 2 * 1024 + 1 * b.val = b.val; omega

/-- An index of window 2's block as an index of its array. -/
theorem emb2 (t : Fin cfg0.N) (a : Fin 1024) (b : Fin 1024) :
    ((cfg0.win 2).blk t).view.emb (ix2 a b) = ix2 ⟨t.val * 1024 + a.val, by have := lt_N t; omega⟩ b := by
  obtain ⟨h0, h1⟩ := (idx t).2.2.1
  funext x; apply Fin.ext
  match x with
  | ⟨0, _⟩ => show win0_2.index t 0 * 1024 + 1 * a.val = t.val * 1024 + a.val; omega
  | ⟨1, _⟩ => show win0_2.index t 1 * 1024 + 1 * b.val = b.val; omega

/-- An index of window 3's block as an index of its array. -/
theorem emb3 (t : Fin cfg0.N) (a : Fin 1024) (b : Fin 1024) :
    ((cfg0.win 3).blk t).view.emb (ix2 a b) = ix2 ⟨t.val * 1024 + a.val, by have := lt_N t; omega⟩ b := by
  obtain ⟨h0, h1⟩ := (idx t).2.2.2
  funext x; apply Fin.ext
  match x with
  | ⟨0, _⟩ => show win0_3.index t 0 * 1024 + 1 * a.val = t.val * 1024 + a.val; omega
  | ⟨1, _⟩ => show win0_3.index t 1 * 1024 + 1 * b.val = b.val; omega

/-- Window 0's block at an entry. -/
theorem iblk0 (c : Dev nD) (t : Fin cfg0.N) (e : Fin 4) (a : Fin 1024) (b : Fin 704) :
    iblk m c 0 t (ix3 e a b) = (m (c.tc.loc main_arg0)) (ix2 ⟨t.val * 1024 + a.val, by have := lt_N t; omega⟩ ⟨e.val * 704 + b.val, by omega⟩) := by
  show V m c main_v1 (((cfg0.win 0).blk t).view.emb (ix3 e a b)) = _
  rw [emb0, V_main_v1]

/-- Window 1's block at an entry. -/
theorem iblk1 (c : Dev nD) (t : Fin cfg0.N) (e : Fin 1) (a : Fin 2816) (b : Fin 1024) :
    iblk m c 1 t (ix3 e a b) = (m (c.tc.loc main_arg1)) (ix2 a b) := by
  show V m c main_v2 (((cfg0.win 1).blk t).view.emb (ix3 e a b)) = _
  rw [emb1, V_main_v2]

/-- Window 2's block at an entry. -/
theorem iblk2 (c : Dev nD) (t : Fin cfg0.N) (a : Fin 1024) (b : Fin 1024) :
    iblk m c 2 t (ix2 a b) = (m (c.tc.loc main_arg2)) (ix2 ⟨t.val * 1024 + a.val, by have := lt_N t; omega⟩ b) := by
  show V m c main_arg2 (((cfg0.win 2).blk t).view.emb (ix2 a b)) = _
  rw [emb2, V_main_arg2]

/-- Part 0 of the product. -/
theorem part0 (c : Dev nD) (t : Fin cfg0.N) (a : Fin 1024) (b : Fin 1024) :
    matmul dot_S1024x704_S704x1024_S1024x1024_1_0_0_1_n_n none
        (shapeCast S1024x704 (View.ld (iblk m c 0 t) r0_0) shapeCasts_S1x1024x704_S1024x704 : FVec Ideal S1024x704 .bf16)
        (shapeCast S704x1024 (View.ld (iblk m c 1 t) r0_1) shapeCasts_S1x704x1024_S704x1024 : FVec Ideal S704x1024 .bf16)
        (constant S1024x1024 .f32 0x00000000#32) (ix2 a b)
      = ∑ k : Fin 704, term (m (c.tc.loc main_arg0)) (m (c.tc.loc main_arg1)) ⟨t.val * 1024 + a.val, by have := lt_N t; omega⟩ b ⟨k.val, by omega⟩ := by
  refine (matmul_nn _ rfl none _ _ a b).trans (Finset.sum_congr rfl fun k _ => ?_)
  refine congrArg₂ (· * ·) ((cast_drop _ _ a k).trans ?_) ((cast_drop _ _ k b).trans ?_)
  · have e : r0_0.emb (ix3 0 a k) = ix3 0 a k := by
      funext x; apply Fin.ext
      match x with
      | ⟨0, _⟩ => rfl
      | ⟨1, _⟩ => show 0 + 1 * a.val = a.val; omega
      | ⟨2, _⟩ => show 0 + 1 * k.val = k.val; omega
    refine (congrArg (iblk m c 0 t) e).trans ((iblk0 m c t 0 a k).trans ?_)
    refine congrArg (fun q => (m (c.tc.loc main_arg0)) (ix2 _ q)) (Fin.ext ?_)
    show 0 * 704 + k.val = k.val
    omega
  · have e : r0_1.emb (ix3 0 k b) = ix3 0 (⟨k.val, by omega⟩ : Fin 2816) b := by
      funext x; apply Fin.ext
      match x with
      | ⟨0, _⟩ => rfl
      | ⟨1, _⟩ => show 0 + 1 * k.val = k.val; omega
      | ⟨2, _⟩ => show 0 + 1 * b.val = b.val; omega
    exact (congrArg (iblk m c 1 t) e).trans (iblk1 m c t 0 _ b)

/-- Part 1 of the product. -/
theorem part1 (c : Dev nD) (t : Fin cfg0.N) (a : Fin 1024) (b : Fin 1024) :
    matmul dot_S1024x704_S704x1024_S1024x1024_1_0_0_1_n_n none
        (shapeCast S1024x704 (View.ld (iblk m c 0 t) r0_2) shapeCasts_S1x1024x704_S1024x704 : FVec Ideal S1024x704 .bf16)
        (shapeCast S704x1024 (View.ld (iblk m c 1 t) r0_3) shapeCasts_S1x704x1024_S704x1024 : FVec Ideal S704x1024 .bf16)
        (constant S1024x1024 .f32 0x00000000#32) (ix2 a b)
      = ∑ k : Fin 704, term (m (c.tc.loc main_arg0)) (m (c.tc.loc main_arg1)) ⟨t.val * 1024 + a.val, by have := lt_N t; omega⟩ b ⟨704 + k.val, by omega⟩ := by
  refine (matmul_nn _ rfl none _ _ a b).trans (Finset.sum_congr rfl fun k _ => ?_)
  refine congrArg₂ (· * ·) ((cast_drop _ _ a k).trans ?_) ((cast_drop _ _ k b).trans ?_)
  · have e : r0_2.emb (ix3 0 a k) = ix3 1 a k := by
      funext x; apply Fin.ext
      match x with
      | ⟨0, _⟩ => rfl
      | ⟨1, _⟩ => show 0 + 1 * a.val = a.val; omega
      | ⟨2, _⟩ => show 0 + 1 * k.val = k.val; omega
    refine (congrArg (iblk m c 0 t) e).trans ((iblk0 m c t 1 a k).trans ?_)
    refine congrArg (fun q => (m (c.tc.loc main_arg0)) (ix2 _ q)) (Fin.ext ?_)
    show 1 * 704 + k.val = 704 + k.val
    omega
  · have e : r0_3.emb (ix3 0 k b) = ix3 0 (⟨704 + k.val, by omega⟩ : Fin 2816) b := by
      funext x; apply Fin.ext
      match x with
      | ⟨0, _⟩ => rfl
      | ⟨1, _⟩ => show 704 + 1 * k.val = 704 + k.val; omega
      | ⟨2, _⟩ => show 0 + 1 * b.val = b.val; omega
    exact (congrArg (iblk m c 1 t) e).trans (iblk1 m c t 0 _ b)

/-- Part 2 of the product. -/
theorem part2 (c : Dev nD) (t : Fin cfg0.N) (a : Fin 1024) (b : Fin 1024) :
    matmul dot_S1024x704_S704x1024_S1024x1024_1_0_0_1_n_n none
        (shapeCast S1024x704 (View.ld (iblk m c 0 t) r0_4) shapeCasts_S1x1024x704_S1024x704 : FVec Ideal S1024x704 .bf16)
        (shapeCast S704x1024 (View.ld (iblk m c 1 t) r0_5) shapeCasts_S1x704x1024_S704x1024 : FVec Ideal S704x1024 .bf16)
        (constant S1024x1024 .f32 0x00000000#32) (ix2 a b)
      = ∑ k : Fin 704, term (m (c.tc.loc main_arg0)) (m (c.tc.loc main_arg1)) ⟨t.val * 1024 + a.val, by have := lt_N t; omega⟩ b ⟨1408 + k.val, by omega⟩ := by
  refine (matmul_nn _ rfl none _ _ a b).trans (Finset.sum_congr rfl fun k _ => ?_)
  refine congrArg₂ (· * ·) ((cast_drop _ _ a k).trans ?_) ((cast_drop _ _ k b).trans ?_)
  · have e : r0_4.emb (ix3 0 a k) = ix3 2 a k := by
      funext x; apply Fin.ext
      match x with
      | ⟨0, _⟩ => rfl
      | ⟨1, _⟩ => show 0 + 1 * a.val = a.val; omega
      | ⟨2, _⟩ => show 0 + 1 * k.val = k.val; omega
    refine (congrArg (iblk m c 0 t) e).trans ((iblk0 m c t 2 a k).trans ?_)
    refine congrArg (fun q => (m (c.tc.loc main_arg0)) (ix2 _ q)) (Fin.ext ?_)
    show 2 * 704 + k.val = 1408 + k.val
    omega
  · have e : r0_5.emb (ix3 0 k b) = ix3 0 (⟨1408 + k.val, by omega⟩ : Fin 2816) b := by
      funext x; apply Fin.ext
      match x with
      | ⟨0, _⟩ => rfl
      | ⟨1, _⟩ => show 1408 + 1 * k.val = 1408 + k.val; omega
      | ⟨2, _⟩ => show 0 + 1 * b.val = b.val; omega
    exact (congrArg (iblk m c 1 t) e).trans (iblk1 m c t 0 _ b)

/-- Part 3 of the product. -/
theorem part3 (c : Dev nD) (t : Fin cfg0.N) (a : Fin 1024) (b : Fin 1024) :
    matmul dot_S1024x704_S704x1024_S1024x1024_1_0_0_1_n_n none
        (shapeCast S1024x704 (View.ld (iblk m c 0 t) r0_6) shapeCasts_S1x1024x704_S1024x704 : FVec Ideal S1024x704 .bf16)
        (shapeCast S704x1024 (View.ld (iblk m c 1 t) r0_7) shapeCasts_S1x704x1024_S704x1024 : FVec Ideal S704x1024 .bf16)
        (constant S1024x1024 .f32 0x00000000#32) (ix2 a b)
      = ∑ k : Fin 704, term (m (c.tc.loc main_arg0)) (m (c.tc.loc main_arg1)) ⟨t.val * 1024 + a.val, by have := lt_N t; omega⟩ b ⟨2112 + k.val, by omega⟩ := by
  refine (matmul_nn _ rfl none _ _ a b).trans (Finset.sum_congr rfl fun k _ => ?_)
  refine congrArg₂ (· * ·) ((cast_drop _ _ a k).trans ?_) ((cast_drop _ _ k b).trans ?_)
  · have e : r0_6.emb (ix3 0 a k) = ix3 3 a k := by
      funext x; apply Fin.ext
      match x with
      | ⟨0, _⟩ => rfl
      | ⟨1, _⟩ => show 0 + 1 * a.val = a.val; omega
      | ⟨2, _⟩ => show 0 + 1 * k.val = k.val; omega
    refine (congrArg (iblk m c 0 t) e).trans ((iblk0 m c t 3 a k).trans ?_)
    refine congrArg (fun q => (m (c.tc.loc main_arg0)) (ix2 _ q)) (Fin.ext ?_)
    show 3 * 704 + k.val = 2112 + k.val
    omega
  · have e : r0_7.emb (ix3 0 k b) = ix3 0 (⟨2112 + k.val, by omega⟩ : Fin 2816) b := by
      funext x; apply Fin.ext
      match x with
      | ⟨0, _⟩ => rfl
      | ⟨1, _⟩ => show 2112 + 1 * k.val = 2112 + k.val; omega
      | ⟨2, _⟩ => show 0 + 1 * b.val = b.val; omega
    exact (congrArg (iblk m c 1 t) e).trans (iblk1 m c t 0 _ b)

/-- What grid point `t` writes back is its block of the result. -/
theorem wrote3 (c : Dev nD) (t : Fin cfg0.N) :
    (dats m 0 c).flushed 3 t = ((cfg0.win 3).blk t).view.read (Elt Ideal) (down (m (c.tc.loc main_arg0)) (m (c.tc.loc main_arg1)) (m (c.tc.loc main_arg2))) := by
  rw [Value.flushed3]
  refine ext2 fun a b => ?_
  show out0_3 (iblk m c 0 t) (iblk m c 1 t) (iblk m c 2 t) (ix2 a b) = (down (m (c.tc.loc main_arg0)) (m (c.tc.loc main_arg1)) (m (c.tc.loc main_arg2))) (((cfg0.win 3).blk t).view.emb (ix2 a b))
  rw [emb3]
  unfold out0_3
  rw [View.canon_unit_zero zz, ld2]
  unfold k0_pay1 down
  refine congrArg₂ (· + ·) (iblk2 m c t a b) (congrArg₂ (· * ·) rfl ?_)
  rw [sum_four]
  exact congrArg₂ (· + ·) (congrArg₂ (· + ·) (congrArg₂ (· + ·) (part0 m c t a b) (part1 m c t a b)) (part2 m c t a b)) (part3 m c t a b)

/-- Every entry of window 3's array is in some grid point's block. -/
theorem covered3 (i : S2048x1024.Idx) : ∃ t : Fin cfg0.N, (cfg0.win 3).flush t = true ∧ i ∈ ((cfg0.win 3).blk t).view.set := by
  have h0 : (i 0).val < 2048 := (i 0).isLt
  let t : Fin cfg0.N := ⟨(i 0).val / 1024, (show (i 0).val / 1024 < 2 by omega).trans_le (by decide)⟩
  refine ⟨t, flush0_3 t, ?_⟩
  have h := ((cfg0.win 3).blk t).view.emb_mem_set (ix2 (⟨(i 0).val % 1024, by omega⟩ : Fin 1024) (i 1))
  refine Eq.mp (congrArg (fun q => q ∈ ((cfg0.win 3).blk t).view.set) ((emb3 t _ _).trans ?_)) h
  funext x; apply Fin.ext
  match x with
  | ⟨0, _⟩ => show (i 0).val / 1024 * 1024 + (i 0).val % 1024 = (i 0).val; omega
  | ⟨1, _⟩ => rfl

theorem final3 (c : Dev nD) : (dats m 0 c).arrAt 3 cfg0.N = (down (m (c.tc.loc main_arg0)) (m (c.tc.loc main_arg1)) (m (c.tc.loc main_arg2))) :=
  (dats m 0 c).arrAt_eq_of_cover 3 (down (m (c.tc.loc main_arg0)) (m (c.tc.loc main_arg1)) (m (c.tc.loc main_arg2))) (fun t _ => wrote3 m c t) covered3

/-- The call leaves the input plus half the product in its result, exactly, and its arguments unchanged. -/
theorem run : θ_run defs (onTc (τ := τ) (main (F := Ideal))) ⟨m, fun _ => 0, ρ⟩ fun r => ∀ c : Dev nD,
      r.2.mem (c.tc.loc main_v3) = (down (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun r h c => ⟨(h c).1.trans (final3 m c), (h c).2⟩) (Value.run_blocks m ρ)

end

namespace Ref

open Cert.FfnDownReferenceIdeal Cert.FfnDownReferenceIdeal.Gen Cert.FfnDownReferenceIdeal.Read

/-- The reference's result. -/
theorem down_eq (x0 : Mat 2048 2816) (x1 : Mat 2816 1024) (x2 : Mat 2048 1024) : val_main_v5 (F := Ideal) x0 x1 x2 = down x0 x1 x2 := ext2 fun a b => by
  rw [val_main_v5_apply, val_main_v4_apply, val_main_v3_apply, val_main_cst_apply]
  refine congrArg₂ (· + ·) rfl (congrArg₂ (· * ·) rfl ?_)
  unfold val_main_v2
  exact dot_nn (φ₁ := .f32) (φ₂ := .f32) _ rfl none (val_main_v0 (F := Ideal) x0) (val_main_v1 (F := Ideal) x1) a b

variable (m : (ℓ : Loc nD τ sig) → Buf (Elt Ideal) ℓ) (ρ : Dev nD → PrngReg)

/-- The reference leaves the same array and its arguments unchanged. -/
theorem run : θ_run defs (onTc (τ := τ) (main (F := Ideal))) ⟨m, fun _ => 0, ρ⟩ fun r => ∀ c : Dev nD,
      r.2.mem (c.tc.loc main_v5) = (down (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun _ h c => ⟨(h c).1.trans ((val_main_v5_eq _ _ _).trans (down_eq _ _ _)), (h c).2⟩) (Value.run m ρ)

end Ref

end Cert.FfnDown

end
-- ==== Proof.MixInRun.lean ====
/- One step of the mixer input's kernel, on any buffers: the step that normalises the rows and stores them, and the step that
   finds them stored. -/
module

public import proofs.«01_k».proof.Proof.Rows
public import proofs.«01_k».proof.Proof.Gen.MixInIdeal.Skeleton
public import proofs.«01_k».proof.Proof.Gen.MixInIdeal.Frame

@[expose] public section

set_option maxRecDepth 16384

noncomputable section

namespace Cert.MixIn.Frame

open Cert.Common
open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The rows of the scratch that a step works on. -/
abbrev rws (i : grid0.Coords) : Rect S2048x1024 := Rect.unit (s := S2048x1024) (k0_off2 i) S2048x1024.size (k0_off2_inb i)

variable (c : Dev nD) (i : grid0.Coords) (arg2 : Memref sig .tc .vmem S2048x1024 .f32) (harg2 : arg2.IsWhole) (arg3 : Memref sig .tc .vmem S1x1x1024 .f32) (harg3 : arg3.IsWhole) (arg4 : Memref sig .tc .vmem S1x1x1024x640 .bf16) (harg4 : arg4.IsWhole) (arg5 : Memref sig .tc .vmem S2048x1024 .bf16) (harg5 : arg5.IsWhole) (arg6 : Memref sig .tc .vmem S2048x640 .bf16) (harg6 : arg6.IsWhole) (arg7 : Memref sig .tc .vmem S2048x1024 .bf16) (harg7 : arg7.IsWhole)

set_option maxHeartbeats 1000000 in
/-- The step that normalises the rows: it stores them in the scratch and in the first result, and multiplies them. -/
theorem runA (hc : k0_cond1 i = 1#1) (x0 : Vec F S2048x1024 .f32) (x1 : Vec F S1x1x1024 .f32) (x2 : Vec F S1x1x1024x640 .bf16) (X : Vec F S2048x1024 .bf16) (E : Set ℕ) (K : PUnit → sProp 𝕄) :
    iprop(owns c.tc arg2 fullShare x0 ∗ owns c.tc arg3 fullShare x1 ∗ owns c.tc arg4 fullShare x2
        ∗ (∃ d, owns c.tc arg5 fullShare d) ∗ (∃ d, owns c.tc arg6 fullShare d) ∗ owns c.tc arg7 fullShare X
        ∗ (iprop(owns c.tc arg2 fullShare x0 ∗ owns c.tc arg3 fullShare x1 ∗ owns c.tc arg4 fullShare x2
        ∗ owns c.tc arg5 fullShare (k0_pay1 x0 x1) ∗ owns c.tc arg6 fullShare (k0_pay3 (k0_pay2 x0 x1) x2)
        ∗ (∃ X', ⌜Stored X' X (rws i) (k0_pay2 x0 x1)⌝ ∗ owns c.tc arg7 fullShare X')) -∗ K ⟨⟩))
      ⊢ wp frame (wpE (defs₀ (F := F)) Variants.none c none) E (cc0_mix_in i arg2 harg2 arg3 harg3 arg4 harg4 arg5 harg5 arg6 harg6 arg7 harg7) K := by
  simp only [cc0_mix_in_eq_skeleton]; unfold cc0_mix_in_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc)
  sl_step
  iapply Hk
  isplitl [H0]; · iexists _; iframe H0 %hf0
  isplitl [H1]; · iexists _; iframe H1 %hf1
  isplitl [H2]; · iexists _; iframe H2 %hf2
  unfold runA.sl.v6 runA.sl.H5_1
  have hv : ∀ p : Vec F S2048x1024 .bf16, arg7.view.readCov [(⟨Rect.unit (s := S2048x1024) (k0_off1 i) S2048x1024.size (k0_off1_inb i hc), p⟩ : View.Piece (Elt F) S2048x1024 .bf16)] (rws i).toLoadRect = p :=
    fun p => readCov_rows arg7.view (rfl : k0_off1 i = k0_off2 i) _ _ _ p []
  simp only [hv, readAt_whole harg2 _ zz, readAt_whole harg3 _ zzz, readAt_whole harg4 _ zzzz]
  isplitl [H3]; · iexists _; iframe H3; ipureintro; exact read_store _ _ zz _ _
  isplitl [H4]; · iexists _; iframe H4; ipureintro; exact read_store _ _ zz _ _
  iexists _; isplitr
  swap
  · iexists _; isplitr; swap; · iexact H5
    ipureintro; rfl
  ipureintro
  have h := stored_read (Val := Elt F) arg7.view (harg7.unread X) (rws i) (k0_pay2 x0 x1)
  rw [hf5] at h
  exact h

set_option maxHeartbeats 1000000 in
/-- A step that finds the rows normalised, `h`, in the scratch: it multiplies them and leaves the first result's buffer. -/
theorem runB (hc : ¬ k0_cond1 i = 1#1) (x0 : Vec F S2048x1024 .f32) (x1 : Vec F S1x1x1024 .f32) (x2 : Vec F S1x1x1024x640 .bf16) (y : Vec F S2048x1024 .bf16) (X : Vec F S2048x1024 .bf16) (h : Vec F S2048x1024 .bf16)
    (hX : View.ld X (rws i) = h) (E : Set ℕ) (K : PUnit → sProp 𝕄) :
    iprop(owns c.tc arg2 fullShare x0 ∗ owns c.tc arg3 fullShare x1 ∗ owns c.tc arg4 fullShare x2
        ∗ owns c.tc arg5 fullShare y ∗ (∃ d, owns c.tc arg6 fullShare d) ∗ owns c.tc arg7 fullShare X
        ∗ (iprop(owns c.tc arg2 fullShare x0 ∗ owns c.tc arg3 fullShare x1 ∗ owns c.tc arg4 fullShare x2
        ∗ owns c.tc arg5 fullShare y ∗ owns c.tc arg6 fullShare (k0_pay3 h x2)
        ∗ owns c.tc arg7 fullShare X) -∗ K ⟨⟩))
      ⊢ wp frame (wpE (defs₀ (F := F)) Variants.none c none) E (cc0_mix_in i arg2 harg2 arg3 harg3 arg4 harg4 arg5 harg5 arg6 harg6 arg7 harg7) K := by
  simp only [cc0_mix_in_eq_skeleton]; unfold cc0_mix_in_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc)
  sl_step
  iapply Hk
  have hh : View.readAt (Elt F) arg7.view (rws i).toLoadRect (harg7.unread X) = h := by
    rw [View.readAt_eq_ld, hf5, hX]
  isplitl [H0]; · iexists _; iframe H0 %hf0
  isplitl [H1]; · iexists _; iframe H1 %hf1
  isplitl [H2]; · iexists _; iframe H2 %hf2
  rw [hh]
  simp only [readAt_whole harg2 _ zz, readAt_whole harg3 _ zzz, readAt_whole harg4 _ zzzz]
  isplitl [H3]; · iexists _; iframe H3 %hf3
  isplitl [H4]; · iexists _; iframe H4; ipureintro; exact read_store _ _ zz _ _
  iexists _; isplitr; swap; · iexact H5
  ipureintro; exact hf5

end Cert.MixIn.Frame

end
-- ==== Proof.MixInFrame.lean ====
/- The mixer input's kernel run on its grid of eight column blocks. The first step normalises the rows and keeps them in the
   scratch, which the later steps find as they were left. -/
module

public import proofs.«01_k».proof.Proof.MixInRun

@[expose] public section

set_option maxRecDepth 16384

noncomputable section

namespace Cert.MixIn.Frame

open Cert.Common
open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 8 := Nat.lt_of_lt_of_eq t.isLt N_0

/-- The first step on the rows of step `t`. -/
def fst (t : Fin cfg0.N) : Fin cfg0.N := ⟨t.val % 1, lt_of_le_of_lt (Nat.mod_le _ _) t.isLt⟩

/-- The last step up to `t` that fills rows. -/
def cap (t : Fin cfg0.N) : Fin cfg0.N := ⟨min t.val 0, lt_of_le_of_lt (min_le_left _ _) t.isLt⟩

/-- The normalised rows. -/
def hb (c : Dev nD) (t : Fin cfg0.N) : Vec F S2048x1024 .bf16 := k0_pay2 (iblk m c 0 (fst t)) (iblk m c 1 (fst t))

/-- After `k` steps the scratch holds the rows filled so far. -/
def Filled (c : Dev nD) (k : ℕ) (X : Vec F S2048x1024 .bf16) : Prop :=
  ∀ s : Fin cfg0.N, s.val < 1 → s.val < k → View.ld X (rws (grid0.coords s)) = hb m c s

/-- The scratch. -/
abbrev scr : Memref sig .tc .vmem S2048x1024 .bf16 := Memref.whole cc0_scratch0

/-- What holds between the steps. -/
def Inv (c : Dev nD) (k : ℕ) : sProp 𝕄 :=
  iprop((∃ X, ⌜Filled m c k X⌝ ∗ owns c.tc scr fullShare X) ∗ (∃ r, prngReg c r))

/-- What the run starts from and ends with: the scratch at some contents. -/
theorem scoped_eq (c : Dev nD) :
    (Pipeline.ΦA spec0 c : sProp 𝕄) = iprop(iprop((∃ d, owns c.tc scr fullShare d)) ∗ (∃ r, prngReg c r)) := by
  unfold Pipeline.ΦA; rw [scopedRest0_eq]; simp only [scr, owns_whole]; try rfl

/-- The arrays as the region finds them, and what each buffer holds after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (k0_pay1 (iblk m c 0 (cap t)) (iblk m c 1 (cap t)))
    | ⟨4, _⟩ => (k0_pay3 (hb m c t) (iblk m c 2 t))
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (k0_pay1 (iblk m c 0 (cap t)) (iblk m c 1 (cap t))) := by dsimp only [dats]
theorem after0_4 (c : Dev nD) (t : Fin cfg0.N) : (dats m 0 c).after 4 t = (k0_pay3 (hb m c t) (iblk m c 2 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The first steps fill rows, the others do not. -/
theorem cond_iff : ∀ t : Fin cfg0.N, k0_cond1 (grid0.coords t) = 1#1 ↔ t.val < 1 :=
  (by decide +kernel : ∀ t : Fin grid0.N, _)

/-- The rows of a step start at its row block. -/
theorem start : ∀ t : Fin cfg0.N, k0_off2 (grid0.coords t) 0 = 1024 * (t.val % 1) :=
  (by decide +kernel : ∀ t : Fin grid0.N, _)

theorem rws_fst : ∀ t : Fin cfg0.N, k0_off2 (grid0.coords t) = k0_off2 (grid0.coords (fst t)) :=
  (by decide +kernel : ∀ t : Fin grid0.N, _)

theorem idle_live : ∀ t : Fin cfg0.N, t.val < 1 → cfg0.idle 3 (grid0.coords t) = false :=
  (by decide +kernel : ∀ t : Fin grid0.N, _)
theorem idle_idle : ∀ t : Fin cfg0.N, ¬ t.val < 1 → cfg0.idle 3 (grid0.coords t) = true :=
  (by decide +kernel : ∀ t : Fin grid0.N, _)
theorem flush3 : ∀ t : Fin cfg0.N, (cfg0.win 3).flush t = true ↔ t.val = 7 :=
  (by decide +kernel : ∀ t : Fin grid0.N, _)

/-- A step that fills rows adds its own to the scratch. -/
theorem filled_step (c : Dev nD) (t : Fin cfg0.N) (ht : t.val < 1) (X X' : Vec F S2048x1024 .bf16) (h : Filled m c t.val X)
    (hs : Stored X' X (rws (grid0.coords t)) (hb m c t)) : Filled m c (t.val + 1) X' := by
  intro s h2 hk
  rcases Nat.lt_or_eq_of_le (Nat.le_of_lt_succ hk) with hlt | heq
  · omega
  · obtain rfl : s = t := Fin.ext heq
    exact hs.ld

/-- A step after them keeps the scratch. -/
theorem filled_keep (c : Dev nD) (t : Fin cfg0.N) (ht : ¬ t.val < 1) (X : Vec F S2048x1024 .bf16) (h : Filled m c t.val X) : Filled m c (t.val + 1) X :=
  fun s h2 _ => h s h2 (by omega)

/-- and finds its rows there. -/
theorem filled_ld (c : Dev nD) (t : Fin cfg0.N) (ht : ¬ t.val < 1) (X : Vec F S2048x1024 .bf16) (h : Filled m c t.val X) :
    View.ld X (rws (grid0.coords t)) = hb m c t := by
  have hf : (fst t).val = t.val % 1 := rfl
  have e := h (fst t) (by omega) (by omega)
  have e' : hb m c (fst t) = hb m c t := by
    unfold hb; rw [show fst (fst t) = fst t from Fin.ext (Nat.mod_mod _ _)]
  rw [← e', ← e]
  have hr : ∀ (o o' : Fin 2 → ℕ) (p : ∀ a, o a + S2048x1024.size a ≤ S2048x1024.size a) (p' : ∀ a, o' a + S2048x1024.size a ≤ S2048x1024.size a), o = o' →
      View.ld X (Rect.unit (s := S2048x1024) o S2048x1024.size p) = View.ld X (Rect.unit (s := S2048x1024) o' S2048x1024.size p') := by
    intro o o' p p' ho; subst ho; rfl
  exact hr _ _ _ _ (rws_fst t)

/-- The first result's buffer at a step that leaves it: the last rows filled. -/
theorem before3 (c : Dev nD) : ∀ (k : ℕ) (t : Fin cfg0.N), t.val = k + 1 → ∀ d, (dats m 0 c).before 3 t d = (dats m 0 c).after 3 t := by
  have haft : ∀ t t' : Fin cfg0.N, 0 ≤ t.val → 0 ≤ t'.val → (dats m 0 c).after 3 t = (dats m 0 c).after 3 t' := fun t t' h h' => by
    rw [after0_3, after0_3, show cap t = cap t' from Fin.ext (by show min _ _ = min _ _; omega)]
  intro k
  induction k with
  | zero =>
    intro t ht d
    have h8 := lt_N t
    rw [Dat.before_of_pos _ 3 t (by omega) rfl, if_neg (by rw [flush3]; show ¬ (t.val - 1 = 7); omega)]
    unfold Dat.left
    rw [idle_live _ (show t.val - 1 < 1 by omega)]
    exact haft ⟨t.val - 1, _⟩ t (show 0 ≤ t.val - 1 by omega) (by omega)
  | succ k ih =>
    intro t ht d
    have h8 := lt_N t
    rw [Dat.before_of_pos _ 3 t (by omega) rfl, if_neg (by rw [flush3]; show ¬ (t.val - 1 = 7); omega)]
    unfold Dat.left
    rw [idle_idle _ (show ¬ t.val - 1 < 1 by omega)]
    exact (ih ⟨t.val - 1, _⟩ (show t.val - 1 = k + 1 by omega) d).trans (haft ⟨t.val - 1, _⟩ t (show 0 ≤ t.val - 1 by omega) (by omega))

/-- What that buffer holds after such a step. -/
theorem leaves3 (c : Dev nD) (t : Fin cfg0.N) (ht : ¬ t.val < 1) (d) :
    owns c.tc (win0_3.stage (cfg0.slots t 3)) fullShare ((dats m 0 c).before 3 t d) ⊢ ((dats m 0 c).leavesExact 3 t : sProp 𝕄) := by
  by_cases hf : (cfg0.win 3).flush t = true
  · unfold Dat.leavesExact
    rw [idle_idle t ht, hf, before3 m c (t.val - 1) t (by omega) d]
  · rw [Dat.leavesExact_idle _ 3 t (idle_idle t ht) (by simpa using hf)]
    iintro H; iexists d; iexact H

/-- What the body is called with, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns c.tc (win0_0.stage (cfg0.slots t 0)) fullShare ((dats m 0 c).after 0 t) from rfl, after0_0]
  rw [show (dats m 0 c).leavesExact 1 t = owns c.tc (win0_1.stage (cfg0.slots t 1)) fullShare ((dats m 0 c).after 1 t) from rfl, after0_1]
  rw [show (dats m 0 c).leavesExact 2 t = owns c.tc (win0_2.stage (cfg0.slots t 2)) fullShare ((dats m 0 c).after 2 t) from rfl, after0_2]
  rw [show (dats m 0 c).leavesExact 4 t = owns c.tc (win0_4.stage (cfg0.slots t 4)) fullShare ((dats m 0 c).after 4 t) from rfl, after0_4]
  unfold Inv
  by_cases ht : t.val < 1
  · rw [show (dats m 0 c).leavesExact 3 t = owns c.tc (win0_3.stage (cfg0.slots t 3)) fullShare ((dats m 0 c).after 3 t) from by
      unfold Dat.leavesExact; rw [idle_live t ht], after0_3,
      show cap t = t from Fin.ext (by show min _ _ = _; omega)]
    iintro ⟨⟨⟨%X, %hX, HS⟩, Hg⟩, Ho, ⟨%d0, H0⟩, ⟨%d1, H1⟩, ⟨%d2, H2⟩, ⟨%d3, H3⟩, ⟨%d4, H4⟩⟩
    iapply (runA c (grid0.coords t) _ _ _ _ _ _ _ _ _ _ _ (Memref.isWhole_whole _) ((cond_iff t).2 ht) (iblk m c 0 t) (iblk m c 1 t) (iblk m c 2 t) X Set.univ _)
    iframe H0 H1 H2
    isplitl [H3]; · iexists _; iexact H3
    isplitl [H4]; · iexists _; iexact H4
    isplitl [HS]; · iexact HS
    have hh : k0_pay2 (iblk m c 0 t) (iblk m c 1 t) = hb m c t := by
      unfold hb; rw [show fst t = t from Fin.ext (Nat.mod_eq_of_lt ht)]
    rw [hh]
    iintro ⟨H0, H1, H2, H3, H4, ⟨%X', %hX', HS⟩⟩
    isplitl [HS Hg]
    · isplitl [HS]
      · iexists X'; isplitr; swap; · iexact HS
        ipureintro; exact filled_step m c t ht X X' hX hX'
      iexact Hg
    iframe Ho H0 H1 H2 H3
    iexact H4
  · iintro ⟨⟨⟨%X, %hX, HS⟩, Hg⟩, Ho, ⟨%d0, H0⟩, ⟨%d1, H1⟩, ⟨%d2, H2⟩, ⟨%d3, H3⟩, ⟨%d4, H4⟩⟩
    iapply (runB c (grid0.coords t) _ _ _ _ _ _ _ _ _ _ _ (Memref.isWhole_whole _) (fun h => ht ((cond_iff t).1 h)) (iblk m c 0 t) (iblk m c 1 t) (iblk m c 2 t) _ X (hb m c t) (filled_ld m c t ht X hX) Set.univ _)
    iframe H0 H1 H2 H3
    isplitl [H4]; · iexists _; iexact H4
    isplitl [HS]; · iexact HS
    iintro ⟨H0, H1, H2, H3, H4, HS⟩
    isplitl [HS Hg]
    · isplitl [HS]
      · iexists X; isplitr; swap; · iexact HS
        ipureintro; exact filled_keep m c t ht X hX
      iexact Hg
    iframe Ho H0 H1 H2
    isplitl [H3]; · iapply (leaves3 m c t ht d3); iexact H3
    iexact H4

theorem defs₀_row (t : Fin cfg0.N) :
    defs₀ (F := F) .tc cfg0.body (cfg0.bodyArgs t (cfg0.slots t)) = bodyAt0 t := by
  unfold defs₀; rw [Defs.onTc_tc]

/-- The body meets what the pipeline asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem start_inv (c : Dev nD) : (Pipeline.ΦA spec0 c : sProp 𝕄) ⊢ (dats m 0 c).Φ 0 := by
  rw [scoped_eq, show (dats m 0 c).Φ 0 = Inv m c 0 from rfl]
  unfold Inv
  iintro ⟨⟨%d, H⟩, Hg⟩
  isplitl [H]
  · iexists d; isplitr; swap; · iexact H
    ipureintro; exact fun s _ h => absurd h (Nat.not_lt_zero _)
  iexact Hg

theorem end_inv (c : Dev nD) : (dats m 0 c).Φ (Fin.last cfg0.N) ⊢ (Pipeline.ΦA spec0 c : sProp 𝕄) := by
  rw [scoped_eq, show (dats m 0 c).Φ (Fin.last cfg0.N) = Inv m c cfg0.N from rfl]
  unfold Inv
  iintro ⟨⟨%X, -, H⟩, Hg⟩
  isplitl [H]
  · iexists X; iexact H
  iexact Hg

set_option backward.isDefEq.respectTransparency.types false in
/-- Every run ends with every array at what its buffers were written back as, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := start_inv m) (hout := end_inv m)

theorem run_main : θ_run defs (onTc (τ := τ) (main (F := F))) (s₀ m ρ) (Pipeline.FramePost cfgs (dats m) 0 (V m)) :=
  (θ_run defs _ _).mono (fun _ h => h.1) (run_main_quiescent m ρ)

end Cert.MixIn.Frame

end
-- ==== Proof.MixInClaim.lean ====
/- The mixer's input: rows normalised and multiplied by a weight matrix. What the call's run leaves in its two result arrays,
   as functions of the argument arrays, and the same from the reference. -/
module

public import proofs.«01_k».proof.Proof.MixInFrame
public import proofs.«01_k».proof.Proof.Norm
public import proofs.«01_k».proof.Proof.Gen.MixInReferenceIdeal.Run
public import proofs.«01_k».proof.Proof.Gen.MixInReferenceIdeal.Read

@[expose] public section

set_option maxRecDepth 16384

noncomputable section

namespace Cert.MixIn

open Cert.Common Idealize.ShloMosaic Idealize.ShloMosaic.TcCoe Idealize.ShloMosaic.ValueIdx
open Idealize.SL.Sem
open scoped BigOperators

/-- The first result: the normalised rows. -/
def res0 (x : Mat 2048 1024) (g : Mat 4 1024) : Mat 2048 1024 := fun i => nrm x g 0 (i 0) (i 1)

/-- The second result: the normalised rows times the weights. -/
def proj (x : Mat 2048 1024) (g : Mat 4 1024) (w : Mat 1024 5120) : Mat 2048 5120 := fun i =>
  ∑ k : Fin 1024, nrm x g 0 (i 0) k * w (ix2 k (i 1))

section
open Cert.MixInIdeal Cert.MixInIdeal.Gen Cert.MixIn.Frame

variable (m : (ℓ : Loc nD τ sig) → Buf (Elt Ideal) ℓ) (ρ : Dev nD → PrngReg)

/-- The column weights as the region finds them. -/
theorem V_main_v0 (c : Dev nD) (l : Fin 4) (e : Fin 1) (b : Fin 1024) :
    V m c main_v0 (ix3 l e b) = m (c.tc.loc main_arg1) (ix2 l b) := by
  have h : V m c main_v0 = shapeCast S4x1x1024 (m (c.tc.loc main_arg1)) shapeCasts_S4x1024_S4x1x1024 := by
    show StableHlo.after hostOps0 _ (Proc.devRef .tc main_v0) = _
    after_results
    rfl
  rw [h]
  refine shapeCast_apply _ shapeCasts_S4x1024_S4x1x1024 (ix3 l e b) (ix2 l b) ?_
  rw [Shape.rowMajor_val_two, Shape.rowMajor_val_three]
  show l.val * 1024 + b.val = (l.val * 1 + e.val) * 1024 + b.val
  omega

/-- The weights as the region finds them: the columns cut into 8 matrices of 640. -/
theorem V_main_v3 (c : Dev nD) (l : Fin 1) (e : Fin 8) (a : Fin 1024) (b : Fin 640) :
    V m c main_v3 (ix4 l e a b) = m (c.tc.loc main_arg2) (ix2 a ⟨e.val * 640 + b.val, by omega⟩) := by
  have h : V m c main_v3 = broadcastInDim S1x8x1024x640 ![1, 2, 3] bcast_S8x1024x640_S1x8x1024x640_1_2_3 (transpose S8x1024x640 [1, 0, 2]
      (shapeCast S1024x8x640 (m (c.tc.loc main_arg2)) shapeCasts_S1024x5120_S1024x8x640) transposes_S1024x8x640_S8x1024x640_1_0_2) := by
    show StableHlo.after hostOps0 _ (Proc.devRef .tc main_v3) = _
    after_results
    rfl
  rw [h]
  refine (broadcastInDim_apply _ bcast_S8x1024x640_S1x8x1024x640_1_2_3 _ (ix4 l e a b) (ix3 e a b) (fun x => ?_)).trans ?_
  · match x with
    | ⟨0, _⟩ => show e.val = if (8 : Nat) = 1 then 0 else e.val; rw [if_neg (by decide)]
    | ⟨1, _⟩ => show a.val = if (1024 : Nat) = 1 then 0 else a.val; rw [if_neg (by decide)]
    | ⟨2, _⟩ => show b.val = if (640 : Nat) = 1 then 0 else b.val; rw [if_neg (by decide)]
  refine (transpose_apply [1, 0, 2] _ transposes_S1024x8x640_S8x1024x640_1_0_2 (ix3 e a b) (ix3 a e b) (fun x => ?_)).trans ?_
  · match x with
    | ⟨0, _⟩ => rfl
    | ⟨1, _⟩ => rfl
    | ⟨2, _⟩ => rfl
  · refine shapeCast_apply _ shapeCasts_S1024x5120_S1024x8x640 (ix3 a e b) (ix2 a ⟨e.val * 640 + b.val, by omega⟩) ?_
    rw [Shape.rowMajor_val_two, Shape.rowMajor_val_three]
    show a.val * 5120 + (e.val * 640 + b.val) = (a.val * 8 + e.val) * 640 + b.val
    omega

/-- Where each window's block lies at grid point `t`. -/
theorem idx : ∀ t : Fin cfg0.N, (win0_0.index t 0 = 0 ∧ win0_0.index t 1 = 0)
    ∧ (win0_1.index t 0 = 0 ∧ win0_1.index t 1 = 0 ∧ win0_1.index t 2 = 0)
    ∧ (win0_2.index t 0 = 0 ∧ win0_2.index t 1 = t.val ∧ win0_2.index t 2 = 0 ∧ win0_2.index t 3 = 0)
    ∧ (win0_3.index t 0 = 0 ∧ win0_3.index t 1 = 0)
    ∧ (win0_4.index t 0 = 0 ∧ win0_4.index t 1 = t.val) :=
  (by decide +kernel : ∀ t : Fin grid0.N, _)

/-- An index of window 0's block as an index of its array. -/
theorem emb0 (t : Fin cfg0.N) (a : Fin 2048) (b : Fin 1024) :
    ((cfg0.win 0).blk t).view.emb (ix2 a b) = ix2 a b := by
  obtain ⟨h0, h1⟩ := (idx t).1
  funext x; apply Fin.ext
  match x with
  | ⟨0, _⟩ => show win0_0.index t 0 * 2048 + 1 * a.val = a.val; omega
  | ⟨1, _⟩ => show win0_0.index t 1 * 1024 + 1 * b.val = b.val; omega

/-- An index of window 1's block as an index of its array. -/
theorem emb1 (t : Fin cfg0.N) (e : Fin 1) (a : Fin 1) (b : Fin 1024) :
    ((cfg0.win 1).blk t).view.emb (ix3 e a b) = ix3 ⟨e.val, by omega⟩ a b := by
  obtain ⟨h0, h1, h2⟩ := (idx t).2.1
  funext x; apply Fin.ext
  match x with
  | ⟨0, _⟩ => show win0_1.index t 0 * 1 + 1 * e.val = e.val; omega
  | ⟨1, _⟩ => show win0_1.index t 1 * 1 + 1 * a.val = a.val; omega
  | ⟨2, _⟩ => show win0_1.index t 2 * 1024 + 1 * b.val = b.val; omega

/-- An index of window 2's block as an index of its array. -/
theorem emb2 (t : Fin cfg0.N) (l : Fin 1) (e : Fin 1) (a : Fin 1024) (b : Fin 640) :
    ((cfg0.win 2).blk t).view.emb (ix4 l e a b) = ix4 l ⟨t.val + e.val, by have := lt_N t; omega⟩ a b := by
  obtain ⟨h0, h1, h2, h3⟩ := (idx t).2.2.1
  funext x; apply Fin.ext
  match x with
  | ⟨0, _⟩ => show win0_2.index t 0 * 1 + 1 * l.val = l.val; omega
  | ⟨1, _⟩ => show win0_2.index t 1 * 1 + 1 * e.val = t.val + e.val; omega
  | ⟨2, _⟩ => show win0_2.index t 2 * 1024 + 1 * a.val = a.val; omega
  | ⟨3, _⟩ => show win0_2.index t 3 * 640 + 1 * b.val = b.val; omega

/-- An index of window 3's block as an index of its array. -/
theorem emb3 (t : Fin cfg0.N) (a : Fin 2048) (b : Fin 1024) :
    ((cfg0.win 3).blk t).view.emb (ix2 a b) = ix2 a b := by
  obtain ⟨h0, h1⟩ := (idx t).2.2.2.1
  funext x; apply Fin.ext
  match x with
  | ⟨0, _⟩ => show win0_3.index t 0 * 2048 + 1 * a.val = a.val; omega
  | ⟨1, _⟩ => show win0_3.index t 1 * 1024 + 1 * b.val = b.val; omega

/-- An index of window 4's block as an index of its array. -/
theorem emb4 (t : Fin cfg0.N) (a : Fin 2048) (b : Fin 640) :
    ((cfg0.win 4).blk t).view.emb (ix2 a b) = ix2 a ⟨t.val * 640 + b.val, by have := lt_N t; omega⟩ := by
  obtain ⟨h0, h1⟩ := (idx t).2.2.2.2
  funext x; apply Fin.ext
  match x with
  | ⟨0, _⟩ => show win0_4.index t 0 * 2048 + 1 * a.val = a.val; omega
  | ⟨1, _⟩ => show win0_4.index t 1 * 640 + 1 * b.val = t.val * 640 + b.val; omega

/-- The rows at an entry. -/
theorem iblk0 (c : Dev nD) (t : Fin cfg0.N) (a : Fin 2048) (b : Fin 1024) :
    iblk m c 0 t (ix2 a b) = (m (c.tc.loc main_arg0)) (ix2 a b) := by
  show V m c main_arg0 (((cfg0.win 0).blk t).view.emb (ix2 a b)) = _
  rw [emb0, V_main_arg0]

/-- The column weights' block at an entry. -/
theorem iblk1 (c : Dev nD) (t : Fin cfg0.N) (b : Fin 1024) :
    iblk m c 1 t (ix3 0 0 b) = (m (c.tc.loc main_arg1)) (ix2 0 b) := by
  show V m c main_v0 (((cfg0.win 1).blk t).view.emb (ix3 0 0 b)) = _
  rw [emb1, V_main_v0]
  rfl

/-- The weights' block at an entry. -/
theorem iblk2 (c : Dev nD) (t : Fin cfg0.N) (a : Fin 1024) (b : Fin 640) :
    iblk m c 2 t (ix4 0 0 a b) = (m (c.tc.loc main_arg2)) (ix2 a ⟨t.val * 640 + b.val, by have := lt_N t; omega⟩) := by
  show V m c main_v3 (((cfg0.win 2).blk t).view.emb (ix4 0 0 a b)) = _
  rw [emb2, V_main_v3]
  rfl

/-- The normalised rows. -/
theorem pay1 (c : Dev nD) (t : Fin cfg0.N) (a : Fin 2048) (b : Fin 1024) :
    k0_pay1 (F := Ideal) (iblk m c 0 t) (iblk m c 1 t) (ix2 a b) = nrm (m (c.tc.loc main_arg0)) (m (c.tc.loc main_arg1)) 0 a b := by
  unfold k0_pay1
  refine (kernel_nrm (by decide) (iblk m c 0 t) (iblk m c 1 t) _ _ _ _ _ _ _ a b).trans ?_
  have h : rinv (iblk m c 0 t) a = rinv (m (c.tc.loc main_arg0)) a := by
    unfold rinv
    simp only [iblk0]
  rw [h, iblk0, iblk1]
  rfl

/-- The normalised rows as a step finds them. -/
theorem hb_eq (c : Dev nD) (t : Fin cfg0.N) (a : Fin 2048) (b : Fin 1024) :
    hb m c t (ix2 a b) = nrm (m (c.tc.loc main_arg0)) (m (c.tc.loc main_arg1)) 0 a b := by
  unfold hb k0_pay2
  rw [shapeCast_self, pay1]

/-- One block's product with the weights. -/
theorem pay3 (c : Dev nD) (t : Fin cfg0.N) (a : Fin 2048) (b : Fin 640) :
    k0_pay3 (F := Ideal) (hb m c t) (iblk m c 2 t) (ix2 a b) = (proj (m (c.tc.loc main_arg0)) (m (c.tc.loc main_arg1)) (m (c.tc.loc main_arg2))) (ix2 a ⟨t.val * 640 + b.val, by have := lt_N t; omega⟩) := by
  unfold k0_pay3
  refine (matmul_nn _ rfl none _ _ a b).trans (Finset.sum_congr rfl fun k _ => ?_)
  rw [hb_eq]
  exact congrArg _ ((cast_drop2 _ _ k b).trans (iblk2 m c t k b))

/-- What a step writes back to the first result is the normalised rows. -/
theorem wrote3 (c : Dev nD) (t : Fin cfg0.N) :
    (dats m 0 c).flushed 3 t = ((cfg0.win 3).blk t).view.read (Elt Ideal) (res0 (m (c.tc.loc main_arg0)) (m (c.tc.loc main_arg1))) := by
  refine Eq.trans (b := (cfg0.win 3).cut (grid0.coords t) (k0_pay1 (F := Ideal) (iblk m c 0 (cap t)) (iblk m c 1 (cap t)))) ?_ ?_
  · show (cfg0.win 3).cut (grid0.coords t) ((dats m 0 c).after 3 t) = _
    rw [after0_3]
  refine ext2 fun a b => ?_
  show k0_pay1 (F := Ideal) (iblk m c 0 (cap t)) (iblk m c 1 (cap t)) (ix2 a b) = (res0 (m (c.tc.loc main_arg0)) (m (c.tc.loc main_arg1))) (((cfg0.win 3).blk t).view.emb (ix2 a b))
  rw [emb3, pay1]
  rfl

/-- The last step writes it back. -/
theorem covered3 (i : S2048x1024.Idx) : ∃ t : Fin cfg0.N, (cfg0.win 3).flush t = true ∧ i ∈ ((cfg0.win 3).blk t).view.set := by
  let t : Fin cfg0.N := ⟨7, by decide⟩
  refine ⟨t, (flush3 t).2 rfl, ?_⟩
  have h := ((cfg0.win 3).blk t).view.emb_mem_set (ix2 (i 0) (i 1))
  refine Eq.mp (congrArg (fun q => q ∈ ((cfg0.win 3).blk t).view.set) ((emb3 t _ _).trans ?_)) h
  funext x
  match x with
  | ⟨0, _⟩ => rfl
  | ⟨1, _⟩ => rfl

theorem final3 (c : Dev nD) : (dats m 0 c).arrAt 3 cfg0.N = (res0 (m (c.tc.loc main_arg0)) (m (c.tc.loc main_arg1))) :=
  (dats m 0 c).arrAt_eq_of_cover 3 (res0 (m (c.tc.loc main_arg0)) (m (c.tc.loc main_arg1))) (fun t _ => wrote3 m c t) covered3

/-- What a step writes back to the second result is its block of the product. -/
theorem wrote4 (c : Dev nD) (t : Fin cfg0.N) :
    (dats m 0 c).flushed 4 t = ((cfg0.win 4).blk t).view.read (Elt Ideal) (proj (m (c.tc.loc main_arg0)) (m (c.tc.loc main_arg1)) (m (c.tc.loc main_arg2))) := by
  refine Eq.trans (b := (cfg0.win 4).cut (grid0.coords t) (k0_pay3 (F := Ideal) (hb m c t) (iblk m c 2 t))) ?_ ?_
  · show (cfg0.win 4).cut (grid0.coords t) ((dats m 0 c).after 4 t) = _
    rw [after0_4]
  refine ext2 fun a b => ?_
  show k0_pay3 (F := Ideal) (hb m c t) (iblk m c 2 t) (ix2 a b) = (proj (m (c.tc.loc main_arg0)) (m (c.tc.loc main_arg1)) (m (c.tc.loc main_arg2))) (((cfg0.win 4).blk t).view.emb (ix2 a b))
  rw [emb4, pay3]

/-- Every step writes the second result back. -/
theorem flush4 : ∀ t : Fin cfg0.N, (cfg0.win 4).flush t = true := (by decide +kernel : ∀ t : Fin grid0.N, win0_4.flush t = true)

/-- Every entry of the second result is in some step's block. -/
theorem covered4 (i : S2048x5120.Idx) : ∃ t : Fin cfg0.N, (cfg0.win 4).flush t = true ∧ i ∈ ((cfg0.win 4).blk t).view.set := by
  have h1 : (i 1).val < 5120 := (i 1).isLt
  let t : Fin cfg0.N := ⟨(i 1).val / 640, (show (i 1).val / 640 < 8 by omega).trans_le (by decide)⟩
  refine ⟨t, flush4 t, ?_⟩
  have h := ((cfg0.win 4).blk t).view.emb_mem_set (ix2 (i 0) (⟨(i 1).val % 640, by omega⟩ : Fin 640))
  refine Eq.mp (congrArg (fun q => q ∈ ((cfg0.win 4).blk t).view.set) ((emb4 t _ _).trans ?_)) h
  funext x; apply Fin.ext
  match x with
  | ⟨0, _⟩ => rfl
  | ⟨1, _⟩ => show (i 1).val / 640 * 640 + (i 1).val % 640 = (i 1).val; omega

theorem final4 (c : Dev nD) : (dats m 0 c).arrAt 4 cfg0.N = (proj (m (c.tc.loc main_arg0)) (m (c.tc.loc main_arg1)) (m (c.tc.loc main_arg2))) :=
  (dats m 0 c).arrAt_eq_of_cover 4 (proj (m (c.tc.loc main_arg0)) (m (c.tc.loc main_arg1)) (m (c.tc.loc main_arg2))) (fun t _ => wrote4 m c t) covered4

/-- The call leaves the normalised rows and their product with the weights in its results, exactly, and its arguments unchanged. -/
theorem run : θ_run defs (onTc (τ := τ) (main (F := Ideal))) ⟨m, fun _ => 0, ρ⟩ fun r => ∀ c : Dev nD,
      r.2.mem (c.tc.loc main_v4_0) = (res0 (m (c.tc.loc main_arg0)) (m (c.tc.loc main_arg1)))
      ∧ r.2.mem (c.tc.loc main_v4_1) = (proj (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun r h c => ⟨((h c).1 3).trans (final3 m c), ((h c).1 4).trans (final4 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end

namespace Ref

open Cert.MixInReferenceIdeal Cert.MixInReferenceIdeal.Gen Cert.MixInReferenceIdeal.Read

/-- The reference's normalised rows at an entry. -/
theorem nrm_eq (x0 : Mat 2048 1024) (x1 : Mat 4 1024) (a : Fin 2048) (b : Fin 1024) : val_main_v14 (F := Ideal) x0 x1 (ix2 a b) = nrm x0 x1 0 a b := by
  rw [val_main_v14_apply, val_main_v11_apply, val_main_v10_apply, val_main_v9_apply, val_main_v8_apply, val_main_v6_apply, val_main_v4_apply,
    val_main_v3_apply, val_main_v5_apply, val_main_v7_apply, val_main_v13_apply, val_main_v12_apply, val_main_v1_apply, val_main_v0_apply]
  refine congrArg₂ (· * ·) (congrArg₂ (· * ·) rfl ?_) (congrArg x1 ?_)
  · refine congrArg Ideal.rsqrt (congrArg₂ (· + ·) (congrArg₂ Ideal.div ?_ rfl) rfl)
    refine (congrArg₂ (· + ·) Ideal.ofBits_zero_f32 rfl).trans ((zero_add _).trans (Finset.sum_congr rfl fun k _ => ?_))
    have e : idx_main_v3 (idx_main_v4 (idx_main_v10 (ix2 a b))) k = ix2 a k := by
      funext x
      match x with
      | ⟨0, _⟩ => rfl
      | ⟨1, _⟩ => rfl
    rw [e]
    rfl
  · funext x; apply Fin.ext
    match x with
    | ⟨0, _⟩ => rfl
    | ⟨1, _⟩ => show b.val % 1024 = b.val; omega

/-- The reference's two results. -/
theorem res0_eq (x0 : Mat 2048 1024) (x1 : Mat 4 1024) : val_main_v15 (F := Ideal) x0 x1 = res0 x0 x1 := ext2 fun a b => nrm_eq x0 x1 a b

theorem proj_eq (x0 : Mat 2048 1024) (x1 : Mat 4 1024) (x2 : Mat 1024 5120) : val_main_v18 (F := Ideal) x0 x1 x2 = proj x0 x1 x2 := ext2 fun a j => by
  show val_main_v17 (F := Ideal) x0 x1 x2 (ix2 a j) = _
  unfold val_main_v17
  refine (dot_nn (φ₁ := .f32) (φ₂ := .f32) _ rfl none (val_main_v14 (F := Ideal) x0 x1) (val_main_v16 (F := Ideal) x2) a j).trans ?_
  exact Finset.sum_congr rfl fun k _ => congrArg₂ (· * ·) (nrm_eq x0 x1 a k) rfl

variable (m : (ℓ : Loc nD τ sig) → Buf (Elt Ideal) ℓ) (ρ : Dev nD → PrngReg)

/-- The reference leaves the same two arrays and its arguments unchanged. -/
theorem run : θ_run defs (onTc (τ := τ) (main (F := Ideal))) ⟨m, fun _ => 0, ρ⟩ fun r => ∀ c : Dev nD,
      r.2.mem (c.tc.loc main_v15) = (res0 (m (c.tc.loc main_arg0)) (m (c.tc.loc main_arg1)))
      ∧ r.2.mem (c.tc.loc main_v18) = (proj (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun _ h c => ⟨(h c).1.trans ((val_main_v15_eq _ _).trans (res0_eq _ _)),
    (h c).2.1.trans ((val_main_v18_eq _ _ _).trans (proj_eq _ _ _)), (h c).2.2⟩) (Value.run m ρ)

end Ref

end Cert.MixIn

end
-- ==== Proof.MixOutClaim.lean ====
/- The mixer's output: two branches projected, gated, added and projected again. What the call's run leaves in its four result
   arrays, as functions of the argument arrays, and the same arrays from the reference. -/
module

public import proofs.«01_k».proof.Proof.Common
public import proofs.«01_k».proof.Proof.Gen.MixOutIdeal.Value
public import proofs.«01_k».proof.Proof.Gen.MixOutReferenceIdeal.Run
public import proofs.«01_k».proof.Proof.Gen.MixOutReferenceIdeal.Read

@[expose] public section

set_option maxRecDepth 16384

noncomputable section

namespace Cert.MixOut

open Cert.Common Idealize.ShloMosaic Idealize.ShloMosaic.TcCoe Idealize.ShloMosaic.ValueIdx
open Idealize.SL.Sem
open scoped BigOperators

/-- The pooling branch, projected. -/
def yp (pm : Mat 2048 512) (w : Mat 512 1024) : Mat 2048 1024 := fun i => ∑ k : Fin 512, pm (ix2 (i 0) k) * w (ix2 k (i 1))

/-- The recurrence branch, projected. -/
def yl (hl : Mat 2048 1280) (w : Mat 1280 1024) : Mat 2048 1024 := fun i => ∑ k : Fin 1280, hl (ix2 (i 0) k) * w (ix2 k (i 1))

/-- The two branches, each times the logistic function of its gate's columns, added. -/
def z (pm : Mat 2048 512) (hl : Mat 2048 1280) (p : Mat 2048 5120) (wp : Mat 512 1024) (wl : Mat 1280 1024) : Mat 2048 1024 := fun i =>
  sg (p (ix2 (i 0) ⟨3 * 1024 + (i 1).val, by have h : (i 1).val < 1024 := (i 1).isLt; omega⟩)) * yp pm wp i
    + sg (p (ix2 (i 0) ⟨4 * 1024 + (i 1).val, by have h : (i 1).val < 1024 := (i 1).isLt; omega⟩)) * yl hl wl i

/-- The input plus the gated sum, projected. -/
def out (pm : Mat 2048 512) (hl : Mat 2048 1280) (p : Mat 2048 5120) (x : Mat 2048 1024) (wp : Mat 512 1024) (wl : Mat 1280 1024) (wo : Mat 1024 1024) :
    Mat 2048 1024 := fun i => x i + ∑ k : Fin 1024, z pm hl p wp wl (ix2 (i 0) k) * wo (ix2 k (i 1))

section
open Cert.MixOutIdeal Cert.MixOutIdeal.Gen

variable (m : (ℓ : Loc nD τ sig) → Buf (Elt Ideal) ℓ) (ρ : Dev nD → PrngReg)

/-- The merged value and the layer's output, of the arguments. -/
abbrev Z (c : Dev nD) : Mat 2048 1024 := z (m (c.tc.loc main_arg0)) (m (c.tc.loc main_arg1)) (m (c.tc.loc main_arg2)) (m (c.tc.loc main_arg4)) (m (c.tc.loc main_arg5))
abbrev O (c : Dev nD) : Mat 2048 1024 := out (m (c.tc.loc main_arg0)) (m (c.tc.loc main_arg1)) (m (c.tc.loc main_arg2)) (m (c.tc.loc main_arg3)) (m (c.tc.loc main_arg4)) (m (c.tc.loc main_arg5)) (m (c.tc.loc main_arg6))

/-- The number of grid points. -/
theorem lt_N (t : Fin cfg0.N) : t.val < 4 := t.isLt.trans_le (by decide)

theorem V_main_v0 (c : Dev nD) (e : Fin 1) (a : Fin 512) (b : Fin 1024) :
    V m c main_v0 (ix3 e a b) = m (c.tc.loc main_arg4) (ix2 a b) := by
  have h : V m c main_v0 = broadcastInDim S1x512x1024 ![1, 2] bcast_S512x1024_S1x512x1024_1_2 (m (c.tc.loc main_arg4)) := by
    show StableHlo.after hostOps0 _ (Proc.devRef .tc main_v0) = _
    after_results
  rw [h]; exact bcast_add (by decide) (by decide) _ _ e a b

theorem V_main_v1 (c : Dev nD) (e : Fin 1) (a : Fin 1280) (b : Fin 1024) :
    V m c main_v1 (ix3 e a b) = m (c.tc.loc main_arg5) (ix2 a b) := by
  have h : V m c main_v1 = broadcastInDim S1x1280x1024 ![1, 2] bcast_S1280x1024_S1x1280x1024_1_2 (m (c.tc.loc main_arg5)) := by
    show StableHlo.after hostOps0 _ (Proc.devRef .tc main_v1) = _
    after_results
  rw [h]; exact bcast_add (by decide) (by decide) _ _ e a b

theorem V_main_v2 (c : Dev nD) (e : Fin 1) (a : Fin 1024) (b : Fin 1024) :
    V m c main_v2 (ix3 e a b) = m (c.tc.loc main_arg6) (ix2 a b) := by
  have h : V m c main_v2 = broadcastInDim S1x1024x1024 ![1, 2] bcast_S1024x1024_S1x1024x1024_1_2 (m (c.tc.loc main_arg6)) := by
    show StableHlo.after hostOps0 _ (Proc.devRef .tc main_v2) = _
    after_results
  rw [h]; exact bcast_add (by decide) (by decide) _ _ e a b

/-- Where each window's block lies at grid point `t`. -/
theorem idx : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 3)
    ∧ (win0_3.index t 0 = t.val ∧ win0_3.index t 1 = 4)
    ∧ (win0_4.index t 0 = t.val ∧ win0_4.index t 1 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0) :=
  (by decide +kernel : ∀ t : Fin grid0.N, _)

/-- An index of window 0's block as an index of its array. -/
theorem emb0 (t : Fin cfg0.N) (a : Fin 512) (b : Fin 512) :
    ((cfg0.win 0).blk t).view.emb (ix2 a b) = ix2 ⟨t.val * 512 + a.val, by have := lt_N t; omega⟩ b := by
  obtain ⟨h0, h1⟩ := (idx t).1
  funext x; apply Fin.ext
  match x with
  | ⟨0, _⟩ => show win0_0.index t 0 * 512 + 1 * a.val = t.val * 512 + a.val; omega
  | ⟨1, _⟩ => show win0_0.index t 1 * 512 + 1 * b.val = b.val; omega

/-- An index of window 1's block as an index of its array. -/
theorem emb1 (t : Fin cfg0.N) (a : Fin 512) (b : Fin 1280) :
    ((cfg0.win 1).blk t).view.emb (ix2 a b) = ix2 ⟨t.val * 512 + a.val, by have := lt_N t; omega⟩ b := by
  obtain ⟨h0, h1⟩ := (idx t).2.1
  funext x; apply Fin.ext
  match x with
  | ⟨0, _⟩ => show win0_1.index t 0 * 512 + 1 * a.val = t.val * 512 + a.val; omega
  | ⟨1, _⟩ => show win0_1.index t 1 * 1280 + 1 * b.val = b.val; omega

/-- An index of window 2's block as an index of its array. -/
theorem emb2 (t : Fin cfg0.N) (a : Fin 512) (b : Fin 1024) :
    ((cfg0.win 2).blk t).view.emb (ix2 a b) = ix2 ⟨t.val * 512 + a.val, by have := lt_N t; omega⟩ ⟨3072 + b.val, by have := lt_N t; omega⟩ := by
  obtain ⟨h0, h1⟩ := (idx t).2.2.1
  funext x; apply Fin.ext
  match x with
  | ⟨0, _⟩ => show win0_2.index t 0 * 512 + 1 * a.val = t.val * 512 + a.val; omega
  | ⟨1, _⟩ => show win0_2.index t 1 * 1024 + 1 * b.val = 3072 + b.val; omega

/-- An index of window 3's block as an index of its array. -/
theorem emb3 (t : Fin cfg0.N) (a : Fin 512) (b : Fin 1024) :
    ((cfg0.win 3).blk t).view.emb (ix2 a b) = ix2 ⟨t.val * 512 + a.val, by have := lt_N t; omega⟩ ⟨4096 + b.val, by have := lt_N t; omega⟩ := by
  obtain ⟨h0, h1⟩ := (idx t).2.2.2.1
  funext x; apply Fin.ext
  match x with
  | ⟨0, _⟩ => show win0_3.index t 0 * 512 + 1 * a.val = t.val * 512 + a.val; omega
  | ⟨1, _⟩ => show win0_3.index t 1 * 1024 + 1 * b.val = 4096 + b.val; omega

/-- An index of window 4's block as an index of its array. -/
theorem emb4 (t : Fin cfg0.N) (a : Fin 512) (b : Fin 1024) :
    ((cfg0.win 4).blk t).view.emb (ix2 a b) = ix2 ⟨t.val * 512 + a.val, by have := lt_N t; omega⟩ b := by
  obtain ⟨h0, h1⟩ := (idx t).2.2.2.2.1
  funext x; apply Fin.ext
  match x with
  | ⟨0, _⟩ => show win0_4.index t 0 * 512 + 1 * a.val = t.val * 512 + a.val; omega
  | ⟨1, _⟩ => show win0_4.index t 1 * 1024 + 1 * b.val = b.val; omega

/-- An index of window 5's block as an index of its array. -/
theorem emb5 (t : Fin cfg0.N) (e : Fin 1) (a : Fin 512) (b : Fin 1024) :
    ((cfg0.win 5).blk t).view.emb (ix3 e a b) = ix3 e a b := by
  obtain ⟨h0, h1, h2⟩ := (idx t).2.2.2.2.2.1
  funext x; apply Fin.ext
  match x with
  | ⟨0, _⟩ => show win0_5.index t 0 * 1 + 1 * e.val = e.val; omega
  | ⟨1, _⟩ => show win0_5.index t 1 * 512 + 1 * a.val = a.val; omega
  | ⟨2, _⟩ => show win0_5.index t 2 * 1024 + 1 * b.val = b.val; omega

/-- An index of window 6's block as an index of its array. -/
theorem emb6 (t : Fin cfg0.N) (e : Fin 1) (a : Fin 1280) (b : Fin 1024) :
    ((cfg0.win 6).blk t).view.emb (ix3 e a b) = ix3 e a b := by
  obtain ⟨h0, h1, h2⟩ := (idx t).2.2.2.2.2.2.1
  funext x; apply Fin.ext
  match x with
  | ⟨0, _⟩ => show win0_6.index t 0 * 1 + 1 * e.val = e.val; omega
  | ⟨1, _⟩ => show win0_6.index t 1 * 1280 + 1 * a.val = a.val; omega
  | ⟨2, _⟩ => show win0_6.index t 2 * 1024 + 1 * b.val = b.val; omega

/-- An index of window 7's block as an index of its array. -/
theorem emb7 (t : Fin cfg0.N) (e : Fin 1) (a : Fin 1024) (b : Fin 1024) :
    ((cfg0.win 7).blk t).view.emb (ix3 e a b) = ix3 e a b := by
  obtain ⟨h0, h1, h2⟩ := (idx t).2.2.2.2.2.2.2.1
  funext x; apply Fin.ext
  match x with
  | ⟨0, _⟩ => show win0_7.index t 0 * 1 + 1 * e.val = e.val; omega
  | ⟨1, _⟩ => show win0_7.index t 1 * 1024 + 1 * a.val = a.val; omega
  | ⟨2, _⟩ => show win0_7.index t 2 * 1024 + 1 * b.val = b.val; omega

/-- An index of window 8's block as an index of its array. -/
theorem emb8 (t : Fin cfg0.N) (a : Fin 512) (b : Fin 1024) :
    ((cfg0.win 8).blk t).view.emb (ix2 a b) = ix2 ⟨t.val * 512 + a.val, by have := lt_N t; omega⟩ b := by
  obtain ⟨h0, h1⟩ := (idx t).2.2.2.2.2.2.2.2.1
  funext x; apply Fin.ext
  match x with
  | ⟨0, _⟩ => show win0_8.index t 0 * 512 + 1 * a.val = t.val * 512 + a.val; omega
  | ⟨1, _⟩ => show win0_8.index t 1 * 1024 + 1 * b.val = b.val; omega

/-- An index of window 9's block as an index of its array. -/
theorem emb9 (t : Fin cfg0.N) (a : Fin 512) (b : Fin 1024) :
    ((cfg0.win 9).blk t).view.emb (ix2 a b) = ix2 ⟨t.val * 512 + a.val, by have := lt_N t; omega⟩ b := by
  obtain ⟨h0, h1⟩ := (idx t).2.2.2.2.2.2.2.2.2.1
  funext x; apply Fin.ext
  match x with
  | ⟨0, _⟩ => show win0_9.index t 0 * 512 + 1 * a.val = t.val * 512 + a.val; omega
  | ⟨1, _⟩ => show win0_9.index t 1 * 1024 + 1 * b.val = b.val; omega

/-- An index of window 10's block as an index of its array. -/
theorem emb10 (t : Fin cfg0.N) (a : Fin 512) (b : Fin 1024) :
    ((cfg0.win 10).blk t).view.emb (ix2 a b) = ix2 ⟨t.val * 512 + a.val, by have := lt_N t; omega⟩ b := by
  obtain ⟨h0, h1⟩ := (idx t).2.2.2.2.2.2.2.2.2.2.1
  funext x; apply Fin.ext
  match x with
  | ⟨0, _⟩ => show win0_10.index t 0 * 512 + 1 * a.val = t.val * 512 + a.val; omega
  | ⟨1, _⟩ => show win0_10.index t 1 * 1024 + 1 * b.val = b.val; omega

/-- An index of window 11's block as an index of its array. -/
theorem emb11 (t : Fin cfg0.N) (a : Fin 512) (b : Fin 1024) :
    ((cfg0.win 11).blk t).view.emb (ix2 a b) = ix2 ⟨t.val * 512 + a.val, by have := lt_N t; omega⟩ b := by
  obtain ⟨h0, h1⟩ := (idx t).2.2.2.2.2.2.2.2.2.2.2
  funext x; apply Fin.ext
  match x with
  | ⟨0, _⟩ => show win0_11.index t 0 * 512 + 1 * a.val = t.val * 512 + a.val; omega
  | ⟨1, _⟩ => show win0_11.index t 1 * 1024 + 1 * b.val = b.val; omega

/-- Window 0's block at an entry. -/
theorem iblk0 (c : Dev nD) (t : Fin cfg0.N) (a : Fin 512) (b : Fin 512) :
    iblk m c 0 t (ix2 a b) = (m (c.tc.loc main_arg0)) (ix2 ⟨t.val * 512 + a.val, by have := lt_N t; omega⟩ b) := by
  show V m c main_arg0 (((cfg0.win 0).blk t).view.emb (ix2 a b)) = _
  rw [emb0, V_main_arg0]

/-- Window 1's block at an entry. -/
theorem iblk1 (c : Dev nD) (t : Fin cfg0.N) (a : Fin 512) (b : Fin 1280) :
    iblk m c 1 t (ix2 a b) = (m (c.tc.loc main_arg1)) (ix2 ⟨t.val * 512 + a.val, by have := lt_N t; omega⟩ b) := by
  show V m c main_arg1 (((cfg0.win 1).blk t).view.emb (ix2 a b)) = _
  rw [emb1, V_main_arg1]

/-- Window 2's block at an entry. -/
theorem iblk2 (c : Dev nD) (t : Fin cfg0.N) (a : Fin 512) (b : Fin 1024) :
    iblk m c 2 t (ix2 a b) = (m (c.tc.loc main_arg2)) (ix2 ⟨t.val * 512 + a.val, by have := lt_N t; omega⟩ ⟨3 * 1024 + b.val, by omega⟩) := by
  show V m c main_arg2 (((cfg0.win 2).blk t).view.emb (ix2 a b)) = _
  rw [emb2, V_main_arg2]

/-- Window 3's block at an entry. -/
theorem iblk3 (c : Dev nD) (t : Fin cfg0.N) (a : Fin 512) (b : Fin 1024) :
    iblk m c 3 t (ix2 a b) = (m (c.tc.loc main_arg2)) (ix2 ⟨t.val * 512 + a.val, by have := lt_N t; omega⟩ ⟨4 * 1024 + b.val, by omega⟩) := by
  show V m c main_arg2 (((cfg0.win 3).blk t).view.emb (ix2 a b)) = _
  rw [emb3, V_main_arg2]

/-- Window 4's block at an entry. -/
theorem iblk4 (c : Dev nD) (t : Fin cfg0.N) (a : Fin 512) (b : Fin 1024) :
    iblk m c 4 t (ix2 a b) = (m (c.tc.loc main_arg3)) (ix2 ⟨t.val * 512 + a.val, by have := lt_N t; omega⟩ b) := by
  show V m c main_arg3 (((cfg0.win 4).blk t).view.emb (ix2 a b)) = _
  rw [emb4, V_main_arg3]

/-- Window 5's block at an entry. -/
theorem iblk5 (c : Dev nD) (t : Fin cfg0.N) (e : Fin 1) (a : Fin 512) (b : Fin 1024) :
    iblk m c 5 t (ix3 e a b) = (m (c.tc.loc main_arg4)) (ix2 a b) := by
  show V m c main_v0 (((cfg0.win 5).blk t).view.emb (ix3 e a b)) = _
  rw [emb5, V_main_v0]

/-- Window 6's block at an entry. -/
theorem iblk6 (c : Dev nD) (t : Fin cfg0.N) (e : Fin 1) (a : Fin 1280) (b : Fin 1024) :
    iblk m c 6 t (ix3 e a b) = (m (c.tc.loc main_arg5)) (ix2 a b) := by
  show V m c main_v1 (((cfg0.win 6).blk t).view.emb (ix3 e a b)) = _
  rw [emb6, V_main_v1]

/-- Window 7's block at an entry. -/
theorem iblk7 (c : Dev nD) (t : Fin cfg0.N) (e : Fin 1) (a : Fin 1024) (b : Fin 1024) :
    iblk m c 7 t (ix3 e a b) = (m (c.tc.loc main_arg6)) (ix2 a b) := by
  show V m c main_v2 (((cfg0.win 7).blk t).view.emb (ix3 e a b)) = _
  rw [emb7, V_main_v2]

/-- A block of the pooling branch's projection. -/
theorem yp_blk (c : Dev nD) (t : Fin cfg0.N) (a : Fin 512) (b : Fin 1024) :
    k0_pay2 (F := Ideal) (iblk m c 0 t) (iblk m c 5 t) (ix2 a b) = (yp (m (c.tc.loc main_arg0)) (m (c.tc.loc main_arg4))) (ix2 ⟨t.val * 512 + a.val, by have := lt_N t; omega⟩ b) := by
  unfold k0_pay2
  refine (matmul_nn _ rfl none _ _ a b).trans (Finset.sum_congr rfl fun k _ => ?_)
  exact congrArg₂ (· * ·) (iblk0 m c t a k) ((cast_drop _ _ k b).trans (iblk5 m c t 0 k b))

/-- A block of the recurrence branch's projection. -/
theorem yl_blk (c : Dev nD) (t : Fin cfg0.N) (a : Fin 512) (b : Fin 1024) :
    k0_pay3 (F := Ideal) (iblk m c 1 t) (iblk m c 6 t) (ix2 a b) = (yl (m (c.tc.loc main_arg1)) (m (c.tc.loc main_arg5))) (ix2 ⟨t.val * 512 + a.val, by have := lt_N t; omega⟩ b) := by
  unfold k0_pay3
  refine (matmul_nn _ rfl none _ _ a b).trans (Finset.sum_congr rfl fun k _ => ?_)
  exact congrArg₂ (· * ·) (iblk1 m c t a k) ((cast_drop _ _ k b).trans (iblk6 m c t 0 k b))

/-- A block of the gated sum. -/
theorem z_blk (c : Dev nD) (t : Fin cfg0.N) (a : Fin 512) (b : Fin 1024) :
    k0_pay4 (F := Ideal) (iblk m c 0 t) (iblk m c 5 t) (iblk m c 1 t) (iblk m c 6 t) (iblk m c 2 t) (iblk m c 3 t) (ix2 a b) = (Z m c) (ix2 ⟨t.val * 512 + a.val, by have := lt_N t; omega⟩ b) := by
  unfold k0_pay4 Z z
  refine congrArg₂ (· + ·) (congrArg₂ (· * ·) ((sg_eq_tanh (iblk m c 2 t (ix2 a b))).trans (congrArg sg (iblk2 m c t a b))) (yp_blk m c t a b))
    (congrArg₂ (· * ·) ((sg_eq_tanh (iblk m c 3 t (ix2 a b))).trans (congrArg sg (iblk3 m c t a b))) (yl_blk m c t a b))

/-- A block of the result. -/
theorem out_blk (c : Dev nD) (t : Fin cfg0.N) (a : Fin 512) (b : Fin 1024) :
    k0_pay1 (F := Ideal) (k0_pay4 (F := Ideal) (iblk m c 0 t) (iblk m c 5 t) (iblk m c 1 t) (iblk m c 6 t) (iblk m c 2 t) (iblk m c 3 t)) (iblk m c 4 t) (iblk m c 7 t) (ix2 a b)
      = (O m c) (ix2 ⟨t.val * 512 + a.val, by have := lt_N t; omega⟩ b) := by
  unfold k0_pay1 O out
  refine congrArg₂ (· + ·) (iblk4 m c t a b) ((matmul_nn _ rfl none _ _ a b).trans (Finset.sum_congr rfl fun k _ => ?_))
  exact congrArg₂ (· * ·) (z_blk m c t a k) ((cast_drop _ _ k b).trans (iblk7 m c t 0 k b))

/-- What grid point `t` writes back to window 8 is its block of that result. -/
theorem wrote8 (c : Dev nD) (t : Fin cfg0.N) :
    (dats m 0 c).flushed 8 t = ((cfg0.win 8).blk t).view.read (Elt Ideal) (O m c) := by
  rw [Value.flushed8]
  refine ext2 fun a b => ?_
  show out0_8 (iblk m c 0 t) (iblk m c 1 t) (iblk m c 2 t) (iblk m c 3 t) (iblk m c 4 t) (iblk m c 5 t) (iblk m c 6 t) (iblk m c 7 t) (ix2 a b) = (O m c) (((cfg0.win 8).blk t).view.emb (ix2 a b))
  have h : out0_8 (iblk m c 0 t) (iblk m c 1 t) (iblk m c 2 t) (iblk m c 3 t) (iblk m c 4 t) (iblk m c 5 t) (iblk m c 6 t) (iblk m c 7 t) = k0_pay1 (F := Ideal) (k0_pay4 (F := Ideal) (iblk m c 0 t) (iblk m c 5 t) (iblk m c 1 t) (iblk m c 6 t) (iblk m c 2 t) (iblk m c 3 t)) (iblk m c 4 t) (iblk m c 7 t) := by
    unfold_out out0_8
    rw [View.canon_unit_zero zz]
    simp only [ld2, ld3]
  rw [h, emb8]
  exact out_blk m c t a b

/-- Every entry of window 8's array is in some grid point's block. -/
theorem covered8 (i : S2048x1024.Idx) : ∃ t : Fin cfg0.N, (cfg0.win 8).flush t = true ∧ i ∈ ((cfg0.win 8).blk t).view.set := by
  have h0 : (i 0).val < 2048 := (i 0).isLt
  let t : Fin cfg0.N := ⟨(i 0).val / 512, (show (i 0).val / 512 < 4 by omega).trans_le (by decide)⟩
  refine ⟨t, flush0_8 t, ?_⟩
  have h := ((cfg0.win 8).blk t).view.emb_mem_set (ix2 (⟨(i 0).val % 512, by omega⟩ : Fin 512) (i 1))
  refine Eq.mp (congrArg (fun q => q ∈ ((cfg0.win 8).blk t).view.set) ((emb8 t _ _).trans ?_)) h
  funext x; apply Fin.ext
  match x with
  | ⟨0, _⟩ => show (i 0).val / 512 * 512 + (i 0).val % 512 = (i 0).val; omega
  | ⟨1, _⟩ => rfl

theorem final8 (c : Dev nD) : (dats m 0 c).arrAt 8 cfg0.N = (O m c) :=
  (dats m 0 c).arrAt_eq_of_cover 8 (O m c) (fun t _ => wrote8 m c t) covered8

/-- What grid point `t` writes back to window 9 is its block of that result. -/
theorem wrote9 (c : Dev nD) (t : Fin cfg0.N) :
    (dats m 0 c).flushed 9 t = ((cfg0.win 9).blk t).view.read (Elt Ideal) (yp (m (c.tc.loc main_arg0)) (m (c.tc.loc main_arg4))) := by
  rw [Value.flushed9]
  refine ext2 fun a b => ?_
  show out0_9 (iblk m c 0 t) (iblk m c 1 t) (iblk m c 2 t) (iblk m c 3 t) (iblk m c 4 t) (iblk m c 5 t) (iblk m c 6 t) (iblk m c 7 t) (ix2 a b) = (yp (m (c.tc.loc main_arg0)) (m (c.tc.loc main_arg4))) (((cfg0.win 9).blk t).view.emb (ix2 a b))
  have h : out0_9 (iblk m c 0 t) (iblk m c 1 t) (iblk m c 2 t) (iblk m c 3 t) (iblk m c 4 t) (iblk m c 5 t) (iblk m c 6 t) (iblk m c 7 t) = k0_pay5 (F := Ideal) (iblk m c 0 t) (iblk m c 5 t) := by
    unfold_out out0_9
    rw [View.canon_unit_zero zz]
    simp only [ld2, ld3]
  rw [h, emb9]
  exact yp_blk m c t a b

/-- Every entry of window 9's array is in some grid point's block. -/
theorem covered9 (i : S2048x1024.Idx) : ∃ t : Fin cfg0.N, (cfg0.win 9).flush t = true ∧ i ∈ ((cfg0.win 9).blk t).view.set := by
  have h0 : (i 0).val < 2048 := (i 0).isLt
  let t : Fin cfg0.N := ⟨(i 0).val / 512, (show (i 0).val / 512 < 4 by omega).trans_le (by decide)⟩
  refine ⟨t, flush0_9 t, ?_⟩
  have h := ((cfg0.win 9).blk t).view.emb_mem_set (ix2 (⟨(i 0).val % 512, by omega⟩ : Fin 512) (i 1))
  refine Eq.mp (congrArg (fun q => q ∈ ((cfg0.win 9).blk t).view.set) ((emb9 t _ _).trans ?_)) h
  funext x; apply Fin.ext
  match x with
  | ⟨0, _⟩ => show (i 0).val / 512 * 512 + (i 0).val % 512 = (i 0).val; omega
  | ⟨1, _⟩ => rfl

theorem final9 (c : Dev nD) : (dats m 0 c).arrAt 9 cfg0.N = (yp (m (c.tc.loc main_arg0)) (m (c.tc.loc main_arg4))) :=
  (dats m 0 c).arrAt_eq_of_cover 9 (yp (m (c.tc.loc main_arg0)) (m (c.tc.loc main_arg4))) (fun t _ => wrote9 m c t) covered9

/-- What grid point `t` writes back to window 10 is its block of that result. -/
theorem wrote10 (c : Dev nD) (t : Fin cfg0.N) :
    (dats m 0 c).flushed 10 t = ((cfg0.win 10).blk t).view.read (Elt Ideal) (yl (m (c.tc.loc main_arg1)) (m (c.tc.loc main_arg5))) := by
  rw [Value.flushed10]
  refine ext2 fun a b => ?_
  show out0_10 (iblk m c 0 t) (iblk m c 1 t) (iblk m c 2 t) (iblk m c 3 t) (iblk m c 4 t) (iblk m c 5 t) (iblk m c 6 t) (iblk m c 7 t) (ix2 a b) = (yl (m (c.tc.loc main_arg1)) (m (c.tc.loc main_arg5))) (((cfg0.win 10).blk t).view.emb (ix2 a b))
  have h : out0_10 (iblk m c 0 t) (iblk m c 1 t) (iblk m c 2 t) (iblk m c 3 t) (iblk m c 4 t) (iblk m c 5 t) (iblk m c 6 t) (iblk m c 7 t) = k0_pay6 (F := Ideal) (iblk m c 1 t) (iblk m c 6 t) := by
    unfold_out out0_10
    rw [View.canon_unit_zero zz]
    simp only [ld2, ld3]
  rw [h, emb10]
  exact yl_blk m c t a b

/-- Every entry of window 10's array is in some grid point's block. -/
theorem covered10 (i : S2048x1024.Idx) : ∃ t : Fin cfg0.N, (cfg0.win 10).flush t = true ∧ i ∈ ((cfg0.win 10).blk t).view.set := by
  have h0 : (i 0).val < 2048 := (i 0).isLt
  let t : Fin cfg0.N := ⟨(i 0).val / 512, (show (i 0).val / 512 < 4 by omega).trans_le (by decide)⟩
  refine ⟨t, flush0_10 t, ?_⟩
  have h := ((cfg0.win 10).blk t).view.emb_mem_set (ix2 (⟨(i 0).val % 512, by omega⟩ : Fin 512) (i 1))
  refine Eq.mp (congrArg (fun q => q ∈ ((cfg0.win 10).blk t).view.set) ((emb10 t _ _).trans ?_)) h
  funext x; apply Fin.ext
  match x with
  | ⟨0, _⟩ => show (i 0).val / 512 * 512 + (i 0).val % 512 = (i 0).val; omega
  | ⟨1, _⟩ => rfl

theorem final10 (c : Dev nD) : (dats m 0 c).arrAt 10 cfg0.N = (yl (m (c.tc.loc main_arg1)) (m (c.tc.loc main_arg5))) :=
  (dats m 0 c).arrAt_eq_of_cover 10 (yl (m (c.tc.loc main_arg1)) (m (c.tc.loc main_arg5))) (fun t _ => wrote10 m c t) covered10

/-- What grid point `t` writes back to window 11 is its block of that result. -/
theorem wrote11 (c : Dev nD) (t : Fin cfg0.N) :
    (dats m 0 c).flushed 11 t = ((cfg0.win 11).blk t).view.read (Elt Ideal) (Z m c) := by
  rw [Value.flushed11]
  refine ext2 fun a b => ?_
  show out0_11 (iblk m c 0 t) (iblk m c 1 t) (iblk m c 2 t) (iblk m c 3 t) (iblk m c 4 t) (iblk m c 5 t) (iblk m c 6 t) (iblk m c 7 t) (ix2 a b) = (Z m c) (((cfg0.win 11).blk t).view.emb (ix2 a b))
  have h : out0_11 (iblk m c 0 t) (iblk m c 1 t) (iblk m c 2 t) (iblk m c 3 t) (iblk m c 4 t) (iblk m c 5 t) (iblk m c 6 t) (iblk m c 7 t) = (k0_pay4 (F := Ideal) (iblk m c 0 t) (iblk m c 5 t) (iblk m c 1 t) (iblk m c 6 t) (iblk m c 2 t) (iblk m c 3 t)) := by
    unfold_out out0_11
    rw [View.canon_unit_zero zz]
    simp only [ld2, ld3]
  rw [h, emb11]
  exact z_blk m c t a b

/-- Every entry of window 11's array is in some grid point's block. -/
theorem covered11 (i : S2048x1024.Idx) : ∃ t : Fin cfg0.N, (cfg0.win 11).flush t = true ∧ i ∈ ((cfg0.win 11).blk t).view.set := by
  have h0 : (i 0).val < 2048 := (i 0).isLt
  let t : Fin cfg0.N := ⟨(i 0).val / 512, (show (i 0).val / 512 < 4 by omega).trans_le (by decide)⟩
  refine ⟨t, flush0_11 t, ?_⟩
  have h := ((cfg0.win 11).blk t).view.emb_mem_set (ix2 (⟨(i 0).val % 512, by omega⟩ : Fin 512) (i 1))
  refine Eq.mp (congrArg (fun q => q ∈ ((cfg0.win 11).blk t).view.set) ((emb11 t _ _).trans ?_)) h
  funext x; apply Fin.ext
  match x with
  | ⟨0, _⟩ => show (i 0).val / 512 * 512 + (i 0).val % 512 = (i 0).val; omega
  | ⟨1, _⟩ => rfl

theorem final11 (c : Dev nD) : (dats m 0 c).arrAt 11 cfg0.N = (Z m c) :=
  (dats m 0 c).arrAt_eq_of_cover 11 (Z m c) (fun t _ => wrote11 m c t) covered11

/-- The call leaves the input plus the projected gated sum, the two projected branches and the gated sum in its results, exactly,
    and its arguments unchanged. -/
theorem run : θ_run defs (onTc (τ := τ) (main (F := Ideal))) ⟨m, fun _ => 0, ρ⟩ fun r => ∀ c : Dev nD,
      r.2.mem (c.tc.loc main_v3_0) = (out (m (c.tc.loc main_arg0)) (m (c.tc.loc main_arg1)) (m (c.tc.loc main_arg2)) (m (c.tc.loc main_arg3)) (m (c.tc.loc main_arg4)) (m (c.tc.loc main_arg5)) (m (c.tc.loc main_arg6)))
      ∧ r.2.mem (c.tc.loc main_v3_1) = (yp (m (c.tc.loc main_arg0)) (m (c.tc.loc main_arg4)))
      ∧ r.2.mem (c.tc.loc main_v3_2) = (yl (m (c.tc.loc main_arg1)) (m (c.tc.loc main_arg5)))
      ∧ r.2.mem (c.tc.loc main_v3_3) = (z (m (c.tc.loc main_arg0)) (m (c.tc.loc main_arg1)) (m (c.tc.loc main_arg2)) (m (c.tc.loc main_arg4)) (m (c.tc.loc main_arg5)))
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6 :=
  (θ_run defs _ _).mono (fun r h c => ⟨(h c).1.trans (final8 m c), (h c).2.1.trans (final9 m c), (h c).2.2.1.trans (final10 m c), (h c).2.2.2.1.trans (final11 m c), (h c).2.2.2.2⟩)
    (Value.run_blocks m ρ)

end

namespace Ref

open Cert.MixOutReferenceIdeal Cert.MixOutReferenceIdeal.Gen Cert.MixOutReferenceIdeal.Read

/-- The reference's projected branches. -/
theorem yp_eq (x0 : Mat 2048 512) (x4 : Mat 512 1024) : val_main_v2 (F := Ideal) x0 x4 = yp x0 x4 := ext2 fun a b => by
  unfold val_main_v2
  exact dot_nn (φ₁ := .f32) (φ₂ := .f32) _ rfl none (val_main_v0 (F := Ideal) x0) (val_main_v1 (F := Ideal) x4) a b

theorem yl_eq (x1 : Mat 2048 1280) (x5 : Mat 1280 1024) : val_main_v5 (F := Ideal) x1 x5 = yl x1 x5 := ext2 fun a b => by
  unfold val_main_v5
  exact dot_nn (φ₁ := .f32) (φ₂ := .f32) _ rfl none (val_main_v3 (F := Ideal) x1) (val_main_v4 (F := Ideal) x5) a b

/-- The reference's gates. -/
theorem gate_eq (x2 : Mat 2048 5120) (a : Fin 2048) (j : Fin 2048) : val_main_v13 (F := Ideal) x2 (ix2 a j) = sg (x2 (ix2 a ⟨3072 + j.val, by omega⟩)) := by
  rw [val_main_v13_apply, val_main_v12_apply, val_main_v11_apply, val_main_v10_apply, val_main_v9_apply, val_main_v8_apply, val_main_v7_apply,
    val_main_v6_apply, val_main_cst_apply, val_main_cst_0_apply]
  show Ideal.div (Ideal.ofBits .f32 0x3F800000#32) (Ideal.ofBits .f32 0x3F800000#32 + Ideal.exp (-(x2 _))) = _
  rw [one_word]
  refine congrArg (fun q => sg (x2 q)) ?_
  funext x; apply Fin.ext
  match x with
  | ⟨0, _⟩ => rfl
  | ⟨1, _⟩ => rfl

/-- The reference's gated sum. -/
theorem z_eq (x0 : Mat 2048 512) (x1 : Mat 2048 1280) (x2 : Mat 2048 5120) (x4 : Mat 512 1024) (x5 : Mat 1280 1024) :
    val_main_v18 (F := Ideal) x0 x1 x2 x4 x5 = z x0 x1 x2 x4 x5 := ext2 fun a b => by
  rw [val_main_v18_apply, val_main_v16_apply, val_main_v17_apply, val_main_v14_apply, val_main_v15_apply, yp_eq, yl_eq]
  refine congrArg₂ (· + ·) (congrArg₂ (· * ·) ?_ rfl) (congrArg₂ (· * ·) ?_ rfl)
  · have e : idx_main_v14 (ix2 a b) = ix2 a (⟨b.val, by omega⟩ : Fin 2048) := by
      funext x; match x with
      | ⟨0, _⟩ => rfl
      | ⟨1, _⟩ => rfl
    rw [e, gate_eq]
  · have e : idx_main_v15 (ix2 a b) = ix2 a (⟨1024 + b.val, by omega⟩ : Fin 2048) := by
      funext x; match x with
      | ⟨0, _⟩ => rfl
      | ⟨1, _⟩ => rfl
    rw [e, gate_eq]
    refine congrArg (fun q => sg (x2 (ix2 a q))) (Fin.ext ?_)
    show 3072 + (1024 + b.val) = 4 * 1024 + b.val
    omega

/-- The reference's result. -/
theorem out_eq (x0 : Mat 2048 512) (x1 : Mat 2048 1280) (x2 : Mat 2048 5120) (x3 : Mat 2048 1024) (x4 : Mat 512 1024) (x5 : Mat 1280 1024) (x6 : Mat 1024 1024) :
    val_main_v21 (F := Ideal) x0 x1 x2 x3 x4 x5 x6 = out x0 x1 x2 x3 x4 x5 x6 := ext2 fun a b => by
  rw [val_main_v21_apply]
  refine congrArg₂ (· + ·) rfl ?_
  unfold val_main_v20
  refine (dot_nn (φ₁ := .f32) (φ₂ := .f32) _ rfl none (val_main_v18 (F := Ideal) x0 x1 x2 x4 x5) (val_main_v19 (F := Ideal) x6) a b).trans ?_
  rw [z_eq]
  rfl

variable (m : (ℓ : Loc nD τ sig) → Buf (Elt Ideal) ℓ) (ρ : Dev nD → PrngReg)

/-- The reference leaves the same four arrays and its arguments unchanged. -/
theorem run : θ_run defs (onTc (τ := τ) (main (F := Ideal))) ⟨m, fun _ => 0, ρ⟩ fun r => ∀ c : Dev nD,
      r.2.mem (c.tc.loc main_v21) = (out (m (c.tc.loc main_arg0)) (m (c.tc.loc main_arg1)) (m (c.tc.loc main_arg2)) (m (c.tc.loc main_arg3)) (m (c.tc.loc main_arg4)) (m (c.tc.loc main_arg5)) (m (c.tc.loc main_arg6)))
      ∧ r.2.mem (c.tc.loc main_v22) = (yp (m (c.tc.loc main_arg0)) (m (c.tc.loc main_arg4)))
      ∧ r.2.mem (c.tc.loc main_v23) = (yl (m (c.tc.loc main_arg1)) (m (c.tc.loc main_arg5)))
      ∧ r.2.mem (c.tc.loc main_v24) = (z (m (c.tc.loc main_arg0)) (m (c.tc.loc main_arg1)) (m (c.tc.loc main_arg2)) (m (c.tc.loc main_arg4)) (m (c.tc.loc main_arg5)))
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6 :=
  (θ_run defs _ _).mono (fun _ h c => ⟨(h c).1.trans ((val_main_v21_eq _ _ _ _ _ _ _).trans (out_eq _ _ _ _ _ _ _)),
    (h c).2.1.trans ((val_main_v22_eq _ _).trans (yp_eq _ _)), (h c).2.2.1.trans ((val_main_v23_eq _ _).trans (yl_eq _ _)),
    (h c).2.2.2.1.trans ((val_main_v24_eq _ _ _ _ _).trans (z_eq _ _ _ _ _)), (h c).2.2.2.2⟩) (Value.run m ρ)

end Ref

end Cert.MixOut

end
-- ==== Proof.FfnDownBwdRun.lean ====
/- One step of the kernel of the down-projection's backward pass, on any buffers: the step that halves its rows of the
   cotangent and stores them, and the step that finds them stored. -/
module

public import proofs.«01_k».proof.Proof.Rows
public import proofs.«01_k».proof.Proof.Gen.FfnDownBwdIdeal.Skeleton
public import proofs.«01_k».proof.Proof.Gen.FfnDownBwdIdeal.Frame

@[expose] public section

set_option maxRecDepth 16384

noncomputable section

namespace Cert.FfnDownBwd.Frame

open Cert.Common
open Cert.FfnDownBwdIdeal Cert.FfnDownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first layer of a block of two, -/
abbrev lay0 : Rect S2x1x1024x704 := Rect.unit ![0, 0, 0, 0] S1x1x1024x704.size inb_S2x1x1024x704_S1x1x1024x704_0_0_0_0
/-- and the second. -/
abbrev lay1 : Rect S2x1x1024x704 := Rect.unit ![1, 0, 0, 0] S1x1x1024x704.size inb_S2x1x1024x704_S1x1x1024x704_1_0_0_0

/-- The two stores that fill a block of two layers. -/
abbrev two (a b : Vec F S1x1x1024x704 .bf16) : List (View.Piece (Elt F) S2x1x1024x704 .bf16) :=
  [⟨Rect.unit ![1, 0, 0, 0] S1x1x1024x704.size inb_S2x1x1024x704_S1x1x1024x704_1_0_0_0, b⟩,
    ⟨Rect.unit ![0, 0, 0, 0] S1x1x1024x704.size inb_S2x1x1024x704_S1x1x1024x704_0_0_0_0, a⟩]

/-- Two matrices as the two layers of a block. -/
def layers (a b : Vec F S1x1x1024x704 .bf16) : Vec F S2x1x1024x704 .bf16 := View.canon (two a b)

/-- Writing both layers leaves them, whatever the block held. -/
theorem read_layers (v : View sig .tc .vmem S2x1x1024x704 .bf16) (f : v.ty.Contents (Elt F)) (a b : Vec F S1x1x1024x704 .bf16) :
    v.read (Elt F) (v.writes (Elt F) f (two a b)) = layers a b :=
  View.read_writes_eq_canon v f (two a b) fun y => View.cover_of_tiledL (two a b) S1x1x1024x704.size (by sl_kernel_rfl) y

/-- The rows of the scratch that a step works on. -/
abbrev rws (i : grid0.Coords) : Rect S2048x1024 := Rect.unit (s := S2048x1024) (k0_off2 i) S1024x1024.size (k0_off2_inb i)

variable (c : Dev nD) (i : grid0.Coords) (arg2 : Memref sig .tc .vmem S1024x1024 .f32) (harg2 : arg2.IsWhole) (arg3 : Memref sig .tc .vmem S1x704x1024 .bf16) (harg3 : arg3.IsWhole) (arg4 : Memref sig .tc .vmem S2x1x1024x704 .bf16) (harg4 : arg4.IsWhole) (arg5 : Memref sig .tc .vmem S1024x1024 .bf16) (harg5 : arg5.IsWhole) (arg6 : Memref sig .tc .vmem S2x1x1024x704 .bf16) (harg6 : arg6.IsWhole) (arg7 : Memref sig .tc .vmem S2048x1024 .bf16) (harg7 : arg7.IsWhole)

set_option maxHeartbeats 1000000 in
/-- A step that halves its rows: it stores them in the scratch and in the first result, and multiplies them. -/
theorem runA (hc : k0_cond1 i = 1#1) (x0 : Vec F S1024x1024 .f32) (x1 : Vec F S1x704x1024 .bf16) (x2 : Vec F S2x1x1024x704 .bf16) (X : Vec F S2048x1024 .bf16) (E : Set ℕ) (K : PUnit → sProp 𝕄) :
    iprop(owns c.tc arg2 fullShare x0 ∗ owns c.tc arg3 fullShare x1 ∗ owns c.tc arg4 fullShare x2
        ∗ (∃ d, owns c.tc arg5 fullShare d) ∗ (∃ d, owns c.tc arg6 fullShare d) ∗ owns c.tc arg7 fullShare X
        ∗ (iprop(owns c.tc arg2 fullShare x0 ∗ owns c.tc arg3 fullShare x1 ∗ owns c.tc arg4 fullShare x2
        ∗ owns c.tc arg5 fullShare (k0_pay3 x0) ∗ owns c.tc arg6 fullShare (layers (k0_pay1 (k0_pay8 (k0_pay4 x0) x1 (View.ld x2 lay0) (View.ld x2 lay1))) (k0_pay2 (k0_pay5 (k0_pay4 x0) x1) (k0_pay6 (View.ld x2 lay0)) (k0_pay7 (View.ld x2 lay0))))
        ∗ (∃ X', ⌜Stored X' X (rws i) (k0_pay4 x0)⌝ ∗ owns c.tc arg7 fullShare X')) -∗ K ⟨⟩))
      ⊢ wp frame (wpE (defs₀ (F := F)) Variants.none c none) E (cc0_ffn_down_bwd i arg2 harg2 arg3 harg3 arg4 harg4 arg5 harg5 arg6 harg6 arg7 harg7) K := by
  simp only [cc0_ffn_down_bwd_eq_skeleton]; unfold cc0_ffn_down_bwd_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc)
  sl_step
  iapply Hk
  isplitl [H0]; · iexists _; iframe H0 %hf0
  isplitl [H1]; · iexists _; iframe H1 %hf1
  isplitl [H2]; · iexists _; iframe H2 %hf2
  have hl0 : View.readAt (Elt F) arg4.view (lay0).toLoadRect (harg4.unread x2) = View.ld x2 lay0 := by
    rw [View.readAt_eq_ld, hf2]
  have hl1 : View.readAt (Elt F) arg4.view (lay1).toLoadRect (harg4.unread x2) = View.ld x2 lay1 := by
    rw [View.readAt_eq_ld, hf2]
  unfold runA.sl.v6 runA.sl.H5_1
  have hv : ∀ p : Vec F S1024x1024 .bf16, arg7.view.readCov [(⟨Rect.unit (s := S2048x1024) (k0_off1 i) S1024x1024.size (k0_off1_inb i hc), p⟩ : View.Piece (Elt F) S2048x1024 .bf16)] (rws i).toLoadRect = p :=
    fun p => readCov_rows arg7.view (rfl : k0_off1 i = k0_off2 i) _ _ _ p []
  simp only [hv, readAt_whole harg2 _ zz, readAt_whole harg3 _ zzz, hl0, hl1]
  isplitl [H3]; · iexists _; iframe H3; ipureintro; exact read_store _ _ zz _ _
  isplitl [H4]; · iexists _; iframe H4; ipureintro; exact read_layers _ _ _ _
  iexists _; isplitr
  swap
  · iexists _; isplitr; swap; · iexact H5
    ipureintro; rfl
  ipureintro
  have h := stored_read (Val := Elt F) arg7.view (harg7.unread X) (rws i) (k0_pay4 x0)
  rw [hf5] at h
  exact h

set_option maxHeartbeats 1000000 in
/-- A step that finds its rows halved, `h`, in the scratch: it multiplies them and leaves the first result's buffer. -/
theorem runB (hc : ¬ k0_cond1 i = 1#1) (x0 : Vec F S1024x1024 .f32) (x1 : Vec F S1x704x1024 .bf16) (x2 : Vec F S2x1x1024x704 .bf16) (y : Vec F S1024x1024 .bf16) (X : Vec F S2048x1024 .bf16) (h : Vec F S1024x1024 .bf16)
    (hX : View.ld X (rws i) = h) (E : Set ℕ) (K : PUnit → sProp 𝕄) :
    iprop(owns c.tc arg2 fullShare x0 ∗ owns c.tc arg3 fullShare x1 ∗ owns c.tc arg4 fullShare x2
        ∗ owns c.tc arg5 fullShare y ∗ (∃ d, owns c.tc arg6 fullShare d) ∗ owns c.tc arg7 fullShare X
        ∗ (iprop(owns c.tc arg2 fullShare x0 ∗ owns c.tc arg3 fullShare x1 ∗ owns c.tc arg4 fullShare x2
        ∗ owns c.tc arg5 fullShare y ∗ owns c.tc arg6 fullShare (layers (k0_pay1 (k0_pay8 h x1 (View.ld x2 lay0) (View.ld x2 lay1))) (k0_pay2 (k0_pay5 h x1) (k0_pay6 (View.ld x2 lay0)) (k0_pay7 (View.ld x2 lay0))))
        ∗ owns c.tc arg7 fullShare X) -∗ K ⟨⟩))
      ⊢ wp frame (wpE (defs₀ (F := F)) Variants.none c none) E (cc0_ffn_down_bwd i arg2 harg2 arg3 harg3 arg4 harg4 arg5 harg5 arg6 harg6 arg7 harg7) K := by
  simp only [cc0_ffn_down_bwd_eq_skeleton]; unfold cc0_ffn_down_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg7.eq_unread hf5
  sl_exec (disch := first | sl_exact hc)
  sl_step
  iapply Hk
  have hh : View.readAt (Elt F) arg7.view (rws i).toLoadRect (harg7.unread X) = h := by
    rw [View.readAt_eq_ld, hf5, hX]
  isplitl [H0]; · iexists _; iframe H0 %hf0
  isplitl [H1]; · iexists _; iframe H1 %hf1
  isplitl [H2]; · iexists _; iframe H2 %hf2
  have hl0 : View.readAt (Elt F) arg4.view (lay0).toLoadRect (harg4.unread x2) = View.ld x2 lay0 := by
    rw [View.readAt_eq_ld, hf2]
  have hl1 : View.readAt (Elt F) arg4.view (lay1).toLoadRect (harg4.unread x2) = View.ld x2 lay1 := by
    rw [View.readAt_eq_ld, hf2]
  rw [hh]
  simp only [readAt_whole harg2 _ zz, readAt_whole harg3 _ zzz, hl0, hl1]
  isplitl [H3]; · iexists _; iframe H3 %hf3
  isplitl [H4]; · iexists _; iframe H4; ipureintro; exact read_layers _ _ _ _
  iexists _; isplitr; swap; · iexact H5
  ipureintro; exact hf5

end Cert.FfnDownBwd.Frame

end
-- ==== Proof.FfnDownBwdFrame.lean ====
/- The kernel of the down-projection's backward pass run on its grid: four column blocks, two row blocks. The first column
   block's steps halve the rows of the cotangent and keep them in the scratch, which the later steps find as they were left. -/
module

public import proofs.«01_k».proof.Proof.FfnDownBwdRun

@[expose] public section

set_option maxRecDepth 16384

noncomputable section

namespace Cert.FfnDownBwd.Frame

open Cert.Common
open Cert.FfnDownBwdIdeal Cert.FfnDownBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 8 := Nat.lt_of_lt_of_eq t.isLt N_0

/-- The first step on the rows of step `t`. -/
def fst (t : Fin cfg0.N) : Fin cfg0.N := ⟨t.val % 2, lt_of_le_of_lt (Nat.mod_le _ _) t.isLt⟩

/-- The last step up to `t` that fills rows. -/
def cap (t : Fin cfg0.N) : Fin cfg0.N := ⟨min t.val 1, lt_of_le_of_lt (min_le_left _ _) t.isLt⟩

/-- The halved rows of step `t`. -/
def hb (c : Dev nD) (t : Fin cfg0.N) : Vec F S1024x1024 .bf16 := k0_pay4 (iblk m c 0 (fst t))

/-- After `k` steps the scratch holds the rows filled so far. -/
def Filled (c : Dev nD) (k : ℕ) (X : Vec F S2048x1024 .bf16) : Prop :=
  ∀ s : Fin cfg0.N, s.val < 2 → s.val < k → View.ld X (rws (grid0.coords s)) = hb m c s

/-- The scratch. -/
abbrev scr : Memref sig .tc .vmem S2048x1024 .bf16 := Memref.whole cc0_scratch0

/-- What holds between the steps. -/
def Inv (c : Dev nD) (k : ℕ) : sProp 𝕄 :=
  iprop((∃ X, ⌜Filled m c k X⌝ ∗ owns c.tc scr fullShare X) ∗ (∃ r, prngReg c r))

/-- What the run starts from and ends with: the scratch at some contents. -/
theorem scoped_eq (c : Dev nD) :
    (Pipeline.ΦA spec0 c : sProp 𝕄) = iprop(iprop((∃ d, owns c.tc scr fullShare d)) ∗ (∃ r, prngReg c r)) := by
  unfold Pipeline.ΦA; rw [scopedRest0_eq]; simp only [scr, owns_whole]; try rfl

/-- The arrays as the region finds them, and what each buffer holds after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (k0_pay3 (iblk m c 0 (cap t)))
    | ⟨4, _⟩ => (layers (k0_pay1 (k0_pay8 (hb m c t) (iblk m c 1 t) (View.ld (iblk m c 2 t) lay0) (View.ld (iblk m c 2 t) lay1))) (k0_pay2 (k0_pay5 (hb m c t) (iblk m c 1 t)) (k0_pay6 (View.ld (iblk m c 2 t) lay0)) (k0_pay7 (View.ld (iblk m c 2 t) lay0))))
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (k0_pay3 (iblk m c 0 (cap t))) := by dsimp only [dats]
theorem after0_4 (c : Dev nD) (t : Fin cfg0.N) : (dats m 0 c).after 4 t = (layers (k0_pay1 (k0_pay8 (hb m c t) (iblk m c 1 t) (View.ld (iblk m c 2 t) lay0) (View.ld (iblk m c 2 t) lay1))) (k0_pay2 (k0_pay5 (hb m c t) (iblk m c 1 t)) (k0_pay6 (View.ld (iblk m c 2 t) lay0)) (k0_pay7 (View.ld (iblk m c 2 t) lay0)))) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The first steps fill rows, the others do not. -/
theorem cond_iff : ∀ t : Fin cfg0.N, k0_cond1 (grid0.coords t) = 1#1 ↔ t.val < 2 :=
  (by decide +kernel : ∀ t : Fin grid0.N, _)

/-- The rows of a step start at its row block. -/
theorem start : ∀ t : Fin cfg0.N, k0_off2 (grid0.coords t) 0 = 1024 * (t.val % 2) :=
  (by decide +kernel : ∀ t : Fin grid0.N, _)

theorem rws_fst : ∀ t : Fin cfg0.N, k0_off2 (grid0.coords t) = k0_off2 (grid0.coords (fst t)) :=
  (by decide +kernel : ∀ t : Fin grid0.N, _)

theorem idle_live : ∀ t : Fin cfg0.N, t.val < 2 → cfg0.idle 3 (grid0.coords t) = false :=
  (by decide +kernel : ∀ t : Fin grid0.N, _)
theorem idle_idle : ∀ t : Fin cfg0.N, ¬ t.val < 2 → cfg0.idle 3 (grid0.coords t) = true :=
  (by decide +kernel : ∀ t : Fin grid0.N, _)
theorem flush3 : ∀ t : Fin cfg0.N, (cfg0.win 3).flush t = true ↔ t.val = 0 ∨ t.val = 7 :=
  (by decide +kernel : ∀ t : Fin grid0.N, _)

/-- A step that fills rows adds its own to the scratch. -/
theorem filled_step (c : Dev nD) (t : Fin cfg0.N) (ht : t.val < 2) (X X' : Vec F S2048x1024 .bf16) (h : Filled m c t.val X)
    (hs : Stored X' X (rws (grid0.coords t)) (hb m c t)) : Filled m c (t.val + 1) X' := by
  intro s h2 hk
  rcases Nat.lt_or_eq_of_le (Nat.le_of_lt_succ hk) with hlt | heq
  · rw [← h s h2 hlt]
    refine hs.ld_other (rws (grid0.coords s)) fun j => ?_
    refine rows_apart (M := 2048) (N := 1024) (m := 1024) (n := 1024) _ _ (k0_off2_inb (grid0.coords t)) (k0_off2_inb (grid0.coords s)) ?_ j
    rw [start, start]; omega
  · obtain rfl : s = t := Fin.ext heq
    exact hs.ld

/-- A step after them keeps the scratch. -/
theorem filled_keep (c : Dev nD) (t : Fin cfg0.N) (ht : ¬ t.val < 2) (X : Vec F S2048x1024 .bf16) (h : Filled m c t.val X) : Filled m c (t.val + 1) X :=
  fun s h2 _ => h s h2 (by omega)

/-- and finds its rows there. -/
theorem filled_ld (c : Dev nD) (t : Fin cfg0.N) (ht : ¬ t.val < 2) (X : Vec F S2048x1024 .bf16) (h : Filled m c t.val X) :
    View.ld X (rws (grid0.coords t)) = hb m c t := by
  have hf : (fst t).val = t.val % 2 := rfl
  have e := h (fst t) (by omega) (by omega)
  have e' : hb m c (fst t) = hb m c t := by
    unfold hb; rw [show fst (fst t) = fst t from Fin.ext (Nat.mod_mod _ _)]
  rw [← e', ← e]
  have hr : ∀ (o o' : Fin 2 → ℕ) (p : ∀ a, o a + S1024x1024.size a ≤ S2048x1024.size a) (p' : ∀ a, o' a + S1024x1024.size a ≤ S2048x1024.size a), o = o' →
      View.ld X (Rect.unit (s := S2048x1024) o S1024x1024.size p) = View.ld X (Rect.unit (s := S2048x1024) o' S1024x1024.size p') := by
    intro o o' p p' ho; subst ho; rfl
  exact hr _ _ _ _ (rws_fst t)

/-- The first result's buffer at a step that leaves it: the last rows filled. -/
theorem before3 (c : Dev nD) : ∀ (k : ℕ) (t : Fin cfg0.N), t.val = k + 2 → ∀ d, (dats m 0 c).before 3 t d = (dats m 0 c).after 3 t := by
  have haft : ∀ t t' : Fin cfg0.N, 1 ≤ t.val → 1 ≤ t'.val → (dats m 0 c).after 3 t = (dats m 0 c).after 3 t' := fun t t' h h' => by
    rw [after0_3, after0_3, show cap t = cap t' from Fin.ext (by show min _ _ = min _ _; omega)]
  intro k
  induction k with
  | zero =>
    intro t ht d
    have h8 := lt_N t
    rw [Dat.before_of_pos _ 3 t (by omega) rfl, if_neg (by rw [flush3]; show ¬ (t.val - 1 = 0 ∨ t.val - 1 = 7); omega)]
    unfold Dat.left
    rw [idle_live _ (show t.val - 1 < 2 by omega)]
    exact haft ⟨t.val - 1, _⟩ t (show 1 ≤ t.val - 1 by omega) (by omega)
  | succ k ih =>
    intro t ht d
    have h8 := lt_N t
    rw [Dat.before_of_pos _ 3 t (by omega) rfl, if_neg (by rw [flush3]; show ¬ (t.val - 1 = 0 ∨ t.val - 1 = 7); omega)]
    unfold Dat.left
    rw [idle_idle _ (show ¬ t.val - 1 < 2 by omega)]
    exact (ih ⟨t.val - 1, _⟩ (show t.val - 1 = k + 2 by omega) d).trans (haft ⟨t.val - 1, _⟩ t (show 1 ≤ t.val - 1 by omega) (by omega))

/-- What that buffer holds after such a step. -/
theorem leaves3 (c : Dev nD) (t : Fin cfg0.N) (ht : ¬ t.val < 2) (d) :
    owns c.tc (win0_3.stage (cfg0.slots t 3)) fullShare ((dats m 0 c).before 3 t d) ⊢ ((dats m 0 c).leavesExact 3 t : sProp 𝕄) := by
  by_cases hf : (cfg0.win 3).flush t = true
  · unfold Dat.leavesExact
    rw [idle_idle t ht, hf, before3 m c (t.val - 2) t (by omega) d]
  · rw [Dat.leavesExact_idle _ 3 t (idle_idle t ht) (by simpa using hf)]
    iintro H; iexists d; iexact H

/-- What the body is called with, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns c.tc (win0_0.stage (cfg0.slots t 0)) fullShare ((dats m 0 c).after 0 t) from rfl, after0_0]
  rw [show (dats m 0 c).leavesExact 1 t = owns c.tc (win0_1.stage (cfg0.slots t 1)) fullShare ((dats m 0 c).after 1 t) from rfl, after0_1]
  rw [show (dats m 0 c).leavesExact 2 t = owns c.tc (win0_2.stage (cfg0.slots t 2)) fullShare ((dats m 0 c).after 2 t) from rfl, after0_2]
  rw [show (dats m 0 c).leavesExact 4 t = owns c.tc (win0_4.stage (cfg0.slots t 4)) fullShare ((dats m 0 c).after 4 t) from rfl, after0_4]
  unfold Inv
  by_cases ht : t.val < 2
  · rw [show (dats m 0 c).leavesExact 3 t = owns c.tc (win0_3.stage (cfg0.slots t 3)) fullShare ((dats m 0 c).after 3 t) from by
      unfold Dat.leavesExact; rw [idle_live t ht], after0_3,
      show cap t = t from Fin.ext (by show min _ _ = _; omega)]
    iintro ⟨⟨⟨%X, %hX, HS⟩, Hg⟩, Ho, ⟨%d0, H0⟩, ⟨%d1, H1⟩, ⟨%d2, H2⟩, ⟨%d3, H3⟩, ⟨%d4, H4⟩⟩
    iapply (runA c (grid0.coords t) _ _ _ _ _ _ _ _ _ _ _ (Memref.isWhole_whole _) ((cond_iff t).2 ht) (iblk m c 0 t) (iblk m c 1 t) (iblk m c 2 t) X Set.univ _)
    iframe H0 H1 H2
    isplitl [H3]; · iexists _; iexact H3
    isplitl [H4]; · iexists _; iexact H4
    isplitl [HS]; · iexact HS
    have hh : k0_pay4 (iblk m c 0 t) = hb m c t := by
      unfold hb; rw [show fst t = t from Fin.ext (Nat.mod_eq_of_lt ht)]
    rw [hh]
    iintro ⟨H0, H1, H2, H3, H4, ⟨%X', %hX', HS⟩⟩
    isplitl [HS Hg]
    · isplitl [HS]
      · iexists X'; isplitr; swap; · iexact HS
        ipureintro; exact filled_step m c t ht X X' hX hX'
      iexact Hg
    iframe Ho H0 H1 H2 H3
    iexact H4
  · iintro ⟨⟨⟨%X, %hX, HS⟩, Hg⟩, Ho, ⟨%d0, H0⟩, ⟨%d1, H1⟩, ⟨%d2, H2⟩, ⟨%d3, H3⟩, ⟨%d4, H4⟩⟩
    iapply (runB c (grid0.coords t) _ _ _ _ _ _ _ _ _ _ _ (Memref.isWhole_whole _) (fun h => ht ((cond_iff t).1 h)) (iblk m c 0 t) (iblk m c 1 t) (iblk m c 2 t) _ X (hb m c t) (filled_ld m c t ht X hX) Set.univ _)
    iframe H0 H1 H2 H3
    isplitl [H4]; · iexists _; iexact H4
    isplitl [HS]; · iexact HS
    iintro ⟨H0, H1, H2, H3, H4, HS⟩
    isplitl [HS Hg]
    · isplitl [HS]
      · iexists X; isplitr; swap; · iexact HS
        ipureintro; exact filled_keep m c t ht X hX
      iexact Hg
    iframe Ho H0 H1 H2
    isplitl [H3]; · iapply (leaves3 m c t ht d3); iexact H3
    iexact H4

theorem defs₀_row (t : Fin cfg0.N) :
    defs₀ (F := F) .tc cfg0.body (cfg0.bodyArgs t (cfg0.slots t)) = bodyAt0 t := by
  unfold defs₀; rw [Defs.onTc_tc]

/-- The body meets what the pipeline asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem start_inv (c : Dev nD) : (Pipeline.ΦA spec0 c : sProp 𝕄) ⊢ (dats m 0 c).Φ 0 := by
  rw [scoped_eq, show (dats m 0 c).Φ 0 = Inv m c 0 from rfl]
  unfold Inv
  iintro ⟨⟨%d, H⟩, Hg⟩
  isplitl [H]
  · iexists d; isplitr; swap; · iexact H
    ipureintro; exact fun s _ h => absurd h (Nat.not_lt_zero _)
  iexact Hg

theorem end_inv (c : Dev nD) : (dats m 0 c).Φ (Fin.last cfg0.N) ⊢ (Pipeline.ΦA spec0 c : sProp 𝕄) := by
  rw [scoped_eq, show (dats m 0 c).Φ (Fin.last cfg0.N) = Inv m c cfg0.N from rfl]
  unfold Inv
  iintro ⟨⟨%X, -, H⟩, Hg⟩
  isplitl [H]
  · iexists X; iexact H
  iexact Hg

set_option backward.isDefEq.respectTransparency.types false in
/-- Every run ends with every array at what its buffers were written back as, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := start_inv m) (hout := end_inv m)

theorem run_main : θ_run defs (onTc (τ := τ) (main (F := F))) (s₀ m ρ) (Pipeline.FramePost cfgs (dats m) 0 (V m)) :=
  (θ_run defs _ _).mono (fun _ h => h.1) (run_main_quiescent m ρ)

end Cert.FfnDownBwd.Frame

end
-- ==== Proof.Finite.lean ====
/- Finite entries: what the statements' preconditions say of the argument arrays, and that sums and products of finite numbers are finite. -/
module

public import proofs.«01_k».proof.Proof.Common
public import proofs.«01_k».proof.Proof.Gen.Pre_finite_down
public import Idealize.ShloMosaic.Lib.ReduceAll

@[expose] public section

set_option maxRecDepth 16384

noncomputable section

namespace Cert.Common

open Idealize.ShloMosaic Idealize.ShloMosaic.ValueIdx
open scoped BigOperators

/-- An extended real that is a real number. -/
def IsReal (x : EReal) : Prop := ∃ r : ℝ, x = (r : EReal)

/-- The word of positive infinity. -/
theorem top_word : Ideal.ofBits .f32 0x7F800000#32 = ⊤ := by
  simp [Ideal.ofBits, Ideal.ieee]

/-- The word of negative infinity. -/
theorem bot_word : Ideal.ofBits .f32 0xFF800000#32 = ⊥ := by
  simp [Ideal.ofBits, Ideal.ieee]

/-- What lies strictly between the infinities is a real number. -/
theorem real_of_lt {x : EReal} (h1 : ⊥ < x) (h2 : x < ⊤) : IsReal x := by
  induction x using EReal.rec with
  | bot => exact absurd h1 (lt_irrefl _)
  | top => exact absurd h2 (lt_irrefl _)
  | coe r => exact ⟨r, rfl⟩

/-- The shape of one number. -/
abbrev One : Shape := ⟨0, ![]⟩

/-- An array whose every entry compares as strictly between the infinities has real entries. -/
theorem real_of_all {s : Shape} {axes : List (Fin s.rank)} (x : FVec Ideal s .f32)
    (h1 h2 : One.BroadcastsInDim s (![] : Fin 0 → Fin s.rank)) (init : One.Idx → BitVec 1) (h : s.ReducesTo axes One) (hu : 0 < One.numel) (j : One.Idx)
    (e : Host.reduce IntOp.andi (andi (cmpf .ogt x (broadcastInDim s ![] h1 (constant (F := Ideal) One .f32 0xFF800000#32)))
      (cmpf .olt x (broadcastInDim s ![] h2 (constant (F := Ideal) One .f32 0x7F800000#32)))) init h hu j = 1#1) (i : s.Idx) : IsReal (x i) := by
  haveI : Subsingleton One.Idx := ⟨fun a b => funext fun k => k.elim0⟩
  obtain ⟨a, b⟩ := IntOp.andi_eq_one.1 (Host.reduce_andi_all _ init h hu j e i)
  have a' : BitVec.ofBool (decide (Ideal.ofBits .f32 0xFF800000#32 < x i)) = 1#1 := a
  have b' : BitVec.ofBool (decide (x i < Ideal.ofBits .f32 0x7F800000#32)) = 1#1 := b
  rw [bot_word] at a'
  rw [top_word] at b'
  have t : ∀ p : Bool, BitVec.ofBool p = 1#1 → p = true := by decide
  exact real_of_lt (of_decide_eq_true (t _ a')) (of_decide_eq_true (t _ b'))

/-- Sums, products and finite sums of real numbers are real numbers. -/
theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sum {ι : Type} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

/-- The logistic function of a real number is a real number. -/
theorem sg_coe (r : ℝ) : sg (r : EReal) = ((1 / (1 + Real.exp (-r)) : ℝ) : EReal) := by
  unfold sg Ideal.div
  have h : (1 : EReal) + Ideal.exp (-(r : EReal)) = ((1 + Real.exp (-r) : ℝ) : EReal) := rfl
  have hp : 0 < 1 + Real.exp (-r) := by positivity
  rw [h, if_neg (by exact_mod_cast hp.ne'), one_mul, ← EReal.coe_inv, one_div]

theorem IsReal.sg {x : EReal} : IsReal x → IsReal (sg x)
  | ⟨a, ha⟩ => ⟨_, by rw [ha]; exact sg_coe a⟩

/-- What `finite_down` says: every entry of the three arrays is a real number. -/
theorem real_down [Cert.Pre_finite_down.Facts] (x : Mat 2048 1024) (w : Mat 2816 1024) (u : Mat 2048 5632)
    (h : Cert.Pre_finite_down.fn (F := Ideal) x w u = fun _ => 1#1) : (∀ i, IsReal (x i)) ∧ (∀ i, IsReal (w i)) ∧ ∀ i, IsReal (u i) := by
  have h0 := congrFun h (fun a => a.elim0)
  unfold Cert.Pre_finite_down.fn Cert.Pre_finite_down.fn_part1 at h0
  obtain ⟨h1, h2⟩ := IntOp.andi_eq_one.1 h0
  obtain ⟨h3, h4⟩ := IntOp.andi_eq_one.1 h1
  exact ⟨fun i => real_of_all x _ _ _ _ _ _ h3 i, fun i => real_of_all (extf .f32 w _) _ _ _ _ _ _ h4 i, fun i => real_of_all (extf .f32 u _) _ _ _ _ _ _ h2 i⟩

end Cert.Common

end
-- ==== Proof.FfnDownBwdClaim.lean ====
/- The backward pass of the feed-forward down-projection: the halved cotangent, multiplied by the weights' transpose, and taken through the gate.
   What the call's run leaves in its two result arrays, as functions of the argument arrays, and the same from the reference when the arguments are finite. -/
module

public import proofs.«01_k».proof.Proof.FfnDownBwdFrame
public import proofs.«01_k».proof.Proof.Norm
public import proofs.«01_k».proof.Proof.Finite
public import proofs.«01_k».proof.Proof.Gen.FfnDownBwdReferenceIdeal.Run
public import proofs.«01_k».proof.Proof.Gen.FfnDownBwdReferenceIdeal.Read

@[expose] public section

set_option maxRecDepth 16384

noncomputable section

namespace Cert.FfnDownBwd

open Cert.Common Idealize.ShloMosaic Idealize.ShloMosaic.TcCoe Idealize.ShloMosaic.ValueIdx
open Idealize.SL.Sem
open scoped BigOperators

/-- Half the cotangent at an entry. -/
def hf (x : Mat 2048 1024) (a : Fin 2048) (k : Fin 1024) : EReal := Ideal.ofBits .f32 0x3F000000#32 * x (ix2 a k)

/-- The gated value's cotangent at row `a` and column `j`: half the output's cotangent times the weights' transpose. -/
def ds (x : Mat 2048 1024) (w : Mat 2816 1024) (a : Fin 2048) (j : Fin 2816) : EReal := ∑ k : Fin 1024, hf x a k * w (ix2 j k)

/-- The first half's cotangent, from the gated value's `d` and the two halves' entries `p` and `q`. -/
def gfst (d p q : EReal) : EReal := d * q * (sg p * (1 + p * (1 - sg p)))

/-- The second half's cotangent. -/
def gsnd (d p : EReal) : EReal := d * (p * sg p)

/-- A half's cotangent at row `a` and column `j`. -/
def half (x : Mat 2048 1024) (w : Mat 2816 1024) (u : Mat 2048 5632) (l : Fin 2) (a : Fin 2048) (j : Fin 2816) : EReal :=
  if l = 0 then gfst (ds x w a j) (u (ix2 a ⟨j.val, by omega⟩)) (u (ix2 a ⟨2816 + j.val, by omega⟩))
  else gsnd (ds x w a j) (u (ix2 a ⟨j.val, by omega⟩))

/-- The first result: half the cotangent. -/
def res0 (x : Mat 2048 1024) : Mat 2048 1024 := fun i => hf x (i 0) (i 1)

/-- The second result: the two halves' cotangents, each cut into four column blocks. -/
def res1 (x : Mat 2048 1024) (w : Mat 2816 1024) (u : Mat 2048 5632) : Stk4 2 4 2048 704 := fun i =>
  half x w u (i 0) (i 2) ⟨(i 1).val * 704 + (i 3).val, by
    have h1 : (i 1).val < 4 := (i 1).isLt
    have h3 : (i 3).val < 704 := (i 3).isLt
    omega⟩

section
open Cert.FfnDownBwdIdeal Cert.FfnDownBwdIdeal.Gen Cert.FfnDownBwd.Frame

variable (m : (ℓ : Loc nD τ sig) → Buf (Elt Ideal) ℓ) (ρ : Dev nD → PrngReg)

/-- The weights as the region finds them. -/
theorem V_main_v0 (c : Dev nD) (e : Fin 1) (a : Fin 2816) (b : Fin 1024) :
    V m c main_v0 (ix3 e a b) = m (c.tc.loc main_arg1) (ix2 a b) := by
  have h : V m c main_v0 = broadcastInDim S1x2816x1024 ![1, 2] bcast_S2816x1024_S1x2816x1024_1_2 (m (c.tc.loc main_arg1)) := by
    show StableHlo.after hostOps0 _ (Proc.devRef .tc main_v0) = _
    after_results
  rw [h]; exact bcast_add (by decide) (by decide) _ _ e a b

/-- The up-projection as the region finds it: its two halves, each cut into four column blocks. -/
theorem V_main_v2 (c : Dev nD) (l : Fin 2) (e : Fin 4) (a : Fin 2048) (b : Fin 704) :
    V m c main_v2 (ix4 l e a b) = m (c.tc.loc main_arg2) (ix2 a ⟨(l.val * 4 + e.val) * 704 + b.val, by omega⟩) := by
  have h : V m c main_v2 = transpose S2x4x2048x704 [1, 2, 0, 3] (shapeCast S2048x2x4x704 (m (c.tc.loc main_arg2))
      shapeCasts_S2048x5632_S2048x2x4x704) transposes_S2048x2x4x704_S2x4x2048x704_1_2_0_3 := by
    show StableHlo.after hostOps0 _ (Proc.devRef .tc main_v2) = _
    after_results
    rfl
  rw [h]
  refine (transpose_apply [1, 2, 0, 3] _ transposes_S2048x2x4x704_S2x4x2048x704_1_2_0_3 _ (ix4 a l e b) (fun x => ?_)).trans ?_
  · match x with
    | ⟨0, _⟩ => rfl
    | ⟨1, _⟩ => rfl
    | ⟨2, _⟩ => rfl
    | ⟨3, _⟩ => rfl
  · refine shapeCast_apply _ shapeCasts_S2048x5632_S2048x2x4x704 (ix4 a l e b) (ix2 a (⟨(l.val * 4 + e.val) * 704 + b.val, by omega⟩ : Fin 5632)) ?_
    rw [Shape.rowMajor_val_two, Shape.rowMajor_val_four]
    show a.val * 5632 + ((l.val * 4 + e.val) * 704 + b.val) = ((a.val * 2 + l.val) * 4 + e.val) * 704 + b.val
    omega

/-- Where each window's block lies at grid point `t`. -/
theorem idx : ∀ t : Fin cfg0.N, (win0_0.index t 0 = min t.val 1 ∧ win0_0.index t 1 = 0)
    ∧ (win0_1.index t 0 = 0 ∧ win0_1.index t 1 = t.val / 2 ∧ win0_1.index t 2 = 0)
    ∧ (win0_2.index t 0 = 0 ∧ win0_2.index t 1 = t.val / 2 ∧ win0_2.index t 2 = t.val % 2 ∧ win0_2.index t 3 = 0)
    ∧ (win0_3.index t 0 = min t.val 1 ∧ win0_3.index t 1 = 0)
    ∧ (win0_4.index t 0 = 0 ∧ win0_4.index t 1 = t.val / 2 ∧ win0_4.index t 2 = t.val % 2 ∧ win0_4.index t 3 = 0) :=
  (by decide +kernel : ∀ t : Fin grid0.N, _)

/-- An index of window 0's block as an index of its array. -/
theorem emb0 (t : Fin cfg0.N) (a : Fin 1024) (b : Fin 1024) :
    ((cfg0.win 0).blk t).view.emb (ix2 a b) = ix2 ⟨(min t.val 1) * 1024 + a.val, by have := lt_N t; omega⟩ b := by
  obtain ⟨h0, h1⟩ := (idx t).1
  funext x; apply Fin.ext
  match x with
  | ⟨0, _⟩ => show win0_0.index t 0 * 1024 + 1 * a.val = (min t.val 1) * 1024 + a.val; omega
  | ⟨1, _⟩ => show win0_0.index t 1 * 1024 + 1 * b.val = b.val; omega

/-- An index of window 1's block as an index of its array. -/
theorem emb1 (t : Fin cfg0.N) (e : Fin 1) (a : Fin 704) (b : Fin 1024) :
    ((cfg0.win 1).blk t).view.emb (ix3 e a b) = ix3 e ⟨(t.val / 2) * 704 + a.val, by have := lt_N t; omega⟩ b := by
  obtain ⟨h0, h1, h2⟩ := (idx t).2.1
  funext x; apply Fin.ext
  match x with
  | ⟨0, _⟩ => show win0_1.index t 0 * 1 + 1 * e.val = e.val; omega
  | ⟨1, _⟩ => show win0_1.index t 1 * 704 + 1 * a.val = (t.val / 2) * 704 + a.val; omega
  | ⟨2, _⟩ => show win0_1.index t 2 * 1024 + 1 * b.val = b.val; omega

/-- An index of window 2's block as an index of its array. -/
theorem emb2 (t : Fin cfg0.N) (l : Fin 2) (e : Fin 1) (a : Fin 1024) (b : Fin 704) :
    ((cfg0.win 2).blk t).view.emb (ix4 l e a b) = ix4 l ⟨t.val / 2 + e.val, by have := lt_N t; omega⟩ ⟨(t.val % 2) * 1024 + a.val, by have := lt_N t; omega⟩ b := by
  obtain ⟨h0, h1, h2, h3⟩ := (idx t).2.2.1
  funext x; apply Fin.ext
  match x with
  | ⟨0, _⟩ => show win0_2.index t 0 * 2 + 1 * l.val = l.val; omega
  | ⟨1, _⟩ => show win0_2.index t 1 * 1 + 1 * e.val = t.val / 2 + e.val; omega
  | ⟨2, _⟩ => show win0_2.index t 2 * 1024 + 1 * a.val = (t.val % 2) * 1024 + a.val; omega
  | ⟨3, _⟩ => show win0_2.index t 3 * 704 + 1 * b.val = b.val; omega

/-- An index of window 3's block as an index of its array. -/
theorem emb3 (t : Fin cfg0.N) (a : Fin 1024) (b : Fin 1024) :
    ((cfg0.win 3).blk t).view.emb (ix2 a b) = ix2 ⟨(min t.val 1) * 1024 + a.val, by have := lt_N t; omega⟩ b := by
  obtain ⟨h0, h1⟩ := (idx t).2.2.2.1
  funext x; apply Fin.ext
  match x with
  | ⟨0, _⟩ => show win0_3.index t 0 * 1024 + 1 * a.val = (min t.val 1) * 1024 + a.val; omega
  | ⟨1, _⟩ => show win0_3.index t 1 * 1024 + 1 * b.val = b.val; omega

/-- An index of window 4's block as an index of its array. -/
theorem emb4 (t : Fin cfg0.N) (l : Fin 2) (e : Fin 1) (a : Fin 1024) (b : Fin 704) :
    ((cfg0.win 4).blk t).view.emb (ix4 l e a b) = ix4 l ⟨t.val / 2 + e.val, by have := lt_N t; omega⟩ ⟨(t.val % 2) * 1024 + a.val, by have := lt_N t; omega⟩ b := by
  obtain ⟨h0, h1, h2, h3⟩ := (idx t).2.2.2.2
  funext x; apply Fin.ext
  match x with
  | ⟨0, _⟩ => show win0_4.index t 0 * 2 + 1 * l.val = l.val; omega
  | ⟨1, _⟩ => show win0_4.index t 1 * 1 + 1 * e.val = t.val / 2 + e.val; omega
  | ⟨2, _⟩ => show win0_4.index t 2 * 1024 + 1 * a.val = (t.val % 2) * 1024 + a.val; omega
  | ⟨3, _⟩ => show win0_4.index t 3 * 704 + 1 * b.val = b.val; omega

/-- The cotangent's block at an entry. -/
theorem iblk0 (c : Dev nD) (t : Fin cfg0.N) (a : Fin 1024) (b : Fin 1024) :
    iblk m c 0 t (ix2 a b) = (m (c.tc.loc main_arg0)) (ix2 ⟨(min t.val 1) * 1024 + a.val, by have := lt_N t; omega⟩ b) := by
  show V m c main_arg0 (((cfg0.win 0).blk t).view.emb (ix2 a b)) = _
  rw [emb0, V_main_arg0]

/-- The weights' block at an entry. -/
theorem iblk1 (c : Dev nD) (t : Fin cfg0.N) (a : Fin 704) (b : Fin 1024) :
    iblk m c 1 t (ix3 0 a b) = (m (c.tc.loc main_arg1)) (ix2 ⟨t.val / 2 * 704 + a.val, by have := lt_N t; omega⟩ b) := by
  show V m c main_v0 (((cfg0.win 1).blk t).view.emb (ix3 0 a b)) = _
  rw [emb1, V_main_v0]

/-- The up-projection's block at an entry. -/
theorem iblk2 (c : Dev nD) (t : Fin cfg0.N) (l : Fin 2) (a : Fin 1024) (b : Fin 704) :
    iblk m c 2 t (ix4 l 0 a b) = (m (c.tc.loc main_arg2)) (ix2 ⟨t.val % 2 * 1024 + a.val, by omega⟩ ⟨(l.val * 4 + t.val / 2) * 704 + b.val, by have := lt_N t; omega⟩) := by
  show V m c main_v2 (((cfg0.win 2).blk t).view.emb (ix4 l 0 a b)) = _
  rw [emb2, V_main_v2]
  rfl

/-- The first half's block of the up-projection. -/
theorem ld0 (c : Dev nD) (t : Fin cfg0.N) (a : Fin 1024) (b : Fin 704) :
    View.ld (iblk m c 2 t) lay0 (ix4 0 0 a b)
      = (m (c.tc.loc main_arg2)) (ix2 ⟨t.val % 2 * 1024 + a.val, by omega⟩ ⟨t.val / 2 * 704 + b.val, by have := lt_N t; omega⟩) := by
  have e : lay0.emb (ix4 0 0 a b) = ix4 0 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  refine (congrArg (iblk m c 2 t) e).trans ((iblk2 m c t 0 a b).trans ?_)
  refine congrArg _ (congrArg₂ ix2 rfl (Fin.ext ?_))
  show (0 * 4 + t.val / 2) * 704 + b.val = t.val / 2 * 704 + b.val
  omega

/-- The second half's block of the up-projection. -/
theorem ld1 (c : Dev nD) (t : Fin cfg0.N) (a : Fin 1024) (b : Fin 704) :
    View.ld (iblk m c 2 t) lay1 (ix4 0 0 a b)
      = (m (c.tc.loc main_arg2)) (ix2 ⟨t.val % 2 * 1024 + a.val, by omega⟩ ⟨2816 + (t.val / 2 * 704 + b.val), by have := lt_N t; omega⟩) := by
  have e : lay1.emb (ix4 0 0 a b) = ix4 1 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  refine (congrArg (iblk m c 2 t) e).trans ((iblk2 m c t 1 a b).trans ?_)
  refine congrArg _ (congrArg₂ ix2 rfl (Fin.ext ?_))
  show (1 * 4 + t.val / 2) * 704 + b.val = 2816 + (t.val / 2 * 704 + b.val)
  omega

/-- Half a block of the cotangent. -/
theorem pay3 (c : Dev nD) (t : Fin cfg0.N) (a : Fin 1024) (b : Fin 1024) :
    k0_pay3 (F := Ideal) (iblk m c 0 t) (ix2 a b) = hf (m (c.tc.loc main_arg0)) ⟨(min t.val 1) * 1024 + a.val, by have := lt_N t; omega⟩ b := by
  exact congrArg (Ideal.ofBits .f32 0x3F000000#32 * ·) (iblk0 m c t a b)

/-- The halved rows a step multiplies. -/
theorem hb_eq (c : Dev nD) (t : Fin cfg0.N) (a : Fin 1024) (b : Fin 1024) :
    hb m c t (ix2 a b) = hf (m (c.tc.loc main_arg0)) ⟨t.val % 2 * 1024 + a.val, by omega⟩ b := by
  unfold hb k0_pay4
  rw [shapeCast_self, pay3]
  have h : min (fst t).val 1 = t.val % 2 := by
    show min (t.val % 2) 1 = t.val % 2
    omega
  congr 2
  rw [h]

/-- One block's product with the weights. -/
theorem pay5 (c : Dev nD) (t : Fin cfg0.N) (a : Fin 1024) (b : Fin 704) :
    k0_pay5 (F := Ideal) (hb m c t) (iblk m c 1 t) (ix2 a b)
      = ds (m (c.tc.loc main_arg0)) (m (c.tc.loc main_arg1)) ⟨t.val % 2 * 1024 + a.val, by omega⟩ ⟨t.val / 2 * 704 + b.val, by have := lt_N t; omega⟩ := by
  unfold k0_pay5
  refine (matmul_nt _ rfl none _ _ a b).trans (Finset.sum_congr rfl fun k _ => ?_)
  rw [hb_eq]
  refine congrArg _ ((cast_drop _ _ b k).trans (iblk1 m c t b k))

/-- The first half's entries, and their logistic function. -/
theorem pay6 (v : Vec Ideal S1x1x1024x704 .bf16) (a : Fin 1024) (b : Fin 704) : k0_pay6 (F := Ideal) v (ix2 a b) = v (ix4 0 0 a b) :=
  cast_drop2 v _ a b

theorem pay7 (v : Vec Ideal S1x1x1024x704 .bf16) (a : Fin 1024) (b : Fin 704) : k0_pay7 (F := Ideal) v (ix2 a b) = sg (v (ix4 0 0 a b)) := by
  rw [← pay6 v a b, ← sg_eq_tanh]
  rfl

/-- The first half's cotangent of a block. -/
theorem pay8 (c : Dev nD) (t : Fin cfg0.N) (a : Fin 1024) (b : Fin 704) :
    k0_pay8 (F := Ideal) (hb m c t) (iblk m c 1 t) (View.ld (iblk m c 2 t) lay0) (View.ld (iblk m c 2 t) lay1) (ix2 a b)
      = half (m (c.tc.loc main_arg0)) (m (c.tc.loc main_arg1)) (m (c.tc.loc main_arg2)) 0 ⟨t.val % 2 * 1024 + a.val, by omega⟩ ⟨t.val / 2 * 704 + b.val, by have := lt_N t; omega⟩ := by
  unfold k0_pay8
  have h : ∀ (d p s : FVec Ideal S1024x704 .f32) (v : Vec Ideal S1x1x1024x704 .bf16), truncf .bf16 (mulf (mulf d (extf .f32 (shapeCast S1024x704 v shapeCasts_S1x1x1024x704_S1024x704 : FVec Ideal S1024x704 .bf16) bitsLt_bf16_f32))
      (mulf s (addf (broadcast S1024x704 (Scalar.ofBits (F := Ideal) .f32 0x3F800000#32)) (mulf p (subf (broadcast S1024x704 (Scalar.ofBits (F := Ideal) .f32 0x3F800000#32)) s)))))
      bitsLt_bf16_f32 (ix2 a b) = d (ix2 a b) * v (ix4 0 0 a b) * (s (ix2 a b) * (1 + p (ix2 a b) * (1 - s (ix2 a b)))) := fun d p s v => by
    rw [← one_word, ← cast_drop2 v shapeCasts_S1x1x1024x704_S1024x704 a b]
    rfl
  refine (h _ _ _ _).trans ?_
  rw [pay5, pay6, pay7, ld0, ld1]
  rfl

/-- The second half's cotangent of a block. -/
theorem pay2 (c : Dev nD) (t : Fin cfg0.N) (a : Fin 1024) (b : Fin 704) :
    k0_pay2 (F := Ideal) (k0_pay5 (hb m c t) (iblk m c 1 t)) (k0_pay6 (View.ld (iblk m c 2 t) lay0)) (k0_pay7 (View.ld (iblk m c 2 t) lay0)) (ix4 0 0 a b)
      = half (m (c.tc.loc main_arg0)) (m (c.tc.loc main_arg1)) (m (c.tc.loc main_arg2)) 1 ⟨t.val % 2 * 1024 + a.val, by omega⟩ ⟨t.val / 2 * 704 + b.val, by have := lt_N t; omega⟩ := by
  unfold k0_pay2
  have h : ∀ d p s : FVec Ideal S1024x704 .f32, (truncf .bf16 (mulf d (mulf p s)) bitsLt_bf16_f32 : FVec Ideal S1024x704 .bf16) (ix2 a b)
      = d (ix2 a b) * (p (ix2 a b) * s (ix2 a b)) := fun _ _ _ => rfl
  refine (cast_add2 _ _ 0 0 a b).trans ((h _ _ _).trans ?_)
  rw [pay5, pay6, pay7, ld0]
  rfl

/-- The first layer of a block of two. -/
theorem layers_fst (p q : Vec Ideal S1x1x1024x704 .bf16) (a : Fin 1024) (b : Fin 704) : layers p q (ix4 0 0 a b) = p (ix4 0 0 a b) := by
  unfold layers
  refine (View.canon_cons_of_not_mem _ _ (Rect.not_mem_set_of_axis _ _ (0 : Fin 4) 1 1 rfl rfl rfl (Or.inl Nat.zero_lt_one))).trans ?_
  have e : (Rect.unit (s := S2x1x1024x704) ![0, 0, 0, 0] S1x1x1024x704.size inb_S2x1x1024x704_S1x1x1024x704_0_0_0_0).emb (ix4 0 0 a b) = ix4 0 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  have h := View.canon_cons_emb (Val := Elt Ideal) (Rect.unit (s := S2x1x1024x704) ![0, 0, 0, 0] S1x1x1024x704.size inb_S2x1x1024x704_S1x1x1024x704_0_0_0_0) p [] (ix4 0 0 a b)
  exact Eq.trans (congrArg _ e.symm) h

/-- The second layer of a block of two. -/
theorem layers_snd (p q : Vec Ideal S1x1x1024x704 .bf16) (a : Fin 1024) (b : Fin 704) : layers p q (ix4 1 0 a b) = q (ix4 0 0 a b) := by
  unfold layers
  have e : (Rect.unit (s := S2x1x1024x704) ![1, 0, 0, 0] S1x1x1024x704.size inb_S2x1x1024x704_S1x1x1024x704_1_0_0_0).emb (ix4 0 0 a b) = ix4 1 0 a b := by
    funext x; apply Fin.ext
    match x with
    | ⟨0, _⟩ => rfl
    | ⟨1, _⟩ => rfl
    | ⟨2, _⟩ => show 0 + 1 * a.val = a.val; omega
    | ⟨3, _⟩ => show 0 + 1 * b.val = b.val; omega
  have h := View.canon_cons_emb (Val := Elt Ideal) (Rect.unit (s := S2x1x1024x704) ![1, 0, 0, 0] S1x1x1024x704.size inb_S2x1x1024x704_S1x1x1024x704_1_0_0_0) q
    [⟨Rect.unit ![0, 0, 0, 0] S1x1x1024x704.size inb_S2x1x1024x704_S1x1x1024x704_0_0_0_0, p⟩] (ix4 0 0 a b)
  exact Eq.trans (congrArg _ e.symm) h

/-- What a step writes back to the first result is its block of half the cotangent. -/
theorem wrote3 (c : Dev nD) (t : Fin cfg0.N) :
    (dats m 0 c).flushed 3 t = ((cfg0.win 3).blk t).view.read (Elt Ideal) (res0 (m (c.tc.loc main_arg0))) := by
  refine Eq.trans (b := (cfg0.win 3).cut (grid0.coords t) (k0_pay3 (F := Ideal) (iblk m c 0 (cap t)))) ?_ ?_
  · show (cfg0.win 3).cut (grid0.coords t) ((dats m 0 c).after 3 t) = _
    rw [after0_3]
  refine ext2 fun a b => ?_
  show k0_pay3 (F := Ideal) (iblk m c 0 (cap t)) (ix2 a b) = (res0 (m (c.tc.loc main_arg0))) (((cfg0.win 3).blk t).view.emb (ix2 a b))
  rw [emb3, pay3]
  unfold res0
  have h : min (cap t).val 1 = min t.val 1 := by
    show min (min t.val 1) 1 = min t.val 1
    omega
  show hf _ _ b = hf _ _ b
  congr 2
  rw [h]

/-- Every entry of the first result is in some step's block. -/
theorem covered3 (i : S2048x1024.Idx) : ∃ t : Fin cfg0.N, (cfg0.win 3).flush t = true ∧ i ∈ ((cfg0.win 3).blk t).view.set := by
  have hi : (i 0).val < 2048 := (i 0).isLt
  by_cases hr : (i 0).val < 1024
  · let t : Fin cfg0.N := ⟨0, by decide⟩
    refine ⟨t, (flush3 t).2 (Or.inl rfl), ?_⟩
    have h := ((cfg0.win 3).blk t).view.emb_mem_set (ix2 (⟨(i 0).val, hr⟩ : Fin 1024) (i 1))
    refine Eq.mp (congrArg (fun q => q ∈ ((cfg0.win 3).blk t).view.set) ((emb3 t _ _).trans ?_)) h
    funext x; apply Fin.ext
    match x with
    | ⟨0, _⟩ => show (min 0 1) * 1024 + (i 0).val = (i 0).val; omega
    | ⟨1, _⟩ => rfl
  · let t : Fin cfg0.N := ⟨7, by decide⟩
    refine ⟨t, (flush3 t).2 (Or.inr rfl), ?_⟩
    have h := ((cfg0.win 3).blk t).view.emb_mem_set (ix2 (⟨(i 0).val - 1024, by omega⟩ : Fin 1024) (i 1))
    refine Eq.mp (congrArg (fun q => q ∈ ((cfg0.win 3).blk t).view.set) ((emb3 t _ _).trans ?_)) h
    funext x; apply Fin.ext
    match x with
    | ⟨0, _⟩ => show (min 7 1) * 1024 + ((i 0).val - 1024) = (i 0).val; omega
    | ⟨1, _⟩ => rfl

theorem final3 (c : Dev nD) : (dats m 0 c).arrAt 3 cfg0.N = (res0 (m (c.tc.loc main_arg0))) :=
  (dats m 0 c).arrAt_eq_of_cover 3 (res0 (m (c.tc.loc main_arg0))) (fun t _ => wrote3 m c t) covered3

/-- What a step writes back to the second result is its block of the two cotangents. -/
theorem wrote4 (c : Dev nD) (t : Fin cfg0.N) :
    (dats m 0 c).flushed 4 t = ((cfg0.win 4).blk t).view.read (Elt Ideal) (res1 (m (c.tc.loc main_arg0)) (m (c.tc.loc main_arg1)) (m (c.tc.loc main_arg2))) := by
  refine Eq.trans (b := (cfg0.win 4).cut (grid0.coords t) (layers (k0_pay1 (k0_pay8 (F := Ideal) (hb m c t) (iblk m c 1 t) (View.ld (iblk m c 2 t) lay0) (View.ld (iblk m c 2 t) lay1))) (k0_pay2 (F := Ideal) (k0_pay5 (hb m c t) (iblk m c 1 t)) (k0_pay6 (View.ld (iblk m c 2 t) lay0)) (k0_pay7 (View.ld (iblk m c 2 t) lay0))))) ?_ ?_
  · show (cfg0.win 4).cut (grid0.coords t) ((dats m 0 c).after 4 t) = _
    rw [after0_4]
  have key : ∀ Y : Vec Ideal S2x1x1024x704 .bf16, (∀ (l : Fin 2) (e : Fin 1) (a : Fin 1024) (b : Fin 704),
      Y (ix4 l e a b) = (res1 (m (c.tc.loc main_arg0)) (m (c.tc.loc main_arg1)) (m (c.tc.loc main_arg2))) (((cfg0.win 4).blk t).view.emb (ix4 l e a b))) →
      (cfg0.win 4).cut (grid0.coords t) Y = ((cfg0.win 4).blk t).view.read (Elt Ideal) (res1 (m (c.tc.loc main_arg0)) (m (c.tc.loc main_arg1)) (m (c.tc.loc main_arg2))) := fun Y h =>
    ext4 fun l e a b => h l e a b
  refine key _ fun l e a b => ?_
  rw [emb4]
  obtain rfl : e = 0 := Subsingleton.elim _ _
  have hN := lt_N t
  obtain rfl | rfl : l = 0 ∨ l = 1 := by omega
  · refine (layers_fst _ _ a b).trans ?_
    unfold k0_pay1
    refine (cast_add2 _ _ 0 0 a b).trans ((pay8 m c t a b).trans ?_)
    unfold res1
    refine congrArg₂ _ (Fin.ext ?_) (Fin.ext ?_)
    · rfl
    · show t.val / 2 * 704 + b.val = (t.val / 2 + 0) * 704 + b.val
      omega
  · refine (layers_snd _ _ a b).trans ((pay2 m c t a b).trans ?_)
    unfold res1
    refine congrArg₂ _ (Fin.ext ?_) (Fin.ext ?_)
    · rfl
    · show t.val / 2 * 704 + b.val = (t.val / 2 + 0) * 704 + b.val
      omega

/-- Every step writes the second result back. -/
theorem flush4 : ∀ t : Fin cfg0.N, (cfg0.win 4).flush t = true := (by decide +kernel : ∀ t : Fin grid0.N, win0_4.flush t = true)

/-- Every entry of the second result is in some step's block. -/
theorem covered4 (i : S2x4x2048x704.Idx) : ∃ t : Fin cfg0.N, (cfg0.win 4).flush t = true ∧ i ∈ ((cfg0.win 4).blk t).view.set := by
  have h1 : (i 1).val < 4 := (i 1).isLt
  have h2 : (i 2).val < 2048 := (i 2).isLt
  let t : Fin cfg0.N := ⟨(i 1).val * 2 + (i 2).val / 1024, (show (i 1).val * 2 + (i 2).val / 1024 < 8 by omega).trans_le (by decide)⟩
  refine ⟨t, flush4 t, ?_⟩
  have h := ((cfg0.win 4).blk t).view.emb_mem_set (ix4 (i 0) (0 : Fin 1) (⟨(i 2).val % 1024, by omega⟩ : Fin 1024) (i 3))
  refine Eq.mp (congrArg (fun q => q ∈ ((cfg0.win 4).blk t).view.set) ((emb4 t _ _ _ _).trans ?_)) h
  funext x; apply Fin.ext
  match x with
  | ⟨0, _⟩ => rfl
  | ⟨1, _⟩ => show ((i 1).val * 2 + (i 2).val / 1024) / 2 + 0 = (i 1).val; omega
  | ⟨2, _⟩ => show ((i 1).val * 2 + (i 2).val / 1024) % 2 * 1024 + (i 2).val % 1024 = (i 2).val; omega
  | ⟨3, _⟩ => rfl

theorem final4 (c : Dev nD) : (dats m 0 c).arrAt 4 cfg0.N = (res1 (m (c.tc.loc main_arg0)) (m (c.tc.loc main_arg1)) (m (c.tc.loc main_arg2))) :=
  (dats m 0 c).arrAt_eq_of_cover 4 (res1 (m (c.tc.loc main_arg0)) (m (c.tc.loc main_arg1)) (m (c.tc.loc main_arg2))) (fun t _ => wrote4 m c t) covered4

/-- The call leaves half the cotangent and the two halves' cotangents in its results, exactly (the roundings being no operations here),
    and its arguments unchanged. -/
theorem run : θ_run defs (onTc (τ := τ) (main (F := Ideal))) ⟨m, fun _ => 0, ρ⟩ fun r => ∀ c : Dev nD,
      r.2.mem (c.tc.loc main_v3_0) = (res0 (m (c.tc.loc main_arg0)))
      ∧ r.2.mem (c.tc.loc main_v3_1) = (res1 (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun r h c => ⟨((h c).1 3).trans (final3 m c), ((h c).1 4).trans (final4 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end

/-- Of real numbers, the gate's derivative by the product rule is the kernel's factored form. -/
theorem gate_rule {d p q : EReal} (hd : IsReal d) (hp : IsReal p) (hq : IsReal q) :
    d * q * sg p + p * (d * q) * (sg p * (1 - sg p)) = gfst d p q := by
  obtain ⟨d, rfl⟩ := hd
  obtain ⟨q, rfl⟩ := hq
  obtain ⟨p, rfl⟩ := hp
  unfold gfst
  rw [sg_coe]
  generalize (1 / (1 + Real.exp (-p)) : ℝ) = s
  norm_cast
  ring

/-- The gated value's cotangent is finite when the cotangent and the weights are. -/
theorem ds_real {x : Mat 2048 1024} {w : Mat 2816 1024} (hx : ∀ i, IsReal (x i)) (hw : ∀ i, IsReal (w i)) (a : Fin 2048) (j : Fin 2816) : IsReal (ds x w a j) :=
  IsReal.sum _ fun k _ => (IsReal.mul ⟨_, half_word⟩ (hx _)).mul (hw _)

namespace Ref

open Cert.FfnDownBwdReferenceIdeal Cert.FfnDownBwdReferenceIdeal.Gen Cert.FfnDownBwdReferenceIdeal.Read

/-- The reference's halved cotangent. -/
theorem hf_eq (x0 : Mat 2048 1024) (a : Fin 2048) (k : Fin 1024) : val_main_v1 (F := Ideal) x0 (ix2 a k) = hf x0 a k := by
  rw [val_main_v1_apply, val_main_v0_apply, val_main_cst_apply]
  rfl

/-- The reference's cotangent of the gated value. -/
theorem ds_eq (x0 : Mat 2048 1024) (x1 : Mat 2816 1024) (a : Fin 2048) (j : Fin 2816) : val_main_v9 (F := Ideal) x0 x1 (ix2 a j) = ds x0 x1 a j := by
  unfold val_main_v9
  refine (dot_nt (φ₁ := .f32) (φ₂ := .f32) _ rfl none (val_main_v1 (F := Ideal) x0) (val_main_v7 (F := Ideal) x1) a j).trans ?_
  exact Finset.sum_congr rfl fun k _ => congrArg₂ (· * ·) (hf_eq x0 a k) rfl

/-- The two halves of the up-projection. -/
theorem fst_eq (x2 : Mat 2048 5632) (a : Fin 2048) (j : Fin 2816) : val_main_v3 (F := Ideal) x2 (ix2 a j) = x2 (ix2 a ⟨j.val, by omega⟩) := by
  rw [val_main_v3_apply, val_main_v2_apply]
  refine congrArg x2 ?_
  funext x; apply Fin.ext
  match x with
  | ⟨0, _⟩ => rfl
  | ⟨1, _⟩ => rfl

theorem snd_eq (x2 : Mat 2048 5632) (a : Fin 2048) (j : Fin 2816) : val_main_v4 (F := Ideal) x2 (ix2 a j) = x2 (ix2 a ⟨2816 + j.val, by omega⟩) := by
  rw [val_main_v4_apply, val_main_v2_apply]
  refine congrArg x2 ?_
  funext x; apply Fin.ext
  match x with
  | ⟨0, _⟩ => rfl
  | ⟨1, _⟩ => rfl

/-- The logistic function of the first half. -/
theorem sg_eq (x2 : Mat 2048 5632) (i : S2048x2816.Idx) : val_main_v5_2 (F := Ideal) x2 i = sg (val_main_v3 (F := Ideal) x2 i) := by
  rw [val_main_v5_2_apply, val_main_call0_v4_apply, val_main_call0_v3_apply, val_main_call0_v2_apply, val_main_call0_v1_apply, val_main_call0_v0_apply,
    val_main_call0_cst_apply, val_main_call0_cst_0_apply]
  show Ideal.div (Ideal.ofBits .f32 0x3F800000#32) (Ideal.ofBits .f32 0x3F800000#32 + Ideal.exp (-_)) = _
  rw [one_word]
  rfl

/-- The reference's cotangent of the first half, of finite arguments. -/
theorem first_eq (x0 : Mat 2048 1024) (x1 : Mat 2816 1024) (x2 : Mat 2048 5632) (h0 : ∀ i, IsReal (x0 i)) (h1 : ∀ i, IsReal (x1 i)) (h2 : ∀ i, IsReal (x2 i))
    (a : Fin 2048) (j : Fin 2816) : val_main_v12 (F := Ideal) x0 x1 x2 (ix2 a j) = half x0 x1 x2 0 a j := by
  have h : val_main_v12 (F := Ideal) x0 x1 x2 (ix2 a j) = val_main_v9 (F := Ideal) x0 x1 (ix2 a j) * val_main_v4 (F := Ideal) x2 (ix2 a j) * val_main_v5_2 (F := Ideal) x2 (ix2 a j)
      + val_main_v3 (F := Ideal) x2 (ix2 a j) * (val_main_v9 (F := Ideal) x0 x1 (ix2 a j) * val_main_v4 (F := Ideal) x2 (ix2 a j))
        * (val_main_v5_2 (F := Ideal) x2 (ix2 a j) * (Ideal.ofBits .f32 0x3F800000#32 - val_main_v5_2 (F := Ideal) x2 (ix2 a j))) := by
    rw [val_main_v12_apply, val_main_call1_v1_apply, val_main_call1_v2_apply, val_main_call1_v0_apply, val_main_v11_apply, val_main_v5_1_apply, val_main_call0_v7_apply,
      val_main_call0_v6_apply, val_main_call0_cst_1_apply]
    rfl
  rw [h, sg_eq, ds_eq, fst_eq, snd_eq, one_word]
  exact gate_rule (ds_real h0 h1 a j) (h2 _) (h2 _)

/-- The reference's cotangent of the second half. -/
theorem second_eq (x0 : Mat 2048 1024) (x1 : Mat 2816 1024) (x2 : Mat 2048 5632) (a : Fin 2048) (j : Fin 2816) :
    val_main_v10 (F := Ideal) x0 x1 x2 (ix2 a j) = half x0 x1 x2 1 a j := by
  rw [val_main_v10_apply, val_main_v5_0_apply, sg_eq, ds_eq, fst_eq]
  exact mul_comm _ _

/-- The two cotangents side by side. -/
theorem both_eq (x0 : Mat 2048 1024) (x1 : Mat 2816 1024) (x2 : Mat 2048 5632) (h0 : ∀ i, IsReal (x0 i)) (h1 : ∀ i, IsReal (x1 i)) (h2 : ∀ i, IsReal (x2 i))
    (a : Fin 2048) (l : Fin 2) (j : Fin 2816) : val_main_v13 (F := Ideal) x0 x1 x2 (ix2 a ⟨l.val * 2816 + j.val, by omega⟩) = half x0 x1 x2 l a j := by
  unfold val_main_v13
  obtain rfl | rfl : l = 0 ∨ l = 1 := by omega
  · refine Eq.trans ?_ (first_eq x0 x1 x2 h0 h1 h2 a j)
    refine concatenate_pair_apply_left (t := S2048x5632) (s₁ := S2048x2816) (s₂ := S2048x2816) 1 _ _ _ _ rfl (ix2 a j) (fun x => ?_)
    match x with
    | ⟨0, _⟩ => rfl
    | ⟨1, _⟩ => show j.val = 0 * 2816 + j.val; omega
  · refine Eq.trans ?_ (second_eq x0 x1 x2 a j)
    refine concatenate_pair_apply_right (t := S2048x5632) (s₁ := S2048x2816) (s₂ := S2048x2816) 1 _ _ _ _ rfl rfl (ix2 a j) (fun x hx => ?_) ?_
    · match x with
      | ⟨0, _⟩ => rfl
      | ⟨1, _⟩ => exact absurd rfl hx
    · show j.val + 2816 = 1 * 2816 + j.val
      omega

/-- The reference's two results. -/
theorem res0_eq (x0 : Mat 2048 1024) : val_main_v14 (F := Ideal) x0 = res0 x0 := ext2 fun a b => hf_eq x0 a b

theorem res1_eq (x0 : Mat 2048 1024) (x1 : Mat 2816 1024) (x2 : Mat 2048 5632) (h0 : ∀ i, IsReal (x0 i)) (h1 : ∀ i, IsReal (x1 i)) (h2 : ∀ i, IsReal (x2 i)) :
    val_main_v17 (F := Ideal) x0 x1 x2 = res1 x0 x1 x2 := ext4 fun l e a b => by
  rw [val_main_v17_apply]
  show val_main_v16 (F := Ideal) x0 x1 x2 (ix4 l e a b) = _
  rw [val_main_v16_apply, val_main_v15_apply]
  refine Eq.trans (congrArg _ ?_) (both_eq x0 x1 x2 h0 h1 h2 a l ⟨e.val * 704 + b.val, by omega⟩)
  funext x; apply Fin.ext
  match x with
  | ⟨0, _⟩ => show (((a.val * 2 + l.val) * 4 + e.val) * 704 + b.val) / 5632 = a.val; omega
  | ⟨1, _⟩ => show (((a.val * 2 + l.val) * 4 + e.val) * 704 + b.val) % 5632 = l.val * 2816 + (e.val * 704 + b.val); omega

variable (m : (ℓ : Loc nD τ sig) → Buf (Elt Ideal) ℓ) (ρ : Dev nD → PrngReg)

/-- The reference's results, read off its text, and its arguments unchanged. -/
theorem run' : θ_run defs (onTc (τ := τ) (main (F := Ideal))) ⟨m, fun _ => 0, ρ⟩ fun r => ∀ c : Dev nD,
      r.2.mem (c.tc.loc main_v14) = val_main_v14 (F := Ideal) (m (c.tc.loc main_arg0))
      ∧ r.2.mem (c.tc.loc main_v17) = val_main_v17 (F := Ideal) (m (c.tc.loc main_arg0)) (m (c.tc.loc main_arg1)) (m (c.tc.loc main_arg2))
      ∧ same r.2.mem m c main_arg0
      ∧ same r.2.mem m c main_arg1
      ∧ same r.2.mem m c main_arg2 :=
  (θ_run defs _ _).mono (fun _ h c => ⟨(h c).1.trans (val_main_v14_eq _),
    (h c).2.1.trans (val_main_v17_eq _ _ _ ), (h c).2.2⟩) (Value.run m ρ)

/-- From finite arguments the reference leaves the same two arrays and its arguments unchanged. -/
theorem run (hm : ∀ c : Dev nD, (∀ i, IsReal ((m (c.tc.loc main_arg0)) i)) ∧ (∀ i, IsReal ((m (c.tc.loc main_arg1)) i)) ∧ ∀ i, IsReal ((m (c.tc.loc main_arg2)) i)) :
    θ_run defs (onTc (τ := τ) (main (F := Ideal))) ⟨m, fun _ => 0, ρ⟩ fun r => ∀ c : Dev nD,
      r.2.mem (c.tc.loc main_v14) = (res0 (m (c.tc.loc main_arg0)))
      ∧ r.2.mem (c.tc.loc main_v17) = (res1 (m (c.tc.loc main_arg0)) (m (c.tc.loc main_arg1)) (m (c.tc.loc main_arg2)))
      ∧ same r.2.mem m c main_arg0
      ∧ same r.2.mem m c main_arg1
      ∧ same r.2.mem m c main_arg2 :=
  (θ_run defs _ _).mono (fun _ h c => ⟨(h c).1.trans (res0_eq _),
    (h c).2.1.trans (res1_eq _ _ _ (hm c).1 (hm c).2.1 (hm c).2.2), (h c).2.2⟩) (run' m ρ)

end Ref

end Cert.FfnDownBwd

end
-- ==== Proof.Adam.lean ====
/- One step of the optimiser, entry by entry: the new first moment, the new second moment and the change of the weight, as
   functions of the weight, its gradient and the two moments. -/
module

public import proofs.«01_k».proof.Proof.Common

@[expose] public section

set_option maxRecDepth 16384

noncomputable section

namespace Cert.Adam

open Idealize.ShloMosaic Idealize.ShloMosaic.ValueIdx

/-- An array of extended reals. -/
abbrev Arr (s : Shape) := FVec Ideal s .f32

variable {s : Shape}

/-- The new first moment: `0.9 m + 0.1 g`. -/
def newM (g m : Arr s) : Arr s := fun i =>
  Ideal.ofBits .f32 0x3F666666#32 * m i + Ideal.ofBits .f32 0x3DCCCCCD#32 * g i

/-- The new second moment: `0.999 v + 0.001 g²`. -/
def newV (g v : Arr s) : Arr s := fun i =>
  Ideal.ofBits .f32 0x3F7FBE77#32 * v i + Ideal.ofBits .f32 0x3A83126F#32 * (g i * g i)

/-- The change of the weight: `-0.001 (m̂ / (√v̂ + 1e-8) + 0.01 w)`, the moments divided by their corrections. -/
def delta (w g m v : Arr s) : Arr s := fun i =>
  Ideal.ofBits .f32 0xBA83126F#32 *
    (Ideal.div (Ideal.div (newM g m i) (Ideal.ofBits .f32 0x3F26BD02#32))
        (Ideal.sqrt (Ideal.div (newV g v i) (Ideal.ofBits .f32 0x3C231ACC#32)) + Ideal.ofBits .f32 0x322BCC77#32)
      + Ideal.ofBits .f32 0x3C23D70A#32 * w i)

variable {t : Shape}

/-- An entry of the new first moment depends on the same entry of the gradient and of the moment only. -/
theorem newM_at {g m : Arr s} {G M : Arr t} {i : s.Idx} {j : t.Idx} (hg : g i = G j) (hm : m i = M j) : newM g m i = newM G M j := by
  unfold newM; rw [hg, hm]

theorem newV_at {g v : Arr s} {G V : Arr t} {i : s.Idx} {j : t.Idx} (hg : g i = G j) (hv : v i = V j) : newV g v i = newV G V j := by
  unfold newV; rw [hg, hv]

theorem delta_at {w g m v : Arr s} {W G M V : Arr t} {i : s.Idx} {j : t.Idx} (hw : w i = W j) (hg : g i = G j) (hm : m i = M j) (hv : v i = V j) :
    delta w g m v i = delta W G M V j := by
  unfold delta; rw [hw, newM_at hg hm, newV_at hg hv]

end Cert.Adam

end
-- ==== Proof.AdamNormClaim.lean ====
/- The optimiser's step for the norm weights: what the call's run leaves in its result arrays, as functions of the argument arrays,
   and the same arrays from the reference. -/
module

public import proofs.«01_k».proof.Proof.Adam
public import proofs.«01_k».proof.Proof.Gen.AdamNormIdeal.Value
public import proofs.«01_k».proof.Proof.Gen.AdamNormReferenceIdeal.Run
public import proofs.«01_k».proof.Proof.Gen.AdamNormReferenceIdeal.Read

@[expose] public section

set_option maxRecDepth 16384

noncomputable section

namespace Cert.AdamNorm

open Cert.Common Cert.Adam Idealize.ShloMosaic Idealize.ShloMosaic.TcCoe Idealize.ShloMosaic.ValueIdx
open Idealize.SL.Sem

section
open Cert.AdamNormIdeal Cert.AdamNormIdeal.Gen

variable (m : (ℓ : Loc nD τ sig) → Buf (Elt Ideal) ℓ) (ρ : Dev nD → PrngReg) (c : Dev nD)

/-- An array's entries in the same order, as a matrix. -/
abbrev mat (a : Arr S4x1024) : Arr S32x128 := shapeCast S32x128 a shapeCasts_S4x1024_S32x128

/-- The change of the weight and the two new moments, as functions of the arguments. -/
abbrev outD : Arr S32x128 := mat (delta (m (c.tc.loc main_arg0)) (m (c.tc.loc main_arg1)) (m (c.tc.loc main_arg2)) (m (c.tc.loc main_arg3)))
abbrev outM : Arr S32x128 := mat (newM (m (c.tc.loc main_arg1)) (m (c.tc.loc main_arg2)))
abbrev outV : Arr S32x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 32) (b : Fin 128) :
    ((cfg0.win 4).blk t).view.emb (ix2 a b) = ix2 (⟨t.val * 32 + a.val, by have := lt_N t; omega⟩ : Fin 32) b := by
  obtain ⟨h0, h1⟩ := idx4 t
  funext x; apply Fin.ext
  match x with
  | ⟨0, _⟩ => show win0_4.index t 0 * 32 + 1 * a.val = t.val * 32 + a.val; omega
  | ⟨1, _⟩ => show win0_4.index t 1 * 128 + 1 * b.val = b.val; omega

/-- Every entry of window 4's array is in some grid point's block. -/
theorem covered4 (i : S32x128.Idx) : ∃ t : Fin cfg0.N, (cfg0.win 4).flush t = true ∧ i ∈ ((cfg0.win 4).blk t).view.set := by
  have h0 : (i 0).val < 32 := (i 0).isLt
  let t : Fin cfg0.N := ⟨(i 0).val / 32, (show (i 0).val / 32 < 1 by omega).trans_le (by decide)⟩
  refine ⟨t, flush0_4 t, ?_⟩
  have h := ((cfg0.win 4).blk t).view.emb_mem_set (ix2 (⟨(i 0).val % 32, by omega⟩ : Fin 32) (i 1))
  refine Eq.mp (congrArg (fun q => q ∈ ((cfg0.win 4).blk t).view.set) ((emb4 t _ _).trans ?_)) h
  funext x; apply Fin.ext
  match x with
  | ⟨0, _⟩ => show (i 0).val / 32 * 32 + (i 0).val % 32 = (i 0).val; omega
  | ⟨1, _⟩ => rfl

/-- The arguments' blocks at an entry: the windows move together. -/
theorem iblks (t : Fin cfg0.N) (i : (⟨2, ![32, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![32, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![32, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![32, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamNormReferenceIdeal Cert.AdamNormReferenceIdeal.Gen Cert.AdamNormReferenceIdeal.Read

/-- The reference's new moments and its change of the weight. -/
theorem newM_eq (g m : Arr S4x1024) : val_main_v4 (F := Ideal) g m = newM g m := rfl
theorem newV_eq (g v : Arr S4x1024) : val_main_v10 (F := Ideal) g v = newV g v := rfl
theorem delta_eq (w g m v : Arr S4x1024) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamNorm

end
-- ==== Proof.AdamPoolWClaim.lean ====
/- The optimiser's step for the pooling branch's matrices: what the call's run leaves in its result arrays, as functions of the argument arrays,
   and the same arrays from the reference. -/
module

public import proofs.«01_k».proof.Proof.Adam
public import proofs.«01_k».proof.Proof.Gen.AdamPoolWIdeal.Value
public import proofs.«01_k».proof.Proof.Gen.AdamPoolWReferenceIdeal.Run
public import proofs.«01_k».proof.Proof.Gen.AdamPoolWReferenceIdeal.Read

@[expose] public section

set_option maxRecDepth 16384

noncomputable section

namespace Cert.AdamPoolW

open Cert.Common Cert.Adam Idealize.ShloMosaic Idealize.ShloMosaic.TcCoe Idealize.ShloMosaic.ValueIdx
open Idealize.SL.Sem

section
open Cert.AdamPoolWIdeal Cert.AdamPoolWIdeal.Gen

variable (m : (ℓ : Loc nD τ sig) → Buf (Elt Ideal) ℓ) (ρ : Dev nD → PrngReg) (c : Dev nD)

/-- An array's entries in the same order, as a matrix. -/
abbrev mat (a : Arr S4x4x128x128) : Arr S2048x128 := shapeCast S2048x128 a shapeCasts_S4x4x128x128_S2048x128

/-- The change of the weight and the two new moments, as functions of the arguments. -/
abbrev outD : Arr S2048x128 := mat (delta (m (c.tc.loc main_arg0)) (m (c.tc.loc main_arg1)) (m (c.tc.loc main_arg2)) (m (c.tc.loc main_arg3)))
abbrev outM : Arr S2048x128 := mat (newM (m (c.tc.loc main_arg1)) (m (c.tc.loc main_arg2)))
abbrev outV : Arr S2048x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 2048) (b : Fin 128) :
    ((cfg0.win 4).blk t).view.emb (ix2 a b) = ix2 (⟨t.val * 2048 + a.val, by have := lt_N t; omega⟩ : Fin 2048) b := by
  obtain ⟨h0, h1⟩ := idx4 t
  funext x; apply Fin.ext
  match x with
  | ⟨0, _⟩ => show win0_4.index t 0 * 2048 + 1 * a.val = t.val * 2048 + a.val; omega
  | ⟨1, _⟩ => show win0_4.index t 1 * 128 + 1 * b.val = b.val; omega

/-- Every entry of window 4's array is in some grid point's block. -/
theorem covered4 (i : S2048x128.Idx) : ∃ t : Fin cfg0.N, (cfg0.win 4).flush t = true ∧ i ∈ ((cfg0.win 4).blk t).view.set := by
  have h0 : (i 0).val < 2048 := (i 0).isLt
  let t : Fin cfg0.N := ⟨(i 0).val / 2048, (show (i 0).val / 2048 < 1 by omega).trans_le (by decide)⟩
  refine ⟨t, flush0_4 t, ?_⟩
  have h := ((cfg0.win 4).blk t).view.emb_mem_set (ix2 (⟨(i 0).val % 2048, by omega⟩ : Fin 2048) (i 1))
  refine Eq.mp (congrArg (fun q => q ∈ ((cfg0.win 4).blk t).view.set) ((emb4 t _ _).trans ?_)) h
  funext x; apply Fin.ext
  match x with
  | ⟨0, _⟩ => show (i 0).val / 2048 * 2048 + (i 0).val % 2048 = (i 0).val; omega
  | ⟨1, _⟩ => rfl

/-- The arguments' blocks at an entry: the windows move together. -/
theorem iblks (t : Fin cfg0.N) (i : (⟨2, ![2048, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![2048, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![2048, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![2048, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamPoolWReferenceIdeal Cert.AdamPoolWReferenceIdeal.Gen Cert.AdamPoolWReferenceIdeal.Read

/-- The reference's new moments and its change of the weight. -/
theorem newM_eq (g m : Arr S4x4x128x128) : val_main_v4 (F := Ideal) g m = newM g m := rfl
theorem newV_eq (g v : Arr S4x4x128x128) : val_main_v10 (F := Ideal) g v = newV g v := rfl
theorem delta_eq (w g m v : Arr S4x4x128x128) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamPoolW

end
-- ==== Proof.AdamPoolBClaim.lean ====
/- The optimiser's step for the pooling branch's biases: what the call's run leaves in its result arrays, as functions of the argument arrays,
   and the same arrays from the reference. -/
module

public import proofs.«01_k».proof.Proof.Adam
public import proofs.«01_k».proof.Proof.Gen.AdamPoolBIdeal.Value
public import proofs.«01_k».proof.Proof.Gen.AdamPoolBReferenceIdeal.Run
public import proofs.«01_k».proof.Proof.Gen.AdamPoolBReferenceIdeal.Read

@[expose] public section

set_option maxRecDepth 16384

noncomputable section

namespace Cert.AdamPoolB

open Cert.Common Cert.Adam Idealize.ShloMosaic Idealize.ShloMosaic.TcCoe Idealize.ShloMosaic.ValueIdx
open Idealize.SL.Sem

section
open Cert.AdamPoolBIdeal Cert.AdamPoolBIdeal.Gen

variable (m : (ℓ : Loc nD τ sig) → Buf (Elt Ideal) ℓ) (ρ : Dev nD → PrngReg) (c : Dev nD)

/-- An array's entries in the same order, as a matrix. -/
abbrev mat (a : Arr S4x4x128) : Arr S16x128 := shapeCast S16x128 a shapeCasts_S4x4x128_S16x128

/-- The change of the weight and the two new moments, as functions of the arguments. -/
abbrev outD : Arr S16x128 := mat (delta (m (c.tc.loc main_arg0)) (m (c.tc.loc main_arg1)) (m (c.tc.loc main_arg2)) (m (c.tc.loc main_arg3)))
abbrev outM : Arr S16x128 := mat (newM (m (c.tc.loc main_arg1)) (m (c.tc.loc main_arg2)))
abbrev outV : Arr S16x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 16) (b : Fin 128) :
    ((cfg0.win 4).blk t).view.emb (ix2 a b) = ix2 (⟨t.val * 16 + a.val, by have := lt_N t; omega⟩ : Fin 16) b := by
  obtain ⟨h0, h1⟩ := idx4 t
  funext x; apply Fin.ext
  match x with
  | ⟨0, _⟩ => show win0_4.index t 0 * 16 + 1 * a.val = t.val * 16 + a.val; omega
  | ⟨1, _⟩ => show win0_4.index t 1 * 128 + 1 * b.val = b.val; omega

/-- Every entry of window 4's array is in some grid point's block. -/
theorem covered4 (i : S16x128.Idx) : ∃ t : Fin cfg0.N, (cfg0.win 4).flush t = true ∧ i ∈ ((cfg0.win 4).blk t).view.set := by
  have h0 : (i 0).val < 16 := (i 0).isLt
  let t : Fin cfg0.N := ⟨(i 0).val / 16, (show (i 0).val / 16 < 1 by omega).trans_le (by decide)⟩
  refine ⟨t, flush0_4 t, ?_⟩
  have h := ((cfg0.win 4).blk t).view.emb_mem_set (ix2 (⟨(i 0).val % 16, by omega⟩ : Fin 16) (i 1))
  refine Eq.mp (congrArg (fun q => q ∈ ((cfg0.win 4).blk t).view.set) ((emb4 t _ _).trans ?_)) h
  funext x; apply Fin.ext
  match x with
  | ⟨0, _⟩ => show (i 0).val / 16 * 16 + (i 0).val % 16 = (i 0).val; omega
  | ⟨1, _⟩ => rfl

/-- The arguments' blocks at an entry: the windows move together. -/
theorem iblks (t : Fin cfg0.N) (i : (⟨2, ![16, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![16, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![16, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![16, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamPoolBReferenceIdeal Cert.AdamPoolBReferenceIdeal.Gen Cert.AdamPoolBReferenceIdeal.Read

/-- The reference's new moments and its change of the weight. -/
theorem newM_eq (g m : Arr S4x4x128) : val_main_v4 (F := Ideal) g m = newM g m := rfl
theorem newV_eq (g v : Arr S4x4x128) : val_main_v10 (F := Ideal) g v = newV g v := rfl
theorem delta_eq (w g m v : Arr S4x4x128) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamPoolB

end
-- ==== Proof.AdamPoolScaleClaim.lean ====
/- The optimiser's step for the pooling branch's scales: what the call's run leaves in its result arrays, as functions of the argument arrays,
   and the same arrays from the reference. -/
module

public import proofs.«01_k».proof.Proof.Adam
public import proofs.«01_k».proof.Proof.Gen.AdamPoolScaleIdeal.Value
public import proofs.«01_k».proof.Proof.Gen.AdamPoolScaleReferenceIdeal.Run
public import proofs.«01_k».proof.Proof.Gen.AdamPoolScaleReferenceIdeal.Read

@[expose] public section

set_option maxRecDepth 16384

noncomputable section

namespace Cert.AdamPoolScale

open Cert.Common Cert.Adam Idealize.ShloMosaic Idealize.ShloMosaic.TcCoe Idealize.ShloMosaic.ValueIdx
open Idealize.SL.Sem

section
open Cert.AdamPoolScaleIdeal Cert.AdamPoolScaleIdeal.Gen

variable (m : (ℓ : Loc nD τ sig) → Buf (Elt Ideal) ℓ) (ρ : Dev nD → PrngReg) (c : Dev nD)

/-- An array's entries in the same order, as a matrix. -/
abbrev mat (a : Arr S4x512) : Arr S16x128 := shapeCast S16x128 a shapeCasts_S4x512_S16x128

/-- The change of the weight and the two new moments, as functions of the arguments. -/
abbrev outD : Arr S16x128 := mat (delta (m (c.tc.loc main_arg0)) (m (c.tc.loc main_arg1)) (m (c.tc.loc main_arg2)) (m (c.tc.loc main_arg3)))
abbrev outM : Arr S16x128 := mat (newM (m (c.tc.loc main_arg1)) (m (c.tc.loc main_arg2)))
abbrev outV : Arr S16x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 16) (b : Fin 128) :
    ((cfg0.win 4).blk t).view.emb (ix2 a b) = ix2 (⟨t.val * 16 + a.val, by have := lt_N t; omega⟩ : Fin 16) b := by
  obtain ⟨h0, h1⟩ := idx4 t
  funext x; apply Fin.ext
  match x with
  | ⟨0, _⟩ => show win0_4.index t 0 * 16 + 1 * a.val = t.val * 16 + a.val; omega
  | ⟨1, _⟩ => show win0_4.index t 1 * 128 + 1 * b.val = b.val; omega

/-- Every entry of window 4's array is in some grid point's block. -/
theorem covered4 (i : S16x128.Idx) : ∃ t : Fin cfg0.N, (cfg0.win 4).flush t = true ∧ i ∈ ((cfg0.win 4).blk t).view.set := by
  have h0 : (i 0).val < 16 := (i 0).isLt
  let t : Fin cfg0.N := ⟨(i 0).val / 16, (show (i 0).val / 16 < 1 by omega).trans_le (by decide)⟩
  refine ⟨t, flush0_4 t, ?_⟩
  have h := ((cfg0.win 4).blk t).view.emb_mem_set (ix2 (⟨(i 0).val % 16, by omega⟩ : Fin 16) (i 1))
  refine Eq.mp (congrArg (fun q => q ∈ ((cfg0.win 4).blk t).view.set) ((emb4 t _ _).trans ?_)) h
  funext x; apply Fin.ext
  match x with
  | ⟨0, _⟩ => show (i 0).val / 16 * 16 + (i 0).val % 16 = (i 0).val; omega
  | ⟨1, _⟩ => rfl

/-- The arguments' blocks at an entry: the windows move together. -/
theorem iblks (t : Fin cfg0.N) (i : (⟨2, ![16, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![16, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![16, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![16, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamPoolScaleReferenceIdeal Cert.AdamPoolScaleReferenceIdeal.Gen Cert.AdamPoolScaleReferenceIdeal.Read

/-- The reference's new moments and its change of the weight. -/
theorem newM_eq (g m : Arr S4x512) : val_main_v4 (F := Ideal) g m = newM g m := rfl
theorem newV_eq (g v : Arr S4x512) : val_main_v10 (F := Ideal) g v = newV g v := rfl
theorem delta_eq (w g m v : Arr S4x512) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamPoolScale

end
-- ==== Proof.AdamConvWClaim.lean ====
/- The optimiser's step for the convolution's weights: what the call's run leaves in its result arrays, as functions of the argument arrays,
   and the same arrays from the reference. -/
module

public import proofs.«01_k».proof.Proof.Adam
public import proofs.«01_k».proof.Proof.Gen.AdamConvWIdeal.Value
public import proofs.«01_k».proof.Proof.Gen.AdamConvWReferenceIdeal.Run
public import proofs.«01_k».proof.Proof.Gen.AdamConvWReferenceIdeal.Read

@[expose] public section

set_option maxRecDepth 16384

noncomputable section

namespace Cert.AdamConvW

open Cert.Common Cert.Adam Idealize.ShloMosaic Idealize.ShloMosaic.TcCoe Idealize.ShloMosaic.ValueIdx
open Idealize.SL.Sem

section
open Cert.AdamConvWIdeal Cert.AdamConvWIdeal.Gen

variable (m : (ℓ : Loc nD τ sig) → Buf (Elt Ideal) ℓ) (ρ : Dev nD → PrngReg) (c : Dev nD)

/-- An array's entries in the same order, as a matrix. -/
abbrev mat (a : Arr S4x4x160) : Arr S16x160 := shapeCast S16x160 a shapeCasts_S4x4x160_S16x160

/-- The change of the weight and the two new moments, as functions of the arguments. -/
abbrev outD : Arr S16x160 := mat (delta (m (c.tc.loc main_arg0)) (m (c.tc.loc main_arg1)) (m (c.tc.loc main_arg2)) (m (c.tc.loc main_arg3)))
abbrev outM : Arr S16x160 := mat (newM (m (c.tc.loc main_arg1)) (m (c.tc.loc main_arg2)))
abbrev outV : Arr S16x160 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 16) (b : Fin 160) :
    ((cfg0.win 4).blk t).view.emb (ix2 a b) = ix2 (⟨t.val * 16 + a.val, by have := lt_N t; omega⟩ : Fin 16) b := by
  obtain ⟨h0, h1⟩ := idx4 t
  funext x; apply Fin.ext
  match x with
  | ⟨0, _⟩ => show win0_4.index t 0 * 16 + 1 * a.val = t.val * 16 + a.val; omega
  | ⟨1, _⟩ => show win0_4.index t 1 * 160 + 1 * b.val = b.val; omega

/-- Every entry of window 4's array is in some grid point's block. -/
theorem covered4 (i : S16x160.Idx) : ∃ t : Fin cfg0.N, (cfg0.win 4).flush t = true ∧ i ∈ ((cfg0.win 4).blk t).view.set := by
  have h0 : (i 0).val < 16 := (i 0).isLt
  let t : Fin cfg0.N := ⟨(i 0).val / 16, (show (i 0).val / 16 < 1 by omega).trans_le (by decide)⟩
  refine ⟨t, flush0_4 t, ?_⟩
  have h := ((cfg0.win 4).blk t).view.emb_mem_set (ix2 (⟨(i 0).val % 16, by omega⟩ : Fin 16) (i 1))
  refine Eq.mp (congrArg (fun q => q ∈ ((cfg0.win 4).blk t).view.set) ((emb4 t _ _).trans ?_)) h
  funext x; apply Fin.ext
  match x with
  | ⟨0, _⟩ => show (i 0).val / 16 * 16 + (i 0).val % 16 = (i 0).val; omega
  | ⟨1, _⟩ => rfl

/-- The arguments' blocks at an entry: the windows move together. -/
theorem iblks (t : Fin cfg0.N) (i : (⟨2, ![16, 160]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![16, 160]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![16, 160]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![16, 160]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamConvWReferenceIdeal Cert.AdamConvWReferenceIdeal.Gen Cert.AdamConvWReferenceIdeal.Read

/-- The reference's new moments and its change of the weight. -/
theorem newM_eq (g m : Arr S4x4x160) : val_main_v4 (F := Ideal) g m = newM g m := rfl
theorem newV_eq (g v : Arr S4x4x160) : val_main_v10 (F := Ideal) g v = newV g v := rfl
theorem delta_eq (w g m v : Arr S4x4x160) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamConvW

end
-- ==== Proof.AdamLruClaim.lean ====
/- The optimiser's step for the recurrence's channel weights: what the call's run leaves in its result arrays, as functions of the argument arrays,
   and the same arrays from the reference. -/
module

public import proofs.«01_k».proof.Proof.Adam
public import proofs.«01_k».proof.Proof.Gen.AdamLruIdeal.Value
public import proofs.«01_k».proof.Proof.Gen.AdamLruReferenceIdeal.Run
public import proofs.«01_k».proof.Proof.Gen.AdamLruReferenceIdeal.Read

@[expose] public section

set_option maxRecDepth 16384

noncomputable section

namespace Cert.AdamLru

open Cert.Common Cert.Adam Idealize.ShloMosaic Idealize.ShloMosaic.TcCoe Idealize.ShloMosaic.ValueIdx
open Idealize.SL.Sem

section
open Cert.AdamLruIdeal Cert.AdamLruIdeal.Gen

variable (m : (ℓ : Loc nD τ sig) → Buf (Elt Ideal) ℓ) (ρ : Dev nD → PrngReg) (c : Dev nD)

/-- An array's entries in the same order, as a matrix. -/
abbrev mat (a : Arr S4x1280) : Arr S40x128 := shapeCast S40x128 a shapeCasts_S4x1280_S40x128

/-- The change of the weight and the two new moments, as functions of the arguments. -/
abbrev outD : Arr S40x128 := mat (delta (m (c.tc.loc main_arg0)) (m (c.tc.loc main_arg1)) (m (c.tc.loc main_arg2)) (m (c.tc.loc main_arg3)))
abbrev outM : Arr S40x128 := mat (newM (m (c.tc.loc main_arg1)) (m (c.tc.loc main_arg2)))
abbrev outV : Arr S40x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 40) (b : Fin 128) :
    ((cfg0.win 4).blk t).view.emb (ix2 a b) = ix2 (⟨t.val * 40 + a.val, by have := lt_N t; omega⟩ : Fin 40) b := by
  obtain ⟨h0, h1⟩ := idx4 t
  funext x; apply Fin.ext
  match x with
  | ⟨0, _⟩ => show win0_4.index t 0 * 40 + 1 * a.val = t.val * 40 + a.val; omega
  | ⟨1, _⟩ => show win0_4.index t 1 * 128 + 1 * b.val = b.val; omega

/-- Every entry of window 4's array is in some grid point's block. -/
theorem covered4 (i : S40x128.Idx) : ∃ t : Fin cfg0.N, (cfg0.win 4).flush t = true ∧ i ∈ ((cfg0.win 4).blk t).view.set := by
  have h0 : (i 0).val < 40 := (i 0).isLt
  let t : Fin cfg0.N := ⟨(i 0).val / 40, (show (i 0).val / 40 < 1 by omega).trans_le (by decide)⟩
  refine ⟨t, flush0_4 t, ?_⟩
  have h := ((cfg0.win 4).blk t).view.emb_mem_set (ix2 (⟨(i 0).val % 40, by omega⟩ : Fin 40) (i 1))
  refine Eq.mp (congrArg (fun q => q ∈ ((cfg0.win 4).blk t).view.set) ((emb4 t _ _).trans ?_)) h
  funext x; apply Fin.ext
  match x with
  | ⟨0, _⟩ => show (i 0).val / 40 * 40 + (i 0).val % 40 = (i 0).val; omega
  | ⟨1, _⟩ => rfl

/-- The arguments' blocks at an entry: the windows move together. -/
theorem iblks (t : Fin cfg0.N) (i : (⟨2, ![40, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![40, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![40, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![40, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamLruReferenceIdeal Cert.AdamLruReferenceIdeal.Gen Cert.AdamLruReferenceIdeal.Read

/-- The reference's new moments and its change of the weight. -/
theorem newM_eq (g m : Arr S4x1280) : val_main_v4 (F := Ideal) g m = newM g m := rfl
theorem newV_eq (g v : Arr S4x1280) : val_main_v10 (F := Ideal) g v = newV g v := rfl
theorem delta_eq (w g m v : Arr S4x1280) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamLru

end
-- ==== Proof.AdamHeadWClaim.lean ====
/- The optimiser's step for the recurrence's gate matrices: what the call's run leaves in its result arrays, as functions of the argument arrays,
   and the same arrays from the reference. -/
module

public import proofs.«01_k».proof.Proof.Adam
public import proofs.«01_k».proof.Proof.Gen.AdamHeadWIdeal.Value
public import proofs.«01_k».proof.Proof.Gen.AdamHeadWReferenceIdeal.Run
public import proofs.«01_k».proof.Proof.Gen.AdamHeadWReferenceIdeal.Read

@[expose] public section

set_option maxRecDepth 16384

noncomputable section

namespace Cert.AdamHeadW

open Cert.Common Cert.Adam Idealize.ShloMosaic Idealize.ShloMosaic.TcCoe Idealize.ShloMosaic.ValueIdx
open Idealize.SL.Sem

section
open Cert.AdamHeadWIdeal Cert.AdamHeadWIdeal.Gen

variable (m : (ℓ : Loc nD τ sig) → Buf (Elt Ideal) ℓ) (ρ : Dev nD → PrngReg) (c : Dev nD)

/-- An array's entries in the same order, as a matrix. -/
abbrev mat (a : Arr S4x10x128x128) : Arr S5120x128 := shapeCast S5120x128 a shapeCasts_S4x10x128x128_S5120x128

/-- The change of the weight and the two new moments, as functions of the arguments. -/
abbrev outD : Arr S5120x128 := mat (delta (m (c.tc.loc main_arg0)) (m (c.tc.loc main_arg1)) (m (c.tc.loc main_arg2)) (m (c.tc.loc main_arg3)))
abbrev outM : Arr S5120x128 := mat (newM (m (c.tc.loc main_arg1)) (m (c.tc.loc main_arg2)))
abbrev outV : Arr S5120x128 := mat (newV (m (c.tc.loc main_arg1)) (m (c.tc.loc main_arg3)))

/-- The number of grid points. -/
theorem lt_N (t : Fin cfg0.N) : t.val < 4 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 1280) (b : Fin 128) :
    ((cfg0.win 4).blk t).view.emb (ix2 a b) = ix2 (⟨t.val * 1280 + a.val, by have := lt_N t; omega⟩ : Fin 5120) b := by
  obtain ⟨h0, h1⟩ := idx4 t
  funext x; apply Fin.ext
  match x with
  | ⟨0, _⟩ => show win0_4.index t 0 * 1280 + 1 * a.val = t.val * 1280 + a.val; omega
  | ⟨1, _⟩ => show win0_4.index t 1 * 128 + 1 * b.val = b.val; omega

/-- Every entry of window 4's array is in some grid point's block. -/
theorem covered4 (i : S5120x128.Idx) : ∃ t : Fin cfg0.N, (cfg0.win 4).flush t = true ∧ i ∈ ((cfg0.win 4).blk t).view.set := by
  have h0 : (i 0).val < 5120 := (i 0).isLt
  let t : Fin cfg0.N := ⟨(i 0).val / 1280, (show (i 0).val / 1280 < 4 by omega).trans_le (by decide)⟩
  refine ⟨t, flush0_4 t, ?_⟩
  have h := ((cfg0.win 4).blk t).view.emb_mem_set (ix2 (⟨(i 0).val % 1280, by omega⟩ : Fin 1280) (i 1))
  refine Eq.mp (congrArg (fun q => q ∈ ((cfg0.win 4).blk t).view.set) ((emb4 t _ _).trans ?_)) h
  funext x; apply Fin.ext
  match x with
  | ⟨0, _⟩ => show (i 0).val / 1280 * 1280 + (i 0).val % 1280 = (i 0).val; omega
  | ⟨1, _⟩ => rfl

/-- The arguments' blocks at an entry: the windows move together. -/
theorem iblks (t : Fin cfg0.N) (i : (⟨2, ![1280, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![1280, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![1280, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![1280, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamHeadWReferenceIdeal Cert.AdamHeadWReferenceIdeal.Gen Cert.AdamHeadWReferenceIdeal.Read

/-- The reference's new moments and its change of the weight. -/
theorem newM_eq (g m : Arr S4x10x128x128) : val_main_v4 (F := Ideal) g m = newM g m := rfl
theorem newV_eq (g v : Arr S4x10x128x128) : val_main_v10 (F := Ideal) g v = newV g v := rfl
theorem delta_eq (w g m v : Arr S4x10x128x128) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamHeadW

end
-- ==== Proof.AdamHeadBClaim.lean ====
/- The optimiser's step for the recurrence's gate biases: what the call's run leaves in its result arrays, as functions of the argument arrays,
   and the same arrays from the reference. -/
module

public import proofs.«01_k».proof.Proof.Adam
public import proofs.«01_k».proof.Proof.Gen.AdamHeadBIdeal.Value
public import proofs.«01_k».proof.Proof.Gen.AdamHeadBReferenceIdeal.Run
public import proofs.«01_k».proof.Proof.Gen.AdamHeadBReferenceIdeal.Read

@[expose] public section

set_option maxRecDepth 16384

noncomputable section

namespace Cert.AdamHeadB

open Cert.Common Cert.Adam Idealize.ShloMosaic Idealize.ShloMosaic.TcCoe Idealize.ShloMosaic.ValueIdx
open Idealize.SL.Sem

section
open Cert.AdamHeadBIdeal Cert.AdamHeadBIdeal.Gen

variable (m : (ℓ : Loc nD τ sig) → Buf (Elt Ideal) ℓ) (ρ : Dev nD → PrngReg) (c : Dev nD)

/-- An array's entries in the same order, as a matrix. -/
abbrev mat (a : Arr S4x10x128) : Arr S40x128 := shapeCast S40x128 a shapeCasts_S4x10x128_S40x128

/-- The change of the weight and the two new moments, as functions of the arguments. -/
abbrev outD : Arr S40x128 := mat (delta (m (c.tc.loc main_arg0)) (m (c.tc.loc main_arg1)) (m (c.tc.loc main_arg2)) (m (c.tc.loc main_arg3)))
abbrev outM : Arr S40x128 := mat (newM (m (c.tc.loc main_arg1)) (m (c.tc.loc main_arg2)))
abbrev outV : Arr S40x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 40) (b : Fin 128) :
    ((cfg0.win 4).blk t).view.emb (ix2 a b) = ix2 (⟨t.val * 40 + a.val, by have := lt_N t; omega⟩ : Fin 40) b := by
  obtain ⟨h0, h1⟩ := idx4 t
  funext x; apply Fin.ext
  match x with
  | ⟨0, _⟩ => show win0_4.index t 0 * 40 + 1 * a.val = t.val * 40 + a.val; omega
  | ⟨1, _⟩ => show win0_4.index t 1 * 128 + 1 * b.val = b.val; omega

/-- Every entry of window 4's array is in some grid point's block. -/
theorem covered4 (i : S40x128.Idx) : ∃ t : Fin cfg0.N, (cfg0.win 4).flush t = true ∧ i ∈ ((cfg0.win 4).blk t).view.set := by
  have h0 : (i 0).val < 40 := (i 0).isLt
  let t : Fin cfg0.N := ⟨(i 0).val / 40, (show (i 0).val / 40 < 1 by omega).trans_le (by decide)⟩
  refine ⟨t, flush0_4 t, ?_⟩
  have h := ((cfg0.win 4).blk t).view.emb_mem_set (ix2 (⟨(i 0).val % 40, by omega⟩ : Fin 40) (i 1))
  refine Eq.mp (congrArg (fun q => q ∈ ((cfg0.win 4).blk t).view.set) ((emb4 t _ _).trans ?_)) h
  funext x; apply Fin.ext
  match x with
  | ⟨0, _⟩ => show (i 0).val / 40 * 40 + (i 0).val % 40 = (i 0).val; omega
  | ⟨1, _⟩ => rfl

/-- The arguments' blocks at an entry: the windows move together. -/
theorem iblks (t : Fin cfg0.N) (i : (⟨2, ![40, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![40, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![40, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![40, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamHeadBReferenceIdeal Cert.AdamHeadBReferenceIdeal.Gen Cert.AdamHeadBReferenceIdeal.Read

/-- The reference's new moments and its change of the weight. -/
theorem newM_eq (g m : Arr S4x10x128) : val_main_v4 (F := Ideal) g m = newM g m := rfl
theorem newV_eq (g v : Arr S4x10x128) : val_main_v10 (F := Ideal) g v = newV g v := rfl
theorem delta_eq (w g m v : Arr S4x10x128) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamHeadB

end
-- ==== Proof.AdamFinalClaim.lean ====
/- The optimiser's step for the last norm's weights: what the call's run leaves in its result arrays, as functions of the argument arrays,
   and the same arrays from the reference. -/
module

public import proofs.«01_k».proof.Proof.Adam
public import proofs.«01_k».proof.Proof.Gen.AdamFinalIdeal.Value
public import proofs.«01_k».proof.Proof.Gen.AdamFinalReferenceIdeal.Run
public import proofs.«01_k».proof.Proof.Gen.AdamFinalReferenceIdeal.Read

@[expose] public section

set_option maxRecDepth 16384

noncomputable section

namespace Cert.AdamFinal

open Cert.Common Cert.Adam Idealize.ShloMosaic Idealize.ShloMosaic.TcCoe Idealize.ShloMosaic.ValueIdx
open Idealize.SL.Sem

section
open Cert.AdamFinalIdeal Cert.AdamFinalIdeal.Gen

variable (m : (ℓ : Loc nD τ sig) → Buf (Elt Ideal) ℓ) (ρ : Dev nD → PrngReg) (c : Dev nD)

/-- An array's entries in the same order, as a matrix. -/
abbrev mat (a : Arr S1024) : Arr S8x128 := shapeCast S8x128 a shapeCasts_S1024_S8x128

/-- The change of the weight and the two new moments, as functions of the arguments. -/
abbrev outD : Arr S8x128 := mat (delta (m (c.tc.loc main_arg0)) (m (c.tc.loc main_arg1)) (m (c.tc.loc main_arg2)) (m (c.tc.loc main_arg3)))
abbrev outM : Arr S8x128 := mat (newM (m (c.tc.loc main_arg1)) (m (c.tc.loc main_arg2)))
abbrev outV : Arr S8x128 := mat (newV (m (c.tc.loc main_arg1)) (m (c.tc.loc main_arg3)))

/-- The number of grid points. -/
theorem lt_N (t : Fin cfg0.N) : t.val < 1 := t.isLt.trans_le (by decide)

/-- The arguments as the region finds them. -/
theorem V_args : V m c main_v0 = mat (m (c.tc.loc main_arg0)) ∧ V m c main_v1 = mat (m (c.tc.loc main_arg1)) ∧ V m c main_v2 = mat (m (c.tc.loc main_arg2)) ∧ V m c main_v3 = mat (m (c.tc.loc main_arg3)) := by
  refine ⟨?_, ?_, ?_, ?_⟩ <;> (show StableHlo.after hostOps0 _ _ = _; after_results; rfl)

/-- Where window 4's block lies at grid point `t`. -/
theorem idx4 : ∀ t : Fin cfg0.N, win0_4.index t 0 = t.val ∧ win0_4.index t 1 = 0 :=
  (by decide +kernel : ∀ t : Fin grid0.N, _)

/-- An index of window 4's block as an index of its array. -/
theorem emb4 (t : Fin cfg0.N) (a : Fin 8) (b : Fin 128) :
    ((cfg0.win 4).blk t).view.emb (ix2 a b) = ix2 (⟨t.val * 8 + a.val, by have := lt_N t; omega⟩ : Fin 8) b := by
  obtain ⟨h0, h1⟩ := idx4 t
  funext x; apply Fin.ext
  match x with
  | ⟨0, _⟩ => show win0_4.index t 0 * 8 + 1 * a.val = t.val * 8 + a.val; omega
  | ⟨1, _⟩ => show win0_4.index t 1 * 128 + 1 * b.val = b.val; omega

/-- Every entry of window 4's array is in some grid point's block. -/
theorem covered4 (i : S8x128.Idx) : ∃ t : Fin cfg0.N, (cfg0.win 4).flush t = true ∧ i ∈ ((cfg0.win 4).blk t).view.set := by
  have h0 : (i 0).val < 8 := (i 0).isLt
  let t : Fin cfg0.N := ⟨(i 0).val / 8, (show (i 0).val / 8 < 1 by omega).trans_le (by decide)⟩
  refine ⟨t, flush0_4 t, ?_⟩
  have h := ((cfg0.win 4).blk t).view.emb_mem_set (ix2 (⟨(i 0).val % 8, by omega⟩ : Fin 8) (i 1))
  refine Eq.mp (congrArg (fun q => q ∈ ((cfg0.win 4).blk t).view.set) ((emb4 t _ _).trans ?_)) h
  funext x; apply Fin.ext
  match x with
  | ⟨0, _⟩ => show (i 0).val / 8 * 8 + (i 0).val % 8 = (i 0).val; omega
  | ⟨1, _⟩ => rfl

/-- The arguments' blocks at an entry: the windows move together. -/
theorem iblks (t : Fin cfg0.N) (i : (⟨2, ![8, 128]⟩ : Shape).Idx) :
    iblk m c 0 t i = mat (m (c.tc.loc main_arg0)) (((cfg0.win 4).blk t).view.emb i)
    ∧ iblk m c 1 t i = mat (m (c.tc.loc main_arg1)) (((cfg0.win 4).blk t).view.emb i)
    ∧ iblk m c 2 t i = mat (m (c.tc.loc main_arg2)) (((cfg0.win 4).blk t).view.emb i)
    ∧ iblk m c 3 t i = mat (m (c.tc.loc main_arg3)) (((cfg0.win 4).blk t).view.emb i) := by
  obtain ⟨h0, h1, h2, h3⟩ := V_args m c
  exact ⟨congrFun h0 _, congrFun h1 _, congrFun h2 _, congrFun h3 _⟩

theorem pay_delta (w g m v : Arr ⟨2, ![8, 128]⟩) : k0_pay4 (F := Ideal) w g m v = delta w g m v := by
  unfold k0_pay4 k0_pay3 k0_pay2 k0_pay1
  simp only [shapeCast_self]
  rfl

/-- The call leaves the change of the weight: each grid point writes its block. -/
theorem final4 : (dats m 0 c).arrAt 4 cfg0.N = outD m c := by
  refine (dats m 0 c).arrAt_eq_of_cover 4 (outD m c) (fun t _ => (Value.flushed4 m c t).trans (funext fun i => ?_)) covered4
  obtain ⟨h0, h1, h2, h3⟩ := iblks m c t i
  refine Eq.trans ?_ (delta_at h0 h1 h2 h3)
  show out0_4 _ _ _ _ i = _
  unfold out0_4
  rw [View.canon_unit_zero zz]
  simp only [ld2, pay_delta]

theorem pay_newM (g m : Arr ⟨2, ![8, 128]⟩) : k0_pay2 (F := Ideal) g m = newM g m := by
  unfold k0_pay2 k0_pay1
  simp only [shapeCast_self]
  rfl

/-- The call leaves the new first moment: each grid point writes its block. -/
theorem final5 : (dats m 0 c).arrAt 5 cfg0.N = outM m c := by
  refine (dats m 0 c).arrAt_eq_of_cover 5 (outM m c) (fun t _ => (Value.flushed5 m c t).trans (funext fun i => ?_)) covered4
  obtain ⟨h0, h1, h2, h3⟩ := iblks m c t i
  refine Eq.trans ?_ (newM_at h1 h2)
  show out0_5 _ _ _ _ i = _
  unfold out0_5
  rw [View.canon_unit_zero zz]
  simp only [ld2, pay_newM]

theorem pay_newV (g v : Arr ⟨2, ![8, 128]⟩) : k0_pay3 (F := Ideal) g v = newV g v := by
  unfold k0_pay3 k0_pay1
  simp only [shapeCast_self]
  rfl

/-- The call leaves the new second moment: each grid point writes its block. -/
theorem final6 : (dats m 0 c).arrAt 6 cfg0.N = outV m c := by
  refine (dats m 0 c).arrAt_eq_of_cover 6 (outV m c) (fun t _ => (Value.flushed6 m c t).trans (funext fun i => ?_)) covered4
  obtain ⟨h0, h1, h2, h3⟩ := iblks m c t i
  refine Eq.trans ?_ (newV_at h1 h3)
  show out0_6 _ _ _ _ i = _
  unfold out0_6
  rw [View.canon_unit_zero zz]
  simp only [ld2, pay_newV]

/-- The call leaves the change of the weight and the two new moments, exactly, and its arguments unchanged. -/
theorem run : θ_run defs (onTc (τ := τ) (main (F := Ideal))) ⟨m, fun _ => 0, ρ⟩ fun r => ∀ c : Dev nD,
      r.2.mem (c.tc.loc main_v4_0) = outD m c
      ∧ r.2.mem (c.tc.loc main_v4_1) = outM m c
      ∧ r.2.mem (c.tc.loc main_v4_2) = outV m c
      ∧ same r.2.mem m c main_arg0
      ∧ same r.2.mem m c main_arg1
      ∧ same r.2.mem m c main_arg2
      ∧ same r.2.mem m c main_arg3 :=
  (θ_run defs _ _).mono (fun r h c => ⟨(h c).1.trans (final4 m c), (h c).2.1.trans (final5 m c), (h c).2.2.1.trans (final6 m c), (h c).2.2.2⟩)
    (Value.run_blocks m ρ)

end

namespace Ref

open Cert.AdamFinalReferenceIdeal Cert.AdamFinalReferenceIdeal.Gen Cert.AdamFinalReferenceIdeal.Read

/-- The reference's new moments and its change of the weight. -/
theorem newM_eq (g m : Arr S1024) : val_main_v4 (F := Ideal) g m = newM g m := rfl
theorem newV_eq (g v : Arr S1024) : val_main_v10 (F := Ideal) g v = newV g v := rfl
theorem delta_eq (w g m v : Arr S1024) : val_main_v23 (F := Ideal) w g m v = delta w g m v := rfl

variable (m : (ℓ : Loc nD τ sig) → Buf (Elt Ideal) ℓ) (ρ : Dev nD → PrngReg)

/-- The reference leaves the same arrays and its arguments unchanged. -/
theorem run : θ_run defs (onTc (τ := τ) (main (F := Ideal))) ⟨m, fun _ => 0, ρ⟩ fun r => ∀ c : Dev nD,
      r.2.mem (c.tc.loc main_v24) = mat (delta (m (c.tc.loc main_arg0)) (m (c.tc.loc main_arg1)) (m (c.tc.loc main_arg2)) (m (c.tc.loc main_arg3)))
      ∧ r.2.mem (c.tc.loc main_v25) = mat (newM (m (c.tc.loc main_arg1)) (m (c.tc.loc main_arg2)))
      ∧ r.2.mem (c.tc.loc main_v26) = mat (newV (m (c.tc.loc main_arg1)) (m (c.tc.loc main_arg3)))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v24_eq _ _ _ _).trans (congrArg mat (delta_eq _ _ _ _))),
      (h c).2.1.trans ((val_main_v25_eq _ _).trans (congrArg mat (newM_eq _ _))),
      (h c).2.2.1.trans ((val_main_v26_eq _ _).trans (congrArg mat (newV_eq _ _))), (h c).2.2.2⟩)
    (Value.run m ρ)

end Ref

end Cert.AdamFinal

end
-- ==== Proof.FfnDxRun.lean ====
/- One step of the kernel of the backward pass of the up-projection and its norm, on any buffers: the step that adds a
   product to its rows of the scratch, and the step that then reads them through the norm's derivative, quarter by quarter. -/
module

public import proofs.«01_k».proof.Proof.Rows
public import proofs.«01_k».proof.Proof.Gen.FfnDxIdeal.Skeleton
public import proofs.«01_k».proof.Proof.Gen.FfnDxIdeal.Frame

@[expose] public section

set_option maxRecDepth 16384

noncomputable section

namespace Cert.FfnDx.Frame

open Cert.Common
open Cert.FfnDxIdeal Cert.FfnDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four quarters of a block's rows. -/
abbrev q0 : Rect S1024x1024 := Rect.unit ![0, 0] S256x1024.size inb_S1024x1024_S256x1024_0_0
abbrev q1 : Rect S1024x1024 := Rect.unit ![256, 0] S256x1024.size inb_S1024x1024_S256x1024_256_0
abbrev q2 : Rect S1024x1024 := Rect.unit ![512, 0] S256x1024.size inb_S1024x1024_S256x1024_512_0
abbrev q3 : Rect S1024x1024 := Rect.unit ![768, 0] S256x1024.size inb_S1024x1024_S256x1024_768_0

/-- The four stores that fill a block by quarters. -/
abbrev four (a b c d : Vec F S256x1024 .f32) : List (View.Piece (Elt F) S1024x1024 .f32) :=
  [⟨q3, d⟩, ⟨q2, c⟩, ⟨q1, b⟩, ⟨q0, a⟩]

/-- Four matrices as the quarters of a block. -/
def quarters (a b c d : Vec F S256x1024 .f32) : Vec F S1024x1024 .f32 := View.canon (four a b c d)

/-- Writing the four quarters leaves them, whatever the block held. -/
theorem read_quarters (v : View sig .tc .vmem S1024x1024 .f32) (f : v.ty.Contents (Elt F)) (a b c d : Vec F S256x1024 .f32) :
    v.read (Elt F) (v.writes (Elt F) f (four a b c d)) = quarters a b c d :=
  View.read_writes_eq_canon v f (four a b c d) fun y => View.cover_of_tiledL (four a b c d) S256x1024.size (by sl_kernel_rfl) y

/-- The first result's rows from the finished rows `z`, the norm's argument `x`, its weights `g` and the other cotangent `y`. -/
def dxo (z x : Vec F S1024x1024 .f32) (g : Vec F S1x1x1024 .f32) (y : Vec F S1024x1024 .f32) : Vec F S1024x1024 .f32 :=
  quarters (k0_pay10 (View.ld z q0) (View.ld x q0) g (View.ld y q0)) (k0_pay14 (View.ld z q1) (View.ld x q1) g (View.ld y q1))
    (k0_pay18 (View.ld z q2) (View.ld x q2) g (View.ld y q2)) (k0_pay6 (View.ld z q3) (View.ld x q3) g (View.ld y q3))

/-- The weights' gradient `w` with these rows' share added. -/
def dgo (z x : Vec F S1024x1024 .f32) (w : Vec F S1x1024 .f32) : Vec F S1x1024 .f32 :=
  k0_pay7 (k0_pay19 (k0_pay15 (k0_pay11 (View.ld z q0) (View.ld x q0)) (View.ld z q1) (View.ld x q1)) (View.ld z q2) (View.ld x q2))
    (View.ld z q3) (View.ld x q3) w

/-- The rows of the scratch that a step works on. -/
abbrev rws (i : grid0.Coords) : Rect S2048x1024 := Rect.unit (s := S2048x1024) (k0_off2 i) S1024x1024.size (k0_off2_inb i)

/-- A load of some of the rows just stored. -/
theorem sub_load (v : View sig .tc .vmem S2048x1024 .f32) (i : grid0.Coords) (p : Vec F S1024x1024 .f32) (o : Fin 2 → ℕ) (inb : ∀ a, o a + S256x1024.size a ≤ S2048x1024.size a)
    (k : ℕ) (inb' : ∀ a, (![k, 0] : Fin 2 → ℕ) a + S256x1024.size a ≤ S1024x1024.size a) (h : o = ![1024 * (i 1).val + k, 0]) :
    v.readCov [(⟨rws i, p⟩ : View.Piece (Elt F) S2048x1024 .f32)] (Rect.unit (s := S2048x1024) o S256x1024.size inb).toLoadRect
      = View.ld p (Rect.unit (s := S1024x1024) ![k, 0] S256x1024.size inb') := by
  subst h
  rw [View.readCov_eq_canon']
  funext j
  have e : (Rect.unit (s := S2048x1024) ![1024 * (i 1).val + k, 0] S256x1024.size inb).toLoadRect.idx j
      = (rws i).emb ((Rect.unit (s := S1024x1024) ![k, 0] S256x1024.size inb').emb j) := funext fun a => Fin.ext (by
    match a with
    | ⟨0, _⟩ =>
      show 1024 * (i 1).val + k + 1 * (j (0 : Fin 2)).val = k0_off2 i 0 + 1 * (k + 1 * (j (0 : Fin 2)).val)
      rw [k0_off2_eq]
      show 1024 * (i 1).val + k + 1 * (j (0 : Fin 2)).val = 1024 * (i 1).val + 1 * (k + 1 * (j (0 : Fin 2)).val)
      omega
    | ⟨1, _⟩ =>
      show 0 + 1 * (j (1 : Fin 2)).val = k0_off2 i 1 + 1 * (0 + 1 * (j (1 : Fin 2)).val)
      rw [k0_off2_eq]
      show 0 + 1 * (j (1 : Fin 2)).val = 0 + 1 * (0 + 1 * (j (1 : Fin 2)).val)
      omega)
  rw [e]
  exact View.canon_cons_emb (rws i) p [] _

/-- Two stores of the same rows leave the later. -/
theorem stored_twice {Val : EltTy → Type} {e : EltTy} {S : Shape} {sig : RefSig} {κ : Kind} {sp : Space}
    (v : View sig κ sp S e) (f : v.ty.Contents Val) {o o' : Fin S.rank → ℕ} (h : o' = o) (sz : Fin S.rank → ℕ) (inb : ∀ a, o a + sz a ≤ S.size a) (inb' : ∀ a, o' a + sz a ≤ S.size a)
    (p : (Rect.unit o sz inb).shape.Idx → Val e) (p' : (Rect.unit o' sz inb').shape.Idx → Val e) :
    Stored (v.read Val (v.writes Val f [⟨Rect.unit o sz inb, p⟩, ⟨Rect.unit o' sz inb', p'⟩])) (v.read Val f) (Rect.unit o sz inb) p := by
  subst h
  exact ⟨fun j => View.read_writes_cons_emb v f _ p _ j, fun y hy => (View.read_writes_cons_miss v f ⟨_, p⟩ _ y hy).trans
    (View.read_writes_cons_miss v f ⟨_, p'⟩ [] y hy)⟩

variable (c : Dev nD) (i : grid0.Coords) (arg2 : Memref sig .tc .vmem S1x1024x704 .bf16) (harg2 : arg2.IsWhole) (arg3 : Memref sig .tc .vmem S1x1x704x1024 .bf16) (harg3 : arg3.IsWhole) (arg4 : Memref sig .tc .vmem S1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole) (arg9 : Memref sig .tc .vmem S2048x1024 .f32) (harg9 : arg9.IsWhole)

set_option maxHeartbeats 1000000 in
/-- A step before the last column block: its rows, zero or `p`, get a product added; the first step of all clears the weights' gradient. -/
theorem runA (hc : ¬ k0_cond3 i = 1#1) (x0 : Vec F S1x1024x704 .bf16) (x1 : Vec F S1x1x704x1024 .bf16) (x2 : Vec F S1024x1024 .f32) (x3 : Vec F S1x1x1024 .f32) (x4 y : Vec F S1024x1024 .f32) (w w' : Vec F S1x1024 .f32) (X : Vec F S2048x1024 .f32) (p : Vec F S1024x1024 .f32)
    (hp : k0_cond2 i = 1#1 → p = k0_pay2) (hX : ¬ k0_cond2 i = 1#1 → View.ld X (rws i) = p) (hw : k0_cond1 i = 1#1 → w' = k0_pay1) (hw' : ¬ k0_cond1 i = 1#1 → w' = w)
    (h12 : k0_cond1 i = 1#1 → k0_cond2 i = 1#1) (E : Set ℕ) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare y ∗ owns c.tc arg8 fullShare w ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare y ∗ owns c.tc arg8 fullShare w'
          ∗ (∃ X', ⌜Stored X' X (rws i) (k0_pay3 x0 p x1)⌝ ∗ owns c.tc arg9 fullShare X')) -∗ K ⟨⟩))
      ⊢ wp frame (wpE (defs₀ (F := F)) Variants.none c none) E (cc0_ffn_dx i arg2 harg2 arg3 harg3 arg4 harg4 arg5 harg5 arg6 harg6 arg7 harg7 arg8 harg8 arg9 harg9) K := by
  simp only [cc0_ffn_dx_eq_skeleton]; unfold cc0_ffn_dx_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  by_cases h1 : k0_cond1 i = 1#1
  · have h2 := h12 h1
    sl_exec (disch := first | sl_exact hc | sl_exact h1 | sl_exact h2)
    sl_step
    iapply Hk
    isplitl [H0]; · iexists _; iframe H0 %hf0
    isplitl [H1]; · iexists _; iframe H1 %hf1
    isplitl [H2]; · iexists _; iframe H2 %hf2
    isplitl [H3]; · iexists _; iframe H3 %hf3
    isplitl [H4]; · iexists _; iframe H4 %hf4
    isplitl [H5]; · iexists _; iframe H5 %hf5
    isplitl [H6]; · iexists _; iframe H6; ipureintro; rw [hw h1]; exact read_store _ _ zz _ _
    obtain rfl := hp h2
    unfold runA.sl.v13 runA.sl.H7_1
    have hv : ∀ p : Vec F S1024x1024 .f32, arg9.view.readCov [(⟨Rect.unit (s := S2048x1024) (k0_off1 i) S1024x1024.size (k0_off1_inb i h2), p⟩ : View.Piece (Elt F) S2048x1024 .f32)] (rws i).toLoadRect = p :=
      fun p => readCov_rows arg9.view (rfl : k0_off1 i = k0_off2 i) _ _ _ p []
    simp only [hv, readAt_whole harg2 _ zzz, readAt_whole harg3 _ zzzz]
    iexists _; isplitr
    swap
    · iexists _; isplitr; swap; · iexact H7
      ipureintro; rfl
    ipureintro
    have h := stored_twice (Val := Elt F) arg9.view (harg9.unread X) (o := k0_off2 i) (rfl : k0_off1 i = k0_off2 i) S1024x1024.size (k0_off2_inb i) (k0_off1_inb i h2) (k0_pay3 x0 k0_pay2 x1) k0_pay2
    rw [hf7] at h
    exact h
  · by_cases h2 : k0_cond2 i = 1#1
    · sl_exec (disch := first | sl_exact hc | sl_exact h1 | sl_exact h2)
      sl_step
      iapply Hk
      isplitl [H0]; · iexists _; iframe H0 %hf0
      isplitl [H1]; · iexists _; iframe H1 %hf1
      isplitl [H2]; · iexists _; iframe H2 %hf2
      isplitl [H3]; · iexists _; iframe H3 %hf3
      isplitl [H4]; · iexists _; iframe H4 %hf4
      isplitl [H5]; · iexists _; iframe H5 %hf5
      isplitl [H6]; · iexists _; iframe H6; ipureintro; rw [hw' h1]; exact hf6
      obtain rfl := hp h2
      unfold runA.sl.v13_1 runA.sl.H7_1_1
      have hv : ∀ p : Vec F S1024x1024 .f32, arg9.view.readCov [(⟨Rect.unit (s := S2048x1024) (k0_off1 i) S1024x1024.size (k0_off1_inb i h2), p⟩ : View.Piece (Elt F) S2048x1024 .f32)] (rws i).toLoadRect = p :=
        fun p => readCov_rows arg9.view (rfl : k0_off1 i = k0_off2 i) _ _ _ p []
      simp only [hv, readAt_whole harg2 _ zzz, readAt_whole harg3 _ zzzz]
      iexists _; isplitr
      swap
      · iexists _; isplitr; swap; · iexact H7
        ipureintro; rfl
      ipureintro
      have h := stored_twice (Val := Elt F) arg9.view (harg9.unread X) (o := k0_off2 i) (rfl : k0_off1 i = k0_off2 i) S1024x1024.size (k0_off2_inb i) (k0_off1_inb i h2) (k0_pay3 x0 k0_pay2 x1) k0_pay2
      rw [hf7] at h
      exact h
    · sl_exec (disch := first | sl_exact hc | sl_exact h1 | sl_exact h2)
      sl_step
      iapply Hk
      isplitl [H0]; · iexists _; iframe H0 %hf0
      isplitl [H1]; · iexists _; iframe H1 %hf1
      isplitl [H2]; · iexists _; iframe H2 %hf2
      isplitl [H3]; · iexists _; iframe H3 %hf3
      isplitl [H4]; · iexists _; iframe H4 %hf4
      isplitl [H5]; · iexists _; iframe H5 %hf5
      isplitl [H6]; · iexists _; iframe H6; ipureintro; rw [hw' h1]; exact hf6
      have hh : View.readAt (Elt F) arg9.view (rws i).toLoadRect (harg9.unread X) = p := by
        rw [View.readAt_eq_ld, hf7, hX h2]
      rw [hh]
      simp only [readAt_whole harg2 _ zzz, readAt_whole harg3 _ zzzz]
      iexists _; isplitr
      swap
      · iexists _; isplitr; swap; · iexact H7
        ipureintro; rfl
      ipureintro
      have h := stored_read (Val := Elt F) arg9.view (harg9.unread X) (rws i) (k0_pay3 x0 p x1)
      rw [hf7] at h
      exact h

set_option maxHeartbeats 1000000 in
/-- A step of the last column block: its rows are finished and both results get their share. -/
theorem runB (hc : k0_cond3 i = 1#1) (h1 : ¬ k0_cond1 i = 1#1) (h2 : ¬ k0_cond2 i = 1#1) (x0 : Vec F S1x1024x704 .bf16) (x1 : Vec F S1x1x704x1024 .bf16) (x2 : Vec F S1024x1024 .f32) (x3 : Vec F S1x1x1024 .f32) (x4 y : Vec F S1024x1024 .f32) (w : Vec F S1x1024 .f32) (X : Vec F S2048x1024 .f32) (p : Vec F S1024x1024 .f32)
    (hX : View.ld X (rws i) = p) (E : Set ℕ) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare y ∗ owns c.tc arg8 fullShare w ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare (dxo (k0_pay3 x0 p x1) x2 x3 x4) ∗ owns c.tc arg8 fullShare (dgo (k0_pay3 x0 p x1) x2 w)
          ∗ (∃ X', ⌜Stored X' X (rws i) (k0_pay3 x0 p x1)⌝ ∗ owns c.tc arg9 fullShare X')) -∗ K ⟨⟩))
      ⊢ wp frame (wpE (defs₀ (F := F)) Variants.none c none) E (cc0_ffn_dx i arg2 harg2 arg3 harg3 arg4 harg4 arg5 harg5 arg6 harg6 arg7 harg7 arg8 harg8 arg9 harg9) K := by
  simp only [cc0_ffn_dx_eq_skeleton]; unfold cc0_ffn_dx_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc | sl_exact h1 | sl_exact h2)
  sl_step
  iapply Hk
  have hh : View.readAt (Elt F) arg9.view (rws i).toLoadRect (harg9.unread X) = p := by
    rw [View.readAt_eq_ld, hf7, hX]
  have hL : runB.sl.H7_1 c i arg2 harg2 arg3 harg3 arg9 harg9 x0 x1 X = [⟨rws i, k0_pay3 x0 p x1⟩] := by
    unfold runB.sl.H7_1 runB.sl.v14
    simp only [readAt_whole harg2 _ zzz, readAt_whole harg3 _ zzzz, hh]
  have e0 : runB.sl.v30 c i arg2 harg2 arg3 harg3 arg9 harg9 hc x0 x1 X = View.ld (k0_pay3 x0 p x1) q0 := by
    unfold runB.sl.v30
    rw [hL]
    exact sub_load arg9.view i _ _ (k0_off3_inb i hc 0) 0 inb_S1024x1024_S256x1024_0_0 (k0_off3_eq i 0)
  have e1 : runB.sl.v67 c i arg2 harg2 arg3 harg3 arg9 harg9 hc x0 x1 X = View.ld (k0_pay3 x0 p x1) q1 := by
    unfold runB.sl.v67
    rw [hL]
    exact sub_load arg9.view i _ _ (k0_off3_inb i hc 1) 256 inb_S1024x1024_S256x1024_256_0 (k0_off3_eq i 1)
  have e2 : runB.sl.v104 c i arg2 harg2 arg3 harg3 arg9 harg9 hc x0 x1 X = View.ld (k0_pay3 x0 p x1) q2 := by
    unfold runB.sl.v104
    rw [hL]
    exact sub_load arg9.view i _ _ (k0_off3_inb i hc 2) 512 inb_S1024x1024_S256x1024_512_0 (k0_off3_eq i 2)
  have e3 : runB.sl.v141 c i arg2 harg2 arg3 harg3 arg9 harg9 hc x0 x1 X = View.ld (k0_pay3 x0 p x1) q3 := by
    unfold runB.sl.v141
    rw [hL]
    exact sub_load arg9.view i _ _ (k0_off3_inb i hc 3) 768 inb_S1024x1024_S256x1024_768_0 (k0_off3_eq i 3)
  have l4 : ∀ r : Rect S1024x1024, View.readAt (Elt F) arg4.view r.toLoadRect (harg4.unread x2) = View.ld x2 r := fun r => by rw [View.readAt_eq_ld, hf2]
  have l6 : ∀ r : Rect S1024x1024, View.readAt (Elt F) arg6.view r.toLoadRect (harg6.unread x4) = View.ld x4 r := fun r => by rw [View.readAt_eq_ld, hf4]
  rw [hL]
  simp only [e0, e1, e2, e3, l4, l6, readAt_whole harg5 _ zzz, readAt_whole harg8 _ zz]
  isplitl [H0]; · iexists _; iframe H0 %hf0
  isplitl [H1]; · iexists _; iframe H1 %hf1
  isplitl [H2]; · iexists _; iframe H2 %hf2
  isplitl [H3]; · iexists _; iframe H3 %hf3
  isplitl [H4]; · iexists _; iframe H4 %hf4
  isplitl [H5]; · iexists _; iframe H5; ipureintro; exact read_quarters _ _ _ _ _ _
  isplitl [H6]; · iexists _; iframe H6; ipureintro; exact read_store _ _ zz _ _
  iexists _; isplitr
  swap
  · iexists _; isplitr; swap; · iexact H7
    ipureintro; rfl
  ipureintro
  have h := stored_read (Val := Elt F) arg9.view (harg9.unread X) (rws i) (k0_pay3 x0 p x1)
  rw [hf7] at h
  exact h

end Cert.FfnDx.Frame

end
-- ==== Proof.FfnDxFrame.lean ====
/- The kernel of the backward pass of the up-projection and its norm run on its grid: eight column blocks, two row blocks.
   Each row block's sum grows in the scratch over the column blocks; the last column block's steps turn it into the results. -/
module

public import proofs.«01_k».proof.Proof.FfnDxRun

@[expose] public section

set_option maxRecDepth 16384

noncomputable section

namespace Cert.FfnDx.Frame

open Cert.Common
open Cert.FfnDxIdeal Cert.FfnDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem lt_N (t : Fin cfg0.N) : t.val < 16 := Nat.lt_of_lt_of_eq t.isLt N_0

/-- The step of a number. -/
def pt (n : ℕ) : Fin cfg0.N := ⟨n % 16, Nat.lt_of_lt_of_eq (Nat.mod_lt _ (by decide)) N_0.symm⟩

theorem pt_val (t : Fin cfg0.N) (n : ℕ) (h : n = t.val) : pt n = t :=
  Fin.ext (by show n % 16 = t.val; rw [h]; exact Nat.mod_eq_of_lt (lt_N t))

/-- Row block `i`'s sum after `n` column blocks. -/
def acc (c : Dev nD) (i : ℕ) : ℕ → Vec F S1024x1024 .f32
  | 0 => k0_pay2
  | n + 1 => k0_pay3 (iblk m c 0 (pt (2 * n + i))) (acc c i n) (iblk m c 1 (pt (2 * n + i)))

/-- The weights' gradient after `n` row blocks. -/
def dgs (c : Dev nD) : ℕ → Vec F S1x1024 .f32
  | 0 => k0_pay1
  | n + 1 => dgo (acc m c n 8) (iblk m c 2 (pt (14 + n))) (dgs c n)

/-- After `k` steps the scratch holds the sums so far. -/
def Filled (c : Dev nD) (k : ℕ) (X : Vec F S2048x1024 .f32) : Prop :=
  ∀ i n : ℕ, i < 2 → 0 < n → n = (k + 1 - i) / 2 → View.ld X (rws (grid0.coords (pt i))) = acc m c i n

/-- The scratch. -/
abbrev scr : Memref sig .tc .vmem S2048x1024 .f32 := Memref.whole cc0_scratch0

/-- What holds between the steps. -/
def Inv (c : Dev nD) (k : ℕ) : sProp 𝕄 :=
  iprop((∃ X, ⌜Filled m c k X⌝ ∗ owns c.tc scr fullShare X) ∗ (∃ r, prngReg c r))

/-- What the run starts from and ends with: the scratch at some contents. -/
theorem scoped_eq (c : Dev nD) :
    (Pipeline.ΦA spec0 c : sProp 𝕄) = iprop(iprop((∃ d, owns c.tc scr fullShare d)) ∗ (∃ r, prngReg c r)) := by
  unfold Pipeline.ΦA; rw [scopedRest0_eq]; simp only [scr, owns_whole]; try rfl

/-- The arrays as the region finds them, and what each buffer holds after each step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dxo (acc m c (t.val % 2) 8) (iblk m c 2 t) (iblk m c 3 t) (iblk m c 4 t)
    | ⟨6, _⟩ => dgs m c (t.val - 13)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dxo (acc m c (t.val % 2) 8) (iblk m c 2 t) (iblk m c 3 t) (iblk m c 4 t) := by dsimp only [dats]
theorem after0_6 (c : Dev nD) (t : Fin cfg0.N) : (dats m 0 c).after 6 t = dgs m c (t.val - 13) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- When each condition holds, where the rows of a step start, and when each result is stored and written back. -/
theorem cond1_iff : ∀ t : Fin cfg0.N, k0_cond1 (grid0.coords t) = 1#1 ↔ t.val = 0 :=
  (by decide +kernel : ∀ t : Fin grid0.N, _)
theorem cond2_iff : ∀ t : Fin cfg0.N, k0_cond2 (grid0.coords t) = 1#1 ↔ t.val < 2 :=
  (by decide +kernel : ∀ t : Fin grid0.N, _)
theorem cond3_iff : ∀ t : Fin cfg0.N, k0_cond3 (grid0.coords t) = 1#1 ↔ ¬ t.val < 14 :=
  (by decide +kernel : ∀ t : Fin grid0.N, _)
theorem start : ∀ t : Fin cfg0.N, k0_off2 (grid0.coords t) 0 = 1024 * (t.val % 2) :=
  (by decide +kernel : ∀ t : Fin grid0.N, _)
theorem rws_fst : ∀ t : Fin cfg0.N, k0_off2 (grid0.coords (pt (t.val % 2))) = k0_off2 (grid0.coords t) :=
  (by decide +kernel : ∀ t : Fin grid0.N, _)
theorem idle5 : ∀ t : Fin cfg0.N, cfg0.idle 5 (grid0.coords t) = decide (t.val < 14) :=
  (by decide +kernel : ∀ t : Fin grid0.N, _)
theorem idle6 : ∀ t : Fin cfg0.N, cfg0.idle 6 (grid0.coords t) = decide (t.val ≠ 0 ∧ t.val < 14) :=
  (by decide +kernel : ∀ t : Fin grid0.N, _)
theorem flush5 : ∀ t : Fin cfg0.N, (cfg0.win 5).flush t = decide (¬ t.val < 14) :=
  (by decide +kernel : ∀ t : Fin grid0.N, _)

/-- A step adds its product to its rows' sum. -/
theorem acc_step (c : Dev nD) (t : Fin cfg0.N) :
    k0_pay3 (iblk m c 0 t) (acc m c (t.val % 2) (t.val / 2)) (iblk m c 1 t) = acc m c (t.val % 2) (t.val / 2 + 1) := by
  have e := pt_val t (2 * (t.val / 2) + t.val % 2) (by omega)
  show _ = k0_pay3 (iblk m c 0 (pt (2 * (t.val / 2) + t.val % 2))) (acc m c (t.val % 2) (t.val / 2)) (iblk m c 1 (pt (2 * (t.val / 2) + t.val % 2)))
  rw [e]

/-- The same rows, named by their first step. -/
theorem ld_fst (X : Vec F S2048x1024 .f32) (t : Fin cfg0.N) : View.ld X (rws (grid0.coords (pt (t.val % 2)))) = View.ld X (rws (grid0.coords t)) := by
  have hr : ∀ (o o' : Fin 2 → ℕ) (p : ∀ a, o a + S1024x1024.size a ≤ S2048x1024.size a) (p' : ∀ a, o' a + S1024x1024.size a ≤ S2048x1024.size a), o = o' →
      View.ld X (Rect.unit (s := S2048x1024) o S1024x1024.size p) = View.ld X (Rect.unit (s := S2048x1024) o' S1024x1024.size p') := by
    intro o o' p p' ho; subst ho; rfl
  exact hr _ _ _ _ (rws_fst t)

/-- A step's store keeps the scratch as stated. -/
theorem filled_step (c : Dev nD) (t : Fin cfg0.N) (X X' : Vec F S2048x1024 .f32) (h : Filled m c t.val X)
    (hs : Stored X' X (rws (grid0.coords t)) (acc m c (t.val % 2) (t.val / 2 + 1))) : Filled m c (t.val + 1) X' := by
  intro i n hi hn hk
  by_cases hit : i = t.val % 2
  · subst hit
    rw [ld_fst, show n = t.val / 2 + 1 by omega]
    exact hs.ld
  · rw [← h i n hi hn (by omega)]
    refine hs.ld_other (rws (grid0.coords (pt i))) fun j => ?_
    refine rows_apart (M := 2048) (N := 1024) (m := 1024) (n := 1024) _ _ (k0_off2_inb (grid0.coords t)) (k0_off2_inb (grid0.coords (pt i))) ?_ j
    have e : (pt i).val = i := Nat.mod_eq_of_lt (by omega)
    rw [start, start, e]; omega

/-- A step after the first column block finds its rows' sum. -/
theorem filled_ld (c : Dev nD) (t : Fin cfg0.N) (ht : ¬ t.val < 2) (X : Vec F S2048x1024 .f32) (h : Filled m c t.val X) :
    View.ld X (rws (grid0.coords t)) = acc m c (t.val % 2) (t.val / 2) := by
  rw [← ld_fst]
  exact h _ _ (by omega) (by omega) (by omega)

/-- The second result's buffer after the first step. -/
theorem before6 (c : Dev nD) : ∀ (k : ℕ) (t : Fin cfg0.N), t.val = k + 1 → ∀ d, (dats m 0 c).before 6 t d = dgs m c (t.val - 14) := by
  have hl : ∀ (t : Fin cfg0.N) (ht : t.val ≠ 0) (d), (dats m 0 c).before 6 t d = (dats m 0 c).left 6 ⟨t.val - 1, Nat.lt_of_le_of_lt (Nat.sub_le _ _) t.isLt⟩ d := fun t ht d => by
    have h16 := lt_N t
    rw [Dat.before_of_pos _ 6 t ht rfl, if_neg (by rw [flush0_6]; show ¬ (t.val - 1) % 16 = 15; omega)]
  have hv : ∀ (t : Fin cfg0.N) (d), ¬ (t.val ≠ 0 ∧ t.val < 14) → (dats m 0 c).left 6 t d = dgs m c (t.val - 13) := fun t d h => by
    unfold Dat.left
    rw [idle6 t, decide_eq_false h]
    exact after0_6 m c t
  intro k
  induction k with
  | zero =>
    intro t ht d
    rw [hl t (by omega) d, hv _ d (by show ¬ (t.val - 1 ≠ 0 ∧ _); omega)]
    show dgs m c (t.val - 1 - 13) = _
    rw [show t.val - 1 - 13 = t.val - 14 by omega]
  | succ k ih =>
    intro t ht d
    rw [hl t (by omega) d]
    by_cases h : t.val - 1 < 14
    · unfold Dat.left
      rw [idle6 _, decide_eq_true (show t.val - 1 ≠ 0 ∧ t.val - 1 < 14 from ⟨by omega, h⟩)]
      refine (ih ⟨t.val - 1, _⟩ (show t.val - 1 = k + 1 by omega) d).trans ?_
      show dgs m c (t.val - 1 - 14) = _
      rw [show t.val - 1 - 14 = t.val - 14 by omega]
    · rw [hv _ d (by show ¬ (_ ∧ t.val - 1 < 14); omega)]
      show dgs m c (t.val - 1 - 13) = _
      rw [show t.val - 1 - 13 = t.val - 14 by omega]

/-- What the first result's buffer holds after a step that leaves it. -/
theorem leaves5 (c : Dev nD) (t : Fin cfg0.N) (ht : t.val < 14) (d) :
    owns c.tc (win0_5.stage (cfg0.slots t 5)) fullShare ((dats m 0 c).before 5 t d) ⊢ ((dats m 0 c).leavesExact 5 t : sProp 𝕄) := by
  rw [Dat.leavesExact_idle _ 5 t (by rw [idle5 t, decide_eq_true ht]) (by rw [flush5 t, decide_eq_false (not_not.mpr ht)])]
  iintro H; iexists d; iexact H

/-- What the second's holds after a step before the last column block. -/
theorem leaves6 (c : Dev nD) (t : Fin cfg0.N) (ht : t.val < 14) (d) :
    owns c.tc (win0_6.stage (cfg0.slots t 6)) fullShare (if t.val = 0 then k0_pay1 else (dats m 0 c).before 6 t d) ⊢ ((dats m 0 c).leavesExact 6 t : sProp 𝕄) := by
  by_cases h0 : t.val = 0
  · rw [if_pos h0]
    unfold Dat.leavesExact
    rw [idle6 t, decide_eq_false (by omega), after0_6, h0]
    exact .rfl
  · rw [if_neg h0, Dat.leavesExact_idle _ 6 t (by rw [idle6 t, decide_eq_true ⟨h0, ht⟩]) (by rw [Bool.eq_false_iff, Ne, flush0_6]; omega)]
    iintro H; iexists d; iexact H

/-- What the body is called with, -/
def bodyPre (c : Dev nD) (t : Fin cfg0.N) : sProp 𝕄 :=
  iprop((dats m 0 c).Φ t.castSucc ∗ (dats m 0 c).owesAt () t.castSucc
    ∗ (∃ d, owns c.tc (win0_0.stage (cfg0.slots t 0)) fullShare ((dats m 0 c).before 0 t d))
    ∗ (∃ d, owns c.tc (win0_1.stage (cfg0.slots t 1)) fullShare ((dats m 0 c).before 1 t d))
    ∗ (∃ d, owns c.tc (win0_2.stage (cfg0.slots t 2)) fullShare ((dats m 0 c).before 2 t d))
    ∗ (∃ d, owns c.tc (win0_3.stage (cfg0.slots t 3)) fullShare ((dats m 0 c).before 3 t d))
    ∗ (∃ d, owns c.tc (win0_4.stage (cfg0.slots t 4)) fullShare ((dats m 0 c).before 4 t d))
    ∗ (∃ d, owns c.tc (win0_5.stage (cfg0.slots t 5)) fullShare ((dats m 0 c).before 5 t d))
    ∗ (∃ d, owns c.tc (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1000000 in
/-- The body at any step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = Inv m c t.val from rfl, show (dats m 0 c).Φ t.succ = Inv m c (t.val + 1) from rfl]
  rw [show (dats m 0 c).leavesExact 0 t = owns c.tc (win0_0.stage (cfg0.slots t 0)) fullShare ((dats m 0 c).after 0 t) from rfl, after0_0]
  rw [show (dats m 0 c).leavesExact 1 t = owns c.tc (win0_1.stage (cfg0.slots t 1)) fullShare ((dats m 0 c).after 1 t) from rfl, after0_1]
  rw [show (dats m 0 c).leavesExact 2 t = owns c.tc (win0_2.stage (cfg0.slots t 2)) fullShare ((dats m 0 c).after 2 t) from rfl, after0_2]
  rw [show (dats m 0 c).leavesExact 3 t = owns c.tc (win0_3.stage (cfg0.slots t 3)) fullShare ((dats m 0 c).after 3 t) from rfl, after0_3]
  rw [show (dats m 0 c).leavesExact 4 t = owns c.tc (win0_4.stage (cfg0.slots t 4)) fullShare ((dats m 0 c).after 4 t) from rfl, after0_4]
  unfold Inv
  have h16 := lt_N t
  by_cases ht : t.val < 14
  · iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ (Memref.isWhole_whole _) (fun h => (cond3_iff t).1 h ht) (iblk m c 0 t) (iblk m c 1 t) (iblk m c 2 t) (iblk m c 3 t) (iblk m c 4 t) _ _ (if t.val = 0 then k0_pay1 else (dats m 0 c).before 6 t d6) X (acc m c (t.val % 2) (t.val / 2))
      (fun h => by rw [show t.val / 2 = 0 by have := (cond2_iff t).1 h; omega]; rfl) (fun h => filled_ld m c t (fun h' => h ((cond2_iff t).2 h')) X hX)
      (fun h => if_pos ((cond1_iff t).1 h)) (fun h => if_neg fun h' => h ((cond1_iff t).2 h')) (fun h => (cond2_iff t).2 (by rw [(cond1_iff t).1 h]; decide)) Set.univ _)
    iframe H0 H1 H2 H3 H4 H5 H6 HS
    iintro ⟨H0, H1, H2, H3, H4, H5, H6, ⟨%X', %hX', HS⟩⟩
    isplitl [HS Hg]
    · isplitl [HS]
      · iexists X'; isplitr; swap; · iexact HS
        ipureintro; exact filled_step m c t X X' hX (by rw [acc_step] at hX'; exact hX')
      iexact Hg
    iframe Ho H0 H1 H2 H3 H4
    isplitl [H5]; · iapply (leaves5 m c t ht d5); iexact H5
    iapply (leaves6 m c t ht d6); iexact H6
  · have e5 : (dats m 0 c).leavesExact 5 t = owns c.tc (win0_5.stage (cfg0.slots t 5)) fullShare ((dats m 0 c).after 5 t) := by
      unfold Dat.leavesExact; rw [idle5 t, decide_eq_false ht]
    have e6 : (dats m 0 c).leavesExact 6 t = owns c.tc (win0_6.stage (cfg0.slots t 6)) fullShare ((dats m 0 c).after 6 t) := by
      unfold Dat.leavesExact; rw [idle6 t, decide_eq_false (fun h => ht h.2)]
    have ez : k0_pay3 (iblk m c 0 t) (acc m c (t.val % 2) (t.val / 2)) (iblk m c 1 t) = acc m c (t.val % 2) 8 := by
      rw [acc_step, show t.val / 2 + 1 = 8 by omega]
    have eg : dgs m c (t.val - 13) = dgo (acc m c (t.val % 2) 8) (iblk m c 2 t) (dgs m c (t.val - 14)) := by
      rw [show t.val - 13 = t.val - 14 + 1 by omega]
      show dgo (acc m c (t.val - 14) 8) (iblk m c 2 (pt (14 + (t.val - 14)))) (dgs m c (t.val - 14)) = _
      rw [pt_val t (14 + (t.val - 14)) (by omega), show t.val - 14 = t.val % 2 by omega]
    rw [e5, e6, after0_5, after0_6, eg]
    iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩⟩
    rw [before6 m c (t.val - 1) t (by omega) d6]
    iapply (runB c (grid0.coords t) _ _ _ _ _ _ _ _ _ _ _ _ _ _ _ (Memref.isWhole_whole _) ((cond3_iff t).2 ht) (fun h => ht (by rw [(cond1_iff t).1 h]; decide)) (fun h => ht (by have := (cond2_iff t).1 h; omega)) (iblk m c 0 t) (iblk m c 1 t) (iblk m c 2 t) (iblk m c 3 t) (iblk m c 4 t) _ _ X
      (acc m c (t.val % 2) (t.val / 2)) (filled_ld m c t (by omega) X hX) Set.univ _)
    iframe H0 H1 H2 H3 H4 H5 H6 HS
    rw [ez]
    rw [show acc m c (t.val % 2) 8 = acc m c (t.val % 2) (t.val / 2 + 1) by rw [show t.val / 2 + 1 = 8 by omega]]
    iintro ⟨H0, H1, H2, H3, H4, H5, H6, ⟨%X', %hX', HS⟩⟩
    isplitl [HS Hg]
    · isplitl [HS]
      · iexists X'; isplitr; swap; · iexact HS
        ipureintro; exact filled_step m c t X X' hX hX'
      iexact Hg
    iframe Ho H0 H1 H2 H3 H4 H5
    iexact H6

theorem defs₀_row (t : Fin cfg0.N) :
    defs₀ (F := F) .tc cfg0.body (cfg0.bodyArgs t (cfg0.slots t)) = bodyAt0 t := by
  unfold defs₀; rw [Defs.onTc_tc]

/-- The body meets what the pipeline asks of it at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem start_inv (c : Dev nD) : (Pipeline.ΦA spec0 c : sProp 𝕄) ⊢ (dats m 0 c).Φ 0 := by
  rw [scoped_eq, show (dats m 0 c).Φ 0 = Inv m c 0 from rfl]
  unfold Inv
  iintro ⟨⟨%d, H⟩, Hg⟩
  isplitl [H]
  · iexists d; isplitr; swap; · iexact H
    ipureintro; exact fun i n hi hn hk => absurd hk (by omega)
  iexact Hg

theorem end_inv (c : Dev nD) : (dats m 0 c).Φ (Fin.last cfg0.N) ⊢ (Pipeline.ΦA spec0 c : sProp 𝕄) := by
  rw [scoped_eq, show (dats m 0 c).Φ (Fin.last cfg0.N) = Inv m c cfg0.N from rfl]
  unfold Inv
  iintro ⟨⟨%X, -, H⟩, Hg⟩
  isplitl [H]
  · iexists X; iexact H
  iexact Hg

set_option backward.isDefEq.respectTransparency.types false in
/-- Every run ends with every array at what its buffers were written back as, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := start_inv m) (hout := end_inv m)

theorem run_main : θ_run defs (onTc (τ := τ) (main (F := F))) (s₀ m ρ) (Pipeline.FramePost cfgs (dats m) 0 (V m)) :=
  (θ_run defs _ _).mono (fun _ h => h.1) (run_main_quiescent m ρ)

end Cert.FfnDx.Frame

end
-- ==== Proof.FfnDxClaim.lean ====
/- The backward pass of the feed-forward up-projection and of the norm before it: the hidden value's cotangent is multiplied by the
   weights' transpose and taken through the normalisation of the rows. What the call's run leaves in its two result arrays, as
   functions of the argument arrays, and the same from the reference, whatever the arguments. -/
module

public import proofs.«01_k».proof.Proof.FfnDxFrame
public import proofs.«01_k».proof.Proof.Norm
public import proofs.«01_k».proof.Proof.Finite
public import Idealize.ShloMosaic.Lib.Pipeline.ReadBack
public import proofs.«01_k».proof.Proof.Gen.FfnDxReferenceIdeal.Run
public import proofs.«01_k».proof.Proof.Gen.FfnDxReferenceIdeal.Read

@[expose] public section

set_option maxRecDepth 16384

noncomputable section

namespace Cert.FfnDx

open Cert.Common Idealize.ShloMosaic Idealize.ShloMosaic.TcCoe Idealize.ShloMosaic.ValueIdx
open Idealize.SL.Sem
open scoped BigOperators

/-- An entry of a row, normalised. -/
def xr {M : ℕ} (x : Mat M 1024) (a : Fin M) (b : Fin 1024) : EReal := x (ix2 a b) * rinv x a

/-- Rows `z` of the normalised rows' cotangent (before the column weights `g`), taken through the norm of `x` and added to `y`. -/
def through {M : ℕ} (z x : Mat M 1024) (g : Fin 1024 → EReal) (y : Mat M 1024) (a : Fin M) (b : Fin 1024) : EReal :=
  y (ix2 a b) + rinv x a * (z (ix2 a b) * g b
    - xr x a b * Ideal.div (∑ k : Fin 1024, z (ix2 a k) * g k * xr x a k) (Ideal.ofBits .f32 0x44800000#32))

/-- One product of the hidden value's cotangent with the weights' transpose, -/
def term (u : Mat 2048 5632) (w : Mat 1024 5632) (a : Fin 2048) (b : Fin 1024) (k : Fin 5632) : EReal := u (ix2 a k) * w (ix2 b k)

/-- and their sum. -/
def dn (u : Mat 2048 5632) (w : Mat 1024 5632) : Mat 2048 1024 := fun i => ∑ k : Fin 5632, term u w (i 0) (i 1) k

/-- One row's part of the column weights' gradient. -/
def part {M : ℕ} (z x : Mat M 1024) (b : Fin 1024) (a : Fin M) : EReal := z (ix2 a b) * xr x a b

/-- The first result: the rows' cotangent. -/
def res0 (u : Mat 2048 5632) (w : Mat 1024 5632) (x : Mat 2048 1024) (g : Mat 4 1024) (y : Mat 2048 1024) : Mat 2048 1024 := fun i =>
  through (dn u w) x (fun k => g (ix2 0 k)) y (i 0) (i 1)

/-- The second result: the column weights' gradient. -/
def res1 (u : Mat 2048 5632) (w : Mat 1024 5632) (x : Mat 2048 1024) : Mat 1 1024 := fun i =>
  ∑ a : Fin 2048, part (dn u w) x (i 1) a

/-- A sum over the first numbers as a sum over an index type. -/
theorem sum_fin {n : ℕ} (f : Fin n → EReal) : ∑ k ∈ Finset.range n, (if h : k < n then f ⟨k, h⟩ else 0) = ∑ k : Fin n, f k := by
  rw [Finset.sum_range]
  exact Finset.sum_congr rfl fun k _ => dif_pos k.isLt

/-- A sum over the first 1024 numbers by quarters. -/
theorem sum_quarters (f : ℕ → EReal) : ∑ k ∈ Finset.range 1024, f k
    = ∑ k ∈ Finset.range 256, f k + ∑ k ∈ Finset.range 256, f (256 + k) + ∑ k ∈ Finset.range 256, f (512 + k) + ∑ k ∈ Finset.range 256, f (768 + k) := by
  rw [show (1024 : ℕ) = 256 + 256 + 256 + 256 from rfl, Finset.sum_range_add, Finset.sum_range_add, Finset.sum_range_add]

section
open Cert.FfnDxIdeal Cert.FfnDxIdeal.Gen Cert.FfnDx.Frame

/-- Products with a row's normalised entries, summed down a quarter's columns. -/
theorem share (z x : Mat 256 1024) (e : Fin 1) (b : Fin 1024) :
    shapeCast S1x1024 (multiReduction .add [0] S1024 (mulf (φ := .f32) (F := Ideal) z (k0_pay5 (F := Ideal) x)) 0x00000000#32 reduces_S256x1024_S1024 (.inl rfl) rfl) shapeCasts_S1024_S1x1024 (ix2 e b)
      = ∑ a : Fin 256, part z x b a := by
  refine (cast_row _ _ e b).trans ((col_sum _ _ _ _ b).trans (Finset.sum_congr rfl fun a _ => ?_))
  refine congrArg (z (ix2 a b) * ·) (congrArg (x (ix2 a b) * ·) ?_)
  exact (spread_col (by decide) _ _ a b).trans (kernel_rinv x _ _ _ _ a 0)

/-- A quarter taken through the norm. -/
theorem pay6 (z x : Mat 256 1024) (g : Vec Ideal S1x1x1024 .f32) (y : Mat 256 1024) (a : Fin 256) (b : Fin 1024) :
    k0_pay6 (F := Ideal) z x g y (ix2 a b) = through z x (fun k => g (ix3 0 0 k)) y a b := by
  have hr : ∀ j, k0_pay4 (F := Ideal) x (ix2 a j) = rinv x a := fun j => kernel_rinv x _ _ _ _ a j
  have hn : ∀ k, k0_pay5 (F := Ideal) x (ix2 a k) = xr x a k := fun k =>
    congrArg (x (ix2 a k) * ·) ((spread_col (by decide) _ _ a k).trans (hr 0))
  have hg : ∀ k, broadcastTo S256x1024 (shapeCast S1x1024 g shapeCasts_S1x1x1024_S1x1024) broadcasts_S1x1024_S256x1024 (ix2 a k) = g (ix3 0 0 k) := fun k =>
    (spread_row (by decide) _ _ a k).trans (cast_drop g _ 0 k)
  unfold k0_pay6 through
  refine congrArg (y (ix2 a b) + ·) (congrArg₂ (· * ·) ((spread_col (by decide) _ _ a b).trans (hr 0)) (congrArg₂ (· - ·) (congrArg (z (ix2 a b) * ·) (hg b))
    (congrArg₂ (· * ·) (hn b) ((spread_col (by decide) _ _ a b).trans (congrArg (Ideal.div · _) ((cast_col _ _ a 0).trans ((row_sum _ _ _ _ a).trans
      (Finset.sum_congr rfl fun k _ => congrArg₂ (· * ·) (congrArg (z (ix2 a k) * ·) (hg k)) (hn k)))))))))

/-- A place of a quarter as a place of its block. -/
theorem emb_q (o : ℕ) (inb : ∀ a, (![o, 0] : Fin 2 → ℕ) a + S256x1024.size a ≤ S1024x1024.size a) (a : Fin 256) (b : Fin 1024) (A : Fin 1024) (hA : A.val = o + a.val) :
    (Rect.unit (s := S1024x1024) ![o, 0] S256x1024.size inb).emb (ix2 a b) = ix2 A b := by
  funext x; apply Fin.ext
  match x with
  | ⟨0, _⟩ => show o + 1 * a.val = A.val; omega
  | ⟨1, _⟩ => show 0 + 1 * b.val = b.val; omega

/-- A row of one matrix that is a row of another has the same root, -/
theorem rinv_row {M N : ℕ} (x : Mat M 1024) (x' : Mat N 1024) (a : Fin M) (A : Fin N) (h : ∀ k, x (ix2 a k) = x' (ix2 A k)) : rinv x a = rinv x' A := by
  unfold rinv
  simp only [h]

/-- and the same normalised entries, -/
theorem xr_row {M N : ℕ} (x : Mat M 1024) (x' : Mat N 1024) (a : Fin M) (A : Fin N) (h : ∀ k, x (ix2 a k) = x' (ix2 A k)) (b : Fin 1024) : xr x a b = xr x' A b := by
  unfold xr
  rw [h, rinv_row x x' a A h]

/-- and is taken through the norm alike. -/
theorem through_row {M N : ℕ} (z x y : Mat M 1024) (z' x' y' : Mat N 1024) (g g' : Fin 1024 → EReal) (a : Fin M) (A : Fin N) (hz : ∀ k, z (ix2 a k) = z' (ix2 A k))
    (hx : ∀ k, x (ix2 a k) = x' (ix2 A k)) (hy : ∀ k, y (ix2 a k) = y' (ix2 A k)) (hg : ∀ k, g k = g' k) (b : Fin 1024) :
    through z x g y a b = through z' x' g' y' A b := by
  unfold through
  simp only [hz, hy, hg, xr_row x x' a A hx, rinv_row x x' a A hx]

/-- A block's rows taken through the norm, quarter by quarter. -/
theorem dxo_eq (z x : Mat 1024 1024) (g : Vec Ideal S1x1x1024 .f32) (y : Mat 1024 1024) (a : Fin 1024) (b : Fin 1024) :
    dxo (F := Ideal) z x g y (ix2 a b) = through z x (fun k => g (ix3 0 0 k)) y a b := by
  have key : ∀ (o : ℕ) (inb : ∀ a, (![o, 0] : Fin 2 → ℕ) a + S256x1024.size a ≤ S1024x1024.size a) (j : S256x1024.Idx),
      k0_pay6 (F := Ideal) (View.ld z (Rect.unit (s := S1024x1024) ![o, 0] S256x1024.size inb)) (View.ld x (Rect.unit (s := S1024x1024) ![o, 0] S256x1024.size inb)) g
          (View.ld y (Rect.unit (s := S1024x1024) ![o, 0] S256x1024.size inb)) j
        = (fun i : S1024x1024.Idx => through z x (fun k => g (ix3 0 0 k)) y (i 0) (i 1)) ((Rect.unit (s := S1024x1024) ![o, 0] S256x1024.size inb).emb j) := by
    intro o inb j
    have h0 : o + 256 ≤ 1024 := inb 0
    obtain ⟨a, b, rfl⟩ : ∃ (a : Fin 256) (b : Fin 1024), j = ix2 a b := ⟨j 0, j 1, eq_ix2 j⟩
    have e := fun k => emb_q o inb a k ⟨o + a.val, by omega⟩ rfl
    rw [e b]
    refine (pay6 _ _ g _ a b).trans (through_row _ _ _ _ _ _ _ _ a ⟨o + a.val, by omega⟩ (fun k => ?_) (fun k => ?_) (fun k => ?_) (fun _ => rfl) b)
    · exact congrArg z (e k)
    · exact congrArg x (e k)
    · exact congrArg y (e k)
  have h1 : k0_pay10 (F := Ideal) = k0_pay6 := rfl
  have h2 : k0_pay14 (F := Ideal) = k0_pay6 := rfl
  have h3 : k0_pay18 (F := Ideal) = k0_pay6 := rfl
  have hc : ∀ a b c d : Vec Ideal S256x1024 .f32, ∀ y, ∃ p ∈ four a b c d, y ∈ p.1.set := fun a b c d y =>
    View.cover_of_tiledL (four a b c d) S256x1024.size (by sl_kernel_rfl) y
  have hq : ∀ (G : Vec Ideal S1024x1024 .f32) (a b c d : Vec Ideal S256x1024 .f32), (∀ j, d j = G (q3.emb j)) → (∀ j, c j = G (q2.emb j)) → (∀ j, b j = G (q1.emb j)) → (∀ j, a j = G (q0.emb j)) →
      ∀ y, quarters a b c d y = G y := fun G a b c d hd hc' hb ha y =>
    View.canon_append_of_piecesOf (Val := Elt Ideal) G [] (four a b c d) ⟨hd, hc', hb, ha, trivial⟩ y (hc a b c d y)
  unfold dxo
  rw [h1, h2, h3]
  exact hq (fun i => through z x (fun k => g (ix3 0 0 k)) y (i 0) (i 1)) _ _ _ _ (key 768 _) (key 512 _) (key 256 _) (key 0 _) (ix2 a b)

/-- A block's share of the column weights' gradient, added by quarters. -/
theorem dgo_eq (z x : Mat 1024 1024) (w : Mat 1 1024) (e : Fin 1) (b : Fin 1024) :
    dgo (F := Ideal) z x w (ix2 e b) = w (ix2 e b) + ∑ a : Fin 1024, part z x b a := by
  have key : ∀ (o : ℕ) (inb : ∀ a, (![o, 0] : Fin 2 → ℕ) a + S256x1024.size a ≤ S1024x1024.size a),
      ∑ a : Fin 256, part (View.ld (Val := Elt Ideal) (e' := .f32) z (Rect.unit (s := S1024x1024) ![o, 0] S256x1024.size inb)) (View.ld (Val := Elt Ideal) (e' := .f32) x (Rect.unit (s := S1024x1024) ![o, 0] S256x1024.size inb)) b a
        = ∑ k ∈ Finset.range 256, (fun k => if h : k < 1024 then part z x b ⟨k, h⟩ else 0) (o + k) := by
    intro o inb
    have h0 : o + 256 ≤ 1024 := inb 0
    rw [Finset.sum_range]
    refine Finset.sum_congr rfl fun a _ => ?_
    have e := fun k => emb_q o inb a k ⟨o + a.val, by omega⟩ rfl
    refine Eq.trans ?_ (dif_pos (show o + a.val < 1024 by omega)).symm
    exact congrArg₂ (fun p q : EReal => p * q) (congrArg z (e b)) (xr_row _ x a _ (fun k => congrArg x (e k)) b)
  have hs : dgo (F := Ideal) z x w (ix2 e b) = w (ix2 e b) + (((0 + ∑ a : Fin 256, part (View.ld (Val := Elt Ideal) (e' := .f32) z q0) (View.ld (Val := Elt Ideal) (e' := .f32) x q0) b a) + ∑ a : Fin 256, part (View.ld (Val := Elt Ideal) (e' := .f32) z q1) (View.ld (Val := Elt Ideal) (e' := .f32) x q1) b a)
      + ∑ a : Fin 256, part (View.ld (Val := Elt Ideal) (e' := .f32) z q2) (View.ld (Val := Elt Ideal) (e' := .f32) x q2) b a + ∑ a : Fin 256, part (View.ld (Val := Elt Ideal) (e' := .f32) z q3) (View.ld (Val := Elt Ideal) (e' := .f32) x q3) b a) := by
    unfold dgo k0_pay7
    rw [shapeCast_self]
    refine congrArg (w (ix2 e b) + ·) (congrArg₂ (· + ·) (congrArg₂ (· + ·) (congrArg₂ (· + ·) (congrArg₂ (· + ·) Ideal.ofBits_zero_f32 ?_) ?_) ?_) ?_) <;> exact share _ _ e b
  rw [hs, key, key, key, key, zero_add, ← sum_fin (part z x b), sum_quarters]
  simp only [Nat.zero_add]

variable (m : (ℓ : Loc nD τ sig) → Buf (Elt Ideal) ℓ) (ρ : Dev nD → PrngReg)

/-- The hidden value's cotangent as the region finds it: cut into eight column blocks. -/
theorem V_main_v1 (c : Dev nD) (e : Fin 8) (a : Fin 2048) (b : Fin 704) :
    V m c main_v1 (ix3 e a b) = m (c.tc.loc main_arg0) (ix2 a ⟨e.val * 704 + b.val, by omega⟩) := by
  have h : V m c main_v1 = transpose S8x2048x704 [1, 0, 2] (shapeCast S2048x8x704 (m (c.tc.loc main_arg0))
      shapeCasts_S2048x5632_S2048x8x704) transposes_S2048x8x704_S8x2048x704_1_0_2 := by
    show StableHlo.after hostOps0 _ (Proc.devRef .tc main_v1) = _
    after_results
    rfl
  rw [h]
  refine (transpose_apply [1, 0, 2] _ transposes_S2048x8x704_S8x2048x704_1_0_2 _ (ix3 a e b) (fun x => ?_)).trans ?_
  · match x with
    | ⟨0, _⟩ => rfl
    | ⟨1, _⟩ => rfl
    | ⟨2, _⟩ => rfl
  · refine shapeCast_apply _ shapeCasts_S2048x5632_S2048x8x704 (ix3 a e b) (ix2 a (⟨e.val * 704 + b.val, by omega⟩ : Fin 5632)) ?_
    rw [Shape.rowMajor_val_two, Shape.rowMajor_val_three]
    show a.val * 5632 + (e.val * 704 + b.val) = (a.val * 8 + e.val) * 704 + b.val
    omega

/-- The weights as the region finds them: transposed and cut into 8 matrices of 704 rows. -/
theorem V_main_v3 (c : Dev nD) (l : Fin 1) (e : Fin 8) (a : Fin 704) (b : Fin 1024) :
    V m c main_v3 (ix4 l e a b) = m (c.tc.loc main_arg1) (ix2 b ⟨e.val * 704 + a.val, by omega⟩) := by
  have h : V m c main_v3 = shapeCast S1x8x704x1024 (transpose S5632x1024 [1, 0]
      (m (c.tc.loc main_arg1)) transposes_S1024x5632_S5632x1024_1_0) shapeCasts_S5632x1024_S1x8x704x1024 := by
    show StableHlo.after hostOps0 _ (Proc.devRef .tc main_v3) = _
    after_results
    rfl
  rw [h]
  refine (shapeCast_apply _ shapeCasts_S5632x1024_S1x8x704x1024 (ix4 l e a b) (ix2 (⟨e.val * 704 + a.val, by omega⟩ : Fin 5632) b) ?_).trans ?_
  · rw [Shape.rowMajor_val_two, Shape.rowMajor_val_four]
    show (e.val * 704 + a.val) * 1024 + b.val = ((l.val * 8 + e.val) * 704 + a.val) * 1024 + b.val
    omega
  · refine transpose_apply [1, 0] _ transposes_S1024x5632_S5632x1024_1_0 _ (ix2 b ⟨e.val * 704 + a.val, by omega⟩) (fun x => ?_)
    match x with
    | ⟨0, _⟩ => rfl
    | ⟨1, _⟩ => rfl

/-- The column weights as the region finds them. -/
theorem V_main_v4 (c : Dev nD) (l : Fin 4) (e : Fin 1) (b : Fin 1024) :
    V m c main_v4 (ix3 l e b) = m (c.tc.loc main_arg3) (ix2 l b) := by
  have h : V m c main_v4 = shapeCast S4x1x1024 (m (c.tc.loc main_arg3)) shapeCasts_S4x1024_S4x1x1024 := by
    show StableHlo.after hostOps0 _ (Proc.devRef .tc main_v4) = _
    after_results
    rfl
  rw [h]
  refine shapeCast_apply _ shapeCasts_S4x1024_S4x1x1024 (ix3 l e b) (ix2 l b) ?_
  rw [Shape.rowMajor_val_two, Shape.rowMajor_val_three]
  show l.val * 1024 + b.val = (l.val * 1 + e.val) * 1024 + b.val
  omega

/-- Where the windows' blocks lie at a step. -/
theorem idx : ∀ t : Fin cfg0.N, (win0_0.index t 0 = t.val / 2 ∧ win0_0.index t 1 = t.val % 2 ∧ win0_0.index t 2 = 0)
    ∧ (win0_1.index t 0 = 0 ∧ win0_1.index t 1 = t.val / 2 ∧ win0_1.index t 2 = 0 ∧ win0_1.index t 3 = 0)
    ∧ (win0_2.index t 0 = t.val - 14 ∧ win0_2.index t 1 = 0)
    ∧ (win0_3.index t 0 = 0 ∧ win0_3.index t 1 = 0 ∧ win0_3.index t 2 = 0)
    ∧ (win0_4.index t 0 = t.val - 14 ∧ win0_4.index t 1 = 0)
    ∧ (win0_5.index t 0 = t.val - 14 ∧ win0_5.index t 1 = 0)
    ∧ (win0_6.index t 0 = 0 ∧ win0_6.index t 1 = 0) :=
  (by decide +kernel : ∀ t : Fin grid0.N, _)

/-- The hidden value's cotangent's block at an entry. -/
theorem iblk0 (c : Dev nD) (t : Fin cfg0.N) (a : Fin 1024) (b : Fin 704) (A : Fin 2048) (hA : A.val = 1024 * (t.val % 2) + a.val) (B : Fin 5632) (hB : B.val = 704 * (t.val / 2) + b.val) :
    iblk m c 0 t (ix3 0 a b) = m (c.tc.loc main_arg0) (ix2 A B) := by
  obtain ⟨h0, h1, h2⟩ := (idx t).1
  have hN := lt_N t
  have e : ((cfg0.win 0).blk t).view.emb (ix3 0 a b) = ix3 (⟨t.val / 2, by omega⟩ : Fin 8) A b := by
    funext x; apply Fin.ext
    match x with
    | ⟨0, _⟩ => show win0_0.index t 0 * 1 + 1 * 0 = t.val / 2; omega
    | ⟨1, _⟩ => show win0_0.index t 1 * 1024 + 1 * a.val = A.val; omega
    | ⟨2, _⟩ => show win0_0.index t 2 * 704 + 1 * b.val = b.val; omega
  show V m c main_v1 (((cfg0.win 0).blk t).view.emb (ix3 0 a b)) = _
  rw [e, V_main_v1]
  exact congrArg _ (congrArg (ix2 A) (Fin.ext (by show t.val / 2 * 704 + b.val = B.val; omega)))

/-- The weights' block at an entry. -/
theorem iblk1 (c : Dev nD) (t : Fin cfg0.N) (a : Fin 704) (b : Fin 1024) (A : Fin 5632) (hA : A.val = 704 * (t.val / 2) + a.val) :
    iblk m c 1 t (ix4 0 0 a b) = m (c.tc.loc main_arg1) (ix2 b A) := by
  obtain ⟨h0, h1, h2, h3⟩ := (idx t).2.1
  have hN := lt_N t
  have e : ((cfg0.win 1).blk t).view.emb (ix4 0 0 a b) = ix4 (0 : Fin 1) (⟨t.val / 2, by omega⟩ : Fin 8) a b := by
    funext x; apply Fin.ext
    match x with
    | ⟨0, _⟩ => show win0_1.index t 0 * 1 + 1 * 0 = 0; omega
    | ⟨1, _⟩ => show win0_1.index t 1 * 1 + 1 * 0 = t.val / 2; omega
    | ⟨2, _⟩ => show win0_1.index t 2 * 704 + 1 * a.val = a.val; omega
    | ⟨3, _⟩ => show win0_1.index t 3 * 1024 + 1 * b.val = b.val; omega
  show V m c main_v3 (((cfg0.win 1).blk t).view.emb (ix4 0 0 a b)) = _
  rw [e, V_main_v3]
  exact congrArg _ (congrArg (ix2 b) (Fin.ext (by show t.val / 2 * 704 + a.val = A.val; omega)))

/-- The normed rows' block at an entry. -/
theorem iblk2 (c : Dev nD) (t : Fin cfg0.N) (a b : Fin 1024) (A : Fin 2048) (hA : A.val = 1024 * (t.val - 14) + a.val) :
    iblk m c 2 t (ix2 a b) = m (c.tc.loc main_arg2) (ix2 A b) := by
  obtain ⟨h0, h1⟩ := (idx t).2.2.1
  have e : ((cfg0.win 2).blk t).view.emb (ix2 a b) = ix2 A b := by
    funext x; apply Fin.ext
    match x with
    | ⟨0, _⟩ => show win0_2.index t 0 * 1024 + 1 * a.val = A.val; omega
    | ⟨1, _⟩ => show win0_2.index t 1 * 1024 + 1 * b.val = b.val; omega
  show V m c main_arg2 (((cfg0.win 2).blk t).view.emb (ix2 a b)) = _
  rw [e, V_main_arg2]

/-- The column weights' block at an entry. -/
theorem iblk3 (c : Dev nD) (t : Fin cfg0.N) (b : Fin 1024) : iblk m c 3 t (ix3 0 0 b) = m (c.tc.loc main_arg3) (ix2 0 b) := by
  obtain ⟨h0, h1, h2⟩ := (idx t).2.2.2.1
  have e : ((cfg0.win 3).blk t).view.emb (ix3 0 0 b) = ix3 (0 : Fin 4) (0 : Fin 1) b := by
    funext x; apply Fin.ext
    match x with
    | ⟨0, _⟩ => show win0_3.index t 0 * 1 + 1 * 0 = 0; omega
    | ⟨1, _⟩ => show win0_3.index t 1 * 1 + 1 * 0 = 0; omega
    | ⟨2, _⟩ => show win0_3.index t 2 * 1024 + 1 * b.val = b.val; omega
  show V m c main_v4 (((cfg0.win 3).blk t).view.emb (ix3 0 0 b)) = _
  rw [e, V_main_v4]

/-- The other cotangent's block at an entry. -/
theorem iblk4 (c : Dev nD) (t : Fin cfg0.N) (a b : Fin 1024) (A : Fin 2048) (hA : A.val = 1024 * (t.val - 14) + a.val) :
    iblk m c 4 t (ix2 a b) = m (c.tc.loc main_arg4) (ix2 A b) := by
  obtain ⟨h0, h1⟩ := (idx t).2.2.2.2.1
  have e : ((cfg0.win 4).blk t).view.emb (ix2 a b) = ix2 A b := by
    funext x; apply Fin.ext
    match x with
    | ⟨0, _⟩ => show win0_4.index t 0 * 1024 + 1 * a.val = A.val; omega
    | ⟨1, _⟩ => show win0_4.index t 1 * 1024 + 1 * b.val = b.val; omega
  show V m c main_arg4 (((cfg0.win 4).blk t).view.emb (ix2 a b)) = _
  rw [e, V_main_arg4]

/-- Places of the results' blocks. -/
theorem emb5 (t : Fin cfg0.N) (a b : Fin 1024) (A : Fin 2048) (hA : A.val = 1024 * (t.val - 14) + a.val) : ((cfg0.win 5).blk t).view.emb (ix2 a b) = ix2 A b := by
  obtain ⟨h0, h1⟩ := (idx t).2.2.2.2.2.1
  funext x; apply Fin.ext
  match x with
  | ⟨0, _⟩ => show win0_5.index t 0 * 1024 + 1 * a.val = A.val; omega
  | ⟨1, _⟩ => show win0_5.index t 1 * 1024 + 1 * b.val = b.val; omega

theorem emb6 (t : Fin cfg0.N) (a : Fin 1) (b : Fin 1024) : ((cfg0.win 6).blk t).view.emb (ix2 a b) = ix2 a b := by
  obtain ⟨h0, h1⟩ := (idx t).2.2.2.2.2.2
  funext x; apply Fin.ext
  match x with
  | ⟨0, _⟩ => show win0_6.index t 0 * 1 + 1 * a.val = a.val; omega
  | ⟨1, _⟩ => show win0_6.index t 1 * 1024 + 1 * b.val = b.val; omega

/-- A row block's sum after `n` column blocks: the first `704 n` products. -/
theorem acc_eq (c : Dev nD) (i : ℕ) (hi : i < 2) (a b : Fin 1024) (A : Fin 2048) (hA : A.val = 1024 * i + a.val) : ∀ n : ℕ, n ≤ 8 →
    acc m c i n (ix2 a b) = ∑ k ∈ Finset.range (704 * n), (if h : k < 5632 then term (m (c.tc.loc main_arg0)) (m (c.tc.loc main_arg1)) A b ⟨k, h⟩ else 0) := by
  intro n
  induction n with
  | zero =>
    intro _
    show k0_pay2 (F := Ideal) (ix2 a b) = _
    unfold k0_pay2
    rw [shapeCast_self]
    exact Ideal.ofBits_zero_f32
  | succ n ih =>
    intro hn
    rw [Nat.mul_succ, Finset.sum_range_add, ← ih (by omega)]
    have ht : (pt (2 * n + i)).val = 2 * n + i := Nat.mod_eq_of_lt (by omega)
    show k0_pay3 (F := Ideal) _ _ _ (ix2 a b) = _
    unfold k0_pay3
    rw [shapeCast_self]
    refine congrArg (acc m c i n (ix2 a b) + ·) ((matmul_nn _ rfl none _ _ a b).trans ?_)
    rw [Finset.sum_range]
    refine Finset.sum_congr rfl fun k _ => ?_
    have hk : 704 * n + k.val < 5632 := by omega
    refine Eq.trans ?_ (dif_pos hk).symm
    exact congrArg₂ (fun p q : EReal => p * q) ((cast_drop _ _ a k).trans (iblk0 m c _ a k A (by rw [ht]; omega) ⟨704 * n + k.val, hk⟩ (by rw [ht]; show 704 * n + k.val = _; omega)))
      ((cast_drop2 _ _ k b).trans (iblk1 m c _ k b ⟨704 * n + k.val, hk⟩ (by rw [ht]; show 704 * n + k.val = _; omega)))

/-- The finished sum. -/
theorem acc_all (c : Dev nD) (i : ℕ) (hi : i < 2) (a b : Fin 1024) (A : Fin 2048) (hA : A.val = 1024 * i + a.val) :
    acc m c i 8 (ix2 a b) = dn (m (c.tc.loc main_arg0)) (m (c.tc.loc main_arg1)) (ix2 A b) :=
  (acc_eq m c i hi a b A hA 8 le_rfl).trans (sum_fin _)

/-- The column weights' gradient after `n` row blocks: the first `1024 n` rows' products. -/
theorem dgs_eq (c : Dev nD) (e : Fin 1) (b : Fin 1024) : ∀ n : ℕ, n ≤ 2 → dgs m c n (ix2 e b)
    = ∑ k ∈ Finset.range (1024 * n), (if h : k < 2048 then part (dn (m (c.tc.loc main_arg0)) (m (c.tc.loc main_arg1))) (m (c.tc.loc main_arg2)) b ⟨k, h⟩ else 0) := by
  intro n
  induction n with
  | zero => exact fun _ => Ideal.ofBits_zero_f32
  | succ n ih =>
    intro hn
    rw [Nat.mul_succ, Finset.sum_range_add, ← ih (by omega)]
    have ht : (pt (14 + n)).val = 14 + n := Nat.mod_eq_of_lt (by omega)
    refine (dgo_eq _ _ _ e b).trans (congrArg (dgs m c n (ix2 e b) + ·) ?_)
    rw [Finset.sum_range]
    refine Finset.sum_congr rfl fun a _ => ?_
    have ha : 1024 * n + a.val < 2048 := by omega
    refine Eq.trans ?_ (dif_pos ha).symm
    exact congrArg₂ (fun p q : EReal => p * q) (acc_all m c n (by omega) a b ⟨1024 * n + a.val, ha⟩ rfl)
      (xr_row _ _ a ⟨1024 * n + a.val, ha⟩ (fun k => iblk2 m c _ a k ⟨1024 * n + a.val, ha⟩ (by rw [ht]; show 1024 * n + a.val = _; omega)) b)

/-- What a step writes back to the first result is its block of the rows' cotangent. -/
theorem wrote5 (c : Dev nD) (t : Fin cfg0.N) (ht : ¬ t.val < 14) :
    (dats m 0 c).flushed 5 t = ((cfg0.win 5).blk t).view.read (Elt Ideal) (res0 (m (c.tc.loc main_arg0)) (m (c.tc.loc main_arg1)) (m (c.tc.loc main_arg2)) (m (c.tc.loc main_arg3)) (m (c.tc.loc main_arg4))) := by
  refine Eq.trans (b := (cfg0.win 5).cut (grid0.coords t) (dxo (F := Ideal) (acc m c (t.val % 2) 8) (iblk m c 2 t) (iblk m c 3 t) (iblk m c 4 t))) ?_ ?_
  · show (cfg0.win 5).cut (grid0.coords t) ((dats m 0 c).after 5 t) = _
    rw [after0_5]
  refine ext2 fun a b => ?_
  have hN := lt_N t
  have hA : 1024 * (t.val - 14) + a.val < 2048 := by omega
  show dxo (F := Ideal) (acc m c (t.val % 2) 8) (iblk m c 2 t) (iblk m c 3 t) (iblk m c 4 t) (ix2 a b) = res0 _ _ _ _ _ (((cfg0.win 5).blk t).view.emb (ix2 a b))
  rw [emb5 t a b ⟨_, hA⟩ rfl]
  exact (dxo_eq _ _ _ _ a b).trans (through_row _ _ _ _ _ _ _ _ a ⟨_, hA⟩ (fun k => acc_all m c _ (by omega) a k ⟨_, hA⟩ (by show 1024 * (t.val - 14) + a.val = _; omega))
    (fun k => iblk2 m c t a k _ rfl) (fun k => iblk4 m c t a k _ rfl) (fun k => iblk3 m c t k) b)

/-- Every entry of the first result is in some step's block. -/
theorem covered5 (i : S2048x1024.Idx) : ∃ t : Fin cfg0.N, (cfg0.win 5).flush t = true ∧ i ∈ ((cfg0.win 5).blk t).view.set := by
  have hi : (i 0).val < 2048 := (i 0).isLt
  have hv : (pt (14 + (i 0).val / 1024)).val = 14 + (i 0).val / 1024 := Nat.mod_eq_of_lt (by omega)
  refine ⟨pt (14 + (i 0).val / 1024), by rw [flush5, decide_eq_true (by omega)], ?_⟩
  have h := ((cfg0.win 5).blk (pt (14 + (i 0).val / 1024))).view.emb_mem_set (ix2 (⟨(i 0).val % 1024, by omega⟩ : Fin 1024) (i 1))
  exact Eq.mp (congrArg (fun q => q ∈ ((cfg0.win 5).blk (pt (14 + (i 0).val / 1024))).view.set) ((emb5 _ _ _ (i 0) (by rw [hv]; show (i 0).val = 1024 * (14 + (i 0).val / 1024 - 14) + (i 0).val % 1024; omega)).trans (eq_ix2 i).symm)) h

theorem final5 (c : Dev nD) : (dats m 0 c).arrAt 5 cfg0.N = res0 (m (c.tc.loc main_arg0)) (m (c.tc.loc main_arg1)) (m (c.tc.loc main_arg2)) (m (c.tc.loc main_arg3)) (m (c.tc.loc main_arg4)) :=
  (dats m 0 c).arrAt_eq_of_cover 5 _ (fun t hf => wrote5 m c t (of_decide_eq_true ((flush5 t).symm.trans hf))) covered5

/-- What the last step writes back to the second result is the column weights' gradient. -/
theorem wrote6 (c : Dev nD) (t : Fin cfg0.N) (ht : t.val = 15) :
    (dats m 0 c).flushed 6 t = ((cfg0.win 6).blk t).view.read (Elt Ideal) (res1 (m (c.tc.loc main_arg0)) (m (c.tc.loc main_arg1)) (m (c.tc.loc main_arg2))) := by
  refine Eq.trans (b := (cfg0.win 6).cut (grid0.coords t) (dgs (F := Ideal) m c 2)) ?_ ?_
  · show (cfg0.win 6).cut (grid0.coords t) ((dats m 0 c).after 6 t) = _
    rw [after0_6, ht]
  refine ext2 fun a b => ?_
  show dgs m c 2 (ix2 a b) = res1 _ _ _ (((cfg0.win 6).blk t).view.emb (ix2 a b))
  rw [emb6]
  exact (dgs_eq m c a b 2 le_rfl).trans (sum_fin _)

theorem covered6 (i : S1x1024.Idx) : ∃ t : Fin cfg0.N, (cfg0.win 6).flush t = true ∧ i ∈ ((cfg0.win 6).blk t).view.set := by
  refine ⟨pt 15, (flush0_6 _).2 rfl, ?_⟩
  have h := ((cfg0.win 6).blk (pt 15)).view.emb_mem_set (ix2 (i 0) (i 1))
  exact Eq.mp (congrArg (fun q => q ∈ ((cfg0.win 6).blk (pt 15)).view.set) ((emb6 _ _ _).trans (eq_ix2 i).symm)) h

theorem final6 (c : Dev nD) : (dats m 0 c).arrAt 6 cfg0.N = res1 (m (c.tc.loc main_arg0)) (m (c.tc.loc main_arg1)) (m (c.tc.loc main_arg2)) :=
  (dats m 0 c).arrAt_eq_of_cover 6 _ (fun t hf => wrote6 m c t (by have := (flush0_6 t).1 hf; have := lt_N t; omega)) covered6

/-- The call leaves the rows' cotangent and the column weights' gradient in its results, exactly (the roundings being no operations here),
    and its arguments unchanged. -/
theorem run : θ_run defs (onTc (τ := τ) (main (F := Ideal))) ⟨m, fun _ => 0, ρ⟩ fun r => ∀ c : Dev nD,
      r.2.mem (c.tc.loc main_v5_0) = res0 (m (c.tc.loc main_arg0)) (m (c.tc.loc main_arg1)) (m (c.tc.loc main_arg2)) (m (c.tc.loc main_arg3)) (m (c.tc.loc main_arg4))
      ∧ r.2.mem (c.tc.loc main_v5_1) = res1 (m (c.tc.loc main_arg0)) (m (c.tc.loc main_arg1)) (m (c.tc.loc main_arg2))
      ∧ same r.2.mem m c main_arg0
      ∧ same r.2.mem m c main_arg1
      ∧ same r.2.mem m c main_arg2
      ∧ same r.2.mem m c main_arg3
      ∧ same r.2.mem m c main_arg4 :=
  (θ_run defs _ _).mono (fun r h c => ⟨((h c).1 5).trans (final5 m c), ((h c).1 6).trans (final6 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c)))⟩) (run_main m ρ)

end

/-- A sum of real numbers is the same among the extended reals. -/
theorem coe_sum {n : ℕ} (f : Fin n → ℝ) : ∑ k : Fin n, (f k : EReal) = ((∑ k : Fin n, f k : ℝ) : EReal) := by
  have h : ∀ s : Finset (Fin n), ∑ k ∈ s, (f k : EReal) = ((∑ k ∈ s, f k : ℝ) : EReal) := fun s => by
    induction s using Finset.induction_on with
    | empty => simp
    | insert a s ha ih => rw [Finset.sum_insert ha, Finset.sum_insert ha, ih, EReal.coe_add]
  exact h _

/-- The words of 1024, of minus one half, and of the small constant, which is positive. -/
theorem width_word : Ideal.ofBits .f32 0x44800000#32 = ((1024 : ℝ) : EReal) := by
  simp [Ideal.ofBits, Ideal.ieee, -EReal.coe_mul]
  norm_num

theorem neg_half_word : Ideal.ofBits .f32 0xBF000000#32 = ((-(1 / 2) : ℝ) : EReal) := by
  simp [Ideal.ofBits, Ideal.ieee, -EReal.coe_mul]
  norm_num

theorem small_word : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

/-- A row's mean square plus the small constant. -/
def ms (x : Mat 2048 1024) (a : Fin 2048) : EReal :=
  Ideal.div (∑ k : Fin 1024, x (ix2 a k) * x (ix2 a k)) (Ideal.ofBits .f32 0x44800000#32) + Ideal.ofBits .f32 0x358637BD#32

/-- A row's mean square plus the small constant is a positive real number when the row is finite; otherwise it is infinite. -/
theorem ms_cases (x : Fin 1024 → EReal) {S : EReal}
    (hS : S = Ideal.div (∑ k, x k * x k) (Ideal.ofBits .f32 0x44800000#32) + Ideal.ofBits .f32 0x358637BD#32) :
    ((∀ k, IsReal (x k)) ∧ ∃ s : ℝ, 0 < s ∧ S = (s : EReal)) ∨ S = ⊤ := by
  obtain ⟨e, he, hw⟩ := small_word
  rw [hw, width_word, Ideal.div_coe (by norm_num)] at hS
  by_cases hx : ∀ k, IsReal (x k)
  · refine .inl ⟨hx, ?_⟩
    choose X hX using hx
    refine ⟨(∑ k, X k * X k) * (1 / 1024) + e, ?_, ?_⟩
    · have : 0 ≤ ∑ k, X k * X k := Finset.sum_nonneg fun k _ => mul_self_nonneg _
      positivity
    · rw [hS, EReal.coe_add, EReal.coe_mul, ← coe_sum]
      simp only [hX, EReal.coe_mul]
  · obtain ⟨k, hk⟩ := not_forall.1 hx
    have sq : ∀ y : EReal, 0 ≤ y * y := fun y => by
      induction y using EReal.rec with
      | bot => simp
      | top => simp
      | coe r => exact_mod_cast mul_self_nonneg r
    have tk : x k * x k = ⊤ := by
      generalize x k = y at hk
      induction y using EReal.rec with
      | bot => simp
      | top => simp
      | coe r => exact absurd ⟨r, rfl⟩ hk
    have t : ∑ k, x k * x k = ⊤ := top_le_iff.1 (tk ▸ Finset.single_le_sum (f := fun k => x k * x k) (fun i _ => sq _) (Finset.mem_univ k))
    rw [hS, t, EReal.top_mul_coe_of_pos (by norm_num)]
    exact .inr (EReal.top_add_coe e)

/-- Twice an extended real. -/
theorem twice (w : EReal) : w + w = w * ((2 : ℝ) : EReal) := by
  induction w using EReal.rec with
  | bot => rw [EReal.bot_mul_coe_of_pos (by norm_num)]; rfl
  | top => rw [EReal.top_mul_coe_of_pos (by norm_num)]; rfl
  | coe r => exact_mod_cast (by ring : r + r = r * 2)

/-- A real number that is not negative multiplies a sum term by term. -/
theorem mul_sum_real {r : ℝ} (hr : 0 ≤ r) {n : ℕ} (f : Fin n → EReal) : ∑ k, f k * (r : EReal) = (∑ k, f k) * (r : EReal) := by
  have h : ∀ s : Finset (Fin n), ∑ k ∈ s, f k * (r : EReal) = (∑ k ∈ s, f k) * (r : EReal) := fun s => by
    induction s using Finset.induction_on with
    | empty => simp
    | insert a s ha ih =>
      rw [Finset.sum_insert ha, Finset.sum_insert ha, ih, EReal.right_distrib_of_nonneg_of_ne_top (by exact_mod_cast hr) (EReal.coe_ne_top r)]
  exact h _

/-- The norm's derivative by the rules of the calculus is the kernel's form. -/
theorem norm_rule (y S : EReal) (d x : Fin 1024 → EReal)
    (hS : S = Ideal.div (∑ k, x k * x k) (Ideal.ofBits .f32 0x44800000#32) + Ideal.ofBits .f32 0x358637BD#32) (b : Fin 1024) (t : EReal)
    (ht : t = Ideal.div ((∑ k, x k * d k) * (Ideal.ofBits .f32 0xBF000000#32 * Ideal.div (Ideal.rsqrt S) S)) (Ideal.ofBits .f32 0x44800000#32)) :
    y + d b * Ideal.rsqrt S + x b * t + t * x b
      = y + Ideal.rsqrt S * (d b - x b * Ideal.rsqrt S * Ideal.div (∑ k, d k * (x k * Ideal.rsqrt S)) (Ideal.ofBits .f32 0x44800000#32)) := by
  obtain ⟨hx, s, hs, rfl⟩ | rfl := ms_cases x hS
  · obtain ⟨X, hX⟩ := hx b
    obtain ⟨r, h0, hr, hrr⟩ : ∃ r : ℝ, 0 ≤ r ∧ Ideal.rsqrt (s : EReal) = (r : EReal) ∧ 1 / s = r * r := by
      refine ⟨(Real.sqrt s)⁻¹, by positivity, by rw [Ideal.rsqrt_coe, if_neg (not_lt.mpr hs.le), if_neg hs.ne'], ?_⟩
      rw [← mul_inv, Real.mul_self_sqrt hs.le, one_div]
    have e : ∑ k, d k * (x k * (r : EReal)) = (∑ k, x k * d k) * (r : EReal) :=
      (Finset.sum_congr rfl fun k _ => by rw [← mul_assoc, mul_comm (d k)]).trans (mul_sum_real h0 _)
    rw [ht, hr, e, width_word, neg_half_word, Ideal.div_coe hs.ne', Ideal.div_coe (by norm_num), Ideal.div_coe (by norm_num), hrr, hX, add_assoc, add_assoc]
    refine congrArg (y + ·) ?_
    generalize (∑ k, x k * d k) = q
    rw [sub_eq_add_neg, EReal.left_distrib_of_nonneg_of_ne_top (by exact_mod_cast h0) (EReal.coe_ne_top r), mul_comm (d b)]
    refine congrArg ((r : EReal) * d b + ·) ?_
    rw [mul_comm (X : EReal) (_ * _), twice]
    have n1 : ∀ w : EReal, -w = w * ((-1 : ℝ) : EReal) := fun w => by
      rw [EReal.coe_neg, mul_neg]; exact (congrArg Neg.neg (mul_one w)).symm
    rw [n1]
    have n2 : q * (((-(1 / 2) : ℝ) : EReal) * ((r : EReal) * ((r * r : ℝ) : EReal))) * ((1 / 1024 : ℝ) : EReal) * (X : EReal) * ((2 : ℝ) : EReal)
        = q * ((-(1 / 2) * (r * (r * r)) * (1 / 1024) * X * 2 : ℝ) : EReal) := by
      simp only [EReal.coe_mul, mul_assoc]
    have n3 : (r : EReal) * ((X : EReal) * (r : EReal) * (q * (r : EReal) * ((1 / 1024 : ℝ) : EReal)) * ((-1 : ℝ) : EReal))
        = q * ((r * (X * r * (r * (1 / 1024)) * -1) : ℝ) : EReal) := by
      simp only [EReal.coe_mul]
      ac_rfl
    rw [n2, n3]
    exact congrArg (fun z : ℝ => q * (z : EReal)) (by ring)
  · have z : Ideal.div 0 ⊤ = 0 := by rw [Ideal.div, if_neg (by simp), zero_mul]
    rw [ht, width_word]
    simp [z, Ideal.div_coe (show (1024 : ℝ) ≠ 0 by norm_num)]

namespace Ref

open Cert.FfnDxReferenceIdeal Cert.FfnDxReferenceIdeal.Gen Cert.FfnDxReferenceIdeal.Read

/-- The reference's mean square, -/
theorem ms_eq (x2 : Mat 2048 1024) (a : Fin 2048) (z : Fin 1) : val_main_v8 (F := Ideal) x2 (ix2 a z) = ms x2 a := by
  rw [val_main_v8_apply, val_main_v6_apply, val_main_v4_apply, val_main_v3_apply, val_main_v5_apply, val_main_v7_apply]
  refine congrArg₂ (· + ·) (congrArg₂ Ideal.div ?_ rfl) rfl
  refine (congrArg₂ (· + ·) Ideal.ofBits_zero_f32 rfl).trans ((zero_add _).trans (Finset.sum_congr rfl fun k _ => ?_))
  have e : idx_main_v3 (idx_main_v4 (ix2 a z)) k = ix2 a k := by
    funext x
    match x with
    | ⟨0, _⟩ => rfl
    | ⟨1, _⟩ => rfl
  rw [e]
  rfl

/-- its reciprocal square root, -/
theorem rinv_eq (x2 : Mat 2048 1024) (a : Fin 2048) (z : Fin 1) : val_main_v9 (F := Ideal) x2 (ix2 a z) = Ideal.rsqrt (ms x2 a) := by
  rw [val_main_v9_apply, ms_eq]
  rfl

/-- and the derivative of that. -/
theorem slope_eq (x2 : Mat 2048 1024) (a : Fin 2048) (z : Fin 1) :
    val_main_v12 (F := Ideal) x2 (ix2 a z) = Ideal.ofBits .f32 0xBF000000#32 * Ideal.div (Ideal.rsqrt (ms x2 a)) (ms x2 a) := by
  rw [val_main_v12_apply, val_main_v10_apply, rinv_eq, ms_eq, val_main_v11_apply]
  rfl

/-- The reference's product with the weights' transpose. -/
theorem dn_eq (x0 : Mat 2048 5632) (x1 : Mat 1024 5632) (a : Fin 2048) (b : Fin 1024) : val_main_v21 (F := Ideal) x0 x1 (ix2 a b) = dn x0 x1 (ix2 a b) := by
  unfold val_main_v21
  exact dot_nt (φ₁ := .f32) (φ₂ := .f32) _ rfl none (val_main_v20 (F := Ideal) x0) (val_main_v18 (F := Ideal) x1) a b

/-- The normalised rows' cotangent. -/
theorem gx_eq (x0 : Mat 2048 5632) (x1 : Mat 1024 5632) (x3 : Mat 4 1024) (a : Fin 2048) (b : Fin 1024) :
    val_main_v26 (F := Ideal) x0 x1 x3 (ix2 a b) = dn x0 x1 (ix2 a b) * x3 (ix2 0 b) := by
  rw [val_main_v26_apply, dn_eq, val_main_v25_apply, val_main_v15_apply, val_main_v1_apply, val_main_v0_apply]
  refine congrArg (dn x0 x1 (ix2 a b) * ·) (congrArg x3 ?_)
  funext x; apply Fin.ext
  match x with
  | ⟨0, _⟩ => rfl
  | ⟨1, _⟩ => show b.val % 1024 = b.val; omega

/-- What a row's mean square contributes to each entry of the row, but for the entry. -/
theorem mean_eq (x0 : Mat 2048 5632) (x1 : Mat 1024 5632) (x2 : Mat 2048 1024) (x3 : Mat 4 1024) (a : Fin 2048) (b : Fin 1024) :
    val_main_v38 (F := Ideal) x0 x1 x2 x3 (ix2 a b)
      = Ideal.div ((∑ k : Fin 1024, x2 (ix2 a k) * (dn x0 x1 (ix2 a k) * x3 (ix2 0 k))) * (Ideal.ofBits .f32 0xBF000000#32 * Ideal.div (Ideal.rsqrt (ms x2 a)) (ms x2 a)))
        (Ideal.ofBits .f32 0x44800000#32) := by
  rw [val_main_v38_apply, val_main_v37_apply, Fin.sum_univ_one]
  refine (congrArg₂ (· + ·) Ideal.ofBits_zero_f32 rfl).trans ((zero_add _).trans ?_)
  have e : idx_main_v37 (idx_main_v38 (ix2 a b)) 0 = ix2 a 0 := by
    funext x
    match x with
    | ⟨0, _⟩ => rfl
    | ⟨1, _⟩ => rfl
  rw [e, val_main_v36_apply, val_main_v34_apply, slope_eq, val_main_v35_apply, val_main_v30_apply, val_main_v29_apply]
  refine congrArg (Ideal.div · _) (congrArg (fun q : EReal => q * _) ?_)
  refine (congrArg₂ (· + ·) Ideal.ofBits_zero_f32 rfl).trans ((zero_add _).trans (Finset.sum_congr rfl fun k _ => ?_))
  have e' : idx_main_v29 (idx_main_v30 (ix2 a 0)) k = ix2 a k := by
    funext x; apply Fin.ext
    match x with
    | ⟨0, _⟩ => show a.val * 1 + 0 = a.val; omega
    | ⟨1, _⟩ => rfl
  rw [e', val_main_v28_apply, gx_eq]
  rfl

/-- The reference's rows' cotangent. -/
theorem res0_eq (x0 : Mat 2048 5632) (x1 : Mat 1024 5632) (x2 : Mat 2048 1024) (x3 : Mat 4 1024) (x4 : Mat 2048 1024) : val_main_v42 (F := Ideal) x0 x1 x2 x3 x4 = res0 x0 x1 x2 x3 x4 := ext2 fun a b => by
  rw [val_main_v42_apply, val_main_v40_apply, val_main_v41_apply, val_main_v39_apply, val_main_v33_apply, val_main_v32_apply, gx_eq, val_main_v31_apply]
  have e : idx_main_v31 (ix2 a b) = ix2 a 0 := by
    funext x
    match x with
    | ⟨0, _⟩ => rfl
    | ⟨1, _⟩ => rfl
  rw [e, rinv_eq]
  exact norm_rule (x4 (ix2 a b)) (ms x2 a) (fun k => dn x0 x1 (ix2 a k) * x3 (ix2 0 k)) (fun k => x2 (ix2 a k)) rfl b _ (mean_eq x0 x1 x2 x3 a b)

/-- The reference's gradient of the column weights. -/
theorem res1_eq (x0 : Mat 2048 5632) (x1 : Mat 1024 5632) (x2 : Mat 2048 1024) : val_main_v43 (F := Ideal) x0 x1 x2 = res1 x0 x1 x2 := ext2 fun a b => by
  rw [val_main_v43_apply, val_main_v27_apply, Fin.sum_univ_one, val_main_v24_apply, val_main_v23_apply]
  refine (congrArg₂ (· + ·) Ideal.ofBits_zero_f32 (congrArg₂ (· + ·) Ideal.ofBits_zero_f32 rfl)).trans ((zero_add _).trans ((zero_add _).trans (Finset.sum_congr rfl fun k _ => ?_)))
  have e : idx_main_v23 (idx_main_v24 (idx_main_v27 (idx_main_v43 (ix2 a b)) 0)) k = ix2 k b := by
    funext x; apply Fin.ext
    match x with
    | ⟨0, _⟩ => rfl
    | ⟨1, _⟩ => show 0 * 1024 + (a.val * 1024 + b.val) = b.val; omega
  have e' : idx_main_v13 (ix2 k b) = ix2 k 0 := by
    funext x
    match x with
    | ⟨0, _⟩ => rfl
    | ⟨1, _⟩ => rfl
  rw [e, val_main_v22_apply, val_main_v14_apply, dn_eq, val_main_v13_apply, e', rinv_eq]
  exact mul_comm _ _

variable (m : (ℓ : Loc nD τ sig) → Buf (Elt Ideal) ℓ) (ρ : Dev nD → PrngReg)

/-- The reference leaves the same two arrays and its arguments unchanged. -/
theorem run :
    θ_run defs (onTc (τ := τ) (main (F := Ideal))) ⟨m, fun _ => 0, ρ⟩ fun r => ∀ c : Dev nD,
      r.2.mem (c.tc.loc main_v42) = res0 (m (c.tc.loc main_arg0)) (m (c.tc.loc main_arg1)) (m (c.tc.loc main_arg2)) (m (c.tc.loc main_arg3)) (m (c.tc.loc main_arg4))
      ∧ r.2.mem (c.tc.loc main_v43) = res1 (m (c.tc.loc main_arg0)) (m (c.tc.loc main_arg1)) (m (c.tc.loc main_arg2))
      ∧ r.2.mem (c.tc.loc main_arg0) = (m (c.tc.loc main_arg0))
      ∧ r.2.mem (c.tc.loc main_arg1) = (m (c.tc.loc main_arg1))
      ∧ r.2.mem (c.tc.loc main_arg2) = (m (c.tc.loc main_arg2))
      ∧ r.2.mem (c.tc.loc main_arg3) = (m (c.tc.loc main_arg3))
      ∧ r.2.mem (c.tc.loc main_arg4) = (m (c.tc.loc main_arg4)) :=
  (θ_run defs _ _).mono (fun _ h c => ⟨(h c).1.trans ((val_main_v42_eq m c).trans (res0_eq _ _ _ _ _)), (h c).2.1.trans ((val_main_v43_eq _ _ _).trans (res1_eq _ _ _)), (h c).2.2⟩) (Value.run m ρ)

end Ref

end Cert.FfnDx

end
-- ==== Proof.SumFfnPlace.lean ====
/- The place words of the weight step's call: what the precondition says of them, and that the blocks they name lie inside the arrays. -/
module

public import proofs.«01_k».proof.Proof.Common
public import proofs.«01_k».proof.Proof.Gen.Pre_placed_ffn
public import proofs.«01_k».proof.Proof.Gen.Pre_placed_small
public import proofs.«01_k».proof.Proof.Gen.SumFfn.Frame
public import proofs.«01_k».proof.Proof.Gen.SumFfnIdeal.Frame
public import proofs.«01_k».proof.Defs

@[expose] public section

set_option maxRecDepth 16384

noncomputable section

namespace Cert.SumFfnPlace

open Cert.Common Idealize.ShloMosaic Idealize.ShloMosaic.TcCoe Idealize.ShloMosaic.ValueIdx
open Idealize.SL.Sem

/-- A nonnegative signed word below a small bound is below it as a natural number. -/
theorem word_lt (w n : BitVec 32) (hn : n.toNat < 2 ^ 31) (h0 : IntOp.cmpi .sge w 0#32 = 1#1) (h1 : IntOp.cmpi .slt w n = 1#1) :
    w.toNat < n.toNat := by
  have one (p : Bool) : (BitVec.ofBool p = 1#1) ↔ p = true := by cases p <;> decide
  simp only [one, IntOp.cmpi, BitVec.sle, BitVec.slt, decide_eq_true_eq, BitVec.toInt, BitVec.toNat_ofNat] at h0 h1
  have := w.isLt
  split at h1 <;> split at h0 <;> omega

/-- The precondition, at the place words: the chip is one of 4 and the device is one of 8. -/
theorem placed_small {F : FTy → Type} [FloatOps F] {a0 a1 a2} {p : IVec Cert.Pre_placed_small.S3 32}
    (h : Cert.Pre_placed_small.fn (F := F) a0 a1 a2 p = fun _ => 1#1) : (p (ix1 1)).toNat < 4 ∧ (p (ix1 2)).toNat < 8 := by
  have andi_one (a b : BitVec 1) : IntOp.andi a b = 1#1 ↔ a = 1#1 ∧ b = 1#1 := by revert a b; decide
  have pre := congrFun h ix0
  simp only [Cert.Pre_placed_small.fn, constantI, cmpi, andi, andi_one, shapeCast, extractStridedSlice] at pre
  have at_w (k : Fin 3) (P : BitVec 32 → Prop) (I : Cert.Pre_placed_small.S3.Idx) (hP : P (p I)) (hI : (I 0).val = k.val) : P (p (ix1 k)) := by
    have e : I = ix1 k := by
      funext a
      obtain rfl : a = 0 := Subsingleton.elim _ _
      exact Fin.ext hI
    exact e ▸ hP
  have zero {n : ℕ} (x : Fin n) (hn : n = 1) : x.val = 0 := by have := x.isLt; omega
  obtain ⟨⟨⟨h0, h1⟩, h2⟩, h3⟩ := pre
  exact ⟨word_lt _ 4#32 (by decide) (at_w 1 (fun v => IntOp.cmpi .sge v 0#32 = 1#1) _ h0 (Nat.add_eq_left.mpr (zero _ rfl)))
      (at_w 1 (fun v => IntOp.cmpi .slt v 4#32 = 1#1) _ h1 (Nat.add_eq_left.mpr (zero _ rfl))),
    word_lt _ 8#32 (by decide) (at_w 2 (fun v => IntOp.cmpi .sge v 0#32 = 1#1) _ h2 (Nat.add_eq_left.mpr (zero _ rfl)))
      (at_w 2 (fun v => IntOp.cmpi .slt v 8#32 = 1#1) _ h3 (Nat.add_eq_left.mpr (zero _ rfl)))⟩

/-- The same of the feed-forward weights' precondition. -/
theorem placed {F : FTy → Type} [FloatOps F] {a0 a1 a2 a3 a4 a5 a6 a7 a8 a9 a10 a11 a12 a13 a14 a15 a16 a17 a18 a19}
    {p : IVec Cert.Pre_placed_ffn.S3 32}
    (h : Cert.Pre_placed_ffn.fn (F := F) a0 a1 a2 a3 a4 a5 a6 a7 a8 a9 a10 a11 a12 a13 a14 a15 a16 a17 a18 a19 p = fun _ => 1#1) :
    (p (ix1 1)).toNat < 4 ∧ (p (ix1 2)).toNat < 8 :=
  placed_small (F := F) (a0 := constant _ .f32 0#32) (a1 := constant _ .f32 0#32) (a2 := constant _ .f32 0#32) h

/-- A statement of the four axes of a stack of stacks. -/
theorem four {p : Fin 4 → Prop} (h0 : p 0) (h1 : p 1) (h2 : p 2) (h3 : p 3) (a : Fin 4) : p a :=
  match a with
  | ⟨0, _⟩ => h0
  | ⟨1, _⟩ => h1
  | ⟨2, _⟩ => h2
  | ⟨3, _⟩ => h3

/-- The grid point's block row: the clamp at the last block changes nothing. -/
theorem row : ∀ i : Fin 11, (Scalar.minsi (BitVec.ofNat 32 i.val) 10#32).toNat = i.val := by decide +kernel

section
open Cert.SumFfn Cert.SumFfn.Gen

variable (m : (ℓ : Loc nD τ sig) → Buf (Elt Bits) ℓ)

/-- A table word is the place word. -/
theorem word_SumFfn (k : Fin 3) (h) : (tbl m).at 0 (Rect.unit (s := S3) ![k.val] S1.size h) numel1_S1 = m (((0 : Dev nD) : Thread nD τ).loc main_arg20) (ix1 k) := by
  show V m 0 main_arg20 _ = _
  rw [V_main_arg20]
  refine congrArg (m (((0 : Dev nD) : Thread nD τ).loc main_arg20)) (funext fun (a : Fin 1) => ?_)
  match a with
  | ⟨0, _⟩ => rfl

theorem dev_SumFfn : (tbl m).at 0 (Rect.unit (s := S3) ![2] S1.size inb_S3_S1_2) numel1_S1 = m (((0 : Dev nD) : Thread nD τ).loc main_arg20) (ix1 2) := word_SumFfn m 2 _

theorem chip_SumFfn : (tbl m).at 0 (Rect.unit (s := S3) ![1] S1.size inb_S3_S1_1) numel1_S1 = m (((0 : Dev nD) : Thread nD τ).loc main_arg20) (ix1 1) := word_SumFfn m 1 _

/-- The precondition implies the launch's side condition: every block the place words name is inside its array. -/
theorem ok_SumFfn (h : Cert.Pre_SumFfn m) : Ok m := by
  obtain ⟨h1, h2⟩ := placed (h 0)
  rw [← chip_SumFfn m] at h1
  rw [← dev_SumFfn m] at h2
  have hr (i : grid0.Coords) (n : ℕ) : ((Scalar.minsi (BitVec.ofNat 32 (i 0).val) 10#32).toNat + 1) * n ≤ 11 * n :=
    Nat.mul_le_mul_right n ((row (i 0)).trans_lt (i 0).isLt)
  refine ⟨fun i => ⟨four (Nat.le_refl 1) ?_ (hr i 64) (Nat.le_refl 1024), .inl rfl⟩,
    fun i => ⟨four (Nat.le_refl 1) ?_ (hr i 64) (Nat.le_refl 1024), .inr (Affine.block_words_dvd (of_decide_eq_true rfl) (by decide))⟩,
    fun i => ⟨four (Nat.le_refl 1) ?_ (hr i 32) (Nat.le_refl 1024), .inl rfl⟩,
    fun i => ⟨four (Nat.le_refl 1) ?_ (hr i 32) (Nat.le_refl 1024), .inr (Affine.block_words_dvd (of_decide_eq_true rfl) (by decide))⟩⟩
  · exact (Nat.mul_one _).trans_le h2
  · exact (Nat.mul_one _).trans_le h1
  · exact (Nat.mul_one _).trans_le h2
  · exact (Nat.mul_one _).trans_le h1

end

section
open Cert.SumFfnIdeal Cert.SumFfnIdeal.Gen

variable (m : (ℓ : Loc nD τ sig) → Buf (Elt Ideal) ℓ)

/-- A table word is the place word. -/
theorem word_SumFfnIdeal (k : Fin 3) (h) : (tbl m).at 0 (Rect.unit (s := S3) ![k.val] S1.size h) numel1_S1 = m (((0 : Dev nD) : Thread nD τ).loc main_arg20) (ix1 k) := by
  show V m 0 main_arg20 _ = _
  rw [V_main_arg20]
  refine congrArg (m (((0 : Dev nD) : Thread nD τ).loc main_arg20)) (funext fun (a : Fin 1) => ?_)
  match a with
  | ⟨0, _⟩ => rfl

theorem dev_SumFfnIdeal : (tbl m).at 0 (Rect.unit (s := S3) ![2] S1.size inb_S3_S1_2) numel1_S1 = m (((0 : Dev nD) : Thread nD τ).loc main_arg20) (ix1 2) := word_SumFfnIdeal m 2 _

theorem chip_SumFfnIdeal : (tbl m).at 0 (Rect.unit (s := S3) ![1] S1.size inb_S3_S1_1) numel1_S1 = m (((0 : Dev nD) : Thread nD τ).loc main_arg20) (ix1 1) := word_SumFfnIdeal m 1 _

/-- The precondition implies the launch's side condition: every block the place words name is inside its array. -/
theorem ok_SumFfnIdeal (h : Cert.Pre_SumFfnIdeal m) : Ok m := by
  obtain ⟨h1, h2⟩ := placed (h 0)
  rw [← chip_SumFfnIdeal m] at h1
  rw [← dev_SumFfnIdeal m] at h2
  have hr (i : grid0.Coords) (n : ℕ) : ((Scalar.minsi (BitVec.ofNat 32 (i 0).val) 10#32).toNat + 1) * n ≤ 11 * n :=
    Nat.mul_le_mul_right n ((row (i 0)).trans_lt (i 0).isLt)
  refine ⟨fun i => ⟨four (Nat.le_refl 1) ?_ (hr i 64) (Nat.le_refl 1024), .inl rfl⟩,
    fun i => ⟨four (Nat.le_refl 1) ?_ (hr i 64) (Nat.le_refl 1024), .inr (Affine.block_words_dvd (of_decide_eq_true rfl) (by decide))⟩,
    fun i => ⟨four (Nat.le_refl 1) ?_ (hr i 32) (Nat.le_refl 1024), .inl rfl⟩,
    fun i => ⟨four (Nat.le_refl 1) ?_ (hr i 32) (Nat.le_refl 1024), .inr (Affine.block_words_dvd (of_decide_eq_true rfl) (by decide))⟩⟩
  · exact (Nat.mul_one _).trans_le h2
  · exact (Nat.mul_one _).trans_le h1
  · exact (Nat.mul_one _).trans_le h2
  · exact (Nat.mul_one _).trans_le h1

end

end Cert.SumFfnPlace

end
-- ==== Proof.SumFfnClaim.lean ====
/- The weight step of a feed-forward unit: the received partial gradients summed and the optimiser's step of its two weights, as
   functions of the argument arrays, and what the call's run leaves in its eight result arrays. -/
module

public import proofs.«01_k».proof.Proof.Adam
public import proofs.«01_k».proof.Proof.SumFfnPlace

@[expose] public section

set_option maxRecDepth 16384

noncomputable section

namespace Cert.SumFfnClaim

open Cert.Common Cert.Adam Idealize.ShloMosaic Idealize.ShloMosaic.TcCoe Idealize.ShloMosaic.ValueIdx
open Idealize.SL.Sem

/-! ## The step -/

/-- The device the place words name. -/
def dev (p : (⟨1, ![3]⟩ : Shape).Idx → BitVec 32) : Fin 8 := ⟨(p (ix1 2)).toNat % 8, Nat.mod_lt _ (by decide)⟩

/-- The chip the place words name. -/
def chip (p : (⟨1, ![3]⟩ : Shape).Idx → BitVec 32) : Fin 4 := ⟨(p (ix1 1)).toNat % 4, Nat.mod_lt _ (by decide)⟩

variable {r : ℕ}

/-- The weight's gradient: the device's own part, the part its chip's twin sent, and the three other chips' parts. -/
def total {d : ℕ} (g : Stk4 1 8 r d) (r1 : Stk4 1 4 r d) (r2 : Stk4 1 3 r d) (p : (⟨1, ![3]⟩ : Shape).Idx → BitVec 32) : Arr ⟨2, ![r, d]⟩ := fun i =>
  g (ix4 0 (dev p) (i 0) (i 1)) + r1 (ix4 0 (chip p) (i 0) (i 1)) + r2 (ix4 0 0 (i 0) (i 1)) + r2 (ix4 0 1 (i 0) (i 1)) + r2 (ix4 0 2 (i 0) (i 1))

/-- Layer 0 of a stack of four layers. -/
def first (a : Arr ⟨3, ![4, r, 1024]⟩) : Arr ⟨2, ![r, 1024]⟩ := fun i => a (ix3 0 (i 0) (i 1))

/-- A stack of four layers with its layer 0 replaced. -/
def layer (a : Arr ⟨2, ![r, 1024]⟩) (old : Arr ⟨3, ![4, r, 1024]⟩) : Arr ⟨3, ![4, r, 1024]⟩ := fun i =>
  if (i 0).val = 0 then a (ix2 (i 1) (i 2)) else old i

theorem layer_zero (a : Arr ⟨2, ![r, 1024]⟩) (old : Arr ⟨3, ![4, r, 1024]⟩) (b : Fin r) (d : Fin 1024) : layer a old (ix3 0 b d) = a (ix2 b d) := if_pos rfl

theorem layer_rest (a : Arr ⟨2, ![r, 1024]⟩) (old : Arr ⟨3, ![4, r, 1024]⟩) (i : (⟨3, ![4, r, 1024]⟩ : Shape).Idx) (h : ¬ (i 0).val = 0) : layer a old i = old i := if_neg h

/-- A stack of stacks of one matrix recast as the matrix. -/
theorem cast_drop2 {α : Type} {M N : ℕ} (v : (⟨4, ![1, 1, M, N]⟩ : Shape).Idx → α) (h : (⟨4, ![1, 1, M, N]⟩ : Shape).ShapeCasts ⟨2, ![M, N]⟩) (a : Fin M) (b : Fin N) :
    shapeCast ⟨2, ![M, N]⟩ v h (ix2 a b) = v (ix4 0 0 a b) := by
  refine shapeCast_apply v h _ _ ?_
  rw [Shape.rowMajor_val_two, Shape.rowMajor_val_four]
  show ((0 * 1 + 0) * M + a.val) * N + b.val = a.val * N + b.val
  simp

theorem congr4 {α β γ δ ω : Type} (f : α → β → γ → δ → ω) {a a' b b' c c' d d'} (h1 : a = a') (h2 : b = b') (h3 : c = c') (h4 : d = d') :
    f a b c d = f a' b' c' d' := by rw [h1, h2, h3, h4]

theorem congr5 {α β γ δ ε ω : Type} (f : α → β → γ → δ → ε → ω) {a a' b b' c c' d d' e e'} (h1 : a = a') (h2 : b = b') (h3 : c = c') (h4 : d = d')
    (h5 : e = e') : f a b c d e = f a' b' c' d' e' := by rw [h1, h2, h3, h4, h5]

theorem congr6 {α β γ δ ε ζ ω : Type} (f : α → β → γ → δ → ε → ζ → ω) {a a' b b' c c' d d' e e' x x'} (h1 : a = a') (h2 : b = b') (h3 : c = c') (h4 : d = d')
    (h5 : e = e') (h6 : x = x') : f a b c d e x = f a' b' c' d' e' x' := by rw [h1, h2, h3, h4, h5, h6]

/-- A load of the whole of a staging buffer of a stack of stacks reads what it holds. -/
theorem rd4 {sig : RefSig} {κ : Kind} {sp : Space} {e : EltTy} {L G M N : ℕ} (b : Memref sig κ sp ⟨4, ![L, G, M, N]⟩ e) (h : b.IsWhole) (x : Vec Ideal ⟨4, ![L, G, M, N]⟩ e)
    (inb : ∀ a, (![0, 0, 0, 0] : Fin 4 → Nat) a + (⟨4, ![L, G, M, N]⟩ : Shape).size a ≤ (⟨4, ![L, G, M, N]⟩ : Shape).size a) :
    View.readAt (Elt Ideal) b.view (Rect.unit (s := ⟨4, ![L, G, M, N]⟩) ![0, 0, 0, 0] ![L, G, M, N] inb).toLoadRect (h.unread x) = x := readAt_whole h x zzzz _

/-- A load of the whole of a staging buffer of a stack reads what it holds. -/
theorem rd3 {sig : RefSig} {κ : Kind} {sp : Space} {e : EltTy} {G M N : ℕ} (b : Memref sig κ sp ⟨3, ![G, M, N]⟩ e) (h : b.IsWhole) (x : Vec Ideal ⟨3, ![G, M, N]⟩ e)
    (inb : ∀ a, (![0, 0, 0] : Fin 3 → Nat) a + (⟨3, ![G, M, N]⟩ : Shape).size a ≤ (⟨3, ![G, M, N]⟩ : Shape).size a) :
    View.readAt (Elt Ideal) b.view (Rect.unit (s := ⟨3, ![G, M, N]⟩) ![0, 0, 0] ![G, M, N] inb).toLoadRect (h.unread x) = x := readAt_whole h x zzz _

section
open Cert.SumFfnIdeal Cert.SumFfnIdeal.Gen

variable (m : (ℓ : Loc nD τ sig) → Buf (Elt Ideal) ℓ) (ρ : Dev nD → PrngReg) (hO : Ok m) (c : Dev nD)

/-- The block row of a grid point. -/
abbrev row (t : Fin grid0.N) : ℕ := (Scalar.minsi (BitVec.ofNat 32 (grid0.coords t 0).val) 10#32).toNat

theorem rowAt : ∀ t : Fin grid0.N, row t = t.val := by decide +kernel

theorem lt_N (t : Fin (cfgM m hO).N) : t.val < 11 := (show t.val < grid0.N from t.isLt).trans_le (by decide)

/-- The place words. -/
abbrev place : (⟨1, ![3]⟩ : Shape).Idx → BitVec 32 := m (c.tc.loc main_arg20)

/-- They name a chip and a device. -/
abbrev Placed : Prop := (place m c (ix1 1)).toNat < 4 ∧ (place m c (ix1 2)).toNat < 8

/-! ## The up weight -/

/-- Row `a` of the block of grid point `t`. -/
abbrev rowUp (t : Fin (cfgM m hO).N) (a : Fin 64) : Fin 704 := ⟨t.val * 64 + a.val, by have := lt_N m hO t; omega⟩

theorem iblk0 (hp : Placed m c) (t : Fin (cfgM m hO).N) (a : Fin 64) (b : Fin 1024) :
    iblk m hO c 0 t (ix4 0 0 a b) = (m (c.tc.loc main_arg0)) (ix4 0 (dev (place m c)) (rowUp m hO t a) b) := by
  obtain rfl : c = 0 := Subsingleton.elim _ _
  show V m 0 main_arg0 ((((cfgM m hO).win 0).blk t).view.emb (ix4 0 0 a b)) = _
  rw [V_main_arg0]
  refine congrArg (m (((0 : Dev nD) : Thread nD τ).loc main_arg0)) (funext fun x => Fin.ext ?_)
  have hr := rowAt t
  match x with
  | ⟨0, _⟩ => rfl
  | ⟨1, _⟩ => show ((tbl m).at 0 (Rect.unit (s := S3) ![2] S1.size inb_S3_S1_2) numel1_S1).toNat * 1 + 1 * 0 = (place m 0 (ix1 2)).toNat % 8; rw [SumFfnPlace.dev_SumFfnIdeal]; show (place m 0 (ix1 2)).toNat * 1 + 1 * 0 = (place m 0 (ix1 2)).toNat % 8; omega
  | ⟨2, _⟩ => show row t * 64 + 1 * a.val = t.val * 64 + a.val; omega
  | ⟨3, _⟩ => show 0 * 1024 + 1 * b.val = b.val; omega

theorem iblk1 (hp : Placed m c) (t : Fin (cfgM m hO).N) (a : Fin 64) (b : Fin 1024) :
    iblk m hO c 1 t (ix4 0 0 a b) = (m (c.tc.loc main_arg2)) (ix4 0 (chip (place m c)) (rowUp m hO t a) b) := by
  obtain rfl : c = 0 := Subsingleton.elim _ _
  show V m 0 main_arg2 ((((cfgM m hO).win 1).blk t).view.emb (ix4 0 0 a b)) = _
  rw [V_main_arg2]
  refine congrArg (m (((0 : Dev nD) : Thread nD τ).loc main_arg2)) (funext fun x => Fin.ext ?_)
  have hr := rowAt t
  match x with
  | ⟨0, _⟩ => rfl
  | ⟨1, _⟩ => show ((tbl m).at 0 (Rect.unit (s := S3) ![1] S1.size inb_S3_S1_1) numel1_S1).toNat * 1 + 1 * 0 = (place m 0 (ix1 1)).toNat % 4; rw [SumFfnPlace.chip_SumFfnIdeal]; show (place m 0 (ix1 1)).toNat * 1 + 1 * 0 = (place m 0 (ix1 1)).toNat % 4; omega
  | ⟨2, _⟩ => show row t * 64 + 1 * a.val = t.val * 64 + a.val; omega
  | ⟨3, _⟩ => show 0 * 1024 + 1 * b.val = b.val; omega

/-- The blocks of the three parts that other chips sent. -/
theorem sentUp (t : Fin (cfgM m hO).N) (a : Fin 64) (b : Fin 1024) :
    iblk m hO c 2 t (ix4 0 0 a b) = (m (c.tc.loc main_arg4)) (ix4 0 0 (rowUp m hO t a) b)
    ∧ iblk m hO c 3 t (ix4 0 0 a b) = (m (c.tc.loc main_arg4)) (ix4 0 1 (rowUp m hO t a) b)
    ∧ iblk m hO c 4 t (ix4 0 0 a b) = (m (c.tc.loc main_arg4)) (ix4 0 2 (rowUp m hO t a) b) := by
  have hr := rowAt t
  refine ⟨(congrFun (V_main_arg4 m c) ((((cfgM m hO).win 2).blk t).view.emb (ix4 0 0 a b))).trans (congrArg (m (c.tc.loc main_arg4)) (funext fun x => Fin.ext ?_)),
    (congrFun (V_main_arg4 m c) ((((cfgM m hO).win 3).blk t).view.emb (ix4 0 0 a b))).trans (congrArg (m (c.tc.loc main_arg4)) (funext fun x => Fin.ext ?_)),
    (congrFun (V_main_arg4 m c) ((((cfgM m hO).win 4).blk t).view.emb (ix4 0 0 a b))).trans (congrArg (m (c.tc.loc main_arg4)) (funext fun x => Fin.ext ?_))⟩
  all_goals
    match x with
    | ⟨0, _⟩ => rfl
    | ⟨1, _⟩ => rfl
    | ⟨2, _⟩ => show row t * 64 + 1 * a.val = t.val * 64 + a.val; omega
    | ⟨3, _⟩ => show 0 * 1024 + 1 * b.val = b.val; omega

/-- The blocks of the weight and its two moments. -/
theorem heldUp (t : Fin (cfgM m hO).N) (a : Fin 64) (b : Fin 1024) :
    iblk m hO c 5 t (ix3 0 a b) = (m (c.tc.loc main_arg6)) (ix3 0 (rowUp m hO t a) b)
    ∧ iblk m hO c 6 t (ix3 0 a b) = (m (c.tc.loc main_arg8)) (ix3 0 (rowUp m hO t a) b)
    ∧ iblk m hO c 7 t (ix3 0 a b) = (m (c.tc.loc main_arg10)) (ix3 0 (rowUp m hO t a) b) := by
  have hr := rowAt t
  refine ⟨(congrFun (V_main_arg6 m c) ((((cfgM m hO).win 5).blk t).view.emb (ix3 0 a b))).trans (congrArg (m (c.tc.loc main_arg6)) (funext fun x => Fin.ext ?_)),
    (congrFun (V_main_arg8 m c) ((((cfgM m hO).win 6).blk t).view.emb (ix3 0 a b))).trans (congrArg (m (c.tc.loc main_arg8)) (funext fun x => Fin.ext ?_)),
    (congrFun (V_main_arg10 m c) ((((cfgM m hO).win 7).blk t).view.emb (ix3 0 a b))).trans (congrArg (m (c.tc.loc main_arg10)) (funext fun x => Fin.ext ?_))⟩
  all_goals
    match x with
    | ⟨0, _⟩ => rfl
    | ⟨1, _⟩ => show row t * 64 + 1 * a.val = t.val * 64 + a.val; omega
    | ⟨2, _⟩ => show 0 * 1024 + 1 * b.val = b.val; omega

/-- The result arrays start as the arguments they replace a layer of. -/
theorem V_outs : V m c main_v0_0 = (m (c.tc.loc main_arg12))
    ∧ V m c main_v0_1 = (m (c.tc.loc main_arg13))
    ∧ V m c main_v0_2 = (m (c.tc.loc main_arg14))
    ∧ V m c main_v0_3 = (m (c.tc.loc main_arg15))
    ∧ V m c main_v0_4 = (m (c.tc.loc main_arg16))
    ∧ V m c main_v0_5 = (m (c.tc.loc main_arg17))
    ∧ V m c main_v0_6 = (m (c.tc.loc main_arg18))
    ∧ V m c main_v0_7 = (m (c.tc.loc main_arg19)) := by
  refine ⟨?_, ?_, ?_, ?_, ?_, ?_, ?_, ?_⟩ <;> (show StableHlo.after hostOps0 _ _ = _; after_results; rfl)

/-- The gradient, the change of the weight and the two new moments. -/
abbrev gUp : Arr ⟨2, ![704, 1024]⟩ := total (m (c.tc.loc main_arg0)) (m (c.tc.loc main_arg2)) (m (c.tc.loc main_arg4)) (place m c)
abbrev dUp : Arr ⟨2, ![704, 1024]⟩ := delta (first (m (c.tc.loc main_arg6))) (gUp m c) (first (m (c.tc.loc main_arg8))) (first (m (c.tc.loc main_arg10)))
abbrev mUp : Arr ⟨2, ![704, 1024]⟩ := newM (gUp m c) (first (m (c.tc.loc main_arg8)))
abbrev vUp : Arr ⟨2, ![704, 1024]⟩ := newV (gUp m c) (first (m (c.tc.loc main_arg10)))

/-- The body's sum of the blocks and its new first moment. -/
abbrev sumUp (t : Fin (cfgM m hO).N) : FVec Ideal S64x1024 .f32 := k0_pay11 (F := Ideal) (iblk m hO c 0 t) (iblk m hO c 1 t) (iblk m hO c 2 t) (iblk m hO c 3 t) (iblk m hO c 4 t)
abbrev momUp (t : Fin (cfgM m hO).N) : FVec Ideal S64x1024 .f32 := k0_pay14 (F := Ideal) (iblk m hO c 0 t) (iblk m hO c 1 t) (iblk m hO c 2 t) (iblk m hO c 3 t) (iblk m hO c 4 t) (iblk m hO c 6 t)

/-- The sum of the blocks is the block of the gradient. -/
theorem totalUp (hp : Placed m c) (t : Fin (cfgM m hO).N) (a : Fin 64) (b : Fin 1024) :
    sumUp m hO c t (ix2 a b) = (gUp m c) (ix2 (rowUp m hO t a) b) := by
  unfold sumUp k0_pay11
  refine congrArg₂ (· + ·) (congrArg₂ (· + ·) (congrArg₂ (· + ·) (congrArg₂ (· + ·) ?_ ?_) ?_) ?_) ?_
  · exact (cast_drop2 _ _ a b).trans (iblk0 m hO c hp t a b)
  · exact (cast_drop2 _ _ a b).trans (iblk1 m hO c hp t a b)
  · exact (cast_drop2 _ _ a b).trans (sentUp m hO c t a b).1
  · exact (cast_drop2 _ _ a b).trans (sentUp m hO c t a b).2.1
  · exact (cast_drop2 _ _ a b).trans (sentUp m hO c t a b).2.2

/-- The block of the new first moment. -/
theorem newMUp (hp : Placed m c) (t : Fin (cfgM m hO).N) (a : Fin 64) (b : Fin 1024) :
    momUp m hO c t (ix2 a b) = mUp m c (ix2 (rowUp m hO t a) b) := by
  unfold momUp k0_pay14
  exact congrArg₂ (· + ·) (congrArg (Ideal.ofBits .f32 0x3F666666#32 * ·) ((cast_drop _ _ a b).trans (heldUp m hO c t a b).2.1))
    (congrArg (Ideal.ofBits .f32 0x3DCCCCCD#32 * ·) (totalUp m hO c hp t a b))

/-- The block of the new second moment. -/
theorem newVUp (hp : Placed m c) (t : Fin (cfgM m hO).N) (a : Fin 64) (b : Fin 1024) :
    k0_pay1 (F := Ideal) (sumUp m hO c t) (k0_pay13 (iblk m hO c 7 t)) (ix2 a b) = vUp m c (ix2 (rowUp m hO t a) b) := by
  unfold k0_pay1 k0_pay13
  exact congrArg₂ (· + ·) (congrArg (Ideal.ofBits .f32 0x3F7FBE77#32 * ·) ((cast_drop _ _ a b).trans (heldUp m hO c t a b).2.2))
    (congrArg (Ideal.ofBits .f32 0x3A83126F#32 * ·) (congrArg₂ (· * ·) (totalUp m hO c hp t a b) (totalUp m hO c hp t a b)))

/-- The body leaves its block of the gradient. -/
theorem after16 (t : Fin (cfgM m hO).N) : (dats m hO 0 c).after 16 t = k0_pay2 (sumUp m hO c t) := by
  rw [after0_16]
  unfold outsAt0 out0_A_16 kernelRun0_A
  dsimp only
  rw [View.read_writes_junk_eq_canon, View.canon_unit_zero zzz]
  sl_unfold_words
  exact congrArg k0_pay2 (congr5 k0_pay11 (rd4 ..) (rd4 ..) (rd4 ..) (rd4 ..) (rd4 ..))

/-- An index of window 16's block as an index of its array. -/
theorem emb16 (t : Fin (cfgM m hO).N) (e : Fin 1) (a : Fin 64) (b : Fin 1024) :
    (((cfgM m hO).win 16).blk t).view.emb (ix3 e a b) = ix3 (0 : Fin 4) (rowUp m hO t a) b := by
  have hr := rowAt t
  have he := e.isLt
  funext x; apply Fin.ext
  match x with
  | ⟨0, _⟩ => show 0 * 1 + 1 * e.val = 0; omega
  | ⟨1, _⟩ => show row t * 64 + 1 * a.val = t.val * 64 + a.val; omega
  | ⟨2, _⟩ => show 0 * 1024 + 1 * b.val = b.val; omega

/-- Layer 0 of window 16's array is in the grid points' blocks. -/
theorem covered16 (i : S4x704x1024.Idx) (h : (i 0).val = 0) :
    ∃ t : Fin (cfgM m hO).N, ((cfgM m hO).win 16).flush t = true ∧ i ∈ (((cfgM m hO).win 16).blk t).view.set := by
  have h1 : (i 1).val < 704 := (i 1).isLt
  let t : Fin (cfgM m hO).N := ⟨(i 1).val / 64, show (i 1).val / 64 < grid0.N from (show (i 1).val / 64 < 11 by omega).trans_le (by decide)⟩
  refine ⟨t, flush0_16 _ t, ?_⟩
  have hm := (((cfgM m hO).win 16).blk t).view.emb_mem_set (ix3 (0 : Fin 1) (⟨(i 1).val % 64, by omega⟩ : Fin 64) (i 2))
  refine Eq.mp (congrArg (fun q => q ∈ (((cfgM m hO).win 16).blk t).view.set) ((emb16 m hO t _ _ _).trans ?_)) hm
  funext x; apply Fin.ext
  match x with
  | ⟨0, _⟩ => exact h.symm
  | ⟨1, _⟩ => show (i 1).val / 64 * 64 + (i 1).val % 64 = (i 1).val; omega
  | ⟨2, _⟩ => rfl

/-- The call leaves the gradient in layer 0 and the other layers as they were. -/
theorem final16 (hp : Placed m c) : (dats m hO 0 c).arrAt 16 (cfgM m hO).N = (layer (gUp m c) (m (c.tc.loc main_arg12))) := by
  refine funext fun i => ((dats m hO 0 c).arrAt_eq_piecewise 16 (layer (gUp m c) (m (c.tc.loc main_arg12))) (fun t _ => ext3 fun e a b => ?_) i).trans ?_
  · show (dats m hO 0 c).after 16 t (ix3 e a b) = (layer (gUp m c) (m (c.tc.loc main_arg12))) ((((cfgM m hO).win 16).blk t).view.emb (ix3 e a b))
    rw [after16]
    refine Eq.trans ?_ ((congrArg (layer (gUp m c) (m (c.tc.loc main_arg12))) (emb16 m hO t e a b)).trans (layer_zero _ _ _ _)).symm
    unfold k0_pay2
    refine (cast_add _ _ e a b).trans ?_
    exact totalUp m hO c hp t a b
  · by_cases hc : ∃ t : Fin (cfgM m hO).N, ((cfgM m hO).win 16).flush t = true ∧ i ∈ (((cfgM m hO).win 16).blk t).view.set
    · exact if_pos hc
    · exact (if_neg hc).trans ((congrFun (V_outs m c).1 i).trans (layer_rest _ _ i fun h0 => hc (covered16 m hO i h0)).symm)

/-- The body leaves its block of the change of the weight. -/
theorem after17 (t : Fin (cfgM m hO).N) : (dats m hO 0 c).after 17 t = k0_pay3 (sumUp m hO c t) (k0_pay12 (iblk m hO c 5 t)) (k0_pay13 (iblk m hO c 7 t)) (momUp m hO c t) := by
  rw [after0_17]
  unfold outsAt0 out0_A_17 kernelRun0_A
  dsimp only
  rw [View.read_writes_junk_eq_canon, View.canon_unit_zero zzz]
  sl_unfold_words
  exact congr4 k0_pay3 (congr5 k0_pay11 (rd4 ..) (rd4 ..) (rd4 ..) (rd4 ..) (rd4 ..)) (congrArg k0_pay12 (rd3 ..)) (congrArg k0_pay13 (rd3 ..)) (congr6 k0_pay14 (rd4 ..) (rd4 ..) (rd4 ..) (rd4 ..) (rd4 ..) (rd3 ..))

/-- The call leaves the change of the weight in layer 0 and the other layers as they were. -/
theorem final17 (hp : Placed m c) : (dats m hO 0 c).arrAt 17 (cfgM m hO).N = (layer (dUp m c) (m (c.tc.loc main_arg13))) := by
  refine funext fun i => ((dats m hO 0 c).arrAt_eq_piecewise 17 (layer (dUp m c) (m (c.tc.loc main_arg13))) (fun t _ => ext3 fun e a b => ?_) i).trans ?_
  · show (dats m hO 0 c).after 17 t (ix3 e a b) = (layer (dUp m c) (m (c.tc.loc main_arg13))) ((((cfgM m hO).win 17).blk t).view.emb (ix3 e a b))
    rw [after17]
    refine Eq.trans ?_ ((congrArg (layer (dUp m c) (m (c.tc.loc main_arg13))) (emb16 m hO t e a b)).trans (layer_zero _ _ _ _)).symm
    unfold k0_pay3
    refine (cast_add _ _ e a b).trans ?_
    unfold k0_pay12
    refine congrArg (Ideal.ofBits .f32 0xBA83126F#32 * ·) (congrArg₂ (· + ·) (congrArg₂ Ideal.div ?_ ?_) ?_)
    · exact congrArg (Ideal.div · (Ideal.ofBits .f32 0x3F26BD02#32)) (newMUp m hO c hp t a b)
    · exact congrArg (fun x => Ideal.sqrt (Ideal.div x (Ideal.ofBits .f32 0x3C231ACC#32)) + Ideal.ofBits .f32 0x322BCC77#32) (newVUp m hO c hp t a b)
    · exact congrArg (Ideal.ofBits .f32 0x3C23D70A#32 * ·) ((cast_drop _ _ a b).trans (heldUp m hO c t a b).1)
  · by_cases hc : ∃ t : Fin (cfgM m hO).N, ((cfgM m hO).win 17).flush t = true ∧ i ∈ (((cfgM m hO).win 17).blk t).view.set
    · exact if_pos hc
    · exact (if_neg hc).trans ((congrFun (V_outs m c).2.1 i).trans (layer_rest _ _ i fun h0 => hc (covered16 m hO i h0)).symm)

/-- The body leaves its block of the new first moment. -/
theorem after18 (t : Fin (cfgM m hO).N) : (dats m hO 0 c).after 18 t = k0_pay4 (momUp m hO c t) := by
  rw [after0_18]
  unfold outsAt0 out0_A_18 kernelRun0_A
  dsimp only
  rw [View.read_writes_junk_eq_canon, View.canon_unit_zero zzz]
  sl_unfold_words
  exact congrArg k0_pay4 (congr6 k0_pay14 (rd4 ..) (rd4 ..) (rd4 ..) (rd4 ..) (rd4 ..) (rd3 ..))

/-- The call leaves the new first moment in layer 0 and the other layers as they were. -/
theorem final18 (hp : Placed m c) : (dats m hO 0 c).arrAt 18 (cfgM m hO).N = (layer (mUp m c) (m (c.tc.loc main_arg14))) := by
  refine funext fun i => ((dats m hO 0 c).arrAt_eq_piecewise 18 (layer (mUp m c) (m (c.tc.loc main_arg14))) (fun t _ => ext3 fun e a b => ?_) i).trans ?_
  · show (dats m hO 0 c).after 18 t (ix3 e a b) = (layer (mUp m c) (m (c.tc.loc main_arg14))) ((((cfgM m hO).win 18).blk t).view.emb (ix3 e a b))
    rw [after18]
    refine Eq.trans ?_ ((congrArg (layer (mUp m c) (m (c.tc.loc main_arg14))) (emb16 m hO t e a b)).trans (layer_zero _ _ _ _)).symm
    unfold k0_pay4
    refine (cast_add _ _ e a b).trans ?_
    exact newMUp m hO c hp t a b
  · by_cases hc : ∃ t : Fin (cfgM m hO).N, ((cfgM m hO).win 18).flush t = true ∧ i ∈ (((cfgM m hO).win 18).blk t).view.set
    · exact if_pos hc
    · exact (if_neg hc).trans ((congrFun (V_outs m c).2.2.1 i).trans (layer_rest _ _ i fun h0 => hc (covered16 m hO i h0)).symm)

/-- The body leaves its block of the new second moment. -/
theorem after19 (t : Fin (cfgM m hO).N) : (dats m hO 0 c).after 19 t = k0_pay5 (sumUp m hO c t) (k0_pay13 (iblk m hO c 7 t)) := by
  rw [after0_19]
  unfold outsAt0 out0_A_19 kernelRun0_A
  dsimp only
  rw [View.read_writes_junk_eq_canon, View.canon_unit_zero zzz]
  sl_unfold_words
  exact congrArg₂ k0_pay5 (congr5 k0_pay11 (rd4 ..) (rd4 ..) (rd4 ..) (rd4 ..) (rd4 ..)) (congrArg k0_pay13 (rd3 ..))

/-- The call leaves the new second moment in layer 0 and the other layers as they were. -/
theorem final19 (hp : Placed m c) : (dats m hO 0 c).arrAt 19 (cfgM m hO).N = (layer (vUp m c) (m (c.tc.loc main_arg15))) := by
  refine funext fun i => ((dats m hO 0 c).arrAt_eq_piecewise 19 (layer (vUp m c) (m (c.tc.loc main_arg15))) (fun t _ => ext3 fun e a b => ?_) i).trans ?_
  · show (dats m hO 0 c).after 19 t (ix3 e a b) = (layer (vUp m c) (m (c.tc.loc main_arg15))) ((((cfgM m hO).win 19).blk t).view.emb (ix3 e a b))
    rw [after19]
    refine Eq.trans ?_ ((congrArg (layer (vUp m c) (m (c.tc.loc main_arg15))) (emb16 m hO t e a b)).trans (layer_zero _ _ _ _)).symm
    unfold k0_pay5
    refine (cast_add _ _ e a b).trans ?_
    exact newVUp m hO c hp t a b
  · by_cases hc : ∃ t : Fin (cfgM m hO).N, ((cfgM m hO).win 19).flush t = true ∧ i ∈ (((cfgM m hO).win 19).blk t).view.set
    · exact if_pos hc
    · exact (if_neg hc).trans ((congrFun (V_outs m c).2.2.2.1 i).trans (layer_rest _ _ i fun h0 => hc (covered16 m hO i h0)).symm)

/-! ## The down weight -/

/-- Row `a` of the block of grid point `t`. -/
abbrev rowDown (t : Fin (cfgM m hO).N) (a : Fin 32) : Fin 352 := ⟨t.val * 32 + a.val, by have := lt_N m hO t; omega⟩

theorem iblk8 (hp : Placed m c) (t : Fin (cfgM m hO).N) (a : Fin 32) (b : Fin 1024) :
    iblk m hO c 8 t (ix4 0 0 a b) = (m (c.tc.loc main_arg1)) (ix4 0 (dev (place m c)) (rowDown m hO t a) b) := by
  obtain rfl : c = 0 := Subsingleton.elim _ _
  show V m 0 main_arg1 ((((cfgM m hO).win 8).blk t).view.emb (ix4 0 0 a b)) = _
  rw [V_main_arg1]
  refine congrArg (m (((0 : Dev nD) : Thread nD τ).loc main_arg1)) (funext fun x => Fin.ext ?_)
  have hr := rowAt t
  match x with
  | ⟨0, _⟩ => rfl
  | ⟨1, _⟩ => show ((tbl m).at 0 (Rect.unit (s := S3) ![2] S1.size inb_S3_S1_2) numel1_S1).toNat * 1 + 1 * 0 = (place m 0 (ix1 2)).toNat % 8; rw [SumFfnPlace.dev_SumFfnIdeal]; show (place m 0 (ix1 2)).toNat * 1 + 1 * 0 = (place m 0 (ix1 2)).toNat % 8; omega
  | ⟨2, _⟩ => show row t * 32 + 1 * a.val = t.val * 32 + a.val; omega
  | ⟨3, _⟩ => show 0 * 1024 + 1 * b.val = b.val; omega

theorem iblk9 (hp : Placed m c) (t : Fin (cfgM m hO).N) (a : Fin 32) (b : Fin 1024) :
    iblk m hO c 9 t (ix4 0 0 a b) = (m (c.tc.loc main_arg3)) (ix4 0 (chip (place m c)) (rowDown m hO t a) b) := by
  obtain rfl : c = 0 := Subsingleton.elim _ _
  show V m 0 main_arg3 ((((cfgM m hO).win 9).blk t).view.emb (ix4 0 0 a b)) = _
  rw [V_main_arg3]
  refine congrArg (m (((0 : Dev nD) : Thread nD τ).loc main_arg3)) (funext fun x => Fin.ext ?_)
  have hr := rowAt t
  match x with
  | ⟨0, _⟩ => rfl
  | ⟨1, _⟩ => show ((tbl m).at 0 (Rect.unit (s := S3) ![1] S1.size inb_S3_S1_1) numel1_S1).toNat * 1 + 1 * 0 = (place m 0 (ix1 1)).toNat % 4; rw [SumFfnPlace.chip_SumFfnIdeal]; show (place m 0 (ix1 1)).toNat * 1 + 1 * 0 = (place m 0 (ix1 1)).toNat % 4; omega
  | ⟨2, _⟩ => show row t * 32 + 1 * a.val = t.val * 32 + a.val; omega
  | ⟨3, _⟩ => show 0 * 1024 + 1 * b.val = b.val; omega

/-- The blocks of the three parts that other chips sent. -/
theorem sentDown (t : Fin (cfgM m hO).N) (a : Fin 32) (b : Fin 1024) :
    iblk m hO c 10 t (ix4 0 0 a b) = (m (c.tc.loc main_arg5)) (ix4 0 0 (rowDown m hO t a) b)
    ∧ iblk m hO c 11 t (ix4 0 0 a b) = (m (c.tc.loc main_arg5)) (ix4 0 1 (rowDown m hO t a) b)
    ∧ iblk m hO c 12 t (ix4 0 0 a b) = (m (c.tc.loc main_arg5)) (ix4 0 2 (rowDown m hO t a) b) := by
  have hr := rowAt t
  refine ⟨(congrFun (V_main_arg5 m c) ((((cfgM m hO).win 10).blk t).view.emb (ix4 0 0 a b))).trans (congrArg (m (c.tc.loc main_arg5)) (funext fun x => Fin.ext ?_)),
    (congrFun (V_main_arg5 m c) ((((cfgM m hO).win 11).blk t).view.emb (ix4 0 0 a b))).trans (congrArg (m (c.tc.loc main_arg5)) (funext fun x => Fin.ext ?_)),
    (congrFun (V_main_arg5 m c) ((((cfgM m hO).win 12).blk t).view.emb (ix4 0 0 a b))).trans (congrArg (m (c.tc.loc main_arg5)) (funext fun x => Fin.ext ?_))⟩
  all_goals
    match x with
    | ⟨0, _⟩ => rfl
    | ⟨1, _⟩ => rfl
    | ⟨2, _⟩ => show row t * 32 + 1 * a.val = t.val * 32 + a.val; omega
    | ⟨3, _⟩ => show 0 * 1024 + 1 * b.val = b.val; omega

/-- The blocks of the weight and its two moments. -/
theorem heldDown (t : Fin (cfgM m hO).N) (a : Fin 32) (b : Fin 1024) :
    iblk m hO c 13 t (ix3 0 a b) = (m (c.tc.loc main_arg7)) (ix3 0 (rowDown m hO t a) b)
    ∧ iblk m hO c 14 t (ix3 0 a b) = (m (c.tc.loc main_arg9)) (ix3 0 (rowDown m hO t a) b)
    ∧ iblk m hO c 15 t (ix3 0 a b) = (m (c.tc.loc main_arg11)) (ix3 0 (rowDown m hO t a) b) := by
  have hr := rowAt t
  refine ⟨(congrFun (V_main_arg7 m c) ((((cfgM m hO).win 13).blk t).view.emb (ix3 0 a b))).trans (congrArg (m (c.tc.loc main_arg7)) (funext fun x => Fin.ext ?_)),
    (congrFun (V_main_arg9 m c) ((((cfgM m hO).win 14).blk t).view.emb (ix3 0 a b))).trans (congrArg (m (c.tc.loc main_arg9)) (funext fun x => Fin.ext ?_)),
    (congrFun (V_main_arg11 m c) ((((cfgM m hO).win 15).blk t).view.emb (ix3 0 a b))).trans (congrArg (m (c.tc.loc main_arg11)) (funext fun x => Fin.ext ?_))⟩
  all_goals
    match x with
    | ⟨0, _⟩ => rfl
    | ⟨1, _⟩ => show row t * 32 + 1 * a.val = t.val * 32 + a.val; omega
    | ⟨2, _⟩ => show 0 * 1024 + 1 * b.val = b.val; omega

/-- The gradient, the change of the weight and the two new moments. -/
abbrev gDown : Arr ⟨2, ![352, 1024]⟩ := total (m (c.tc.loc main_arg1)) (m (c.tc.loc main_arg3)) (m (c.tc.loc main_arg5)) (place m c)
abbrev dDown : Arr ⟨2, ![352, 1024]⟩ := delta (first (m (c.tc.loc main_arg7))) (gDown m c) (first (m (c.tc.loc main_arg9))) (first (m (c.tc.loc main_arg11)))
abbrev mDown : Arr ⟨2, ![352, 1024]⟩ := newM (gDown m c) (first (m (c.tc.loc main_arg9)))
abbrev vDown : Arr ⟨2, ![352, 1024]⟩ := newV (gDown m c) (first (m (c.tc.loc main_arg11)))

/-- The body's sum of the blocks and its new first moment. -/
abbrev sumDown (t : Fin (cfgM m hO).N) : FVec Ideal S32x1024 .f32 := k0_pay15 (F := Ideal) (iblk m hO c 8 t) (iblk m hO c 9 t) (iblk m hO c 10 t) (iblk m hO c 11 t) (iblk m hO c 12 t)
abbrev momDown (t : Fin (cfgM m hO).N) : FVec Ideal S32x1024 .f32 := k0_pay18 (F := Ideal) (iblk m hO c 8 t) (iblk m hO c 9 t) (iblk m hO c 10 t) (iblk m hO c 11 t) (iblk m hO c 12 t) (iblk m hO c 14 t)

/-- The sum of the blocks is the block of the gradient. -/
theorem totalDown (hp : Placed m c) (t : Fin (cfgM m hO).N) (a : Fin 32) (b : Fin 1024) :
    sumDown m hO c t (ix2 a b) = (gDown m c) (ix2 (rowDown m hO t a) b) := by
  unfold sumDown k0_pay15
  refine congrArg₂ (· + ·) (congrArg₂ (· + ·) (congrArg₂ (· + ·) (congrArg₂ (· + ·) ?_ ?_) ?_) ?_) ?_
  · exact (cast_drop2 _ _ a b).trans (iblk8 m hO c hp t a b)
  · exact (cast_drop2 _ _ a b).trans (iblk9 m hO c hp t a b)
  · exact (cast_drop2 _ _ a b).trans (sentDown m hO c t a b).1
  · exact (cast_drop2 _ _ a b).trans (sentDown m hO c t a b).2.1
  · exact (cast_drop2 _ _ a b).trans (sentDown m hO c t a b).2.2

/-- The block of the new first moment. -/
theorem newMDown (hp : Placed m c) (t : Fin (cfgM m hO).N) (a : Fin 32) (b : Fin 1024) :
    momDown m hO c t (ix2 a b) = mDown m c (ix2 (rowDown m hO t a) b) := by
  unfold momDown k0_pay18
  exact congrArg₂ (· + ·) (congrArg (Ideal.ofBits .f32 0x3F666666#32 * ·) ((cast_drop _ _ a b).trans (heldDown m hO c t a b).2.1))
    (congrArg (Ideal.ofBits .f32 0x3DCCCCCD#32 * ·) (totalDown m hO c hp t a b))

/-- The block of the new second moment. -/
theorem newVDown (hp : Placed m c) (t : Fin (cfgM m hO).N) (a : Fin 32) (b : Fin 1024) :
    k0_pay6 (F := Ideal) (sumDown m hO c t) (k0_pay17 (iblk m hO c 15 t)) (ix2 a b) = vDown m c (ix2 (rowDown m hO t a) b) := by
  unfold k0_pay6 k0_pay17
  exact congrArg₂ (· + ·) (congrArg (Ideal.ofBits .f32 0x3F7FBE77#32 * ·) ((cast_drop _ _ a b).trans (heldDown m hO c t a b).2.2))
    (congrArg (Ideal.ofBits .f32 0x3A83126F#32 * ·) (congrArg₂ (· * ·) (totalDown m hO c hp t a b) (totalDown m hO c hp t a b)))

/-- The body leaves its block of the gradient. -/
theorem after20 (t : Fin (cfgM m hO).N) : (dats m hO 0 c).after 20 t = k0_pay7 (sumDown m hO c t) := by
  rw [after0_20]
  unfold outsAt0 out0_A_20 kernelRun0_A
  dsimp only
  rw [View.read_writes_junk_eq_canon, View.canon_unit_zero zzz]
  sl_unfold_words
  exact congrArg k0_pay7 (congr5 k0_pay15 (rd4 ..) (rd4 ..) (rd4 ..) (rd4 ..) (rd4 ..))

/-- An index of window 20's block as an index of its array. -/
theorem emb20 (t : Fin (cfgM m hO).N) (e : Fin 1) (a : Fin 32) (b : Fin 1024) :
    (((cfgM m hO).win 20).blk t).view.emb (ix3 e a b) = ix3 (0 : Fin 4) (rowDown m hO t a) b := by
  have hr := rowAt t
  have he := e.isLt
  funext x; apply Fin.ext
  match x with
  | ⟨0, _⟩ => show 0 * 1 + 1 * e.val = 0; omega
  | ⟨1, _⟩ => show row t * 32 + 1 * a.val = t.val * 32 + a.val; omega
  | ⟨2, _⟩ => show 0 * 1024 + 1 * b.val = b.val; omega

/-- Layer 0 of window 20's array is in the grid points' blocks. -/
theorem covered20 (i : S4x352x1024.Idx) (h : (i 0).val = 0) :
    ∃ t : Fin (cfgM m hO).N, ((cfgM m hO).win 20).flush t = true ∧ i ∈ (((cfgM m hO).win 20).blk t).view.set := by
  have h1 : (i 1).val < 352 := (i 1).isLt
  let t : Fin (cfgM m hO).N := ⟨(i 1).val / 32, show (i 1).val / 32 < grid0.N from (show (i 1).val / 32 < 11 by omega).trans_le (by decide)⟩
  refine ⟨t, flush0_20 _ t, ?_⟩
  have hm := (((cfgM m hO).win 20).blk t).view.emb_mem_set (ix3 (0 : Fin 1) (⟨(i 1).val % 32, by omega⟩ : Fin 32) (i 2))
  refine Eq.mp (congrArg (fun q => q ∈ (((cfgM m hO).win 20).blk t).view.set) ((emb20 m hO t _ _ _).trans ?_)) hm
  funext x; apply Fin.ext
  match x with
  | ⟨0, _⟩ => exact h.symm
  | ⟨1, _⟩ => show (i 1).val / 32 * 32 + (i 1).val % 32 = (i 1).val; omega
  | ⟨2, _⟩ => rfl

/-- The call leaves the gradient in layer 0 and the other layers as they were. -/
theorem final20 (hp : Placed m c) : (dats m hO 0 c).arrAt 20 (cfgM m hO).N = (layer (gDown m c) (m (c.tc.loc main_arg16))) := by
  refine funext fun i => ((dats m hO 0 c).arrAt_eq_piecewise 20 (layer (gDown m c) (m (c.tc.loc main_arg16))) (fun t _ => ext3 fun e a b => ?_) i).trans ?_
  · show (dats m hO 0 c).after 20 t (ix3 e a b) = (layer (gDown m c) (m (c.tc.loc main_arg16))) ((((cfgM m hO).win 20).blk t).view.emb (ix3 e a b))
    rw [after20]
    refine Eq.trans ?_ ((congrArg (layer (gDown m c) (m (c.tc.loc main_arg16))) (emb20 m hO t e a b)).trans (layer_zero _ _ _ _)).symm
    unfold k0_pay7
    refine (cast_add _ _ e a b).trans ?_
    exact totalDown m hO c hp t a b
  · by_cases hc : ∃ t : Fin (cfgM m hO).N, ((cfgM m hO).win 20).flush t = true ∧ i ∈ (((cfgM m hO).win 20).blk t).view.set
    · exact if_pos hc
    · exact (if_neg hc).trans ((congrFun (V_outs m c).2.2.2.2.1 i).trans (layer_rest _ _ i fun h0 => hc (covered20 m hO i h0)).symm)

/-- The body leaves its block of the change of the weight. -/
theorem after21 (t : Fin (cfgM m hO).N) : (dats m hO 0 c).after 21 t = k0_pay8 (sumDown m hO c t) (k0_pay16 (iblk m hO c 13 t)) (k0_pay17 (iblk m hO c 15 t)) (momDown m hO c t) := by
  rw [after0_21]
  unfold outsAt0 out0_A_21 kernelRun0_A
  dsimp only
  rw [View.read_writes_junk_eq_canon, View.canon_unit_zero zzz]
  sl_unfold_words
  exact congr4 k0_pay8 (congr5 k0_pay15 (rd4 ..) (rd4 ..) (rd4 ..) (rd4 ..) (rd4 ..)) (congrArg k0_pay16 (rd3 ..)) (congrArg k0_pay17 (rd3 ..)) (congr6 k0_pay18 (rd4 ..) (rd4 ..) (rd4 ..) (rd4 ..) (rd4 ..) (rd3 ..))

/-- The call leaves the change of the weight in layer 0 and the other layers as they were. -/
theorem final21 (hp : Placed m c) : (dats m hO 0 c).arrAt 21 (cfgM m hO).N = (layer (dDown m c) (m (c.tc.loc main_arg17))) := by
  refine funext fun i => ((dats m hO 0 c).arrAt_eq_piecewise 21 (layer (dDown m c) (m (c.tc.loc main_arg17))) (fun t _ => ext3 fun e a b => ?_) i).trans ?_
  · show (dats m hO 0 c).after 21 t (ix3 e a b) = (layer (dDown m c) (m (c.tc.loc main_arg17))) ((((cfgM m hO).win 21).blk t).view.emb (ix3 e a b))
    rw [after21]
    refine Eq.trans ?_ ((congrArg (layer (dDown m c) (m (c.tc.loc main_arg17))) (emb20 m hO t e a b)).trans (layer_zero _ _ _ _)).symm
    unfold k0_pay8
    refine (cast_add _ _ e a b).trans ?_
    unfold k0_pay16
    refine congrArg (Ideal.ofBits .f32 0xBA83126F#32 * ·) (congrArg₂ (· + ·) (congrArg₂ Ideal.div ?_ ?_) ?_)
    · exact congrArg (Ideal.div · (Ideal.ofBits .f32 0x3F26BD02#32)) (newMDown m hO c hp t a b)
    · exact congrArg (fun x => Ideal.sqrt (Ideal.div x (Ideal.ofBits .f32 0x3C231ACC#32)) + Ideal.ofBits .f32 0x322BCC77#32) (newVDown m hO c hp t a b)
    · exact congrArg (Ideal.ofBits .f32 0x3C23D70A#32 * ·) ((cast_drop _ _ a b).trans (heldDown m hO c t a b).1)
  · by_cases hc : ∃ t : Fin (cfgM m hO).N, ((cfgM m hO).win 21).flush t = true ∧ i ∈ (((cfgM m hO).win 21).blk t).view.set
    · exact if_pos hc
    · exact (if_neg hc).trans ((congrFun (V_outs m c).2.2.2.2.2.1 i).trans (layer_rest _ _ i fun h0 => hc (covered20 m hO i h0)).symm)

/-- The body leaves its block of the new first moment. -/
theorem after22 (t : Fin (cfgM m hO).N) : (dats m hO 0 c).after 22 t = k0_pay9 (momDown m hO c t) := by
  rw [after0_22]
  unfold outsAt0 out0_A_22 kernelRun0_A
  dsimp only
  rw [View.read_writes_junk_eq_canon, View.canon_unit_zero zzz]
  sl_unfold_words
  exact congrArg k0_pay9 (congr6 k0_pay18 (rd4 ..) (rd4 ..) (rd4 ..) (rd4 ..) (rd4 ..) (rd3 ..))

/-- The call leaves the new first moment in layer 0 and the other layers as they were. -/
theorem final22 (hp : Placed m c) : (dats m hO 0 c).arrAt 22 (cfgM m hO).N = (layer (mDown m c) (m (c.tc.loc main_arg18))) := by
  refine funext fun i => ((dats m hO 0 c).arrAt_eq_piecewise 22 (layer (mDown m c) (m (c.tc.loc main_arg18))) (fun t _ => ext3 fun e a b => ?_) i).trans ?_
  · show (dats m hO 0 c).after 22 t (ix3 e a b) = (layer (mDown m c) (m (c.tc.loc main_arg18))) ((((cfgM m hO).win 22).blk t).view.emb (ix3 e a b))
    rw [after22]
    refine Eq.trans ?_ ((congrArg (layer (mDown m c) (m (c.tc.loc main_arg18))) (emb20 m hO t e a b)).trans (layer_zero _ _ _ _)).symm
    unfold k0_pay9
    refine (cast_add _ _ e a b).trans ?_
    exact newMDown m hO c hp t a b
  · by_cases hc : ∃ t : Fin (cfgM m hO).N, ((cfgM m hO).win 22).flush t = true ∧ i ∈ (((cfgM m hO).win 22).blk t).view.set
    · exact if_pos hc
    · exact (if_neg hc).trans ((congrFun (V_outs m c).2.2.2.2.2.2.1 i).trans (layer_rest _ _ i fun h0 => hc (covered20 m hO i h0)).symm)

/-- The body leaves its block of the new second moment. -/
theorem after23 (t : Fin (cfgM m hO).N) : (dats m hO 0 c).after 23 t = k0_pay10 (sumDown m hO c t) (k0_pay17 (iblk m hO c 15 t)) := by
  rw [after0_23]
  unfold outsAt0 out0_A_23 kernelRun0_A
  dsimp only
  rw [View.read_writes_junk_eq_canon, View.canon_unit_zero zzz]
  sl_unfold_words
  exact congrArg₂ k0_pay10 (congr5 k0_pay15 (rd4 ..) (rd4 ..) (rd4 ..) (rd4 ..) (rd4 ..)) (congrArg k0_pay17 (rd3 ..))

/-- The call leaves the new second moment in layer 0 and the other layers as they were. -/
theorem final23 (hp : Placed m c) : (dats m hO 0 c).arrAt 23 (cfgM m hO).N = (layer (vDown m c) (m (c.tc.loc main_arg19))) := by
  refine funext fun i => ((dats m hO 0 c).arrAt_eq_piecewise 23 (layer (vDown m c) (m (c.tc.loc main_arg19))) (fun t _ => ext3 fun e a b => ?_) i).trans ?_
  · show (dats m hO 0 c).after 23 t (ix3 e a b) = (layer (vDown m c) (m (c.tc.loc main_arg19))) ((((cfgM m hO).win 23).blk t).view.emb (ix3 e a b))
    rw [after23]
    refine Eq.trans ?_ ((congrArg (layer (vDown m c) (m (c.tc.loc main_arg19))) (emb20 m hO t e a b)).trans (layer_zero _ _ _ _)).symm
    unfold k0_pay10
    refine (cast_add _ _ e a b).trans ?_
    exact newVDown m hO c hp t a b
  · by_cases hc : ∃ t : Fin (cfgM m hO).N, ((cfgM m hO).win 23).flush t = true ∧ i ∈ (((cfgM m hO).win 23).blk t).view.set
    · exact if_pos hc
    · exact (if_neg hc).trans ((congrFun (V_outs m c).2.2.2.2.2.2.2 i).trans (layer_rest _ _ i fun h0 => hc (covered20 m hO i h0)).symm)

set_option maxHeartbeats 1000000 in
include hO in
/-- The call leaves, in layer 0 of each result, the gradient, the change of the weight and the two new moments of the up weight and of the
    down weight, exactly; the other layers and the arguments are unchanged. -/
theorem run (hp : ∀ c, Placed m c) :
    θ_run defs (onTc (τ := τ) (main (F := Ideal))) ⟨m, fun _ => 0, ρ⟩ fun r => ∀ c : Dev nD,
      r.2.mem (c.tc.loc main_v0_0) = layer (gUp m c) (m (c.tc.loc main_arg12))
      ∧ r.2.mem (c.tc.loc main_v0_1) = layer (dUp m c) (m (c.tc.loc main_arg13))
      ∧ r.2.mem (c.tc.loc main_v0_2) = layer (mUp m c) (m (c.tc.loc main_arg14))
      ∧ r.2.mem (c.tc.loc main_v0_3) = layer (vUp m c) (m (c.tc.loc main_arg15))
      ∧ r.2.mem (c.tc.loc main_v0_4) = layer (gDown m c) (m (c.tc.loc main_arg16))
      ∧ r.2.mem (c.tc.loc main_v0_5) = layer (dDown m c) (m (c.tc.loc main_arg17))
      ∧ r.2.mem (c.tc.loc main_v0_6) = layer (mDown m c) (m (c.tc.loc main_arg18))
      ∧ r.2.mem (c.tc.loc main_v0_7) = layer (vDown m c) (m (c.tc.loc main_arg19))
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6
      ∧ same r.2.mem m c main_arg7
      ∧ same r.2.mem m c main_arg8
      ∧ same r.2.mem m c main_arg9
      ∧ same r.2.mem m c main_arg10
      ∧ same r.2.mem m c main_arg11
      ∧ same r.2.mem m c main_arg12
      ∧ same r.2.mem m c main_arg13
      ∧ same r.2.mem m c main_arg14
      ∧ same r.2.mem m c main_arg15
      ∧ same r.2.mem m c main_arg16
      ∧ same r.2.mem m c main_arg17
      ∧ same r.2.mem m c main_arg18
      ∧ same r.2.mem m c main_arg19
      ∧ same r.2.mem m c main_arg20 :=
  (θ_run defs _ _).mono (fun r h c => ⟨((h c).1 16).trans (final16 m hO c (hp c)), ((h c).1 17).trans (final17 m hO c (hp c)), ((h c).1 18).trans (final18 m hO c (hp c)), ((h c).1 19).trans (final19 m hO c (hp c)), ((h c).1 20).trans (final20 m hO c (hp c)), ((h c).1 21).trans (final21 m hO c (hp c)), ((h c).1 22).trans (final22 m hO c (hp c)), ((h c).1 23).trans (final23 m hO c (hp c)),
      ((h c).1 0).trans (((dats m hO 0 c).arrAt_in 0 rfl _).trans ((A_eq m hO c 0).trans (V_main_arg0 m c))),
      ((h c).1 8).trans (((dats m hO 0 c).arrAt_in 8 rfl _).trans ((A_eq m hO c 8).trans (V_main_arg1 m c))),
      ((h c).1 1).trans (((dats m hO 0 c).arrAt_in 1 rfl _).trans ((A_eq m hO c 1).trans (V_main_arg2 m c))),
      ((h c).1 9).trans (((dats m hO 0 c).arrAt_in 9 rfl _).trans ((A_eq m hO c 9).trans (V_main_arg3 m c))),
      ((h c).1 4).trans (((dats m hO 0 c).arrAt_in 4 rfl _).trans ((A_eq m hO c 4).trans (V_main_arg4 m c))),
      ((h c).1 12).trans (((dats m hO 0 c).arrAt_in 12 rfl _).trans ((A_eq m hO c 12).trans (V_main_arg5 m c))),
      ((h c).1 5).trans (((dats m hO 0 c).arrAt_in 5 rfl _).trans ((A_eq m hO c 5).trans (V_main_arg6 m c))),
      ((h c).1 13).trans (((dats m hO 0 c).arrAt_in 13 rfl _).trans ((A_eq m hO c 13).trans (V_main_arg7 m c))),
      ((h c).1 6).trans (((dats m hO 0 c).arrAt_in 6 rfl _).trans ((A_eq m hO c 6).trans (V_main_arg8 m c))),
      ((h c).1 14).trans (((dats m hO 0 c).arrAt_in 14 rfl _).trans ((A_eq m hO c 14).trans (V_main_arg9 m c))),
      ((h c).1 7).trans (((dats m hO 0 c).arrAt_in 7 rfl _).trans ((A_eq m hO c 7).trans (V_main_arg10 m c))),
      ((h c).1 15).trans (((dats m hO 0 c).arrAt_in 15 rfl _).trans ((A_eq m hO c 15).trans (V_main_arg11 m c))),
      ((h c).2 main_arg12 (by decide : main_arg12 ∈ Pipeline.restRefs sig spec0)).trans (V_main_arg12 m c),
      ((h c).2 main_arg13 (by decide : main_arg13 ∈ Pipeline.restRefs sig spec0)).trans (V_main_arg13 m c),
      ((h c).2 main_arg14 (by decide : main_arg14 ∈ Pipeline.restRefs sig spec0)).trans (V_main_arg14 m c),
      ((h c).2 main_arg15 (by decide : main_arg15 ∈ Pipeline.restRefs sig spec0)).trans (V_main_arg15 m c),
      ((h c).2 main_arg16 (by decide : main_arg16 ∈ Pipeline.restRefs sig spec0)).trans (V_main_arg16 m c),
      ((h c).2 main_arg17 (by decide : main_arg17 ∈ Pipeline.restRefs sig spec0)).trans (V_main_arg17 m c),
      ((h c).2 main_arg18 (by decide : main_arg18 ∈ Pipeline.restRefs sig spec0)).trans (V_main_arg18 m c),
      ((h c).2 main_arg19 (by decide : main_arg19 ∈ Pipeline.restRefs sig spec0)).trans (V_main_arg19 m c),
      ((h c).2 main_arg20 (by decide : main_arg20 ∈ Pipeline.restRefs sig spec0)).trans (V_main_arg20 m c)⟩) (run_main m ρ hO)

end

end Cert.SumFfnClaim

end
-- ==== Proof.SumFfnReference.lean ====
/- The weight step of a feed-forward unit by its reference: the same eight arrays. -/
module

public import Idealize.ShloMosaic.Lib.DynamicIndex
public import proofs.«01_k».proof.Proof.SumFfnClaim
public import proofs.«01_k».proof.Proof.Gen.SumFfnReferenceIdeal.Run
public import proofs.«01_k».proof.Proof.Gen.SumFfnReferenceIdeal.Read

@[expose] public section

set_option maxRecDepth 16384

noncomputable section

namespace Cert.SumFfnReference

open Cert.Common Cert.Adam Cert.SumFfnClaim Idealize.ShloMosaic Idealize.ShloMosaic.TcCoe Idealize.ShloMosaic.ValueIdx
open Idealize.SL.Sem
open scoped BigOperators

/-- An index word that is not negative is taken as it is. -/
theorem wrap (w n : BitVec 32) (h : w.toNat < 2 ^ 31) : (Scalar.select (IntOp.cmpi .slt w 0#32) (IntOp.addi w n) w).toInt = w.toNat := by
  have hi : w.toInt = w.toNat := by rw [BitVec.toInt_eq_toNat_cond]; split <;> omega
  have hs : IntOp.cmpi .slt w 0#32 = 0#1 := by
    show BitVec.ofBool (w.slt 0#32) = 0#1
    have : w.slt 0#32 = false := by
      simp only [BitVec.slt, BitVec.toInt_zero, decide_eq_false_iff_not, Int.not_lt]
      omega
    rw [this]; rfl
  rw [hs]
  exact hi

/-- One matrix of a stack, cut out at a start that lies inside. -/
theorem cut {α : Type} {N r d : ℕ} (x : (⟨4, ![1, N, r, d]⟩ : Shape).Idx → α) (st : Fin 4 → Int)
    (h : (⟨4, ![1, N, r, d]⟩ : Shape).Slices (fun _ => 0) ⟨4, ![1, 1, r, d]⟩) (k : Fin N)
    (hs : ∀ a : Fin 4, st a = ((![0, k.val, 0, 0] : Fin 4 → ℕ) a : Int)) (e f : Fin 1) (a : Fin r) (b : Fin d) :
    Host.dynamicSlice ⟨4, ![1, 1, r, d]⟩ x st h (ix4 e f a b) = x (ix4 0 k a b) := by
  have hoff : (⟨4, ![1, N, r, d]⟩ : Shape).Slices ![0, k.val, 0, 0] ⟨4, ![1, 1, r, d]⟩ := ⟨rfl, fun a => by
    have := k.isLt
    match a with
    | ⟨0, _⟩ => show 0 + 1 ≤ 1; omega
    | ⟨1, _⟩ => show k.val + 1 ≤ N; omega
    | ⟨2, _⟩ => show 0 + r ≤ r; omega
    | ⟨3, _⟩ => show 0 + d ≤ d; omega⟩
  rw [Host.dynamicSlice_eq_extractStridedSlice _ _ _ _ h hoff hs]
  refine extractStridedSlice_apply ![0, k.val, 0, 0] x hoff (ix4 e f a b) (ix4 0 k a b) fun y => ?_
  have he := e.isLt
  have hf := f.isLt
  match y with
  | ⟨0, _⟩ => show 0 = 0 + e.val; omega
  | ⟨1, _⟩ => show k.val = k.val + f.val; omega
  | ⟨2, _⟩ => show a.val = 0 + a.val; omega
  | ⟨3, _⟩ => show b.val = 0 + b.val; omega

/-- A layer put before the last three layers of a stack is the stack with its layer 0 replaced. -/
theorem cat {r : ℕ} (x : (⟨3, ![1, r, 1024]⟩ : Shape).Idx → EReal) (y : (⟨3, ![3, r, 1024]⟩ : Shape).Idx → EReal)
    (h : Shape.Concatenates [⟨3, ![1, r, 1024]⟩, ⟨3, ![3, r, 1024]⟩] ⟨3, ![4, r, 1024]⟩ 0) (a : Arr ⟨2, ![r, 1024]⟩) (old : Arr ⟨3, ![4, r, 1024]⟩)
    (hx : ∀ b d, x (ix3 0 b d) = a (ix2 b d)) (hy : ∀ (e : Fin 3) b d, y (ix3 e b d) = old (ix3 (⟨1 + e.val, by omega⟩ : Fin 4) b d)) :
    concatenate ⟨3, ![4, r, 1024]⟩ 0 [⟨⟨3, ![1, r, 1024]⟩, x⟩, ⟨⟨3, ![3, r, 1024]⟩, y⟩] h = layer a old := by
  refine ext3 fun e b d => ?_
  by_cases he : e.val = 0
  · obtain rfl : e = 0 := Fin.ext he
    rw [layer_zero, ← hx]
    exact concatenate_pair_apply_left (t := ⟨3, ![4, r, 1024]⟩) 0 x y h (ix3 0 b d) rfl (ix3 0 b d) fun z => match z with
      | ⟨0, _⟩ => rfl
      | ⟨1, _⟩ => rfl
      | ⟨2, _⟩ => rfl
  · have hlt := e.isLt
    rw [layer_rest _ _ (ix3 e b d) he]
    refine (concatenate_pair_apply_right (t := ⟨3, ![4, r, 1024]⟩) 0 x y h (ix3 e b d) rfl rfl (ix3 (⟨e.val - 1, by omega⟩ : Fin 3) b d) (fun z hz => ?_) ?_).trans ((hy _ b d).trans ?_)
    · match z with
      | ⟨0, _⟩ => exact absurd rfl hz
      | ⟨1, _⟩ => rfl
      | ⟨2, _⟩ => rfl
    · show e.val - 1 + 1 = e.val; omega
    · exact congrArg (fun q => old (ix3 q b d)) (Fin.ext (by show 1 + (e.val - 1) = e.val; omega))

theorem flat4 {r d : ℕ} (j : (⟨4, ![1, 1, r, d]⟩ : Shape).Idx) (i : (⟨2, ![r, d]⟩ : Shape).Idx) (h0 : (j 0).val = 0) (h1 : (j 1).val = 0)
    (h2 : (j 2).val = ((i 0).val * d + (i 1).val) / d % r) (h3 : (j 3).val = ((i 0).val * d + (i 1).val) % d) : j = ix4 0 0 (i 0) (i 1) := by
  have i0 : (i 0).val < r := (i 0).isLt
  have i1 : (i 1).val < d := (i 1).isLt
  have e : ((i 0).val * d + (i 1).val) / d = (i 0).val := by
    rw [Nat.mul_comm, Nat.mul_add_div (by omega), Nat.div_eq_of_lt i1, Nat.add_zero]
  rw [e, Nat.mod_eq_of_lt i0] at h2
  rw [Nat.mul_comm, Nat.mul_add_mod, Nat.mod_eq_of_lt i1] at h3
  funext a
  match a with
  | ⟨0, _⟩ => exact Fin.ext h0
  | ⟨1, _⟩ => exact Fin.ext h1
  | ⟨2, _⟩ => exact Fin.ext h2
  | ⟨3, _⟩ => exact Fin.ext h3

theorem flat3 {r : ℕ} (j : (⟨3, ![4, r, 1024]⟩ : Shape).Idx) (i : (⟨2, ![r, 1024]⟩ : Shape).Idx) (h0 : (j 0).val = 0)
    (h1 : (j 1).val = ((i 0).val * 1024 + (i 1).val) / 1024 % r) (h2 : (j 2).val = ((i 0).val * 1024 + (i 1).val) % 1024) : j = ix3 0 (i 0) (i 1) := by
  have i0 : (i 0).val < r := (i 0).isLt
  have i1 : (i 1).val < 1024 := (i 1).isLt
  have e : ((i 0).val * 1024 + (i 1).val) / 1024 = (i 0).val := by omega
  rw [e, Nat.mod_eq_of_lt i0] at h1
  funext a
  match a with
  | ⟨0, _⟩ => exact Fin.ext h0
  | ⟨1, _⟩ => exact Fin.ext h1
  | ⟨2, _⟩ => exact Fin.ext (h2.trans (by show _ = (i 1).val; omega))

open Cert.SumFfnReferenceIdeal Cert.SumFfnReferenceIdeal.Gen Cert.SumFfnReferenceIdeal.Read

/-- A word of the place words, as a scalar. -/
theorem word {p : IVec S3 32} (k : Fin 3) (off : Fin 1 → ℕ) (ho : off 0 = k.val) (h : S3.Slices off S1) (h' : S1.ShapeCasts S_) (i : S_.Idx) :
    shapeCast S_ (extractStridedSlice S1 off p h) h' i = p (ix1 k) := by
  refine (extractStridedSlice_apply off p h _ (ix1 k) fun a => ?_)
  obtain rfl : a = 0 := Subsingleton.elim _ _
  have : ∀ q : Fin 1, k.val = off 0 + q.val := fun q => by have := q.isLt; omega
  exact this _

/-! ## The up weight -/

section
variable (x0 : Stk4 1 8 704 1024) (x2 : Stk4 1 4 704 1024) (x4 : Stk4 1 3 704 1024) (x6 x8 x10 old : Arr S4x704x1024) (x20 : IVec S3 32)
  (hp : (x20 (ix1 1)).toNat < 4 ∧ (x20 (ix1 2)).toNat < 8) (i : S704x1024.Idx)

include hp in
theorem ownUp :
    val_main_v15 (F := Ideal) x0 x20 i = x0 (ix4 0 (dev x20) (i 0) (i 1)) := by
  rw [val_main_v15_apply]
  rw [flat4 (idx_main_v15 i) i rfl rfl rfl rfl]
  refine cut x0 _ _ (dev x20) (fun a => ?_) 0 0 (i 0) (i 1)
  match a with
  | ⟨0, _⟩ => rfl
  | ⟨1, _⟩ =>
    show (val_main_v7 (F := Ideal) x20 _).toInt = (((x20 (ix1 2)).toNat % 8 : ℕ) : Int)
    rw [val_main_v7_apply, val_main_v5_apply, val_main_v6_apply, show val_main_v1 (F := Ideal) x20 _ = x20 (ix1 2) from word 2 _ rfl _ _ _]
    refine (wrap _ _ (by omega)).trans ?_
    omega
  | ⟨2, _⟩ => rfl
  | ⟨3, _⟩ => rfl

include hp in
theorem twinUp :
    val_main_v31 (F := Ideal) x2 x20 i = x2 (ix4 0 (chip x20) (i 0) (i 1)) := by
  rw [val_main_v31_apply]
  rw [flat4 (idx_main_v31 i) i rfl rfl rfl rfl]
  refine cut x2 _ _ (chip x20) (fun a => ?_) 0 0 (i 0) (i 1)
  match a with
  | ⟨0, _⟩ => rfl
  | ⟨1, _⟩ =>
    show (val_main_v23 (F := Ideal) x20 _).toInt = (((x20 (ix1 1)).toNat % 4 : ℕ) : Int)
    rw [val_main_v23_apply, val_main_v21_apply, val_main_v22_apply, show val_main_v17 (F := Ideal) x20 _ = x20 (ix1 1) from word 1 _ rfl _ _ _]
    refine (wrap _ _ (by omega)).trans ?_
    omega
  | ⟨2, _⟩ => rfl
  | ⟨3, _⟩ => rfl

include hp in
/-- The reference's gradient. -/
theorem totalUp : val_main_v37 (F := Ideal) x0 x2 x4 x20 = total x0 x2 x4 x20 := by
  funext i
  have idx (k : Fin 3) : idx_main_v34 (idx_main_v36 i k) = ix4 0 k (i 0) (i 1) := by
    have hk := k.isLt
    have h0 : (i 0).val < 704 := (i 0).isLt
    have h1 : (i 1).val < 1024 := (i 1).isLt
    funext a
    match a with
    | ⟨0, _⟩ => rfl
    | ⟨1, _⟩ => exact Fin.ext (by show ((k.val * 704 + (i 0).val) * 1024 + (i 1).val) / 720896 % 3 = k.val; omega)
    | ⟨2, _⟩ => exact Fin.ext (by show ((k.val * 704 + (i 0).val) * 1024 + (i 1).val) / 1024 % 704 = (i 0).val; omega)
    | ⟨3, _⟩ => exact Fin.ext (by show ((k.val * 704 + (i 0).val) * 1024 + (i 1).val) % 1024 = (i 1).val; omega)
  rw [val_main_v37_apply, val_main_v33_apply, val_main_v32_apply, val_main_v36_apply, val_main_cst_apply, Fin.sum_univ_three, ownUp _ _ hp, twinUp _ _ hp]
  simp only [val_main_v35_apply, val_main_v34_apply, idx]
  show x0 _ + x2 _ + (Ideal.ofBits .f32 0x00000000#32 + (x4 _ + x4 _ + x4 _)) = _
  rw [Ideal.ofBits_zero_f32, zero_add, ← add_assoc, ← add_assoc]
  rfl

theorem wUp : val_main_v39 (F := Ideal) x6 = first x6 := by
  funext i
  rw [val_main_v39_apply, val_main_v38_apply]
  exact congrArg x6 (flat3 (idx_main_v38 (idx_main_v39 i)) i rfl rfl rfl)

theorem mUp : val_main_v41 (F := Ideal) x8 = first x8 := by
  funext i
  rw [val_main_v41_apply, val_main_v40_apply]
  exact congrArg x8 (flat3 (idx_main_v40 (idx_main_v41 i)) i rfl rfl rfl)

theorem vUp : val_main_v43 (F := Ideal) x10 = first x10 := by
  funext i
  rw [val_main_v43_apply, val_main_v42_apply]
  exact congrArg x10 (flat3 (idx_main_v42 (idx_main_v43 i)) i rfl rfl rfl)

include hp in
/-- The reference's new first moment. -/
theorem newMUp : val_main_v48 (F := Ideal) x0 x2 x4 x8 x20 = newM (total x0 x2 x4 x20) (first x8) := by
  funext i
  rw [val_main_v48_apply, val_main_v45_apply, val_main_v47_apply, val_main_v44_apply, val_main_v46_apply, val_main_cst_33_apply, val_main_cst_34_apply, totalUp _ _ _ _ hp, mUp]
  rfl

include hp in
/-- The reference's new second moment. -/
theorem newVUp : val_main_v54 (F := Ideal) x0 x2 x4 x10 x20 = newV (total x0 x2 x4 x20) (first x10) := by
  funext i
  rw [val_main_v54_apply, val_main_v50_apply, val_main_v53_apply, val_main_v49_apply, val_main_v52_apply, val_main_v51_apply, val_main_cst_35_apply, val_main_cst_36_apply, totalUp _ _ _ _ hp, vUp]
  rfl

include hp in
/-- The reference's change of the weight. -/
theorem deltaUp :
    val_main_v67 (F := Ideal) x0 x2 x4 x6 x8 x10 x20 = delta (first x6) (total x0 x2 x4 x20) (first x8) (first x10) := by
  funext i
  rw [val_main_v67_apply, val_main_v65_apply, val_main_v62_apply, val_main_v56_apply, val_main_v61_apply, val_main_v59_apply, val_main_v58_apply, val_main_v64_apply, newMUp _ _ _ _ _ hp, newVUp _ _ _ _ _ hp, wUp, val_main_v66_apply, val_main_v63_apply, val_main_v60_apply, val_main_v57_apply, val_main_v55_apply, val_main_cst_37_apply, val_main_cst_38_apply, val_main_cst_39_apply, val_main_cst_40_apply, val_main_cst_41_apply]
  rfl

/-! The four results: layer 0 is the new value, the other layers are kept. -/

include hp in
theorem gresUp : val_main_v70 (F := Ideal) x0 x2 x4 old x20 = layer (total x0 x2 x4 x20) old := by
  refine cat _ _ _ _ _ (fun b d => ?_) fun e b d => ?_
  · rw [val_main_v68_apply, totalUp _ _ _ _ hp]
    exact congrArg (total x0 x2 x4 x20) (funext fun y => by
      match y with
      | ⟨0, _⟩ => rfl
      | ⟨1, _⟩ => rfl)
  · rw [val_main_v69_apply]
    exact congrArg old (funext fun y => by
      match y with
      | ⟨0, _⟩ => rfl
      | ⟨1, _⟩ => rfl
      | ⟨2, _⟩ => rfl)

include hp in
theorem dresUp : val_main_v73 (F := Ideal) x0 x2 x4 x6 x8 x10 old x20 = layer (delta (first x6) (total x0 x2 x4 x20) (first x8) (first x10)) old := by
  refine cat _ _ _ _ _ (fun b d => ?_) fun e b d => ?_
  · rw [val_main_v71_apply, deltaUp _ _ _ _ _ _ _ hp]
    exact congrArg (delta (first x6) (total x0 x2 x4 x20) (first x8) (first x10)) (funext fun y => by
      match y with
      | ⟨0, _⟩ => rfl
      | ⟨1, _⟩ => rfl)
  · rw [val_main_v72_apply]
    exact congrArg old (funext fun y => by
      match y with
      | ⟨0, _⟩ => rfl
      | ⟨1, _⟩ => rfl
      | ⟨2, _⟩ => rfl)

include hp in
theorem mresUp : val_main_v76 (F := Ideal) x0 x2 x4 x8 old x20 = layer (newM (total x0 x2 x4 x20) (first x8)) old := by
  refine cat _ _ _ _ _ (fun b d => ?_) fun e b d => ?_
  · rw [val_main_v74_apply, newMUp _ _ _ _ _ hp]
    exact congrArg (newM (total x0 x2 x4 x20) (first x8)) (funext fun y => by
      match y with
      | ⟨0, _⟩ => rfl
      | ⟨1, _⟩ => rfl)
  · rw [val_main_v75_apply]
    exact congrArg old (funext fun y => by
      match y with
      | ⟨0, _⟩ => rfl
      | ⟨1, _⟩ => rfl
      | ⟨2, _⟩ => rfl)

include hp in
theorem vresUp : val_main_v79 (F := Ideal) x0 x2 x4 x10 old x20 = layer (newV (total x0 x2 x4 x20) (first x10)) old := by
  refine cat _ _ _ _ _ (fun b d => ?_) fun e b d => ?_
  · rw [val_main_v77_apply, newVUp _ _ _ _ _ hp]
    exact congrArg (newV (total x0 x2 x4 x20) (first x10)) (funext fun y => by
      match y with
      | ⟨0, _⟩ => rfl
      | ⟨1, _⟩ => rfl)
  · rw [val_main_v78_apply]
    exact congrArg old (funext fun y => by
      match y with
      | ⟨0, _⟩ => rfl
      | ⟨1, _⟩ => rfl
      | ⟨2, _⟩ => rfl)

end

/-! ## The down weight -/

section
variable (x1 : Stk4 1 8 352 1024) (x3 : Stk4 1 4 352 1024) (x5 : Stk4 1 3 352 1024) (x7 x9 x11 old : Arr S4x352x1024) (x20 : IVec S3 32)
  (hp : (x20 (ix1 1)).toNat < 4 ∧ (x20 (ix1 2)).toNat < 8) (i : S352x1024.Idx)

include hp in
theorem ownDown :
    val_main_v95 (F := Ideal) x1 x20 i = x1 (ix4 0 (dev x20) (i 0) (i 1)) := by
  rw [val_main_v95_apply]
  rw [flat4 (idx_main_v95 i) i rfl rfl rfl rfl]
  refine cut x1 _ _ (dev x20) (fun a => ?_) 0 0 (i 0) (i 1)
  match a with
  | ⟨0, _⟩ => rfl
  | ⟨1, _⟩ =>
    show (val_main_v87 (F := Ideal) x20 _).toInt = (((x20 (ix1 2)).toNat % 8 : ℕ) : Int)
    rw [val_main_v87_apply, val_main_v85_apply, val_main_v86_apply, show val_main_v81 (F := Ideal) x20 _ = x20 (ix1 2) from word 2 _ rfl _ _ _]
    refine (wrap _ _ (by omega)).trans ?_
    omega
  | ⟨2, _⟩ => rfl
  | ⟨3, _⟩ => rfl

include hp in
theorem twinDown :
    val_main_v111 (F := Ideal) x3 x20 i = x3 (ix4 0 (chip x20) (i 0) (i 1)) := by
  rw [val_main_v111_apply]
  rw [flat4 (idx_main_v111 i) i rfl rfl rfl rfl]
  refine cut x3 _ _ (chip x20) (fun a => ?_) 0 0 (i 0) (i 1)
  match a with
  | ⟨0, _⟩ => rfl
  | ⟨1, _⟩ =>
    show (val_main_v103 (F := Ideal) x20 _).toInt = (((x20 (ix1 1)).toNat % 4 : ℕ) : Int)
    rw [val_main_v103_apply, val_main_v101_apply, val_main_v102_apply, show val_main_v97 (F := Ideal) x20 _ = x20 (ix1 1) from word 1 _ rfl _ _ _]
    refine (wrap _ _ (by omega)).trans ?_
    omega
  | ⟨2, _⟩ => rfl
  | ⟨3, _⟩ => rfl

include hp in
/-- The reference's gradient. -/
theorem totalDown : val_main_v117 (F := Ideal) x1 x3 x5 x20 = total x1 x3 x5 x20 := by
  funext i
  have idx (k : Fin 3) : idx_main_v114 (idx_main_v116 i k) = ix4 0 k (i 0) (i 1) := by
    have hk := k.isLt
    have h0 : (i 0).val < 352 := (i 0).isLt
    have h1 : (i 1).val < 1024 := (i 1).isLt
    funext a
    match a with
    | ⟨0, _⟩ => rfl
    | ⟨1, _⟩ => exact Fin.ext (by show ((k.val * 352 + (i 0).val) * 1024 + (i 1).val) / 360448 % 3 = k.val; omega)
    | ⟨2, _⟩ => exact Fin.ext (by show ((k.val * 352 + (i 0).val) * 1024 + (i 1).val) / 1024 % 352 = (i 0).val; omega)
    | ⟨3, _⟩ => exact Fin.ext (by show ((k.val * 352 + (i 0).val) * 1024 + (i 1).val) % 1024 = (i 1).val; omega)
  rw [val_main_v117_apply, val_main_v113_apply, val_main_v112_apply, val_main_v116_apply, val_main_cst_76_apply, Fin.sum_univ_three, ownDown _ _ hp, twinDown _ _ hp]
  simp only [val_main_v115_apply, val_main_v114_apply, idx]
  show x1 _ + x3 _ + (Ideal.ofBits .f32 0x00000000#32 + (x5 _ + x5 _ + x5 _)) = _
  rw [Ideal.ofBits_zero_f32, zero_add, ← add_assoc, ← add_assoc]
  rfl

theorem wDown : val_main_v119 (F := Ideal) x7 = first x7 := by
  funext i
  rw [val_main_v119_apply, val_main_v118_apply]
  exact congrArg x7 (flat3 (idx_main_v118 (idx_main_v119 i)) i rfl rfl rfl)

theorem mDown : val_main_v121 (F := Ideal) x9 = first x9 := by
  funext i
  rw [val_main_v121_apply, val_main_v120_apply]
  exact congrArg x9 (flat3 (idx_main_v120 (idx_main_v121 i)) i rfl rfl rfl)

theorem vDown : val_main_v123 (F := Ideal) x11 = first x11 := by
  funext i
  rw [val_main_v123_apply, val_main_v122_apply]
  exact congrArg x11 (flat3 (idx_main_v122 (idx_main_v123 i)) i rfl rfl rfl)

include hp in
/-- The reference's new first moment. -/
theorem newMDown : val_main_v128 (F := Ideal) x1 x3 x5 x9 x20 = newM (total x1 x3 x5 x20) (first x9) := by
  funext i
  rw [val_main_v128_apply, val_main_v125_apply, val_main_v127_apply, val_main_v124_apply, val_main_v126_apply, val_main_cst_77_apply, val_main_cst_78_apply, totalDown _ _ _ _ hp, mDown]
  rfl

include hp in
/-- The reference's new second moment. -/
theorem newVDown : val_main_v134 (F := Ideal) x1 x3 x5 x11 x20 = newV (total x1 x3 x5 x20) (first x11) := by
  funext i
  rw [val_main_v134_apply, val_main_v130_apply, val_main_v133_apply, val_main_v129_apply, val_main_v132_apply, val_main_v131_apply, val_main_cst_79_apply, val_main_cst_80_apply, totalDown _ _ _ _ hp, vDown]
  rfl

include hp in
/-- The reference's change of the weight. -/
theorem deltaDown :
    val_main_v147 (F := Ideal) x1 x3 x5 x7 x9 x11 x20 = delta (first x7) (total x1 x3 x5 x20) (first x9) (first x11) := by
  funext i
  rw [val_main_v147_apply, val_main_v145_apply, val_main_v142_apply, val_main_v136_apply, val_main_v141_apply, val_main_v139_apply, val_main_v138_apply, val_main_v144_apply, newMDown _ _ _ _ _ hp, newVDown _ _ _ _ _ hp, wDown, val_main_v146_apply, val_main_v143_apply, val_main_v140_apply, val_main_v137_apply, val_main_v135_apply, val_main_cst_81_apply, val_main_cst_82_apply, val_main_cst_83_apply, val_main_cst_84_apply, val_main_cst_85_apply]
  rfl

/-! The four results: layer 0 is the new value, the other layers are kept. -/

include hp in
theorem gresDown : val_main_v150 (F := Ideal) x1 x3 x5 old x20 = layer (total x1 x3 x5 x20) old := by
  refine cat _ _ _ _ _ (fun b d => ?_) fun e b d => ?_
  · rw [val_main_v148_apply, totalDown _ _ _ _ hp]
    exact congrArg (total x1 x3 x5 x20) (funext fun y => by
      match y with
      | ⟨0, _⟩ => rfl
      | ⟨1, _⟩ => rfl)
  · rw [val_main_v149_apply]
    exact congrArg old (funext fun y => by
      match y with
      | ⟨0, _⟩ => rfl
      | ⟨1, _⟩ => rfl
      | ⟨2, _⟩ => rfl)

include hp in
theorem dresDown : val_main_v153 (F := Ideal) x1 x3 x5 x7 x9 x11 old x20 = layer (delta (first x7) (total x1 x3 x5 x20) (first x9) (first x11)) old := by
  refine cat _ _ _ _ _ (fun b d => ?_) fun e b d => ?_
  · rw [val_main_v151_apply, deltaDown _ _ _ _ _ _ _ hp]
    exact congrArg (delta (first x7) (total x1 x3 x5 x20) (first x9) (first x11)) (funext fun y => by
      match y with
      | ⟨0, _⟩ => rfl
      | ⟨1, _⟩ => rfl)
  · rw [val_main_v152_apply]
    exact congrArg old (funext fun y => by
      match y with
      | ⟨0, _⟩ => rfl
      | ⟨1, _⟩ => rfl
      | ⟨2, _⟩ => rfl)

include hp in
theorem mresDown : val_main_v156 (F := Ideal) x1 x3 x5 x9 old x20 = layer (newM (total x1 x3 x5 x20) (first x9)) old := by
  refine cat _ _ _ _ _ (fun b d => ?_) fun e b d => ?_
  · rw [val_main_v154_apply, newMDown _ _ _ _ _ hp]
    exact congrArg (newM (total x1 x3 x5 x20) (first x9)) (funext fun y => by
      match y with
      | ⟨0, _⟩ => rfl
      | ⟨1, _⟩ => rfl)
  · rw [val_main_v155_apply]
    exact congrArg old (funext fun y => by
      match y with
      | ⟨0, _⟩ => rfl
      | ⟨1, _⟩ => rfl
      | ⟨2, _⟩ => rfl)

include hp in
theorem vresDown : val_main_v159 (F := Ideal) x1 x3 x5 x11 old x20 = layer (newV (total x1 x3 x5 x20) (first x11)) old := by
  refine cat _ _ _ _ _ (fun b d => ?_) fun e b d => ?_
  · rw [val_main_v157_apply, newVDown _ _ _ _ _ hp]
    exact congrArg (newV (total x1 x3 x5 x20) (first x11)) (funext fun y => by
      match y with
      | ⟨0, _⟩ => rfl
      | ⟨1, _⟩ => rfl)
  · rw [val_main_v158_apply]
    exact congrArg old (funext fun y => by
      match y with
      | ⟨0, _⟩ => rfl
      | ⟨1, _⟩ => rfl
      | ⟨2, _⟩ => rfl)

end

variable (m : (ℓ : Loc nD τ sig) → Buf (Elt Ideal) ℓ) (ρ : Dev nD → PrngReg)

set_option maxHeartbeats 1000000 in
/-- The reference leaves the same arrays and its arguments unchanged. -/
theorem run (hp : ∀ c : Dev nD, ((m (c.tc.loc main_arg20) : IVec S3 32) (ix1 1)).toNat < 4 ∧ ((m (c.tc.loc main_arg20) : IVec S3 32) (ix1 2)).toNat < 8) :
    θ_run defs (onTc (τ := τ) (main (F := Ideal))) ⟨m, fun _ => 0, ρ⟩ fun r => ∀ c : Dev nD,
      r.2.mem (c.tc.loc main_v70) = layer (total (m (c.tc.loc main_arg0)) (m (c.tc.loc main_arg2)) (m (c.tc.loc main_arg4)) (m (c.tc.loc main_arg20))) (m (c.tc.loc main_arg12))
      ∧ r.2.mem (c.tc.loc main_v73) = layer (delta (first (m (c.tc.loc main_arg6))) (total (m (c.tc.loc main_arg0)) (m (c.tc.loc main_arg2)) (m (c.tc.loc main_arg4)) (m (c.tc.loc main_arg20))) (first (m (c.tc.loc main_arg8))) (first (m (c.tc.loc main_arg10)))) (m (c.tc.loc main_arg13))
      ∧ r.2.mem (c.tc.loc main_v76) = layer (newM (total (m (c.tc.loc main_arg0)) (m (c.tc.loc main_arg2)) (m (c.tc.loc main_arg4)) (m (c.tc.loc main_arg20))) (first (m (c.tc.loc main_arg8)))) (m (c.tc.loc main_arg14))
      ∧ r.2.mem (c.tc.loc main_v79) = layer (newV (total (m (c.tc.loc main_arg0)) (m (c.tc.loc main_arg2)) (m (c.tc.loc main_arg4)) (m (c.tc.loc main_arg20))) (first (m (c.tc.loc main_arg10)))) (m (c.tc.loc main_arg15))
      ∧ r.2.mem (c.tc.loc main_v150) = layer (total (m (c.tc.loc main_arg1)) (m (c.tc.loc main_arg3)) (m (c.tc.loc main_arg5)) (m (c.tc.loc main_arg20))) (m (c.tc.loc main_arg16))
      ∧ r.2.mem (c.tc.loc main_v153) = layer (delta (first (m (c.tc.loc main_arg7))) (total (m (c.tc.loc main_arg1)) (m (c.tc.loc main_arg3)) (m (c.tc.loc main_arg5)) (m (c.tc.loc main_arg20))) (first (m (c.tc.loc main_arg9))) (first (m (c.tc.loc main_arg11)))) (m (c.tc.loc main_arg17))
      ∧ r.2.mem (c.tc.loc main_v156) = layer (newM (total (m (c.tc.loc main_arg1)) (m (c.tc.loc main_arg3)) (m (c.tc.loc main_arg5)) (m (c.tc.loc main_arg20))) (first (m (c.tc.loc main_arg9)))) (m (c.tc.loc main_arg18))
      ∧ r.2.mem (c.tc.loc main_v159) = layer (newV (total (m (c.tc.loc main_arg1)) (m (c.tc.loc main_arg3)) (m (c.tc.loc main_arg5)) (m (c.tc.loc main_arg20))) (first (m (c.tc.loc main_arg11)))) (m (c.tc.loc main_arg19))
      ∧ same r.2.mem m c main_arg0
      ∧ same r.2.mem m c main_arg1
      ∧ same r.2.mem m c main_arg2
      ∧ same r.2.mem m c main_arg3
      ∧ same r.2.mem m c main_arg4
      ∧ same r.2.mem m c main_arg5
      ∧ same r.2.mem m c main_arg6
      ∧ same r.2.mem m c main_arg7
      ∧ same r.2.mem m c main_arg8
      ∧ same r.2.mem m c main_arg9
      ∧ same r.2.mem m c main_arg10
      ∧ same r.2.mem m c main_arg11
      ∧ same r.2.mem m c main_arg12
      ∧ same r.2.mem m c main_arg13
      ∧ same r.2.mem m c main_arg14
      ∧ same r.2.mem m c main_arg15
      ∧ same r.2.mem m c main_arg16
      ∧ same r.2.mem m c main_arg17
      ∧ same r.2.mem m c main_arg18
      ∧ same r.2.mem m c main_arg19
      ∧ same r.2.mem m c main_arg20 :=
  (θ_run defs _ _).mono (fun _ h c => ⟨(h c).1.trans ((val_main_v70_eq _).trans (gresUp _ _ _ _ _ (hp c))),
      (h c).2.1.trans ((val_main_v73_eq _).trans (dresUp _ _ _ _ _ _ _ _ (hp c))),
      (h c).2.2.1.trans ((val_main_v76_eq _).trans (mresUp _ _ _ _ _ _ (hp c))),
      (h c).2.2.2.1.trans ((val_main_v79_eq _).trans (vresUp _ _ _ _ _ _ (hp c))),
      (h c).2.2.2.2.1.trans ((val_main_v150_eq _).trans (gresDown _ _ _ _ _ (hp c))),
      (h c).2.2.2.2.2.1.trans ((val_main_v153_eq _).trans (dresDown _ _ _ _ _ _ _ _ (hp c))),
      (h c).2.2.2.2.2.2.1.trans ((val_main_v156_eq _).trans (mresDown _ _ _ _ _ _ (hp c))),
      (h c).2.2.2.2.2.2.2.1.trans ((val_main_v159_eq _).trans (vresDown _ _ _ _ _ _ (hp c))),
      (h c).2.2.2.2.2.2.2.2⟩)
    (Value.run m ρ)

end Cert.SumFfnReference

end
-- ==== Proof.SumSmallClaim.lean ====
/- The small weights' packed gradient: a device's eighth of the received partial gradients, summed by the call and by its reference. -/
module

public import proofs.«01_k».proof.Proof.SumFfnReference
public import proofs.«01_k».proof.Proof.Gen.SumSmall.Frame
public import proofs.«01_k».proof.Proof.Gen.SumSmallIdeal.Frame
public import proofs.«01_k».proof.Proof.Gen.SumSmallReferenceIdeal.Run
public import proofs.«01_k».proof.Proof.Gen.SumSmallReferenceIdeal.Read

@[expose] public section

set_option maxRecDepth 16384

noncomputable section

namespace Cert.SumSmallClaim

open Cert.Common Cert.Adam Cert.SumFfnPlace Cert.SumFfnClaim Cert.SumFfnReference Idealize.ShloMosaic Idealize.ShloMosaic.TcCoe Idealize.ShloMosaic.ValueIdx
open Idealize.SL.Sem
open scoped BigOperators

section
open Cert.SumSmall Cert.SumSmall.Gen

variable (m : (ℓ : Loc nD τ sig) → Buf (Elt Bits) ℓ)

/-- A table word is the place word. -/
theorem word_SumSmall (k : Fin 3) (h) : (tbl m).at 0 (Rect.unit (s := S3) ![k.val] S1.size h) numel1_S1 = m (((0 : Dev nD) : Thread nD τ).loc main_arg3) (ix1 k) := by
  refine congrArg (m (((0 : Dev nD) : Thread nD τ).loc main_arg3)) (funext fun (a : Fin 1) => ?_)
  match a with
  | ⟨0, _⟩ => rfl

/-- The precondition implies the launch's side condition: every block the place words name is inside its array. -/
theorem ok_SumSmall (h : Cert.Pre_SumSmall m) : Ok m := by
  obtain ⟨h1, h2⟩ := placed_small (h 0)
  have hr (i : grid0.Coords) : ((BitVec.ofNat 32 (i 0).val).toNat + 1) * 1600 ≤ 1600 := by
    rw [show (i 0).val = 0 from Nat.lt_one_iff.1 (i 0).isLt]; decide
  exact ⟨fun i => ⟨four (Nat.le_refl 1) ((Nat.mul_one _).trans_le (lt_of_eq_of_lt (congrArg BitVec.toNat (word_SumSmall m 2 _)) h2)) (hr i) (Nat.le_refl 128), .inl rfl⟩,
    fun i => ⟨four (Nat.le_refl 1) ((Nat.mul_one _).trans_le (lt_of_eq_of_lt (congrArg BitVec.toNat (word_SumSmall m 1 _)) h1)) (hr i) (Nat.le_refl 128), .inl rfl⟩⟩

end

section
open Cert.SumSmallIdeal Cert.SumSmallIdeal.Gen

variable (m : (ℓ : Loc nD τ sig) → Buf (Elt Ideal) ℓ)

/-- A table word is the place word. -/
theorem word_SumSmallIdeal (k : Fin 3) (h) : (tbl m).at 0 (Rect.unit (s := S3) ![k.val] S1.size h) numel1_S1 = m (((0 : Dev nD) : Thread nD τ).loc main_arg3) (ix1 k) := by
  refine congrArg (m (((0 : Dev nD) : Thread nD τ).loc main_arg3)) (funext fun (a : Fin 1) => ?_)
  match a with
  | ⟨0, _⟩ => rfl

/-- The precondition implies the launch's side condition: every block the place words name is inside its array. -/
theorem ok_SumSmallIdeal (h : Cert.Pre_SumSmallIdeal m) : Ok m := by
  obtain ⟨h1, h2⟩ := placed_small (h 0)
  have hr (i : grid0.Coords) : ((BitVec.ofNat 32 (i 0).val).toNat + 1) * 1600 ≤ 1600 := by
    rw [show (i 0).val = 0 from Nat.lt_one_iff.1 (i 0).isLt]; decide
  exact ⟨fun i => ⟨four (Nat.le_refl 1) ((Nat.mul_one _).trans_le (lt_of_eq_of_lt (congrArg BitVec.toNat (word_SumSmallIdeal m 2 _)) h2)) (hr i) (Nat.le_refl 128), .inl rfl⟩,
    fun i => ⟨four (Nat.le_refl 1) ((Nat.mul_one _).trans_le (lt_of_eq_of_lt (congrArg BitVec.toNat (word_SumSmallIdeal m 1 _)) h1)) (hr i) (Nat.le_refl 128), .inl rfl⟩⟩

variable (ρ : Dev nD → PrngReg) (hO : Ok m) (c : Dev nD)

/-- The place words. -/
abbrev place : (⟨1, ![3]⟩ : Shape).Idx → BitVec 32 := m (c.tc.loc main_arg3)

/-- They name a chip and a device. -/
abbrev Placed : Prop := (place m c (ix1 1)).toNat < 4 ∧ (place m c (ix1 2)).toNat < 8

/-- The one grid point's block row. -/
theorem row0 (t : Fin (cfgM m hO).N) (a : Fin 1600) : (BitVec.ofNat 32 (grid0.coords t 0).val).toNat * 1600 + 1 * a.val = a.val := by
  rw [show (grid0.coords t 0).val = 0 from Nat.lt_one_iff.1 (grid0.coords t 0).isLt]
  show 0 * 1600 + 1 * a.val = a.val
  omega

theorem col0 (b : Fin 128) : 0 * 128 + 1 * b.val = b.val := by omega

/-- The blocks of the five parts. -/
theorem parts (hp : Placed m c) (t : Fin (cfgM m hO).N) (a : Fin 1600) (b : Fin 128) :
    iblk m hO c 0 t (ix4 0 0 a b) = m (c.tc.loc main_arg0) (ix4 0 (dev (place m c)) a b)
    ∧ iblk m hO c 1 t (ix4 0 0 a b) = m (c.tc.loc main_arg1) (ix4 0 (chip (place m c)) a b)
    ∧ iblk m hO c 2 t (ix4 0 0 a b) = m (c.tc.loc main_arg2) (ix4 0 0 a b)
    ∧ iblk m hO c 3 t (ix4 0 0 a b) = m (c.tc.loc main_arg2) (ix4 0 1 a b)
    ∧ iblk m hO c 4 t (ix4 0 0 a b) = m (c.tc.loc main_arg2) (ix4 0 2 a b) := by
  obtain rfl : c = 0 := Subsingleton.elim _ _
  refine ⟨congrArg (m (((0 : Dev nD) : Thread nD τ).loc main_arg0)) (funext (four rfl (Fin.ext ?_) (Fin.ext (row0 m hO t a)) (Fin.ext (col0 b)))),
    congrArg (m (((0 : Dev nD) : Thread nD τ).loc main_arg1)) (funext (four rfl (Fin.ext ?_) (Fin.ext (row0 m hO t a)) (Fin.ext (col0 b)))),
    congrArg (m (((0 : Dev nD) : Thread nD τ).loc main_arg2)) (funext (four rfl rfl (Fin.ext (row0 m hO t a)) (Fin.ext (col0 b)))),
    congrArg (m (((0 : Dev nD) : Thread nD τ).loc main_arg2)) (funext (four rfl rfl (Fin.ext (row0 m hO t a)) (Fin.ext (col0 b)))),
    congrArg (m (((0 : Dev nD) : Thread nD τ).loc main_arg2)) (funext (four rfl rfl (Fin.ext (row0 m hO t a)) (Fin.ext (col0 b))))⟩
  · show ((tbl m).at 0 (Rect.unit (s := S3) ![2] S1.size inb_S3_S1_2) numel1_S1).toNat * 1 + 1 * 0 = (place m 0 (ix1 2)).toNat % 8
    rw [show (tbl m).at 0 (Rect.unit (s := S3) ![2] S1.size inb_S3_S1_2) numel1_S1 = place m 0 (ix1 2) from word_SumSmallIdeal m 2 _]
    omega
  · show ((tbl m).at 0 (Rect.unit (s := S3) ![1] S1.size inb_S3_S1_1) numel1_S1).toNat * 1 + 1 * 0 = (place m 0 (ix1 1)).toNat % 4
    rw [show (tbl m).at 0 (Rect.unit (s := S3) ![1] S1.size inb_S3_S1_1) numel1_S1 = place m 0 (ix1 1) from word_SumSmallIdeal m 1 _]
    omega

/-- The device's part of the packed gradient. -/
abbrev grad : Arr ⟨2, ![1600, 128]⟩ := total (m (c.tc.loc main_arg0)) (m (c.tc.loc main_arg1)) (m (c.tc.loc main_arg2)) (place m c)

/-- The body leaves the sum of its blocks. -/
theorem after5 (t : Fin (cfgM m hO).N) : (dats m hO 0 c).after 5 t = k0_pay1 (F := Ideal) (iblk m hO c 0 t) (iblk m hO c 1 t) (iblk m hO c 2 t) (iblk m hO c 3 t) (iblk m hO c 4 t) := by
  rw [after0_5]
  unfold outsAt0 out0_A_5 kernelRun0_A
  dsimp only
  rw [View.read_writes_junk_eq_canon, View.canon_unit_zero zz]
  sl_unfold_words
  exact congr5 k0_pay1 (rd4 (ms0_0 m hO t) (hs0_0 m hO t) (iblk m hO c 0 t) _) (rd4 (ms0_1 m hO t) (hs0_1 m hO t) (iblk m hO c 1 t) _) (rd4 (ms0_2 m hO t) (hs0_2 m hO t) (iblk m hO c 2 t) _) (rd4 (ms0_3 m hO t) (hs0_3 m hO t) (iblk m hO c 3 t) _) (rd4 (ms0_4 m hO t) (hs0_4 m hO t) (iblk m hO c 4 t) _)

/-- An index of the result's block as an index of the result. -/
theorem emb5 (t : Fin (cfgM m hO).N) (a : Fin 1600) (b : Fin 128) : (((cfgM m hO).win 5).blk t).view.emb (ix2 a b) = ix2 a b := by
  funext x; apply Fin.ext
  match x with
  | ⟨0, _⟩ => exact row0 m hO t a
  | ⟨1, _⟩ => exact col0 b

/-- The call leaves the device's part of the packed gradient. -/
theorem final5 (hp : Placed m c) : (dats m hO 0 c).arrAt 5 (cfgM m hO).N = grad m c := by
  refine (dats m hO 0 c).arrAt_eq_of_cover 5 (grad m c) (fun t _ => ext2 fun a b => ?_) fun (i : S1600x128.Idx) => ⟨⟨0, by show 0 < grid0.N; decide⟩, flush0_5 _ _, ?_⟩
  · show (dats m hO 0 c).after 5 t (ix2 a b) = grad m c ((((cfgM m hO).win 5).blk t).view.emb (ix2 a b))
    rw [after5, emb5]
    obtain ⟨h0, h1, h2, h3, h4⟩ := parts m hO c hp t a b
    unfold k0_pay1
    exact congrArg₂ (· + ·) (congrArg₂ (· + ·) (congrArg₂ (· + ·) (congrArg₂ (· + ·) ((cast_drop2 _ _ a b).trans h0) ((cast_drop2 _ _ a b).trans h1))
      ((cast_drop2 _ _ a b).trans h2)) ((cast_drop2 _ _ a b).trans h3)) ((cast_drop2 _ _ a b).trans h4)
  · have hm := (((cfgM m hO).win 5).blk ⟨0, by show 0 < grid0.N; decide⟩).view.emb_mem_set (ix2 (i 0) (i 1))
    exact Eq.mp (congrArg (fun q => q ∈ (((cfgM m hO).win 5).blk _).view.set) ((emb5 m hO _ _ _).trans (eq_ix2 i).symm)) hm

include hO in
/-- The call ends with the sum of the device's own part, its chip's twin's part and the three other chips' parts, exactly; its arguments are
    unchanged. -/
theorem run (hp : ∀ c, Placed m c) :
    θ_run defs (onTc (τ := τ) (main (F := Ideal))) ⟨m, fun _ => 0, ρ⟩ fun r => ∀ c : Dev nD,
      r.2.mem (c.tc.loc main_v0) = grad m c
      ∧ same r.2.mem m c main_arg0
      ∧ same r.2.mem m c main_arg1
      ∧ same r.2.mem m c main_arg2
      ∧ same r.2.mem m c main_arg3 :=
  (θ_run defs _ _).mono (fun r h c => ⟨((h c).1 5).trans (final5 m hO c (hp c)),
      ((h c).1 0).trans (((dats m hO 0 c).arrAt_in 0 rfl _).trans (A_eq m hO c 0)),
      ((h c).1 1).trans (((dats m hO 0 c).arrAt_in 1 rfl _).trans (A_eq m hO c 1)),
      ((h c).1 4).trans (((dats m hO 0 c).arrAt_in 4 rfl _).trans (A_eq m hO c 4)),
      (h c).2 main_arg3 (by decide : main_arg3 ∈ Pipeline.restRefs sig spec0)⟩) (run_main m ρ hO)

end

/-! ## The reference -/

/-- The sum of a family of which only the entry an index word names is not put to zero is that entry. -/
theorem pick {n : ℕ} (hn : n ≤ 8) (f : Fin n → EReal) (w : BitVec 32) (k : Fin n) (h : w.toNat = k.val) :
    Ideal.ofBits .f32 0x00000000#32 + ∑ j : Fin n, Scalar.select (IntOp.cmpi .eq (BitVec.ofNat 32 j.val) w) (f j) (Ideal.ofBits .f32 0x00000000#32) = f k := by
  have hw := w.isLt
  rw [Ideal.ofBits_zero_f32, zero_add, Finset.sum_eq_single k]
  · have e : BitVec.ofNat 32 k.val = w := by rw [← h, BitVec.ofNat_toNat, BitVec.setWidth_eq]
    rw [e]
    show (if BitVec.ofBool (w == w) = 1#1 then f k else 0) = f k
    simp
  · intro j _ hne
    have e : (BitVec.ofNat 32 j.val == w) = false := by
      rw [beq_eq_false_iff_ne]
      intro e
      have := congrArg BitVec.toNat e
      rw [BitVec.toNat_ofNat, h] at this
      have hj := j.isLt
      have hk := k.isLt
      exact hne (Fin.ext (by omega))
    show (if BitVec.ofBool (BitVec.ofNat 32 j.val == w) = 1#1 then f j else 0) = 0
    rw [e]
    rfl
  · exact fun hk => absurd (Finset.mem_univ k) hk

section
open Cert.SumSmallReferenceIdeal Cert.SumSmallReferenceIdeal.Gen Cert.SumSmallReferenceIdeal.Read

variable (x0 : Stk4 1 8 1600 128) (x1 : Stk4 1 4 1600 128) (x2 : Stk4 1 3 1600 128) (p : IVec S3 32)
  (hp : (p (ix1 1)).toNat < 4 ∧ (p (ix1 2)).toNat < 8)

/-- An entry of a stack of matrices recast from a stack of stacks. -/
theorem flat {n : ℕ} (k : Fin n) (i : S1600x128.Idx) (j : (⟨4, ![1, n, 1600, 128]⟩ : Shape).Idx) (h0 : (j 0).val = 0)
    (h1 : (j 1).val = ((k.val * 1600 + (i 0).val) * 128 + (i 1).val) / 204800 % n)
    (h2 : (j 2).val = ((k.val * 1600 + (i 0).val) * 128 + (i 1).val) / 128 % 1600)
    (h3 : (j 3).val = ((k.val * 1600 + (i 0).val) * 128 + (i 1).val) % 128) : j = ix4 0 k (i 0) (i 1) := by
  have i0 : (i 0).val < 1600 := (i 0).isLt
  have i1 : (i 1).val < 128 := (i 1).isLt
  rw [show ((k.val * 1600 + (i 0).val) * 128 + (i 1).val) / 204800 = k.val by omega, Nat.mod_eq_of_lt k.isLt] at h1
  exact funext (four (Fin.ext h0) (Fin.ext h1) (Fin.ext (h2.trans (by show _ = (i 0).val; omega))) (Fin.ext (h3.trans (by show _ = (i 1).val; omega))))

include hp in
/-- The reference's sum of the five parts. -/
theorem sum : val_main_v21 (F := Ideal) x0 x1 x2 p = total x0 x1 x2 p := by
  funext i
  rw [val_main_v21_apply, val_main_v18_apply, val_main_v8_apply, val_main_v17_apply, val_main_v20_apply, Fin.sum_univ_three]
  have e0 : (fun k => val_main_v7 (F := Ideal) x0 p (idx_main_v8 i k)) = fun k : Fin 8 =>
      Scalar.select (IntOp.cmpi .eq (BitVec.ofNat 32 k.val) (p (ix1 2))) (x0 (ix4 0 k (i 0) (i 1))) (Ideal.ofBits .f32 0x00000000#32) := funext fun k => by
    rw [val_main_v7_apply, val_main_call0_v1_apply, val_main_v6_apply, val_main_v4_apply, val_main_v5_apply, val_main_v0_apply,
      show val_main_v2 (F := Ideal) p _ = p (ix1 2) from word 2 _ rfl _ _ _, flat k i (idx_main_v0 (idx_main_v8 i k)) rfl rfl rfl rfl, val_main_call0_v2_apply]
    rfl
  have e1 : (fun k => val_main_v16 (F := Ideal) x1 p (idx_main_v17 i k)) = fun k : Fin 4 =>
      Scalar.select (IntOp.cmpi .eq (BitVec.ofNat 32 k.val) (p (ix1 1))) (x1 (ix4 0 k (i 0) (i 1))) (Ideal.ofBits .f32 0x00000000#32) := funext fun k => by
    rw [val_main_v16_apply, val_main_call1_v1_apply, val_main_v15_apply, val_main_v13_apply, val_main_v14_apply, val_main_v9_apply,
      show val_main_v11 (F := Ideal) p _ = p (ix1 1) from word 1 _ rfl _ _ _, flat k i (idx_main_v9 (idx_main_v17 i k)) rfl rfl rfl rfl, val_main_call1_v2_apply]
    rfl
  have e2 (k : Fin 3) : val_main_v19 (F := Ideal) x2 (idx_main_v20 i k) = x2 (ix4 0 k (i 0) (i 1)) := by
    rw [val_main_v19_apply, flat k i (idx_main_v19 (idx_main_v20 i k)) rfl rfl rfl rfl]
    rfl
  rw [e0, e1, e2, e2, e2]
  refine (congrArg₂ (· + ·) (congrArg₂ (· + ·)
    (pick (by decide) (fun k => x0 (ix4 0 k (i 0) (i 1))) (p (ix1 2)) (dev p) (Nat.mod_eq_of_lt hp.2).symm)
    (pick (by decide) (fun k => x1 (ix4 0 k (i 0) (i 1))) (p (ix1 1)) (chip p) (Nat.mod_eq_of_lt hp.1).symm)) rfl).trans ?_
  show x0 _ + x1 _ + (Ideal.ofBits .f32 0x00000000#32 + (x2 _ + x2 _ + x2 _)) = _
  rw [Ideal.ofBits_zero_f32, zero_add, ← add_assoc, ← add_assoc]
  rfl

variable (m : (ℓ : Loc nD τ sig) → Buf (Elt Ideal) ℓ) (ρ : Dev nD → PrngReg)

/-- The reference ends with the same sum; its arguments are unchanged. -/
theorem run_reference (hp : ∀ c : Dev nD, ((m (c.tc.loc main_arg3) : IVec S3 32) (ix1 1)).toNat < 4 ∧ ((m (c.tc.loc main_arg3) : IVec S3 32) (ix1 2)).toNat < 8) :
    θ_run defs (onTc (τ := τ) (main (F := Ideal))) ⟨m, fun _ => 0, ρ⟩ fun r => ∀ c : Dev nD,
      r.2.mem (c.tc.loc main_v21) = total (m (c.tc.loc main_arg0)) (m (c.tc.loc main_arg1)) (m (c.tc.loc main_arg2)) (m (c.tc.loc main_arg3))
      ∧ same r.2.mem m c main_arg0
      ∧ same r.2.mem m c main_arg1
      ∧ same r.2.mem m c main_arg2
      ∧ same r.2.mem m c main_arg3 :=
  (θ_run defs _ _).mono (fun _ h c => ⟨(h c).1.trans ((val_main_v21_eq _ _ _ _).trans (sum _ _ _ _ (hp c))), (h c).2⟩) (Value.run m ρ)

end

end Cert.SumSmallClaim

end
-- ==== Proof.lean ====
/- The claims of this directory, put together: the frames from the generated runs, and each value claim from the run of the
   kernel and the run of its reference, which end with the same arrays stated. -/
module

public import proofs.«01_k».proof.Defs
public import proofs.«01_k».proof.Proof.Gen.Kernel.Frame
public import proofs.«01_k».proof.Proof.Gen.DwUp.Frame
public import proofs.«01_k».proof.Proof.Gen.DwDown.Frame
public import proofs.«01_k».proof.Proof.Gen.DwIn.Frame
public import proofs.«01_k».proof.Proof.Gen.DwOut.Frame
public import proofs.«01_k».proof.Proof.Gen.DwLruUp.Frame
public import proofs.«01_k».proof.Proof.Gen.DwPoolUp.Frame
public import proofs.«01_k».proof.Proof.Gen.FfnUp.Frame
public import proofs.«01_k».proof.Proof.Gen.FfnDown.Frame
public import proofs.«01_k».proof.Proof.Gen.MixIn.Frame
public import proofs.«01_k».proof.Proof.Gen.MixOut.Frame
public import proofs.«01_k».proof.Proof.Gen.FfnDownBwd.Frame
public import proofs.«01_k».proof.Proof.Gen.AdamNorm.Frame
public import proofs.«01_k».proof.Proof.Gen.AdamPoolW.Frame
public import proofs.«01_k».proof.Proof.Gen.AdamPoolB.Frame
public import proofs.«01_k».proof.Proof.Gen.AdamPoolScale.Frame
public import proofs.«01_k».proof.Proof.Gen.AdamConvW.Frame
public import proofs.«01_k».proof.Proof.Gen.AdamLru.Frame
public import proofs.«01_k».proof.Proof.Gen.AdamHeadW.Frame
public import proofs.«01_k».proof.Proof.Gen.AdamHeadB.Frame
public import proofs.«01_k».proof.Proof.Gen.AdamFinal.Frame
public import proofs.«01_k».proof.Proof.Gen.SumFfn.Frame
public import proofs.«01_k».proof.Proof.Gen.FfnDx.Frame
public import proofs.«01_k».proof.Proof.Gen.Pre_finite_down
public import proofs.«01_k».proof.Proof.Gen.Pre_placed_ffn
public import proofs.«01_k».proof.Proof.MergeKernel
public import proofs.«01_k».proof.Proof.MergeReference
public import proofs.«01_k».proof.Proof.DwUpClaim
public import proofs.«01_k».proof.Proof.DwDownClaim
public import proofs.«01_k».proof.Proof.DwInClaim
public import proofs.«01_k».proof.Proof.DwOutClaim
public import proofs.«01_k».proof.Proof.DwLruUpClaim
public import proofs.«01_k».proof.Proof.DwPoolUpClaim
public import proofs.«01_k».proof.Proof.FfnUpClaim
public import proofs.«01_k».proof.Proof.FfnDownClaim
public import proofs.«01_k».proof.Proof.MixInClaim
public import proofs.«01_k».proof.Proof.MixOutClaim
public import proofs.«01_k».proof.Proof.FfnDownBwdClaim
public import proofs.«01_k».proof.Proof.AdamNormClaim
public import proofs.«01_k».proof.Proof.AdamPoolWClaim
public import proofs.«01_k».proof.Proof.AdamPoolBClaim
public import proofs.«01_k».proof.Proof.AdamPoolScaleClaim
public import proofs.«01_k».proof.Proof.AdamConvWClaim
public import proofs.«01_k».proof.Proof.AdamLruClaim
public import proofs.«01_k».proof.Proof.AdamHeadWClaim
public import proofs.«01_k».proof.Proof.AdamHeadBClaim
public import proofs.«01_k».proof.Proof.AdamFinalClaim
public import proofs.«01_k».proof.Proof.FfnDxClaim
public import proofs.«01_k».proof.Proof.SumFfnReference
public import proofs.«01_k».proof.Proof.SumSmallClaim
public import Idealize.ShloMosaic.Lib.Quiescent
public import Idealize.ShloMosaic.Adequacy
public import Idealize.ShloMosaic.Init

@[expose] public section

noncomputable section

namespace Cert.Proof

open Idealize.ShloMosaic Idealize.SL.Sem

/-- The reference of the gate's backward call ends, leaves its arguments unchanged and has no semaphore. -/
theorem frame_reference : Cert.quiescent_ReferenceIdeal := fun m ρ _ =>
  (θ_run Cert.ReferenceIdeal.defs _ _).mono
    (fun r h => ⟨fun c => (h c).2.2.2.2.2.2.2, sem_eq_zero_of_no_sems rfl r.2⟩) (Cert.Merge.Ref.run m ρ)

/-- The gate's backward call and its reference end with the same seven arrays. -/
theorem merge : Cert.algebraic_KernelIdeal_ReferenceIdeal := by
  intro m g m' g' _ ha
  refine ⟨_, _, _, _, _, _, _, Cert.Merge.run m g, ?_⟩
  refine (θ_run Cert.ReferenceIdeal.defs _ _).mono (fun r h c => ?_) (Cert.Merge.Ref.run m' g')
  obtain ⟨h0, h1, h2, h3, h4, h5, h6, hr⟩ := h c
  obtain ⟨a0, a1, a2, a3, a4, a5, a6⟩ := ha c
  rw [a0] at h0 h1 h2 h3 h4 h5 h6
  rw [a1, a6] at h1 h2 h3 h4 h5 h6
  rw [a2] at h3
  rw [a3] at h4
  rw [a4] at h5
  rw [a5] at h6
  exact ⟨h0, h1, h2, h3, h4, h5, h6, hr⟩

/-- The reference of the gradient of the feed-forward up-projection ends, leaves its arguments unchanged and has no semaphore. -/
theorem frame_DwUp : Cert.quiescent_DwUpReferenceIdeal := fun m ρ _ =>
  (θ_run Cert.DwUpReferenceIdeal.defs _ _).mono
    (fun r h => ⟨fun c => (h c).2.2, sem_eq_zero_of_no_sems rfl r.2⟩) (Cert.DwUp.Ref.run m ρ)

/-- The gradient of the feed-forward up-projection and its reference end with the same two arrays. -/
theorem value_DwUp : Cert.algebraic_DwUpIdeal_DwUpReferenceIdeal := by
  intro m g m' g' _ ha
  refine ⟨_, _, Cert.DwUp.run m g, ?_⟩
  refine (θ_run Cert.DwUpReferenceIdeal.defs _ _).mono (fun r h c => ?_) (Cert.DwUp.Ref.run m' g')
  obtain ⟨h0, h1, hr⟩ := h c
  obtain ⟨a0, a1⟩ := ha c
  rw [a0, a1] at h0 h1
  exact ⟨h0, h1, hr⟩

/-- The reference of the gradient of the feed-forward down-projection ends, leaves its arguments unchanged and has no semaphore. -/
theorem frame_DwDown : Cert.quiescent_DwDownReferenceIdeal := fun m ρ _ =>
  (θ_run Cert.DwDownReferenceIdeal.defs _ _).mono
    (fun r h => ⟨fun c => (h c).2.2, sem_eq_zero_of_no_sems rfl r.2⟩) (Cert.DwDown.Ref.run m ρ)

/-- The gradient of the feed-forward down-projection and its reference end with the same two arrays. -/
theorem value_DwDown : Cert.algebraic_DwDownIdeal_DwDownReferenceIdeal := by
  intro m g m' g' _ ha
  refine ⟨_, _, Cert.DwDown.run m g, ?_⟩
  refine (θ_run Cert.DwDownReferenceIdeal.defs _ _).mono (fun r h c => ?_) (Cert.DwDown.Ref.run m' g')
  obtain ⟨h0, h1, hr⟩ := h c
  obtain ⟨a0, a1⟩ := ha c
  rw [a0, a1] at h0 h1
  exact ⟨h0, h1, hr⟩

/-- The reference of the gradient of the input projection ends, leaves its arguments unchanged and has no semaphore. -/
theorem frame_DwIn : Cert.quiescent_DwInReferenceIdeal := fun m ρ _ =>
  (θ_run Cert.DwInReferenceIdeal.defs _ _).mono
    (fun r h => ⟨fun c => (h c).2.2, sem_eq_zero_of_no_sems rfl r.2⟩) (Cert.DwIn.Ref.run m ρ)

/-- The gradient of the input projection and its reference end with the same two arrays. -/
theorem value_DwIn : Cert.algebraic_DwInIdeal_DwInReferenceIdeal := by
  intro m g m' g' _ ha
  refine ⟨_, _, Cert.DwIn.run m g, ?_⟩
  refine (θ_run Cert.DwInReferenceIdeal.defs _ _).mono (fun r h c => ?_) (Cert.DwIn.Ref.run m' g')
  obtain ⟨h0, h1, hr⟩ := h c
  obtain ⟨a0, a1⟩ := ha c
  rw [a0, a1] at h0 h1
  exact ⟨h0, h1, hr⟩

/-- The reference of the gradient of the output projection ends, leaves its arguments unchanged and has no semaphore. -/
theorem frame_DwOut : Cert.quiescent_DwOutReferenceIdeal := fun m ρ _ =>
  (θ_run Cert.DwOutReferenceIdeal.defs _ _).mono
    (fun r h => ⟨fun c => (h c).2.2, sem_eq_zero_of_no_sems rfl r.2⟩) (Cert.DwOut.Ref.run m ρ)

/-- The gradient of the output projection and its reference end with the same two arrays. -/
theorem value_DwOut : Cert.algebraic_DwOutIdeal_DwOutReferenceIdeal := by
  intro m g m' g' _ ha
  refine ⟨_, _, Cert.DwOut.run m g, ?_⟩
  refine (θ_run Cert.DwOutReferenceIdeal.defs _ _).mono (fun r h c => ?_) (Cert.DwOut.Ref.run m' g')
  obtain ⟨h0, h1, hr⟩ := h c
  obtain ⟨a0, a1⟩ := ha c
  rw [a0, a1] at h0 h1
  exact ⟨h0, h1, hr⟩

/-- The reference of the gradient of the recurrence branch's projection ends, leaves its arguments unchanged and has no semaphore. -/
theorem frame_DwLruUp : Cert.quiescent_DwLruUpReferenceIdeal := fun m ρ _ =>
  (θ_run Cert.DwLruUpReferenceIdeal.defs _ _).mono
    (fun r h => ⟨fun c => (h c).2.2, sem_eq_zero_of_no_sems rfl r.2⟩) (Cert.DwLruUp.Ref.run m ρ)

/-- The gradient of the recurrence branch's projection and its reference end with the same two arrays. -/
theorem value_DwLruUp : Cert.algebraic_DwLruUpIdeal_DwLruUpReferenceIdeal := by
  intro m g m' g' _ ha
  refine ⟨_, _, Cert.DwLruUp.run m g, ?_⟩
  refine (θ_run Cert.DwLruUpReferenceIdeal.defs _ _).mono (fun r h c => ?_) (Cert.DwLruUp.Ref.run m' g')
  obtain ⟨h0, h1, hr⟩ := h c
  obtain ⟨a0, a1⟩ := ha c
  rw [a0, a1] at h0 h1
  exact ⟨h0, h1, hr⟩

/-- The reference of the gradient of the pooling branch's projection ends, leaves its arguments unchanged and has no semaphore. -/
theorem frame_DwPoolUp : Cert.quiescent_DwPoolUpReferenceIdeal := fun m ρ _ =>
  (θ_run Cert.DwPoolUpReferenceIdeal.defs _ _).mono
    (fun r h => ⟨fun c => (h c).2.2, sem_eq_zero_of_no_sems rfl r.2⟩) (Cert.DwPoolUp.Ref.run m ρ)

/-- The gradient of the pooling branch's projection and its reference end with the same two arrays. -/
theorem value_DwPoolUp : Cert.algebraic_DwPoolUpIdeal_DwPoolUpReferenceIdeal := by
  intro m g m' g' _ ha
  refine ⟨_, _, Cert.DwPoolUp.run m g, ?_⟩
  refine (θ_run Cert.DwPoolUpReferenceIdeal.defs _ _).mono (fun r h c => ?_) (Cert.DwPoolUp.Ref.run m' g')
  obtain ⟨h0, h1, hr⟩ := h c
  obtain ⟨a0, a1⟩ := ha c
  rw [a0, a1] at h0 h1
  exact ⟨h0, h1, hr⟩

/-- The call as compiled and the call read over the reals have the same text. -/
theorem defs₀_FfnUp : Cert.FfnUp.defs₀ (F := Bits) = Cert.FfnUpIdeal.defs₀ (F := Bits) := by
  unfold Cert.FfnUp.defs₀ Cert.FfnUpIdeal.defs₀
  refine congrArg Defs.onTc ?_
  funext l x
  match l, x with
  | ⟨0, _⟩, (t, s) => rfl

theorem defs_FfnUp : Cert.FfnUp.defs (F := Bits) = Cert.FfnUpIdeal.defs (F := Bits) :=
  congrArg (Pipeline.defs (Cert.FfnUpIdeal.pcfgs (F := Bits))) defs₀_FfnUp

/-- The feed-forward up-projection ends, leaves its arguments unchanged and its semaphores at zero. -/
theorem frame_FfnUp : Cert.quiescent_FfnUp := fun m ρ _ => by
  rw [defs_FfnUp]
  exact θ_run_and (Cert.FfnUpIdeal.Gen.frame_of (F := Bits) m ρ (Cert.FfnUp.Frame.dats m) (Cert.FfnUp.Frame.A_eq m) (Cert.FfnUp.Frame.run_main m ρ))
    ((θ_run (Cert.FfnUpIdeal.defs (F := Bits)) _ _).mono (fun _ h => h.2) (Cert.FfnUp.Frame.run_main_quiescent m ρ))

/-- The feed-forward up-projection ends, leaves its arguments unchanged and its semaphores at zero. -/
theorem frame_FfnUpIdeal : Cert.quiescent_FfnUpIdeal := fun m ρ _ =>
  θ_run_and (Cert.FfnUpIdeal.Gen.frame_of (F := Ideal) m ρ (Cert.FfnUp.Frame.dats m) (Cert.FfnUp.Frame.A_eq m) (Cert.FfnUp.Frame.run_main m ρ))
    ((θ_run (Cert.FfnUpIdeal.defs (F := Ideal)) _ _).mono (fun _ h => h.2) (Cert.FfnUp.Frame.run_main_quiescent m ρ))

/-- The reference of the feed-forward up-projection ends, leaves its arguments unchanged and has no semaphore. -/
theorem frame_FfnUpReference : Cert.quiescent_FfnUpReferenceIdeal := fun m ρ _ =>
  (θ_run Cert.FfnUpReferenceIdeal.defs _ _).mono
    (fun r h => ⟨fun c => (h c).2.2.2, sem_eq_zero_of_no_sems rfl r.2⟩) (Cert.FfnUp.Ref.run m ρ)

/-- The feed-forward up-projection and its reference end with the same arrays. -/
theorem value_FfnUp : Cert.algebraic_FfnUpIdeal_FfnUpReferenceIdeal := by
  intro m g m' g' _ ha
  refine ⟨_, _, _, Cert.FfnUp.run m g, ?_⟩
  refine (θ_run Cert.FfnUpReferenceIdeal.defs _ _).mono (fun r h c => ?_) (Cert.FfnUp.Ref.run m' g')
  obtain ⟨h0, h1, h2, hr⟩ := h c
  obtain ⟨a0, a1, a2⟩ := ha c
  simp only [a0, a1, a2] at h0 h1 h2
  exact ⟨h0, h1, h2, hr⟩

/-- The reference of the feed-forward down-projection ends, leaves its arguments unchanged and has no semaphore. -/
theorem frame_FfnDownReference : Cert.quiescent_FfnDownReferenceIdeal := fun m ρ _ =>
  (θ_run Cert.FfnDownReferenceIdeal.defs _ _).mono
    (fun r h => ⟨fun c => (h c).2, sem_eq_zero_of_no_sems rfl r.2⟩) (Cert.FfnDown.Ref.run m ρ)

/-- The feed-forward down-projection and its reference end with the same arrays. -/
theorem value_FfnDown : Cert.algebraic_FfnDownIdeal_FfnDownReferenceIdeal := by
  intro m g m' g' _ ha
  refine ⟨_, Cert.FfnDown.run m g, ?_⟩
  refine (θ_run Cert.FfnDownReferenceIdeal.defs _ _).mono (fun r h c => ?_) (Cert.FfnDown.Ref.run m' g')
  obtain ⟨h0, hr⟩ := h c
  obtain ⟨a0, a1, a2⟩ := ha c
  simp only [a0, a1, a2] at h0
  exact ⟨h0, hr⟩

/-- The call as compiled and the call read over the reals have the same text. -/
theorem defs₀_MixIn : Cert.MixIn.defs₀ (F := Bits) = Cert.MixInIdeal.defs₀ (F := Bits) := by
  unfold Cert.MixIn.defs₀ Cert.MixInIdeal.defs₀
  refine congrArg Defs.onTc ?_
  funext l x
  match l, x with
  | ⟨0, _⟩, (t, s) => rfl

theorem defs_MixIn : Cert.MixIn.defs (F := Bits) = Cert.MixInIdeal.defs (F := Bits) :=
  congrArg (Pipeline.defs (Cert.MixInIdeal.pcfgs (F := Bits))) defs₀_MixIn

/-- The mixer's input projection ends, leaves its arguments unchanged and its semaphores at zero. -/
theorem frame_MixIn : Cert.quiescent_MixIn := fun m ρ _ => by
  rw [defs_MixIn]
  exact θ_run_and (Cert.MixInIdeal.Gen.frame_of (F := Bits) m ρ (Cert.MixIn.Frame.dats m) (Cert.MixIn.Frame.A_eq m) (Cert.MixIn.Frame.run_main m ρ))
    ((θ_run (Cert.MixInIdeal.defs (F := Bits)) _ _).mono (fun _ h => h.2) (Cert.MixIn.Frame.run_main_quiescent m ρ))

/-- The mixer's input projection ends, leaves its arguments unchanged and its semaphores at zero. -/
theorem frame_MixInIdeal : Cert.quiescent_MixInIdeal := fun m ρ _ =>
  θ_run_and (Cert.MixInIdeal.Gen.frame_of (F := Ideal) m ρ (Cert.MixIn.Frame.dats m) (Cert.MixIn.Frame.A_eq m) (Cert.MixIn.Frame.run_main m ρ))
    ((θ_run (Cert.MixInIdeal.defs (F := Ideal)) _ _).mono (fun _ h => h.2) (Cert.MixIn.Frame.run_main_quiescent m ρ))

/-- The reference of the mixer's input projection ends, leaves its arguments unchanged and has no semaphore. -/
theorem frame_MixInReference : Cert.quiescent_MixInReferenceIdeal := fun m ρ _ =>
  (θ_run Cert.MixInReferenceIdeal.defs _ _).mono
    (fun r h => ⟨fun c => (h c).2.2, sem_eq_zero_of_no_sems rfl r.2⟩) (Cert.MixIn.Ref.run m ρ)

/-- The mixer's input projection and its reference end with the same arrays. -/
theorem value_MixIn : Cert.algebraic_MixInIdeal_MixInReferenceIdeal := by
  intro m g m' g' _ ha
  refine ⟨_, _, Cert.MixIn.run m g, ?_⟩
  refine (θ_run Cert.MixInReferenceIdeal.defs _ _).mono (fun r h c => ?_) (Cert.MixIn.Ref.run m' g')
  obtain ⟨h0, h1, hr⟩ := h c
  obtain ⟨a0, a1, a2⟩ := ha c
  simp only [a0, a1, a2] at h0 h1
  exact ⟨h0, h1, hr⟩

/-- The reference of the mixer's gates, merge and output projection ends, leaves its arguments unchanged and has no semaphore. -/
theorem frame_MixOutReference : Cert.quiescent_MixOutReferenceIdeal := fun m ρ _ =>
  (θ_run Cert.MixOutReferenceIdeal.defs _ _).mono
    (fun r h => ⟨fun c => (h c).2.2.2.2, sem_eq_zero_of_no_sems rfl r.2⟩) (Cert.MixOut.Ref.run m ρ)

/-- The mixer's gates, merge and output projection and its reference end with the same arrays. -/
theorem value_MixOut : Cert.algebraic_MixOutIdeal_MixOutReferenceIdeal := by
  intro m g m' g' _ ha
  refine ⟨_, _, _, _, Cert.MixOut.run m g, ?_⟩
  refine (θ_run Cert.MixOutReferenceIdeal.defs _ _).mono (fun r h c => ?_) (Cert.MixOut.Ref.run m' g')
  obtain ⟨h0, h1, h2, h3, hr⟩ := h c
  obtain ⟨a0, a1, a2, a3, a4, a5, a6⟩ := ha c
  simp only [a0, a1, a2, a3, a4, a5, a6] at h0 h1 h2 h3
  exact ⟨h0, h1, h2, h3, hr⟩

/-- From memories that agree on the arguments, the precondition makes the reference's arguments finite. -/
theorem real_FfnDownBwd {m : (ℓ : Loc Cert.FfnDownBwdIdeal.nD Cert.FfnDownBwdIdeal.τ Cert.FfnDownBwdIdeal.sig) → Buf (Elt Ideal) ℓ}
    {m' : (ℓ : Loc Cert.FfnDownBwdReferenceIdeal.nD Cert.FfnDownBwdReferenceIdeal.τ Cert.FfnDownBwdReferenceIdeal.sig) → Buf (Elt Ideal) ℓ}
    (ha : ∀ c : Dev Cert.FfnDownBwdIdeal.nD, m' ((c.tc : Thread Cert.FfnDownBwdReferenceIdeal.nD Cert.FfnDownBwdReferenceIdeal.τ).loc Cert.FfnDownBwdReferenceIdeal.main_arg0) = m ((c.tc : Thread Cert.FfnDownBwdIdeal.nD Cert.FfnDownBwdIdeal.τ).loc Cert.FfnDownBwdIdeal.main_arg0) ∧ m' ((c.tc : Thread Cert.FfnDownBwdReferenceIdeal.nD Cert.FfnDownBwdReferenceIdeal.τ).loc Cert.FfnDownBwdReferenceIdeal.main_arg1) = m ((c.tc : Thread Cert.FfnDownBwdIdeal.nD Cert.FfnDownBwdIdeal.τ).loc Cert.FfnDownBwdIdeal.main_arg1) ∧ m' ((c.tc : Thread Cert.FfnDownBwdReferenceIdeal.nD Cert.FfnDownBwdReferenceIdeal.τ).loc Cert.FfnDownBwdReferenceIdeal.main_arg2) = m ((c.tc : Thread Cert.FfnDownBwdIdeal.nD Cert.FfnDownBwdIdeal.τ).loc Cert.FfnDownBwdIdeal.main_arg2))
    (hp : Cert.Pre_FfnDownBwdIdeal_finite_down (hPre_finite_down := Cert.Pre_finite_down.Gen.facts) m) (c : Dev Cert.FfnDownBwdReferenceIdeal.nD) :
    (∀ i, Cert.Common.IsReal (m' ((c.tc : Thread Cert.FfnDownBwdReferenceIdeal.nD Cert.FfnDownBwdReferenceIdeal.τ).loc Cert.FfnDownBwdReferenceIdeal.main_arg0) i)) ∧ (∀ i, Cert.Common.IsReal (m' ((c.tc : Thread Cert.FfnDownBwdReferenceIdeal.nD Cert.FfnDownBwdReferenceIdeal.τ).loc Cert.FfnDownBwdReferenceIdeal.main_arg1) i)) ∧ (∀ i, Cert.Common.IsReal (m' ((c.tc : Thread Cert.FfnDownBwdReferenceIdeal.nD Cert.FfnDownBwdReferenceIdeal.τ).loc Cert.FfnDownBwdReferenceIdeal.main_arg2) i)) := by
  obtain ⟨a0, a1, a2⟩ := ha c
  rw [a0, a1, a2]
  exact Cert.Common.real_down _ _ _ (hp c)

/-- The call as compiled and the call read over the reals have the same text. -/
theorem defs₀_FfnDownBwd : Cert.FfnDownBwd.defs₀ (F := Bits) = Cert.FfnDownBwdIdeal.defs₀ (F := Bits) := by
  unfold Cert.FfnDownBwd.defs₀ Cert.FfnDownBwdIdeal.defs₀
  refine congrArg Defs.onTc ?_
  funext l x
  match l, x with
  | ⟨0, _⟩, (t, s) => rfl

theorem defs_FfnDownBwd : Cert.FfnDownBwd.defs (F := Bits) = Cert.FfnDownBwdIdeal.defs (F := Bits) :=
  congrArg (Pipeline.defs (Cert.FfnDownBwdIdeal.pcfgs (F := Bits))) defs₀_FfnDownBwd

/-- The backward pass of the feed-forward down-projection ends, leaves its arguments unchanged and its semaphores at zero. -/
theorem frame_FfnDownBwd : Cert.quiescent_FfnDownBwd := fun m ρ _ => by
  rw [defs_FfnDownBwd]
  exact θ_run_and (Cert.FfnDownBwdIdeal.Gen.frame_of (F := Bits) m ρ (Cert.FfnDownBwd.Frame.dats m) (Cert.FfnDownBwd.Frame.A_eq m) (Cert.FfnDownBwd.Frame.run_main m ρ))
    ((θ_run (Cert.FfnDownBwdIdeal.defs (F := Bits)) _ _).mono (fun _ h => h.2) (Cert.FfnDownBwd.Frame.run_main_quiescent m ρ))

/-- The backward pass of the feed-forward down-projection ends, leaves its arguments unchanged and its semaphores at zero. -/
theorem frame_FfnDownBwdIdeal : Cert.quiescent_FfnDownBwdIdeal := fun m ρ _ =>
  θ_run_and (Cert.FfnDownBwdIdeal.Gen.frame_of (F := Ideal) m ρ (Cert.FfnDownBwd.Frame.dats m) (Cert.FfnDownBwd.Frame.A_eq m) (Cert.FfnDownBwd.Frame.run_main m ρ))
    ((θ_run (Cert.FfnDownBwdIdeal.defs (F := Ideal)) _ _).mono (fun _ h => h.2) (Cert.FfnDownBwd.Frame.run_main_quiescent m ρ))

/-- The reference of the backward pass of the feed-forward down-projection ends, leaves its arguments unchanged and has no semaphore. -/
theorem frame_FfnDownBwdReference : Cert.quiescent_FfnDownBwdReferenceIdeal := fun m ρ _ =>
  (θ_run Cert.FfnDownBwdReferenceIdeal.defs _ _).mono
    (fun r h => ⟨fun c => (h c).2.2, sem_eq_zero_of_no_sems rfl r.2⟩) (Cert.FfnDownBwd.Ref.run' m ρ)

/-- The backward pass of the feed-forward down-projection and its reference end with the same arrays, when the arguments are finite. -/
theorem value_FfnDownBwd : Cert.algebraic_FfnDownBwdIdeal_FfnDownBwdReferenceIdeal_pre_finite_down (hPre_finite_down := Cert.Pre_finite_down.Gen.facts) := by
  intro m g m' g' hp ha
  refine ⟨_, _, Cert.FfnDownBwd.run m g, ?_⟩
  refine (θ_run Cert.FfnDownBwdReferenceIdeal.defs _ _).mono (fun r h c => ?_) (Cert.FfnDownBwd.Ref.run m' g' (real_FfnDownBwd ha hp))
  obtain ⟨h0, h1, hr⟩ := h c
  obtain ⟨a0, a1, a2⟩ := ha c
  simp only [a0, a1, a2] at h0 h1
  exact ⟨h0, h1, hr⟩

/-- The reference of the optimiser's step for the norm weights ends, leaves its arguments unchanged and has no semaphore. -/
theorem frame_AdamNormReference : Cert.quiescent_AdamNormReferenceIdeal := fun m ρ _ =>
  (θ_run Cert.AdamNormReferenceIdeal.defs _ _).mono
    (fun r h => ⟨fun c => (h c).2.2.2, sem_eq_zero_of_no_sems rfl r.2⟩) (Cert.AdamNorm.Ref.run m ρ)

/-- The optimiser's step for the norm weights and its reference end with the same arrays. -/
theorem value_AdamNorm : Cert.algebraic_AdamNormIdeal_AdamNormReferenceIdeal := by
  intro m g m' g' _ ha
  refine ⟨_, _, _, Cert.AdamNorm.run m g, ?_⟩
  refine (θ_run Cert.AdamNormReferenceIdeal.defs _ _).mono (fun r h c => ?_) (Cert.AdamNorm.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the pooling branch's matrices ends, leaves its arguments unchanged and has no semaphore. -/
theorem frame_AdamPoolWReference : Cert.quiescent_AdamPoolWReferenceIdeal := fun m ρ _ =>
  (θ_run Cert.AdamPoolWReferenceIdeal.defs _ _).mono
    (fun r h => ⟨fun c => (h c).2.2.2, sem_eq_zero_of_no_sems rfl r.2⟩) (Cert.AdamPoolW.Ref.run m ρ)

/-- The optimiser's step for the pooling branch's matrices and its reference end with the same arrays. -/
theorem value_AdamPoolW : Cert.algebraic_AdamPoolWIdeal_AdamPoolWReferenceIdeal := by
  intro m g m' g' _ ha
  refine ⟨_, _, _, Cert.AdamPoolW.run m g, ?_⟩
  refine (θ_run Cert.AdamPoolWReferenceIdeal.defs _ _).mono (fun r h c => ?_) (Cert.AdamPoolW.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the pooling branch's biases ends, leaves its arguments unchanged and has no semaphore. -/
theorem frame_AdamPoolBReference : Cert.quiescent_AdamPoolBReferenceIdeal := fun m ρ _ =>
  (θ_run Cert.AdamPoolBReferenceIdeal.defs _ _).mono
    (fun r h => ⟨fun c => (h c).2.2.2, sem_eq_zero_of_no_sems rfl r.2⟩) (Cert.AdamPoolB.Ref.run m ρ)

/-- The optimiser's step for the pooling branch's biases and its reference end with the same arrays. -/
theorem value_AdamPoolB : Cert.algebraic_AdamPoolBIdeal_AdamPoolBReferenceIdeal := by
  intro m g m' g' _ ha
  refine ⟨_, _, _, Cert.AdamPoolB.run m g, ?_⟩
  refine (θ_run Cert.AdamPoolBReferenceIdeal.defs _ _).mono (fun r h c => ?_) (Cert.AdamPoolB.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the pooling branch's scales ends, leaves its arguments unchanged and has no semaphore. -/
theorem frame_AdamPoolScaleReference : Cert.quiescent_AdamPoolScaleReferenceIdeal := fun m ρ _ =>
  (θ_run Cert.AdamPoolScaleReferenceIdeal.defs _ _).mono
    (fun r h => ⟨fun c => (h c).2.2.2, sem_eq_zero_of_no_sems rfl r.2⟩) (Cert.AdamPoolScale.Ref.run m ρ)

/-- The optimiser's step for the pooling branch's scales and its reference end with the same arrays. -/
theorem value_AdamPoolScale : Cert.algebraic_AdamPoolScaleIdeal_AdamPoolScaleReferenceIdeal := by
  intro m g m' g' _ ha
  refine ⟨_, _, _, Cert.AdamPoolScale.run m g, ?_⟩
  refine (θ_run Cert.AdamPoolScaleReferenceIdeal.defs _ _).mono (fun r h c => ?_) (Cert.AdamPoolScale.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the convolution's weights ends, leaves its arguments unchanged and has no semaphore. -/
theorem frame_AdamConvWReference : Cert.quiescent_AdamConvWReferenceIdeal := fun m ρ _ =>
  (θ_run Cert.AdamConvWReferenceIdeal.defs _ _).mono
    (fun r h => ⟨fun c => (h c).2.2.2, sem_eq_zero_of_no_sems rfl r.2⟩) (Cert.AdamConvW.Ref.run m ρ)

/-- The optimiser's step for the convolution's weights and its reference end with the same arrays. -/
theorem value_AdamConvW : Cert.algebraic_AdamConvWIdeal_AdamConvWReferenceIdeal := by
  intro m g m' g' _ ha
  refine ⟨_, _, _, Cert.AdamConvW.run m g, ?_⟩
  refine (θ_run Cert.AdamConvWReferenceIdeal.defs _ _).mono (fun r h c => ?_) (Cert.AdamConvW.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the recurrence's channel weights ends, leaves its arguments unchanged and has no semaphore. -/
theorem frame_AdamLruReference : Cert.quiescent_AdamLruReferenceIdeal := fun m ρ _ =>
  (θ_run Cert.AdamLruReferenceIdeal.defs _ _).mono
    (fun r h => ⟨fun c => (h c).2.2.2, sem_eq_zero_of_no_sems rfl r.2⟩) (Cert.AdamLru.Ref.run m ρ)

/-- The optimiser's step for the recurrence's channel weights and its reference end with the same arrays. -/
theorem value_AdamLru : Cert.algebraic_AdamLruIdeal_AdamLruReferenceIdeal := by
  intro m g m' g' _ ha
  refine ⟨_, _, _, Cert.AdamLru.run m g, ?_⟩
  refine (θ_run Cert.AdamLruReferenceIdeal.defs _ _).mono (fun r h c => ?_) (Cert.AdamLru.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the recurrence's gate matrices ends, leaves its arguments unchanged and has no semaphore. -/
theorem frame_AdamHeadWReference : Cert.quiescent_AdamHeadWReferenceIdeal := fun m ρ _ =>
  (θ_run Cert.AdamHeadWReferenceIdeal.defs _ _).mono
    (fun r h => ⟨fun c => (h c).2.2.2, sem_eq_zero_of_no_sems rfl r.2⟩) (Cert.AdamHeadW.Ref.run m ρ)

/-- The optimiser's step for the recurrence's gate matrices and its reference end with the same arrays. -/
theorem value_AdamHeadW : Cert.algebraic_AdamHeadWIdeal_AdamHeadWReferenceIdeal := by
  intro m g m' g' _ ha
  refine ⟨_, _, _, Cert.AdamHeadW.run m g, ?_⟩
  refine (θ_run Cert.AdamHeadWReferenceIdeal.defs _ _).mono (fun r h c => ?_) (Cert.AdamHeadW.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the recurrence's gate biases ends, leaves its arguments unchanged and has no semaphore. -/
theorem frame_AdamHeadBReference : Cert.quiescent_AdamHeadBReferenceIdeal := fun m ρ _ =>
  (θ_run Cert.AdamHeadBReferenceIdeal.defs _ _).mono
    (fun r h => ⟨fun c => (h c).2.2.2, sem_eq_zero_of_no_sems rfl r.2⟩) (Cert.AdamHeadB.Ref.run m ρ)

/-- The optimiser's step for the recurrence's gate biases and its reference end with the same arrays. -/
theorem value_AdamHeadB : Cert.algebraic_AdamHeadBIdeal_AdamHeadBReferenceIdeal := by
  intro m g m' g' _ ha
  refine ⟨_, _, _, Cert.AdamHeadB.run m g, ?_⟩
  refine (θ_run Cert.AdamHeadBReferenceIdeal.defs _ _).mono (fun r h c => ?_) (Cert.AdamHeadB.Ref.run m' g')
  obtain ⟨h0, h1, h2, hr⟩ := h c
  obtain ⟨a0, a1, a2, a3⟩ := ha c
  simp only [a0, a1, a2, a3] at h0 h1 h2
  exact ⟨h0, h1, h2, hr⟩

/-- The reference of the optimiser's step for the last norm's weights ends, leaves its arguments unchanged and has no semaphore. -/
theorem frame_AdamFinalReference : Cert.quiescent_AdamFinalReferenceIdeal := fun m ρ _ =>
  (θ_run Cert.AdamFinalReferenceIdeal.defs _ _).mono
    (fun r h => ⟨fun c => (h c).2.2.2, sem_eq_zero_of_no_sems rfl r.2⟩) (Cert.AdamFinal.Ref.run m ρ)

/-- The optimiser's step for the last norm's weights and its reference end with the same arrays. -/
theorem value_AdamFinal : Cert.algebraic_AdamFinalIdeal_AdamFinalReferenceIdeal := by
  intro m g m' g' _ ha
  refine ⟨_, _, _, Cert.AdamFinal.run m g, ?_⟩
  refine (θ_run Cert.AdamFinalReferenceIdeal.defs _ _).mono (fun r h c => ?_) (Cert.AdamFinal.Ref.run m' g')
  obtain ⟨h0, h1, h2, hr⟩ := h c
  obtain ⟨a0, a1, a2, a3⟩ := ha c
  simp only [a0, a1, a2, a3] at h0 h1 h2
  exact ⟨h0, h1, h2, hr⟩

/-- The reference of the feed-forward unit's weight step ends, leaves its arguments unchanged and has no semaphore. -/
theorem frame_SumFfnReference : Cert.quiescent_SumFfnReferenceIdeal := fun m ρ _ =>
  (θ_run Cert.SumFfnReferenceIdeal.defs _ _).mono
    (fun r h => ⟨fun c => (h c).2.2.2.2.2.2.2.2, sem_eq_zero_of_no_sems rfl r.2⟩) (Cert.SumFfnReferenceIdeal.Value.run (F := Ideal) m ρ)

/-- The feed-forward unit's weight step and its reference end with the same arrays, when the place words name a device. -/
theorem value_SumFfn : Cert.algebraic_SumFfnIdeal_SumFfnReferenceIdeal (hPre_placed_ffn := Cert.Pre_placed_ffn.Gen.facts) := by
  intro m g m' g' hp ha
  have hq : ∀ c, _ ∧ _ := fun c => Cert.SumFfnPlace.placed (hp c)
  refine ⟨_, _, _, _, _, _, _, _, Cert.SumFfnClaim.run m g (Cert.SumFfnPlace.ok_SumFfnIdeal m hp) hq, ?_⟩
  refine (θ_run Cert.SumFfnReferenceIdeal.defs _ _).mono (fun r h c => ?_) (Cert.SumFfnReference.run m' g' (fun c => by
    obtain ⟨a0, a1, a2, a3, a4, a5, a6, a7, a8, a9, a10, a11, a12, a13, a14, a15, a16, a17, a18, a19, a20⟩ := ha c
    rw [a20]
    exact hq c))
  obtain ⟨h0, h1, h2, h3, h4, h5, h6, h7, hr⟩ := h c
  obtain ⟨a0, a1, a2, a3, a4, a5, a6, a7, a8, a9, a10, a11, a12, a13, a14, a15, a16, a17, a18, a19, a20⟩ := ha c
  simp only [a0, a1, a2, a3, a4, a5, a6, a7, a8, a9, a10, a11, a12, a13, a14, a15, a16, a17, a18, a19, a20] at h0 h1 h2 h3 h4 h5 h6 h7
  exact ⟨h0, h1, h2, h3, h4, h5, h6, h7, hr⟩

/-- The call as compiled and the call read over the reals have the same text. -/
theorem defs₀_FfnDx : Cert.FfnDx.defs₀ (F := Bits) = Cert.FfnDxIdeal.defs₀ (F := Bits) := by
  unfold Cert.FfnDx.defs₀ Cert.FfnDxIdeal.defs₀
  refine congrArg Defs.onTc ?_
  funext l x
  match l, x with
  | ⟨0, _⟩, (t, s) => rfl

theorem defs_FfnDx : Cert.FfnDx.defs (F := Bits) = Cert.FfnDxIdeal.defs (F := Bits) :=
  congrArg (Pipeline.defs (Cert.FfnDxIdeal.pcfgs (F := Bits))) defs₀_FfnDx

/-- The backward pass of the feed-forward up-projection and its norm ends, leaves its arguments unchanged and its semaphores at zero. -/
theorem frame_FfnDx : Cert.quiescent_FfnDx := fun m ρ _ => by
  rw [defs_FfnDx]
  exact θ_run_and (Cert.FfnDxIdeal.Gen.frame_of (F := Bits) m ρ (Cert.FfnDx.Frame.dats m) (Cert.FfnDx.Frame.A_eq m) (Cert.FfnDx.Frame.run_main m ρ))
    ((θ_run (Cert.FfnDxIdeal.defs (F := Bits)) _ _).mono (fun _ h => h.2) (Cert.FfnDx.Frame.run_main_quiescent m ρ))

/-- The backward pass of the feed-forward up-projection and its norm ends, leaves its arguments unchanged and its semaphores at zero. -/
theorem frame_FfnDxIdeal : Cert.quiescent_FfnDxIdeal := fun m ρ _ =>
  θ_run_and (Cert.FfnDxIdeal.Gen.frame_of (F := Ideal) m ρ (Cert.FfnDx.Frame.dats m) (Cert.FfnDx.Frame.A_eq m) (Cert.FfnDx.Frame.run_main m ρ))
    ((θ_run (Cert.FfnDxIdeal.defs (F := Ideal)) _ _).mono (fun _ h => h.2) (Cert.FfnDx.Frame.run_main_quiescent m ρ))

/-- The reference of the backward pass of the feed-forward up-projection and its norm ends, leaves its arguments unchanged and has no semaphore. -/
theorem frame_FfnDxReference : Cert.quiescent_FfnDxReferenceIdeal := fun m ρ _ =>
  (θ_run Cert.FfnDxReferenceIdeal.defs _ _).mono
    (fun r h => ⟨fun c => (h c).2.2, sem_eq_zero_of_no_sems rfl r.2⟩) (Cert.FfnDx.Ref.run m ρ)

/-- The backward pass of the feed-forward up-projection and its norm and its reference end with the same arrays. -/
theorem value_FfnDx : Cert.algebraic_FfnDxIdeal_FfnDxReferenceIdeal := by
  intro m g m' g' _ ha
  refine ⟨_, _, Cert.FfnDx.run m g, ?_⟩
  refine (θ_run Cert.FfnDxReferenceIdeal.defs _ _).mono (fun r h c => ?_) (Cert.FfnDx.Ref.run m' g')
  obtain ⟨h0, h1, hr⟩ := h c
  obtain ⟨a0, a1, a2, a3, a4⟩ := ha c
  simp only [a0, a1, a2, a3, a4] at h0 h1
  exact ⟨h0, h1, hr⟩

/-- The reference of `SumSmall` ends with every argument unchanged and no semaphore raised. -/
theorem frame_SumSmallReference : Cert.quiescent_SumSmallReferenceIdeal := fun m ρ _ =>
  (θ_run Cert.SumSmallReferenceIdeal.defs _ _).mono
    (fun r h => ⟨fun c => (h c).2, sem_eq_zero_of_no_sems rfl r.2⟩) (Cert.SumSmallReferenceIdeal.Value.run (F := Ideal) m ρ)

/-- `SumSmall`: where the place words are in range, the kernel and its reference end with the same sum of the place's own
  slice, its twin's and the three received. -/
theorem value_SumSmall : Cert.algebraic_SumSmallIdeal_SumSmallReferenceIdeal (hPre_placed_small := Cert.Pre_placed_small.Gen.facts) := by
  intro m g m' g' hp ha
  have hq : ∀ c, _ ∧ _ := fun c => Cert.SumFfnPlace.placed_small (hp c)
  refine ⟨_, Cert.SumSmallClaim.run m g (Cert.SumSmallClaim.ok_SumSmallIdeal m hp) hq, ?_⟩
  refine (θ_run Cert.SumSmallReferenceIdeal.defs _ _).mono (fun r h c => ?_) (Cert.SumSmallClaim.run_reference m' g' (fun c => by
    obtain ⟨a0, a1, a2, a3⟩ := ha c; rw [a3]; exact hq c))
  obtain ⟨h0, hr⟩ := h c
  obtain ⟨a0, a1, a2, a3⟩ := ha c
  simp only [a0, a1, a2, a3] at h0
  exact ⟨h0, hr⟩

theorem claim : Cert.Claim := ⟨Cert.Kernel.Gen.facts, Cert.KernelIdeal.Gen.facts, Cert.ReferenceIdeal.Gen.facts,
  Cert.DwUp.Gen.facts, Cert.DwUpIdeal.Gen.facts, Cert.DwUpReferenceIdeal.Gen.facts,
  Cert.DwDown.Gen.facts, Cert.DwDownIdeal.Gen.facts, Cert.DwDownReferenceIdeal.Gen.facts,
  Cert.DwIn.Gen.facts, Cert.DwInIdeal.Gen.facts, Cert.DwInReferenceIdeal.Gen.facts,
  Cert.DwOut.Gen.facts, Cert.DwOutIdeal.Gen.facts, Cert.DwOutReferenceIdeal.Gen.facts,
  Cert.DwLruUp.Gen.facts, Cert.DwLruUpIdeal.Gen.facts, Cert.DwLruUpReferenceIdeal.Gen.facts,
  Cert.DwPoolUp.Gen.facts, Cert.DwPoolUpIdeal.Gen.facts, Cert.DwPoolUpReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.MixIn.Gen.facts, Cert.MixInIdeal.Gen.facts, Cert.MixInReferenceIdeal.Gen.facts,
  Cert.MixOut.Gen.facts, Cert.MixOutIdeal.Gen.facts, Cert.MixOutReferenceIdeal.Gen.facts,
  Cert.FfnDownBwd.Gen.facts, Cert.FfnDownBwdIdeal.Gen.facts, Cert.FfnDownBwdReferenceIdeal.Gen.facts,
  Cert.AdamNorm.Gen.facts, Cert.AdamNormIdeal.Gen.facts, Cert.AdamNormReferenceIdeal.Gen.facts,
  Cert.AdamPoolW.Gen.facts, Cert.AdamPoolWIdeal.Gen.facts, Cert.AdamPoolWReferenceIdeal.Gen.facts,
  Cert.AdamPoolB.Gen.facts, Cert.AdamPoolBIdeal.Gen.facts, Cert.AdamPoolBReferenceIdeal.Gen.facts,
  Cert.AdamPoolScale.Gen.facts, Cert.AdamPoolScaleIdeal.Gen.facts, Cert.AdamPoolScaleReferenceIdeal.Gen.facts,
  Cert.AdamConvW.Gen.facts, Cert.AdamConvWIdeal.Gen.facts, Cert.AdamConvWReferenceIdeal.Gen.facts,
  Cert.AdamLru.Gen.facts, Cert.AdamLruIdeal.Gen.facts, Cert.AdamLruReferenceIdeal.Gen.facts,
  Cert.AdamHeadW.Gen.facts, Cert.AdamHeadWIdeal.Gen.facts, Cert.AdamHeadWReferenceIdeal.Gen.facts,
  Cert.AdamHeadB.Gen.facts, Cert.AdamHeadBIdeal.Gen.facts, Cert.AdamHeadBReferenceIdeal.Gen.facts,
  Cert.AdamFinal.Gen.facts, Cert.AdamFinalIdeal.Gen.facts, Cert.AdamFinalReferenceIdeal.Gen.facts,
  Cert.SumFfn.Gen.facts, Cert.SumFfnIdeal.Gen.facts, Cert.SumFfnReferenceIdeal.Gen.facts,
  Cert.FfnDx.Gen.facts, Cert.FfnDxIdeal.Gen.facts, Cert.FfnDxReferenceIdeal.Gen.facts,
  Cert.SumSmall.Gen.facts, Cert.SumSmallIdeal.Gen.facts, Cert.SumSmallReferenceIdeal.Gen.facts,
  Cert.Pre_finite_down.Gen.facts, Cert.Pre_placed_ffn.Gen.facts, Cert.Pre_placed_small.Gen.facts,
  fun m ρ _ => Cert.Kernel.Gen.frame m ρ, fun m ρ _ => Cert.KernelIdeal.Gen.frame m ρ, frame_reference,
  fun m ρ _ => Cert.DwUp.Gen.frame m ρ, fun m ρ _ => Cert.DwUpIdeal.Gen.frame m ρ, frame_DwUp,
  fun m ρ _ => Cert.DwDown.Gen.frame m ρ, fun m ρ _ => Cert.DwDownIdeal.Gen.frame m ρ, frame_DwDown,
  fun m ρ _ => Cert.DwIn.Gen.frame m ρ, fun m ρ _ => Cert.DwInIdeal.Gen.frame m ρ, frame_DwIn,
  fun m ρ _ => Cert.DwOut.Gen.frame m ρ, fun m ρ _ => Cert.DwOutIdeal.Gen.frame m ρ, frame_DwOut,
  fun m ρ _ => Cert.DwLruUp.Gen.frame m ρ, fun m ρ _ => Cert.DwLruUpIdeal.Gen.frame m ρ, frame_DwLruUp,
  fun m ρ _ => Cert.DwPoolUp.Gen.frame m ρ, fun m ρ _ => Cert.DwPoolUpIdeal.Gen.frame m ρ, frame_DwPoolUp,
  frame_FfnUp, frame_FfnUpIdeal, frame_FfnUpReference,
  fun m ρ _ => Cert.FfnDown.Gen.frame m ρ, fun m ρ _ => Cert.FfnDownIdeal.Gen.frame m ρ, frame_FfnDownReference,
  frame_MixIn, frame_MixInIdeal, frame_MixInReference,
  fun m ρ _ => Cert.MixOut.Gen.frame m ρ, fun m ρ _ => Cert.MixOutIdeal.Gen.frame m ρ, frame_MixOutReference,
  frame_FfnDownBwd, frame_FfnDownBwdIdeal, fun m ρ _ => frame_FfnDownBwdIdeal m ρ trivial, frame_FfnDownBwdReference, fun m ρ _ => frame_FfnDownBwdReference m ρ trivial,
  fun m ρ _ => Cert.AdamNorm.Gen.frame m ρ, fun m ρ _ => Cert.AdamNormIdeal.Gen.frame m ρ, frame_AdamNormReference,
  fun m ρ _ => Cert.AdamPoolW.Gen.frame m ρ, fun m ρ _ => Cert.AdamPoolWIdeal.Gen.frame m ρ, frame_AdamPoolWReference,
  fun m ρ _ => Cert.AdamPoolB.Gen.frame m ρ, fun m ρ _ => Cert.AdamPoolBIdeal.Gen.frame m ρ, frame_AdamPoolBReference,
  fun m ρ _ => Cert.AdamPoolScale.Gen.frame m ρ, fun m ρ _ => Cert.AdamPoolScaleIdeal.Gen.frame m ρ, frame_AdamPoolScaleReference,
  fun m ρ _ => Cert.AdamConvW.Gen.frame m ρ, fun m ρ _ => Cert.AdamConvWIdeal.Gen.frame m ρ, frame_AdamConvWReference,
  fun m ρ _ => Cert.AdamLru.Gen.frame m ρ, fun m ρ _ => Cert.AdamLruIdeal.Gen.frame m ρ, frame_AdamLruReference,
  fun m ρ _ => Cert.AdamHeadW.Gen.frame m ρ, fun m ρ _ => Cert.AdamHeadWIdeal.Gen.frame m ρ, frame_AdamHeadWReference,
  fun m ρ _ => Cert.AdamHeadB.Gen.frame m ρ, fun m ρ _ => Cert.AdamHeadBIdeal.Gen.frame m ρ, frame_AdamHeadBReference,
  fun m ρ _ => Cert.AdamFinal.Gen.frame m ρ, fun m ρ _ => Cert.AdamFinalIdeal.Gen.frame m ρ, frame_AdamFinalReference,
  fun m ρ h => Cert.SumFfn.Gen.frame m ρ (Cert.SumFfnPlace.ok_SumFfn m h), fun m ρ h => Cert.SumFfnIdeal.Gen.frame m ρ (Cert.SumFfnPlace.ok_SumFfnIdeal m h), frame_SumFfnReference, fun m ρ _ => frame_SumFfnReference m ρ trivial,
  frame_FfnDx, frame_FfnDxIdeal, frame_FfnDxReference,
  fun m ρ h => Cert.SumSmall.Gen.frame m ρ (Cert.SumSmallClaim.ok_SumSmall m h), fun m ρ h => Cert.SumSmallIdeal.Gen.frame m ρ (Cert.SumSmallClaim.ok_SumSmallIdeal m h), frame_SumSmallReference, fun m ρ _ => frame_SumSmallReference m ρ trivial,
  trivial, merge,
  trivial, value_DwUp,
  trivial, value_DwDown,
  trivial, value_DwIn,
  trivial, value_DwOut,
  trivial, value_DwLruUp,
  trivial, value_DwPoolUp,
  trivial, value_FfnUp,
  trivial, value_FfnDown,
  trivial, value_MixIn,
  trivial, value_MixOut,
  trivial, value_FfnDownBwd,
  trivial, value_AdamNorm,
  trivial, value_AdamPoolW,
  trivial, value_AdamPoolB,
  trivial, value_AdamPoolScale,
  trivial, value_AdamConvW,
  trivial, value_AdamLru,
  trivial, value_AdamHeadW,
  trivial, value_AdamHeadB,
  trivial, value_AdamFinal,
  trivial, value_SumFfn,
  trivial, value_FfnDx,
  trivial, value_SumSmall⟩

end Cert.Proof

end
